-- ==== Defs.lean ====
def Pre_MemGrad (m : (ℓ : Loc Cert.MemGrad.nD Cert.MemGrad.τ Cert.MemGrad.sig) → Buf (Elt Bits) ℓ) : Prop :=
  True

def Pre_MemGradIdeal (m : (ℓ : Loc Cert.MemGradIdeal.nD Cert.MemGradIdeal.τ Cert.MemGradIdeal.sig) → Buf (Elt Ideal) ℓ) : Prop :=
  True

def Pre_MemGradIdeal_mem_finite [hPre_mem_finite : Cert.Pre_mem_finite.Facts] (m : (ℓ : Loc Cert.MemGradIdeal.nD Cert.MemGradIdeal.τ Cert.MemGradIdeal.sig) → Buf (Elt Ideal) ℓ) : Prop :=
  ∀ c : Dev Cert.MemGradIdeal.nD,
    (Cert.Pre_mem_finite.fn (F := Ideal) (m ((c.tc : Thread Cert.MemGradIdeal.nD Cert.MemGradIdeal.τ).loc Cert.MemGradIdeal.main_arg0)) (m ((c.tc : Thread Cert.MemGradIdeal.nD Cert.MemGradIdeal.τ).loc Cert.MemGradIdeal.main_arg1)) (m ((c.tc : Thread Cert.MemGradIdeal.nD Cert.MemGradIdeal.τ).loc Cert.MemGradIdeal.main_arg2))) = (fun _ => 1#1)

def Pre_MemGradRefIdeal (m : (ℓ : Loc Cert.MemGradRefIdeal.nD Cert.MemGradRefIdeal.τ Cert.MemGradRefIdeal.sig) → Buf (Elt Ideal) ℓ) : Prop :=
  True

def Pre_MemGradRefIdeal_mem_finite [hPre_mem_finite : Cert.Pre_mem_finite.Facts] (m : (ℓ : Loc Cert.MemGradRefIdeal.nD Cert.MemGradRefIdeal.τ Cert.MemGradRefIdeal.sig) → Buf (Elt Ideal) ℓ) : Prop :=
  ∀ c : Dev Cert.MemGradRefIdeal.nD,
    (Cert.Pre_mem_finite.fn (F := Ideal) (m ((c.tc : Thread Cert.MemGradRefIdeal.nD Cert.MemGradRefIdeal.τ).loc Cert.MemGradRefIdeal.main_arg0)) (m ((c.tc : Thread Cert.MemGradRefIdeal.nD Cert.MemGradRefIdeal.τ).loc Cert.MemGradRefIdeal.main_arg1)) (m ((c.tc : Thread Cert.MemGradRefIdeal.nD Cert.MemGradRefIdeal.τ).loc Cert.MemGradRefIdeal.main_arg2))) = (fun _ => 1#1)

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_InWGrad (m : (ℓ : Loc Cert.InWGrad.nD Cert.InWGrad.τ Cert.InWGrad.sig) → Buf (Elt Bits) ℓ) : Prop :=
  True

def Pre_InWGradIdeal (m : (ℓ : Loc Cert.InWGradIdeal.nD Cert.InWGradIdeal.τ Cert.InWGradIdeal.sig) → Buf (Elt Ideal) ℓ) : Prop :=
  True

def Pre_InWGradRefIdeal (m : (ℓ : Loc Cert.InWGradRefIdeal.nD Cert.InWGradRefIdeal.τ Cert.InWGradRefIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradIdeal_gate_finite [hPre_gate_finite : Cert.Pre_gate_finite.Facts] (m : (ℓ : Loc Cert.GateGradIdeal.nD Cert.GateGradIdeal.τ Cert.GateGradIdeal.sig) → Buf (Elt Ideal) ℓ) : Prop :=
  ∀ c : Dev Cert.GateGradIdeal.nD,
    (Cert.Pre_gate_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3)) (m ((c.tc : Thread Cert.GateGradIdeal.nD Cert.GateGradIdeal.τ).loc Cert.GateGradIdeal.main_arg4)) (m ((c.tc : Thread Cert.GateGradIdeal.nD Cert.GateGradIdeal.τ).loc Cert.GateGradIdeal.main_arg5))) = (fun _ => 1#1)

def Pre_GateGradRefIdeal (m : (ℓ : Loc Cert.GateGradRefIdeal.nD Cert.GateGradRefIdeal.τ Cert.GateGradRefIdeal.sig) → Buf (Elt Ideal) ℓ) : Prop :=
  True

def Pre_GateGradRefIdeal_gate_finite [hPre_gate_finite : Cert.Pre_gate_finite.Facts] (m : (ℓ : Loc Cert.GateGradRefIdeal.nD Cert.GateGradRefIdeal.τ Cert.GateGradRefIdeal.sig) → Buf (Elt Ideal) ℓ) : Prop :=
  ∀ c : Dev Cert.GateGradRefIdeal.nD,
    (Cert.Pre_gate_finite.fn (F := Ideal) (m ((c.tc : Thread Cert.GateGradRefIdeal.nD Cert.GateGradRefIdeal.τ).loc Cert.GateGradRefIdeal.main_arg0)) (m ((c.tc : Thread Cert.GateGradRefIdeal.nD Cert.GateGradRefIdeal.τ).loc Cert.GateGradRefIdeal.main_arg1)) (m ((c.tc : Thread Cert.GateGradRefIdeal.nD Cert.GateGradRefIdeal.τ).loc Cert.GateGradRefIdeal.main_arg2)) (m ((c.tc : Thread Cert.GateGradRefIdeal.nD Cert.GateGradRefIdeal.τ).loc Cert.GateGradRefIdeal.main_arg3)) (m ((c.tc : Thread Cert.GateGradRefIdeal.nD Cert.GateGradRefIdeal.τ).loc Cert.GateGradRefIdeal.main_arg4)) (m ((c.tc : Thread Cert.GateGradRefIdeal.nD Cert.GateGradRefIdeal.τ).loc Cert.GateGradRefIdeal.main_arg5))) = (fun _ => 1#1)

def Pre_OutWGrad (m : (ℓ : Loc Cert.OutWGrad.nD Cert.OutWGrad.τ Cert.OutWGrad.sig) → Buf (Elt Bits) ℓ) : Prop :=
  True

def Pre_OutWGradIdeal (m : (ℓ : Loc Cert.OutWGradIdeal.nD Cert.OutWGradIdeal.τ Cert.OutWGradIdeal.sig) → Buf (Elt Ideal) ℓ) : Prop :=
  True

def Pre_OutWGradRefIdeal (m : (ℓ : Loc Cert.OutWGradRefIdeal.nD Cert.OutWGradRefIdeal.τ Cert.OutWGradRefIdeal.sig) → Buf (Elt Ideal) ℓ) : Prop :=
  True

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossRefIdeal (m : (ℓ : Loc Cert.OutLossRefIdeal.nD Cert.OutLossRefIdeal.τ Cert.OutLossRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_KvWGrad (m : (ℓ : Loc Cert.KvWGrad.nD Cert.KvWGrad.τ Cert.KvWGrad.sig) → Buf (Elt Bits) ℓ) : Prop :=
  True

def Pre_KvWGradIdeal (m : (ℓ : Loc Cert.KvWGradIdeal.nD Cert.KvWGradIdeal.τ Cert.KvWGradIdeal.sig) → Buf (Elt Ideal) ℓ) : Prop :=
  True

def Pre_KvWGradRefIdeal (m : (ℓ : Loc Cert.KvWGradRefIdeal.nD Cert.KvWGradRefIdeal.τ Cert.KvWGradRefIdeal.sig) → Buf (Elt Ideal) ℓ) : Prop :=
  True

def Pre_KvGrad (m : (ℓ : Loc Cert.KvGrad.nD Cert.KvGrad.τ Cert.KvGrad.sig) → Buf (Elt Bits) ℓ) : Prop :=
  True

def Pre_KvGradIdeal (m : (ℓ : Loc Cert.KvGradIdeal.nD Cert.KvGradIdeal.τ Cert.KvGradIdeal.sig) → Buf (Elt Ideal) ℓ) : Prop :=
  True

def Pre_KvGradRefIdeal (m : (ℓ : Loc Cert.KvGradRefIdeal.nD Cert.KvGradRefIdeal.τ Cert.KvGradRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def quiescent_MemGrad [hMemGrad : Cert.MemGrad.Facts] : Prop :=
  ∀ (m : (ℓ : Loc Cert.MemGrad.nD Cert.MemGrad.τ Cert.MemGrad.sig) → Buf (Elt Bits) ℓ) (g : Dev Cert.MemGrad.nD → PrngReg), Pre_MemGrad m →
    θ_run (Cert.MemGrad.defs (F := Bits)) (onTc (τ := Cert.MemGrad.τ) (Cert.MemGrad.main (F := Bits))) ⟨m, fun _ => 0, g⟩ (fun r => (∀ c : Dev Cert.MemGrad.nD,
      r.2.mem ((c.tc : Thread Cert.MemGrad.nD Cert.MemGrad.τ).loc Cert.MemGrad.main_arg0) = m ((c.tc : Thread Cert.MemGrad.nD Cert.MemGrad.τ).loc Cert.MemGrad.main_arg0)
      ∧ r.2.mem ((c.tc : Thread Cert.MemGrad.nD Cert.MemGrad.τ).loc Cert.MemGrad.main_arg1) = m ((c.tc : Thread Cert.MemGrad.nD Cert.MemGrad.τ).loc Cert.MemGrad.main_arg1)
      ∧ r.2.mem ((c.tc : Thread Cert.MemGrad.nD Cert.MemGrad.τ).loc Cert.MemGrad.main_arg2) = m ((c.tc : Thread Cert.MemGrad.nD Cert.MemGrad.τ).loc Cert.MemGrad.main_arg2))
      ∧ r.2.sem = fun _ => 0)

def quiescent_MemGradIdeal [hMemGradIdeal : Cert.MemGradIdeal.Facts] : Prop :=
  ∀ (m : (ℓ : Loc Cert.MemGradIdeal.nD Cert.MemGradIdeal.τ Cert.MemGradIdeal.sig) → Buf (Elt Ideal) ℓ) (g : Dev Cert.MemGradIdeal.nD → PrngReg), Pre_MemGradIdeal m →
    θ_run (Cert.MemGradIdeal.defs (F := Ideal)) (onTc (τ := Cert.MemGradIdeal.τ) (Cert.MemGradIdeal.main (F := Ideal))) ⟨m, fun _ => 0, g⟩ (fun r => (∀ c : Dev Cert.MemGradIdeal.nD,
      r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
      ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
      ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2))
      ∧ r.2.sem = fun _ => 0)

def quiescent_MemGradIdeal_pre_mem_finite [hMemGradIdeal : Cert.MemGradIdeal.Facts] [hPre_mem_finite : Cert.Pre_mem_finite.Facts] : Prop :=
  ∀ (m : (ℓ : Loc Cert.MemGradIdeal.nD Cert.MemGradIdeal.τ Cert.MemGradIdeal.sig) → Buf (Elt Ideal) ℓ) (g : Dev Cert.MemGradIdeal.nD → PrngReg), Pre_MemGradIdeal_mem_finite m →
    θ_run (Cert.MemGradIdeal.defs (F := Ideal)) (onTc (τ := Cert.MemGradIdeal.τ) (Cert.MemGradIdeal.main (F := Ideal))) ⟨m, fun _ => 0, g⟩ (fun r => (∀ c : Dev Cert.MemGradIdeal.nD,
      r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
      ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
      ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2))
      ∧ r.2.sem = fun _ => 0)

def quiescent_MemGradRefIdeal [hMemGradRefIdeal : Cert.MemGradRefIdeal.Facts] : Prop :=
  ∀ (m : (ℓ : Loc Cert.MemGradRefIdeal.nD Cert.MemGradRefIdeal.τ Cert.MemGradRefIdeal.sig) → Buf (Elt Ideal) ℓ) (g : Dev Cert.MemGradRefIdeal.nD → PrngReg), Pre_MemGradRefIdeal m →
    θ_run (Cert.MemGradRefIdeal.defs (F := Ideal)) (onTc (τ := Cert.MemGradRefIdeal.τ) (Cert.MemGradRefIdeal.main (F := Ideal))) ⟨m, fun _ => 0, g⟩ (fun r => (∀ c : Dev Cert.MemGradRefIdeal.nD,
      r.2.mem ((c.tc : Thread Cert.MemGradRefIdeal.nD Cert.MemGradRefIdeal.τ).loc Cert.MemGradRefIdeal.main_arg0) = m ((c.tc : Thread Cert.MemGradRefIdeal.nD Cert.MemGradRefIdeal.τ).loc Cert.MemGradRefIdeal.main_arg0)
      ∧ r.2.mem ((c.tc : Thread Cert.MemGradRefIdeal.nD Cert.MemGradRefIdeal.τ).loc Cert.MemGradRefIdeal.main_arg1) = m ((c.tc : Thread Cert.MemGradRefIdeal.nD Cert.MemGradRefIdeal.τ).loc Cert.MemGradRefIdeal.main_arg1)
      ∧ r.2.mem ((c.tc : Thread Cert.MemGradRefIdeal.nD Cert.MemGradRefIdeal.τ).loc Cert.MemGradRefIdeal.main_arg2) = m ((c.tc : Thread Cert.MemGradRefIdeal.nD Cert.MemGradRefIdeal.τ).loc Cert.MemGradRefIdeal.main_arg2))
      ∧ r.2.sem = fun _ => 0)

def quiescent_MemGradRefIdeal_pre_mem_finite [hMemGradRefIdeal : Cert.MemGradRefIdeal.Facts] [hPre_mem_finite : Cert.Pre_mem_finite.Facts] : Prop :=
  ∀ (m : (ℓ : Loc Cert.MemGradRefIdeal.nD Cert.MemGradRefIdeal.τ Cert.MemGradRefIdeal.sig) → Buf (Elt Ideal) ℓ) (g : Dev Cert.MemGradRefIdeal.nD → PrngReg), Pre_MemGradRefIdeal_mem_finite m →
    θ_run (Cert.MemGradRefIdeal.defs (F := Ideal)) (onTc (τ := Cert.MemGradRefIdeal.τ) (Cert.MemGradRefIdeal.main (F := Ideal))) ⟨m, fun _ => 0, g⟩ (fun r => (∀ c : Dev Cert.MemGradRefIdeal.nD,
      r.2.mem ((c.tc : Thread Cert.MemGradRefIdeal.nD Cert.MemGradRefIdeal.τ).loc Cert.MemGradRefIdeal.main_arg0) = m ((c.tc : Thread Cert.MemGradRefIdeal.nD Cert.MemGradRefIdeal.τ).loc Cert.MemGradRefIdeal.main_arg0)
      ∧ r.2.mem ((c.tc : Thread Cert.MemGradRefIdeal.nD Cert.MemGradRefIdeal.τ).loc Cert.MemGradRefIdeal.main_arg1) = m ((c.tc : Thread Cert.MemGradRefIdeal.nD Cert.MemGradRefIdeal.τ).loc Cert.MemGradRefIdeal.main_arg1)
      ∧ r.2.mem ((c.tc : Thread Cert.MemGradRefIdeal.nD Cert.MemGradRefIdeal.τ).loc Cert.MemGradRefIdeal.main_arg2) = m ((c.tc : Thread Cert.MemGradRefIdeal.nD Cert.MemGradRefIdeal.τ).loc Cert.MemGradRefIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4))
      ∧ r.2.sem = fun _ => 0)

def quiescent_InWGrad [hInWGrad : Cert.InWGrad.Facts] : Prop :=
  ∀ (m : (ℓ : Loc Cert.InWGrad.nD Cert.InWGrad.τ Cert.InWGrad.sig) → Buf (Elt Bits) ℓ) (g : Dev Cert.InWGrad.nD → PrngReg), Pre_InWGrad m →
    θ_run (Cert.InWGrad.defs (F := Bits)) (onTc (τ := Cert.InWGrad.τ) (Cert.InWGrad.main (F := Bits))) ⟨m, fun _ => 0, g⟩ (fun r => (∀ c : Dev Cert.InWGrad.nD,
      r.2.mem ((c.tc : Thread Cert.InWGrad.nD Cert.InWGrad.τ).loc Cert.InWGrad.main_arg0) = m ((c.tc : Thread Cert.InWGrad.nD Cert.InWGrad.τ).loc Cert.InWGrad.main_arg0)
      ∧ r.2.mem ((c.tc : Thread Cert.InWGrad.nD Cert.InWGrad.τ).loc Cert.InWGrad.main_arg1) = m ((c.tc : Thread Cert.InWGrad.nD Cert.InWGrad.τ).loc Cert.InWGrad.main_arg1)
      ∧ r.2.mem ((c.tc : Thread Cert.InWGrad.nD Cert.InWGrad.τ).loc Cert.InWGrad.main_arg2) = m ((c.tc : Thread Cert.InWGrad.nD Cert.InWGrad.τ).loc Cert.InWGrad.main_arg2))
      ∧ r.2.sem = fun _ => 0)

def quiescent_InWGradIdeal [hInWGradIdeal : Cert.InWGradIdeal.Facts] : Prop :=
  ∀ (m : (ℓ : Loc Cert.InWGradIdeal.nD Cert.InWGradIdeal.τ Cert.InWGradIdeal.sig) → Buf (Elt Ideal) ℓ) (g : Dev Cert.InWGradIdeal.nD → PrngReg), Pre_InWGradIdeal m →
    θ_run (Cert.InWGradIdeal.defs (F := Ideal)) (onTc (τ := Cert.InWGradIdeal.τ) (Cert.InWGradIdeal.main (F := Ideal))) ⟨m, fun _ => 0, g⟩ (fun r => (∀ c : Dev Cert.InWGradIdeal.nD,
      r.2.mem ((c.tc : Thread Cert.InWGradIdeal.nD Cert.InWGradIdeal.τ).loc Cert.InWGradIdeal.main_arg0) = m ((c.tc : Thread Cert.InWGradIdeal.nD Cert.InWGradIdeal.τ).loc Cert.InWGradIdeal.main_arg0)
      ∧ r.2.mem ((c.tc : Thread Cert.InWGradIdeal.nD Cert.InWGradIdeal.τ).loc Cert.InWGradIdeal.main_arg1) = m ((c.tc : Thread Cert.InWGradIdeal.nD Cert.InWGradIdeal.τ).loc Cert.InWGradIdeal.main_arg1)
      ∧ r.2.mem ((c.tc : Thread Cert.InWGradIdeal.nD Cert.InWGradIdeal.τ).loc Cert.InWGradIdeal.main_arg2) = m ((c.tc : Thread Cert.InWGradIdeal.nD Cert.InWGradIdeal.τ).loc Cert.InWGradIdeal.main_arg2))
      ∧ r.2.sem = fun _ => 0)

def quiescent_InWGradRefIdeal [hInWGradRefIdeal : Cert.InWGradRefIdeal.Facts] : Prop :=
  ∀ (m : (ℓ : Loc Cert.InWGradRefIdeal.nD Cert.InWGradRefIdeal.τ Cert.InWGradRefIdeal.sig) → Buf (Elt Ideal) ℓ) (g : Dev Cert.InWGradRefIdeal.nD → PrngReg), Pre_InWGradRefIdeal m →
    θ_run (Cert.InWGradRefIdeal.defs (F := Ideal)) (onTc (τ := Cert.InWGradRefIdeal.τ) (Cert.InWGradRefIdeal.main (F := Ideal))) ⟨m, fun _ => 0, g⟩ (fun r => (∀ c : Dev Cert.InWGradRefIdeal.nD,
      r.2.mem ((c.tc : Thread Cert.InWGradRefIdeal.nD Cert.InWGradRefIdeal.τ).loc Cert.InWGradRefIdeal.main_arg0) = m ((c.tc : Thread Cert.InWGradRefIdeal.nD Cert.InWGradRefIdeal.τ).loc Cert.InWGradRefIdeal.main_arg0)
      ∧ r.2.mem ((c.tc : Thread Cert.InWGradRefIdeal.nD Cert.InWGradRefIdeal.τ).loc Cert.InWGradRefIdeal.main_arg1) = m ((c.tc : Thread Cert.InWGradRefIdeal.nD Cert.InWGradRefIdeal.τ).loc Cert.InWGradRefIdeal.main_arg1)
      ∧ r.2.mem ((c.tc : Thread Cert.InWGradRefIdeal.nD Cert.InWGradRefIdeal.τ).loc Cert.InWGradRefIdeal.main_arg2) = m ((c.tc : Thread Cert.InWGradRefIdeal.nD Cert.InWGradRefIdeal.τ).loc Cert.InWGradRefIdeal.main_arg2))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2)
      ∧ r.2.mem ((c.tc : Thread Cert.GateGrad.nD Cert.GateGrad.τ).loc Cert.GateGrad.main_arg3) = m ((c.tc : Thread Cert.GateGrad.nD Cert.GateGrad.τ).loc Cert.GateGrad.main_arg3)
      ∧ r.2.mem ((c.tc : Thread Cert.GateGrad.nD Cert.GateGrad.τ).loc Cert.GateGrad.main_arg4) = m ((c.tc : Thread Cert.GateGrad.nD Cert.GateGrad.τ).loc Cert.GateGrad.main_arg4)
      ∧ r.2.mem ((c.tc : Thread Cert.GateGrad.nD Cert.GateGrad.τ).loc Cert.GateGrad.main_arg5) = m ((c.tc : Thread Cert.GateGrad.nD Cert.GateGrad.τ).loc Cert.GateGrad.main_arg5))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
      ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4)
      ∧ r.2.mem ((c.tc : Thread Cert.GateGradIdeal.nD Cert.GateGradIdeal.τ).loc Cert.GateGradIdeal.main_arg5) = m ((c.tc : Thread Cert.GateGradIdeal.nD Cert.GateGradIdeal.τ).loc Cert.GateGradIdeal.main_arg5))
      ∧ r.2.sem = fun _ => 0)

def quiescent_GateGradIdeal_pre_gate_finite [hGateGradIdeal : Cert.GateGradIdeal.Facts] [hPre_gate_finite : Cert.Pre_gate_finite.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal_gate_finite m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
      ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4)
      ∧ r.2.mem ((c.tc : Thread Cert.GateGradIdeal.nD Cert.GateGradIdeal.τ).loc Cert.GateGradIdeal.main_arg5) = m ((c.tc : Thread Cert.GateGradIdeal.nD Cert.GateGradIdeal.τ).loc Cert.GateGradIdeal.main_arg5))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1)
      ∧ r.2.mem ((c.tc : Thread Cert.GateGradRefIdeal.nD Cert.GateGradRefIdeal.τ).loc Cert.GateGradRefIdeal.main_arg2) = m ((c.tc : Thread Cert.GateGradRefIdeal.nD Cert.GateGradRefIdeal.τ).loc Cert.GateGradRefIdeal.main_arg2)
      ∧ r.2.mem ((c.tc : Thread Cert.GateGradRefIdeal.nD Cert.GateGradRefIdeal.τ).loc Cert.GateGradRefIdeal.main_arg3) = m ((c.tc : Thread Cert.GateGradRefIdeal.nD Cert.GateGradRefIdeal.τ).loc Cert.GateGradRefIdeal.main_arg3)
      ∧ r.2.mem ((c.tc : Thread Cert.GateGradRefIdeal.nD Cert.GateGradRefIdeal.τ).loc Cert.GateGradRefIdeal.main_arg4) = m ((c.tc : Thread Cert.GateGradRefIdeal.nD Cert.GateGradRefIdeal.τ).loc Cert.GateGradRefIdeal.main_arg4)
      ∧ r.2.mem ((c.tc : Thread Cert.GateGradRefIdeal.nD Cert.GateGradRefIdeal.τ).loc Cert.GateGradRefIdeal.main_arg5) = m ((c.tc : Thread Cert.GateGradRefIdeal.nD Cert.GateGradRefIdeal.τ).loc Cert.GateGradRefIdeal.main_arg5))
      ∧ r.2.sem = fun _ => 0)

def quiescent_GateGradRefIdeal_pre_gate_finite [hGateGradRefIdeal : Cert.GateGradRefIdeal.Facts] [hPre_gate_finite : Cert.Pre_gate_finite.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal_gate_finite m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1)
      ∧ r.2.mem ((c.tc : Thread Cert.GateGradRefIdeal.nD Cert.GateGradRefIdeal.τ).loc Cert.GateGradRefIdeal.main_arg2) = m ((c.tc : Thread Cert.GateGradRefIdeal.nD Cert.GateGradRefIdeal.τ).loc Cert.GateGradRefIdeal.main_arg2)
      ∧ r.2.mem ((c.tc : Thread Cert.GateGradRefIdeal.nD Cert.GateGradRefIdeal.τ).loc Cert.GateGradRefIdeal.main_arg3) = m ((c.tc : Thread Cert.GateGradRefIdeal.nD Cert.GateGradRefIdeal.τ).loc Cert.GateGradRefIdeal.main_arg3)
      ∧ r.2.mem ((c.tc : Thread Cert.GateGradRefIdeal.nD Cert.GateGradRefIdeal.τ).loc Cert.GateGradRefIdeal.main_arg4) = m ((c.tc : Thread Cert.GateGradRefIdeal.nD Cert.GateGradRefIdeal.τ).loc Cert.GateGradRefIdeal.main_arg4)
      ∧ r.2.mem ((c.tc : Thread Cert.GateGradRefIdeal.nD Cert.GateGradRefIdeal.τ).loc Cert.GateGradRefIdeal.main_arg5) = m ((c.tc : Thread Cert.GateGradRefIdeal.nD Cert.GateGradRefIdeal.τ).loc Cert.GateGradRefIdeal.main_arg5))
      ∧ r.2.sem = fun _ => 0)

def quiescent_OutWGrad [hOutWGrad : Cert.OutWGrad.Facts] : Prop :=
  ∀ (m : (ℓ : Loc Cert.OutWGrad.nD Cert.OutWGrad.τ Cert.OutWGrad.sig) → Buf (Elt Bits) ℓ) (g : Dev Cert.OutWGrad.nD → PrngReg), Pre_OutWGrad m →
    θ_run (Cert.OutWGrad.defs (F := Bits)) (onTc (τ := Cert.OutWGrad.τ) (Cert.OutWGrad.main (F := Bits))) ⟨m, fun _ => 0, g⟩ (fun r => (∀ c : Dev Cert.OutWGrad.nD,
      r.2.mem ((c.tc : Thread Cert.OutWGrad.nD Cert.OutWGrad.τ).loc Cert.OutWGrad.main_arg0) = m ((c.tc : Thread Cert.OutWGrad.nD Cert.OutWGrad.τ).loc Cert.OutWGrad.main_arg0)
      ∧ r.2.mem ((c.tc : Thread Cert.OutWGrad.nD Cert.OutWGrad.τ).loc Cert.OutWGrad.main_arg1) = m ((c.tc : Thread Cert.OutWGrad.nD Cert.OutWGrad.τ).loc Cert.OutWGrad.main_arg1)
      ∧ r.2.mem ((c.tc : Thread Cert.OutWGrad.nD Cert.OutWGrad.τ).loc Cert.OutWGrad.main_arg2) = m ((c.tc : Thread Cert.OutWGrad.nD Cert.OutWGrad.τ).loc Cert.OutWGrad.main_arg2)
      ∧ r.2.mem ((c.tc : Thread Cert.OutWGrad.nD Cert.OutWGrad.τ).loc Cert.OutWGrad.main_arg3) = m ((c.tc : Thread Cert.OutWGrad.nD Cert.OutWGrad.τ).loc Cert.OutWGrad.main_arg3)
      ∧ r.2.mem ((c.tc : Thread Cert.OutWGrad.nD Cert.OutWGrad.τ).loc Cert.OutWGrad.main_arg4) = m ((c.tc : Thread Cert.OutWGrad.nD Cert.OutWGrad.τ).loc Cert.OutWGrad.main_arg4))
      ∧ r.2.sem = fun _ => 0)

def quiescent_OutWGradIdeal [hOutWGradIdeal : Cert.OutWGradIdeal.Facts] : Prop :=
  ∀ (m : (ℓ : Loc Cert.OutWGradIdeal.nD Cert.OutWGradIdeal.τ Cert.OutWGradIdeal.sig) → Buf (Elt Ideal) ℓ) (g : Dev Cert.OutWGradIdeal.nD → PrngReg), Pre_OutWGradIdeal m →
    θ_run (Cert.OutWGradIdeal.defs (F := Ideal)) (onTc (τ := Cert.OutWGradIdeal.τ) (Cert.OutWGradIdeal.main (F := Ideal))) ⟨m, fun _ => 0, g⟩ (fun r => (∀ c : Dev Cert.OutWGradIdeal.nD,
      r.2.mem ((c.tc : Thread Cert.OutWGradIdeal.nD Cert.OutWGradIdeal.τ).loc Cert.OutWGradIdeal.main_arg0) = m ((c.tc : Thread Cert.OutWGradIdeal.nD Cert.OutWGradIdeal.τ).loc Cert.OutWGradIdeal.main_arg0)
      ∧ r.2.mem ((c.tc : Thread Cert.OutWGradIdeal.nD Cert.OutWGradIdeal.τ).loc Cert.OutWGradIdeal.main_arg1) = m ((c.tc : Thread Cert.OutWGradIdeal.nD Cert.OutWGradIdeal.τ).loc Cert.OutWGradIdeal.main_arg1)
      ∧ r.2.mem ((c.tc : Thread Cert.OutWGradIdeal.nD Cert.OutWGradIdeal.τ).loc Cert.OutWGradIdeal.main_arg2) = m ((c.tc : Thread Cert.OutWGradIdeal.nD Cert.OutWGradIdeal.τ).loc Cert.OutWGradIdeal.main_arg2)
      ∧ r.2.mem ((c.tc : Thread Cert.OutWGradIdeal.nD Cert.OutWGradIdeal.τ).loc Cert.OutWGradIdeal.main_arg3) = m ((c.tc : Thread Cert.OutWGradIdeal.nD Cert.OutWGradIdeal.τ).loc Cert.OutWGradIdeal.main_arg3)
      ∧ r.2.mem ((c.tc : Thread Cert.OutWGradIdeal.nD Cert.OutWGradIdeal.τ).loc Cert.OutWGradIdeal.main_arg4) = m ((c.tc : Thread Cert.OutWGradIdeal.nD Cert.OutWGradIdeal.τ).loc Cert.OutWGradIdeal.main_arg4))
      ∧ r.2.sem = fun _ => 0)

def quiescent_OutWGradRefIdeal [hOutWGradRefIdeal : Cert.OutWGradRefIdeal.Facts] : Prop :=
  ∀ (m : (ℓ : Loc Cert.OutWGradRefIdeal.nD Cert.OutWGradRefIdeal.τ Cert.OutWGradRefIdeal.sig) → Buf (Elt Ideal) ℓ) (g : Dev Cert.OutWGradRefIdeal.nD → PrngReg), Pre_OutWGradRefIdeal m →
    θ_run (Cert.OutWGradRefIdeal.defs (F := Ideal)) (onTc (τ := Cert.OutWGradRefIdeal.τ) (Cert.OutWGradRefIdeal.main (F := Ideal))) ⟨m, fun _ => 0, g⟩ (fun r => (∀ c : Dev Cert.OutWGradRefIdeal.nD,
      r.2.mem ((c.tc : Thread Cert.OutWGradRefIdeal.nD Cert.OutWGradRefIdeal.τ).loc Cert.OutWGradRefIdeal.main_arg0) = m ((c.tc : Thread Cert.OutWGradRefIdeal.nD Cert.OutWGradRefIdeal.τ).loc Cert.OutWGradRefIdeal.main_arg0)
      ∧ r.2.mem ((c.tc : Thread Cert.OutWGradRefIdeal.nD Cert.OutWGradRefIdeal.τ).loc Cert.OutWGradRefIdeal.main_arg1) = m ((c.tc : Thread Cert.OutWGradRefIdeal.nD Cert.OutWGradRefIdeal.τ).loc Cert.OutWGradRefIdeal.main_arg1)
      ∧ r.2.mem ((c.tc : Thread Cert.OutWGradRefIdeal.nD Cert.OutWGradRefIdeal.τ).loc Cert.OutWGradRefIdeal.main_arg2) = m ((c.tc : Thread Cert.OutWGradRefIdeal.nD Cert.OutWGradRefIdeal.τ).loc Cert.OutWGradRefIdeal.main_arg2)
      ∧ r.2.mem ((c.tc : Thread Cert.OutWGradRefIdeal.nD Cert.OutWGradRefIdeal.τ).loc Cert.OutWGradRefIdeal.main_arg3) = m ((c.tc : Thread Cert.OutWGradRefIdeal.nD Cert.OutWGradRefIdeal.τ).loc Cert.OutWGradRefIdeal.main_arg3)
      ∧ r.2.mem ((c.tc : Thread Cert.OutWGradRefIdeal.nD Cert.OutWGradRefIdeal.τ).loc Cert.OutWGradRefIdeal.main_arg4) = m ((c.tc : Thread Cert.OutWGradRefIdeal.nD Cert.OutWGradRefIdeal.τ).loc Cert.OutWGradRefIdeal.main_arg4))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4)
      ∧ r.2.mem ((c.tc : Thread Cert.OutLoss.nD Cert.OutLoss.τ).loc Cert.OutLoss.main_arg5) = m ((c.tc : Thread Cert.OutLoss.nD Cert.OutLoss.τ).loc Cert.OutLoss.main_arg5)
      ∧ r.2.mem ((c.tc : Thread Cert.OutLoss.nD Cert.OutLoss.τ).loc Cert.OutLoss.main_arg6) = m ((c.tc : Thread Cert.OutLoss.nD Cert.OutLoss.τ).loc Cert.OutLoss.main_arg6)
      ∧ r.2.mem ((c.tc : Thread Cert.OutLoss.nD Cert.OutLoss.τ).loc Cert.OutLoss.main_arg7) = m ((c.tc : Thread Cert.OutLoss.nD Cert.OutLoss.τ).loc Cert.OutLoss.main_arg7))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
      ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5)
      ∧ r.2.mem ((c.tc : Thread Cert.OutLossIdeal.nD Cert.OutLossIdeal.τ).loc Cert.OutLossIdeal.main_arg6) = m ((c.tc : Thread Cert.OutLossIdeal.nD Cert.OutLossIdeal.τ).loc Cert.OutLossIdeal.main_arg6)
      ∧ r.2.mem ((c.tc : Thread Cert.OutLossIdeal.nD Cert.OutLossIdeal.τ).loc Cert.OutLossIdeal.main_arg7) = m ((c.tc : Thread Cert.OutLossIdeal.nD Cert.OutLossIdeal.τ).loc Cert.OutLossIdeal.main_arg7))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4)
      ∧ r.2.mem ((c.tc : Thread Cert.OutLossRefIdeal.nD Cert.OutLossRefIdeal.τ).loc Cert.OutLossRefIdeal.main_arg5) = m ((c.tc : Thread Cert.OutLossRefIdeal.nD Cert.OutLossRefIdeal.τ).loc Cert.OutLossRefIdeal.main_arg5)
      ∧ r.2.mem ((c.tc : Thread Cert.OutLossRefIdeal.nD Cert.OutLossRefIdeal.τ).loc Cert.OutLossRefIdeal.main_arg6) = m ((c.tc : Thread Cert.OutLossRefIdeal.nD Cert.OutLossRefIdeal.τ).loc Cert.OutLossRefIdeal.main_arg6)
      ∧ r.2.mem ((c.tc : Thread Cert.OutLossRefIdeal.nD Cert.OutLossRefIdeal.τ).loc Cert.OutLossRefIdeal.main_arg7) = m ((c.tc : Thread Cert.OutLossRefIdeal.nD Cert.OutLossRefIdeal.τ).loc Cert.OutLossRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_KvWGrad [hKvWGrad : Cert.KvWGrad.Facts] : Prop :=
  ∀ (m : (ℓ : Loc Cert.KvWGrad.nD Cert.KvWGrad.τ Cert.KvWGrad.sig) → Buf (Elt Bits) ℓ) (g : Dev Cert.KvWGrad.nD → PrngReg), Pre_KvWGrad m →
    θ_run (Cert.KvWGrad.defs (F := Bits)) (onTc (τ := Cert.KvWGrad.τ) (Cert.KvWGrad.main (F := Bits))) ⟨m, fun _ => 0, g⟩ (fun r => (∀ c : Dev Cert.KvWGrad.nD,
      r.2.mem ((c.tc : Thread Cert.KvWGrad.nD Cert.KvWGrad.τ).loc Cert.KvWGrad.main_arg0) = m ((c.tc : Thread Cert.KvWGrad.nD Cert.KvWGrad.τ).loc Cert.KvWGrad.main_arg0)
      ∧ r.2.mem ((c.tc : Thread Cert.KvWGrad.nD Cert.KvWGrad.τ).loc Cert.KvWGrad.main_arg1) = m ((c.tc : Thread Cert.KvWGrad.nD Cert.KvWGrad.τ).loc Cert.KvWGrad.main_arg1)
      ∧ r.2.mem ((c.tc : Thread Cert.KvWGrad.nD Cert.KvWGrad.τ).loc Cert.KvWGrad.main_arg2) = m ((c.tc : Thread Cert.KvWGrad.nD Cert.KvWGrad.τ).loc Cert.KvWGrad.main_arg2))
      ∧ r.2.sem = fun _ => 0)

def quiescent_KvWGradIdeal [hKvWGradIdeal : Cert.KvWGradIdeal.Facts] : Prop :=
  ∀ (m : (ℓ : Loc Cert.KvWGradIdeal.nD Cert.KvWGradIdeal.τ Cert.KvWGradIdeal.sig) → Buf (Elt Ideal) ℓ) (g : Dev Cert.KvWGradIdeal.nD → PrngReg), Pre_KvWGradIdeal m →
    θ_run (Cert.KvWGradIdeal.defs (F := Ideal)) (onTc (τ := Cert.KvWGradIdeal.τ) (Cert.KvWGradIdeal.main (F := Ideal))) ⟨m, fun _ => 0, g⟩ (fun r => (∀ c : Dev Cert.KvWGradIdeal.nD,
      r.2.mem ((c.tc : Thread Cert.KvWGradIdeal.nD Cert.KvWGradIdeal.τ).loc Cert.KvWGradIdeal.main_arg0) = m ((c.tc : Thread Cert.KvWGradIdeal.nD Cert.KvWGradIdeal.τ).loc Cert.KvWGradIdeal.main_arg0)
      ∧ r.2.mem ((c.tc : Thread Cert.KvWGradIdeal.nD Cert.KvWGradIdeal.τ).loc Cert.KvWGradIdeal.main_arg1) = m ((c.tc : Thread Cert.KvWGradIdeal.nD Cert.KvWGradIdeal.τ).loc Cert.KvWGradIdeal.main_arg1)
      ∧ r.2.mem ((c.tc : Thread Cert.KvWGradIdeal.nD Cert.KvWGradIdeal.τ).loc Cert.KvWGradIdeal.main_arg2) = m ((c.tc : Thread Cert.KvWGradIdeal.nD Cert.KvWGradIdeal.τ).loc Cert.KvWGradIdeal.main_arg2))
      ∧ r.2.sem = fun _ => 0)

def quiescent_KvWGradRefIdeal [hKvWGradRefIdeal : Cert.KvWGradRefIdeal.Facts] : Prop :=
  ∀ (m : (ℓ : Loc Cert.KvWGradRefIdeal.nD Cert.KvWGradRefIdeal.τ Cert.KvWGradRefIdeal.sig) → Buf (Elt Ideal) ℓ) (g : Dev Cert.KvWGradRefIdeal.nD → PrngReg), Pre_KvWGradRefIdeal m →
    θ_run (Cert.KvWGradRefIdeal.defs (F := Ideal)) (onTc (τ := Cert.KvWGradRefIdeal.τ) (Cert.KvWGradRefIdeal.main (F := Ideal))) ⟨m, fun _ => 0, g⟩ (fun r => (∀ c : Dev Cert.KvWGradRefIdeal.nD,
      r.2.mem ((c.tc : Thread Cert.KvWGradRefIdeal.nD Cert.KvWGradRefIdeal.τ).loc Cert.KvWGradRefIdeal.main_arg0) = m ((c.tc : Thread Cert.KvWGradRefIdeal.nD Cert.KvWGradRefIdeal.τ).loc Cert.KvWGradRefIdeal.main_arg0)
      ∧ r.2.mem ((c.tc : Thread Cert.KvWGradRefIdeal.nD Cert.KvWGradRefIdeal.τ).loc Cert.KvWGradRefIdeal.main_arg1) = m ((c.tc : Thread Cert.KvWGradRefIdeal.nD Cert.KvWGradRefIdeal.τ).loc Cert.KvWGradRefIdeal.main_arg1)
      ∧ r.2.mem ((c.tc : Thread Cert.KvWGradRefIdeal.nD Cert.KvWGradRefIdeal.τ).loc Cert.KvWGradRefIdeal.main_arg2) = m ((c.tc : Thread Cert.KvWGradRefIdeal.nD Cert.KvWGradRefIdeal.τ).loc Cert.KvWGradRefIdeal.main_arg2))
      ∧ r.2.sem = fun _ => 0)

def quiescent_KvGrad [hKvGrad : Cert.KvGrad.Facts] : Prop :=
  ∀ (m : (ℓ : Loc Cert.KvGrad.nD Cert.KvGrad.τ Cert.KvGrad.sig) → Buf (Elt Bits) ℓ) (g : Dev Cert.KvGrad.nD → PrngReg), Pre_KvGrad m →
    θ_run (Cert.KvGrad.defs (F := Bits)) (onTc (τ := Cert.KvGrad.τ) (Cert.KvGrad.main (F := Bits))) ⟨m, fun _ => 0, g⟩ (fun r => (∀ c : Dev Cert.KvGrad.nD,
      r.2.mem ((c.tc : Thread Cert.KvGrad.nD Cert.KvGrad.τ).loc Cert.KvGrad.main_arg0) = m ((c.tc : Thread Cert.KvGrad.nD Cert.KvGrad.τ).loc Cert.KvGrad.main_arg0)
      ∧ r.2.mem ((c.tc : Thread Cert.KvGrad.nD Cert.KvGrad.τ).loc Cert.KvGrad.main_arg1) = m ((c.tc : Thread Cert.KvGrad.nD Cert.KvGrad.τ).loc Cert.KvGrad.main_arg1)
      ∧ r.2.mem ((c.tc : Thread Cert.KvGrad.nD Cert.KvGrad.τ).loc Cert.KvGrad.main_arg2) = m ((c.tc : Thread Cert.KvGrad.nD Cert.KvGrad.τ).loc Cert.KvGrad.main_arg2)
      ∧ r.2.mem ((c.tc : Thread Cert.KvGrad.nD Cert.KvGrad.τ).loc Cert.KvGrad.main_arg3) = m ((c.tc : Thread Cert.KvGrad.nD Cert.KvGrad.τ).loc Cert.KvGrad.main_arg3))
      ∧ r.2.sem = fun _ => 0)

def quiescent_KvGradIdeal [hKvGradIdeal : Cert.KvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg), Pre_KvGradIdeal m →
    θ_run (Cert.KvGradIdeal.defs (F := Ideal)) (onTc (τ := Cert.KvGradIdeal.τ) (Cert.KvGradIdeal.main (F := Ideal))) ⟨m, fun _ => 0, g⟩ (fun r => (∀ c : Dev Cert.KvGradIdeal.nD,
      r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
      ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1)
      ∧ r.2.mem ((c.tc : Thread Cert.KvGradIdeal.nD Cert.KvGradIdeal.τ).loc Cert.KvGradIdeal.main_arg2) = m ((c.tc : Thread Cert.KvGradIdeal.nD Cert.KvGradIdeal.τ).loc Cert.KvGradIdeal.main_arg2)
      ∧ r.2.mem ((c.tc : Thread Cert.KvGradIdeal.nD Cert.KvGradIdeal.τ).loc Cert.KvGradIdeal.main_arg3) = m ((c.tc : Thread Cert.KvGradIdeal.nD Cert.KvGradIdeal.τ).loc Cert.KvGradIdeal.main_arg3))
      ∧ r.2.sem = fun _ => 0)

def quiescent_KvGradRefIdeal [hKvGradRefIdeal : Cert.KvGradRefIdeal.Facts] : Prop :=
  ∀ (m : (ℓ : Loc Cert.KvGradRefIdeal.nD Cert.KvGradRefIdeal.τ Cert.KvGradRefIdeal.sig) → Buf (Elt Ideal) ℓ) (g : Dev Cert.KvGradRefIdeal.nD → PrngReg), Pre_KvGradRefIdeal m →
    θ_run (Cert.KvGradRefIdeal.defs (F := Ideal)) (onTc (τ := Cert.KvGradRefIdeal.τ) (Cert.KvGradRefIdeal.main (F := Ideal))) ⟨m, fun _ => 0, g⟩ (fun r => (∀ c : Dev Cert.KvGradRefIdeal.nD,
      r.2.mem ((c.tc : Thread Cert.KvGradRefIdeal.nD Cert.KvGradRefIdeal.τ).loc Cert.KvGradRefIdeal.main_arg0) = m ((c.tc : Thread Cert.KvGradRefIdeal.nD Cert.KvGradRefIdeal.τ).loc Cert.KvGradRefIdeal.main_arg0)
      ∧ r.2.mem ((c.tc : Thread Cert.KvGradRefIdeal.nD Cert.KvGradRefIdeal.τ).loc Cert.KvGradRefIdeal.main_arg1) = m ((c.tc : Thread Cert.KvGradRefIdeal.nD Cert.KvGradRefIdeal.τ).loc Cert.KvGradRefIdeal.main_arg1)
      ∧ r.2.mem ((c.tc : Thread Cert.KvGradRefIdeal.nD Cert.KvGradRefIdeal.τ).loc Cert.KvGradRefIdeal.main_arg2) = m ((c.tc : Thread Cert.KvGradRefIdeal.nD Cert.KvGradRefIdeal.τ).loc Cert.KvGradRefIdeal.main_arg2)
      ∧ r.2.mem ((c.tc : Thread Cert.KvGradRefIdeal.nD Cert.KvGradRefIdeal.τ).loc Cert.KvGradRefIdeal.main_arg3) = m ((c.tc : Thread Cert.KvGradRefIdeal.nD Cert.KvGradRefIdeal.τ).loc Cert.KvGradRefIdeal.main_arg3))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def preserves_MemGrad_MemGradIdeal : Prop :=
  IdealRules.named_const.Statement Cert.MemGradIdeal.κ "mem_scale" .bf16 0x3DB5#16 (((Real.sqrt 128)⁻¹ : ℝ) : EReal)

def algebraic_MemGradIdeal_MemGradRefIdeal_pre_mem_finite [hMemGradIdeal : Cert.MemGradIdeal.Facts] [hMemGradRefIdeal : Cert.MemGradRefIdeal.Facts] [hPre_mem_finite : Cert.Pre_mem_finite.Facts] : Prop :=
  ∀ (m : (ℓ : Loc Cert.MemGradIdeal.nD Cert.MemGradIdeal.τ Cert.MemGradIdeal.sig) → Buf (Elt Ideal) ℓ) (g : Dev Cert.MemGradIdeal.nD → PrngReg)
    (m' : (ℓ : Loc Cert.MemGradRefIdeal.nD Cert.MemGradRefIdeal.τ Cert.MemGradRefIdeal.sig) → Buf (Elt Ideal) ℓ) (g' : Dev Cert.MemGradRefIdeal.nD → PrngReg), Pre_MemGradIdeal_mem_finite m →
    (∀ c : Dev Cert.MemGradIdeal.nD,
      m' ((c.tc : Thread Cert.MemGradRefIdeal.nD Cert.MemGradRefIdeal.τ).loc Cert.MemGradRefIdeal.main_arg0) = m ((c.tc : Thread Cert.MemGradIdeal.nD Cert.MemGradIdeal.τ).loc Cert.MemGradIdeal.main_arg0)
      ∧ m' ((c.tc : Thread Cert.MemGradRefIdeal.nD Cert.MemGradRefIdeal.τ).loc Cert.MemGradRefIdeal.main_arg1) = m ((c.tc : Thread Cert.MemGradIdeal.nD Cert.MemGradIdeal.τ).loc Cert.MemGradIdeal.main_arg1)
      ∧ m' ((c.tc : Thread Cert.MemGradRefIdeal.nD Cert.MemGradRefIdeal.τ).loc Cert.MemGradRefIdeal.main_arg2) = m ((c.tc : Thread Cert.MemGradIdeal.nD Cert.MemGradIdeal.τ).loc Cert.MemGradIdeal.main_arg2)) →
    ∃ (v0 : (c : Dev Cert.MemGradIdeal.nD) → Buf (Elt Ideal) ((c.tc : Thread Cert.MemGradIdeal.nD Cert.MemGradIdeal.τ).loc Cert.MemGradIdeal.main_v0_0)) (v1 : (c : Dev Cert.MemGradIdeal.nD) → Buf (Elt Ideal) ((c.tc : Thread Cert.MemGradIdeal.nD Cert.MemGradIdeal.τ).loc Cert.MemGradIdeal.main_v1_0)) (v2 : (c : Dev Cert.MemGradIdeal.nD) → Buf (Elt Ideal) ((c.tc : Thread Cert.MemGradIdeal.nD Cert.MemGradIdeal.τ).loc Cert.MemGradIdeal.main_v1_1)) (v3 : (c : Dev Cert.MemGradIdeal.nD) → Buf (Elt Ideal) ((c.tc : Thread Cert.MemGradIdeal.nD Cert.MemGradIdeal.τ).loc Cert.MemGradIdeal.main_v1_2)),
      θ_run (Cert.MemGradIdeal.defs (F := Ideal)) (onTc (τ := Cert.MemGradIdeal.τ) (Cert.MemGradIdeal.main (F := Ideal))) ⟨m, fun _ => 0, g⟩ (fun r => ∀ c : Dev Cert.MemGradIdeal.nD,
          r.2.mem ((c.tc : Thread Cert.MemGradIdeal.nD Cert.MemGradIdeal.τ).loc Cert.MemGradIdeal.main_v0_0) = v0 c
          ∧ r.2.mem ((c.tc : Thread Cert.MemGradIdeal.nD Cert.MemGradIdeal.τ).loc Cert.MemGradIdeal.main_v1_0) = v1 c
          ∧ r.2.mem ((c.tc : Thread Cert.MemGradIdeal.nD Cert.MemGradIdeal.τ).loc Cert.MemGradIdeal.main_v1_1) = v2 c
          ∧ r.2.mem ((c.tc : Thread Cert.MemGradIdeal.nD Cert.MemGradIdeal.τ).loc Cert.MemGradIdeal.main_v1_2) = v3 c
          ∧ r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
          ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
          ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2))
      ∧ θ_run (Cert.MemGradRefIdeal.defs (F := Ideal)) (onTc (τ := Cert.MemGradRefIdeal.τ) (Cert.MemGradRefIdeal.main (F := Ideal))) ⟨m', fun _ => 0, g'⟩ (fun r => ∀ c : Dev Cert.MemGradRefIdeal.nD,
          r.2.mem ((c.tc : Thread Cert.MemGradRefIdeal.nD Cert.MemGradRefIdeal.τ).loc Cert.MemGradRefIdeal.main_v69) = v0 c
          ∧ r.2.mem ((c.tc : Thread Cert.MemGradRefIdeal.nD Cert.MemGradRefIdeal.τ).loc Cert.MemGradRefIdeal.main_v71) = v1 c
          ∧ r.2.mem ((c.tc : Thread Cert.MemGradRefIdeal.nD Cert.MemGradRefIdeal.τ).loc Cert.MemGradRefIdeal.main_v72) = v2 c
          ∧ r.2.mem ((c.tc : Thread Cert.MemGradRefIdeal.nD Cert.MemGradRefIdeal.τ).loc Cert.MemGradRefIdeal.main_v73) = v3 c
          ∧ r.2.mem ((c.tc : Thread Cert.MemGradRefIdeal.nD Cert.MemGradRefIdeal.τ).loc Cert.MemGradRefIdeal.main_arg0) = m' ((c.tc : Thread Cert.MemGradRefIdeal.nD Cert.MemGradRefIdeal.τ).loc Cert.MemGradRefIdeal.main_arg0)
          ∧ r.2.mem ((c.tc : Thread Cert.MemGradRefIdeal.nD Cert.MemGradRefIdeal.τ).loc Cert.MemGradRefIdeal.main_arg1) = m' ((c.tc : Thread Cert.MemGradRefIdeal.nD Cert.MemGradRefIdeal.τ).loc Cert.MemGradRefIdeal.main_arg1)
          ∧ r.2.mem ((c.tc : Thread Cert.MemGradRefIdeal.nD Cert.MemGradRefIdeal.τ).loc Cert.MemGradRefIdeal.main_arg2) = m' ((c.tc : Thread Cert.MemGradRefIdeal.nD Cert.MemGradRefIdeal.τ).loc Cert.MemGradRefIdeal.main_arg2))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)) →
    ∃ (v0 : (c : Dev Cert.InGradIdeal.nD) → Buf (Elt Ideal) ((c.tc : Thread Cert.InGradIdeal.nD Cert.InGradIdeal.τ).loc Cert.InGradIdeal.main_v23_0)) (v1 : (c : Dev Cert.InGradIdeal.nD) → Buf (Elt Ideal) ((c.tc : Thread Cert.InGradIdeal.nD Cert.InGradIdeal.τ).loc Cert.InGradIdeal.main_v23_1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v23_0) = v0 c
          ∧ r.2.mem ((c.tc : Thread Cert.InGradIdeal.nD Cert.InGradIdeal.τ).loc Cert.InGradIdeal.main_v23_1) = v1 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v46) = v0 c
          ∧ r.2.mem ((c.tc : Thread Cert.InGradRefIdeal.nD Cert.InGradRefIdeal.τ).loc Cert.InGradRefIdeal.main_v47) = v1 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4))

def preserves_InWGrad_InWGradIdeal : Prop :=
  True

def algebraic_InWGradIdeal_InWGradRefIdeal [hInWGradIdeal : Cert.InWGradIdeal.Facts] [hInWGradRefIdeal : Cert.InWGradRefIdeal.Facts] : Prop :=
  ∀ (m : (ℓ : Loc Cert.InWGradIdeal.nD Cert.InWGradIdeal.τ Cert.InWGradIdeal.sig) → Buf (Elt Ideal) ℓ) (g : Dev Cert.InWGradIdeal.nD → PrngReg)
    (m' : (ℓ : Loc Cert.InWGradRefIdeal.nD Cert.InWGradRefIdeal.τ Cert.InWGradRefIdeal.sig) → Buf (Elt Ideal) ℓ) (g' : Dev Cert.InWGradRefIdeal.nD → PrngReg), Pre_InWGradIdeal m →
    (∀ c : Dev Cert.InWGradIdeal.nD,
      m' ((c.tc : Thread Cert.InWGradRefIdeal.nD Cert.InWGradRefIdeal.τ).loc Cert.InWGradRefIdeal.main_arg0) = m ((c.tc : Thread Cert.InWGradIdeal.nD Cert.InWGradIdeal.τ).loc Cert.InWGradIdeal.main_arg0)
      ∧ m' ((c.tc : Thread Cert.InWGradRefIdeal.nD Cert.InWGradRefIdeal.τ).loc Cert.InWGradRefIdeal.main_arg1) = m ((c.tc : Thread Cert.InWGradIdeal.nD Cert.InWGradIdeal.τ).loc Cert.InWGradIdeal.main_arg1)
      ∧ m' ((c.tc : Thread Cert.InWGradRefIdeal.nD Cert.InWGradRefIdeal.τ).loc Cert.InWGradRefIdeal.main_arg2) = m ((c.tc : Thread Cert.InWGradIdeal.nD Cert.InWGradIdeal.τ).loc Cert.InWGradIdeal.main_arg2)) →
    ∃ (v0 : (c : Dev Cert.InWGradIdeal.nD) → Buf (Elt Ideal) ((c.tc : Thread Cert.InWGradIdeal.nD Cert.InWGradIdeal.τ).loc Cert.InWGradIdeal.main_v26)),
      θ_run (Cert.InWGradIdeal.defs (F := Ideal)) (onTc (τ := Cert.InWGradIdeal.τ) (Cert.InWGradIdeal.main (F := Ideal))) ⟨m, fun _ => 0, g⟩ (fun r => ∀ c : Dev Cert.InWGradIdeal.nD,
          r.2.mem ((c.tc : Thread Cert.InWGradIdeal.nD Cert.InWGradIdeal.τ).loc Cert.InWGradIdeal.main_v26) = v0 c
          ∧ r.2.mem ((c.tc : Thread Cert.InWGradIdeal.nD Cert.InWGradIdeal.τ).loc Cert.InWGradIdeal.main_arg0) = m ((c.tc : Thread Cert.InWGradIdeal.nD Cert.InWGradIdeal.τ).loc Cert.InWGradIdeal.main_arg0)
          ∧ r.2.mem ((c.tc : Thread Cert.InWGradIdeal.nD Cert.InWGradIdeal.τ).loc Cert.InWGradIdeal.main_arg1) = m ((c.tc : Thread Cert.InWGradIdeal.nD Cert.InWGradIdeal.τ).loc Cert.InWGradIdeal.main_arg1)
          ∧ r.2.mem ((c.tc : Thread Cert.InWGradIdeal.nD Cert.InWGradIdeal.τ).loc Cert.InWGradIdeal.main_arg2) = m ((c.tc : Thread Cert.InWGradIdeal.nD Cert.InWGradIdeal.τ).loc Cert.InWGradIdeal.main_arg2))
      ∧ θ_run (Cert.InWGradRefIdeal.defs (F := Ideal)) (onTc (τ := Cert.InWGradRefIdeal.τ) (Cert.InWGradRefIdeal.main (F := Ideal))) ⟨m', fun _ => 0, g'⟩ (fun r => ∀ c : Dev Cert.InWGradRefIdeal.nD,
          r.2.mem ((c.tc : Thread Cert.InWGradRefIdeal.nD Cert.InWGradRefIdeal.τ).loc Cert.InWGradRefIdeal.main_v24) = v0 c
          ∧ r.2.mem ((c.tc : Thread Cert.InWGradRefIdeal.nD Cert.InWGradRefIdeal.τ).loc Cert.InWGradRefIdeal.main_arg0) = m' ((c.tc : Thread Cert.InWGradRefIdeal.nD Cert.InWGradRefIdeal.τ).loc Cert.InWGradRefIdeal.main_arg0)
          ∧ r.2.mem ((c.tc : Thread Cert.InWGradRefIdeal.nD Cert.InWGradRefIdeal.τ).loc Cert.InWGradRefIdeal.main_arg1) = m' ((c.tc : Thread Cert.InWGradRefIdeal.nD Cert.InWGradRefIdeal.τ).loc Cert.InWGradRefIdeal.main_arg1)
          ∧ r.2.mem ((c.tc : Thread Cert.InWGradRefIdeal.nD Cert.InWGradRefIdeal.τ).loc Cert.InWGradRefIdeal.main_arg2) = m' ((c.tc : Thread Cert.InWGradRefIdeal.nD Cert.InWGradRefIdeal.τ).loc Cert.InWGradRefIdeal.main_arg2))

def preserves_GateGrad_GateGradIdeal : Prop :=
  True

def algebraic_GateGradIdeal_GateGradRefIdeal_pre_gate_finite [hGateGradIdeal : Cert.GateGradIdeal.Facts] [hGateGradRefIdeal : Cert.GateGradRefIdeal.Facts] [hPre_gate_finite : Cert.Pre_gate_finite.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal_gate_finite m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)
      ∧ m' ((c.tc : Thread Cert.GateGradRefIdeal.nD Cert.GateGradRefIdeal.τ).loc Cert.GateGradRefIdeal.main_arg2) = m ((c.tc : Thread Cert.GateGradIdeal.nD Cert.GateGradIdeal.τ).loc Cert.GateGradIdeal.main_arg2)
      ∧ m' ((c.tc : Thread Cert.GateGradRefIdeal.nD Cert.GateGradRefIdeal.τ).loc Cert.GateGradRefIdeal.main_arg3) = m ((c.tc : Thread Cert.GateGradIdeal.nD Cert.GateGradIdeal.τ).loc Cert.GateGradIdeal.main_arg3)
      ∧ m' ((c.tc : Thread Cert.GateGradRefIdeal.nD Cert.GateGradRefIdeal.τ).loc Cert.GateGradRefIdeal.main_arg4) = m ((c.tc : Thread Cert.GateGradIdeal.nD Cert.GateGradIdeal.τ).loc Cert.GateGradIdeal.main_arg4)
      ∧ m' ((c.tc : Thread Cert.GateGradRefIdeal.nD Cert.GateGradRefIdeal.τ).loc Cert.GateGradRefIdeal.main_arg5) = m ((c.tc : Thread Cert.GateGradIdeal.nD Cert.GateGradIdeal.τ).loc Cert.GateGradIdeal.main_arg5)) →
    ∃ (v0 : (c : Dev Cert.GateGradIdeal.nD) → Buf (Elt Ideal) ((c.tc : Thread Cert.GateGradIdeal.nD Cert.GateGradIdeal.τ).loc Cert.GateGradIdeal.main_v8_0)) (v1 : (c : Dev Cert.GateGradIdeal.nD) → Buf (Elt Ideal) ((c.tc : Thread Cert.GateGradIdeal.nD Cert.GateGradIdeal.τ).loc Cert.GateGradIdeal.main_v8_1)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v8_0) = v0 c
          ∧ r.2.mem ((c.tc : Thread Cert.GateGradIdeal.nD Cert.GateGradIdeal.τ).loc Cert.GateGradIdeal.main_v8_1) = v1 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
          ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4)
          ∧ r.2.mem ((c.tc : Thread Cert.GateGradIdeal.nD Cert.GateGradIdeal.τ).loc Cert.GateGradIdeal.main_arg5) = m ((c.tc : Thread Cert.GateGradIdeal.nD Cert.GateGradIdeal.τ).loc Cert.GateGradIdeal.main_arg5))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v28) = v0 c
          ∧ r.2.mem ((c.tc : Thread Cert.GateGradRefIdeal.nD Cert.GateGradRefIdeal.τ).loc Cert.GateGradRefIdeal.main_v31) = v1 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1)
          ∧ r.2.mem ((c.tc : Thread Cert.GateGradRefIdeal.nD Cert.GateGradRefIdeal.τ).loc Cert.GateGradRefIdeal.main_arg2) = m' ((c.tc : Thread Cert.GateGradRefIdeal.nD Cert.GateGradRefIdeal.τ).loc Cert.GateGradRefIdeal.main_arg2)
          ∧ r.2.mem ((c.tc : Thread Cert.GateGradRefIdeal.nD Cert.GateGradRefIdeal.τ).loc Cert.GateGradRefIdeal.main_arg3) = m' ((c.tc : Thread Cert.GateGradRefIdeal.nD Cert.GateGradRefIdeal.τ).loc Cert.GateGradRefIdeal.main_arg3)
          ∧ r.2.mem ((c.tc : Thread Cert.GateGradRefIdeal.nD Cert.GateGradRefIdeal.τ).loc Cert.GateGradRefIdeal.main_arg4) = m' ((c.tc : Thread Cert.GateGradRefIdeal.nD Cert.GateGradRefIdeal.τ).loc Cert.GateGradRefIdeal.main_arg4)
          ∧ r.2.mem ((c.tc : Thread Cert.GateGradRefIdeal.nD Cert.GateGradRefIdeal.τ).loc Cert.GateGradRefIdeal.main_arg5) = m' ((c.tc : Thread Cert.GateGradRefIdeal.nD Cert.GateGradRefIdeal.τ).loc Cert.GateGradRefIdeal.main_arg5))

def preserves_OutWGrad_OutWGradIdeal : Prop :=
  True

def algebraic_OutWGradIdeal_OutWGradRefIdeal [hOutWGradIdeal : Cert.OutWGradIdeal.Facts] [hOutWGradRefIdeal : Cert.OutWGradRefIdeal.Facts] : Prop :=
  ∀ (m : (ℓ : Loc Cert.OutWGradIdeal.nD Cert.OutWGradIdeal.τ Cert.OutWGradIdeal.sig) → Buf (Elt Ideal) ℓ) (g : Dev Cert.OutWGradIdeal.nD → PrngReg)
    (m' : (ℓ : Loc Cert.OutWGradRefIdeal.nD Cert.OutWGradRefIdeal.τ Cert.OutWGradRefIdeal.sig) → Buf (Elt Ideal) ℓ) (g' : Dev Cert.OutWGradRefIdeal.nD → PrngReg), Pre_OutWGradIdeal m →
    (∀ c : Dev Cert.OutWGradIdeal.nD,
      m' ((c.tc : Thread Cert.OutWGradRefIdeal.nD Cert.OutWGradRefIdeal.τ).loc Cert.OutWGradRefIdeal.main_arg0) = m ((c.tc : Thread Cert.OutWGradIdeal.nD Cert.OutWGradIdeal.τ).loc Cert.OutWGradIdeal.main_arg0)
      ∧ m' ((c.tc : Thread Cert.OutWGradRefIdeal.nD Cert.OutWGradRefIdeal.τ).loc Cert.OutWGradRefIdeal.main_arg1) = m ((c.tc : Thread Cert.OutWGradIdeal.nD Cert.OutWGradIdeal.τ).loc Cert.OutWGradIdeal.main_arg1)
      ∧ m' ((c.tc : Thread Cert.OutWGradRefIdeal.nD Cert.OutWGradRefIdeal.τ).loc Cert.OutWGradRefIdeal.main_arg2) = m ((c.tc : Thread Cert.OutWGradIdeal.nD Cert.OutWGradIdeal.τ).loc Cert.OutWGradIdeal.main_arg2)
      ∧ m' ((c.tc : Thread Cert.OutWGradRefIdeal.nD Cert.OutWGradRefIdeal.τ).loc Cert.OutWGradRefIdeal.main_arg3) = m ((c.tc : Thread Cert.OutWGradIdeal.nD Cert.OutWGradIdeal.τ).loc Cert.OutWGradIdeal.main_arg3)
      ∧ m' ((c.tc : Thread Cert.OutWGradRefIdeal.nD Cert.OutWGradRefIdeal.τ).loc Cert.OutWGradRefIdeal.main_arg4) = m ((c.tc : Thread Cert.OutWGradIdeal.nD Cert.OutWGradIdeal.τ).loc Cert.OutWGradIdeal.main_arg4)) →
    ∃ (v0 : (c : Dev Cert.OutWGradIdeal.nD) → Buf (Elt Ideal) ((c.tc : Thread Cert.OutWGradIdeal.nD Cert.OutWGradIdeal.τ).loc Cert.OutWGradIdeal.main_v15)),
      θ_run (Cert.OutWGradIdeal.defs (F := Ideal)) (onTc (τ := Cert.OutWGradIdeal.τ) (Cert.OutWGradIdeal.main (F := Ideal))) ⟨m, fun _ => 0, g⟩ (fun r => ∀ c : Dev Cert.OutWGradIdeal.nD,
          r.2.mem ((c.tc : Thread Cert.OutWGradIdeal.nD Cert.OutWGradIdeal.τ).loc Cert.OutWGradIdeal.main_v15) = v0 c
          ∧ r.2.mem ((c.tc : Thread Cert.OutWGradIdeal.nD Cert.OutWGradIdeal.τ).loc Cert.OutWGradIdeal.main_arg0) = m ((c.tc : Thread Cert.OutWGradIdeal.nD Cert.OutWGradIdeal.τ).loc Cert.OutWGradIdeal.main_arg0)
          ∧ r.2.mem ((c.tc : Thread Cert.OutWGradIdeal.nD Cert.OutWGradIdeal.τ).loc Cert.OutWGradIdeal.main_arg1) = m ((c.tc : Thread Cert.OutWGradIdeal.nD Cert.OutWGradIdeal.τ).loc Cert.OutWGradIdeal.main_arg1)
          ∧ r.2.mem ((c.tc : Thread Cert.OutWGradIdeal.nD Cert.OutWGradIdeal.τ).loc Cert.OutWGradIdeal.main_arg2) = m ((c.tc : Thread Cert.OutWGradIdeal.nD Cert.OutWGradIdeal.τ).loc Cert.OutWGradIdeal.main_arg2)
          ∧ r.2.mem ((c.tc : Thread Cert.OutWGradIdeal.nD Cert.OutWGradIdeal.τ).loc Cert.OutWGradIdeal.main_arg3) = m ((c.tc : Thread Cert.OutWGradIdeal.nD Cert.OutWGradIdeal.τ).loc Cert.OutWGradIdeal.main_arg3)
          ∧ r.2.mem ((c.tc : Thread Cert.OutWGradIdeal.nD Cert.OutWGradIdeal.τ).loc Cert.OutWGradIdeal.main_arg4) = m ((c.tc : Thread Cert.OutWGradIdeal.nD Cert.OutWGradIdeal.τ).loc Cert.OutWGradIdeal.main_arg4))
      ∧ θ_run (Cert.OutWGradRefIdeal.defs (F := Ideal)) (onTc (τ := Cert.OutWGradRefIdeal.τ) (Cert.OutWGradRefIdeal.main (F := Ideal))) ⟨m', fun _ => 0, g'⟩ (fun r => ∀ c : Dev Cert.OutWGradRefIdeal.nD,
          r.2.mem ((c.tc : Thread Cert.OutWGradRefIdeal.nD Cert.OutWGradRefIdeal.τ).loc Cert.OutWGradRefIdeal.main_v15) = v0 c
          ∧ r.2.mem ((c.tc : Thread Cert.OutWGradRefIdeal.nD Cert.OutWGradRefIdeal.τ).loc Cert.OutWGradRefIdeal.main_arg0) = m' ((c.tc : Thread Cert.OutWGradRefIdeal.nD Cert.OutWGradRefIdeal.τ).loc Cert.OutWGradRefIdeal.main_arg0)
          ∧ r.2.mem ((c.tc : Thread Cert.OutWGradRefIdeal.nD Cert.OutWGradRefIdeal.τ).loc Cert.OutWGradRefIdeal.main_arg1) = m' ((c.tc : Thread Cert.OutWGradRefIdeal.nD Cert.OutWGradRefIdeal.τ).loc Cert.OutWGradRefIdeal.main_arg1)
          ∧ r.2.mem ((c.tc : Thread Cert.OutWGradRefIdeal.nD Cert.OutWGradRefIdeal.τ).loc Cert.OutWGradRefIdeal.main_arg2) = m' ((c.tc : Thread Cert.OutWGradRefIdeal.nD Cert.OutWGradRefIdeal.τ).loc Cert.OutWGradRefIdeal.main_arg2)
          ∧ r.2.mem ((c.tc : Thread Cert.OutWGradRefIdeal.nD Cert.OutWGradRefIdeal.τ).loc Cert.OutWGradRefIdeal.main_arg3) = m' ((c.tc : Thread Cert.OutWGradRefIdeal.nD Cert.OutWGradRefIdeal.τ).loc Cert.OutWGradRefIdeal.main_arg3)
          ∧ r.2.mem ((c.tc : Thread Cert.OutWGradRefIdeal.nD Cert.OutWGradRefIdeal.τ).loc Cert.OutWGradRefIdeal.main_arg4) = m' ((c.tc : Thread Cert.OutWGradRefIdeal.nD Cert.OutWGradRefIdeal.τ).loc Cert.OutWGradRefIdeal.main_arg4))

def preserves_OutLoss_OutLossIdeal : Prop :=
  True

def algebraic_OutLossIdeal_OutLossRefIdeal [hOutLossIdeal : Cert.OutLossIdeal.Facts] [hOutLossRefIdeal : Cert.OutLossRefIdeal.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)
      ∧ m' ((c.tc : Thread Cert.OutLossRefIdeal.nD Cert.OutLossRefIdeal.τ).loc Cert.OutLossRefIdeal.main_arg5) = m ((c.tc : Thread Cert.OutLossIdeal.nD Cert.OutLossIdeal.τ).loc Cert.OutLossIdeal.main_arg5)
      ∧ m' ((c.tc : Thread Cert.OutLossRefIdeal.nD Cert.OutLossRefIdeal.τ).loc Cert.OutLossRefIdeal.main_arg6) = m ((c.tc : Thread Cert.OutLossIdeal.nD Cert.OutLossIdeal.τ).loc Cert.OutLossIdeal.main_arg6)
      ∧ m' ((c.tc : Thread Cert.OutLossRefIdeal.nD Cert.OutLossRefIdeal.τ).loc Cert.OutLossRefIdeal.main_arg7) = m ((c.tc : Thread Cert.OutLossIdeal.nD Cert.OutLossIdeal.τ).loc Cert.OutLossIdeal.main_arg7)) →
    ∃ (v0 : (c : Dev Cert.OutLossIdeal.nD) → Buf (Elt Ideal) ((c.tc : Thread Cert.OutLossIdeal.nD Cert.OutLossIdeal.τ).loc Cert.OutLossIdeal.main_v9_0)) (v1 : (c : Dev Cert.OutLossIdeal.nD) → Buf (Elt Ideal) ((c.tc : Thread Cert.OutLossIdeal.nD Cert.OutLossIdeal.τ).loc Cert.OutLossIdeal.main_v9_1)) (v2 : (c : Dev Cert.OutLossIdeal.nD) → Buf (Elt Ideal) ((c.tc : Thread Cert.OutLossIdeal.nD Cert.OutLossIdeal.τ).loc Cert.OutLossIdeal.main_v9_2)) (v3 : (c : Dev Cert.OutLossIdeal.nD) → Buf (Elt Ideal) ((c.tc : Thread Cert.OutLossIdeal.nD Cert.OutLossIdeal.τ).loc Cert.OutLossIdeal.main_v9_3)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v9_0) = v0 c
          ∧ r.2.mem ((c.tc : Thread Cert.OutLossIdeal.nD Cert.OutLossIdeal.τ).loc Cert.OutLossIdeal.main_v9_1) = v1 c
          ∧ r.2.mem ((c.tc : Thread Cert.OutLossIdeal.nD Cert.OutLossIdeal.τ).loc Cert.OutLossIdeal.main_v9_2) = v2 c
          ∧ r.2.mem ((c.tc : Thread Cert.OutLossIdeal.nD Cert.OutLossIdeal.τ).loc Cert.OutLossIdeal.main_v9_3) = v3 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
          ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5)
          ∧ r.2.mem ((c.tc : Thread Cert.OutLossIdeal.nD Cert.OutLossIdeal.τ).loc Cert.OutLossIdeal.main_arg6) = m ((c.tc : Thread Cert.OutLossIdeal.nD Cert.OutLossIdeal.τ).loc Cert.OutLossIdeal.main_arg6)
          ∧ r.2.mem ((c.tc : Thread Cert.OutLossIdeal.nD Cert.OutLossIdeal.τ).loc Cert.OutLossIdeal.main_arg7) = m ((c.tc : Thread Cert.OutLossIdeal.nD Cert.OutLossIdeal.τ).loc Cert.OutLossIdeal.main_arg7))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v72) = v0 c
          ∧ r.2.mem ((c.tc : Thread Cert.OutLossRefIdeal.nD Cert.OutLossRefIdeal.τ).loc Cert.OutLossRefIdeal.main_v65) = v1 c
          ∧ r.2.mem ((c.tc : Thread Cert.OutLossRefIdeal.nD Cert.OutLossRefIdeal.τ).loc Cert.OutLossRefIdeal.main_v73) = v2 c
          ∧ r.2.mem ((c.tc : Thread Cert.OutLossRefIdeal.nD Cert.OutLossRefIdeal.τ).loc Cert.OutLossRefIdeal.main_v77) = v3 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4)
          ∧ r.2.mem ((c.tc : Thread Cert.OutLossRefIdeal.nD Cert.OutLossRefIdeal.τ).loc Cert.OutLossRefIdeal.main_arg5) = m' ((c.tc : Thread Cert.OutLossRefIdeal.nD Cert.OutLossRefIdeal.τ).loc Cert.OutLossRefIdeal.main_arg5)
          ∧ r.2.mem ((c.tc : Thread Cert.OutLossRefIdeal.nD Cert.OutLossRefIdeal.τ).loc Cert.OutLossRefIdeal.main_arg6) = m' ((c.tc : Thread Cert.OutLossRefIdeal.nD Cert.OutLossRefIdeal.τ).loc Cert.OutLossRefIdeal.main_arg6)
          ∧ r.2.mem ((c.tc : Thread Cert.OutLossRefIdeal.nD Cert.OutLossRefIdeal.τ).loc Cert.OutLossRefIdeal.main_arg7) = m' ((c.tc : Thread Cert.OutLossRefIdeal.nD Cert.OutLossRefIdeal.τ).loc Cert.OutLossRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v47_0)) (v1 : (c : Dev Cert.InProjIdeal.nD) → Buf (Elt Ideal) ((c.tc : Thread Cert.InProjIdeal.nD Cert.InProjIdeal.τ).loc Cert.InProjIdeal.main_v47_1)) (v2 : (c : Dev Cert.InProjIdeal.nD) → Buf (Elt Ideal) ((c.tc : Thread Cert.InProjIdeal.nD Cert.InProjIdeal.τ).loc Cert.InProjIdeal.main_v47_2)) (v3 : (c : Dev Cert.InProjIdeal.nD) → Buf (Elt Ideal) ((c.tc : Thread Cert.InProjIdeal.nD Cert.InProjIdeal.τ).loc Cert.InProjIdeal.main_v47_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v47_0) = v0 c
          ∧ r.2.mem ((c.tc : Thread Cert.InProjIdeal.nD Cert.InProjIdeal.τ).loc Cert.InProjIdeal.main_v47_1) = v1 c
          ∧ r.2.mem ((c.tc : Thread Cert.InProjIdeal.nD Cert.InProjIdeal.τ).loc Cert.InProjIdeal.main_v47_2) = v2 c
          ∧ r.2.mem ((c.tc : Thread Cert.InProjIdeal.nD Cert.InProjIdeal.τ).loc Cert.InProjIdeal.main_v47_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v104) = v0 c
          ∧ r.2.mem ((c.tc : Thread Cert.InProjRefIdeal.nD Cert.InProjRefIdeal.τ).loc Cert.InProjRefIdeal.main_v106) = v1 c
          ∧ r.2.mem ((c.tc : Thread Cert.InProjRefIdeal.nD Cert.InProjRefIdeal.τ).loc Cert.InProjRefIdeal.main_v107) = v2 c
          ∧ r.2.mem ((c.tc : Thread Cert.InProjRefIdeal.nD Cert.InProjRefIdeal.τ).loc Cert.InProjRefIdeal.main_v110) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_KvWGrad_KvWGradIdeal : Prop :=
  True

def algebraic_KvWGradIdeal_KvWGradRefIdeal [hKvWGradIdeal : Cert.KvWGradIdeal.Facts] [hKvWGradRefIdeal : Cert.KvWGradRefIdeal.Facts] : Prop :=
  ∀ (m : (ℓ : Loc Cert.KvWGradIdeal.nD Cert.KvWGradIdeal.τ Cert.KvWGradIdeal.sig) → Buf (Elt Ideal) ℓ) (g : Dev Cert.KvWGradIdeal.nD → PrngReg)
    (m' : (ℓ : Loc Cert.KvWGradRefIdeal.nD Cert.KvWGradRefIdeal.τ Cert.KvWGradRefIdeal.sig) → Buf (Elt Ideal) ℓ) (g' : Dev Cert.KvWGradRefIdeal.nD → PrngReg), Pre_KvWGradIdeal m →
    (∀ c : Dev Cert.KvWGradIdeal.nD,
      m' ((c.tc : Thread Cert.KvWGradRefIdeal.nD Cert.KvWGradRefIdeal.τ).loc Cert.KvWGradRefIdeal.main_arg0) = m ((c.tc : Thread Cert.KvWGradIdeal.nD Cert.KvWGradIdeal.τ).loc Cert.KvWGradIdeal.main_arg0)
      ∧ m' ((c.tc : Thread Cert.KvWGradRefIdeal.nD Cert.KvWGradRefIdeal.τ).loc Cert.KvWGradRefIdeal.main_arg1) = m ((c.tc : Thread Cert.KvWGradIdeal.nD Cert.KvWGradIdeal.τ).loc Cert.KvWGradIdeal.main_arg1)
      ∧ m' ((c.tc : Thread Cert.KvWGradRefIdeal.nD Cert.KvWGradRefIdeal.τ).loc Cert.KvWGradRefIdeal.main_arg2) = m ((c.tc : Thread Cert.KvWGradIdeal.nD Cert.KvWGradIdeal.τ).loc Cert.KvWGradIdeal.main_arg2)) →
    ∃ (v0 : (c : Dev Cert.KvWGradIdeal.nD) → Buf (Elt Ideal) ((c.tc : Thread Cert.KvWGradIdeal.nD Cert.KvWGradIdeal.τ).loc Cert.KvWGradIdeal.main_v17)),
      θ_run (Cert.KvWGradIdeal.defs (F := Ideal)) (onTc (τ := Cert.KvWGradIdeal.τ) (Cert.KvWGradIdeal.main (F := Ideal))) ⟨m, fun _ => 0, g⟩ (fun r => ∀ c : Dev Cert.KvWGradIdeal.nD,
          r.2.mem ((c.tc : Thread Cert.KvWGradIdeal.nD Cert.KvWGradIdeal.τ).loc Cert.KvWGradIdeal.main_v17) = v0 c
          ∧ r.2.mem ((c.tc : Thread Cert.KvWGradIdeal.nD Cert.KvWGradIdeal.τ).loc Cert.KvWGradIdeal.main_arg0) = m ((c.tc : Thread Cert.KvWGradIdeal.nD Cert.KvWGradIdeal.τ).loc Cert.KvWGradIdeal.main_arg0)
          ∧ r.2.mem ((c.tc : Thread Cert.KvWGradIdeal.nD Cert.KvWGradIdeal.τ).loc Cert.KvWGradIdeal.main_arg1) = m ((c.tc : Thread Cert.KvWGradIdeal.nD Cert.KvWGradIdeal.τ).loc Cert.KvWGradIdeal.main_arg1)
          ∧ r.2.mem ((c.tc : Thread Cert.KvWGradIdeal.nD Cert.KvWGradIdeal.τ).loc Cert.KvWGradIdeal.main_arg2) = m ((c.tc : Thread Cert.KvWGradIdeal.nD Cert.KvWGradIdeal.τ).loc Cert.KvWGradIdeal.main_arg2))
      ∧ θ_run (Cert.KvWGradRefIdeal.defs (F := Ideal)) (onTc (τ := Cert.KvWGradRefIdeal.τ) (Cert.KvWGradRefIdeal.main (F := Ideal))) ⟨m', fun _ => 0, g'⟩ (fun r => ∀ c : Dev Cert.KvWGradRefIdeal.nD,
          r.2.mem ((c.tc : Thread Cert.KvWGradRefIdeal.nD Cert.KvWGradRefIdeal.τ).loc Cert.KvWGradRefIdeal.main_v19) = v0 c
          ∧ r.2.mem ((c.tc : Thread Cert.KvWGradRefIdeal.nD Cert.KvWGradRefIdeal.τ).loc Cert.KvWGradRefIdeal.main_arg0) = m' ((c.tc : Thread Cert.KvWGradRefIdeal.nD Cert.KvWGradRefIdeal.τ).loc Cert.KvWGradRefIdeal.main_arg0)
          ∧ r.2.mem ((c.tc : Thread Cert.KvWGradRefIdeal.nD Cert.KvWGradRefIdeal.τ).loc Cert.KvWGradRefIdeal.main_arg1) = m' ((c.tc : Thread Cert.KvWGradRefIdeal.nD Cert.KvWGradRefIdeal.τ).loc Cert.KvWGradRefIdeal.main_arg1)
          ∧ r.2.mem ((c.tc : Thread Cert.KvWGradRefIdeal.nD Cert.KvWGradRefIdeal.τ).loc Cert.KvWGradRefIdeal.main_arg2) = m' ((c.tc : Thread Cert.KvWGradRefIdeal.nD Cert.KvWGradRefIdeal.τ).loc Cert.KvWGradRefIdeal.main_arg2))

def preserves_KvGrad_KvGradIdeal : Prop :=
  True

def algebraic_KvGradIdeal_KvGradRefIdeal [hKvGradIdeal : Cert.KvGradIdeal.Facts] [hKvGradRefIdeal : Cert.KvGradRefIdeal.Facts] : Prop :=
  ∀ (m : (ℓ : Loc Cert.KvGradIdeal.nD Cert.KvGradIdeal.τ Cert.KvGradIdeal.sig) → Buf (Elt Ideal) ℓ) (g : Dev Cert.KvGradIdeal.nD → PrngReg)
    (m' : (ℓ : Loc Cert.KvGradRefIdeal.nD Cert.KvGradRefIdeal.τ Cert.KvGradRefIdeal.sig) → Buf (Elt Ideal) ℓ) (g' : Dev Cert.KvGradRefIdeal.nD → PrngReg), Pre_KvGradIdeal m →
    (∀ c : Dev Cert.KvGradIdeal.nD,
      m' ((c.tc : Thread Cert.KvGradRefIdeal.nD Cert.KvGradRefIdeal.τ).loc Cert.KvGradRefIdeal.main_arg0) = m ((c.tc : Thread Cert.KvGradIdeal.nD Cert.KvGradIdeal.τ).loc Cert.KvGradIdeal.main_arg0)
      ∧ m' ((c.tc : Thread Cert.KvGradRefIdeal.nD Cert.KvGradRefIdeal.τ).loc Cert.KvGradRefIdeal.main_arg1) = m ((c.tc : Thread Cert.KvGradIdeal.nD Cert.KvGradIdeal.τ).loc Cert.KvGradIdeal.main_arg1)
      ∧ m' ((c.tc : Thread Cert.KvGradRefIdeal.nD Cert.KvGradRefIdeal.τ).loc Cert.KvGradRefIdeal.main_arg2) = m ((c.tc : Thread Cert.KvGradIdeal.nD Cert.KvGradIdeal.τ).loc Cert.KvGradIdeal.main_arg2)
      ∧ m' ((c.tc : Thread Cert.KvGradRefIdeal.nD Cert.KvGradRefIdeal.τ).loc Cert.KvGradRefIdeal.main_arg3) = m ((c.tc : Thread Cert.KvGradIdeal.nD Cert.KvGradIdeal.τ).loc Cert.KvGradIdeal.main_arg3)) →
    ∃ (v0 : (c : Dev Cert.KvGradIdeal.nD) → Buf (Elt Ideal) ((c.tc : Thread Cert.KvGradIdeal.nD Cert.KvGradIdeal.τ).loc Cert.KvGradIdeal.main_v4_0)) (v1 : (c : Dev Cert.KvGradIdeal.nD) → Buf (Elt Ideal) ((c.tc : Thread Cert.KvGradIdeal.nD Cert.KvGradIdeal.τ).loc Cert.KvGradIdeal.main_v4_1)),
      θ_run (Cert.KvGradIdeal.defs (F := Ideal)) (onTc (τ := Cert.KvGradIdeal.τ) (Cert.KvGradIdeal.main (F := Ideal))) ⟨m, fun _ => 0, g⟩ (fun r => ∀ c : Dev Cert.KvGradIdeal.nD,
          r.2.mem ((c.tc : Thread Cert.KvGradIdeal.nD Cert.KvGradIdeal.τ).loc Cert.KvGradIdeal.main_v4_0) = v0 c
          ∧ r.2.mem ((c.tc : Thread Cert.KvGradIdeal.nD Cert.KvGradIdeal.τ).loc Cert.KvGradIdeal.main_v4_1) = v1 c
          ∧ r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
          ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1)
          ∧ r.2.mem ((c.tc : Thread Cert.KvGradIdeal.nD Cert.KvGradIdeal.τ).loc Cert.KvGradIdeal.main_arg2) = m ((c.tc : Thread Cert.KvGradIdeal.nD Cert.KvGradIdeal.τ).loc Cert.KvGradIdeal.main_arg2)
          ∧ r.2.mem ((c.tc : Thread Cert.KvGradIdeal.nD Cert.KvGradIdeal.τ).loc Cert.KvGradIdeal.main_arg3) = m ((c.tc : Thread Cert.KvGradIdeal.nD Cert.KvGradIdeal.τ).loc Cert.KvGradIdeal.main_arg3))
      ∧ θ_run (Cert.KvGradRefIdeal.defs (F := Ideal)) (onTc (τ := Cert.KvGradRefIdeal.τ) (Cert.KvGradRefIdeal.main (F := Ideal))) ⟨m', fun _ => 0, g'⟩ (fun r => ∀ c : Dev Cert.KvGradRefIdeal.nD,
          r.2.mem ((c.tc : Thread Cert.KvGradRefIdeal.nD Cert.KvGradRefIdeal.τ).loc Cert.KvGradRefIdeal.main_v45) = v0 c
          ∧ r.2.mem ((c.tc : Thread Cert.KvGradRefIdeal.nD Cert.KvGradRefIdeal.τ).loc Cert.KvGradRefIdeal.main_v46) = v1 c
          ∧ r.2.mem ((c.tc : Thread Cert.KvGradRefIdeal.nD Cert.KvGradRefIdeal.τ).loc Cert.KvGradRefIdeal.main_arg0) = m' ((c.tc : Thread Cert.KvGradRefIdeal.nD Cert.KvGradRefIdeal.τ).loc Cert.KvGradRefIdeal.main_arg0)
          ∧ r.2.mem ((c.tc : Thread Cert.KvGradRefIdeal.nD Cert.KvGradRefIdeal.τ).loc Cert.KvGradRefIdeal.main_arg1) = m' ((c.tc : Thread Cert.KvGradRefIdeal.nD Cert.KvGradRefIdeal.τ).loc Cert.KvGradRefIdeal.main_arg1)
          ∧ r.2.mem ((c.tc : Thread Cert.KvGradRefIdeal.nD Cert.KvGradRefIdeal.τ).loc Cert.KvGradRefIdeal.main_arg2) = m' ((c.tc : Thread Cert.KvGradRefIdeal.nD Cert.KvGradRefIdeal.τ).loc Cert.KvGradRefIdeal.main_arg2)
          ∧ r.2.mem ((c.tc : Thread Cert.KvGradRefIdeal.nD Cert.KvGradRefIdeal.τ).loc Cert.KvGradRefIdeal.main_arg3) = m' ((c.tc : Thread Cert.KvGradRefIdeal.nD Cert.KvGradRefIdeal.τ).loc Cert.KvGradRefIdeal.main_arg3))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v18)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v18) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v17) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_AdamSmall_AdamSmallIdeal : Prop :=
  IdealRules.named_const.Statement Cert.AdamSmallIdeal.κ "bc1" .f32 0x3FC48605#32 ((8388608 / 5463681 : ℝ) : EReal)
  ∧ IdealRules.named_const.Statement Cert.AdamSmallIdeal.κ "bc2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v1) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v15) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def Claim : Prop :=
  ∃ (hMemGrad : Cert.MemGrad.Facts) (hMemGradIdeal : Cert.MemGradIdeal.Facts) (hMemGradRefIdeal : Cert.MemGradRefIdeal.Facts) (hInGrad : Cert.InGrad.Facts) (hInGradIdeal : Cert.InGradIdeal.Facts) (hInGradRefIdeal : Cert.InGradRefIdeal.Facts) (hInWGrad : Cert.InWGrad.Facts) (hInWGradIdeal : Cert.InWGradIdeal.Facts) (hInWGradRefIdeal : Cert.InWGradRefIdeal.Facts) (hGateGrad : Cert.GateGrad.Facts) (hGateGradIdeal : Cert.GateGradIdeal.Facts) (hGateGradRefIdeal : Cert.GateGradRefIdeal.Facts) (hOutWGrad : Cert.OutWGrad.Facts) (hOutWGradIdeal : Cert.OutWGradIdeal.Facts) (hOutWGradRefIdeal : Cert.OutWGradRefIdeal.Facts) (hOutLoss : Cert.OutLoss.Facts) (hOutLossIdeal : Cert.OutLossIdeal.Facts) (hOutLossRefIdeal : Cert.OutLossRefIdeal.Facts) (hInProj : Cert.InProj.Facts) (hInProjIdeal : Cert.InProjIdeal.Facts) (hInProjRefIdeal : Cert.InProjRefIdeal.Facts) (hKvWGrad : Cert.KvWGrad.Facts) (hKvWGradIdeal : Cert.KvWGradIdeal.Facts) (hKvWGradRefIdeal : Cert.KvWGradRefIdeal.Facts) (hKvGrad : Cert.KvGrad.Facts) (hKvGradIdeal : Cert.KvGradIdeal.Facts) (hKvGradRefIdeal : Cert.KvGradRefIdeal.Facts) (hKvProj : Cert.KvProj.Facts) (hKvProjIdeal : Cert.KvProjIdeal.Facts) (hKvProjRefIdeal : Cert.KvProjRefIdeal.Facts) (hAdamSmall : Cert.AdamSmall.Facts) (hAdamSmallIdeal : Cert.AdamSmallIdeal.Facts) (hAdamSmallRefIdeal : Cert.AdamSmallRefIdeal.Facts) (hMemNorm : Cert.MemNorm.Facts) (hMemNormIdeal : Cert.MemNormIdeal.Facts) (hMemNormRefIdeal : Cert.MemNormRefIdeal.Facts) (hPre_mem_finite : Cert.Pre_mem_finite.Facts) (hPre_gate_finite : Cert.Pre_gate_finite.Facts),
    quiescent_MemGrad (hMemGrad := hMemGrad)
    ∧ quiescent_MemGradIdeal (hMemGradIdeal := hMemGradIdeal)
    ∧ quiescent_MemGradIdeal_pre_mem_finite (hMemGradIdeal := hMemGradIdeal) (hPre_mem_finite := hPre_mem_finite)
    ∧ quiescent_MemGradRefIdeal (hMemGradRefIdeal := hMemGradRefIdeal)
    ∧ quiescent_MemGradRefIdeal_pre_mem_finite (hMemGradRefIdeal := hMemGradRefIdeal) (hPre_mem_finite := hPre_mem_finite)
    ∧ quiescent_InGrad (hInGrad := hInGrad)
    ∧ quiescent_InGradIdeal (hInGradIdeal := hInGradIdeal)
    ∧ quiescent_InGradRefIdeal (hInGradRefIdeal := hInGradRefIdeal)
    ∧ quiescent_InWGrad (hInWGrad := hInWGrad)
    ∧ quiescent_InWGradIdeal (hInWGradIdeal := hInWGradIdeal)
    ∧ quiescent_InWGradRefIdeal (hInWGradRefIdeal := hInWGradRefIdeal)
    ∧ quiescent_GateGrad (hGateGrad := hGateGrad)
    ∧ quiescent_GateGradIdeal (hGateGradIdeal := hGateGradIdeal)
    ∧ quiescent_GateGradIdeal_pre_gate_finite (hGateGradIdeal := hGateGradIdeal) (hPre_gate_finite := hPre_gate_finite)
    ∧ quiescent_GateGradRefIdeal (hGateGradRefIdeal := hGateGradRefIdeal)
    ∧ quiescent_GateGradRefIdeal_pre_gate_finite (hGateGradRefIdeal := hGateGradRefIdeal) (hPre_gate_finite := hPre_gate_finite)
    ∧ quiescent_OutWGrad (hOutWGrad := hOutWGrad)
    ∧ quiescent_OutWGradIdeal (hOutWGradIdeal := hOutWGradIdeal)
    ∧ quiescent_OutWGradRefIdeal (hOutWGradRefIdeal := hOutWGradRefIdeal)
    ∧ quiescent_OutLoss (hOutLoss := hOutLoss)
    ∧ quiescent_OutLossIdeal (hOutLossIdeal := hOutLossIdeal)
    ∧ quiescent_OutLossRefIdeal (hOutLossRefIdeal := hOutLossRefIdeal)
    ∧ quiescent_InProj (hInProj := hInProj)
    ∧ quiescent_InProjIdeal (hInProjIdeal := hInProjIdeal)
    ∧ quiescent_InProjRefIdeal (hInProjRefIdeal := hInProjRefIdeal)
    ∧ quiescent_KvWGrad (hKvWGrad := hKvWGrad)
    ∧ quiescent_KvWGradIdeal (hKvWGradIdeal := hKvWGradIdeal)
    ∧ quiescent_KvWGradRefIdeal (hKvWGradRefIdeal := hKvWGradRefIdeal)
    ∧ quiescent_KvGrad (hKvGrad := hKvGrad)
    ∧ quiescent_KvGradIdeal (hKvGradIdeal := hKvGradIdeal)
    ∧ quiescent_KvGradRefIdeal (hKvGradRefIdeal := hKvGradRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ preserves_MemGrad_MemGradIdeal
    ∧ algebraic_MemGradIdeal_MemGradRefIdeal_pre_mem_finite (hMemGradIdeal := hMemGradIdeal) (hMemGradRefIdeal := hMemGradRefIdeal) (hPre_mem_finite := hPre_mem_finite)
    ∧ preserves_InGrad_InGradIdeal
    ∧ algebraic_InGradIdeal_InGradRefIdeal (hInGradIdeal := hInGradIdeal) (hInGradRefIdeal := hInGradRefIdeal)
    ∧ preserves_InWGrad_InWGradIdeal
    ∧ algebraic_InWGradIdeal_InWGradRefIdeal (hInWGradIdeal := hInWGradIdeal) (hInWGradRefIdeal := hInWGradRefIdeal)
    ∧ preserves_GateGrad_GateGradIdeal
    ∧ algebraic_GateGradIdeal_GateGradRefIdeal_pre_gate_finite (hGateGradIdeal := hGateGradIdeal) (hGateGradRefIdeal := hGateGradRefIdeal) (hPre_gate_finite := hPre_gate_finite)
    ∧ preserves_OutWGrad_OutWGradIdeal
    ∧ algebraic_OutWGradIdeal_OutWGradRefIdeal (hOutWGradIdeal := hOutWGradIdeal) (hOutWGradRefIdeal := hOutWGradRefIdeal)
    ∧ preserves_OutLoss_OutLossIdeal
    ∧ algebraic_OutLossIdeal_OutLossRefIdeal (hOutLossIdeal := hOutLossIdeal) (hOutLossRefIdeal := hOutLossRefIdeal)
    ∧ preserves_InProj_InProjIdeal
    ∧ algebraic_InProjIdeal_InProjRefIdeal (hInProjIdeal := hInProjIdeal) (hInProjRefIdeal := hInProjRefIdeal)
    ∧ preserves_KvWGrad_KvWGradIdeal
    ∧ algebraic_KvWGradIdeal_KvWGradRefIdeal (hKvWGradIdeal := hKvWGradIdeal) (hKvWGradRefIdeal := hKvWGradRefIdeal)
    ∧ preserves_KvGrad_KvGradIdeal
    ∧ algebraic_KvGradIdeal_KvGradRefIdeal (hKvGradIdeal := hKvGradIdeal) (hKvGradRefIdeal := hKvGradRefIdeal)
    ∧ preserves_KvProj_KvProjIdeal
    ∧ algebraic_KvProjIdeal_KvProjRefIdeal (hKvProjIdeal := hKvProjIdeal) (hKvProjRefIdeal := hKvProjRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_MemNorm_MemNormIdeal
    ∧ algebraic_MemNormIdeal_MemNormRefIdeal (hMemNormIdeal := hMemNormIdeal) (hMemNormRefIdeal := hMemNormRefIdeal)
-- ==== Pre_gate_finite.lean ====
abbrev S2x2048x768 : Shape := ⟨3, ![2, 2048, 768]⟩
abbrev S2x2048x512 : Shape := ⟨3, ![2, 2048, 512]⟩
abbrev S2x2048x7680 : Shape := ⟨3, ![2, 2048, 7680]⟩
abbrev S1x2048x1024 : Shape := ⟨3, ![1, 2048, 1024]⟩
abbrev S2x2048x1024 : Shape := ⟨3, ![2, 2048, 1024]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_arg5 : FVec F S2x2048x1024 .f32) (main_v13 : IVec S_ 1) (main_v16 : IVec S1x2048x1024 1) : IVec S_ 1 :=
  let main_c_5 : IVec S_ 1 := constantI S_ 1 1#1
  let main_v17 : IVec S_ 1 := (fun x v => Host.reduce IntOp.andi x v reducesTo_S1x2048x1024_S_d0_1_2 h_S_) main_v16 main_c_5
  let main_v18 : IVec S_ 1 := andi main_v13 main_v17
  let main_v19 : FVec F S2x2048x1024 .f32 := Host.absf main_arg5
  let main_cst_6 : FVec F S_ .f32 := constant S_ .f32 0x7F800000#32
  let main_v20 : FVec F S2x2048x1024 .f32 := broadcastInDim S2x2048x1024 ![] bcast_S_S2x2048x1024 main_cst_6
  let main_v21 : IVec S2x2048x1024 1 := cmpf .olt main_v19 main_v20
  let main_c_7 : IVec S_ 1 := constantI S_ 1 1#1
  let main_v22 : IVec S_ 1 := (fun x v => Host.reduce IntOp.andi x v reducesTo_S2x2048x1024_S_d0_1_2 h_S_) main_v21 main_c_7
  let main_v23 : IVec S_ 1 := andi main_v18 main_v22
  main_v23

def fn {F : FTy → Type} [FloatOps F] (main_arg0 : FVec F S2x2048x768 .f32) (main_arg1 : FVec F S2x2048x768 .f32) (main_arg2 : FVec F S2x2048x512 .f32) (main_arg3 : FVec F S2x2048x7680 .bf16) (main_arg4 : FVec F S1x2048x1024 .f32) (main_arg5 : FVec F S2x2048x1024 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S2x2048x768 .f32 := Host.absf main_arg1
  let main_cst_0 : FVec F S_ .f32 := constant S_ .f32 0x7F800000#32
  let main_v5 : FVec F S2x2048x768 .f32 := broadcastInDim S2x2048x768 ![] bcast_S_S2x2048x768 main_cst_0
  let main_v6 : IVec S2x2048x768 1 := cmpf .olt main_v4 main_v5
  let main_c_1 : IVec S_ 1 := constantI S_ 1 1#1
  let main_v7 : IVec S_ 1 := (fun x v => Host.reduce IntOp.andi x v reducesTo_S2x2048x768_S_d0_1_2 h_S_) main_v6 main_c_1
  let main_v8 : IVec S_ 1 := andi main_v3 main_v7
  let main_v9 : FVec F S2x2048x512 .f32 := Host.absf main_arg2
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  let main_c_3 : IVec S_ 1 := constantI S_ 1 1#1
  let main_v12 : IVec S_ 1 := (fun x v => Host.reduce IntOp.andi x v reducesTo_S2x2048x512_S_d0_1_2 h_S_) main_v11 main_c_3
  let main_v13 : IVec S_ 1 := andi main_v8 main_v12
  let main_v14 : FVec F S1x2048x1024 .f32 := Host.absf main_arg4
  let main_cst_4 : FVec F S_ .f32 := constant S_ .f32 0x7F800000#32
  let main_v15 : FVec F S1x2048x1024 .f32 := broadcastInDim S1x2048x1024 ![] bcast_S_S1x2048x1024 main_cst_4
  let main_v16 : IVec S1x2048x1024 1 := cmpf .olt main_v14 main_v15
  fn_part1 (F := F) main_arg5 main_v13 main_v16
-- ==== Pre_mem_finite.lean ====
abbrev S2x2048x7680 : Shape := ⟨3, ![2, 2048, 7680]⟩
abbrev S2x256x1024 : Shape := ⟨3, ![2, 256, 1024]⟩
abbrev S2x2048x2048 : Shape := ⟨3, ![2, 2048, 2048]⟩
abbrev S_ : Shape := ⟨0, ![]⟩

class Facts : Prop where
  bitsLt_bf16_f32 : FTy.bits .bf16 < FTy.bits .f32
  bcast_S_S2x2048x7680 : S_.BroadcastsInDim S2x2048x7680 (![] : Fin 0 → Fin S2x2048x7680.rank)
  reducesTo_S2x2048x7680_S_d0_1_2 : S2x2048x7680.ReducesTo [0, 1, 2] S_
  h_S_ : 0 < S_.numel
  bcast_S_S2x256x1024 : S_.BroadcastsInDim S2x256x1024 (![] : Fin 0 → Fin S2x256x1024.rank)
  reducesTo_S2x256x1024_S_d0_1_2 : S2x256x1024.ReducesTo [0, 1, 2] S_
  bcast_S_S2x2048x2048 : S_.BroadcastsInDim S2x2048x2048 (![] : Fin 0 → Fin S2x2048x2048.rank)
  reducesTo_S2x2048x2048_S_d0_1_2 : S2x2048x2048.ReducesTo [0, 1, 2] S_

variable [Facts]

def fn {F : FTy → Type} [FloatOps F] (main_arg0 : FVec F S2x2048x7680 .bf16) (main_arg1 : FVec F S2x256x1024 .bf16) (main_arg2 : FVec F S2x2048x2048 .bf16) : IVec S_ 1 :=
  let main_v0 : FVec F S2x2048x7680 .f32 := (extf .f32 · bitsLt_bf16_f32) main_arg0
  let main_v1 : FVec F S2x2048x7680 .f32 := Host.absf main_v0
  let main_cst : FVec F S_ .f32 := constant S_ .f32 0x7F800000#32
  let main_v2 : FVec F S2x2048x7680 .f32 := broadcastInDim S2x2048x7680 ![] bcast_S_S2x2048x7680 main_cst
  let main_v3 : IVec S2x2048x7680 1 := cmpf .olt main_v1 main_v2
  let main_c : IVec S_ 1 := constantI S_ 1 1#1
  let main_v4 : IVec S_ 1 := (fun x v => Host.reduce IntOp.andi x v reducesTo_S2x2048x7680_S_d0_1_2 h_S_) main_v3 main_c
  let main_v5 : FVec F S2x256x1024 .f32 := (extf .f32 · bitsLt_bf16_f32) main_arg1
  let main_v6 : FVec F S2x256x1024 .f32 := Host.absf main_v5
  let main_cst_0 : FVec F S_ .f32 := constant S_ .f32 0x7F800000#32
  let main_v7 : FVec F S2x256x1024 .f32 := broadcastInDim S2x256x1024 ![] bcast_S_S2x256x1024 main_cst_0
  let main_v8 : IVec S2x256x1024 1 := cmpf .olt main_v6 main_v7
  let main_c_1 : IVec S_ 1 := constantI S_ 1 1#1
  let main_v9 : IVec S_ 1 := (fun x v => Host.reduce IntOp.andi x v reducesTo_S2x256x1024_S_d0_1_2 h_S_) main_v8 main_c_1
  let main_v10 : IVec S_ 1 := andi main_v4 main_v9
  let main_v11 : FVec F S2x2048x2048 .f32 := (extf .f32 · bitsLt_bf16_f32) main_arg2
  let main_v12 : FVec F S2x2048x2048 .f32 := Host.absf main_v11
  let main_cst_2 : FVec F S_ .f32 := constant S_ .f32 0x7F800000#32
  let main_v13 : FVec F S2x2048x2048 .f32 := broadcastInDim S2x2048x2048 ![] bcast_S_S2x2048x2048 main_cst_2
  let main_v14 : IVec S2x2048x2048 1 := cmpf .olt main_v12 main_v13
  let main_c_3 : IVec S_ 1 := constantI S_ 1 1#1
  let main_v15 : IVec S_ 1 := (fun x v => Host.reduce IntOp.andi x v reducesTo_S2x2048x2048_S_d0_1_2 h_S_) main_v14 main_c_3
  let main_v16 : IVec S_ 1 := andi main_v10 main_v15
  main_v16
-- ==== MemGrad.lean ====
abbrev S2x2048x7680 : Shape := ⟨3, ![2, 2048, 7680]⟩
abbrev S2x256x1024 : Shape := ⟨3, ![2, 256, 1024]⟩
abbrev S2x2048x2048 : Shape := ⟨3, ![2, 2048, 2048]⟩
abbrev S2x2048x512 : Shape := ⟨3, ![2, 2048, 512]⟩
abbrev S1x2048x128 : Shape := ⟨3, ![1, 2048, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S2x256x512 : Shape := ⟨3, ![2, 256, 512]⟩

abbrev nBuf : Space → Nat
  | .hbm => 8
  | .vmem => 28
  | .smem => 0
  | _ => 0

abbrev bufTy : (tb : Table) → Fin (tcTables nBuf tb) → BufTy
  | .hbm, ⟨0, _⟩ => ⟨S2x2048x7680, .bf16⟩
  | .hbm, ⟨1, _⟩ => ⟨S2x256x1024, .bf16⟩
  | .hbm, ⟨2, _⟩ => ⟨S2x2048x2048, .bf16⟩
  | .hbm, ⟨3, _⟩ => ⟨S2x2048x512, .f32⟩
  | .hbm, ⟨4, _⟩ => ⟨S2x2048x512, .f32⟩
  | .hbm, ⟨5, _⟩ => ⟨S2x2048x512, .bf16⟩
  | .hbm, ⟨6, _⟩ => ⟨S2x256x512, .f32⟩
  | .hbm, ⟨7, _⟩ => ⟨S2x256x512, .f32⟩
  | .local _ .vmem, ⟨0, _⟩ => ⟨S1x2048x128, .bf16⟩
  | .local _ .vmem, ⟨1, _⟩ => ⟨S1x2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .bf16⟩
  | .local _ .vmem, ⟨11, _⟩ => ⟨S1x2048x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .f32⟩
  | .local _ .vmem, ⟨19, _⟩ => ⟨S1x2048x128, .f32⟩
  | .local _ .vmem, ⟨20, _⟩ => ⟨S1x2048x128, .f32⟩
  | .local _ .vmem, ⟨21, _⟩ => ⟨S1x2048x128, .f32⟩
  | .local _ .vmem, ⟨22, _⟩ => ⟨S1x2048x128, .bf16⟩
  | .local _ .vmem, ⟨23, _⟩ => ⟨S1x2048x128, .bf16⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | _, _ => ⟨S2x2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c2_i32 : BitVec 32 := 2#32
  let v4 : BitVec 32 := Scalar.addi c0_i32 c2_i32
  let c1_i32 : BitVec 32 := 1#32
  ⟨c0_i32, v4, c1_i32⟩
def k0_mult1 (k0_t1 : Fin k0_t1_loop.trips) : BitVec 32 :=
  let c4_i32 : BitVec 32 := 4#32
  let c0_i32 : BitVec 32 := 0#32
  let c1_i32 : BitVec 32 := 1#32
  let arg7 : BitVec 32 := Scf.iv c0_i32 c1_i32 k0_t1
  let v5 : BitVec 32 := Scalar.muli c4_i32 arg7
  let c0_i32_6 : BitVec 32 := 0#32
  let v6 : BitVec 32 := Scalar.addi v5 c0_i32_6
  let c256_i32 : BitVec 32 := 256#32
  let v7 : BitVec 32 := Scalar.muli v6 c256_i32
  v7
def k0_mult2 (k0_t1 : Fin k0_t1_loop.trips) : BitVec 32 :=
  let c4_i32_7 : BitVec 32 := 4#32
  let c0_i32 : BitVec 32 := 0#32
  let c1_i32 : BitVec 32 := 1#32
  let arg7 : BitVec 32 := Scf.iv c0_i32 c1_i32 k0_t1
  let v9 : BitVec 32 := Scalar.muli c4_i32_7 arg7
  let c1_i32_8 : BitVec 32 := 1#32
  let v10 : BitVec 32 := Scalar.addi v9 c1_i32_8
  let c256_i32_9 : BitVec 32 := 256#32
  let v11 : BitVec 32 := Scalar.muli v10 c256_i32_9
  v11
def k0_mult3 (k0_t1 : Fin k0_t1_loop.trips) : BitVec 32 :=
  let c4_i32_10 : BitVec 32 := 4#32
  let c0_i32 : BitVec 32 := 0#32
  let c1_i32 : BitVec 32 := 1#32
  let arg7 : BitVec 32 := Scf.iv c0_i32 c1_i32 k0_t1
  let v13 : BitVec 32 := Scalar.muli c4_i32_10 arg7
  let c2_i32_11 : BitVec 32 := 2#32
  let v14 : BitVec 32 := Scalar.addi v13 c2_i32_11
  let c256_i32_12 : BitVec 32 := 256#32
  let v15 : BitVec 32 := Scalar.muli v14 c256_i32_12
  v15
def k0_mult4 (k0_t1 : Fin k0_t1_loop.trips) : BitVec 32 :=
  let c4_i32_13 : BitVec 32 := 4#32
  let c0_i32 : BitVec 32 := 0#32
  let c1_i32 : BitVec 32 := 1#32
  let arg7 : BitVec 32 := Scf.iv c0_i32 c1_i32 k0_t1
  let v17 : BitVec 32 := Scalar.muli c4_i32_13 arg7
  let c3_i32 : BitVec 32 := 3#32
  let v18 : BitVec 32 := Scalar.addi v17 c3_i32
  let c256_i32_14 : BitVec 32 := 256#32
  let v19 : BitVec 32 := Scalar.muli v18 c256_i32_14
  v19
def k0_off1 (k0_t1 : Fin k0_t1_loop.trips) (c0_i32_6 : BitVec 32) : Fin 3 → Nat :=
  let c0_15 : Index := 0#32
  let c4_i32 : BitVec 32 := 4#32
  let c0_i32 : BitVec 32 := 0#32
  let c1_i32 : BitVec 32 := 1#32
  let arg7 : BitVec 32 := Scf.iv c0_i32 c1_i32 k0_t1
  let v5 : BitVec 32 := Scalar.muli c4_i32 arg7
  let v6 : BitVec 32 := Scalar.addi v5 c0_i32_6
  let c256_i32 : BitVec 32 := 256#32
  let v7 : BitVec 32 := Scalar.muli v6 c256_i32
  let v8 : BitVec 32 := v7
  let v21 : Index := Scalar.indexCast v8
  let c0_16 : Index := 0#32
  ![0, v21.toNat, 0]
def cc0_transform_0 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 4], ![false, false]⟩

@[reducible] def k1_t1_loop : Scf.Loop 32 :=
  let c0_i32 : BitVec 32 := 0#32
  let c2_i32 : BitVec 32 := 2#32
  let v7 : BitVec 32 := Scalar.addi c0_i32 c2_i32
  let c1_i32 : BitVec 32 := 1#32
  ⟨c0_i32, v7, c1_i32⟩
def k1_mult1 (k1_t1 : Fin k1_t1_loop.trips) : BitVec 32 :=
  let c4_i32 : BitVec 32 := 4#32
  let c0_i32 : BitVec 32 := 0#32
  let c1_i32 : BitVec 32 := 1#32
  let arg11 : BitVec 32 := Scf.iv c0_i32 c1_i32 k1_t1
  let v15 : BitVec 32 := Scalar.muli c4_i32 arg11
  let c0_i32_13 : BitVec 32 := 0#32
  let v16 : BitVec 32 := Scalar.addi v15 c0_i32_13
  let c256_i32 : BitVec 32 := 256#32
  let v17 : BitVec 32 := Scalar.muli v16 c256_i32
  v17
def k1_mult2 (k1_t1 : Fin k1_t1_loop.trips) : BitVec 32 :=
  let c4_i32_14 : BitVec 32 := 4#32
  let c0_i32 : BitVec 32 := 0#32
  let c1_i32 : BitVec 32 := 1#32
  let arg11 : BitVec 32 := Scf.iv c0_i32 c1_i32 k1_t1
  let v19 : BitVec 32 := Scalar.muli c4_i32_14 arg11
  let c1_i32_15 : BitVec 32 := 1#32
  let v20 : BitVec 32 := Scalar.addi v19 c1_i32_15
  let c256_i32_16 : BitVec 32 := 256#32
  let v21 : BitVec 32 := Scalar.muli v20 c256_i32_16
  v21
def k1_mult3 (k1_t1 : Fin k1_t1_loop.trips) : BitVec 32 :=
  let c4_i32_17 : BitVec 32 := 4#32
  let c0_i32 : BitVec 32 := 0#32
  let c1_i32 : BitVec 32 := 1#32
  let arg11 : BitVec 32 := Scf.iv c0_i32 c1_i32 k1_t1
  let v23 : BitVec 32 := Scalar.muli c4_i32_17 arg11
  let c2_i32_18 : BitVec 32 := 2#32
  let v24 : BitVec 32 := Scalar.addi v23 c2_i32_18
  let c256_i32_19 : BitVec 32 := 256#32
  let v25 : BitVec 32 := Scalar.muli v24 c256_i32_19
  v25
def k1_mult4 (k1_t1 : Fin k1_t1_loop.trips) : BitVec 32 :=
  let c4_i32_20 : BitVec 32 := 4#32
  let c0_i32 : BitVec 32 := 0#32
  let c1_i32 : BitVec 32 := 1#32
  let arg11 : BitVec 32 := Scf.iv c0_i32 c1_i32 k1_t1
  let v27 : BitVec 32 := Scalar.muli c4_i32_20 arg11
  let c3_i32 : BitVec 32 := 3#32
  let v28 : BitVec 32 := Scalar.addi v27 c3_i32
  let c256_i32_21 : BitVec 32 := 256#32
  let v29 : BitVec 32 := Scalar.muli v28 c256_i32_21
  v29
def k1_off1 (k1_t1 : Fin k1_t1_loop.trips) (c0_i32_13 : BitVec 32) : Fin 3 → Nat :=
  let c0_22 : Index := 0#32
  let c4_i32 : BitVec 32 := 4#32
  let c0_i32 : BitVec 32 := 0#32
  let c1_i32 : BitVec 32 := 1#32
  let arg11 : BitVec 32 := Scf.iv c0_i32 c1_i32 k1_t1
  let v15 : BitVec 32 := Scalar.muli c4_i32 arg11
  let v16 : BitVec 32 := Scalar.addi v15 c0_i32_13
  let c256_i32 : BitVec 32 := 256#32
  let v17 : BitVec 32 := Scalar.muli v16 c256_i32
  let v18 : BitVec 32 := v17
  let v31 : Index := Scalar.indexCast v18
  let c0_23 : Index := 0#32
  ![0, v31.toNat, 0]
def cc1_transform_0 (i : grid1.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x2048x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== MemGradIdeal.lean ====
variable {F : FTy → Type} [FloatOps F] [Named F]
def κ : String → Option EReal := fun
  | "mem_scale" => some (((Real.sqrt 128)⁻¹ : ℝ) : EReal)
  | _ => none
-- ==== MemGradRefIdeal.lean ====
abbrev S2x2048x7680 : Shape := ⟨3, ![2, 2048, 7680]⟩
abbrev S2x256x1024 : Shape := ⟨3, ![2, 256, 1024]⟩
abbrev S2x2048x2048 : Shape := ⟨3, ![2, 2048, 2048]⟩
abbrev S2x2048x512 : Shape := ⟨3, ![2, 2048, 512]⟩
abbrev S2x2048x4x128 : Shape := ⟨4, ![2, 2048, 4, 128]⟩
abbrev S2x256x512 : Shape := ⟨3, ![2, 256, 512]⟩
abbrev S2x256x4x128 : Shape := ⟨4, ![2, 256, 4, 128]⟩
abbrev S_ : Shape := ⟨0, ![]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 91
  | .vmem => 0
  | .smem => 0
  | _ => 0

abbrev bufTy : (tb : Table) → Fin (tcTables nBuf tb) → BufTy
  | .hbm, ⟨0, _⟩ => ⟨S2x2048x7680, .bf16⟩
  | .hbm, ⟨1, _⟩ => ⟨S2x256x1024, .bf16⟩
  | .hbm, ⟨2, _⟩ => ⟨S2x2048x2048, .bf16⟩
  | .hbm, ⟨3, _⟩ => ⟨S2x2048x512, .bf16⟩
  | .hbm, ⟨4, _⟩ => ⟨S2x2048x512, .f32⟩
  | .hbm, ⟨5, _⟩ => ⟨S2x2048x4x128, .f32⟩
  | .hbm, ⟨6, _⟩ => ⟨S2x256x512, .bf16⟩
  | .hbm, ⟨7, _⟩ => ⟨S2x256x512, .f32⟩
  | .hbm, ⟨8, _⟩ => ⟨S2x256x4x128, .f32⟩
  | .hbm, ⟨9, _⟩ => ⟨S2x256x512, .bf16⟩
  | .hbm, ⟨10, _⟩ => ⟨S2x256x512, .f32⟩
  | .hbm, ⟨11, _⟩ => ⟨S2x256x4x128, .f32⟩
  | .hbm, ⟨12, _⟩ => ⟨S2x2048x512, .bf16⟩
  | .hbm, ⟨13, _⟩ => ⟨S2x2048x512, .f32⟩
  | .hbm, ⟨14, _⟩ => ⟨S2x2048x4x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x4x2048x256, .f32⟩
  | .hbm, ⟨20, _⟩ => ⟨S2x4x2048x256, .f32⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S2x4x2048x1, .f32⟩
  | .hbm, ⟨25, _⟩ => ⟨S2x4x2048x256, .f32⟩
  | .hbm, ⟨26, _⟩ => ⟨S2x4x2048x256, .i1⟩
  | .hbm, ⟨27, _⟩ => ⟨S2x4x2048x256, .f32⟩
  | .hbm, ⟨28, _⟩ => ⟨S_, .f32⟩
  | .hbm, ⟨29, _⟩ => ⟨S2x4x2048, .f32⟩
  | .hbm, ⟨30, _⟩ => ⟨S_, .f32⟩
  | .hbm, ⟨31, _⟩ => ⟨S2x4x2048, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S2x4x2048, .i1⟩
  | .hbm, ⟨36, _⟩ => ⟨S_, .f32⟩
  | .hbm, ⟨37, _⟩ => ⟨S2x4x2048, .f32⟩
  | .hbm, ⟨38, _⟩ => ⟨S2x4x2048, .i1⟩
  | .hbm, ⟨39, _⟩ => ⟨S_, .f32⟩
  | .hbm, ⟨40, _⟩ => ⟨S2x4x2048, .f32⟩
  | .hbm, ⟨41, _⟩ => ⟨S_, .f32⟩
  | .hbm, ⟨42, _⟩ => ⟨S2x4x2048, .f32⟩
  | .hbm, ⟨43, _⟩ => ⟨S_, .f32⟩
  | .hbm, ⟨44, _⟩ => ⟨S2x4x2048, .f32⟩
  | .hbm, ⟨45, _⟩ => ⟨S2x4x2048, .f32⟩
  | .hbm, ⟨46, _⟩ => ⟨S2x4x2048, .f32⟩
  | .hbm, ⟨47, _⟩ => ⟨S2x4x2048x1, .f32⟩
  | .hbm, ⟨48, _⟩ => ⟨S2x4x2048x256, .f32⟩
  | .hbm, ⟨49, _⟩ => ⟨S2x4x2048x256, .f32⟩
  | .hbm, ⟨50, _⟩ => ⟨S2x4x2048x256, .f32⟩
  | .hbm, ⟨51, _⟩ => ⟨S_, .f32⟩
  | .hbm, ⟨52, _⟩ => ⟨S2x4x2048, .f32⟩
  | .hbm, ⟨53, _⟩ => ⟨S2x4x2048x1, .f32⟩
  | .hbm, ⟨54, _⟩ => ⟨S2x4x2048x256, .f32⟩
  | .hbm, ⟨55, _⟩ => ⟨S2x4x2048x256, .f32⟩
  | .hbm, ⟨56, _⟩ => ⟨S2x4x2048x1, .f32⟩
  | .hbm, ⟨57, _⟩ => ⟨S_, .f32⟩
  | .hbm, ⟨58, _⟩ => ⟨S2x4x2048x1, .f32⟩
  | .hbm, ⟨59, _⟩ => ⟨S2x4x2048x1, .f32⟩
  | .hbm, ⟨60, _⟩ => ⟨S2x4x128x2048, .f32⟩
  | .hbm, ⟨61, _⟩ => ⟨S2x2048x4x128, .f32⟩
  | .hbm, ⟨62, _⟩ => ⟨S2x4x128x2048, .f32⟩
  | .hbm, ⟨63, _⟩ => ⟨S2x4x2048x256, .f32⟩
  | .hbm, ⟨64, _⟩ => ⟨S2x4x128x256, .f32⟩
  | .hbm, ⟨65, _⟩ => ⟨S2x256x4x128, .f32⟩
  | .hbm, ⟨66, _⟩ => ⟨S2x4x2048x256, .f32⟩
  | .hbm, ⟨67, _⟩ => ⟨S2x4x2048x256, .f32⟩
  | .hbm, ⟨68, _⟩ => ⟨S2x4x2048x256, .f32⟩
  | .hbm, ⟨69, _⟩ => ⟨S_, .f32⟩
  | .hbm, ⟨70, _⟩ => ⟨S2x4x2048, .f32⟩
  | .hbm, ⟨71, _⟩ => ⟨S2x4x2048x1, .f32⟩
  | .hbm, ⟨72, _⟩ => ⟨S2x4x2048x1, .f32⟩
  | .hbm, ⟨73, _⟩ => ⟨S2x4x2048x256, .f32⟩
  | .hbm, ⟨74, _⟩ => ⟨S2x4x2048x256, .f32⟩
  | .hbm, ⟨75, _⟩ => ⟨S_, .f32⟩
  | .hbm, ⟨76, _⟩ => ⟨S2x4x2048, .f32⟩
  | .hbm, ⟨77, _⟩ => ⟨S2x4x2048x256, .f32⟩
  | .hbm, ⟨78, _⟩ => ⟨S2x4x2048x256, .f32⟩
  | .hbm, ⟨79, _⟩ => ⟨S2x4x2048x256, .f32⟩
  | .hbm, ⟨80, _⟩ => ⟨S2x4x2048x256, .f32⟩
  | .hbm, ⟨81, _⟩ => ⟨S2x4x2048x256, .f32⟩
  | .hbm, ⟨82, _⟩ => ⟨S2x4x256x128, .f32⟩
  | .hbm, ⟨83, _⟩ => ⟨S2x256x4x128, .f32⟩
  | .hbm, ⟨84, _⟩ => ⟨S2x4x2048x128, .f32⟩
  | .hbm, ⟨85, _⟩ => ⟨S2x2048x4x128, .f32⟩
  | .hbm, ⟨86, _⟩ => ⟨S2x2048x512, .f32⟩
  | .hbm, ⟨87, _⟩ => ⟨S2x2048x512, .f32⟩
  | .hbm, ⟨88, _⟩ => ⟨S2x2048x512, .bf16⟩
  | .hbm, ⟨89, _⟩ => ⟨S2x256x512, .f32⟩
  | .hbm, ⟨90, _⟩ => ⟨S2x256x512, .f32⟩
  | _, _ => ⟨S2x2048x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== InGrad.lean ====
abbrev S2x2048x1024 : Shape := ⟨3, ![2, 2048, 1024]⟩
abbrev S1x1024 : Shape := ⟨2, ![1, 1024]⟩
abbrev S1x1024x7180 : Shape := ⟨3, ![1, 1024, 7180]⟩
abbrev S2x2048x7180 : Shape := ⟨3, ![2, 2048, 7180]⟩
abbrev S4096x1024 : Shape := ⟨2, ![4096, 1024]⟩
abbrev S1024x7180 : Shape := ⟨2, ![1024, 7180]⟩
abbrev S1024x1795 : Shape := ⟨2, ![1024, 1795]⟩
abbrev S_ : Shape := ⟨0, ![]⟩
abbrev S1024x500 : Shape := ⟨2, ![1024, 500]⟩
abbrev S1024x1277 : Shape := ⟨2, ![1024, 1277]⟩
abbrev S1024x506 : Shape := ⟨2, ![1024, 506]⟩
abbrev S1024x12 : Shape := ⟨2, ![1024, 12]⟩
abbrev S1024x7680 : Shape := ⟨2, ![1024, 7680]⟩
abbrev S4096x7180 : Shape := ⟨2, ![4096, 7180]⟩
abbrev S4096x1795 : Shape := ⟨2, ![4096, 1795]⟩
abbrev S4096x500 : Shape := ⟨2, ![4096, 500]⟩
abbrev S4096x1277 : Shape := ⟨2, ![4096, 1277]⟩
abbrev S4096x506 : Shape := ⟨2, ![4096, 506]⟩
abbrev S4096x12 : Shape := ⟨2, ![4096, 12]⟩
abbrev S4096x7680 : Shape := ⟨2, ![4096, 7680]⟩
abbrev S8x1024 : Shape := ⟨2, ![8, 1024]⟩
abbrev S256x7680 : Shape := ⟨2, ![256, 7680]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 32
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x7180, .f32⟩
  | .hbm, ⟨3, _⟩ => ⟨S2x2048x7180, .bf16⟩
  | .hbm, ⟨4, _⟩ => ⟨S2x2048x1024, .f32⟩
  | .hbm, ⟨5, _⟩ => ⟨S4096x1024, .f32⟩
  | .hbm, ⟨6, _⟩ => ⟨S1024x7180, .f32⟩
  | .hbm, ⟨7, _⟩ => ⟨S1024x7180, .bf16⟩
  | .hbm, ⟨8, _⟩ => ⟨S1024x1795, .bf16⟩
  | .hbm, ⟨9, _⟩ => ⟨S1024x1795, .bf16⟩
  | .hbm, ⟨10, _⟩ => ⟨S1024x1795, .bf16⟩
  | .hbm, ⟨11, _⟩ => ⟨S1024x1795, .bf16⟩
  | .hbm, ⟨12, _⟩ => ⟨S_, .bf16⟩
  | .hbm, ⟨13, _⟩ => ⟨S1024x500, .bf16⟩
  | .hbm, ⟨14, _⟩ => ⟨S1024x1277, .bf16⟩
  | .hbm, ⟨15, _⟩ => ⟨S1024x506, .bf16⟩
  | .hbm, ⟨16, _⟩ => ⟨S1024x12, .bf16⟩
  | .hbm, ⟨17, _⟩ => ⟨S1024x7680, .bf16⟩
  | .hbm, ⟨18, _⟩ => ⟨S4096x7180, .bf16⟩
  | .hbm, ⟨19, _⟩ => ⟨S4096x1795, .bf16⟩
  | .hbm, ⟨20, _⟩ => ⟨S4096x1795, .bf16⟩
  | .hbm, ⟨21, _⟩ => ⟨S4096x1795, .bf16⟩
  | .hbm, ⟨22, _⟩ => ⟨S4096x1795, .bf16⟩
  | .hbm, ⟨23, _⟩ => ⟨S_, .bf16⟩
  | .hbm, ⟨24, _⟩ => ⟨S4096x500, .bf16⟩
  | .hbm, ⟨25, _⟩ => ⟨S4096x1277, .bf16⟩
  | .hbm, ⟨26, _⟩ => ⟨S4096x506, .bf16⟩
  | .hbm, ⟨27, _⟩ => ⟨S4096x12, .bf16⟩
  | .hbm, ⟨28, _⟩ => ⟨S4096x7680, .bf16⟩
  | .hbm, ⟨29, _⟩ => ⟨S4096x1024, .f32⟩
  | .hbm, ⟨30, _⟩ => ⟨S4096x1024, .f32⟩
  | .hbm, ⟨31, _⟩ => ⟨S8x1024, .f32⟩
  | .local _ .vmem, ⟨0, _⟩ => ⟨S256x7680, .bf16⟩
  | .local _ .vmem, ⟨1, _⟩ => ⟨S256x7680, .bf16⟩
  | .local _ .vmem, ⟨2, _⟩ => ⟨S1024x7680, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7680 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InGradRefIdeal.lean ====
abbrev S2x2048x1024 : Shape := ⟨3, ![2, 2048, 1024]⟩
abbrev S1x1024 : Shape := ⟨2, ![1, 1024]⟩
abbrev S1x1024x7180 : Shape := ⟨3, ![1, 1024, 7180]⟩
abbrev S2x2048x7180 : Shape := ⟨3, ![2, 2048, 7180]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x7180 : Shape := ⟨2, ![1024, 7180]⟩
abbrev S7180x1024 : Shape := ⟨2, ![7180, 1024]⟩
abbrev S4096x1024 : Shape := ⟨2, ![4096, 1024]⟩
abbrev S8x1024 : Shape := ⟨2, ![8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x7180, .f32⟩
  | .hbm, ⟨3, _⟩ => ⟨S2x2048x7180, .bf16⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x7180, .f32⟩
  | .hbm, ⟨27, _⟩ => ⟨S2x2048x7180, .f32⟩
  | .hbm, ⟨28, _⟩ => ⟨S2x2048x7180, .f32⟩
  | .hbm, ⟨29, _⟩ => ⟨S7180x1024, .f32⟩
  | .hbm, ⟨30, _⟩ => ⟨S1024x7180, .f32⟩
  | .hbm, ⟨31, _⟩ => ⟨S2x2048x1024, .f32⟩
  | .hbm, ⟨32, _⟩ => ⟨S1x1024x7180, .f32⟩
  | .hbm, ⟨33, _⟩ => ⟨S2x2048x1024, .f32⟩
  | .hbm, ⟨34, _⟩ => ⟨S_, .f32⟩
  | .hbm, ⟨35, _⟩ => ⟨S1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S1024, .f32⟩
  | .hbm, ⟨41, _⟩ => ⟨S2x2048x1024, .f32⟩
  | .hbm, ⟨42, _⟩ => ⟨S_, .f32⟩
  | .hbm, ⟨43, _⟩ => ⟨S2x2048, .f32⟩
  | .hbm, ⟨44, _⟩ => ⟨S2x2048x1, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1, .f32⟩
  | .hbm, ⟨49, _⟩ => ⟨S_, .f32⟩
  | .hbm, ⟨50, _⟩ => ⟨S2x2048x1, .f32⟩
  | .hbm, ⟨51, _⟩ => ⟨S2x2048x1, .f32⟩
  | .hbm, ⟨52, _⟩ => ⟨S_, .f32⟩
  | .hbm, ⟨53, _⟩ => ⟨S2x2048, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S1x1024, .f32⟩
  | .hbm, ⟨60, _⟩ => ⟨S4096x1024, .f32⟩
  | .hbm, ⟨61, _⟩ => ⟨S_, .i32⟩
  | .hbm, ⟨62, _⟩ => ⟨S_, .f32⟩
  | .hbm, ⟨63, _⟩ => ⟨S8x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_call0_v0 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== InWGrad.lean ====
abbrev S2x2048x1024 : Shape := ⟨3, ![2, 2048, 1024]⟩
abbrev S1x1024 : Shape := ⟨2, ![1, 1024]⟩
abbrev S2x2048x7180 : Shape := ⟨3, ![2, 2048, 7180]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S4096x7180 : Shape := ⟨2, ![4096, 7180]⟩
abbrev S4096x1795 : Shape := ⟨2, ![4096, 1795]⟩
abbrev S4096x500 : Shape := ⟨2, ![4096, 500]⟩
abbrev S4096x1277 : Shape := ⟨2, ![4096, 1277]⟩
abbrev S4096x506 : Shape := ⟨2, ![4096, 506]⟩
abbrev S4096x12 : Shape := ⟨2, ![4096, 12]⟩
abbrev S4096x7680 : Shape := ⟨2, ![4096, 7680]⟩
abbrev S1024x7680 : Shape := ⟨2, ![1024, 7680]⟩
abbrev S4096x768 : Shape := ⟨2, ![4096, 768]⟩
abbrev S1024x768 : Shape := ⟨2, ![1024, 768]⟩
abbrev S4096x256 : Shape := ⟨2, ![4096, 256]⟩
abbrev S256x768 : Shape := ⟨2, ![256, 768]⟩

abbrev nBuf : Space → Nat
  | .hbm => 34
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x2048x7180, .bf16⟩
  | .hbm, ⟨3, _⟩ => ⟨S1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x1024, .bf16⟩
  | .hbm, ⟨21, _⟩ => ⟨S4096x1024, .bf16⟩
  | .hbm, ⟨22, _⟩ => ⟨S4096x7180, .bf16⟩
  | .hbm, ⟨23, _⟩ => ⟨S4096x1795, .bf16⟩
  | .hbm, ⟨24, _⟩ => ⟨S4096x1795, .bf16⟩
  | .hbm, ⟨25, _⟩ => ⟨S4096x1795, .bf16⟩
  | .hbm, ⟨26, _⟩ => ⟨S4096x1795, .bf16⟩
  | .hbm, ⟨27, _⟩ => ⟨S_, .bf16⟩
  | .hbm, ⟨28, _⟩ => ⟨S4096x500, .bf16⟩
  | .hbm, ⟨29, _⟩ => ⟨S4096x1277, .bf16⟩
  | .hbm, ⟨30, _⟩ => ⟨S4096x506, .bf16⟩
  | .hbm, ⟨31, _⟩ => ⟨S4096x12, .bf16⟩
  | .hbm, ⟨32, _⟩ => ⟨S4096x7680, .bf16⟩
  | .hbm, ⟨33, _⟩ => ⟨S1024x7680, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .bf16⟩
  | .local _ .vmem, ⟨4, _⟩ => ⟨S1024x768, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWGradRefIdeal.lean ====
abbrev S2x2048x1024 : Shape := ⟨3, ![2, 2048, 1024]⟩
abbrev S1x1024 : Shape := ⟨2, ![1, 1024]⟩
abbrev S2x2048x7180 : Shape := ⟨3, ![2, 2048, 7180]⟩
abbrev S_ : Shape := ⟨0, ![]⟩
abbrev S1024x7180 : Shape := ⟨2, ![1024, 7180]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S7180x1024 : Shape := ⟨2, ![7180, 1024]⟩
abbrev S1024x3072 : Shape := ⟨2, ![1024, 3072]⟩
abbrev S1024x4096 : Shape := ⟨2, ![1024, 4096]⟩
abbrev S1024x12 : Shape := ⟨2, ![1024, 12]⟩
abbrev S1024x500 : Shape := ⟨2, ![1024, 500]⟩
abbrev S1024x7680 : Shape := ⟨2, ![1024, 7680]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x2048x7180, .bf16⟩
  | .hbm, ⟨3, _⟩ => ⟨S_, .f32⟩
  | .hbm, ⟨4, _⟩ => ⟨S1024x7180, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x7180, .f32⟩
  | .hbm, ⟨23, _⟩ => ⟨S2x2048x7180, .f32⟩
  | .hbm, ⟨24, _⟩ => ⟨S7180x1024, .f32⟩
  | .hbm, ⟨25, _⟩ => ⟨S1024x7180, .f32⟩
  | .hbm, ⟨26, _⟩ => ⟨S1024x7180, .bf16⟩
  | .hbm, ⟨27, _⟩ => ⟨S1024x3072, .bf16⟩
  | .hbm, ⟨28, _⟩ => ⟨S1024x4096, .bf16⟩
  | .hbm, ⟨29, _⟩ => ⟨S1024x12, .bf16⟩
  | .hbm, ⟨30, _⟩ => ⟨S_, .bf16⟩
  | .hbm, ⟨31, _⟩ => ⟨S1024x500, .bf16⟩
  | .hbm, ⟨32, _⟩ => ⟨S1024x7680, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== GateGrad.lean ====
abbrev S2x2048x768 : Shape := ⟨3, ![2, 2048, 768]⟩
abbrev S2x2048x512 : Shape := ⟨3, ![2, 2048, 512]⟩
abbrev S2x2048x7680 : Shape := ⟨3, ![2, 2048, 7680]⟩
abbrev S1x2048x1024 : Shape := ⟨3, ![1, 2048, 1024]⟩
abbrev S2x2048x1024 : Shape := ⟨3, ![2, 2048, 1024]⟩
abbrev S4096x1024 : Shape := ⟨2, ![4096, 1024]⟩
abbrev S2048x1024 : Shape := ⟨2, ![2048, 1024]⟩
abbrev S4096x768 : Shape := ⟨2, ![4096, 768]⟩
abbrev S4096x512 : Shape := ⟨2, ![4096, 512]⟩
abbrev S4096x7680 : Shape := ⟨2, ![4096, 7680]⟩
abbrev S4096x2048 : Shape := ⟨2, ![4096, 2048]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 16
  | .vmem => 16
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x512, .f32⟩
  | .hbm, ⟨3, _⟩ => ⟨S2x2048x7680, .bf16⟩
  | .hbm, ⟨4, _⟩ => ⟨S1x2048x1024, .f32⟩
  | .hbm, ⟨5, _⟩ => ⟨S2x2048x1024, .f32⟩
  | .hbm, ⟨6, _⟩ => ⟨S4096x1024, .f32⟩
  | .hbm, ⟨7, _⟩ => ⟨S4096x1024, .bf16⟩
  | .hbm, ⟨8, _⟩ => ⟨S2048x1024, .f32⟩
  | .hbm, ⟨9, _⟩ => ⟨S2048x1024, .bf16⟩
  | .hbm, ⟨10, _⟩ => ⟨S4096x768, .f32⟩
  | .hbm, ⟨11, _⟩ => ⟨S4096x768, .f32⟩
  | .hbm, ⟨12, _⟩ => ⟨S4096x512, .f32⟩
  | .hbm, ⟨13, _⟩ => ⟨S4096x7680, .bf16⟩
  | .hbm, ⟨14, _⟩ => ⟨S4096x2048, .bf16⟩
  | .hbm, ⟨15, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c9_i32 : BitVec 32 := 9#32
  let v1 : BitVec 32 := Scalar.addi c9_i32 arg1
  let c6_i32 : BitVec 32 := 6#32
  let v2 : BitVec 1 := Scalar.cmpi .slt arg1 c6_i32
  let c21_i32 : BitVec 32 := 21#32
  let v3 : BitVec 32 := Scalar.addi c21_i32 arg1
  let c3_i32_0 : BitVec 32 := 3#32
  let v4 : BitVec 32 := Scalar.subi v3 c3_i32_0
  let c26_i32 : BitVec 32 := 26#32
  let v5 : BitVec 32 := Scalar.addi c26_i32 arg1
  let c6_i32_1 : BitVec 32 := 6#32
  let v6 : BitVec 32 := Scalar.subi v5 c6_i32_1
  let v7 : BitVec 32 := Scalar.select v2 v4 v6
  let v8 : BitVec 32 := Scalar.select v0 v1 v7
  let c0_i32 : BitVec 32 := 0#32
  ![arg0.toNat, v8.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GateGradRefIdeal.lean ====
abbrev S2x2048x768 : Shape := ⟨3, ![2, 2048, 768]⟩
abbrev S2x2048x512 : Shape := ⟨3, ![2, 2048, 512]⟩
abbrev S2x2048x7680 : Shape := ⟨3, ![2, 2048, 7680]⟩
abbrev S1x2048x1024 : Shape := ⟨3, ![1, 2048, 1024]⟩
abbrev S2x2048x1024 : Shape := ⟨3, ![2, 2048, 1024]⟩
abbrev S_ : Shape := ⟨0, ![]⟩
abbrev S2x2048x2048 : Shape := ⟨3, ![2, 2048, 2048]⟩
abbrev S2048x1024 : Shape := ⟨2, ![2048, 1024]⟩
abbrev S4096x2048 : Shape := ⟨2, ![4096, 2048]⟩

abbrev nBuf : Space → Nat
  | .hbm => 83
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x512, .f32⟩
  | .hbm, ⟨3, _⟩ => ⟨S2x2048x7680, .bf16⟩
  | .hbm, ⟨4, _⟩ => ⟨S1x2048x1024, .f32⟩
  | .hbm, ⟨5, _⟩ => ⟨S2x2048x1024, .f32⟩
  | .hbm, ⟨6, _⟩ => ⟨S2x2048x7680, .f32⟩
  | .hbm, ⟨7, _⟩ => ⟨S2x2048x768, .f32⟩
  | .hbm, ⟨8, _⟩ => ⟨S2x2048x768, .f32⟩
  | .hbm, ⟨9, _⟩ => ⟨S2x2048x512, .f32⟩
  | .hbm, ⟨10, _⟩ => ⟨S2x2048x768, .f32⟩
  | .hbm, ⟨11, _⟩ => ⟨S2x2048x768, .f32⟩
  | .hbm, ⟨12, _⟩ => ⟨S_, .f32⟩
  | .hbm, ⟨13, _⟩ => ⟨S2x2048x768, .f32⟩
  | .hbm, ⟨14, _⟩ => ⟨S2x2048x768, .f32⟩
  | .hbm, ⟨15, _⟩ => ⟨S_, .f32⟩
  | .hbm, ⟨16, _⟩ => ⟨S2x2048x768, .f32⟩
  | .hbm, ⟨17, _⟩ => ⟨S2x2048x768, .f32⟩
  | .hbm, ⟨18, _⟩ => ⟨S_, .f32⟩
  | .hbm, ⟨19, _⟩ => ⟨S2x2048x768, .f32⟩
  | .hbm, ⟨20, _⟩ => ⟨S2x2048x768, .f32⟩
  | .hbm, ⟨21, _⟩ => ⟨S2x2048x768, .f32⟩
  | .hbm, ⟨22, _⟩ => ⟨S2x2048x768, .f32⟩
  | .hbm, ⟨23, _⟩ => ⟨S2x2048x768, .f32⟩
  | .hbm, ⟨24, _⟩ => ⟨S2x2048x768, .f32⟩
  | .hbm, ⟨25, _⟩ => ⟨S2x2048x768, .f32⟩
  | .hbm, ⟨26, _⟩ => ⟨S_, .f32⟩
  | .hbm, ⟨27, _⟩ => ⟨S2x2048x768, .f32⟩
  | .hbm, ⟨28, _⟩ => ⟨S2x2048x768, .f32⟩
  | .hbm, ⟨29, _⟩ => ⟨S_, .f32⟩
  | .hbm, ⟨30, _⟩ => ⟨S2x2048x768, .f32⟩
  | .hbm, ⟨31, _⟩ => ⟨S2x2048x768, .f32⟩
  | .hbm, ⟨32, _⟩ => ⟨S_, .f32⟩
  | .hbm, ⟨33, _⟩ => ⟨S2x2048x768, .f32⟩
  | .hbm, ⟨34, _⟩ => ⟨S2x2048x768, .f32⟩
  | .hbm, ⟨35, _⟩ => ⟨S2x2048x768, .f32⟩
  | .hbm, ⟨36, _⟩ => ⟨S2x2048x768, .f32⟩
  | .hbm, ⟨37, _⟩ => ⟨S2x2048x768, .f32⟩
  | .hbm, ⟨38, _⟩ => ⟨S2x2048x512, .f32⟩
  | .hbm, ⟨39, _⟩ => ⟨S2x2048x512, .f32⟩
  | .hbm, ⟨40, _⟩ => ⟨S_, .f32⟩
  | .hbm, ⟨41, _⟩ => ⟨S2x2048x512, .f32⟩
  | .hbm, ⟨42, _⟩ => ⟨S2x2048x512, .f32⟩
  | .hbm, ⟨43, _⟩ => ⟨S_, .f32⟩
  | .hbm, ⟨44, _⟩ => ⟨S2x2048x512, .f32⟩
  | .hbm, ⟨45, _⟩ => ⟨S2x2048x512, .f32⟩
  | .hbm, ⟨46, _⟩ => ⟨S_, .f32⟩
  | .hbm, ⟨47, _⟩ => ⟨S2x2048x512, .f32⟩
  | .hbm, ⟨48, _⟩ => ⟨S2x2048x512, .f32⟩
  | .hbm, ⟨49, _⟩ => ⟨S2x2048x512, .f32⟩
  | .hbm, ⟨50, _⟩ => ⟨S2x2048x512, .f32⟩
  | .hbm, ⟨51, _⟩ => ⟨S2x2048x512, .f32⟩
  | .hbm, ⟨52, _⟩ => ⟨S2x2048x2048, .f32⟩
  | .hbm, ⟨53, _⟩ => ⟨S2048x1024, .f32⟩
  | .hbm, ⟨54, _⟩ => ⟨S2x2048x1024, .f32⟩
  | .hbm, ⟨55, _⟩ => ⟨S2x2048x2048, .f32⟩
  | .hbm, ⟨56, _⟩ => ⟨S2x2048x768, .f32⟩
  | .hbm, ⟨57, _⟩ => ⟨S2x2048x768, .f32⟩
  | .hbm, ⟨58, _⟩ => ⟨S2x2048x512, .f32⟩
  | .hbm, ⟨59, _⟩ => ⟨S2x2048x512, .f32⟩
  | .hbm, ⟨60, _⟩ => ⟨S2x2048x512, .f32⟩
  | .hbm, ⟨61, _⟩ => ⟨S2x2048x512, .f32⟩
  | .hbm, ⟨62, _⟩ => ⟨S2x2048x512, .f32⟩
  | .hbm, ⟨63, _⟩ => ⟨S2x2048x512, .f32⟩
  | .hbm, ⟨64, _⟩ => ⟨S2x2048x512, .f32⟩
  | .hbm, ⟨65, _⟩ => ⟨S2x2048x768, .f32⟩
  | .hbm, ⟨66, _⟩ => ⟨S2x2048x768, .f32⟩
  | .hbm, ⟨67, _⟩ => ⟨S2x2048x768, .f32⟩
  | .hbm, ⟨68, _⟩ => ⟨S2x2048x768, .f32⟩
  | .hbm, ⟨69, _⟩ => ⟨S2x2048x768, .f32⟩
  | .hbm, ⟨70, _⟩ => ⟨S2x2048x768, .f32⟩
  | .hbm, ⟨71, _⟩ => ⟨S2x2048x768, .f32⟩
  | .hbm, ⟨72, _⟩ => ⟨S2x2048x768, .f32⟩
  | .hbm, ⟨73, _⟩ => ⟨S2x2048x768, .f32⟩
  | .hbm, ⟨74, _⟩ => ⟨S2x2048x768, .f32⟩
  | .hbm, ⟨75, _⟩ => ⟨S2x2048x768, .f32⟩
  | .hbm, ⟨76, _⟩ => ⟨S2x2048x768, .f32⟩
  | .hbm, ⟨77, _⟩ => ⟨S2x2048x2048, .f32⟩
  | .hbm, ⟨78, _⟩ => ⟨S2x2048x2048, .bf16⟩
  | .hbm, ⟨79, _⟩ => ⟨S4096x2048, .bf16⟩
  | .hbm, ⟨80, _⟩ => ⟨S2x2048x2048, .f32⟩
  | .hbm, ⟨81, _⟩ => ⟨S2x2048x2048, .bf16⟩
  | .hbm, ⟨82, _⟩ => ⟨S4096x2048, .bf16⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v4_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v4_1 : Ref sig .tc := ⟨.hbm, 21, rfl⟩
abbrev main_v4_0 : Ref sig .tc := ⟨.hbm, 22, rfl⟩
abbrev main_v5 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v6_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v6_1 : Ref sig .tc := ⟨.hbm, 35, rfl⟩
abbrev main_v6_0 : Ref sig .tc := ⟨.hbm, 36, rfl⟩
abbrev main_v7 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_v8_2 : Ref sig .tc := ⟨.hbm, 45, rfl⟩
abbrev main_call2_cst_1 : Ref sig .tc := ⟨.hbm, 46, rfl⟩
abbrev main_call2_v6 : Ref sig .tc := ⟨.hbm, 47, rfl⟩
abbrev main_call2_v7 : Ref sig .tc := ⟨.hbm, 48, rfl⟩
abbrev main_v8_1 : Ref sig .tc := ⟨.hbm, 49, rfl⟩
abbrev main_v8_0 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩

abbrev nD : Nat := 1
abbrev τ : Topo := Topo.v7x

variable {F : FTy → Type} [FloatOps F]
-- ==== OutWGrad.lean ====
abbrev S2x2048x768 : Shape := ⟨3, ![2, 2048, 768]⟩
abbrev S2x2048x512 : Shape := ⟨3, ![2, 2048, 512]⟩
abbrev S2x2048x7680 : Shape := ⟨3, ![2, 2048, 7680]⟩
abbrev S2x2048x1024 : Shape := ⟨3, ![2, 2048, 1024]⟩
abbrev S_ : Shape := ⟨0, ![]⟩
abbrev S2x2048x2048 : Shape := ⟨3, ![2, 2048, 2048]⟩
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S1024x512 : Shape := ⟨2, ![1024, 512]⟩
abbrev S4096x256 : Shape := ⟨2, ![4096, 256]⟩
abbrev S256x512 : Shape := ⟨2, ![256, 512]⟩

abbrev nBuf : Space → Nat
  | .hbm => 45
  | .vmem => 6
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x512, .f32⟩
  | .hbm, ⟨3, _⟩ => ⟨S2x2048x7680, .bf16⟩
  | .hbm, ⟨4, _⟩ => ⟨S2x2048x1024, .f32⟩
  | .hbm, ⟨5, _⟩ => ⟨S2x2048x7680, .f32⟩
  | .hbm, ⟨6, _⟩ => ⟨S2x2048x768, .f32⟩
  | .hbm, ⟨7, _⟩ => ⟨S2x2048x768, .f32⟩
  | .hbm, ⟨8, _⟩ => ⟨S2x2048x512, .f32⟩
  | .hbm, ⟨9, _⟩ => ⟨S2x2048x768, .f32⟩
  | .hbm, ⟨10, _⟩ => ⟨S2x2048x768, .f32⟩
  | .hbm, ⟨11, _⟩ => ⟨S_, .f32⟩
  | .hbm, ⟨12, _⟩ => ⟨S2x2048x768, .f32⟩
  | .hbm, ⟨13, _⟩ => ⟨S2x2048x768, .f32⟩
  | .hbm, ⟨14, _⟩ => ⟨S_, .f32⟩
  | .hbm, ⟨15, _⟩ => ⟨S2x2048x768, .f32⟩
  | .hbm, ⟨16, _⟩ => ⟨S2x2048x768, .f32⟩
  | .hbm, ⟨17, _⟩ => ⟨S2x2048x768, .f32⟩
  | .hbm, ⟨18, _⟩ => ⟨S2x2048x768, .f32⟩
  | .hbm, ⟨19, _⟩ => ⟨S2x2048x768, .f32⟩
  | .hbm, ⟨20, _⟩ => ⟨S2x2048x768, .f32⟩
  | .hbm, ⟨21, _⟩ => ⟨S_, .f32⟩
  | .hbm, ⟨22, _⟩ => ⟨S2x2048x768, .f32⟩
  | .hbm, ⟨23, _⟩ => ⟨S2x2048x768, .f32⟩
  | .hbm, ⟨24, _⟩ => ⟨S_, .f32⟩
  | .hbm, ⟨25, _⟩ => ⟨S2x2048x768, .f32⟩
  | .hbm, ⟨26, _⟩ => ⟨S2x2048x768, .f32⟩
  | .hbm, ⟨27, _⟩ => ⟨S2x2048x768, .f32⟩
  | .hbm, ⟨28, _⟩ => ⟨S2x2048x768, .f32⟩
  | .hbm, ⟨29, _⟩ => ⟨S2x2048x512, .f32⟩
  | .hbm, ⟨30, _⟩ => ⟨S2x2048x512, .f32⟩
  | .hbm, ⟨31, _⟩ => ⟨S_, .f32⟩
  | .hbm, ⟨32, _⟩ => ⟨S2x2048x512, .f32⟩
  | .hbm, ⟨33, _⟩ => ⟨S2x2048x512, .f32⟩
  | .hbm, ⟨34, _⟩ => ⟨S_, .f32⟩
  | .hbm, ⟨35, _⟩ => ⟨S2x2048x512, .f32⟩
  | .hbm, ⟨36, _⟩ => ⟨S2x2048x512, .f32⟩
  | .hbm, ⟨37, _⟩ => ⟨S2x2048x512, .f32⟩
  | .hbm, ⟨38, _⟩ => ⟨S2x2048x512, .f32⟩
  | .hbm, ⟨39, _⟩ => ⟨S2x2048x2048, .f32⟩
  | .hbm, ⟨40, _⟩ => ⟨S2x2048x2048, .bf16⟩
  | .hbm, ⟨41, _⟩ => ⟨S4096x2048, .bf16⟩
  | .hbm, ⟨42, _⟩ => ⟨S4096x1024, .f32⟩
  | .hbm, ⟨43, _⟩ => ⟨S4096x1024, .bf16⟩
  | .hbm, ⟨44, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v6 : Ref sig .tc := ⟨.hbm, 27, rfl⟩
abbrev main_v7 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWGradRefIdeal.lean ====
abbrev S2x2048x768 : Shape := ⟨3, ![2, 2048, 768]⟩
abbrev S2x2048x512 : Shape := ⟨3, ![2, 2048, 512]⟩
abbrev S2x2048x7680 : Shape := ⟨3, ![2, 2048, 7680]⟩
abbrev S2x2048x1024 : Shape := ⟨3, ![2, 2048, 1024]⟩
abbrev S_ : Shape := ⟨0, ![]⟩
abbrev S2048x1024 : Shape := ⟨2, ![2048, 1024]⟩
abbrev S2x2048x2048 : Shape := ⟨3, ![2, 2048, 2048]⟩
abbrev S1024x2048 : Shape := ⟨2, ![1024, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x512, .f32⟩
  | .hbm, ⟨3, _⟩ => ⟨S2x2048x7680, .bf16⟩
  | .hbm, ⟨4, _⟩ => ⟨S2x2048x1024, .f32⟩
  | .hbm, ⟨5, _⟩ => ⟨S_, .f32⟩
  | .hbm, ⟨6, _⟩ => ⟨S2048x1024, .f32⟩
  | .hbm, ⟨7, _⟩ => ⟨S2x2048x7680, .f32⟩
  | .hbm, ⟨8, _⟩ => ⟨S2x2048x768, .f32⟩
  | .hbm, ⟨9, _⟩ => ⟨S2x2048x768, .f32⟩
  | .hbm, ⟨10, _⟩ => ⟨S2x2048x512, .f32⟩
  | .hbm, ⟨11, _⟩ => ⟨S2x2048x768, .f32⟩
  | .hbm, ⟨12, _⟩ => ⟨S2x2048x768, .f32⟩
  | .hbm, ⟨13, _⟩ => ⟨S_, .f32⟩
  | .hbm, ⟨14, _⟩ => ⟨S2x2048x768, .f32⟩
  | .hbm, ⟨15, _⟩ => ⟨S2x2048x768, .f32⟩
  | .hbm, ⟨16, _⟩ => ⟨S_, .f32⟩
  | .hbm, ⟨17, _⟩ => ⟨S2x2048x768, .f32⟩
  | .hbm, ⟨18, _⟩ => ⟨S2x2048x768, .f32⟩
  | .hbm, ⟨19, _⟩ => ⟨S2x2048x768, .f32⟩
  | .hbm, ⟨20, _⟩ => ⟨S2x2048x768, .f32⟩
  | .hbm, ⟨21, _⟩ => ⟨S2x2048x768, .f32⟩
  | .hbm, ⟨22, _⟩ => ⟨S2x2048x768, .f32⟩
  | .hbm, ⟨23, _⟩ => ⟨S_, .f32⟩
  | .hbm, ⟨24, _⟩ => ⟨S2x2048x768, .f32⟩
  | .hbm, ⟨25, _⟩ => ⟨S2x2048x768, .f32⟩
  | .hbm, ⟨26, _⟩ => ⟨S_, .f32⟩
  | .hbm, ⟨27, _⟩ => ⟨S2x2048x768, .f32⟩
  | .hbm, ⟨28, _⟩ => ⟨S2x2048x768, .f32⟩
  | .hbm, ⟨29, _⟩ => ⟨S2x2048x768, .f32⟩
  | .hbm, ⟨30, _⟩ => ⟨S2x2048x768, .f32⟩
  | .hbm, ⟨31, _⟩ => ⟨S2x2048x512, .f32⟩
  | .hbm, ⟨32, _⟩ => ⟨S2x2048x512, .f32⟩
  | .hbm, ⟨33, _⟩ => ⟨S_, .f32⟩
  | .hbm, ⟨34, _⟩ => ⟨S2x2048x512, .f32⟩
  | .hbm, ⟨35, _⟩ => ⟨S2x2048x512, .f32⟩
  | .hbm, ⟨36, _⟩ => ⟨S_, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S2x2048x512, .f32⟩
  | .hbm, ⟨41, _⟩ => ⟨S2x2048x2048, .f32⟩
  | .hbm, ⟨42, _⟩ => ⟨S2x2048x1024, .f32⟩
  | .hbm, ⟨43, _⟩ => ⟨S1024x2048, .f32⟩
  | .hbm, ⟨44, _⟩ => ⟨S2048x1024, .f32⟩
  | .hbm, ⟨45, _⟩ => ⟨S2048x1024, .bf16⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v7 : Ref sig .tc := ⟨.hbm, 29, rfl⟩
abbrev main_v8 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩

abbrev nD : Nat := 1
abbrev τ : Topo := Topo.v7x

variable {F : FTy → Type} [FloatOps F]
-- ==== OutLoss.lean ====
abbrev S2x2048x768 : Shape := ⟨3, ![2, 2048, 768]⟩
abbrev S2x2048x512 : Shape := ⟨3, ![2, 2048, 512]⟩
abbrev S2x2048x7680 : Shape := ⟨3, ![2, 2048, 7680]⟩
abbrev S1x2048x1024 : Shape := ⟨3, ![1, 2048, 1024]⟩
abbrev S2x2048x1024 : Shape := ⟨3, ![2, 2048, 1024]⟩
abbrev S1024 : Shape := ⟨1, ![1024]⟩
abbrev S4096x768 : Shape := ⟨2, ![4096, 768]⟩
abbrev S4096x512 : Shape := ⟨2, ![4096, 512]⟩
abbrev S4096x7680 : Shape := ⟨2, ![4096, 7680]⟩
abbrev S2048x1024 : Shape := ⟨2, ![2048, 1024]⟩
abbrev S4096x1024 : Shape := ⟨2, ![4096, 1024]⟩
abbrev S1x1024 : Shape := ⟨2, ![1, 1024]⟩
abbrev S4096x2048 : Shape := ⟨2, ![4096, 2048]⟩
abbrev S8x1024 : Shape := ⟨2, ![8, 1024]⟩
abbrev S256x768 : Shape := ⟨2, ![256, 768]⟩
abbrev S256x512 : Shape := ⟨2, ![256, 512]⟩
abbrev S256x1024 : Shape := ⟨2, ![256, 1024]⟩
abbrev S256x2048 : Shape := ⟨2, ![256, 2048]⟩
abbrev S128x768 : Shape := ⟨2, ![128, 768]⟩
abbrev S128x512 : Shape := ⟨2, ![128, 512]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩

abbrev nBuf : Space → Nat
  | .hbm => 21
  | .vmem => 25
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x512, .f32⟩
  | .hbm, ⟨3, _⟩ => ⟨S2x2048x7680, .bf16⟩
  | .hbm, ⟨4, _⟩ => ⟨S1x2048x1024, .f32⟩
  | .hbm, ⟨5, _⟩ => ⟨S2x2048x1024, .f32⟩
  | .hbm, ⟨6, _⟩ => ⟨S2x2048x1024, .f32⟩
  | .hbm, ⟨7, _⟩ => ⟨S1024, .f32⟩
  | .hbm, ⟨8, _⟩ => ⟨S4096x768, .f32⟩
  | .hbm, ⟨9, _⟩ => ⟨S4096x768, .f32⟩
  | .hbm, ⟨10, _⟩ => ⟨S4096x512, .f32⟩
  | .hbm, ⟨11, _⟩ => ⟨S4096x7680, .bf16⟩
  | .hbm, ⟨12, _⟩ => ⟨S2048x1024, .f32⟩
  | .hbm, ⟨13, _⟩ => ⟨S2048x1024, .bf16⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x2048, .bf16⟩
  | .hbm, ⟨18, _⟩ => ⟨S4096x1024, .f32⟩
  | .hbm, ⟨19, _⟩ => ⟨S4096x1024, .bf16⟩
  | .hbm, ⟨20, _⟩ => ⟨S8x1024, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x512, .f32⟩
  | .local _ .vmem, ⟨5, _⟩ => ⟨S256x512, .f32⟩
  | .local _ .vmem, ⟨6, _⟩ => ⟨S256x768, .bf16⟩
  | .local _ .vmem, ⟨7, _⟩ => ⟨S256x768, .bf16⟩
  | .local _ .vmem, ⟨8, _⟩ => ⟨S256x768, .bf16⟩
  | .local _ .vmem, ⟨9, _⟩ => ⟨S256x768, .bf16⟩
  | .local _ .vmem, ⟨10, _⟩ => ⟨S256x512, .bf16⟩
  | .local _ .vmem, ⟨11, _⟩ => ⟨S256x512, .bf16⟩
  | .local _ .vmem, ⟨12, _⟩ => ⟨S2048x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x2048, .bf16⟩
  | .local _ .vmem, ⟨19, _⟩ => ⟨S256x2048, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S8x1024, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutLossRefIdeal.lean ====
abbrev S2x2048x768 : Shape := ⟨3, ![2, 2048, 768]⟩
abbrev S2x2048x512 : Shape := ⟨3, ![2, 2048, 512]⟩
abbrev S2x2048x7680 : Shape := ⟨3, ![2, 2048, 7680]⟩
abbrev S1x2048x1024 : Shape := ⟨3, ![1, 2048, 1024]⟩
abbrev S2x2048x1024 : Shape := ⟨3, ![2, 2048, 1024]⟩
abbrev S1024 : Shape := ⟨1, ![1024]⟩
abbrev S_ : Shape := ⟨0, ![]⟩
abbrev S2x2048x2048 : Shape := ⟨3, ![2, 2048, 2048]⟩
abbrev S2048x1024 : Shape := ⟨2, ![2048, 1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S4096x2048 : Shape := ⟨2, ![4096, 2048]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 131
  | .vmem => 0
  | .smem => 0
  | _ => 0

abbrev hbmTy0_0 (i : Nat) : BufTy := match i % 128 with
  | 0 => ⟨S2x2048x768, .f32⟩
  | 1 => ⟨S2x2048x768, .f32⟩
  | 2 => ⟨S2x2048x512, .f32⟩
  | 3 => ⟨S2x2048x7680, .bf16⟩
  | 4 => ⟨S1x2048x1024, .f32⟩
  | 5 => ⟨S2x2048x1024, .f32⟩
  | 6 => ⟨S2x2048x1024, .f32⟩
  | 7 => ⟨S1024, .f32⟩
  | 8 => ⟨S2x2048x7680, .f32⟩
  | 9 => ⟨S2x2048x768, .f32⟩
  | 10 => ⟨S2x2048x768, .f32⟩
  | 11 => ⟨S2x2048x512, .f32⟩
  | 12 => ⟨S2x2048x768, .f32⟩
  | 13 => ⟨S2x2048x768, .f32⟩
  | 14 => ⟨S_, .f32⟩
  | 15 => ⟨S2x2048x768, .f32⟩
  | 16 => ⟨S2x2048x768, .f32⟩
  | 17 => ⟨S_, .f32⟩
  | 18 => ⟨S2x2048x768, .f32⟩
  | 19 => ⟨S2x2048x768, .f32⟩
  | 20 => ⟨S2x2048x768, .f32⟩
  | 21 => ⟨S2x2048x768, .f32⟩
  | 22 => ⟨S2x2048x768, .f32⟩
  | 23 => ⟨S2x2048x768, .f32⟩
  | 24 => ⟨S_, .f32⟩
  | 25 => ⟨S2x2048x768, .f32⟩
  | 26 => ⟨S2x2048x768, .f32⟩
  | 27 => ⟨S_, .f32⟩
  | 28 => ⟨S2x2048x768, .f32⟩
  | 29 => ⟨S2x2048x768, .f32⟩
  | 30 => ⟨S2x2048x768, .f32⟩
  | 31 => ⟨S2x2048x768, .f32⟩
  | 32 => ⟨S2x2048x512, .f32⟩
  | 33 => ⟨S2x2048x512, .f32⟩
  | 34 => ⟨S_, .f32⟩
  | 35 => ⟨S2x2048x512, .f32⟩
  | 36 => ⟨S2x2048x512, .f32⟩
  | 37 => ⟨S_, .f32⟩
  | 38 => ⟨S2x2048x512, .f32⟩
  | 39 => ⟨S2x2048x512, .f32⟩
  | 40 => ⟨S2x2048x512, .f32⟩
  | 41 => ⟨S2x2048x512, .f32⟩
  | 42 => ⟨S2x2048x2048, .f32⟩
  | 43 => ⟨S2048x1024, .f32⟩
  | 44 => ⟨S2x2048x1024, .f32⟩
  | 45 => ⟨S2x2048x1024, .f32⟩
  | 46 => ⟨S2x2048x1024, .f32⟩
  | 47 => ⟨S_, .f32⟩
  | 48 => ⟨S2x2048, .f32⟩
  | 49 => ⟨S2x2048x1, .f32⟩
  | 50 => ⟨S_, .f32⟩
  | 51 => ⟨S2x2048x1, .f32⟩
  | 52 => ⟨S2x2048x1, .f32⟩
  | 53 => ⟨S_, .f32⟩
  | 54 => ⟨S2x2048x1, .f32⟩
  | 55 => ⟨S2x2048x1, .f32⟩
  | 56 => ⟨S2x2048x1, .f32⟩
  | 57 => ⟨S2x2048x1, .f32⟩
  | 58 => ⟨S_, .f32⟩
  | 59 => ⟨S2x2048x1, .f32⟩
  | 60 => ⟨S2x2048x1, .f32⟩
  | 61 => ⟨S2x2048x1024, .f32⟩
  | 62 => ⟨S2x2048x1024, .f32⟩
  | 63 => ⟨S1x1x1024, .f32⟩
  | 64 => ⟨S2x2048x1024, .f32⟩
  | 65 => ⟨S2x2048x1024, .f32⟩
  | 66 => ⟨S2x2048x1024, .f32⟩
  | 67 => ⟨S2x2048x1024, .f32⟩
  | 68 => ⟨S_, .f32⟩
  | 69 => ⟨S2x2048x1024, .f32⟩
  | 70 => ⟨S2x2048x1024, .f32⟩
  | 71 => ⟨S_, .f32⟩
  | 72 => ⟨S2x2048, .f32⟩
  | 73 => ⟨S_, .f32⟩
  | 74 => ⟨S2x2048, .f32⟩
  | 75 => ⟨S2x2048, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S2x2048, .f32⟩
  | 84 => ⟨S_, .f32⟩
  | 85 => ⟨S2x2048, .f32⟩
  | 86 => ⟨S2x2048, .f32⟩
  | 87 => ⟨S2x2048x1024, .f32⟩
  | 88 => ⟨S2x2048x1024, .f32⟩
  | 89 => ⟨S2x2048x1024, .f32⟩
  | 90 => ⟨S_, .f32⟩
  | 91 => ⟨S1024, .f32⟩
  | 92 => ⟨S1x1x1024, .f32⟩
  | 93 => ⟨S2x2048x1024, .f32⟩
  | 94 => ⟨S2x2048x1024, .f32⟩
  | 95 => ⟨S_, .f32⟩
  | 96 => ⟨S1024, .f32⟩
  | 97 => ⟨S2x2048x1024, .f32⟩
  | 98 => ⟨S_, .f32⟩
  | 99 => ⟨S2x2048, .f32⟩
  | 100 => ⟨S2x2048x1, .f32⟩
  | 101 => ⟨S2x2048x1024, .f32⟩
  | 102 => ⟨S2x2048x1024, .f32⟩
  | 103 => ⟨S2x2048x1, .f32⟩
  | 104 => ⟨S_, .f32⟩
  | 105 => ⟨S2x2048x1, .f32⟩
  | 106 => ⟨S2x2048x1, .f32⟩
  | 107 => ⟨S_, .f32⟩
  | 108 => ⟨S2x2048, .f32⟩
  | 109 => ⟨S2x2048x1024, .f32⟩
  | 110 => ⟨S2x2048x1024, .f32⟩
  | 111 => ⟨S2x2048x1024, .f32⟩
  | 112 => ⟨S2x2048x1024, .f32⟩
  | 113 => ⟨S2x2048x1024, .f32⟩
  | 114 => ⟨S4096x1024, .f32⟩
  | 115 => ⟨S_, .f32⟩
  | 116 => ⟨S1024, .f32⟩
  | 117 => ⟨S_, .f32⟩
  | 118 => ⟨S1024, .f32⟩
  | 119 => ⟨S1024, .f32⟩
  | 120 => ⟨S_, .f32⟩
  | 121 => ⟨S1024, .f32⟩
  | 122 => ⟨S1024, .f32⟩
  | 123 => ⟨S2x2048x2048, .bf16⟩
  | 124 => ⟨S4096x2048, .bf16⟩
  | 125 => ⟨S4096x1024, .bf16⟩
  | 126 => ⟨S1x1024, .f32⟩
  | 127 => ⟨S1x1024, .f32⟩
  | _ => ⟨S2x2048x768, .f32⟩

abbrev hbmTy0_1 (i : Nat) : BufTy := match i % 128 with
  | 0 => ⟨S_, .f32⟩
  | 1 => ⟨S6x1024, .f32⟩
  | 2 => ⟨S8x1024, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v6 : Ref sig .tc := ⟨.hbm, 30, rfl⟩
abbrev main_v7 : Ref sig .tc := ⟨.hbm, 31, rfl⟩
abbrev main_call2_v0 : Ref sig .tc := ⟨.hbm, 32, rfl⟩
abbrev main_call2_v1 : Ref sig .tc := ⟨.hbm, 33, rfl⟩
abbrev main_call2_cst : Ref sig .tc := ⟨.hbm, 34, rfl⟩
abbrev main_call2_v2 : Ref sig .tc := ⟨.hbm, 35, rfl⟩
abbrev main_call2_v3 : Ref sig .tc := ⟨.hbm, 36, rfl⟩
abbrev main_call2_cst_0 : Ref sig .tc := ⟨.hbm, 37, rfl⟩
abbrev main_call2_v4 : Ref sig .tc := ⟨.hbm, 38, rfl⟩
abbrev main_call2_v5 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst : Ref sig .tc := ⟨.hbm, 47, rfl⟩
abbrev main_v15 : Ref sig .tc := ⟨.hbm, 48, rfl⟩
abbrev main_v16 : Ref sig .tc := ⟨.hbm, 49, rfl⟩
abbrev main_cst_0 : Ref sig .tc := ⟨.hbm, 50, rfl⟩
abbrev main_v17 : Ref sig .tc := ⟨.hbm, 51, rfl⟩
abbrev main_v18 : Ref sig .tc := ⟨.hbm, 52, rfl⟩
abbrev main_cst_1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_2 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_3 : Ref sig .tc := ⟨.hbm, 68, rfl⟩
abbrev main_v32 : Ref sig .tc := ⟨.hbm, 69, rfl⟩
abbrev main_v33 : Ref sig .tc := ⟨.hbm, 70, rfl⟩
abbrev main_cst_4 : Ref sig .tc := ⟨.hbm, 71, rfl⟩
abbrev main_v34 : Ref sig .tc := ⟨.hbm, 72, rfl⟩
abbrev main_cst_5 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_cst_7 : Ref sig .tc := ⟨.hbm, 78, rfl⟩
abbrev main_v38 : Ref sig .tc := ⟨.hbm, 79, rfl⟩
abbrev main_cst_8 : Ref sig .tc := ⟨.hbm, 80, rfl⟩
abbrev main_cst_9 : Ref sig .tc := ⟨.hbm, 81, rfl⟩
abbrev main_v39 : Ref sig .tc := ⟨.hbm, 82, rfl⟩
abbrev main_v40 : Ref sig .tc := ⟨.hbm, 83, rfl⟩
abbrev main_cst_10 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_11 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_12 : Ref sig .tc := ⟨.hbm, 95, rfl⟩
abbrev main_v50 : Ref sig .tc := ⟨.hbm, 96, rfl⟩
abbrev main_v51 : Ref sig .tc := ⟨.hbm, 97, rfl⟩
abbrev main_cst_13 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_14 : Ref sig .tc := ⟨.hbm, 104, rfl⟩
abbrev main_v57 : Ref sig .tc := ⟨.hbm, 105, rfl⟩
abbrev main_v58 : Ref sig .tc := ⟨.hbm, 106, rfl⟩
abbrev main_cst_15 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_16 : Ref sig .tc := ⟨.hbm, 115, rfl⟩
abbrev main_v66 : Ref sig .tc := ⟨.hbm, 116, rfl⟩
abbrev main_cst_17 : Ref sig .tc := ⟨.hbm, 117, rfl⟩
abbrev main_v67 : Ref sig .tc := ⟨.hbm, 118, rfl⟩
abbrev main_v68 : Ref sig .tc := ⟨.hbm, 119, rfl⟩
abbrev main_cst_18 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_19 : Ref sig .tc := ⟨.hbm, 128, rfl⟩
abbrev main_v76 : Ref sig .tc := ⟨.hbm, 129, rfl⟩
abbrev main_v77 : Ref sig .tc := ⟨.hbm, 130, rfl⟩

abbrev nD : Nat := 1
abbrev τ : Topo := Topo.v7x

variable {F : FTy → Type} [FloatOps F]
-- ==== InProj.lean ====
abbrev S2x2048x1024 : Shape := ⟨3, ![2, 2048, 1024]⟩
abbrev S1x1024 : Shape := ⟨2, ![1, 1024]⟩
abbrev S1x1024x7180 : Shape := ⟨3, ![1, 1024, 7180]⟩
abbrev S4096x1024 : Shape := ⟨2, ![4096, 1024]⟩
abbrev S1024x7180 : Shape := ⟨2, ![1024, 7180]⟩
abbrev S1024x1795 : Shape := ⟨2, ![1024, 1795]⟩
abbrev S_ : Shape := ⟨0, ![]⟩
abbrev S1024x500 : Shape := ⟨2, ![1024, 500]⟩
abbrev S1024x1277 : Shape := ⟨2, ![1024, 1277]⟩
abbrev S1024x506 : Shape := ⟨2, ![1024, 506]⟩
abbrev S1024x12 : Shape := ⟨2, ![1024, 12]⟩
abbrev S1024x7680 : Shape := ⟨2, ![1024, 7680]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4096x7680 : Shape := ⟨2, ![4096, 7680]⟩
abbrev S4096x2304 : Shape := ⟨2, ![4096, 2304]⟩
abbrev S4096x128 : Shape := ⟨2, ![4096, 128]⟩
abbrev S1024x1024 : Shape := ⟨2, ![1024, 1024]⟩
abbrev S1024x768 : Shape := ⟨2, ![1024, 768]⟩
abbrev S1024x128 : Shape := ⟨2, ![1024, 128]⟩
abbrev S1024 : Shape := ⟨1, ![1024]⟩
abbrev S1024x1 : Shape := ⟨2, ![1024, 1]⟩
abbrev S256x1024 : Shape := ⟨2, ![256, 1024]⟩
abbrev S256x768 : Shape := ⟨2, ![256, 768]⟩
abbrev S256x128 : Shape := ⟨2, ![256, 128]⟩

abbrev nBuf : Space → Nat
  | .hbm => 63
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x7180, .f32⟩
  | .hbm, ⟨3, _⟩ => ⟨S4096x1024, .f32⟩
  | .hbm, ⟨4, _⟩ => ⟨S1024x7180, .f32⟩
  | .hbm, ⟨5, _⟩ => ⟨S1024x7180, .bf16⟩
  | .hbm, ⟨6, _⟩ => ⟨S1024x1795, .bf16⟩
  | .hbm, ⟨7, _⟩ => ⟨S1024x1795, .bf16⟩
  | .hbm, ⟨8, _⟩ => ⟨S1024x1795, .bf16⟩
  | .hbm, ⟨9, _⟩ => ⟨S1024x1795, .bf16⟩
  | .hbm, ⟨10, _⟩ => ⟨S_, .bf16⟩
  | .hbm, ⟨11, _⟩ => ⟨S1024x500, .bf16⟩
  | .hbm, ⟨12, _⟩ => ⟨S1024x1277, .bf16⟩
  | .hbm, ⟨13, _⟩ => ⟨S1024x506, .bf16⟩
  | .hbm, ⟨14, _⟩ => ⟨S1024x12, .bf16⟩
  | .hbm, ⟨15, _⟩ => ⟨S1024x7680, .bf16⟩
  | .hbm, ⟨16, _⟩ => ⟨S2048, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S2048x1, .f32⟩
  | .hbm, ⟨34, _⟩ => ⟨S1x8, .f32⟩
  | .hbm, ⟨35, _⟩ => ⟨S2048x8, .f32⟩
  | .hbm, ⟨36, _⟩ => ⟨S2048x8, .f32⟩
  | .hbm, ⟨37, _⟩ => ⟨S2048x8, .f32⟩
  | .hbm, ⟨38, _⟩ => ⟨S2048x8, .f32⟩
  | .hbm, ⟨39, _⟩ => ⟨S2048x8, .f32⟩
  | .hbm, ⟨40, _⟩ => ⟨S_, .f32⟩
  | .hbm, ⟨41, _⟩ => ⟨S2048x48, .f32⟩
  | .hbm, ⟨42, _⟩ => ⟨S_, .f32⟩
  | .hbm, ⟨43, _⟩ => ⟨S2048x48, .f32⟩
  | .hbm, ⟨44, _⟩ => ⟨S_, .f32⟩
  | .hbm, ⟨45, _⟩ => ⟨S2048x8, .f32⟩
  | .hbm, ⟨46, _⟩ => ⟨S2048x64, .f32⟩
  | .hbm, ⟨47, _⟩ => ⟨S2048x64, .f32⟩
  | .hbm, ⟨48, _⟩ => ⟨S2048x8, .f32⟩
  | .hbm, ⟨49, _⟩ => ⟨S2048x64, .f32⟩
  | .hbm, ⟨50, _⟩ => ⟨S1x2048x1x64, .f32⟩
  | .hbm, ⟨51, _⟩ => ⟨S1x2048x2x64, .f32⟩
  | .hbm, ⟨52, _⟩ => ⟨S2048x128, .f32⟩
  | .hbm, ⟨53, _⟩ => ⟨S1x2048x1x64, .f32⟩
  | .hbm, ⟨54, _⟩ => ⟨S1x2048x2x64, .f32⟩
  | .hbm, ⟨55, _⟩ => ⟨S2048x128, .f32⟩
  | .hbm, ⟨56, _⟩ => ⟨S1x2048x1x64, .f32⟩
  | .hbm, ⟨57, _⟩ => ⟨S1x2048x2x64, .f32⟩
  | .hbm, ⟨58, _⟩ => ⟨S2048x128, .f32⟩
  | .hbm, ⟨59, _⟩ => ⟨S4096x1024, .bf16⟩
  | .hbm, ⟨60, _⟩ => ⟨S4096x7680, .bf16⟩
  | .hbm, ⟨61, _⟩ => ⟨S4096x2304, .f32⟩
  | .hbm, ⟨62, _⟩ => ⟨S4096x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | .local _ .vmem, ⟨12, _⟩ => ⟨S1024x1024, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .f32⟩
  | .local _ .vmem, ⟨16, _⟩ => ⟨S1024x768, .f32⟩
  | .local _ .vmem, ⟨17, _⟩ => ⟨S1024x128, .f32⟩
  | .local _ .vmem, ⟨18, _⟩ => ⟨S1024x128, .f32⟩
  | .local _ .vmem, ⟨19, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev main_v47_2 : Ref sig .tc := ⟨.hbm, 61, rfl⟩
abbrev main_v47_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c4_i32 : BitVec 32 := 4#32
  let v3 : BitVec 1 := Scalar.cmpi .sge arg1 c4_i32
  let c6_i32 : BitVec 32 := 6#32
  let v4 : BitVec 1 := Scalar.cmpi .slt arg1 c6_i32
  let v5 : BitVec 1 := Scalar.andi v3 v4
  let v10 : BitVec 32 := Scalar.extui v5
  let c0_i32_2 : BitVec 32 := 0#32
  let v11 : BitVec 1 := Scalar.cmpi .ne v10 c0_i32_2
  v11

def k0_cond3 (i : grid0.Coords) : BitVec 1 :=
  let arg1 : BitVec 32 := BitVec.ofNat 32 (i 1).val
  let c6_i32_1 : BitVec 32 := 6#32
  let v6 : BitVec 1 := Scalar.cmpi .sge arg1 c6_i32_1
  let c7_i32 : BitVec 32 := 7#32
  let v7 : BitVec 1 := Scalar.cmpi .slt arg1 c7_i32
  let v8 : BitVec 1 := Scalar.andi v6 v7
  let v12 : BitVec 32 := Scalar.extui v8
  let c0_i32_3 : BitVec 32 := 0#32
  let v13 : BitVec 1 := Scalar.cmpi .ne v12 c0_i32_3
  v13

def k0_cond4 (i : grid0.Coords) : BitVec 1 :=
  let arg1 : BitVec 32 := BitVec.ofNat 32 (i 1).val
  let c9_i32 : BitVec 32 := 9#32
  let v9 : BitVec 1 := Scalar.cmpi .eq arg1 c9_i32
  let v14 : BitVec 32 := Scalar.extui v9
  let c0_i32_4 : BitVec 32 := 0#32
  let v15 : BitVec 1 := Scalar.cmpi .ne v14 c0_i32_4
  v15

def k0_cond5 (i : grid0.Coords) : BitVec 1 :=
  let arg1 : BitVec 32 := BitVec.ofNat 32 (i 1).val
  let c4_i32 : BitVec 32 := 4#32
  let v3 : BitVec 1 := Scalar.cmpi .sge arg1 c4_i32
  let c6_i32 : BitVec 32 := 6#32
  let v4 : BitVec 1 := Scalar.cmpi .slt arg1 c6_i32
  let v5 : BitVec 1 := Scalar.andi v3 v4
  let c6_i32_1 : BitVec 32 := 6#32
  let v6 : BitVec 1 := Scalar.cmpi .sge arg1 c6_i32_1
  let c7_i32 : BitVec 32 := 7#32
  let v7 : BitVec 1 := Scalar.cmpi .slt arg1 c7_i32
  let v8 : BitVec 1 := Scalar.andi v6 v7
  let v16 : BitVec 1 := Scalar.ori v5 v8
  let c9_i32 : BitVec 32 := 9#32
  let v9 : BitVec 1 := Scalar.cmpi .eq arg1 c9_i32
  let v17 : BitVec 1 := Scalar.ori v16 v9
  let v_true : BitVec 1 := 1#1
  let v18 : BitVec 1 := Scalar.xori v17 v_true
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InProjRefIdeal.lean ====
abbrev S2x2048x1024 : Shape := ⟨3, ![2, 2048, 1024]⟩
abbrev S1x1024 : Shape := ⟨2, ![1, 1024]⟩
abbrev S1x1024x7180 : Shape := ⟨3, ![1, 1024, 7180]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x7180 : Shape := ⟨2, ![1024, 7180]⟩
abbrev S2x2048x7180 : Shape := ⟨3, ![2, 2048, 7180]⟩
abbrev S2x2048x3072 : Shape := ⟨3, ![2, 2048, 3072]⟩
abbrev S2x2048x12 : Shape := ⟨3, ![2, 2048, 12]⟩
abbrev S2x2048x4096 : Shape := ⟨3, ![2, 2048, 4096]⟩
abbrev S2x2048x768 : Shape := ⟨3, ![2, 2048, 768]⟩
abbrev S2x2048x1792 : Shape := ⟨3, ![2, 2048, 1792]⟩
abbrev S2048 : Shape := ⟨1, ![2048]⟩
abbrev S2x2048x12x64 : Shape := ⟨4, ![2, 2048, 12, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S2x2048x12x16 : Shape := ⟨4, ![2, 2048, 12, 16]⟩
abbrev S2x2048x12x8 : Shape := ⟨4, ![2, 2048, 12, 8]⟩
abbrev S2x2048x12x48 : Shape := ⟨4, ![2, 2048, 12, 48]⟩
abbrev S2x2048x500 : Shape := ⟨3, ![2, 2048, 500]⟩
abbrev S2x2048x7680 : Shape := ⟨3, ![2, 2048, 7680]⟩
abbrev S2x2048x2304 : Shape := ⟨3, ![2, 2048, 2304]⟩
abbrev S4096x1024 : Shape := ⟨2, ![4096, 1024]⟩
abbrev S4096x7680 : Shape := ⟨2, ![4096, 7680]⟩
abbrev S4096x2304 : Shape := ⟨2, ![4096, 2304]⟩
abbrev S2x2048x116 : Shape := ⟨3, ![2, 2048, 116]⟩
abbrev S2x2048x128 : Shape := ⟨3, ![2, 2048, 128]⟩
abbrev S4096x128 : Shape := ⟨2, ![4096, 128]⟩

abbrev nBuf : Space → Nat
  | .hbm => 129
  | .vmem => 0
  | .smem => 0
  | _ => 0

abbrev hbmTy0_0 (i : Nat) : BufTy := match i % 128 with
  | 0 => ⟨S2x2048x1024, .f32⟩
  | 1 => ⟨S1x1024, .f32⟩
  | 2 => ⟨S1x1024x7180, .f32⟩
  | 3 => ⟨S1024, .f32⟩
  | 4 => ⟨S2x2048x1024, .f32⟩
  | 5 => ⟨S_, .f32⟩
  | 6 => ⟨S2x2048, .f32⟩
  | 7 => ⟨S2x2048x1, .f32⟩
  | 8 => ⟨S_, .f32⟩
  | 9 => ⟨S2x2048x1, .f32⟩
  | 10 => ⟨S2x2048x1, .f32⟩
  | 11 => ⟨S_, .f32⟩
  | 12 => ⟨S2x2048x1, .f32⟩
  | 13 => ⟨S2x2048x1, .f32⟩
  | 14 => ⟨S2x2048x1, .f32⟩
  | 15 => ⟨S2x2048x1024, .f32⟩
  | 16 => ⟨S2x2048x1024, .f32⟩
  | 17 => ⟨S1x1x1024, .f32⟩
  | 18 => ⟨S2x2048x1024, .f32⟩
  | 19 => ⟨S2x2048x1024, .f32⟩
  | 20 => ⟨S1024x7180, .f32⟩
  | 21 => ⟨S2x2048x7180, .f32⟩
  | 22 => ⟨S2x2048x3072, .f32⟩
  | 23 => ⟨S2x2048x12, .f32⟩
  | 24 => ⟨S2x2048x4096, .f32⟩
  | 25 => ⟨S2x2048x768, .f32⟩
  | 26 => ⟨S2x2048x768, .f32⟩
  | 27 => ⟨S2x2048x768, .f32⟩
  | 28 => ⟨S2x2048x1792, .f32⟩
  | 29 => ⟨S2048, .f32⟩
  | 30 => ⟨S2x2048x12x64, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S2048x1, .f32⟩
  | 48 => ⟨S1x8, .f32⟩
  | 49 => ⟨S2048x8, .f32⟩
  | 50 => ⟨S2048x8, .f32⟩
  | 51 => ⟨S2048x8, .f32⟩
  | 52 => ⟨S2048x8, .f32⟩
  | 53 => ⟨S1x2048x1x8, .f32⟩
  | 54 => ⟨S2048x8, .f32⟩
  | 55 => ⟨S1x2048x1x8, .f32⟩
  | 56 => ⟨S2x2048x12x16, .f32⟩
  | 57 => ⟨S2x2048x12x8, .f32⟩
  | 58 => ⟨S2x2048x12x8, .f32⟩
  | 59 => ⟨S2x2048x12x8, .f32⟩
  | 60 => ⟨S2x2048x12x8, .f32⟩
  | 61 => ⟨S2x2048x12x8, .f32⟩
  | 62 => ⟨S2x2048x12x8, .f32⟩
  | 63 => ⟨S2x2048x12x8, .f32⟩
  | 64 => ⟨S2x2048x12x8, .f32⟩
  | 65 => ⟨S2x2048x12x8, .f32⟩
  | 66 => ⟨S2x2048x12x8, .f32⟩
  | 67 => ⟨S2x2048x12x8, .f32⟩
  | 68 => ⟨S2x2048x12x8, .f32⟩
  | 69 => ⟨S2x2048x12x16, .f32⟩
  | 70 => ⟨S2x2048x12x48, .f32⟩
  | 71 => ⟨S2x2048x12x64, .f32⟩
  | 72 => ⟨S2x2048x768, .f32⟩
  | 73 => ⟨S2x2048x12x64, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S2048x1, .f32⟩
  | 91 => ⟨S1x8, .f32⟩
  | 92 => ⟨S2048x8, .f32⟩
  | 93 => ⟨S2048x8, .f32⟩
  | 94 => ⟨S2048x8, .f32⟩
  | 95 => ⟨S2048x8, .f32⟩
  | 96 => ⟨S1x2048x1x8, .f32⟩
  | 97 => ⟨S2048x8, .f32⟩
  | 98 => ⟨S1x2048x1x8, .f32⟩
  | 99 => ⟨S2x2048x12x16, .f32⟩
  | 100 => ⟨S2x2048x12x8, .f32⟩
  | 101 => ⟨S2x2048x12x8, .f32⟩
  | 102 => ⟨S2x2048x12x8, .f32⟩
  | 103 => ⟨S2x2048x12x8, .f32⟩
  | 104 => ⟨S2x2048x12x8, .f32⟩
  | 105 => ⟨S2x2048x12x8, .f32⟩
  | 106 => ⟨S2x2048x12x8, .f32⟩
  | 107 => ⟨S2x2048x12x8, .f32⟩
  | 108 => ⟨S2x2048x12x8, .f32⟩
  | 109 => ⟨S2x2048x12x8, .f32⟩
  | 110 => ⟨S2x2048x12x8, .f32⟩
  | 111 => ⟨S2x2048x12x8, .f32⟩
  | 112 => ⟨S2x2048x12x16, .f32⟩
  | 113 => ⟨S2x2048x12x48, .f32⟩
  | 114 => ⟨S2x2048x12x64, .f32⟩
  | 115 => ⟨S2x2048x768, .f32⟩
  | 116 => ⟨S_, .f32⟩
  | 117 => ⟨S2x2048x500, .f32⟩
  | 118 => ⟨S2x2048x7680, .f32⟩
  | 119 => ⟨S2x2048x2304, .f32⟩
  | 120 => ⟨S4096x1024, .f32⟩
  | 121 => ⟨S4096x1024, .bf16⟩
  | 122 => ⟨S4096x7680, .f32⟩
  | 123 => ⟨S4096x7680, .bf16⟩
  | 124 => ⟨S4096x2304, .f32⟩
  | 125 => ⟨S_, .f32⟩
  | 126 => ⟨S2x2048x116, .f32⟩
  | 127 => ⟨S2x2048x128, .f32⟩
  | _ => ⟨S2x2048x1024, .f32⟩

abbrev hbmTy0_1 (i : Nat) : BufTy := match i % 128 with
  | 0 => ⟨S4096x128, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_7 : Ref sig .tc := ⟨.hbm, 75, rfl⟩
abbrev main_v64 : Ref sig .tc := ⟨.hbm, 76, rfl⟩
abbrev main_v65 : Ref sig .tc := ⟨.hbm, 77, rfl⟩
abbrev main_cst_8 : Ref sig .tc := ⟨.hbm, 78, rfl⟩
abbrev main_v66 : Ref sig .tc := ⟨.hbm, 79, rfl⟩
abbrev main_v67 : Ref sig .tc := ⟨.hbm, 80, rfl⟩
abbrev main_cst_9 : Ref sig .tc := ⟨.hbm, 81, rfl⟩
abbrev main_v68 : Ref sig .tc := ⟨.hbm, 82, rfl⟩
abbrev main_v69 : Ref sig .tc := ⟨.hbm, 83, rfl⟩
abbrev main_cst_10 : Ref sig .tc := ⟨.hbm, 84, rfl⟩
abbrev main_v70 : Ref sig .tc := ⟨.hbm, 85, rfl⟩
abbrev main_v71 : Ref sig .tc := ⟨.hbm, 86, rfl⟩
abbrev main_cst_11 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_12 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_13 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩

abbrev nD : Nat := 1
abbrev τ : Topo := Topo.v7x

variable {F : FTy → Type} [FloatOps F]
-- ==== KvWGrad.lean ====
abbrev S2x256x1024 : Shape := ⟨3, ![2, 256, 1024]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩
abbrev S1024x1024 : Shape := ⟨2, ![1024, 1024]⟩
abbrev S512x512 : Shape := ⟨2, ![512, 512]⟩
abbrev S512x256 : Shape := ⟨2, ![512, 256]⟩
abbrev S256x512 : Shape := ⟨2, ![256, 512]⟩

abbrev nBuf : Space → Nat
  | .hbm => 24
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S2x256x1024, .bf16⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x1024, .bf16⟩
  | .hbm, ⟨21, _⟩ => ⟨S512x1024, .bf16⟩
  | .hbm, ⟨22, _⟩ => ⟨S512x1024, .bf16⟩
  | .hbm, ⟨23, _⟩ => ⟨S1024x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvWGradRefIdeal.lean ====
abbrev S2x256x1024 : Shape := ⟨3, ![2, 256, 1024]⟩
abbrev S1x1024 : Shape := ⟨2, ![1, 1024]⟩
abbrev S_ : Shape := ⟨0, ![]⟩
abbrev S1024x1024 : Shape := ⟨2, ![1024, 1024]⟩
abbrev S1024 : Shape := ⟨1, ![1024]⟩
abbrev S2x256 : Shape := ⟨2, ![2, 256]⟩
abbrev S2x256x1 : Shape := ⟨3, ![2, 256, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S2x256x1024, .bf16⟩
  | .hbm, ⟨3, _⟩ => ⟨S_, .f32⟩
  | .hbm, ⟨4, _⟩ => ⟨S1024x1024, .f32⟩
  | .hbm, ⟨5, _⟩ => ⟨S1024, .f32⟩
  | .hbm, ⟨6, _⟩ => ⟨S2x256x1024, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x1024, .f32⟩
  | .hbm, ⟨18, _⟩ => ⟨S2x256x1024, .f32⟩
  | .hbm, ⟨19, _⟩ => ⟨S1x1x1024, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S2x256x1024, .f32⟩
  | .hbm, ⟨24, _⟩ => ⟨S1024x1024, .f32⟩
  | .hbm, ⟨25, _⟩ => ⟨S1024x1024, .f32⟩
  | .hbm, ⟨26, _⟩ => ⟨S1024x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KvGrad.lean ====
abbrev S2x256x1024 : Shape := ⟨3, ![2, 256, 1024]⟩
abbrev S1x1024 : Shape := ⟨2, ![1, 1024]⟩
abbrev S1x1024x1024 : Shape := ⟨3, ![1, 1024, 1024]⟩
abbrev S512x1024 : Shape := ⟨2, ![512, 1024]⟩
abbrev S1024x1024 : Shape := ⟨2, ![1024, 1024]⟩
abbrev S8x1024 : Shape := ⟨2, ![8, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S2x256x1024, .bf16⟩
  | .hbm, ⟨4, _⟩ => ⟨S512x1024, .bf16⟩
  | .hbm, ⟨5, _⟩ => ⟨S1024x1024, .f32⟩
  | .hbm, ⟨6, _⟩ => ⟨S1024x1024, .bf16⟩
  | .hbm, ⟨7, _⟩ => ⟨S512x1024, .f32⟩
  | .hbm, ⟨8, _⟩ => ⟨S512x1024, .f32⟩
  | .hbm, ⟨9, _⟩ => ⟨S8x1024, .f32⟩
  | .local _ .vmem, ⟨0, _⟩ => ⟨S512x1024, .bf16⟩
  | .local _ .vmem, ⟨1, _⟩ => ⟨S1024x1024, .bf16⟩
  | .local _ .vmem, ⟨2, _⟩ => ⟨S512x1024, .f32⟩
  | .local _ .vmem, ⟨3, _⟩ => ⟨S1x1024, .f32⟩
  | .local _ .vmem, ⟨4, _⟩ => ⟨S512x1024, .f32⟩
  | .local _ .vmem, ⟨5, _⟩ => ⟨S8x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KvGradRefIdeal.lean ====
abbrev S2x256x1024 : Shape := ⟨3, ![2, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x1024 : Shape := ⟨2, ![1024, 1024]⟩
abbrev S512x1024 : Shape := ⟨2, ![512, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S2x256x1024, .bf16⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S_, .f32⟩
  | .hbm, ⟨18, _⟩ => ⟨S2x256x1, .f32⟩
  | .hbm, ⟨19, _⟩ => ⟨S2x256x1, .f32⟩
  | .hbm, ⟨20, _⟩ => ⟨S2x256x1024, .f32⟩
  | .hbm, ⟨21, _⟩ => ⟨S2x256x1024, .f32⟩
  | .hbm, ⟨22, _⟩ => ⟨S1x1x1024, .f32⟩
  | .hbm, ⟨23, _⟩ => ⟨S2x256x1024, .f32⟩
  | .hbm, ⟨24, _⟩ => ⟨S2x256x1024, .f32⟩
  | .hbm, ⟨25, _⟩ => ⟨S1024x1024, .f32⟩
  | .hbm, ⟨26, _⟩ => ⟨S2x256x1024, .f32⟩
  | .hbm, ⟨27, _⟩ => ⟨S2x256x1024, .f32⟩
  | .hbm, ⟨28, _⟩ => ⟨S1024x1024, .f32⟩
  | .hbm, ⟨29, _⟩ => ⟨S1024x1024, .f32⟩
  | .hbm, ⟨30, _⟩ => ⟨S2x256x1024, .f32⟩
  | .hbm, ⟨31, _⟩ => ⟨S1x1024x1024, .f32⟩
  | .hbm, ⟨32, _⟩ => ⟨S2x256x1024, .f32⟩
  | .hbm, ⟨33, _⟩ => ⟨S_, .f32⟩
  | .hbm, ⟨34, _⟩ => ⟨S1024, .f32⟩
  | .hbm, ⟨35, _⟩ => ⟨S1x1x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S1024, .f32⟩
  | .hbm, ⟨40, _⟩ => ⟨S2x256x1024, .f32⟩
  | .hbm, ⟨41, _⟩ => ⟨S_, .f32⟩
  | .hbm, ⟨42, _⟩ => ⟨S2x256, .f32⟩
  | .hbm, ⟨43, _⟩ => ⟨S2x256x1, .f32⟩
  | .hbm, ⟨44, _⟩ => ⟨S2x256x1024, .f32⟩
  | .hbm, ⟨45, _⟩ => ⟨S2x256x1024, .f32⟩
  | .hbm, ⟨46, _⟩ => ⟨S2x256x1, .f32⟩
  | .hbm, ⟨47, _⟩ => ⟨S_, .f32⟩
  | .hbm, ⟨48, _⟩ => ⟨S2x256x1, .f32⟩
  | .hbm, ⟨49, _⟩ => ⟨S2x256x1, .f32⟩
  | .hbm, ⟨50, _⟩ => ⟨S_, .f32⟩
  | .hbm, ⟨51, _⟩ => ⟨S2x256, .f32⟩
  | .hbm, ⟨52, _⟩ => ⟨S2x256x1024, .f32⟩
  | .hbm, ⟨53, _⟩ => ⟨S2x256x1024, .f32⟩
  | .hbm, ⟨54, _⟩ => ⟨S2x256x1024, .f32⟩
  | .hbm, ⟨55, _⟩ => ⟨S2x256x1024, .f32⟩
  | .hbm, ⟨56, _⟩ => ⟨S2x256x1024, .f32⟩
  | .hbm, ⟨57, _⟩ => ⟨S1x1024, .f32⟩
  | .hbm, ⟨58, _⟩ => ⟨S512x1024, .f32⟩
  | .hbm, ⟨59, _⟩ => ⟨S_, .i32⟩
  | .hbm, ⟨60, _⟩ => ⟨S_, .f32⟩
  | .hbm, ⟨61, _⟩ => ⟨S8x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c : Ref sig .tc := ⟨.hbm, 59, rfl⟩
abbrev main_call0_v0 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== KvProj.lean ====
abbrev S2x256x1024 : Shape := ⟨3, ![2, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩
abbrev S1024x1024 : Shape := ⟨2, ![1024, 1024]⟩
abbrev S1024x512 : Shape := ⟨2, ![1024, 512]⟩
abbrev S512x512 : Shape := ⟨2, ![512, 512]⟩
abbrev S256x1024 : Shape := ⟨2, ![256, 1024]⟩
abbrev S256x512 : Shape := ⟨2, ![256, 512]⟩

abbrev nBuf : Space → Nat
  | .hbm => 25
  | .vmem => 5
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x1024, .bf16⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S512x1024, .bf16⟩
  | .local _ .vmem, ⟨0, _⟩ => ⟨S512x1024, .bf16⟩
  | .local _ .vmem, ⟨1, _⟩ => ⟨S1024x512, .bf16⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjRefIdeal.lean ====
abbrev S2x256x1024 : Shape := ⟨3, ![2, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x1024 : Shape := ⟨2, ![1024, 1024]⟩
abbrev S512x1024 : Shape := ⟨2, ![512, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S1024x1024, .f32⟩
  | .hbm, ⟨21, _⟩ => ⟨S2x256x1024, .f32⟩
  | .hbm, ⟨22, _⟩ => ⟨S2x256x1024, .bf16⟩
  | .hbm, ⟨23, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== AdamSmall.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
variable {F : FTy → Type} [FloatOps F] [Named F]
def κ : String → Option EReal := fun
  | "bc1" => some ((8388608 / 5463681 : ℝ) : EReal)
  | "bc2" => some ((268435456 / 2672307 : ℝ) : EReal)
  | _ => none
-- ==== AdamSmallRefIdeal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MemNorm.lean ====
abbrev S2x256x1024 : Shape := ⟨3, ![2, 256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S512x1024, .f32⟩
  | .hbm, ⟨3, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S2x256x1024 : Shape := ⟨3, ![2, 256, 1024]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x1024, .bf16⟩
  | .hbm, ⟨20, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.MemOps.lean ====
/-
  The memory attention's row functions over the extended reals, and the pieces of its two kernels (`mem_fwd`, `mem_bwd`) read at an
  index as those functions: one product, one row maximum, one row sum at a time.
-/
module
public import proofs.«01_k».proof.Proof.Gen.MemGradIdeal.Skeleton
public import Idealize.ShloMosaic.Lib.MatmulPlain
public import Idealize.ShloMosaic.Lib.Pipeline.Value
public import Idealize.ShloMosaic.Lib.ValueIdx
public import Idealize.ShloMosaic.PureOps.Ideal.Laws
@[expose] public section
set_option maxRecDepth 16384
noncomputable section
namespace Cert.MemGradIdeal.Val
open Idealize.ShloMosaic Idealize.ShloMosaic.ValueIdx Cert.MemGradIdeal Cert.MemGradIdeal.Gen
open scoped BigOperators

/-- The scale the kernels multiply the queries and keys by, `1 / √128`. -/
abbrev c : EReal := (((Real.sqrt 128)⁻¹ : ℝ) : EReal)

/-! ## Rows -/

/-- A query row's scores against the keys. -/
def sc (q : Fin 128 → EReal) (K : Fin 256 → Fin 128 → EReal) (k : Fin 256) : EReal := ∑ e : Fin 128, q e * c * K k e
/-- A row's maximum. -/
def mx (s : Fin 256 → EReal) : EReal := (Finset.univ : Finset (Fin 256)).fold max (FloatOps.ofBits (F := Ideal) .f32 0xFF800000#32) s
/-- A row's exponentials, shifted by its maximum. -/
def pr (s : Fin 256 → EReal) (k : Fin 256) : EReal := Ideal.exp (s k - mx s)
/-- Their sum. -/
def ls (s : Fin 256 → EReal) : EReal := ∑ k : Fin 256, pr s k
/-- The row's output. -/
def ov (s : Fin 256 → EReal) (V : Fin 256 → Fin 128 → EReal) (e : Fin 128) : EReal := Ideal.div (∑ k : Fin 256, pr s k * V k e) (ls s)
/-- The row's log-sum-exp. -/
def lse (s : Fin 256 → EReal) : EReal := mx s + Ideal.log (ls s)

/-! ## Operations at an index -/

theorem mm_nt (l r : S256x128.Idx → EReal) (i j : Fin 256) :
    matmul (F := Ideal) (φ₁ := .bf16) (φ₂ := .bf16) dot_S256x128_S256x128_S256x256_1_1_0_0_n_n none l r (constant S256x256 .f32 0x00000000#32) (ix2 i j)
      = ∑ e : Fin 128, l (ix2 i e) * r (ix2 j e) := by
  refine (Ideal.matmul_transposedRhs_apply (M := 256) (K := 128) (N := 256) (φ₁ := .bf16) (φ₂ := .bf16) none l r (constant S256x256 .f32 0x00000000#32) i j).trans ?_
  show Ideal.ofBits .f32 0x00000000#32 + _ = _
  rw [Ideal.ofBits_zero_f32, zero_add]

theorem mm_nn (l : S256x256.Idx → EReal) (r : S256x128.Idx → EReal) (i : Fin 256) (e : Fin 128) :
    matmul (F := Ideal) (φ₁ := .bf16) (φ₂ := .bf16) dot_S256x256_S256x128_S256x128_1_0_0_1_n_n none l r (constant S256x128 .f32 0x00000000#32) (ix2 i e)
      = ∑ k : Fin 256, l (ix2 i k) * r (ix2 k e) := by
  refine (Ideal.matmul_plain_apply (M := 256) (K := 256) (N := 128) (φ₁ := .bf16) (φ₂ := .bf16) none l r (constant S256x128 .f32 0x00000000#32) i e).trans ?_
  show Ideal.ofBits .f32 0x00000000#32 + _ = _
  rw [Ideal.ofBits_zero_f32, zero_add]

theorem mm_tn (l : S256x256.Idx → EReal) (r : S256x128.Idx → EReal) (k : Fin 256) (e : Fin 128) :
    matmul (F := Ideal) (φ₁ := .bf16) (φ₂ := .bf16) dot_S256x256_S256x128_S256x128_0_0_1_1_n_n none l r (constant S256x128 .f32 0x00000000#32) (ix2 k e)
      = ∑ i : Fin 256, l (ix2 i k) * r (ix2 i e) := by
  refine (Ideal.matmul_constant_zero_apply (φ₁ := .bf16) (φ₂ := .bf16) _ none l r (ix2 k e)).trans ?_
  rw [← Equiv.sum_comp (contrEquiv1 dot_S256x256_S256x128_S256x128_0_0_1_1_n_n 256 rfl rfl).symm]
  refine Finset.sum_congr rfl fun i _ => ?_
  have hk := contrEquiv1_symm_val dot_S256x256_S256x128_S256x128_0_0_1_1_n_n 256 rfl rfl i
  have el : dot_S256x256_S256x128_S256x128_0_0_1_1_n_n.lhsIdx (ix2 k e) ((contrEquiv1 dot_S256x256_S256x128_S256x128_0_0_1_1_n_n 256 rfl rfl).symm i) = ix2 i k := by
    funext a; apply Fin.ext
    match a with
    | ⟨0, _⟩ => exact hk
    | ⟨1, _⟩ => rfl
  have er : dot_S256x256_S256x128_S256x128_0_0_1_1_n_n.rhsIdx (ix2 k e) ((contrEquiv1 dot_S256x256_S256x128_S256x128_0_0_1_1_n_n 256 rfl rfl).symm i) = ix2 i e := by
    funext a; apply Fin.ext
    match a with
    | ⟨0, _⟩ => exact hk
    | ⟨1, _⟩ => rfl
  rw [el, er]

theorem drop_apply (v : S1x256x128.Idx → EReal) (i : Fin 256) (e : Fin 128) :
    shapeCast S256x128 v shapeCasts_S1x256x128_S256x128 (ix2 i e) = v (ix3 0 i e) :=
  (shapeCast_dropUnit_apply ![256, 128] v shapeCasts_S1x256x128_S256x128 (ix2 i e)).trans
    (congrArg v (funext fun a => by match a with | ⟨0, _⟩ => rfl | ⟨1, _⟩ => rfl | ⟨2, _⟩ => rfl))

theorem add_apply (v : S256x128.Idx → EReal) (b : Fin 1) (i : Fin 256) (e : Fin 128) :
    shapeCast S1x256x128 v shapeCasts_S256x128_S1x256x128 (ix3 b i e) = v (ix2 i e) :=
  (shapeCast_addUnit_apply ![256, 128] v shapeCasts_S256x128_S1x256x128 (ix3 b i e)).trans
    (congrArg v (funext fun a => by match a with | ⟨0, _⟩ => rfl | ⟨1, _⟩ => rfl))

theorem col_apply (v : S256.Idx → EReal) (i : Fin 256) :
    shapeCast S256x1 v shapeCasts_S256_S256x1 (ix2 i 0) = v (ix1 i) :=
  shapeCast_apply v shapeCasts_S256_S256x1 (ix2 i 0) (ix1 i) (by
    show (Shape.rowMajorPi ![256] (ix1 i)).val = (Shape.rowMajorPi ![256, 1] (ix2 i 0)).val
    simp only [Shape.rowMajorPi_succ_val]
    simp [ix1, ix2, Shape.rowMajorPi]
    rfl)

theorem col_self (v : S256x1.Idx → EReal) : shapeCast S256x1 v shapeCasts_S256x1_S256x1 = v := shapeCast_self v _

theorem bc_apply (v : S256x1.Idx → EReal) (i k : Fin 256) : broadcastTo S256x256 v broadcasts_S256x1_S256x256 (ix2 i k) = v (ix2 i 0) :=
  broadcastTo_apply v broadcasts_S256x1_S256x256 (ix2 i k) (ix2 i 0) (fun a => by match a with | ⟨0, _⟩ => rfl | ⟨1, _⟩ => rfl)

theorem bc'_apply (v : S256x1.Idx → EReal) (i : Fin 256) (e : Fin 128) : broadcastTo S256x128 v broadcasts_S256x1_S256x128 (ix2 i e) = v (ix2 i 0) :=
  broadcastTo_apply v broadcasts_S256x1_S256x128 (ix2 i e) (ix2 i 0) (fun a => by match a with | ⟨0, _⟩ => rfl | ⟨1, _⟩ => rfl)

theorem slice_apply (v : S256x128.Idx → EReal) (i : Fin 256) :
    extractStridedSlice S256x1 ![0, 0] v slices_S256x128_o0_0_S256x1 (ix2 i 0) = v (ix2 i 0) :=
  extractStridedSlice_apply ![0, 0] v slices_S256x128_o0_0_S256x1 (ix2 i 0) (ix2 i 0) (fun a => by
    match a with | ⟨0, _⟩ => simp | ⟨1, _⟩ => simp)

theorem lift256 (i k : Fin 256) : reduces_S256x256_S256.lift (ix1 i) k = ix2 i k := by
  funext a; apply Fin.ext
  match a with
  | ⟨0, _⟩ => rfl
  | ⟨1, _⟩ => rfl

theorem lift128 (i : Fin 256) (e : Fin 128) : reduces_S256x128_S256.lift (ix1 i) e = ix2 i e := by
  funext a; apply Fin.ext
  match a with
  | ⟨0, _⟩ => rfl
  | ⟨1, _⟩ => rfl

theorem max_apply (v : FVec Ideal S256x256 .f32) (i : Fin 256) :
    multiReduction .maximumf [1] S256 v 0xFF800000#32 reduces_S256x256_S256 (.inl rfl) rfl (ix1 i) = mx fun k => v (ix2 i k) := by
  refine (Ideal.multiReduction_maximumf_single v _ reduces_S256x256_S256 (.inl rfl) rfl (ix1 i)).trans ?_
  unfold mx
  exact congrArg (fun f : Fin 256 → EReal => (Finset.univ : Finset (Fin 256)).fold max (FloatOps.ofBits (F := Ideal) .f32 0xFF800000#32) f)
    (funext fun k => congrArg v (lift256 i k))

theorem sum_apply (v : FVec Ideal S256x256 .f32) (i : Fin 256) :
    multiReduction .add [1] S256 v 0x00000000#32 reduces_S256x256_S256 (.inl rfl) rfl (ix1 i) = ∑ k : Fin 256, v (ix2 i k) :=
  (Ideal.multiReduction_add_single v _ reduces_S256x256_S256 (.inl rfl) rfl (ix1 i)).trans
    (Finset.sum_congr rfl fun k _ => congrArg v (lift256 i k))

theorem sum128_apply (v : FVec Ideal S256x128 .f32) (i : Fin 256) :
    multiReduction .add [1] S256 v 0x00000000#32 reduces_S256x128_S256 (.inl rfl) rfl (ix1 i) = ∑ e : Fin 128, v (ix2 i e) :=
  (Ideal.multiReduction_add_single v _ reduces_S256x128_S256 (.inl rfl) rfl (ix1 i)).trans
    (Finset.sum_congr rfl fun e _ => congrArg v (lift128 i e))

theorem named_c : (Named.named κ "mem_scale" 0x3DB5#16 : Ideal .bf16) = c := by
  first | rfl | exact IdealRules.named_const.ideal_named rfl

/-! ## The forward kernel's payloads -/

theorem k0_pay1_apply (v : Vec Ideal S1x256x128 .bf16) (i : Fin 256) (e : Fin 128) : k0_pay1 v (ix2 i e) = v (ix3 0 i e) := drop_apply v i e
theorem k0_pay2_apply (v : Vec Ideal S1x256x128 .bf16) (i : Fin 256) (e : Fin 128) : k0_pay2 v (ix2 i e) = v (ix3 0 i e) := drop_apply v i e

theorem k0_pay5_apply (K : FVec Ideal S256x128 .bf16) (v : Vec Ideal S1x256x128 .bf16) (i k : Fin 256) :
    k0_pay5 K v (ix2 i k) = sc (fun e => v (ix3 0 i e)) (fun k e => K (ix2 k e)) k := by
  refine (mm_nt _ K i k).trans (Finset.sum_congr rfl fun e _ => ?_)
  exact congrArg (· * _) (congrArg₂ (· * ·) (drop_apply v i e) named_c)

theorem k0_pay9_apply (s : FVec Ideal S256x256 .f32) (i : Fin 256) : k0_pay9 s (ix2 i 0) = mx fun k => s (ix2 i k) := by
  unfold k0_pay9
  dsimp only
  rw [col_apply, max_apply]

theorem k0_pay10_apply (s : FVec Ideal S256x256 .f32) (i k : Fin 256) : k0_pay10 s (ix2 i k) = pr (fun k => s (ix2 i k)) k := by
  unfold k0_pay10 pr
  dsimp only
  rw [← k0_pay9_apply s i, ← bc_apply (k0_pay9 s) i k]
  rfl

theorem k0_pay11_apply (s : FVec Ideal S256x256 .f32) (i : Fin 256) : k0_pay11 s (ix2 i 0) = ls fun k => s (ix2 i k) := by
  unfold k0_pay11
  dsimp only
  rw [col_apply, sum_apply]
  exact Finset.sum_congr rfl fun k _ => k0_pay10_apply s i k

theorem k0_pay12_apply (V : FVec Ideal S256x128 .bf16) (s : FVec Ideal S256x256 .f32) (b : Fin 1) (i : Fin 256) (e : Fin 128) :
    k0_pay12 V s (ix3 b i e) = ov (fun k => s (ix2 i k)) (fun k e => V (ix2 k e)) e := by
  unfold k0_pay12
  rw [add_apply, divf_apply, bc'_apply, k0_pay11_apply, mm_nn]
  exact congrArg (Ideal.div · _) (Finset.sum_congr rfl fun k _ => congrArg (· * _) (k0_pay10_apply s i k))

theorem k0_pay13_apply (s : FVec Ideal S256x256 .f32) (b : Fin 1) (i : Fin 256) (e : Fin 128) :
    k0_pay13 s (ix3 b i e) = lse fun k => s (ix2 i k) := by
  unfold k0_pay13 lse
  rw [add_apply, bc'_apply, col_self, ← k0_pay9_apply, ← k0_pay11_apply]
  rfl

/-! ## The gradient's rows -/

/-- A row's gradient of the output against the saved output. -/
def dl (dO o : Fin 128 → EReal) : EReal := ∑ e : Fin 128, dO e * o e
/-- A row's weights, recomputed from the saved log-sum-exp. -/
def pw (s : Fin 256 → EReal) (L : EReal) (k : Fin 256) : EReal := Ideal.exp (s k - L)
/-- A row's gradient of the weights. -/
def dp (dO : Fin 128 → EReal) (V : Fin 256 → Fin 128 → EReal) (k : Fin 256) : EReal := ∑ e : Fin 128, dO e * V k e
/-- A row's gradient of the scores. -/
def ds (s : Fin 256 → EReal) (L : EReal) (g : Fin 256 → EReal) (D : EReal) (k : Fin 256) : EReal := pw s L k * (g k - D)
/-- A row's gradient of the query. -/
def dq (w : Fin 256 → EReal) (K : Fin 256 → Fin 128 → EReal) (e : Fin 128) : EReal := ∑ k : Fin 256, w k * (K k e * c)

/-! ## The gradient kernel's payloads -/

theorem k1_pay1_apply (v : Vec Ideal S1x256x128 .bf16) (i : Fin 256) (e : Fin 128) : k1_pay1 v (ix2 i e) = v (ix3 0 i e) := drop_apply v i e
theorem k1_pay2_apply (v : Vec Ideal S1x256x128 .bf16) (i : Fin 256) (e : Fin 128) : k1_pay2 v (ix2 i e) = v (ix3 0 i e) := drop_apply v i e
theorem k1_pay11_apply (v : Vec Ideal S1x256x128 .bf16) (i : Fin 256) (e : Fin 128) : k1_pay11 v (ix2 i e) = v (ix3 0 i e) := drop_apply v i e

theorem k1_pay3_apply (v : Vec Ideal S1x256x128 .bf16) (i : Fin 256) (e : Fin 128) : k1_pay3 v (ix2 i e) = v (ix3 0 i e) * c :=
  congrArg₂ (· * ·) (drop_apply v i e) named_c
theorem k1_pay10_apply (v : Vec Ideal S1x256x128 .bf16) (i : Fin 256) (e : Fin 128) : k1_pay10 v (ix2 i e) = v (ix3 0 i e) * c :=
  congrArg₂ (· * ·) (drop_apply v i e) named_c

theorem k1_pay4_apply (x : S256x128.Idx) : (k1_pay4 (F := Ideal)) x = 0 := by
  show Ideal.ofBits .f32 0x00000000#32 = _
  exact Ideal.ofBits_zero_f32

theorem k1_pay8_apply (v : FVec Ideal S256x128 .f32) (b : Fin 1) (i : Fin 256) (e : Fin 128) : k1_pay8 v (ix3 b i e) = v (ix2 i e) := add_apply v b i e
theorem k1_pay9_apply (v : FVec Ideal S256x128 .f32) (b : Fin 1) (i : Fin 256) (e : Fin 128) : k1_pay9 v (ix3 b i e) = v (ix2 i e) := add_apply v b i e

theorem k1_pay12_apply (K : FVec Ideal S256x128 .bf16) (v : Vec Ideal S1x256x128 .bf16) (i k : Fin 256) :
    k1_pay12 K v (ix2 i k) = sc (fun e => v (ix3 0 i e)) (fun k e => K (ix2 k e)) k := by
  unfold k1_pay12
  rw [mm_nt]
  exact Finset.sum_congr rfl fun e _ => congrArg (· * _) (k1_pay10_apply v i e)

theorem k1_pay13_apply (V : FVec Ideal S256x128 .bf16) (v : Vec Ideal S1x256x128 .bf16) (i k : Fin 256) :
    k1_pay13 V v (ix2 i k) = dp (fun e => v (ix3 0 i e)) (fun k e => V (ix2 k e)) k := by
  unfold k1_pay13
  rw [mm_nt]
  exact Finset.sum_congr rfl fun e _ => congrArg (· * _) (k1_pay11_apply v i e)

theorem k1_pay26_apply (s : FVec Ideal S256x256 .f32) (L : Vec Ideal S1x256x128 .f32) (i k : Fin 256) :
    k1_pay26 s L (ix2 i k) = pw (fun k => s (ix2 i k)) (L (ix3 0 i 0)) k := by
  unfold k1_pay26 pw
  rw [← drop_apply L i 0, ← slice_apply (shapeCast S256x128 L shapeCasts_S1x256x128_S256x128) i,
    ← bc_apply (extractStridedSlice S256x1 ![0, 0] (shapeCast S256x128 L shapeCasts_S1x256x128_S256x128) slices_S256x128_o0_0_S256x1) i k]
  rfl

theorem k1_pay27_apply (dO : FVec Ideal S256x128 .bf16) (s g : FVec Ideal S256x256 .f32) (o L : Vec Ideal S1x256x128 .f32) (i k : Fin 256) :
    k1_pay27 dO s g o L (ix2 i k)
      = ds (fun k => s (ix2 i k)) (L (ix3 0 i 0)) (fun k => g (ix2 i k)) (dl (fun e => dO (ix2 i e)) (fun e => o (ix3 0 i e))) k := by
  unfold k1_pay27 ds
  rw [truncf_apply, mulf_apply, subf_apply, k1_pay26_apply, bc_apply, col_apply, sum128_apply]
  exact congrArg (fun x => _ * (_ - x)) (Finset.sum_congr rfl fun e _ => congrArg (_ * ·) (drop_apply o i e))

theorem k1_pay28_apply (Kc : FVec Ideal S256x128 .bf16) (w : FVec Ideal S256x256 .bf16) (b : Fin 1) (i : Fin 256) (e : Fin 128) :
    k1_pay28 Kc w (ix3 b i e) = ∑ k : Fin 256, w (ix2 i k) * Kc (ix2 k e) := by
  unfold k1_pay28
  rw [add_apply, truncf_apply, mm_nn]

end Cert.MemGradIdeal.Val
-- ==== Proof.MemFwd.lean ====
/-
  What the forward kernel of the memory attention leaves in its two output blocks: every row of `o` is the row function `ov` of that
  row's scores, every row of the second block its log-sum-exp.
-/
module
public import proofs.«01_k».proof.Proof.MemOps
public import proofs.«01_k».proof.Proof.Gen.MemGradIdeal.Frame
public import Idealize.ShloMosaic.Lib.Writes
public import Idealize.ShloMosaic.Lib.VecWindow
@[expose] public section
set_option maxRecDepth 16384
noncomputable section
namespace Cert.MemGradIdeal.Val
open Idealize.ShloMosaic Idealize.ShloMosaic.ValueIdx Cert.MemGradIdeal Cert.MemGradIdeal.Gen Idealize.SL.Sem
open scoped BigOperators

/-- A row of a block of 2048 rows. -/
abbrev row {n : ℕ} (x : (⟨3, ![1, n, 128]⟩ : Shape).Idx → EReal) (r : Fin n) : Fin 128 → EReal := fun e => x (ix3 0 r e)
/-- The scores of row `r` of a block of queries against a block of keys. -/
abbrev scr (x : S1x2048x128.Idx → EReal) (K : S1x256x128.Idx → EReal) (r : Fin 2048) : Fin 256 → EReal := sc (row x r) (row K)
/-- The output block. -/
def oOut (x : S1x2048x128.Idx → EReal) (K V : S1x256x128.Idx → EReal) : S1x2048x128.Idx → EReal :=
  fun y => ov (scr x K (y 1)) (row V) (y 2)
/-- The block of log-sum-exps. -/
def lOut (x : S1x2048x128.Idx → EReal) (K : S1x256x128.Idx → EReal) : S1x2048x128.Idx → EReal :=
  fun y => lse (scr x K (y 1))

/-- A stored piece holds `G` where it lies. -/
def Holds {e : EltTy} {s : Shape} (G : s.Idx → Elt Ideal e) (p : View.Piece (Elt Ideal) s e) : Prop := ∀ x : p.1.shape.Idx, p.2 x = G (p.1.emb x)

theorem forall_four {α : Type*} {P : α → Prop} {a b c d : α} {L : List α} (ha : P a) (hb : P b) (hc : P c) (hd : P d) (hL : ∀ p ∈ L, P p) :
    ∀ p ∈ [a, b, c, d] ++ L, P p := by
  simp only [List.cons_append, List.nil_append, List.forall_mem_cons]
  exact ⟨ha, hb, hc, hd, hL⟩

/-- A block of 256 rows read from a block of 2048: row `i` of it is row `j` of the whole when the offset says so. -/
theorem read_rows {e : EltTy} (v : View sig .tc .vmem S1x2048x128 e) (X : v.ty.Contents (Elt Ideal)) (off : Fin 3 → ℕ)
    (inb : ∀ a, off a + S1x256x128.size a ≤ S1x2048x128.size a) (h0 : off 0 = 0) (h2 : off 2 = 0)
    (x : S1x256x128.Idx) (e : Fin 128) :
    v.readAt (Elt Ideal) (Rect.unit (s := S1x2048x128) off S1x256x128.size inb).toLoadRect X (ix3 0 (x 1) e)
      = v.read (Elt Ideal) X (ix3 0 ((Rect.unit (s := S1x2048x128) off S1x256x128.size inb).emb x 1) e) := by
  rw [View.readAt_apply]
  refine congrArg _ (funext fun a => Fin.ext ?_)
  match a with
  | ⟨0, _⟩ => show off 0 + 1 * 0 = 0; omega
  | ⟨1, _⟩ => rfl
  | ⟨2, _⟩ => show off 2 + 1 * e.val = e.val; omega

theorem emb_lane (off : Fin 3 → ℕ) (inb : ∀ a, off a + S1x256x128.size a ≤ S1x2048x128.size a) (h2 : off 2 = 0) (x : S1x256x128.Idx) :
    (Rect.unit (s := S1x2048x128) off S1x256x128.size inb).emb x 2 = x 2 := by
  apply Fin.ext
  show off 2 + 1 * (x 2).val = (x 2).val
  omega

theorem off0 (k : Fin k0_t1_loop.trips) (r : Fin 4) : k0_off1 k (BitVec.ofNat 32 r.val) 0 = 0 ∧ k0_off1 k (BitVec.ofNat 32 r.val) 2 = 0 := by
  rw [k0_off1_eq k r]; exact ⟨rfl, rfl⟩

section
variable (𝒱 : Variants) (cd : Dev nD) (bd : Option 𝒱.V) (i : grid0.Coords) (arg2 : Memref sig .tc .vmem S1x2048x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x2048x128 .f32) (harg5 : arg5.IsWhole) (arg6 : Memref sig .tc .vmem S1x2048x128 .f32) (harg6 : arg6.IsWhole) (v0 : Vec Ideal S1x256x128 .bf16) (v2 : Vec Ideal S1x256x128 .bf16) (X : BufTy.Contents (Elt Ideal) arg2.view.ty)

/-- The row block `r` of trip `k` read from the query block. -/
abbrev qblk (arg2 : Memref sig .tc .vmem S1x2048x128 .bf16) (X : BufTy.Contents (Elt Ideal) arg2.view.ty) (k : Fin k0_t1_loop.trips) (r : Fin 4) : Vec Ideal S1x256x128 .bf16 :=
  arg2.view.readAt (Elt Ideal) (Rect.unit (s := S1x2048x128) (k0_off1 k (BitVec.ofNat 32 r.val)) S1x256x128.size (k0_off1_inb k r)).toLoadRect X

/-- The piece of `o` that row block `r` of trip `k` stores. -/
def pieceO (k : Fin k0_t1_loop.trips) (r : Fin 4) : View.Piece (Elt Ideal) S1x2048x128 .f32 :=
  ⟨Rect.unit (s := S1x2048x128) (k0_off1 k (BitVec.ofNat 32 r.val)) S1x256x128.size (k0_off1_inb k r),
    k0_pay12 (k0_pay2 v2) (k0_pay5 (k0_pay1 v0) (qblk arg2 X k r))⟩
/-- The piece of the log-sum-exps that row block `r` of trip `k` stores. -/
def pieceL (k : Fin k0_t1_loop.trips) (r : Fin 4) : View.Piece (Elt Ideal) S1x2048x128 .f32 :=
  ⟨Rect.unit (s := S1x2048x128) (k0_off1 k (BitVec.ofNat 32 r.val)) S1x256x128.size (k0_off1_inb k r),
    k0_pay13 (k0_pay5 (k0_pay1 v0) (qblk arg2 X k r))⟩

theorem trip0_o (k : Fin k0_t1_loop.trips) :
    (trip_k0_t1 (F := Ideal) 𝒱 cd bd i arg2 harg2 arg3 harg3 arg4 harg4 arg5 harg5 arg6 harg6 v0 v2 X k).1 = [pieceO arg2 v0 v2 X k 3, pieceO arg2 v0 v2 X k 2, pieceO arg2 v0 v2 X k 1, pieceO arg2 v0 v2 X k 0] := by
  unfold trip_k0_t1
  rfl

theorem trip0_l (k : Fin k0_t1_loop.trips) :
    (trip_k0_t1 (F := Ideal) 𝒱 cd bd i arg2 harg2 arg3 harg3 arg4 harg4 arg5 harg5 arg6 harg6 v0 v2 X k).2.1 = [pieceL arg2 v0 X k 3, pieceL arg2 v0 X k 2, pieceL arg2 v0 X k 1, pieceL arg2 v0 X k 0] := by
  unfold trip_k0_t1
  rfl

theorem scores_row (k : Fin k0_t1_loop.trips) (r : Fin 4) (x : S1x256x128.Idx) :
    (fun j => k0_pay5 (k0_pay1 v0) (qblk arg2 X k r) (ix2 (x 1) j))
      = scr (arg2.view.read (Elt Ideal) X) v0 ((pieceO arg2 v0 v2 X k r).1.emb x 1) := by
  funext j
  refine (k0_pay5_apply _ _ (x 1) j).trans ?_
  refine congrArg₂ (fun a b => sc a b j) ?_ ?_
  · funext e
    exact read_rows arg2.view X _ _ (off0 k r).1 (off0 k r).2 x e
  · funext j e
    exact k0_pay1_apply v0 j e

theorem pieceO_holds (k : Fin k0_t1_loop.trips) (r : Fin 4) :
    Holds (e := .f32) (oOut (arg2.view.read (Elt Ideal) X) v0 v2) (pieceO arg2 v0 v2 X k r) := by
  intro x
  change S1x256x128.Idx at x
  have e0 : x = ix3 (x 0) (x 1) (x 2) := eq_ix3 x
  refine (congrArg _ e0).trans ((k0_pay12_apply _ _ (x 0) (x 1) (x 2)).trans ?_)
  unfold oOut
  rw [scores_row arg2 v0 v2 X k r x]
  congr 1
  · funext j e
    exact k0_pay2_apply v2 j e
  · exact (emb_lane _ (k0_off1_inb k r) (off0 k r).2 x).symm

theorem pieceL_holds (k : Fin k0_t1_loop.trips) (r : Fin 4) :
    Holds (e := .f32) (lOut (arg2.view.read (Elt Ideal) X) v0) (pieceL arg2 v0 X k r) := by
  intro x
  change S1x256x128.Idx at x
  have e0 : x = ix3 (x 0) (x 1) (x 2) := eq_ix3 x
  refine (congrArg _ e0).trans ((k0_pay13_apply _ (x 0) (x 1) (x 2)).trans ?_)
  unfold lOut
  exact congrArg lse (scores_row arg2 v0 v0 X k r x)

theorem pb0 (n : ℕ) (hn : n ≤ k0_t1_loop.trips) :
    (∀ p ∈ (pb_k0_t1 (F := Ideal) 𝒱 cd bd i arg2 harg2 arg3 harg3 arg4 harg4 arg5 harg5 arg6 harg6 v0 v2 X n).1, Holds (e := .f32) (oOut (arg2.view.read (Elt Ideal) X) v0 v2) p)
    ∧ (∀ p ∈ (pb_k0_t1 (F := Ideal) 𝒱 cd bd i arg2 harg2 arg3 harg3 arg4 harg4 arg5 harg5 arg6 harg6 v0 v2 X n).2, Holds (e := .f32) (lOut (arg2.view.read (Elt Ideal) X) v0) p) := by
  induction n with
  | zero => exact ⟨fun p hp => by simp [pb_k0_t1] at hp, fun p hp => by simp [pb_k0_t1] at hp⟩
  | succ n ih =>
    obtain ⟨ho, hl⟩ := ih (by omega)
    have e := (pb_k0_t1_succ (F := Ideal) 𝒱 cd bd i arg2 harg2 arg3 harg3 arg4 harg4 arg5 harg5 arg6 harg6 v0 v2 X ⟨n, hn⟩).trans
      (congrArg₂ Prod.mk (congrArg (· ++ _) (trip0_o 𝒱 cd bd i arg2 harg2 arg3 harg3 arg4 harg4 arg5 harg5 arg6 harg6 v0 v2 X ⟨n, hn⟩)) (congrArg (· ++ _) (trip0_l 𝒱 cd bd i arg2 harg2 arg3 harg3 arg4 harg4 arg5 harg5 arg6 harg6 v0 v2 X ⟨n, hn⟩)))
    exact (congrArg (fun L : List (View.Piece (Elt Ideal) S1x2048x128 .f32) × List (View.Piece (Elt Ideal) S1x2048x128 .f32) =>
      (∀ p ∈ L.1, Holds (e := .f32) (oOut (arg2.view.read (Elt Ideal) X) v0 v2) p) ∧ (∀ p ∈ L.2, Holds (e := .f32) (lOut (arg2.view.read (Elt Ideal) X) v0) p)) e).mpr ⟨forall_four (pieceO_holds arg2 v0 v2 X _ 3) (pieceO_holds arg2 v0 v2 X _ 2) (pieceO_holds arg2 v0 v2 X _ 1) (pieceO_holds arg2 v0 v2 X _ 0) ho,
      forall_four (pieceL_holds arg2 v0 X _ 3) (pieceL_holds arg2 v0 X _ 2) (pieceL_holds arg2 v0 X _ 1) (pieceL_holds arg2 v0 X _ 0) hl⟩
end

section
variable (cd : Dev nD) (i : grid0.Coords) (arg2 : Memref sig .tc .vmem S1x2048x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x2048x128 .f32) (harg5 : arg5.IsWhole) (arg6 : Memref sig .tc .vmem S1x2048x128 .f32) (harg6 : arg6.IsWhole) (x0 : Vec Ideal S1x2048x128 .bf16) (x1 x2 : Vec Ideal S1x256x128 .bf16)

theorem read_whole {e : EltTy} (v : Memref sig .tc .vmem S1x256x128 e) (hv : v.IsWhole) (x : S1x256x128.Idx → Elt Ideal e) :
    v.view.readAt (Elt Ideal) (Rect.unit (s := S1x256x128) ![0, 0, 0] S1x256x128.size inb_S1x256x128_S1x256x128_0_0_0).toLoadRect (hv.unread x) = x :=
  (View.readAt_full v.view (hv.unread x) inb_S1x256x128_S1x256x128_0_0_0).trans (hv.read_unread x)

theorem run0_o : (kernelRun0_A (F := Ideal) cd i arg2 harg2 arg3 harg3 arg4 harg4 arg5 harg5 arg6 harg6 x0 x1 x2).1 = (pb_k0_t1 (F := Ideal) Variants.none cd none i arg2 harg2 arg3 harg3 arg4 harg4 arg5 harg5 arg6 harg6 x1 x2 (harg2.unread x0) k0_t1_loop.trips).1 := by
  unfold kernelRun0_A
  exact congrArg₂ (fun a b => (pb_k0_t1 (F := Ideal) Variants.none cd none i arg2 harg2 arg3 harg3 arg4 harg4 arg5 harg5 arg6 harg6 a b (harg2.unread x0) k0_t1_loop.trips).1)
    (read_whole arg3 harg3 x1) (read_whole arg4 harg4 x2)

theorem run0_l : (kernelRun0_A (F := Ideal) cd i arg2 harg2 arg3 harg3 arg4 harg4 arg5 harg5 arg6 harg6 x0 x1 x2).2.1 = (pb_k0_t1 (F := Ideal) Variants.none cd none i arg2 harg2 arg3 harg3 arg4 harg4 arg5 harg5 arg6 harg6 x1 x2 (harg2.unread x0) k0_t1_loop.trips).2 := by
  unfold kernelRun0_A
  exact congrArg₂ (fun a b => (pb_k0_t1 (F := Ideal) Variants.none cd none i arg2 harg2 arg3 harg3 arg4 harg4 arg5 harg5 arg6 harg6 a b (harg2.unread x0) k0_t1_loop.trips).2)
    (read_whole arg3 harg3 x1) (read_whole arg4 harg4 x2)

theorem out0_3_eq : out0_A_3 (F := Ideal) cd i arg2 harg2 arg3 harg3 arg4 harg4 arg5 harg5 arg6 harg6 x0 x1 x2 = oOut x0 x1 x2 := by
  funext y
  unfold out0_A_3
  refine View.read_writes_apply_of_pieces VO0_3 _ (oOut x0 x1 x2) _ ?_ y (cover0_A_3 (F := Ideal) cd i arg2 harg2 arg3 harg3 arg4 harg4 arg5 harg5 arg6 harg6 x0 x1 x2 y)
  have h := (pb0 Variants.none cd none i arg2 harg2 arg3 harg3 arg4 harg4 arg5 harg5 arg6 harg6 x1 x2 (harg2.unread x0) k0_t1_loop.trips le_rfl).1
  rw [← run0_o, harg2.read_unread] at h
  exact h

theorem out0_4_eq : out0_A_4 (F := Ideal) cd i arg2 harg2 arg3 harg3 arg4 harg4 arg5 harg5 arg6 harg6 x0 x1 x2 = lOut x0 x1 := by
  funext y
  unfold out0_A_4
  refine View.read_writes_apply_of_pieces VO0_4 _ (lOut x0 x1) _ ?_ y (cover0_A_4 (F := Ideal) cd i arg2 harg2 arg3 harg3 arg4 harg4 arg5 harg5 arg6 harg6 x0 x1 x2 y)
  have h := (pb0 Variants.none cd none i arg2 harg2 arg3 harg3 arg4 harg4 arg5 harg5 arg6 harg6 x1 x2 (harg2.unread x0) k0_t1_loop.trips le_rfl).2
  rw [← run0_l, harg2.read_unread] at h
  exact h

end

end Cert.MemGradIdeal.Val
-- ==== Proof.MemBwd.lean ====
/-
  What the gradient kernel of the memory attention leaves in its three output blocks: every row of `dq` is the row function `dq` of
  that row's score gradients; `dk` and `dv` are the sums over all 2048 rows, accumulated from zero in eight blocks of 256.
-/
module
public import proofs.«01_k».proof.Proof.MemFwd
@[expose] public section
set_option maxRecDepth 16384
noncomputable section
namespace Cert.MemGradIdeal.Val
open Idealize.ShloMosaic Idealize.ShloMosaic.ValueIdx Cert.MemGradIdeal Cert.MemGradIdeal.Gen Idealize.SL.Sem
open scoped BigOperators

/-- Row `r`'s gradient of the scores. -/
def wRow (x : S1x2048x128.Idx → EReal) (K V : S1x256x128.Idx → EReal) (dO o L : S1x2048x128.Idx → EReal) (r : Fin 2048) : Fin 256 → EReal :=
  ds (scr x K r) (row L r 0) (dp (row dO r) (row V)) (dl (row dO r) (row o r))
/-- Row `r`'s weights. -/
def pRow (x : S1x2048x128.Idx → EReal) (K : S1x256x128.Idx → EReal) (L : S1x2048x128.Idx → EReal) (r : Fin 2048) : Fin 256 → EReal :=
  pw (scr x K r) (row L r 0)
/-- The block of query gradients. -/
def dqOut (x : S1x2048x128.Idx → EReal) (K V : S1x256x128.Idx → EReal) (dO o L : S1x2048x128.Idx → EReal) : S1x2048x128.Idx → EReal :=
  fun y => dq (wRow x K V dO o L (y 1)) (row K) (y 2)
/-- The block of key gradients. -/
def dkOut (x : S1x2048x128.Idx → EReal) (K V : S1x256x128.Idx → EReal) (dO o L : S1x2048x128.Idx → EReal) : S1x256x128.Idx → EReal :=
  fun y => ∑ r : Fin 2048, wRow x K V dO o L r (y 1) * (row x r (y 2) * c)
/-- The block of value gradients. -/
def dvOut (x : S1x2048x128.Idx → EReal) (K : S1x256x128.Idx → EReal) (dO L : S1x2048x128.Idx → EReal) : S1x256x128.Idx → EReal :=
  fun y => ∑ r : Fin 2048, pRow x K L r (y 1) * row dO r (y 2)

/-- The part of a sum over 2048 rows that block `j` of 256 rows contributes. -/
def part (f : Fin 2048 → EReal) (j : ℕ) : EReal := ∑ i : Fin 256, if h : 256 * j + i.val < 2048 then f ⟨256 * j + i.val, h⟩ else 0

theorem sum_part (f : Fin 2048 → EReal) : ∑ j ∈ Finset.range 8, part f j = ∑ r : Fin 2048, f r := by
  rw [← Fin.sum_univ_eq_sum_range (part f) 8, ← (finProdFinEquiv (m := 8) (n := 256)).sum_comp (fun r : Fin (8 * 256) => f r), Fintype.sum_prod_type]
  refine Finset.sum_congr rfl fun j _ => Finset.sum_congr rfl fun i _ => ?_
  have h : 256 * j.val + i.val < 2048 := by omega
  rw [dif_pos h]
  exact congrArg f (Fin.ext (by show 256 * j.val + i.val = i.val + 256 * j.val; omega))

theorem off1 (k : Fin k1_t1_loop.trips) (r : Fin 4) : k1_off1 k (BitVec.ofNat 32 r.val) 0 = 0 ∧ k1_off1 k (BitVec.ofNat 32 r.val) 2 = 0 := by
  rw [k1_off1_eq k r]; exact ⟨rfl, rfl⟩

/-- The rectangle of row block `r` of trip `k`. -/
abbrev rect1 (k : Fin k1_t1_loop.trips) (r : Fin 4) : Rect S1x2048x128 :=
  Rect.unit (s := S1x2048x128) (k1_off1 k (BitVec.ofNat 32 r.val)) S1x256x128.size (k1_off1_inb k r)

/-- The row of the whole block that row `i` of block `r` of trip `k` is. -/
abbrev rr (k : Fin k1_t1_loop.trips) (r : Fin 4) (i : Fin 256) : Fin 2048 := (rect1 k r).emb (ix3 0 i 0) 1

theorem rr_val (k : Fin k1_t1_loop.trips) (r : Fin 4) (i : Fin 256) : (rr k r i).val = 256 * (4 * k.val + r.val) + i.val := by
  show k1_off1 k (BitVec.ofNat 32 r.val) 1 + 1 * i.val = _
  rw [k1_off1_eq k r]
  show 1024 * k.val + 256 * r.val + 1 * i.val = _
  omega

theorem sum_rr (f : Fin 2048 → EReal) (k : Fin k1_t1_loop.trips) (r : Fin 4) : ∑ i : Fin 256, f (rr k r i) = part f (4 * k.val + r.val) := by
  refine Finset.sum_congr rfl fun i _ => ?_
  have h := rr_val k r i
  rw [dif_pos (h ▸ (rr k r i).isLt)]
  exact congrArg f (Fin.ext h)

/-- A row block read from a block of 2048 rows. -/
abbrev blk {e : EltTy} (m : Memref sig .tc .vmem S1x2048x128 e) (X : BufTy.Contents (Elt Ideal) m.view.ty) (k : Fin k1_t1_loop.trips) (r : Fin 4) : S1x256x128.Idx → Elt Ideal e :=
  m.view.readAt (Elt Ideal) (rect1 k r).toLoadRect X

theorem blk_apply {e : EltTy} (m : Memref sig .tc .vmem S1x2048x128 e) (X : BufTy.Contents (Elt Ideal) m.view.ty) (k : Fin k1_t1_loop.trips) (r : Fin 4) (i : Fin 256) (l : Fin 128) :
    blk m X k r (ix3 0 i l) = m.view.read (Elt Ideal) X (ix3 0 (rr k r i) l) :=
  read_rows m.view X _ _ (off1 k r).1 (off1 k r).2 (ix3 0 i 0) l

section
variable (𝒱 : Variants) (cd : Dev nD) (bd : Option 𝒱.V) (i : grid1.Coords) (arg2 : Memref sig .tc .vmem S1x2048x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S1x256x128 .f32) (harg9 : arg9.IsWhole) (arg10 : Memref sig .tc .vmem S1x256x128 .f32) (harg10 : arg10.IsWhole) (v0 v2 : Vec Ideal S1x256x128 .bf16) (X2 : BufTy.Contents (Elt Ideal) arg2.view.ty) (X5 : BufTy.Contents (Elt Ideal) arg5.view.ty) (X6 : BufTy.Contents (Elt Ideal) arg6.view.ty) (X7 : BufTy.Contents (Elt Ideal) arg7.view.ty)

/-- A row block's scores. -/
abbrev sB (k : Fin k1_t1_loop.trips) (r : Fin 4) : FVec Ideal S256x256 .f32 := k1_pay12 (k1_pay1 v0) (blk arg2 X2 k r)
/-- A row block's gradients of the weights. -/
abbrev gB (k : Fin k1_t1_loop.trips) (r : Fin 4) : FVec Ideal S256x256 .f32 := k1_pay13 (k1_pay2 v2) (blk arg5 X5 k r)
/-- A row block's weights. -/
abbrev pB (k : Fin k1_t1_loop.trips) (r : Fin 4) : FVec Ideal S256x256 .f32 := k1_pay26 (sB arg2 v0 X2 k r) (blk arg7 X7 k r)
/-- A row block's gradients of the scores. -/
abbrev wB (k : Fin k1_t1_loop.trips) (r : Fin 4) : FVec Ideal S256x256 .bf16 :=
  k1_pay27 (k1_pay11 (blk arg5 X5 k r)) (sB arg2 v0 X2 k r) (gB arg5 v2 X5 k r) (blk arg6 X6 k r) (blk arg7 X7 k r)
/-- The piece of `dq` that a row block stores. -/
def pieceQ (k : Fin k1_t1_loop.trips) (r : Fin 4) : View.Piece (Elt Ideal) S1x2048x128 .bf16 :=
  ⟨rect1 k r, k1_pay28 (k1_pay3 v0) (wB arg2 arg5 arg6 arg7 v0 v2 X2 X5 X6 X7 k r)⟩
/-- `dk` with a row block's part added. -/
def stepK (k : Fin k1_t1_loop.trips) (r : Fin 4) (acc : FVec Ideal S256x128 .f32) : FVec Ideal S256x128 .f32 :=
  addf acc (matmul (φ₁ := .bf16) (φ₂ := .bf16) dot_S256x256_S256x128_S256x128_0_0_1_1_n_n none (wB arg2 arg5 arg6 arg7 v0 v2 X2 X5 X6 X7 k r) (k1_pay10 (blk arg2 X2 k r)) (constant S256x128 .f32 0x00000000#32))
/-- `dv` with a row block's part added. -/
def stepV (k : Fin k1_t1_loop.trips) (r : Fin 4) (acc : FVec Ideal S256x128 .f32) : FVec Ideal S256x128 .f32 :=
  addf acc (matmul (φ₁ := .bf16) (φ₂ := .bf16) dot_S256x256_S256x128_S256x128_0_0_1_1_n_n none (truncf .bf16 (pB arg2 arg7 v0 X2 X7 k r) bitsLt_bf16_f32) (k1_pay11 (blk arg5 X5 k r)) (constant S256x128 .f32 0x00000000#32))

theorem trip1_q (k : Fin k1_t1_loop.trips) (acc : FVec Ideal S256x128 .f32 × FVec Ideal S256x128 .f32) :
    (trip_k1_t1 (F := Ideal) 𝒱 cd bd i arg2 harg2 arg3 harg3 arg4 harg4 arg5 harg5 arg6 harg6 arg7 harg7 arg8 harg8 arg9 harg9 arg10 harg10 v0 v2 X2 X5 X6 X7 k).2.1 acc
      = [pieceQ arg2 arg5 arg6 arg7 v0 v2 X2 X5 X6 X7 k 3, pieceQ arg2 arg5 arg6 arg7 v0 v2 X2 X5 X6 X7 k 2, pieceQ arg2 arg5 arg6 arg7 v0 v2 X2 X5 X6 X7 k 1, pieceQ arg2 arg5 arg6 arg7 v0 v2 X2 X5 X6 X7 k 0] := by
  unfold trip_k1_t1
  rfl

theorem trip1_r (k : Fin k1_t1_loop.trips) (acc : FVec Ideal S256x128 .f32 × FVec Ideal S256x128 .f32) :
    (trip_k1_t1 (F := Ideal) 𝒱 cd bd i arg2 harg2 arg3 harg3 arg4 harg4 arg5 harg5 arg6 harg6 arg7 harg7 arg8 harg8 arg9 harg9 arg10 harg10 v0 v2 X2 X5 X6 X7 k).1 acc
      = (stepK arg2 arg5 arg6 arg7 v0 v2 X2 X5 X6 X7 k 3 (stepK arg2 arg5 arg6 arg7 v0 v2 X2 X5 X6 X7 k 2 (stepK arg2 arg5 arg6 arg7 v0 v2 X2 X5 X6 X7 k 1 (stepK arg2 arg5 arg6 arg7 v0 v2 X2 X5 X6 X7 k 0 acc.1))),
         stepV arg2 arg5 arg7 v0 X2 X5 X7 k 3 (stepV arg2 arg5 arg7 v0 X2 X5 X7 k 2 (stepV arg2 arg5 arg7 v0 X2 X5 X7 k 1 (stepV arg2 arg5 arg7 v0 X2 X5 X7 k 0 acc.2)))) := by
  unfold trip_k1_t1
  rfl

theorem sB_row (k : Fin k1_t1_loop.trips) (r : Fin 4) (i : Fin 256) :
    (fun j => sB arg2 v0 X2 k r (ix2 i j)) = scr (arg2.view.read (Elt Ideal) X2) v0 (rr k r i) := by
  funext j
  refine (k1_pay12_apply _ _ i j).trans (congrArg₂ (fun a b => sc a b j) ?_ ?_)
  · funext e
    exact blk_apply arg2 X2 k r i e
  · funext j e
    exact k1_pay1_apply v0 j e

theorem gB_row (k : Fin k1_t1_loop.trips) (r : Fin 4) (i : Fin 256) :
    (fun j => gB arg5 v2 X5 k r (ix2 i j)) = dp (row (arg5.view.read (Elt Ideal) X5) (rr k r i)) (row v2) := by
  funext j
  refine (k1_pay13_apply _ _ i j).trans (congrArg₂ (fun a b => dp a b j) ?_ ?_)
  · funext e
    exact blk_apply arg5 X5 k r i e
  · funext j e
    exact k1_pay2_apply v2 j e

theorem wB_row (k : Fin k1_t1_loop.trips) (r : Fin 4) (i j : Fin 256) :
    wB arg2 arg5 arg6 arg7 v0 v2 X2 X5 X6 X7 k r (ix2 i j) = wRow (arg2.view.read (Elt Ideal) X2) v0 v2 (arg5.view.read (Elt Ideal) X5) (arg6.view.read (Elt Ideal) X6) (arg7.view.read (Elt Ideal) X7) (rr k r i) j := by
  refine (k1_pay27_apply _ _ _ _ _ i j).trans ?_
  unfold wRow
  rw [sB_row, gB_row, blk_apply arg7 X7 k r i 0]
  refine congrArg (fun d => ds _ _ _ d j) (congrArg₂ dl ?_ ?_)
  · funext e
    exact (k1_pay11_apply _ i e).trans (blk_apply arg5 X5 k r i e)
  · funext e
    exact blk_apply arg6 X6 k r i e

theorem pB_row (k : Fin k1_t1_loop.trips) (r : Fin 4) (i j : Fin 256) :
    pB arg2 arg7 v0 X2 X7 k r (ix2 i j) = pRow (arg2.view.read (Elt Ideal) X2) v0 (arg7.view.read (Elt Ideal) X7) (rr k r i) j := by
  refine (k1_pay26_apply _ _ i j).trans ?_
  unfold pRow
  rw [sB_row, blk_apply arg7 X7 k r i 0]

theorem pieceQ_holds (k : Fin k1_t1_loop.trips) (r : Fin 4) :
    Holds (e := .bf16) (dqOut (arg2.view.read (Elt Ideal) X2) v0 v2 (arg5.view.read (Elt Ideal) X5) (arg6.view.read (Elt Ideal) X6) (arg7.view.read (Elt Ideal) X7)) (pieceQ arg2 arg5 arg6 arg7 v0 v2 X2 X5 X6 X7 k r) := by
  intro x
  change S1x256x128.Idx at x
  have e0 : x = ix3 (x 0) (x 1) (x 2) := eq_ix3 x
  refine (congrArg _ e0).trans ((k1_pay28_apply _ _ (x 0) (x 1) (x 2)).trans ?_)
  unfold dqOut dq
  refine Finset.sum_congr rfl fun j _ => congrArg₂ (· * ·) (wB_row arg2 arg5 arg6 arg7 v0 v2 X2 X5 X6 X7 k r (x 1) j) ?_
  refine (k1_pay3_apply v0 j (x 2)).trans ?_
  exact congrArg (fun l : Fin 128 => v0 (ix3 0 j l) * c) (emb_lane _ (k1_off1_inb k r) (off1 k r).2 x).symm

theorem stepK_apply (k : Fin k1_t1_loop.trips) (r : Fin 4) (acc : FVec Ideal S256x128 .f32) (j : Fin 256) (e : Fin 128) :
    stepK arg2 arg5 arg6 arg7 v0 v2 X2 X5 X6 X7 k r acc (ix2 j e)
      = acc (ix2 j e) + part (fun n => wRow (arg2.view.read (Elt Ideal) X2) v0 v2 (arg5.view.read (Elt Ideal) X5) (arg6.view.read (Elt Ideal) X6) (arg7.view.read (Elt Ideal) X7) n j * (row (arg2.view.read (Elt Ideal) X2) n e * c)) (4 * k.val + r.val) := by
  unfold stepK
  rw [addf_apply, mm_tn, ← sum_rr _ k r]
  refine congrArg (_ + ·) (Finset.sum_congr rfl fun i _ => congrArg₂ (· * ·) (wB_row arg2 arg5 arg6 arg7 v0 v2 X2 X5 X6 X7 k r i j) ?_)
  exact (k1_pay10_apply _ i e).trans (congrArg (· * c) (blk_apply arg2 X2 k r i e))

theorem stepV_apply (k : Fin k1_t1_loop.trips) (r : Fin 4) (acc : FVec Ideal S256x128 .f32) (j : Fin 256) (e : Fin 128) :
    stepV arg2 arg5 arg7 v0 X2 X5 X7 k r acc (ix2 j e)
      = acc (ix2 j e) + part (fun n => pRow (arg2.view.read (Elt Ideal) X2) v0 (arg7.view.read (Elt Ideal) X7) n j * row (arg5.view.read (Elt Ideal) X5) n e) (4 * k.val + r.val) := by
  unfold stepV
  rw [addf_apply, mm_tn, ← sum_rr _ k r]
  refine congrArg (_ + ·) (Finset.sum_congr rfl fun i _ => congrArg₂ (· * ·) (pB_row arg2 arg7 v0 X2 X7 k r i j) ?_)
  exact (k1_pay11_apply _ i e).trans (blk_apply arg5 X5 k r i e)

theorem st1 (n : ℕ) (hn : n ≤ k1_t1_loop.trips) :
    (∀ p ∈ (st_k1_t1 (F := Ideal) 𝒱 cd bd i arg2 harg2 arg3 harg3 arg4 harg4 arg5 harg5 arg6 harg6 arg7 harg7 arg8 harg8 arg9 harg9 arg10 harg10 v0 v2 X2 X5 X6 X7 (k1_pay4, k1_pay4) n).2, Holds (e := .bf16) (dqOut (arg2.view.read (Elt Ideal) X2) v0 v2 (arg5.view.read (Elt Ideal) X5) (arg6.view.read (Elt Ideal) X6) (arg7.view.read (Elt Ideal) X7)) p)
    ∧ (∀ j e, (st_k1_t1 (F := Ideal) 𝒱 cd bd i arg2 harg2 arg3 harg3 arg4 harg4 arg5 harg5 arg6 harg6 arg7 harg7 arg8 harg8 arg9 harg9 arg10 harg10 v0 v2 X2 X5 X6 X7 (k1_pay4, k1_pay4) n).1.1 (ix2 j e)
        = ∑ t ∈ Finset.range (4 * n), part (fun n => wRow (arg2.view.read (Elt Ideal) X2) v0 v2 (arg5.view.read (Elt Ideal) X5) (arg6.view.read (Elt Ideal) X6) (arg7.view.read (Elt Ideal) X7) n j * (row (arg2.view.read (Elt Ideal) X2) n e * c)) t)
    ∧ (∀ j e, (st_k1_t1 (F := Ideal) 𝒱 cd bd i arg2 harg2 arg3 harg3 arg4 harg4 arg5 harg5 arg6 harg6 arg7 harg7 arg8 harg8 arg9 harg9 arg10 harg10 v0 v2 X2 X5 X6 X7 (k1_pay4, k1_pay4) n).1.2 (ix2 j e)
        = ∑ t ∈ Finset.range (4 * n), part (fun n => pRow (arg2.view.read (Elt Ideal) X2) v0 (arg7.view.read (Elt Ideal) X7) n j * row (arg5.view.read (Elt Ideal) X5) n e) t) := by
  induction n with
  | zero => exact ⟨fun p hp => by simp [st_k1_t1] at hp, fun j e => k1_pay4_apply (ix2 j e), fun j e => k1_pay4_apply (ix2 j e)⟩
  | succ n ih =>
    obtain ⟨hq, hk, hv⟩ := ih (by omega)
    have e := (st_k1_t1_succ (F := Ideal) 𝒱 cd bd i arg2 harg2 arg3 harg3 arg4 harg4 arg5 harg5 arg6 harg6 arg7 harg7 arg8 harg8 arg9 harg9 arg10 harg10 v0 v2 X2 X5 X6 X7 (k1_pay4, k1_pay4) ⟨n, hn⟩).trans
      (congrArg₂ Prod.mk (trip1_r 𝒱 cd bd i arg2 harg2 arg3 harg3 arg4 harg4 arg5 harg5 arg6 harg6 arg7 harg7 arg8 harg8 arg9 harg9 arg10 harg10 v0 v2 X2 X5 X6 X7 ⟨n, hn⟩ _) (congrArg (· ++ _) (trip1_q 𝒱 cd bd i arg2 harg2 arg3 harg3 arg4 harg4 arg5 harg5 arg6 harg6 arg7 harg7 arg8 harg8 arg9 harg9 arg10 harg10 v0 v2 X2 X5 X6 X7 ⟨n, hn⟩ _)))
    refine ⟨(congrArg (fun L : (FVec Ideal S256x128 .f32 × FVec Ideal S256x128 .f32) × List (View.Piece (Elt Ideal) S1x2048x128 .bf16) =>
        ∀ p ∈ L.2, Holds (e := .bf16) (dqOut (arg2.view.read (Elt Ideal) X2) v0 v2 (arg5.view.read (Elt Ideal) X5) (arg6.view.read (Elt Ideal) X6) (arg7.view.read (Elt Ideal) X7)) p) e).mpr
        (forall_four (pieceQ_holds arg2 arg5 arg6 arg7 v0 v2 X2 X5 X6 X7 _ 3) (pieceQ_holds arg2 arg5 arg6 arg7 v0 v2 X2 X5 X6 X7 _ 2) (pieceQ_holds arg2 arg5 arg6 arg7 v0 v2 X2 X5 X6 X7 _ 1) (pieceQ_holds arg2 arg5 arg6 arg7 v0 v2 X2 X5 X6 X7 _ 0) hq),
      fun j l => (congrArg (fun L : (FVec Ideal S256x128 .f32 × FVec Ideal S256x128 .f32) × List (View.Piece (Elt Ideal) S1x2048x128 .bf16) => L.1.1 (ix2 j l)) e).trans ?_,
      fun j l => (congrArg (fun L : (FVec Ideal S256x128 .f32 × FVec Ideal S256x128 .f32) × List (View.Piece (Elt Ideal) S1x2048x128 .bf16) => L.1.2 (ix2 j l)) e).trans ?_⟩
    · dsimp only
      rw [stepK_apply, stepK_apply, stepK_apply, stepK_apply, hk j l, show 4 * (n + 1) = 4 * n + 1 + 1 + 1 + 1 by omega,
        Finset.sum_range_succ, Finset.sum_range_succ, Finset.sum_range_succ, Finset.sum_range_succ]
      rfl
    · dsimp only
      rw [stepV_apply, stepV_apply, stepV_apply, stepV_apply, hv j l, show 4 * (n + 1) = 4 * n + 1 + 1 + 1 + 1 by omega,
        Finset.sum_range_succ, Finset.sum_range_succ, Finset.sum_range_succ, Finset.sum_range_succ]
      rfl
end

section
variable (cd : Dev nD) (i : grid1.Coords) (arg2 : Memref sig .tc .vmem S1x2048x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .bf16) (harg8 : arg8.IsWhole) (arg9 : Memref sig .tc .vmem S1x256x128 .f32) (harg9 : arg9.IsWhole) (arg10 : Memref sig .tc .vmem S1x256x128 .f32) (harg10 : arg10.IsWhole) (x0 : Vec Ideal S1x2048x128 .bf16) (x1 x2 : Vec Ideal S1x256x128 .bf16) (x3 : Vec Ideal S1x2048x128 .bf16) (x4 x5 : Vec Ideal S1x2048x128 .f32)

theorem run1_q : (kernelRun1_A (F := Ideal) cd i arg2 harg2 arg3 harg3 arg4 harg4 arg5 harg5 arg6 harg6 arg7 harg7 arg8 harg8 arg9 harg9 arg10 harg10 x0 x1 x2 x3 x4 x5).1 = (st_k1_t1 (F := Ideal) Variants.none cd none i arg2 harg2 arg3 harg3 arg4 harg4 arg5 harg5 arg6 harg6 arg7 harg7 arg8 harg8 arg9 harg9 arg10 harg10 x1 x2 (harg2.unread x0) (harg5.unread x3) (harg6.unread x4) (harg7.unread x5) (k1_pay4, k1_pay4) k1_t1_loop.trips).2 := by
  unfold kernelRun1_A
  exact congrArg₂ (fun a b => (st_k1_t1 (F := Ideal) Variants.none cd none i arg2 harg2 arg3 harg3 arg4 harg4 arg5 harg5 arg6 harg6 arg7 harg7 arg8 harg8 arg9 harg9 arg10 harg10 a b (harg2.unread x0) (harg5.unread x3) (harg6.unread x4) (harg7.unread x5) (k1_pay4, k1_pay4) k1_t1_loop.trips).2) (read_whole arg3 harg3 x1) (read_whole arg4 harg4 x2)

/-- The whole-block piece of a kernel's last store. -/
abbrev whole (v : S1x256x128.Idx → EReal) : View.Piece (Elt Ideal) S1x256x128 .f32 :=
  ⟨Rect.unit (s := S1x256x128) ![0, 0, 0] S1x256x128.size inb_S1x256x128_S1x256x128_0_0_0, v⟩

theorem run1_k : (kernelRun1_A (F := Ideal) cd i arg2 harg2 arg3 harg3 arg4 harg4 arg5 harg5 arg6 harg6 arg7 harg7 arg8 harg8 arg9 harg9 arg10 harg10 x0 x1 x2 x3 x4 x5).2.1 = [whole (k1_pay8 (st_k1_t1 (F := Ideal) Variants.none cd none i arg2 harg2 arg3 harg3 arg4 harg4 arg5 harg5 arg6 harg6 arg7 harg7 arg8 harg8 arg9 harg9 arg10 harg10 x1 x2 (harg2.unread x0) (harg5.unread x3) (harg6.unread x4) (harg7.unread x5) (k1_pay4, k1_pay4) k1_t1_loop.trips).1.1)] := by
  unfold kernelRun1_A
  exact congrArg₂ (fun a b => [whole (k1_pay8 (st_k1_t1 (F := Ideal) Variants.none cd none i arg2 harg2 arg3 harg3 arg4 harg4 arg5 harg5 arg6 harg6 arg7 harg7 arg8 harg8 arg9 harg9 arg10 harg10 a b (harg2.unread x0) (harg5.unread x3) (harg6.unread x4) (harg7.unread x5) (k1_pay4, k1_pay4) k1_t1_loop.trips).1.1)]) (read_whole arg3 harg3 x1) (read_whole arg4 harg4 x2)

theorem run1_v : (kernelRun1_A (F := Ideal) cd i arg2 harg2 arg3 harg3 arg4 harg4 arg5 harg5 arg6 harg6 arg7 harg7 arg8 harg8 arg9 harg9 arg10 harg10 x0 x1 x2 x3 x4 x5).2.2.1 = [whole (k1_pay9 (st_k1_t1 (F := Ideal) Variants.none cd none i arg2 harg2 arg3 harg3 arg4 harg4 arg5 harg5 arg6 harg6 arg7 harg7 arg8 harg8 arg9 harg9 arg10 harg10 x1 x2 (harg2.unread x0) (harg5.unread x3) (harg6.unread x4) (harg7.unread x5) (k1_pay4, k1_pay4) k1_t1_loop.trips).1.2)] := by
  unfold kernelRun1_A
  exact congrArg₂ (fun a b => [whole (k1_pay9 (st_k1_t1 (F := Ideal) Variants.none cd none i arg2 harg2 arg3 harg3 arg4 harg4 arg5 harg5 arg6 harg6 arg7 harg7 arg8 harg8 arg9 harg9 arg10 harg10 a b (harg2.unread x0) (harg5.unread x3) (harg6.unread x4) (harg7.unread x5) (k1_pay4, k1_pay4) k1_t1_loop.trips).1.2)]) (read_whole arg3 harg3 x1) (read_whole arg4 harg4 x2)

theorem whole_holds (v : S1x256x128.Idx → EReal) (G : S1x256x128.Idx → EReal) (h : ∀ j e, v (ix3 0 j e) = G (ix3 0 j e)) :
    ∀ p ∈ [whole v], Holds (e := .f32) G p := by
  intro p hp
  obtain rfl := List.mem_singleton.mp hp
  intro x
  change S1x256x128.Idx at x
  have e0 : x = ix3 0 (x 1) (x 2) := (eq_ix3 x).trans (congrArg (fun b : Fin 1 => ix3 b (x 1) (x 2)) (Subsingleton.elim _ _))
  have e1 : (Rect.unit (s := S1x256x128) ![0, 0, 0] S1x256x128.size inb_S1x256x128_S1x256x128_0_0_0).emb x = x := by
    funext a; apply Fin.ext
    show (![0, 0, 0] : Fin 3 → ℕ) a + 1 * (x a).val = (x a).val
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega
  exact ((congrArg v e0).trans (h (x 1) (x 2))).trans (congrArg G (e0.symm.trans e1.symm))

theorem out1_6_eq : out1_A_6 (F := Ideal) cd i arg2 harg2 arg3 harg3 arg4 harg4 arg5 harg5 arg6 harg6 arg7 harg7 arg8 harg8 arg9 harg9 arg10 harg10 x0 x1 x2 x3 x4 x5 = dqOut x0 x1 x2 x3 x4 x5 := by
  funext y
  unfold out1_A_6
  refine View.read_writes_apply_of_pieces VO1_6 _ (dqOut x0 x1 x2 x3 x4 x5) _ ?_ y (cover1_A_6 (F := Ideal) cd i arg2 harg2 arg3 harg3 arg4 harg4 arg5 harg5 arg6 harg6 arg7 harg7 arg8 harg8 arg9 harg9 arg10 harg10 x0 x1 x2 x3 x4 x5 y)
  have h := (st1 Variants.none cd none i arg2 harg2 arg3 harg3 arg4 harg4 arg5 harg5 arg6 harg6 arg7 harg7 arg8 harg8 arg9 harg9 arg10 harg10 x1 x2 (harg2.unread x0) (harg5.unread x3) (harg6.unread x4) (harg7.unread x5) k1_t1_loop.trips le_rfl).1
  rw [← run1_q, harg2.read_unread, harg5.read_unread, harg6.read_unread, harg7.read_unread] at h
  exact h

theorem out1_7_eq : out1_A_7 (F := Ideal) cd i arg2 harg2 arg3 harg3 arg4 harg4 arg5 harg5 arg6 harg6 arg7 harg7 arg8 harg8 arg9 harg9 arg10 harg10 x0 x1 x2 x3 x4 x5 = dkOut x0 x1 x2 x3 x4 x5 := by
  funext y
  unfold out1_A_7
  refine View.read_writes_apply_of_pieces VO1_7 _ (dkOut x0 x1 x2 x3 x4 x5) _ ?_ y (cover1_A_7 (F := Ideal) cd i arg2 harg2 arg3 harg3 arg4 harg4 arg5 harg5 arg6 harg6 arg7 harg7 arg8 harg8 arg9 harg9 arg10 harg10 x0 x1 x2 x3 x4 x5 y)
  rw [run1_k]
  refine whole_holds _ _ fun j e => (k1_pay8_apply _ 0 j e).trans ?_
  rw [(st1 Variants.none cd none i arg2 harg2 arg3 harg3 arg4 harg4 arg5 harg5 arg6 harg6 arg7 harg7 arg8 harg8 arg9 harg9 arg10 harg10 x1 x2 (harg2.unread x0) (harg5.unread x3) (harg6.unread x4) (harg7.unread x5) k1_t1_loop.trips le_rfl).2.1 j e, harg2.read_unread, harg5.read_unread, harg6.read_unread, harg7.read_unread]
  exact sum_part _

theorem out1_8_eq : out1_A_8 (F := Ideal) cd i arg2 harg2 arg3 harg3 arg4 harg4 arg5 harg5 arg6 harg6 arg7 harg7 arg8 harg8 arg9 harg9 arg10 harg10 x0 x1 x2 x3 x4 x5 = dvOut x0 x1 x3 x5 := by
  funext y
  unfold out1_A_8
  refine View.read_writes_apply_of_pieces VO1_8 _ (dvOut x0 x1 x3 x5) _ ?_ y (cover1_A_8 (F := Ideal) cd i arg2 harg2 arg3 harg3 arg4 harg4 arg5 harg5 arg6 harg6 arg7 harg7 arg8 harg8 arg9 harg9 arg10 harg10 x0 x1 x2 x3 x4 x5 y)
  rw [run1_v]
  refine whole_holds _ _ fun j e => (k1_pay9_apply _ 0 j e).trans ?_
  rw [(st1 Variants.none cd none i arg2 harg2 arg3 harg3 arg4 harg4 arg5 harg5 arg6 harg6 arg7 harg7 arg8 harg8 arg9 harg9 arg10 harg10 x1 x2 (harg2.unread x0) (harg5.unread x3) (harg6.unread x4) (harg7.unread x5) k1_t1_loop.trips le_rfl).2.2 j e, harg2.read_unread, harg5.read_unread, harg7.read_unread]
  exact sum_part _

end

end Cert.MemGradIdeal.Val
-- ==== Proof.MemRun.lean ====
/-
  The two-kernel run of the memory attention and its gradient: the blocks the grid's eight points (batch `b`, head `h`) write,
  put together into the four result arrays as functions of the arguments.
-/
module
public import proofs.«01_k».proof.Proof.MemBwd
@[expose] public section
set_option maxRecDepth 16384
noncomputable section
namespace Cert.MemGradIdeal.Val
open Idealize.ShloMosaic Idealize.ShloMosaic.ValueIdx Idealize.ShloMosaic.TcCoe Cert.MemGradIdeal Cert.MemGradIdeal.Gen
open Idealize.SL Idealize.SL.RA Idealize.SL.BI Idealize.SL.Sem Idealize.SL.ProofMode
open scoped Idealize.SL.BI BigOperators
open Idealize.SL.BI.BIBase Idealize.SL.BI.Laws
open Idealize.ShloMosaic.Rounds
open Idealize.ShloMosaic.Pipeline (Dat)

/-! ## The arrays -/

/-- The head of a lane of 512, -/
def hd (l : Fin 512) : Fin 4 := ⟨l.val / 128, by omega⟩
/-- its lane inside the head, -/
def ln (l : Fin 512) : Fin 128 := ⟨l.val % 128, by omega⟩
/-- and the lane `e` of head `h`. -/
def lane (h : Fin 4) (e : Fin 128) : Fin 512 := ⟨128 * h.val + e.val, by omega⟩

theorem hd_lane (h : Fin 4) (e : Fin 128) : hd (lane h e) = h := Fin.ext (by show (128 * h.val + e.val) / 128 = h.val; omega)
theorem ln_lane (h : Fin 4) (e : Fin 128) : ln (lane h e) = e := Fin.ext (by show (128 * h.val + e.val) % 128 = e.val; omega)

/-- A window of `w` lanes from lane `o` of an array's last axis. -/
def at4 {n1 N : ℕ} (o : ℕ) (ho : o + 512 ≤ N) (X : (⟨3, ![2, n1, N]⟩ : Shape).Idx → EReal) (b : Fin 2) (h : Fin 4) (r : Fin n1) (e : Fin 128) : EReal :=
  X (ix3 b r ⟨o + (128 * h.val + e.val), by omega⟩)

variable (P : S2x2048x7680.Idx → EReal) (KV : S2x256x1024.Idx → EReal) (DA : S2x2048x2048.Idx → EReal)

/-- The queries, -/
def qA (b : Fin 2) (h : Fin 4) (r : Fin 2048) (e : Fin 128) : EReal := at4 6144 (by decide) P b h r e
/-- the keys, -/
def kA (b : Fin 2) (h : Fin 4) (r : Fin 256) (e : Fin 128) : EReal := at4 0 (by decide) KV b h r e
/-- the values, -/
def vA (b : Fin 2) (h : Fin 4) (r : Fin 256) (e : Fin 128) : EReal := at4 512 (by decide) KV b h r e
/-- and the gradients of the outputs, by batch and head. -/
def doA (b : Fin 2) (h : Fin 4) (r : Fin 2048) (e : Fin 128) : EReal := at4 1536 (by decide) DA b h r e

/-- A row's scores, -/
def sA (b : Fin 2) (h : Fin 4) (r : Fin 2048) : Fin 256 → EReal := sc (qA P b h r) (kA KV b h)
/-- its output, -/
def oA (b : Fin 2) (h : Fin 4) (r : Fin 2048) : Fin 128 → EReal := ov (sA P KV b h r) (vA KV b h)
/-- its weights in the backward pass, -/
def pA (b : Fin 2) (h : Fin 4) (r : Fin 2048) : Fin 256 → EReal := pw (sA P KV b h r) (lse (sA P KV b h r))
/-- and its score gradients. -/
def wA (b : Fin 2) (h : Fin 4) (r : Fin 2048) : Fin 256 → EReal :=
  ds (sA P KV b h r) (lse (sA P KV b h r)) (dp (doA DA b h r) (vA KV b h)) (dl (doA DA b h r) (oA P KV b h r))

/-- The outputs, -/
def oArr : S2x2048x512.Idx → EReal := fun y => oA P KV (y 0) (hd (y 2)) (y 1) (ln (y 2))
/-- the log-sum-exps, -/
def lArr : S2x2048x512.Idx → EReal := fun y => lse (sA P KV (y 0) (hd (y 2)) (y 1))
/-- and the gradients of the queries, -/
def dqArr : S2x2048x512.Idx → EReal := fun y => dq (wA P KV DA (y 0) (hd (y 2)) (y 1)) (kA KV (y 0) (hd (y 2))) (ln (y 2))
/-- keys -/
def dkArr : S2x256x512.Idx → EReal := fun y => ∑ r : Fin 2048, wA P KV DA (y 0) (hd (y 2)) r (y 1) * (qA P (y 0) (hd (y 2)) r (ln (y 2)) * c)
/-- and values. -/
def dvArr : S2x256x512.Idx → EReal := fun y => ∑ r : Fin 2048, pA P KV (y 0) (hd (y 2)) r (y 1) * doA DA (y 0) (hd (y 2)) r (ln (y 2))

/-! ## The windows' blocks -/

/-- A unit-stride rectangle's element, by its offsets. -/
theorem unit_emb {n0 n1 n2 : ℕ} (off : Fin 3 → ℕ) (size : Fin 3 → ℕ) (inb) (y : (⟨3, size⟩ : Shape).Idx) (b : Fin n0) (r : Fin n1) (l : Fin n2)
    (h0 : off 0 + (y 0).val = b.val) (h1 : off 1 + (y 1).val = r.val) (h2 : off 2 + (y 2).val = l.val) :
    (Rect.unit (s := ⟨3, ![n0, n1, n2]⟩) off size inb).emb y = ix3 b r l := by
  funext a; apply Fin.ext
  match a with
  | ⟨0, _⟩ => show off 0 + 1 * (y 0).val = b.val; omega
  | ⟨1, _⟩ => show off 1 + 1 * (y 1).val = r.val; omega
  | ⟨2, _⟩ => show off 2 + 1 * (y 2).val = l.val; omega

/-- A unit-stride rectangle holds an index, by its offsets. -/
theorem mem_unit {n0 n1 n2 : ℕ} (off : Fin 3 → ℕ) (size : Fin 3 → ℕ) (inb) (i : (⟨3, ![n0, n1, n2]⟩ : Shape).Idx)
    (h0 : off 0 ≤ (i 0).val ∧ (i 0).val < off 0 + size 0) (h1 : off 1 ≤ (i 1).val ∧ (i 1).val < off 1 + size 1) (h2 : off 2 ≤ (i 2).val ∧ (i 2).val < off 2 + size 2) :
    i ∈ (Rect.unit (s := ⟨3, ![n0, n1, n2]⟩) off size inb).set := by
  rw [Rect.mem_set_unit]
  intro a
  match a with
  | ⟨0, _⟩ => exact h0
  | ⟨1, _⟩ => exact h1
  | ⟨2, _⟩ => exact h2

/-- A point's batch, -/
def bt (t : Fin 8) : Fin 2 := ⟨t.val / 4, by omega⟩
/-- and head. -/
def ht (t : Fin 8) : Fin 4 := ⟨t.val % 4, by omega⟩

theorem idx0 : ∀ t : Fin 8,
    (win0_0.index t 0 = t.val / 4 ∧ win0_0.index t 1 = 0 ∧ win0_0.index t 2 = 48 + t.val % 4)
    ∧ (win0_1.index t 0 = t.val / 4 ∧ win0_1.index t 1 = 0 ∧ win0_1.index t 2 = t.val % 4)
    ∧ (win0_2.index t 0 = t.val / 4 ∧ win0_2.index t 1 = 0 ∧ win0_2.index t 2 = 4 + t.val % 4)
    ∧ (win0_3.index t 0 = t.val / 4 ∧ win0_3.index t 1 = 0 ∧ win0_3.index t 2 = t.val % 4)
    ∧ (win0_4.index t 0 = t.val / 4 ∧ win0_4.index t 1 = 0 ∧ win0_4.index t 2 = t.val % 4) := by decide +kernel

theorem idx1 : ∀ t : Fin 8,
    (win1_0.index t 0 = t.val / 4 ∧ win1_0.index t 1 = 0 ∧ win1_0.index t 2 = 48 + t.val % 4)
    ∧ (win1_1.index t 0 = t.val / 4 ∧ win1_1.index t 1 = 0 ∧ win1_1.index t 2 = t.val % 4)
    ∧ (win1_2.index t 0 = t.val / 4 ∧ win1_2.index t 1 = 0 ∧ win1_2.index t 2 = 4 + t.val % 4)
    ∧ (win1_3.index t 0 = t.val / 4 ∧ win1_3.index t 1 = 0 ∧ win1_3.index t 2 = 12 + t.val % 4)
    ∧ (win1_4.index t 0 = t.val / 4 ∧ win1_4.index t 1 = 0 ∧ win1_4.index t 2 = t.val % 4)
    ∧ (win1_5.index t 0 = t.val / 4 ∧ win1_5.index t 1 = 0 ∧ win1_5.index t 2 = t.val % 4)
    ∧ (win1_6.index t 0 = t.val / 4 ∧ win1_6.index t 1 = 0 ∧ win1_6.index t 2 = t.val % 4)
    ∧ (win1_7.index t 0 = t.val / 4 ∧ win1_7.index t 1 = 0 ∧ win1_7.index t 2 = t.val % 4)
    ∧ (win1_8.index t 0 = t.val / 4 ∧ win1_8.index t 1 = 0 ∧ win1_8.index t 2 = t.val % 4) := by decide +kernel

/-- A block of `n` rows and one head's lanes, found at point `t` by its index map. -/
theorem blk_emb {n1 N : ℕ} (n : ℕ) (o : ℕ) (ho : o + 512 ≤ N) (ix : Fin 3 → ℕ) (k : ℕ) (hk : o = 128 * k) (t : Fin 8) (h : ix 0 = t.val / 4 ∧ ix 1 = 0 ∧ ix 2 = k + t.val % 4) (hn : n = n1)
    (inb) (y : (⟨3, ![1, n, 128]⟩ : Shape).Idx) (X : (⟨3, ![2, n1, N]⟩ : Shape).Idx → EReal) :
    X ((Rect.unit (s := ⟨3, ![2, n1, N]⟩) (fun a => ix a * (![1, n, 128] : Fin 3 → ℕ) a) (![1, n, 128] : Fin 3 → ℕ) inb).emb y)
      = at4 o ho X (bt t) (ht t) ⟨(y 1).val, hn ▸ (y 1).isLt⟩ (y 2) := by
  obtain ⟨e0, e1, e2⟩ := h
  have h0 : (y 0).val < 1 := (y 0).isLt
  refine congrArg X (unit_emb _ _ _ y _ _ _ ?_ ?_ ?_)
  · show ix 0 * 1 + (y 0).val = t.val / 4; omega
  · show ix 1 * n + (y 1).val = (y 1).val; rw [e1]; omega
  · show ix 2 * 128 + (y 2).val = o + (128 * (t.val % 4) + (y 2).val); omega

section
variable (V : (c : Dev nD) → (b : Ref sig .tc) → Buf (Elt Ideal) ((c : Thread nD τ).loc b)) (d : Dev nD) (t : Fin 8)

theorem blk0_0 (r : Fin 2048) : row (iblk0 V d 0 t) r = qA (V d main_arg0) (bt t) (ht t) r :=
  funext fun e => blk_emb 2048 6144 (by decide) (win0_0.index t) 48 rfl t (idx0 t).1 rfl _ (ix3 0 r e) (V d main_arg0)
theorem blk0_1 : row (iblk0 V d 1 t) = kA (V d main_arg1) (bt t) (ht t) :=
  funext fun r => funext fun e => blk_emb 256 0 (by decide) (win0_1.index t) 0 rfl t (by rw [Nat.zero_add]; exact (idx0 t).2.1) rfl _ (ix3 0 r e) (V d main_arg1)
theorem blk0_2 : row (iblk0 V d 2 t) = vA (V d main_arg1) (bt t) (ht t) :=
  funext fun r => funext fun e => blk_emb 256 512 (by decide) (win0_2.index t) 4 rfl t (idx0 t).2.2.1 rfl _ (ix3 0 r e) (V d main_arg1)

theorem blk1_0 (r : Fin 2048) : row (iblk1 V d 0 t) r = qA (V d main_arg0) (bt t) (ht t) r :=
  funext fun e => blk_emb 2048 6144 (by decide) (win1_0.index t) 48 rfl t (idx1 t).1 rfl _ (ix3 0 r e) (V d main_arg0)
theorem blk1_1 : row (iblk1 V d 1 t) = kA (V d main_arg1) (bt t) (ht t) :=
  funext fun r => funext fun e => blk_emb 256 0 (by decide) (win1_1.index t) 0 rfl t (by rw [Nat.zero_add]; exact (idx1 t).2.1) rfl _ (ix3 0 r e) (V d main_arg1)
theorem blk1_2 : row (iblk1 V d 2 t) = vA (V d main_arg1) (bt t) (ht t) :=
  funext fun r => funext fun e => blk_emb 256 512 (by decide) (win1_2.index t) 4 rfl t (idx1 t).2.2.1 rfl _ (ix3 0 r e) (V d main_arg1)
theorem blk1_3 (r : Fin 2048) : row (iblk1 V d 3 t) r = doA (V d main_arg2) (bt t) (ht t) r :=
  funext fun e => blk_emb 2048 1536 (by decide) (win1_3.index t) 12 rfl t (idx1 t).2.2.2.1 rfl _ (ix3 0 r e) (V d main_arg2)
theorem blk1_4 (r : Fin 2048) : row (iblk1 V d 4 t) r = at4 0 (by decide) (V d main_v0_0) (bt t) (ht t) r :=
  funext fun e => blk_emb 2048 0 (by decide) (win1_4.index t) 0 rfl t (by rw [Nat.zero_add]; exact (idx1 t).2.2.2.2.1) rfl _ (ix3 0 r e) (V d main_v0_0)
theorem blk1_5 (r : Fin 2048) : row (iblk1 V d 5 t) r = at4 0 (by decide) (V d main_v0_1) (bt t) (ht t) r :=
  funext fun e => blk_emb 2048 0 (by decide) (win1_5.index t) 0 rfl t (by rw [Nat.zero_add]; exact (idx1 t).2.2.2.2.2.1) rfl _ (ix3 0 r e) (V d main_v0_1)
end

/-- An array over heads, read at one head's lanes. -/
theorem at4_head {n1 : ℕ} (f : Fin 2 → Fin 4 → Fin n1 → Fin 128 → EReal) (b : Fin 2) (h : Fin 4) (r : Fin n1) (e : Fin 128) :
    at4 (N := 512) 0 (by decide) (fun y : (⟨3, ![2, n1, 512]⟩ : Shape).Idx => f (y 0) (hd (y 2)) (y 1) (ln (y 2))) b h r e = f b h r e := by
  have hl : (⟨0 + (128 * h.val + e.val), by omega⟩ : Fin 512) = lane h e := Fin.ext (Nat.zero_add _)
  show f b (hd ⟨0 + (128 * h.val + e.val), _⟩) r (ln ⟨0 + (128 * h.val + e.val), _⟩) = _
  rw [hl, hd_lane, ln_lane]

/-- The point whose block holds an index. -/
def pt (b : Fin 2) (l : Fin 512) : Fin 8 := ⟨4 * b.val + l.val / 128, by omega⟩

theorem cover_pt {n1 : ℕ} (n : ℕ) (hn : n = n1) (i : (⟨3, ![2, n1, 512]⟩ : Shape).Idx) (ix : Fin 3 → ℕ) (h : ix 0 = (pt (i 0) (i 2)).val / 4 ∧ ix 1 = 0 ∧ ix 2 = (pt (i 0) (i 2)).val % 4) (inb) :
    i ∈ (Rect.unit (s := ⟨3, ![2, n1, 512]⟩) (fun a => ix a * (![1, n, 128] : Fin 3 → ℕ) a) (![1, n, 128] : Fin 3 → ℕ) inb).set := by
  obtain ⟨e0, e1, e2⟩ := h
  have hp : (pt (i 0) (i 2)).val = 4 * (i 0).val + (i 2).val / 128 := rfl
  have h0 : (i 0).val < 2 := (i 0).isLt
  have h1 : (i 1).val < n1 := (i 1).isLt
  have h2 : (i 2).val < 512 := (i 2).isLt
  refine mem_unit _ _ _ i ?_ ?_ ?_
  · show ix 0 * 1 ≤ (i 0).val ∧ (i 0).val < ix 0 * 1 + 1; omega
  · show ix 1 * n ≤ (i 1).val ∧ (i 1).val < ix 1 * n + n; rw [e1]; omega
  · show ix 2 * 128 ≤ (i 2).val ∧ (i 2).val < ix 2 * 128 + 128; omega

/-! ## The first kernel's arrays -/

variable (m : (ℓ : Loc nD τ sig) → Buf (Elt Ideal) ℓ) (ρ : Dev nD → PrngReg) (d : Dev nD)

/-- The three arguments. -/
abbrev argP : S2x2048x7680.Idx → EReal := m ((d : Thread nD τ).loc main_arg0)
abbrev argKV : S2x256x1024.Idx → EReal := m ((d : Thread nD τ).loc main_arg1)
abbrev argDA : S2x2048x2048.Idx → EReal := m ((d : Thread nD τ).loc main_arg2)

theorem o_blk (t : Fin 8) (r : Fin 2048) (e : Fin 128) : ov (scr (iblk0 (V0 m ρ) d 0 t) (iblk0 (V0 m ρ) d 1 t) r) (row (iblk0 (V0 m ρ) d 2 t)) e
    = oA (argP m d) (argKV m d) (bt t) (ht t) r e := by
  unfold scr
  rw [blk0_0, blk0_1, blk0_2]
  rfl

theorem l_blk (t : Fin 8) (r : Fin 2048) : lse (scr (iblk0 (V0 m ρ) d 0 t) (iblk0 (V0 m ρ) d 1 t) r) = lse (sA (argP m d) (argKV m d) (bt t) (ht t) r) := by
  unfold scr
  rw [blk0_0, blk0_1]
  rfl

theorem final0_3 : (dat0 (V0 m ρ) d).arrAt 3 cfg0.N = oArr (argP m d) (argKV m d) := by
  refine (dat0 (V0 m ρ) d).arrAt_eq_of_cover 3 (oArr (argP m d) (argKV m d)) (fun t _ => ?_) fun i => ⟨pt (i 0) (i 2), flush0_3 _, ?_⟩
  · show (cfg0.win 3).cut (grid0.coords t) ((dat0 (V0 m ρ) d).after 3 t) = _
    rw [after0_3]
    funext y
    unfold outsAt0
    rw [out0_3_eq]
    refine Eq.trans ?_ ((blk_emb (N := 512) 2048 0 (by decide) (win0_3.index t) 0 rfl t (by rw [Nat.zero_add]; exact (idx0 t).2.2.2.1) rfl _ y (oArr (argP m d) (argKV m d))).trans (at4_head (oA _ _) _ _ _ _)).symm
    exact o_blk m ρ d t (y 1) (y 2)
  · show i ∈ ((View.whole main_v0_0).slice (win0_3.rect (pt (i 0) (i 2)))).set
    rw [View.set_slice_whole]
    exact cover_pt (n1 := 2048) 2048 rfl i (win0_3.index (pt (i 0) (i 2))) (idx0 _).2.2.2.1 _

theorem final0_4 : (dat0 (V0 m ρ) d).arrAt 4 cfg0.N = lArr (argP m d) (argKV m d) := by
  refine (dat0 (V0 m ρ) d).arrAt_eq_of_cover 4 (lArr (argP m d) (argKV m d)) (fun t _ => ?_) fun i => ⟨pt (i 0) (i 2), flush0_4 _, ?_⟩
  · show (cfg0.win 4).cut (grid0.coords t) ((dat0 (V0 m ρ) d).after 4 t) = _
    rw [after0_4]
    funext y
    unfold outsAt0
    rw [out0_4_eq]
    refine Eq.trans ?_ ((blk_emb (N := 512) 2048 0 (by decide) (win0_4.index t) 0 rfl t (by rw [Nat.zero_add]; exact (idx0 t).2.2.2.2) rfl _ y (lArr (argP m d) (argKV m d))).trans (at4_head (fun b h r _ => lse (sA _ _ b h r)) _ _ _ _)).symm
    exact l_blk m ρ d t (y 1)
  · show i ∈ ((View.whole main_v0_1).slice (win0_4.rect (pt (i 0) (i 2)))).set
    rw [View.set_slice_whole]
    exact cover_pt (n1 := 2048) 2048 rfl i (win0_4.index (pt (i 0) (i 2))) (idx0 _).2.2.2.2 _

/-! ## The second kernel's arrays -/

theorem V1_arg0 : V1 m ρ d main_arg0 = argP m d := W1_args m ρ d main_arg0 (by decide)
theorem V1_arg1 : V1 m ρ d main_arg1 = argKV m d := W1_args m ρ d main_arg1 (by decide)
theorem V1_arg2 : V1 m ρ d main_arg2 = argDA m d := W1_args m ρ d main_arg2 (by decide)
theorem V1_o : V1 m ρ d main_v0_0 = oArr (argP m d) (argKV m d) := (W1_arr m ρ d 3).trans (final0_3 m ρ d)
theorem V1_l : V1 m ρ d main_v0_1 = lArr (argP m d) (argKV m d) := (W1_arr m ρ d 4).trans (final0_4 m ρ d)

theorem in_q (t : Fin 8) (r : Fin 2048) : row (iblk1 (V1 m ρ) d 0 t) r = qA (argP m d) (bt t) (ht t) r := by rw [blk1_0, V1_arg0]
theorem in_k (t : Fin 8) : row (iblk1 (V1 m ρ) d 1 t) = kA (argKV m d) (bt t) (ht t) := by rw [blk1_1, V1_arg1]
theorem in_v (t : Fin 8) : row (iblk1 (V1 m ρ) d 2 t) = vA (argKV m d) (bt t) (ht t) := by rw [blk1_2, V1_arg1]
theorem in_do (t : Fin 8) (r : Fin 2048) : row (iblk1 (V1 m ρ) d 3 t) r = doA (argDA m d) (bt t) (ht t) r := by rw [blk1_3, V1_arg2]
theorem in_o (t : Fin 8) (r : Fin 2048) : row (iblk1 (V1 m ρ) d 4 t) r = oA (argP m d) (argKV m d) (bt t) (ht t) r := by
  rw [blk1_4, V1_o]; exact funext fun e => at4_head (oA _ _) _ _ r e
theorem in_l (t : Fin 8) (r : Fin 2048) : row (iblk1 (V1 m ρ) d 5 t) r 0 = lse (sA (argP m d) (argKV m d) (bt t) (ht t) r) := by
  rw [blk1_5, V1_l]; exact at4_head (fun b h r _ => lse (sA _ _ b h r)) _ _ r 0

theorem w_blk (t : Fin 8) (r : Fin 2048) : wRow (iblk1 (V1 m ρ) d 0 t) (iblk1 (V1 m ρ) d 1 t) (iblk1 (V1 m ρ) d 2 t) (iblk1 (V1 m ρ) d 3 t) (iblk1 (V1 m ρ) d 4 t) (iblk1 (V1 m ρ) d 5 t) r
    = wA (argP m d) (argKV m d) (argDA m d) (bt t) (ht t) r := by
  unfold wRow wA scr
  rw [in_q, in_k, in_v, in_do, in_o, in_l]
  rfl

theorem p_blk (t : Fin 8) (r : Fin 2048) : pRow (iblk1 (V1 m ρ) d 0 t) (iblk1 (V1 m ρ) d 1 t) (iblk1 (V1 m ρ) d 5 t) r = pA (argP m d) (argKV m d) (bt t) (ht t) r := by
  unfold pRow pA scr
  rw [in_q, in_k, in_l]
  rfl

theorem dq_blk (t : Fin 8) (r : Fin 2048) (e : Fin 128) : dq (wRow (iblk1 (V1 m ρ) d 0 t) (iblk1 (V1 m ρ) d 1 t) (iblk1 (V1 m ρ) d 2 t) (iblk1 (V1 m ρ) d 3 t) (iblk1 (V1 m ρ) d 4 t) (iblk1 (V1 m ρ) d 5 t) r) (row (iblk1 (V1 m ρ) d 1 t)) e
    = dq (wA (argP m d) (argKV m d) (argDA m d) (bt t) (ht t) r) (kA (argKV m d) (bt t) (ht t)) e := by
  rw [w_blk, in_k]

theorem dk_blk (t : Fin 8) (j : Fin 256) (e : Fin 128) : ∑ r : Fin 2048, wRow (iblk1 (V1 m ρ) d 0 t) (iblk1 (V1 m ρ) d 1 t) (iblk1 (V1 m ρ) d 2 t) (iblk1 (V1 m ρ) d 3 t) (iblk1 (V1 m ρ) d 4 t) (iblk1 (V1 m ρ) d 5 t) r j * (row (iblk1 (V1 m ρ) d 0 t) r e * c)
    = ∑ r : Fin 2048, wA (argP m d) (argKV m d) (argDA m d) (bt t) (ht t) r j * (qA (argP m d) (bt t) (ht t) r e * c) :=
  Finset.sum_congr rfl fun r _ => by rw [w_blk, in_q]

theorem dv_blk (t : Fin 8) (j : Fin 256) (e : Fin 128) : ∑ r : Fin 2048, pRow (iblk1 (V1 m ρ) d 0 t) (iblk1 (V1 m ρ) d 1 t) (iblk1 (V1 m ρ) d 5 t) r j * row (iblk1 (V1 m ρ) d 3 t) r e
    = ∑ r : Fin 2048, pA (argP m d) (argKV m d) (bt t) (ht t) r j * doA (argDA m d) (bt t) (ht t) r e :=
  Finset.sum_congr rfl fun r _ => by rw [p_blk, in_do]

theorem final1_6 : (dat1 (V1 m ρ) d).arrAt 6 cfg1.N = dqArr (argP m d) (argKV m d) (argDA m d) := by
  refine (dat1 (V1 m ρ) d).arrAt_eq_of_cover 6 (dqArr (argP m d) (argKV m d) (argDA m d)) (fun t _ => ?_) fun i => ⟨pt (i 0) (i 2), flush1_6 _, ?_⟩
  · show (cfg1.win 6).cut (grid1.coords t) ((dat1 (V1 m ρ) d).after 6 t) = _
    rw [after1_6]
    funext y
    unfold outsAt1
    rw [out1_6_eq]
    refine Eq.trans ?_ ((blk_emb (N := 512) 2048 0 (by decide) (win1_6.index t) 0 rfl t (by rw [Nat.zero_add]; exact (idx1 t).2.2.2.2.2.2.1) rfl _ y (dqArr (argP m d) (argKV m d) (argDA m d))).trans
      (at4_head (fun b h r e => dq (wA _ _ _ b h r) (kA _ b h) e) _ _ _ _)).symm
    exact dq_blk m ρ d t (y 1) (y 2)
  · show i ∈ ((View.whole main_v1_0).slice (win1_6.rect (pt (i 0) (i 2)))).set
    rw [View.set_slice_whole]
    exact cover_pt (n1 := 2048) 2048 rfl i (win1_6.index (pt (i 0) (i 2))) (idx1 _).2.2.2.2.2.2.1 _

theorem final1_7 : (dat1 (V1 m ρ) d).arrAt 7 cfg1.N = dkArr (argP m d) (argKV m d) (argDA m d) := by
  refine (dat1 (V1 m ρ) d).arrAt_eq_of_cover 7 (dkArr (argP m d) (argKV m d) (argDA m d)) (fun t _ => ?_) fun i => ⟨pt (i 0) (i 2), flush1_7 _, ?_⟩
  · show (cfg1.win 7).cut (grid1.coords t) ((dat1 (V1 m ρ) d).after 7 t) = _
    rw [after1_7]
    funext y
    unfold outsAt1
    rw [out1_7_eq]
    refine Eq.trans ?_ ((blk_emb (N := 512) 256 0 (by decide) (win1_7.index t) 0 rfl t (by rw [Nat.zero_add]; exact (idx1 t).2.2.2.2.2.2.2.1) rfl _ y (dkArr (argP m d) (argKV m d) (argDA m d))).trans
      (at4_head (fun b h j e => ∑ r : Fin 2048, wA _ _ _ b h r j * (qA _ b h r e * c)) _ _ _ _)).symm
    exact dk_blk m ρ d t (y 1) (y 2)
  · show i ∈ ((View.whole main_v1_1).slice (win1_7.rect (pt (i 0) (i 2)))).set
    rw [View.set_slice_whole]
    exact cover_pt (n1 := 256) 256 rfl i (win1_7.index (pt (i 0) (i 2))) (idx1 _).2.2.2.2.2.2.2.1 _

theorem final1_8 : (dat1 (V1 m ρ) d).arrAt 8 cfg1.N = dvArr (argP m d) (argKV m d) (argDA m d) := by
  refine (dat1 (V1 m ρ) d).arrAt_eq_of_cover 8 (dvArr (argP m d) (argKV m d) (argDA m d)) (fun t _ => ?_) fun i => ⟨pt (i 0) (i 2), flush1_8 _, ?_⟩
  · show (cfg1.win 8).cut (grid1.coords t) ((dat1 (V1 m ρ) d).after 8 t) = _
    rw [after1_8]
    funext y
    unfold outsAt1
    rw [out1_8_eq]
    refine Eq.trans ?_ ((blk_emb (N := 512) 256 0 (by decide) (win1_8.index t) 0 rfl t (by rw [Nat.zero_add]; exact (idx1 t).2.2.2.2.2.2.2.2) rfl _ y (dvArr (argP m d) (argKV m d) (argDA m d))).trans
      (at4_head (fun b h j e => ∑ r : Fin 2048, pA _ _ b h r j * doA _ b h r e) _ _ _ _)).symm
    exact dv_blk m ρ d t (y 1) (y 2)
  · show i ∈ ((View.whole main_v1_2).slice (win1_8.rect (pt (i 0) (i 2)))).set
    rw [View.set_slice_whole]
    exact cover_pt (n1 := 256) 256 rfl i (win1_8.index (pt (i 0) (i 2))) (idx1 _).2.2.2.2.2.2.2.2 _

/-! ## The run -/

theorem keep_o : ∀ w : Fin cfg1.W, Pipeline.arrRef spec1 w = main_v0_0 → (cfg1.win w).isOut = false := by decide +kernel

theorem W2_o : W2 m ρ d (Proc.devRef .tc main_v0_0) = oArr (argP m d) (argKV m d) := (W2_of m ρ d main_v0_0 keep_o).trans (V1_o m ρ d)

set_option backward.isDefEq.respectTransparency.types false in
/-- The two kernels' run: the four result arrays as the functions of the arguments above, the arguments unchanged. -/
theorem run : θ_run defs (onTc (τ := τ) (main (F := Ideal))) ⟨m, fun _ => 0, ρ⟩ (fun r => ∀ c : Dev nD,
      r.2.mem ((c.tc : Thread nD τ).loc main_v0_0) = oArr (argP m c) (argKV m c)
      ∧ r.2.mem ((c.tc : Thread nD τ).loc main_v1_0) = dqArr (argP m c) (argKV m c) (argDA m c)
      ∧ r.2.mem ((c.tc : Thread nD τ).loc main_v1_1) = dkArr (argP m c) (argKV m c) (argDA m c)
      ∧ r.2.mem ((c.tc : Thread nD τ).loc main_v1_2) = dvArr (argP m c) (argKV m c) (argDA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v0_0 (by decide))).trans (W2_o m ρ c),
       (h c _ (mem_uc main_v1_0 (by decide))).trans ((W2_arr m ρ c 6).trans (final1_6 m ρ c)),
       (h c _ (mem_uc main_v1_1 (by decide))).trans ((W2_arr m ρ c 7).trans (final1_7 m ρ c)),
       (h c _ (mem_uc main_v1_2 (by decide))).trans ((W2_arr m ρ c 8).trans (final1_8 m ρ c)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.MemGradIdeal.Val
-- ==== Proof.MemReal.lean ====
/-
  The memory attention's row functions on real numbers: what the kernels' and the reference's rows are when no element is an infinity.
-/
module
public import proofs.«01_k».proof.Proof.MemRun
@[expose] public section
set_option maxRecDepth 16384
noncomputable section
namespace Cert.MemGradIdeal.Val
open Idealize.ShloMosaic Idealize.ShloMosaic.ValueIdx Cert.MemGradIdeal Cert.MemGradIdeal.Gen
open scoped BigOperators

theorem coe_sum {ι : Type} (t : Finset ι) (f : ι → ℝ) : ∑ i ∈ t, (f i : EReal) = ((∑ i ∈ t, f i : ℝ) : EReal) := by
  classical
  refine Finset.induction_on t (by simp) fun a u ha ih => ?_
  rw [Finset.sum_insert ha, Finset.sum_insert ha, ih, EReal.coe_add]

/-- A row maximum of reals is a real. -/
theorem fold_max_coe {ι : Type} (t : Finset ι) (f : ι → ℝ) :
    (t = ∅ ∧ t.fold max (⊥ : EReal) (fun i => (f i : EReal)) = ⊥) ∨ ∃ M : ℝ, t.fold max (⊥ : EReal) (fun i => (f i : EReal)) = (M : EReal) := by
  classical
  refine Finset.induction_on t (.inl ⟨rfl, rfl⟩) fun a u ha ih => .inr ?_
  rw [Finset.fold_insert ha]
  rcases ih with ⟨_, e⟩ | ⟨M, e⟩
  · exact ⟨f a, by rw [e]; exact max_eq_left bot_le⟩
  · exact ⟨max (f a) M, by rw [e]; exact (EReal.coe_strictMono.monotone.map_max).symm⟩

theorem ninf : FloatOps.ofBits (F := Ideal) .f32 0xFF800000#32 = (⊥ : EReal) := by
  first | exact Ideal.ofBits_ninf_f32 | rfl | (show Ideal.ofBits .f32 0xFF800000#32 = _; simp [Ideal.ofBits])

theorem fold_real (f : Fin 256 → ℝ) : ∃ M : ℝ, (Finset.univ : Finset (Fin 256)).fold max (⊥ : EReal) (fun i => (f i : EReal)) = (M : EReal) :=
  (fold_max_coe Finset.univ f).resolve_left fun h => Finset.univ_nonempty.ne_empty h.1

theorem mx_coe (s : Fin 256 → ℝ) : ∃ M : ℝ, mx (fun k => (s k : EReal)) = (M : EReal) := by
  unfold mx
  rw [ninf]
  exact fold_real s

/-- A row's weights. -/
def sm (s : Fin 256 → ℝ) (k : Fin 256) : ℝ := Real.exp (s k) / ∑ j, Real.exp (s j)

theorem sum_exp_pos (s : Fin 256 → ℝ) : 0 < ∑ j, Real.exp (s j) := Finset.sum_pos (fun _ _ => Real.exp_pos _) Finset.univ_nonempty

theorem sm_shift (s : Fin 256 → ℝ) (M : ℝ) (k : Fin 256) : Real.exp (s k - M) / ∑ j, Real.exp (s j - M) = sm s k := by
  unfold sm
  simp only [Real.exp_sub]
  rw [← Finset.sum_div, div_div_div_cancel_right₀ (Real.exp_pos M).ne']

theorem pr_coe (s : Fin 256 → ℝ) (M : ℝ) (h : mx (fun k => (s k : EReal)) = (M : EReal)) (k : Fin 256) :
    pr (fun k => (s k : EReal)) k = ((Real.exp (s k - M) : ℝ) : EReal) := by
  unfold pr
  rw [h, ← EReal.coe_sub, Ideal.exp_coe]

theorem ls_coe (s : Fin 256 → ℝ) (M : ℝ) (h : mx (fun k => (s k : EReal)) = (M : EReal)) :
    ls (fun k => (s k : EReal)) = ((∑ k, Real.exp (s k - M) : ℝ) : EReal) := by
  unfold ls
  simp only [pr_coe s M h]
  exact coe_sum _ _

theorem div_coe' (x y : ℝ) (h : y ≠ 0) : Ideal.div (x : EReal) (y : EReal) = ((x / y : ℝ) : EReal) := by
  rw [Ideal.div_coe h, ← EReal.coe_mul, mul_one_div]

theorem ov_coe (s : Fin 256 → ℝ) (V : Fin 256 → Fin 128 → ℝ) (e : Fin 128) :
    ov (fun k => (s k : EReal)) (fun k e => (V k e : EReal)) e = ((∑ k, sm s k * V k e : ℝ) : EReal) := by
  obtain ⟨M, h⟩ := mx_coe s
  unfold ov
  rw [ls_coe s M h]
  simp only [pr_coe s M h, ← EReal.coe_mul]
  rw [coe_sum, div_coe' _ _ (sum_exp_pos fun j => s j - M).ne', Finset.sum_div]
  exact congrArg _ (Finset.sum_congr rfl fun k _ => by rw [← sm_shift s M k]; ring)

theorem pw_coe (s : Fin 256 → ℝ) (k : Fin 256) :
    pw (fun k => (s k : EReal)) (lse (fun k => (s k : EReal))) k = ((sm s k : ℝ) : EReal) := by
  obtain ⟨M, h⟩ := mx_coe s
  have hl := sum_exp_pos fun j => s j - M
  unfold pw lse
  rw [ls_coe s M h, h, Ideal.log_coe, if_neg (not_le.2 hl), ← EReal.coe_add, ← EReal.coe_sub, Ideal.exp_coe]
  refine congrArg _ ?_
  rw [← sub_sub, Real.exp_sub, Real.exp_log hl, sm_shift]

theorem dl_coe (x y : Fin 128 → ℝ) : dl (fun e => (x e : EReal)) (fun e => (y e : EReal)) = ((∑ e, x e * y e : ℝ) : EReal) := by
  unfold dl
  simp only [← EReal.coe_mul]
  exact coe_sum _ _

theorem dp_coe (x : Fin 128 → ℝ) (V : Fin 256 → Fin 128 → ℝ) (k : Fin 256) :
    dp (fun e => (x e : EReal)) (fun k e => (V k e : EReal)) k = ((∑ e, x e * V k e : ℝ) : EReal) := by
  unfold dp
  simp only [← EReal.coe_mul]
  exact coe_sum _ _

/-- The scale as a real. -/
abbrev cr : ℝ := (Real.sqrt 128)⁻¹

theorem sc_coe (q : Fin 128 → ℝ) (K : Fin 256 → Fin 128 → ℝ) (k : Fin 256) :
    sc (fun e => (q e : EReal)) (fun k e => (K k e : EReal)) k = (((∑ e, q e * K k e) * cr : ℝ) : EReal) := by
  unfold sc
  simp only [c, ← EReal.coe_mul]
  rw [coe_sum, Finset.sum_mul]
  exact congrArg _ (Finset.sum_congr rfl fun e _ => by ring)

/-! ## The arrays -/

/-- Head `h`'s element in a real array. -/
def at4R {n1 N : ℕ} (o : ℕ) (ho : o + 512 ≤ N) (X : (⟨3, ![2, n1, N]⟩ : Shape).Idx → ℝ) (b : Fin 2) (h : Fin 4) (r : Fin n1) (e : Fin 128) : ℝ :=
  X (ix3 b r ⟨o + (128 * h.val + e.val), by omega⟩)

variable (p : S2x2048x7680.Idx → ℝ) (kv : S2x256x1024.Idx → ℝ) (da : S2x2048x2048.Idx → ℝ)

/-- The queries, -/
def qR (b : Fin 2) (h : Fin 4) (r : Fin 2048) (e : Fin 128) : ℝ := at4R 6144 (by decide) p b h r e
/-- the keys, -/
def kR (b : Fin 2) (h : Fin 4) (r : Fin 256) (e : Fin 128) : ℝ := at4R 0 (by decide) kv b h r e
/-- the values, -/
def vR (b : Fin 2) (h : Fin 4) (r : Fin 256) (e : Fin 128) : ℝ := at4R 512 (by decide) kv b h r e
/-- the gradients of the outputs, -/
def doR (b : Fin 2) (h : Fin 4) (r : Fin 2048) (e : Fin 128) : ℝ := at4R 1536 (by decide) da b h r e
/-- the scores, -/
def sR (b : Fin 2) (h : Fin 4) (r : Fin 2048) (k : Fin 256) : ℝ := (∑ e, qR p b h r e * kR kv b h k e) * cr
/-- the gradients of the weights, -/
def gR (b : Fin 2) (h : Fin 4) (r : Fin 2048) (k : Fin 256) : ℝ := ∑ e, doR da b h r e * vR kv b h k e
/-- and the gradients of the scores. -/
def dsR (b : Fin 2) (h : Fin 4) (r : Fin 2048) (k : Fin 256) : ℝ :=
  sm (sR p kv b h r) k * (gR kv da b h r k - ∑ j, sm (sR p kv b h r) j * gR kv da b h r j)

/-- A real array among the extended reals. -/
abbrev up {s : Shape} (x : s.Idx → ℝ) : s.Idx → EReal := fun i => (x i : EReal)

theorem sA_up (b : Fin 2) (h : Fin 4) (r : Fin 2048) : sA (up p) (up kv) b h r = fun k => ((sR p kv b h r k : ℝ) : EReal) :=
  funext fun k => sc_coe (qR p b h r) (kR kv b h) k

theorem oA_up (b : Fin 2) (h : Fin 4) (r : Fin 2048) (e : Fin 128) :
    oA (up p) (up kv) b h r e = ((∑ k, sm (sR p kv b h r) k * vR kv b h k e : ℝ) : EReal) := by
  unfold oA
  rw [sA_up]
  exact ov_coe _ (vR kv b h) e

theorem pA_up (b : Fin 2) (h : Fin 4) (r : Fin 2048) (k : Fin 256) :
    pA (up p) (up kv) b h r k = ((sm (sR p kv b h r) k : ℝ) : EReal) := by
  unfold pA
  rw [sA_up]
  exact pw_coe _ k

theorem dot_swap (b : Fin 2) (h : Fin 4) (r : Fin 2048) :
    ∑ e, doR da b h r e * ∑ k, sm (sR p kv b h r) k * vR kv b h k e = ∑ j, sm (sR p kv b h r) j * gR kv da b h r j := by
  unfold gR
  simp only [Finset.mul_sum]
  rw [Finset.sum_comm]
  exact Finset.sum_congr rfl fun j _ => Finset.sum_congr rfl fun e _ => by ring

theorem wA_up (b : Fin 2) (h : Fin 4) (r : Fin 2048) (k : Fin 256) :
    wA (up p) (up kv) (up da) b h r k = ((dsR p kv da b h r k : ℝ) : EReal) := by
  have hp := pA_up p kv b h r k
  have hd := dl_coe (doR da b h r) (fun e => ∑ k, sm (sR p kv b h r) k * vR kv b h k e)
  rw [dot_swap] at hd
  have ho : oA (up p) (up kv) b h r = fun e => ((∑ k, sm (sR p kv b h r) k * vR kv b h k e : ℝ) : EReal) := funext fun e => oA_up p kv b h r e
  unfold wA ds
  rw [ho]
  refine (congrArg₂ (fun x y : EReal => x * (_ - y)) hp hd).trans ?_
  refine (congrArg (fun x : EReal => _ * (x - _)) (dp_coe (doR da b h r) (vR kv b h) k)).trans ?_
  rw [← EReal.coe_sub, ← EReal.coe_mul]
  rfl

/-! ## The kernels' results -/

theorem qA_up (b : Fin 2) (h : Fin 4) (r : Fin 2048) (e : Fin 128) : qA (up p) b h r e = ((qR p b h r e : ℝ) : EReal) := rfl
theorem kA_up (b : Fin 2) (h : Fin 4) (k : Fin 256) (e : Fin 128) : kA (up kv) b h k e = ((kR kv b h k e : ℝ) : EReal) := rfl
theorem doA_up (b : Fin 2) (h : Fin 4) (r : Fin 2048) (e : Fin 128) : doA (up da) b h r e = ((doR da b h r e : ℝ) : EReal) := rfl

theorem oArr_up (b : Fin 2) (r : Fin 2048) (l : Fin 512) :
    oArr (up p) (up kv) (ix3 b r l) = ((∑ k, sm (sR p kv b (hd l) r) k * vR kv b (hd l) k (ln l) : ℝ) : EReal) :=
  oA_up p kv b (hd l) r (ln l)

theorem dqArr_up (b : Fin 2) (r : Fin 2048) (l : Fin 512) :
    dqArr (up p) (up kv) (up da) (ix3 b r l) = ((∑ k, dsR p kv da b (hd l) r k * (kR kv b (hd l) k (ln l) * cr) : ℝ) : EReal) := by
  have e : dqArr (up p) (up kv) (up da) (ix3 b r l) = ∑ k, wA (up p) (up kv) (up da) b (hd l) r k * (kA (up kv) b (hd l) k (ln l) * c) := rfl
  rw [e]
  simp only [wA_up, kA_up, c, ← EReal.coe_mul]
  exact coe_sum _ _

theorem dkArr_up (b : Fin 2) (k : Fin 256) (l : Fin 512) :
    dkArr (up p) (up kv) (up da) (ix3 b k l) = ((∑ r, dsR p kv da b (hd l) r k * (qR p b (hd l) r (ln l) * cr) : ℝ) : EReal) := by
  have e : dkArr (up p) (up kv) (up da) (ix3 b k l) = ∑ r, wA (up p) (up kv) (up da) b (hd l) r k * (qA (up p) b (hd l) r (ln l) * c) := rfl
  rw [e]
  simp only [wA_up, qA_up, c, ← EReal.coe_mul]
  exact coe_sum _ _

theorem dvArr_up (b : Fin 2) (k : Fin 256) (l : Fin 512) :
    dvArr (up p) (up kv) (up da) (ix3 b k l) = ((∑ r, sm (sR p kv b (hd l) r) k * doR da b (hd l) r (ln l) : ℝ) : EReal) := by
  have e : dvArr (up p) (up kv) (up da) (ix3 b k l) = ∑ r, pA (up p) (up kv) b (hd l) r k * doA (up da) b (hd l) r (ln l) := rfl
  rw [e]
  simp only [pA_up, doA_up, ← EReal.coe_mul]
  exact coe_sum _ _

end Cert.MemGradIdeal.Val
-- ==== Proof.MemRef.lean ====
/-
  The memory attention's reference, one operation at a time, on real arrays: each value it computes is a real number of the same formulas.
-/
module
public import proofs.«01_k».proof.Proof.MemReal
public import proofs.«01_k».proof.Proof.Gen.MemGradRefIdeal.Read
public import Idealize.ShloMosaic.Lib.IdealHost
@[expose] public section
set_option maxRecDepth 16384
noncomputable section
namespace Cert.MemGradRefIdeal.Val
open Idealize.ShloMosaic Idealize.ShloMosaic.ValueIdx Cert.MemGradRefIdeal Cert.MemGradRefIdeal.Gen Cert.MemGradRefIdeal.Read
open Cert.MemGradIdeal.Val (up qR kR vR doR sR gR dsR sm cr at4R hd ln coe_sum div_coe' sm_shift sum_exp_pos fold_real ninf)
open scoped BigOperators

variable (p : S2x2048x7680.Idx → ℝ) (kv : S2x256x1024.Idx → ℝ) (da : S2x2048x2048.Idx → ℝ)
variable (b : Fin 2) (h : Fin 4) (r : Fin 2048) (k : Fin 256) (e : Fin 128)

theorem zero_bits : FloatOps.ofBits (F := Ideal) .f32 0x00000000#32 = (0 : EReal) := Ideal.ofBits_zero_f32
theorem one_bits : FloatOps.ofBits (F := Ideal) .f32 0x3F800000#32 = ((1 : ℝ) : EReal) := by
  rw [Ideal.ofBits_def, Ideal.ofBits_one_f32, EReal.coe_one]
theorem bits_128 : FloatOps.ofBits (F := Ideal) .f32 0x43000000#32 = ((128 : ℝ) : EReal) := by
  rw [Ideal.ofBits_def]
  simp [Ideal.ofBits, Ideal.ieee, -EReal.coe_mul]; norm_num

/-! ## The heads -/

theorem head2048 : idx_main_v2 (ix4 b r h e) = ix3 b r ⟨128 * h.val + e.val, by omega⟩ := by
  funext a; apply Fin.ext
  match a with
  | ⟨0, _⟩ => show (((b.val * 2048 + r.val) * 4 + h.val) * 128 + e.val) / 1048576 = b.val; omega
  | ⟨1, _⟩ => show (((b.val * 2048 + r.val) * 4 + h.val) * 128 + e.val) / 512 % 2048 = r.val; omega
  | ⟨2, _⟩ => show (((b.val * 2048 + r.val) * 4 + h.val) * 128 + e.val) % 512 = 128 * h.val + e.val; omega

theorem head256 : idx_main_v5 (ix4 b k h e) = ix3 b k ⟨128 * h.val + e.val, by omega⟩ := by
  funext a; apply Fin.ext
  match a with
  | ⟨0, _⟩ => show (((b.val * 256 + k.val) * 4 + h.val) * 128 + e.val) / 131072 = b.val; omega
  | ⟨1, _⟩ => show (((b.val * 256 + k.val) * 4 + h.val) * 128 + e.val) / 512 % 256 = k.val; omega
  | ⟨2, _⟩ => show (((b.val * 256 + k.val) * 4 + h.val) * 128 + e.val) % 512 = 128 * h.val + e.val; omega

theorem unhead2048 (l : Fin 512) : idx_main_v69 (ix3 b r l) = ix4 b r (hd l) (ln l) := by
  funext a; apply Fin.ext
  match a with
  | ⟨0, _⟩ => show ((b.val * 2048 + r.val) * 512 + l.val) / 1048576 = b.val; omega
  | ⟨1, _⟩ => show ((b.val * 2048 + r.val) * 512 + l.val) / 512 % 2048 = r.val; omega
  | ⟨2, _⟩ => show ((b.val * 2048 + r.val) * 512 + l.val) / 128 % 4 = l.val / 128; omega
  | ⟨3, _⟩ => show ((b.val * 2048 + r.val) * 512 + l.val) % 128 = l.val % 128; omega

theorem unhead256 (l : Fin 512) : idx_main_v72 (ix3 b k l) = ix4 b k (hd l) (ln l) := by
  funext a; apply Fin.ext
  match a with
  | ⟨0, _⟩ => show ((b.val * 256 + k.val) * 512 + l.val) / 131072 = b.val; omega
  | ⟨1, _⟩ => show ((b.val * 256 + k.val) * 512 + l.val) / 512 % 256 = k.val; omega
  | ⟨2, _⟩ => show ((b.val * 256 + k.val) * 512 + l.val) / 128 % 4 = l.val / 128; omega
  | ⟨3, _⟩ => show ((b.val * 256 + k.val) * 512 + l.val) % 128 = l.val % 128; omega

/-- An index is what its coordinates say. -/
theorem eq_ix4 {n0 n1 n2 n3 : ℕ} (i : (⟨4, ![n0, n1, n2, n3]⟩ : Shape).Idx) (a0 : Fin n0) (a1 : Fin n1) (a2 : Fin n2) (a3 : Fin n3)
    (h0 : (i 0).val = a0.val) (h1 : (i 1).val = a1.val) (h2 : (i 2).val = a2.val) (h3 : (i 3).val = a3.val) : i = ix4 a0 a1 a2 a3 := by
  funext a; apply Fin.ext
  match a with
  | ⟨0, _⟩ => exact h0
  | ⟨1, _⟩ => exact h1
  | ⟨2, _⟩ => exact h2
  | ⟨3, _⟩ => exact h3

theorem eq_ix3 {n0 n1 n2 : ℕ} (i : (⟨3, ![n0, n1, n2]⟩ : Shape).Idx) (a0 : Fin n0) (a1 : Fin n1) (a2 : Fin n2)
    (h0 : (i 0).val = a0.val) (h1 : (i 1).val = a1.val) (h2 : (i 2).val = a2.val) : i = ix3 a0 a1 a2 := by
  funext a; apply Fin.ext
  match a with
  | ⟨0, _⟩ => exact h0
  | ⟨1, _⟩ => exact h1
  | ⟨2, _⟩ => exact h2

theorem q_up : val_main_v2 (F := Ideal) (up p) (ix4 b r h e) = ((qR p b h r e : ℝ) : EReal) := by
  rw [val_main_v2_apply, head2048, val_main_v1_apply, val_main_v0_apply]
  refine congrArg (fun i => ((p i : ℝ) : EReal)) (eq_ix3 _ _ _ _ rfl rfl rfl)

theorem k_up : val_main_v5 (F := Ideal) (up kv) (ix4 b k h e) = ((kR kv b h k e : ℝ) : EReal) := by
  rw [val_main_v5_apply, head256, val_main_v4_apply, val_main_v3_apply]
  refine congrArg (fun i => ((kv i : ℝ) : EReal)) (eq_ix3 _ _ _ _ rfl rfl ?_)
  show 128 * h.val + e.val = 0 + (128 * h.val + e.val)
  omega

theorem v_up : val_main_v8 (F := Ideal) (up kv) (ix4 b k h e) = ((vR kv b h k e : ℝ) : EReal) := by
  rw [val_main_v8_apply, (show idx_main_v8 (ix4 b k h e) = _ from head256 b h k e), val_main_v7_apply, val_main_v6_apply]
  exact congrArg (fun i => ((kv i : ℝ) : EReal)) (eq_ix3 _ _ _ _ rfl rfl rfl)

theorem do_up : val_main_v11 (F := Ideal) (up da) (ix4 b r h e) = ((doR da b h r e : ℝ) : EReal) := by
  rw [val_main_v11_apply, (show idx_main_v11 (ix4 b r h e) = _ from head2048 b h r e), val_main_v10_apply, val_main_v9_apply]
  exact congrArg (fun i => ((da i : ℝ) : EReal)) (eq_ix3 _ _ _ _ rfl rfl rfl)

/-! ## The weights -/

theorem scale (i : S_.Idx) : val_main_v13 (F := Ideal) i = ((cr : ℝ) : EReal) := by
  rw [val_main_v13_apply, val_main_v12_apply, val_main_cst_apply, val_main_cst_0_apply, bits_128, one_bits]
  show Ideal.div ((1 : ℝ) : EReal) (Ideal.sqrt ((128 : ℝ) : EReal)) = _
  rw [Ideal.sqrt_coe, if_neg (by norm_num), div_coe' _ _ (by positivity), one_div]

theorem s_up : val_main_v16 (F := Ideal) (up p) (up kv) (ix4 b h r k) = ((sR p kv b h r k : ℝ) : EReal) := by
  rw [val_main_v16_apply, val_main_v15_apply, scale, val_main_v14_apply]
  have hs : ∀ x : Fin 128, val_main_v2 (F := Ideal) (up p) (lidx_main_v14 (ix4 b h r k) x) * val_main_v5 (F := Ideal) (up kv) (ridx_main_v14 (ix4 b h r k) x)
      = ((qR p b h r x * kR kv b h k x : ℝ) : EReal) := fun x => by
    rw [eq_ix4 (lidx_main_v14 (ix4 b h r k) x) b r h x rfl rfl rfl rfl, eq_ix4 (ridx_main_v14 (ix4 b h r k) x) b k h x rfl rfl rfl rfl, q_up, k_up, EReal.coe_mul]
  rw [Finset.sum_congr rfl fun x _ => hs x, coe_sum]
  exact (EReal.coe_mul _ _).symm

theorem max_up : ∃ M : ℝ, val_main_v24 (F := Ideal) (up p) (up kv) (ix3 b h r) = (M : EReal) := by
  obtain ⟨M, hM⟩ := fold_real (sR p kv b h r)
  refine ⟨M, ?_⟩
  rw [val_main_v24_apply, val_main_v23_apply, val_main_cst_3_apply, ninf]
  refine (max_eq_right bot_le : max (⊥ : EReal) (val_main_v17 (F := Ideal) (up p) (up kv) (ix3 b h r)) = _).trans ?_
  rw [← hM]
  have hc : (fun x : Fin 256 => ((sR p kv b h r x : ℝ) : EReal)) = fun x => val_main_v16 (F := Ideal) (up p) (up kv) (ix4 b h r x) := funext fun x => (s_up p kv b h r x).symm
  rw [hc]
  unfold val_main_v17
  generalize val_main_v16 (F := Ideal) (up p) (up kv) = y
  refine (Host.reduce_eq_fold_single (max : EReal → EReal → EReal) y (val_main_cst_1 (F := Ideal)) reducesTo_S2x4x2048x256_S2x4x2048_d3 (by decide) h_S_ (ix3 b h r)).trans ?_
  rw [val_main_cst_1_apply, ninf]
  exact congrArg (fun f : Fin 256 → EReal => (Finset.univ : Finset (Fin 256)).fold max (⊥ : EReal) f) (funext fun x => congrArg y (eq_ix4 _ b h r x rfl rfl rfl rfl))

variable (M : ℝ) (hM : val_main_v24 (F := Ideal) (up p) (up kv) (ix3 b h r) = (M : EReal))
include hM

theorem e_up : val_main_v37 (F := Ideal) (up p) (up kv) (ix4 b h r k) = ((Real.exp (sR p kv b h r k - M) : ℝ) : EReal) := by
  rw [val_main_v37_apply, val_main_v36_apply, s_up, val_main_v35_apply, val_main_v34_apply, eq_ix3 (idx_main_v34 (idx_main_v35 (ix4 b h r k))) b h r rfl rfl rfl, hM]
  show Ideal.exp (((sR p kv b h r k : ℝ) : EReal) - ((M : ℝ) : EReal)) = _
  rw [← EReal.coe_sub, Ideal.exp_coe]

theorem l_up : val_main_v38 (F := Ideal) (up p) (up kv) (ix3 b h r) = ((∑ x, Real.exp (sR p kv b h r x - M) : ℝ) : EReal) := by
  rw [val_main_v38_apply, val_main_cst_9_apply, zero_bits, zero_add]
  refine Eq.trans (Finset.sum_congr rfl fun x _ => ?_) (coe_sum _ _)
  rw [eq_ix4 (idx_main_v38 (ix3 b h r) x) b h r x rfl rfl rfl rfl, e_up p kv b h r x M hM]

theorem w_up : val_main_v41 (F := Ideal) (up p) (up kv) (ix4 b h r k) = ((sm (sR p kv b h r) k : ℝ) : EReal) := by
  rw [val_main_v41_apply, e_up p kv b h r k M hM, val_main_v40_apply, val_main_v39_apply, eq_ix3 (idx_main_v39 (idx_main_v40 (ix4 b h r k))) b h r rfl rfl rfl, l_up p kv b h r M hM]
  refine (div_coe' _ _ (sum_exp_pos fun j => sR p kv b h r j - M).ne').trans ?_
  rw [sm_shift]

omit hM in
theorem g_up : val_main_v48 (F := Ideal) (up kv) (up da) (ix4 b h r k) = ((gR kv da b h r k : ℝ) : EReal) := by
  rw [val_main_v48_apply]
  refine Eq.trans (Finset.sum_congr rfl fun x _ => ?_) (coe_sum _ _)
  rw [val_main_v47_apply, eq_ix4 (idx_main_v47 (lidx_main_v48 (ix4 b h r k) x)) b r h x rfl rfl rfl rfl, eq_ix4 (ridx_main_v48 (ix4 b h r k) x) b k h x rfl rfl rfl rfl, do_up, v_up, EReal.coe_mul]

/-! ## The score gradients -/

theorem d_up : val_main_v54 (F := Ideal) (up p) (up kv) (up da) (ix3 b h r)
    = ((∑ x, gR kv da b h r x * (1 / ((∑ j, Real.exp (sR p kv b h r j - M)) * ∑ j, Real.exp (sR p kv b h r j - M))) * Real.exp (sR p kv b h r x - M) : ℝ) : EReal) := by
  have hl := (sum_exp_pos fun j => sR p kv b h r j - M).ne'
  rw [val_main_v54_apply, val_main_cst_11_apply, zero_bits, zero_add]
  refine Eq.trans (Finset.sum_congr rfl fun x _ => ?_) (coe_sum _ _)
  rw [eq_ix4 (idx_main_v54 (ix3 b h r) x) b h r x rfl rfl rfl rfl, val_main_v53_apply, val_main_v52_apply, g_up, e_up p kv b h r x M hM, val_main_v51_apply,
    val_main_v44_apply, val_main_v42_apply, val_main_v43_apply, val_main_v39_apply, eq_ix3 (idx_main_v39 (idx_main_v51 (ix4 b h r x))) b h r rfl rfl rfl, l_up p kv b h r M hM,
    EReal.coe_mul, EReal.coe_mul, ← div_coe' _ _ (mul_ne_zero hl hl), EReal.coe_mul, val_main_cst_10_apply, one_bits]
  rfl

theorem ds_up : val_main_v64 (F := Ideal) (up p) (up kv) (up da) (ix4 b h r k) = ((dsR p kv da b h r k * cr : ℝ) : EReal) := by
  have hl := (sum_exp_pos fun j => sR p kv b h r j - M).ne'
  rw [val_main_v64_apply, val_main_v63_apply, scale, val_main_v62_apply, e_up p kv b h r k M hM, val_main_v61_apply, val_main_v60_apply, val_main_v59_apply,
    val_main_cst_12_apply, zero_bits, zero_add, Fin.sum_univ_one, val_main_v56_apply, val_main_v55_apply,
    eq_ix3 (idx_main_v55 (idx_main_v59 (idx_main_v60 (ix4 b h r k)) 0)) b h r ?_ ?_ ?_, d_up p kv da b h r M hM,
    val_main_v58_apply, g_up, val_main_v57_apply, val_main_v39_apply, eq_ix3 (idx_main_v39 (idx_main_v57 (ix4 b h r k))) b h r rfl rfl rfl, l_up p kv b h r M hM]
  · generalize hL : ∑ j, Real.exp (sR p kv b h r j - M) = L at hl ⊢
    refine (congrArg (fun x : EReal => (x + -_) * _ * _) (div_coe' (gR kv da b h r k) L hl)).trans ?_
    rw [← EReal.coe_neg, ← EReal.coe_add, ← EReal.coe_mul, ← EReal.coe_mul]
    refine congrArg _ (congrArg (· * cr) ?_)
    unfold dsR
    simp only [← sm_shift (sR p kv b h r) M, hL]
    have hd : ∑ x, gR kv da b h r x * (1 / (L * L)) * Real.exp (sR p kv b h r x - M) = (∑ j, Real.exp (sR p kv b h r j - M) / L * gR kv da b h r j) / L := by
      rw [Finset.sum_div]
      exact Finset.sum_congr rfl fun x _ => by field_simp
    rw [hd]
    field_simp
    ring
  · show (((b.val * 4 + h.val) * 2048 + r.val) * 1 + 0) / 8192 = b.val; omega
  · show (((b.val * 4 + h.val) * 2048 + r.val) * 1 + 0) / 2048 % 4 = h.val; omega
  · show (((b.val * 4 + h.val) * 2048 + r.val) * 1 + 0) % 2048 = r.val; omega

omit hM
variable (l : Fin 512)

/-! ## The results -/

theorem o_res : val_main_v69 (F := Ideal) (up p) (up kv) (ix3 b r l) = ((∑ k, sm (sR p kv b (hd l) r) k * vR kv b (hd l) k (ln l) : ℝ) : EReal) := by
  obtain ⟨M, hM⟩ := max_up p kv b (hd l) r
  rw [val_main_v69_apply, unhead2048, val_main_v46_apply, val_main_v45_apply]
  refine Eq.trans (Finset.sum_congr rfl fun x _ => ?_) (coe_sum _ _)
  rw [eq_ix4 (lidx_main_v45 (idx_main_v46 (ix4 b r (hd l) (ln l))) x) b x (hd l) (ln l) rfl rfl rfl rfl,
    eq_ix4 (ridx_main_v45 (idx_main_v46 (ix4 b r (hd l) (ln l))) x) b (hd l) r x rfl rfl rfl rfl, v_up, w_up p kv b (hd l) r x M hM, EReal.coe_mul, mul_comm]

theorem dv_res : val_main_v73 (F := Ideal) (up p) (up kv) (up da) (ix3 b k l) = ((∑ r, sm (sR p kv b (hd l) r) k * doR da b (hd l) r (ln l) : ℝ) : EReal) := by
  rw [val_main_v73_apply, (show idx_main_v73 (ix3 b k l) = _ from unhead256 b k l), val_main_v50_apply, val_main_v49_apply]
  refine Eq.trans (Finset.sum_congr rfl fun x _ => ?_) (coe_sum _ _)
  obtain ⟨M, hM⟩ := max_up p kv b (hd l) x
  rw [val_main_v47_apply, eq_ix4 (idx_main_v47 (lidx_main_v49 (idx_main_v50 (ix4 b k (hd l) (ln l))) x)) b x (hd l) (ln l) rfl rfl rfl rfl,
    eq_ix4 (ridx_main_v49 (idx_main_v50 (ix4 b k (hd l) (ln l))) x) b (hd l) x k rfl rfl rfl rfl, do_up, w_up p kv b (hd l) x k M hM, EReal.coe_mul, mul_comm]

theorem dk_res : val_main_v72 (F := Ideal) (up p) (up kv) (up da) (ix3 b k l) = ((∑ r, dsR p kv da b (hd l) r k * (qR p b (hd l) r (ln l) * cr) : ℝ) : EReal) := by
  rw [val_main_v72_apply, unhead256, val_main_v66_apply, val_main_v65_apply]
  refine Eq.trans (Finset.sum_congr rfl fun x _ => ?_) (coe_sum _ _)
  obtain ⟨M, hM⟩ := max_up p kv b (hd l) x
  rw [eq_ix4 (lidx_main_v65 (idx_main_v66 (ix4 b k (hd l) (ln l))) x) b (hd l) x k rfl rfl rfl rfl,
    eq_ix4 (ridx_main_v65 (idx_main_v66 (ix4 b k (hd l) (ln l))) x) b x (hd l) (ln l) rfl rfl rfl rfl, q_up, ds_up p kv da b (hd l) x k M hM, ← EReal.coe_mul]
  exact congrArg _ (by ring)

theorem dq_res : val_main_v71 (F := Ideal) (up p) (up kv) (up da) (ix3 b r l) = ((∑ k, dsR p kv da b (hd l) r k * (kR kv b (hd l) k (ln l) * cr) : ℝ) : EReal) := by
  obtain ⟨M, hM⟩ := max_up p kv b (hd l) r
  rw [val_main_v71_apply, val_main_v70_apply, (show idx_main_v70 (ix3 b r l) = _ from unhead2048 b r l), val_main_v68_apply, val_main_v67_apply]
  refine Eq.trans (Finset.sum_congr rfl fun x _ => ?_) (coe_sum _ _)
  rw [eq_ix4 (lidx_main_v67 (idx_main_v68 (ix4 b r (hd l) (ln l))) x) b (hd l) r x rfl rfl rfl rfl,
    eq_ix4 (ridx_main_v67 (idx_main_v68 (ix4 b r (hd l) (ln l))) x) b x (hd l) (ln l) rfl rfl rfl rfl, k_up, ds_up p kv da b (hd l) r x M hM, ← EReal.coe_mul]
  exact congrArg _ (by ring)

end Cert.MemGradRefIdeal.Val
-- ==== Proof.Finite.lean ====
/-
  A precondition that asks every element of an array to be finite, read back: such an array is an array of real numbers.
-/
module
public import Idealize.ShloMosaic.Lib.ReduceAll
public import Idealize.ShloMosaic.Lib.IdealHost
public import Idealize.ShloMosaic.PureOps.Ideal.Laws
@[expose] public section
noncomputable section
namespace Cert.Finite
open Idealize.ShloMosaic

theorem inf_bits : FloatOps.ofBits (F := Ideal) .f32 0x7F800000#32 = (⊤ : EReal) := by
  rw [Ideal.ofBits_def]
  simp [Ideal.ofBits, Ideal.ieee]

/-- A number whose absolute value is below the infinity is a real. -/
theorem real_of_abs (x : EReal) (h : max x (-x) < ⊤) : ((x.toReal : ℝ) : EReal) = x := by
  refine EReal.coe_toReal ?_ ?_
  · rintro rfl
    exact absurd (lt_of_le_of_lt (le_max_left _ _) h) (lt_irrefl _)
  · rintro rfl
    exact absurd (lt_of_le_of_lt (le_max_right _ _) h) (by simp)

/-- The comparison at one element. -/
theorem real_of_lt {s : Shape} (x : FVec Ideal s .f32) (t : FVec Ideal s .f32) (i : s.Idx) (ht : t i = (⊤ : EReal))
    (h : cmpf .olt (Host.absf x) t i = 1#1) : (((x i : EReal).toReal : ℝ) : EReal) = x i := by
  refine real_of_abs _ ?_
  have h' : Ideal.cmp .olt (max (x i : EReal) (-(x i : EReal))) (t i) = 1#1 := h
  rw [ht] at h'
  by_contra hn
  have h0 : Ideal.cmp .olt (max (x i : EReal) (-(x i : EReal))) ⊤ = 0#1 := by
    simp only [Ideal.cmp]
    simp only [hn]
    rfl
  rw [h0] at h'
  exact absurd h' (by decide)

end Cert.Finite
-- ==== Proof.MemClaim.lean ====
/-
  The memory attention's claims: the two runs, met at the real numbers, and the reference's frame.
-/
module
public import proofs.«01_k».proof.Defs
public import proofs.«01_k».proof.Proof.Gen.Pre_mem_finite
public import proofs.«01_k».proof.Proof.MemRef
public import proofs.«01_k».proof.Proof.Finite
public import Idealize.ShloMosaic.Lib.Quiescent
@[expose] public section
set_option maxRecDepth 16384
noncomputable section
namespace Cert.MemClaim
open Idealize.ShloMosaic Idealize.ShloMosaic.ValueIdx Idealize.SL.Sem
open Cert.MemGradIdeal (S2x2048x7680 S2x256x1024 S2x2048x2048 S2x2048x512 S2x256x512)
open Cert.MemGradIdeal.Val Cert.MemGradRefIdeal.Val Cert.MemGradRefIdeal.Read

/-! ## The precondition -/

variable (P : S2x2048x7680.Idx → EReal) (KV : S2x256x1024.Idx → EReal) (DA : S2x2048x2048.Idx → EReal)

theorem real_of_pre (h : Cert.Pre_mem_finite.fn (F := Ideal) P KV DA = fun _ => 1#1) :
    (up fun i => (P i).toReal) = P ∧ (up fun i => (KV i).toReal) = KV ∧ (up fun i => (DA i).toReal) = DA := by
  have h1 := congrFun h default
  unfold Cert.Pre_mem_finite.fn at h1
  dsimp only at h1
  obtain ⟨h12, h3⟩ := IntOp.andi_eq_one.1 h1
  obtain ⟨h1, h2⟩ := IntOp.andi_eq_one.1 h12
  haveI : Subsingleton Cert.Pre_mem_finite.S_.Idx := ⟨fun a b => funext fun x => x.elim0⟩
  exact ⟨funext fun i => Cert.Finite.real_of_lt (s := S2x2048x7680) P _ i Cert.Finite.inf_bits (Host.reduce_andi_all _ _ _ _ _ h1 i),
    funext fun i => Cert.Finite.real_of_lt (s := S2x256x1024) KV _ i Cert.Finite.inf_bits (Host.reduce_andi_all _ _ _ _ _ h2 i),
    funext fun i => Cert.Finite.real_of_lt (s := S2x2048x2048) DA _ i Cert.Finite.inf_bits (Host.reduce_andi_all _ _ _ _ _ h3 i)⟩

/-! ## The results on real arrays -/

variable (p : S2x2048x7680.Idx → ℝ) (kv : S2x256x1024.Idx → ℝ) (da : S2x2048x2048.Idx → ℝ)

theorem o_eq : val_main_v69 (F := Ideal) (up p) (up kv) = oArr (up p) (up kv) := funext fun y => by
  rw [Cert.MemGradRefIdeal.Val.eq_ix3 y (y 0) (y 1) (y 2) rfl rfl rfl]
  exact (o_res p kv (y 0) (y 1) (y 2)).trans (oArr_up p kv (y 0) (y 1) (y 2)).symm

theorem dq_eq : val_main_v71 (F := Ideal) (up p) (up kv) (up da) = dqArr (up p) (up kv) (up da) := funext fun y => by
  rw [Cert.MemGradRefIdeal.Val.eq_ix3 y (y 0) (y 1) (y 2) rfl rfl rfl]
  exact (dq_res p kv da (y 0) (y 1) (y 2)).trans (dqArr_up p kv da (y 0) (y 1) (y 2)).symm

theorem dk_eq : val_main_v72 (F := Ideal) (up p) (up kv) (up da) = dkArr (up p) (up kv) (up da) := funext fun y => by
  rw [Cert.MemGradRefIdeal.Val.eq_ix3 y (y 0) (y 1) (y 2) rfl rfl rfl]
  exact (dk_res p kv da (y 0) (y 1) (y 2)).trans (dkArr_up p kv da (y 0) (y 1) (y 2)).symm

theorem dv_eq : val_main_v73 (F := Ideal) (up p) (up kv) (up da) = dvArr (up p) (up kv) (up da) := funext fun y => by
  rw [Cert.MemGradRefIdeal.Val.eq_ix3 y (y 0) (y 1) (y 2) rfl rfl rfl]
  exact (dv_res p kv da (y 0) (y 1) (y 2)).trans (dvArr_up p kv da (y 0) (y 1) (y 2)).symm

/-- The four results, on arrays the precondition admits. -/
theorem all_eq (h : Cert.Pre_mem_finite.fn (F := Ideal) P KV DA = fun _ => 1#1) :
    val_main_v69 (F := Ideal) P KV = oArr P KV ∧ val_main_v71 (F := Ideal) P KV DA = dqArr P KV DA
      ∧ val_main_v72 (F := Ideal) P KV DA = dkArr P KV DA ∧ val_main_v73 (F := Ideal) P KV DA = dvArr P KV DA := by
  obtain ⟨h1, h2, h3⟩ := real_of_pre P KV DA h
  rw [← h1, ← h2, ← h3]
  exact ⟨o_eq _ _, dq_eq _ _ _, dk_eq _ _ _, dv_eq _ _ _⟩

/-! ## The claims -/

theorem frame_ref : Cert.quiescent_MemGradRefIdeal := fun m ρ _ =>
  (θ_run Cert.MemGradRefIdeal.defs _ _).mono
    (fun r h => ⟨fun c => (h c).2.2.2.2, sem_eq_zero_of_no_sems (by decide) r.2⟩) (Cert.MemGradRefIdeal.Value.run (F := Ideal) m ρ)

theorem algebraic : Cert.algebraic_MemGradIdeal_MemGradRefIdeal_pre_mem_finite := fun m g m' g' hpre hagree =>
  ⟨fun c => oArr (argP m c) (argKV m c), fun c => dqArr (argP m c) (argKV m c) (argDA m c), fun c => dkArr (argP m c) (argKV m c) (argDA m c),
    fun c => dvArr (argP m c) (argKV m c) (argDA m c), run m g,
    (θ_run Cert.MemGradRefIdeal.defs _ _).mono (fun r h c => by
      obtain ⟨h69, h71, h72, h73, ha⟩ := h c
      obtain ⟨e69, e71, e72, e73⟩ := all_eq _ _ _ (hpre c)
      obtain ⟨a0, a1, a2⟩ := hagree c
      refine ⟨h69.trans ?_, h71.trans ?_, h72.trans ?_, h73.trans ?_, ha⟩
      · rw [val_main_v69_eq, a0, a1]; exact e69
      · rw [val_main_v71_eq, a0, a1, a2]; exact e71
      · rw [val_main_v72_eq, a0, a1, a2]; exact e72
      · rw [val_main_v73_eq, a0, a1, a2]; exact e73) (Cert.MemGradRefIdeal.Value.run (F := Ideal) m' g')⟩

end Cert.MemClaim
-- ==== Proof.InCols.lean ====
/-
  The column order of the input projection's arrays: the attention columns as they stand, then the last 4096, then the twelve
  forget-gate columns, then 500 zeros. A product over the arranged columns is the product over the columns as they come.
-/
module
public import Idealize.ShloMosaic.Lib.Pipeline.Value
public import Idealize.ShloMosaic.Lib.MatmulPlain
public import Idealize.ShloMosaic.Lib.ValueIdx
public import Idealize.ShloMosaic.Lib.Pointwise.Sums
public import Idealize.ShloMosaic.PureOps.Ideal.Laws
@[expose] public section
set_option maxRecDepth 16384
noncomputable section
namespace Cert.Cols
open Idealize.ShloMosaic hiding ix2 ix3
open Idealize.ShloMosaic.ValueIdx
open scoped BigOperators

/-- A row of 7180 columns, arranged as 7680. -/
def cols (f : Fin 7180 → EReal) (j : Fin 7680) : EReal :=
  if h : j.val < 3072 then f ⟨j.val, by omega⟩
  else if h : j.val < 7168 then f ⟨j.val + 12, by omega⟩
  else if h : j.val < 7180 then f ⟨j.val - 4096, by omega⟩ else 0

theorem cols_first (f : Fin 7180 → EReal) (k : Fin 3072) (h) : cols f ⟨k.val, h⟩ = f ⟨k.val, by omega⟩ := by
  unfold cols; rw [dif_pos k.isLt]
theorem cols_last (f : Fin 7180 → EReal) (k : Fin 4096) (h) : cols f ⟨3072 + k.val, h⟩ = f ⟨3084 + k.val, by omega⟩ := by
  unfold cols
  rw [dif_neg (by show ¬ 3072 + k.val < 3072; omega), dif_pos (by show 3072 + k.val < 7168; omega)]
  exact congrArg f (Fin.ext (by show 3072 + k.val + 12 = 3084 + k.val; omega))
theorem cols_gate (f : Fin 7180 → EReal) (k : Fin 12) (h) : cols f ⟨7168 + k.val, h⟩ = f ⟨3072 + k.val, by omega⟩ := by
  unfold cols
  rw [dif_neg (by show ¬ 7168 + k.val < 3072; omega), dif_neg (by show ¬ 7168 + k.val < 7168; omega), dif_pos (by show 7168 + k.val < 7180; omega)]
  exact congrArg f (Fin.ext (by show 7168 + k.val - 4096 = 3072 + k.val; omega))
theorem cols_zero (f : Fin 7180 → EReal) (k : Fin 500) (h) : cols f ⟨7180 + k.val, h⟩ = 0 := by
  unfold cols
  rw [dif_neg (by show ¬ 7180 + k.val < 3072; omega), dif_neg (by show ¬ 7180 + k.val < 7168; omega), dif_neg (by show ¬ 7180 + k.val < 7180; omega)]

theorem cols_eq (f : Fin 7180 → EReal) (j : Fin 7680) (k : Fin 7180)
    (h : (j.val < 3072 ∧ k.val = j.val) ∨ (3072 ≤ j.val ∧ j.val < 7168 ∧ k.val = j.val + 12) ∨ (7168 ≤ j.val ∧ j.val < 7180 ∧ k.val + 4096 = j.val)) : cols f j = f k := by
  have hk := k.isLt
  unfold cols
  split_ifs <;> first
    | omega
    | (refine congrArg f (Fin.ext ?_)
       dsimp only
       omega)
theorem cols_none (f : Fin 7180 → EReal) (j : Fin 7680) (h : 7180 ≤ j.val) : cols f j = 0 := by
  unfold cols
  rw [dif_neg (by omega), dif_neg (by omega), dif_neg (by omega)]

/-- The arranged columns' product is the columns' product. -/
theorem sum_cols (f g : Fin 7180 → EReal) : ∑ j : Fin 7680, cols f j * cols g j = ∑ k : Fin 7180, f k * g k := by
  have e : (∑ j : Fin 7680, cols f j * cols g j) = (∑ k : Fin 3072, f ⟨k.val, by omega⟩ * g ⟨k.val, by omega⟩)
      + ((∑ k : Fin 4096, f ⟨3084 + k.val, by omega⟩ * g ⟨3084 + k.val, by omega⟩)
        + ((∑ k : Fin 12, f ⟨3072 + k.val, by omega⟩ * g ⟨3072 + k.val, by omega⟩) + 0)) := by
    rw [Fin.sum_univ_two_halves 3072 4608 rfl, Fin.sum_univ_two_halves 4096 512 rfl (fun k : Fin 4608 => _), Fin.sum_univ_two_halves 12 500 rfl (fun k : Fin 512 => _)]
    refine congrArg₂ (· + ·) (Finset.sum_congr rfl fun k _ => by rw [cols_first, cols_first]) (congrArg₂ (· + ·) (Finset.sum_congr rfl fun k _ => ?_)
      (congrArg₂ (· + ·) (Finset.sum_congr rfl fun k _ => ?_) (Finset.sum_eq_zero fun k _ => ?_)))
    · rw [cols_last, cols_last]
    · have h : (⟨3072 + (4096 + k.val), by omega⟩ : Fin 7680) = ⟨7168 + k.val, by omega⟩ := Fin.ext (by show 3072 + (4096 + k.val) = 7168 + k.val; omega)
      show cols f ⟨3072 + (4096 + k.val), _⟩ * cols g ⟨3072 + (4096 + k.val), _⟩ = _
      rw [h, cols_gate, cols_gate]
    · have h : (⟨3072 + (4096 + (12 + k.val)), by omega⟩ : Fin 7680) = ⟨7180 + k.val, by omega⟩ := Fin.ext (by show 3072 + (4096 + (12 + k.val)) = 7180 + k.val; omega)
      show cols f ⟨3072 + (4096 + (12 + k.val)), _⟩ * cols g ⟨3072 + (4096 + (12 + k.val)), _⟩ = _
      rw [h, cols_zero, cols_zero, mul_zero]
  have e' : (∑ k : Fin 7180, f k * g k) = (∑ k : Fin 3072, f ⟨k.val, by omega⟩ * g ⟨k.val, by omega⟩)
      + ((∑ k : Fin 12, f ⟨3072 + k.val, by omega⟩ * g ⟨3072 + k.val, by omega⟩)
        + (∑ k : Fin 4096, f ⟨3084 + k.val, by omega⟩ * g ⟨3084 + k.val, by omega⟩)) := by
    rw [Fin.sum_univ_two_halves 3072 4108 rfl, Fin.sum_univ_two_halves 12 4096 rfl (fun k : Fin 4108 => _)]
    refine congrArg _ (congrArg _ (Finset.sum_congr rfl fun k _ => ?_))
    have h : (⟨3072 + (12 + k.val), by omega⟩ : Fin 7180) = ⟨3084 + k.val, by omega⟩ := Fin.ext (by show 3072 + (12 + k.val) = 3084 + k.val; omega)
    show f ⟨3072 + (12 + k.val), _⟩ * g ⟨3072 + (12 + k.val), _⟩ = _
    rw [h]
  rw [e, e', add_zero, add_comm (∑ k : Fin 4096, _)]

/-- A sum of arranged rows is the sums arranged. -/
theorem cols_sum {n : ℕ} (a : Fin n → EReal) (f : Fin n → Fin 7180 → EReal) (j : Fin 7680) :
    ∑ r : Fin n, a r * cols (f r) j = cols (fun k => ∑ r : Fin n, a r * f r k) j := by
  unfold cols
  split_ifs
  · rfl
  · rfl
  · rfl
  · exact Finset.sum_eq_zero fun r _ => mul_zero _

/-! ## Rectangles of a two-axis array -/

/-- A unit-stride rectangle's element, by its offsets. -/
theorem unit_emb {n0 n1 : ℕ} (off : Fin 2 → ℕ) (size : Fin 2 → ℕ) (inb) (y : (⟨2, size⟩ : Shape).Idx) (r : Fin n0) (l : Fin n1)
    (h0 : off 0 + (y 0).val = r.val) (h1 : off 1 + (y 1).val = l.val) :
    (Rect.unit (s := ⟨2, ![n0, n1]⟩) off size inb).emb y = ix2 r l := by
  funext a; apply Fin.ext
  match a with
  | ⟨0, _⟩ => show off 0 + 1 * (y 0).val = r.val; omega
  | ⟨1, _⟩ => show off 1 + 1 * (y 1).val = l.val; omega

/-- A unit-stride rectangle holds an index, by its offsets. -/
theorem mem_unit {n0 n1 : ℕ} (off : Fin 2 → ℕ) (size : Fin 2 → ℕ) (inb) (i : (⟨2, ![n0, n1]⟩ : Shape).Idx)
    (h0 : off 0 ≤ (i 0).val ∧ (i 0).val < off 0 + size 0) (h1 : off 1 ≤ (i 1).val ∧ (i 1).val < off 1 + size 1) :
    i ∈ (Rect.unit (s := ⟨2, ![n0, n1]⟩) off size inb).set := by
  rw [Rect.mem_set_unit]
  intro a
  match a with
  | ⟨0, _⟩ => exact h0
  | ⟨1, _⟩ => exact h1

/-- The row of 4096 that token `s` of batch `b` is. -/
def tok (b : Fin 2) (s : Fin 2048) : Fin 4096 := ⟨b.val * 2048 + s.val, by omega⟩
/-- A row's batch -/
def bat (r : Fin 4096) : Fin 2 := ⟨r.val / 2048, by omega⟩
/-- and token. -/
def pos (r : Fin 4096) : Fin 2048 := ⟨r.val % 2048, by omega⟩

theorem bat_tok (b : Fin 2) (s : Fin 2048) : bat (tok b s) = b := Fin.ext (by show (b.val * 2048 + s.val) / 2048 = b.val; omega)
theorem pos_tok (b : Fin 2) (s : Fin 2048) : pos (tok b s) = s := Fin.ext (by show (b.val * 2048 + s.val) % 2048 = s.val; omega)

/-- A sum over the rows is the sum over batches and tokens. -/
theorem sum_tok (f : Fin 4096 → EReal) : ∑ r : Fin 4096, f r = ∑ b : Fin 2, ∑ s : Fin 2048, f (tok b s) :=
  Fin.sum_univ_tiles 2 2048 rfl f

/-- Batches and tokens flattened into rows. -/
theorem flat_apply {n : ℕ} (x : (⟨3, ![2, 2048, n]⟩ : Shape).Idx → EReal) (h : Shape.ShapeCasts ⟨3, ![2, 2048, n]⟩ ⟨2, ![4096, n]⟩) (r : Fin 4096) (i : Fin n) :
    shapeCast (⟨2, ![4096, n]⟩ : Shape) x h (ix2 r i) = x (ix3 (bat r) (pos r) i) :=
  shapeCast_apply x h (ix2 r i) (ix3 (bat r) (pos r) i) (by
    rw [Shape.rowMajor_val_three, Shape.rowMajor_val_two]
    show (r.val / 2048 * 2048 + r.val % 2048) * n + i.val = r.val * n + i.val
    rw [Nat.div_add_mod'])

end Cert.Cols
-- ==== Proof.InKer.lean ====
/-
  The input projection's input-gradient kernel: a row of its result as a function of the row's operands, the gain gradient as a
  sum over all rows, and the sixteen row blocks put together.
-/
module
public import proofs.«01_k».proof.Proof.Gen.InGradIdeal.Value
public import proofs.«01_k».proof.Proof.InCols
public import Idealize.ShloMosaic.Lib.Pipeline.ValueKit
public import Idealize.ShloMosaic.Lib.WritesUnit
public import Idealize.ShloMosaic.Lib.VecWindow
@[expose] public section
set_option maxRecDepth 16384
noncomputable section
namespace Cert.InGradIdeal.Val
open Idealize.ShloMosaic hiding ix1 ix2 ix3 eq_ix1 eq_ix2 eq_ix3
open Idealize.ShloMosaic.ValueIdx Idealize.ShloMosaic.TcCoe Idealize.ShloMosaic.Tactic Cert.InGradIdeal Cert.InGradIdeal.Gen Cert.Cols
open Idealize.SL.Sem
open scoped BigOperators

/-! ## A row -/

/-- The row length as the programs write it -/
abbrev cN : EReal := FloatOps.ofBits (F := Ideal) .f32 0x44800000#32
/-- and the constant added to the mean square. -/
abbrev cE : EReal := FloatOps.ofBits (F := Ideal) .f32 0x358637BD#32

/-- A row's reciprocal root mean square, -/
def rms (x : Fin 1024 → EReal) : EReal := Ideal.rsqrt (Ideal.div (∑ k : Fin 1024, x k * x k) cN + cE)
/-- the normalized row, -/
def nrm (x : Fin 1024 → EReal) (i : Fin 1024) : EReal := x i * rms x
/-- and the input gradient from the gradient `d` of the scaled row, the gains and the residual's gradient. -/
def dxr (d x g z : Fin 1024 → EReal) (i : Fin 1024) : EReal :=
  rms x * (d i * g i - nrm x i * Ideal.div (∑ k : Fin 1024, d k * g k * nrm x k) cN) + z i

/-! ## The payloads read at an index -/

theorem lift_row (r : Fin 256) (k : Fin 1024) : (reduces_S256x1024_S256).lift (ix1 r) k = ix2 r k := by
  funext a; apply Fin.ext
  match a with
  | ⟨0, _⟩ => rfl
  | ⟨1, _⟩ => rfl

theorem lift_col (i : Fin 1024) (r : Fin 256) : (reduces_S256x1024_S1024).lift (ix1 i) r = ix2 r i := by
  funext a; apply Fin.ext
  match a with
  | ⟨0, _⟩ => rfl
  | ⟨1, _⟩ => rfl

theorem row_sum (v : FVec Ideal S256x1024 .f32) (r : Fin 256) :
    multiReduction .add [1] S256 v 0x00000000#32 reduces_S256x1024_S256 (.inl rfl) rfl (ix1 r) = ∑ k : Fin 1024, v (ix2 r k) :=
  (Ideal.multiReduction_add_single v _ reduces_S256x1024_S256 (.inl rfl) rfl (ix1 r)).trans
    (Finset.sum_congr rfl fun k _ => congrArg v (lift_row r k))

theorem col_sum (v : FVec Ideal S256x1024 .f32) (i : Fin 1024) :
    multiReduction .add [0] S1024 v 0x00000000#32 reduces_S256x1024_S1024 (.inl rfl) rfl (ix1 i) = ∑ r : Fin 256, v (ix2 r i) :=
  (Ideal.multiReduction_add_single v _ reduces_S256x1024_S1024 (.inl rfl) rfl (ix1 i)).trans
    (Finset.sum_congr rfl fun r _ => congrArg v (lift_col i r))

theorem keep_apply (v : FVec Ideal S256 .f32) (r : Fin 256) : shapeCast S256x1 v shapeCasts_S256_S256x1 (ix2 r (0 : Fin 1)) = v (ix1 r) :=
  shapeCast_apply v shapeCasts_S256_S256x1 (ix2 r (0 : Fin 1)) (ix1 r) (by
    rw [Shape.rowMajor_val_one, Shape.rowMajor_val_two]
    show r.val = r.val * 1 + 0
    omega)

theorem row_apply (v : FVec Ideal S1024 .f32) (i : Fin 1024) : shapeCast S1x1024 v shapeCasts_S1024_S1x1024 (ix2 (0 : Fin 1) i) = v (ix1 i) :=
  shapeCast_apply v shapeCasts_S1024_S1x1024 (ix2 (0 : Fin 1) i) (ix1 i) (by
    rw [Shape.rowMajor_val_one, Shape.rowMajor_val_two]
    show i.val = 0 * 1024 + i.val
    omega)

theorem lanes_apply (v : FVec Ideal S256x1 .f32) (r : Fin 256) (i : Fin 1024) :
    broadcastTo S256x1024 v broadcasts_S256x1_S256x1024 (ix2 r i) = v (ix2 r (0 : Fin 1)) :=
  broadcastTo_apply v broadcasts_S256x1_S256x1024 (ix2 r i) (ix2 r (0 : Fin 1)) (fun a => by
    match a with
    | ⟨0, _⟩ => rfl
    | ⟨1, _⟩ => rfl)

theorem rows_apply (v : FVec Ideal S1x1024 .f32) (r : Fin 256) (i : Fin 1024) :
    broadcastTo S256x1024 v broadcasts_S1x1024_S256x1024 (ix2 r i) = v (ix2 (0 : Fin 1) i) :=
  broadcastTo_apply v broadcasts_S1x1024_S256x1024 (ix2 r i) (ix2 (0 : Fin 1) i) (fun a => by
    match a with
    | ⟨0, _⟩ => rfl
    | ⟨1, _⟩ => rfl)

theorem pay3_apply (x0 : S256x7680.Idx → EReal) (x1 : S1024x7680.Idx → EReal) (r : Fin 256) (i : Fin 1024) :
    k0_pay3 (F := Ideal) x0 x1 (ix2 r i) = ∑ j : Fin 7680, x0 (ix2 r j) * x1 (ix2 i j) := by
  unfold k0_pay3
  simp only [shapeCast_self]
  refine (Ideal.matmul_constant_zero_apply (φ₁ := .bf16) (φ₂ := .bf16) dot_S256x7680_S1024x7680_S256x1024_1_1_0_0_n_n none x0 x1 (ix2 r i)).trans ?_
  rw [← Equiv.sum_comp (contrEquiv1 dot_S256x7680_S1024x7680_S256x1024_1_1_0_0_n_n 7680 rfl rfl).symm]
  refine Finset.sum_congr rfl fun j _ => ?_
  have hk := contrEquiv1_symm_val dot_S256x7680_S1024x7680_S256x1024_1_1_0_0_n_n 7680 rfl rfl j
  have el : dot_S256x7680_S1024x7680_S256x1024_1_1_0_0_n_n.lhsIdx (ix2 r i) ((contrEquiv1 dot_S256x7680_S1024x7680_S256x1024_1_1_0_0_n_n 7680 rfl rfl).symm j) = ix2 r j := by
    funext a; apply Fin.ext
    match a with
    | ⟨0, _⟩ => rfl
    | ⟨1, _⟩ => exact hk
  have er : dot_S256x7680_S1024x7680_S256x1024_1_1_0_0_n_n.rhsIdx (ix2 r i) ((contrEquiv1 dot_S256x7680_S1024x7680_S256x1024_1_1_0_0_n_n 7680 rfl rfl).symm j) = ix2 i j := by
    funext a; apply Fin.ext
    match a with
    | ⟨0, _⟩ => rfl
    | ⟨1, _⟩ => exact hk
  rw [el, er]

theorem pay4_eq (x2 : S256x1024.Idx → EReal) : k0_pay4 (F := Ideal) x2 = x2 := by unfold k0_pay4; exact shapeCast_self _ _

theorem pay5_apply (x2 : S256x1024.Idx → EReal) (r : Fin 256) : k0_pay5 (F := Ideal) x2 (ix2 r (0 : Fin 1)) = rms fun k => x2 (ix2 r k) := by
  unfold k0_pay5 rms
  rw [pay4_eq]
  refine congrArg (fun s : EReal => Ideal.rsqrt (Ideal.div s cN + cE)) ?_
  exact (keep_apply _ r).trans (row_sum _ r)

theorem pay6_apply (x2 : S256x1024.Idx → EReal) (r : Fin 256) (i : Fin 1024) : k0_pay6 (F := Ideal) x2 (ix2 r i) = nrm (fun k => x2 (ix2 r k)) i := by
  unfold k0_pay6 nrm
  rw [pay4_eq]
  exact congrArg (x2 (ix2 r i) * ·) ((lanes_apply _ r i).trans (pay5_apply x2 r))

theorem pay7_apply (x0 : S256x7680.Idx → EReal) (x1 : S1024x7680.Idx → EReal) (x2 : S256x1024.Idx → EReal) (x3 : S1x1024.Idx → EReal) (x4 : S256x1024.Idx → EReal)
    (r : Fin 256) (i : Fin 1024) : k0_pay7 (F := Ideal) x0 x1 x2 x3 x4 (ix2 r i)
      = dxr (fun i => ∑ j : Fin 7680, x0 (ix2 r j) * x1 (ix2 i j)) (fun k => x2 (ix2 r k)) (fun k => x3 (ix2 (0 : Fin 1) k)) (fun k => x4 (ix2 r k)) i := by
  have e3 := pay3_apply x0 x1
  have e6 := pay6_apply x2
  have e5 := pay5_apply x2
  unfold k0_pay7 dxr
  generalize k0_pay3 (F := Ideal) x0 x1 = p3 at e3 ⊢
  generalize k0_pay6 (F := Ideal) x2 = p6 at e6 ⊢
  generalize k0_pay5 (F := Ideal) x2 = p5 at e5 ⊢
  simp only [shapeCast_self]
  have hs : shapeCast S256x1 (multiReduction .add [1] S256 (mulf (mulf p3 (broadcastTo S256x1024 x3 broadcasts_S1x1024_S256x1024)) p6) 0x00000000#32
      reduces_S256x1024_S256 (.inl rfl) rfl) shapeCasts_S256_S256x1 (ix2 r (0 : Fin 1))
      = ∑ k : Fin 1024, (∑ j : Fin 7680, x0 (ix2 r j) * x1 (ix2 k j)) * x3 (ix2 (0 : Fin 1) k) * nrm (fun k => x2 (ix2 r k)) k := by
    refine ((keep_apply _ r).trans (row_sum _ r)).trans (Finset.sum_congr rfl fun k _ => ?_)
    exact congrArg₂ (· * ·) (congrArg₂ (· * ·) (e3 r k) (rows_apply x3 r k)) (e6 r k)
  refine congrArg (· + x4 (ix2 r i)) (congrArg₂ (· * ·) ((lanes_apply p5 r i).trans (e5 r)) (congrArg₂ (· - ·)
    (congrArg₂ (· * ·) (e3 r i) (rows_apply x3 r i)) (congrArg₂ (· * ·) (e6 r i) ?_)))
  refine (lanes_apply _ r i).trans ?_
  exact congrArg (Ideal.div · cN) hs

theorem pay1_apply (d n : S256x1024.Idx → EReal) (v : S1x1024.Idx → EReal) (i : Fin 1024) :
    k0_pay1 (F := Ideal) d n v (ix2 (0 : Fin 1) i) = v (ix2 (0 : Fin 1) i) + ∑ r : Fin 256, d (ix2 r i) * n (ix2 r i) := by
  unfold k0_pay1
  simp only [shapeCast_self]
  exact congrArg (v (ix2 (0 : Fin 1) i) + ·) ((row_apply _ i).trans (col_sum _ i))

theorem pay2_apply (y : S8x1024.Idx) : k0_pay2 (F := Ideal) y = 0 := by
  unfold k0_pay2
  exact Ideal.ofBits_zero_f32

/-! ## What a point leaves -/

variable (m : (ℓ : Loc nD τ sig) → Buf (Elt Ideal) ℓ) (c : Dev nD)

theorem out5 (t : Fin cfg0.N) : (outsAt0 (F := Ideal) m c t.val t.isLt).1
    = k0_pay7 (F := Ideal) (iblk m c 0 t) (iblk m c 1 t) (iblk m c 2 t) (iblk m c 3 t) (iblk m c 4 t) := by
  by_cases h0 : t.val % 16 = 0
  · rw [outsAt0_A m c t h0]; frame_out
  · rw [outsAt0_B m c t h0]; frame_out

/-- A block's part of the gain gradient, in row 0 of eight. -/
def part (x0 : S256x7680.Idx → EReal) (x1 : S1024x7680.Idx → EReal) (x2 : S256x1024.Idx → EReal) : S8x1024.Idx → EReal := fun y =>
  if (y 0).val = 0 then ∑ r : Fin 256, (∑ j : Fin 7680, x0 (ix2 r j) * x1 (ix2 (y 1) j)) * nrm (fun k => x2 (ix2 r k)) (y 1) else 0

theorem add_part (x0 : S256x7680.Idx → EReal) (x1 : S1024x7680.Idx → EReal) (x2 : S256x1024.Idx → EReal) (v : S1x1024.Idx → EReal) (a : Fin 8) (i : Fin 1024) (ha : a.val = 0) :
    k0_pay1 (F := Ideal) (k0_pay3 x0 x1) (k0_pay6 x2) v (ix2 (0 : Fin 1) i) = v (ix2 (0 : Fin 1) i) + part x0 x1 x2 (ix2 a i) := by
  refine (pay1_apply _ _ v i).trans (congrArg (v (ix2 (0 : Fin 1) i) + ·) ?_)
  unfold part
  refine Eq.trans ?_ (if_pos ha).symm
  exact Finset.sum_congr rfl fun r _ => congrArg₂ (· * ·) (pay3_apply x0 x1 r i) (pay6_apply x2 r i)

theorem out6_A (t : Fin cfg0.N) (h0 : t.val % 16 = 0) (y : S8x1024.Idx) : (outsAt0 (F := Ideal) m c t.val t.isLt).2 y
    = 0 + part (iblk (F := Ideal) m c 0 t) (iblk (F := Ideal) m c 1 t) (iblk (F := Ideal) m c 2 t) y := by
  rw [outsAt0_A m c t h0]; frame_out
  obtain ⟨a, i, rfl⟩ : ∃ (a : Fin 8) (i : Fin 1024), y = ix2 a i := ⟨y 0, y 1, eq_ix2 y⟩
  by_cases ha : a.val = 0
  · have hy : (Rect.unit (s := S8x1024) ![0, 0] S1x1024.size inb_S8x1024_S1x1024_0_0).emb (ix2 (0 : Fin 1) i) = ix2 a i :=
      unit_emb _ _ _ _ _ _ (by show 0 + 0 = a.val; omega) (Nat.zero_add _)
    rw [← hy]
    refine (View.canon_cons_emb (Val := Elt Ideal) (s := S8x1024) (e := .f32) (Rect.unit (s := S8x1024) ![0, 0] S1x1024.size inb_S8x1024_S1x1024_0_0) _ _ (ix2 (0 : Fin 1) i)).trans ?_
    rw [hy]
    refine (add_part _ _ _ _ a i ha).trans (congrArg (· + _) ?_)
    refine Eq.trans ?_ (pay2_apply (ix2 a i))
    refine Eq.trans ?_ (congrArg (k0_pay2 (F := Ideal)) hy)
    exact congrFun (View.read_writes_full (Val := Elt Ideal) (ms0_6 t).view _ inb_S8x1024_S8x1024_0_0 (k0_pay2 (F := Ideal)) []) _
  · have hp : part (iblk (F := Ideal) m c 0 t) (iblk (F := Ideal) m c 1 t) (iblk (F := Ideal) m c 2 t) (ix2 a i) = 0 := if_neg ha
    rw [hp, add_zero]
    refine (View.canon_cons_of_not_mem (Val := Elt Ideal) (s := S8x1024) (e := .f32) _ _ fun h => ?_).trans ?_
    · rw [Rect.mem_set_unit] at h
      have h1 : a.val < 0 + 1 := (h 0).2
      omega
    · exact (congrFun (View.canon_cons_unit_lit (Val := Elt Ideal) (S := S8x1024) (e := .f32) (off := ![0, 0]) _ _ [] (by decide)) _).trans (pay2_apply _)

theorem out6_B (t : Fin cfg0.N) (h0 : ¬t.val % 16 = 0) (y : S8x1024.Idx) : (outsAt0 (F := Ideal) m c t.val t.isLt).2 y
    = (outsAt0 (F := Ideal) m c (t.val - 1) (Nat.lt_of_le_of_lt (Nat.sub_le _ _) t.isLt)).2 y
      + part (iblk (F := Ideal) m c 0 t) (iblk (F := Ideal) m c 1 t) (iblk (F := Ideal) m c 2 t) y := by
  rw [outsAt0_B m c t h0]; frame_out
  obtain ⟨a, i, rfl⟩ : ∃ (a : Fin 8) (i : Fin 1024), y = ix2 a i := ⟨y 0, y 1, eq_ix2 y⟩
  by_cases ha : a.val = 0
  · refine (View.read_writes_cons_unit_of_mem _ _ _ _ _ (ix2 a i) (ix2 (0 : Fin 1) i) rfl fun b => ?_).trans ?_
    · match b with
      | ⟨0, _⟩ => show a.val = 0 + 0; omega
      | ⟨1, _⟩ => show i.val = 0 + i.val; omega
    · refine (add_part _ _ _ _ a i ha).trans (congrArg (· + _) ?_)
      exact View.ld_unit_apply_of _ _ _ _ _ (ix2 a i) (fun b => by
        match b with
        | ⟨0, _⟩ => show a.val = 0 + 0; omega
        | ⟨1, _⟩ => show i.val = 0 + i.val; omega)
  · refine (View.read_writes_cons_unit_of_not_mem _ _ _ _ _ (ix2 a i) rfl 0 (Or.inr ?_)).trans ?_
    · show 0 + 1 ≤ a.val
      omega
    · have hp : part (iblk (F := Ideal) m c 0 t) (iblk (F := Ideal) m c 1 t) (iblk (F := Ideal) m c 2 t) (ix2 a i) = 0 := if_neg ha
      rw [hp, add_zero]
      exact congrFun (Memref.IsWhole.read_unread (Val := Elt Ideal) (hs0_6 t) _) _

end Cert.InGradIdeal.Val
-- ==== Proof.InRms.lean ====
/-
  The backward pass of the root-mean-square norm on one row, over the extended reals: the form with the normalized row's mean
  product, and the form with the derivative of the reciprocal root.  They are equal at every row, finite or not.
-/
module
public import proofs.«01_k».proof.Proof.InKer
@[expose] public section
set_option maxRecDepth 16384
noncomputable section
namespace Cert.InGradIdeal.Val
open Idealize.ShloMosaic hiding ix1 ix2 ix3 eq_ix1 eq_ix2 eq_ix3
open scoped BigOperators

theorem cN_eq : cN = ((1024 : ℝ) : EReal) := by
  show FloatOps.ofBits (F := Ideal) .f32 0x44800000#32 = _
  rw [Ideal.ofBits_def]
  simp [Ideal.ofBits, Ideal.ieee, -EReal.coe_mul]; norm_num

theorem cE_pos : ∃ e : ℝ, 0 < e ∧ cE = (e : EReal) := by
  refine ⟨8796093 / 8796093022208, by norm_num, ?_⟩
  show FloatOps.ofBits (F := Ideal) .f32 0x358637BD#32 = _
  rw [Ideal.ofBits_def]
  simp [Ideal.ofBits, Ideal.ieee, -EReal.coe_mul]; norm_num

/-- The half with its sign, as the reference writes it. -/
abbrev cH : EReal := FloatOps.ofBits (F := Ideal) .f32 0xBF000000#32
theorem cH_eq : cH = ((-(1 / 2) : ℝ) : EReal) := by
  show FloatOps.ofBits (F := Ideal) .f32 0xBF000000#32 = _
  rw [Ideal.ofBits_def]
  simp [Ideal.ofBits, Ideal.ieee, -EReal.coe_mul]; norm_num

/-- A row's mean square with the constant added. -/
def msq (x : Fin 1024 → EReal) : EReal := Ideal.div (∑ k : Fin 1024, x k * x k) cN + cE
theorem rms_def (x : Fin 1024 → EReal) : rms x = Ideal.rsqrt (msq x) := rfl

theorem sq_nonneg' (a : EReal) : 0 ≤ a * a := by
  induction a with
  | bot => simp
  | top => simp
  | coe r => rw [← EReal.coe_mul]; exact EReal.coe_nonneg.2 (mul_self_nonneg r)

theorem sum_mul_nonneg {ι : Type*} (s : Finset ι) (f : ι → EReal) (ρ : ℝ) (h : 0 ≤ ρ) : (∑ k ∈ s, f k) * (ρ : EReal) = ∑ k ∈ s, f k * (ρ : EReal) := by
  classical
  induction s using Finset.induction_on with
  | empty => simp
  | insert a s ha ih =>
    rw [Finset.sum_insert ha, Finset.sum_insert ha, EReal.right_distrib_of_nonneg_of_ne_top (EReal.coe_nonneg.2 h) (EReal.coe_ne_top ρ), ih]

/-- The reciprocal root of a row: zero with a zero quotient, or a positive real with its cube. -/
theorem rms_cases (x : Fin 1024 → EReal) : (rms x = 0 ∧ Ideal.div (rms x) (msq x) = 0)
    ∨ ∃ ρ : ℝ, 0 < ρ ∧ rms x = (ρ : EReal) ∧ Ideal.div (rms x) (msq x) = ((ρ * ρ * ρ : ℝ) : EReal) := by
  obtain ⟨e, he, hE⟩ := cE_pos
  have hq : 0 ≤ ∑ k : Fin 1024, x k * x k := Finset.sum_nonneg fun k _ => sq_nonneg' (x k)
  rw [rms_def]
  unfold msq
  generalize (∑ k : Fin 1024, x k * x k) = q at hq
  rw [cN_eq, hE, Ideal.div_coe (by norm_num : (1024 : ℝ) ≠ 0)]
  induction q with
  | bot => exact absurd hq (by simp)
  | top =>
    left
    have : (⊤ : EReal) * ((1 / 1024 : ℝ) : EReal) + (e : EReal) = ⊤ := by
      rw [EReal.top_mul_coe_of_pos (by norm_num), EReal.top_add_coe]
    rw [this, Ideal.rsqrt_top]
    refine ⟨rfl, ?_⟩
    unfold Ideal.div
    rw [if_neg (by simp), zero_mul]
  | coe q =>
    right
    have hq' : 0 ≤ q := EReal.coe_nonneg.1 hq
    rw [← EReal.coe_mul, ← EReal.coe_add]
    have hu : 0 < q * (1 / 1024) + e := by positivity
    generalize q * (1 / 1024) + e = u at hu
    refine ⟨(Real.sqrt u)⁻¹, by positivity, ?_, ?_⟩
    · rw [Ideal.rsqrt_coe, if_neg (by linarith), if_neg hu.ne']
    · rw [Ideal.rsqrt_coe, if_neg (by linarith), if_neg hu.ne', Ideal.div_coe hu.ne', ← EReal.coe_mul]
      refine congrArg _ ?_
      rw [mul_assoc]
      refine congrArg (fun z => (Real.sqrt u)⁻¹ * z) ?_
      rw [← mul_inv, Real.mul_self_sqrt hu.le, one_div]

/-- The derivative form. -/
def dxd (d x g z : Fin 1024 → EReal) (i : Fin 1024) : EReal :=
  ((z i + (d i * g i) * rms x) + x i * Ideal.div ((∑ k : Fin 1024, x k * (d k * g k)) * (cH * Ideal.div (rms x) (msq x))) cN)
    + Ideal.div ((∑ k : Fin 1024, x k * (d k * g k)) * (cH * Ideal.div (rms x) (msq x))) cN * x i

/-- The two halves of a product with a number that is not positive. -/
theorem halves (P : EReal) (a : ℝ) (h : 0 ≤ a) : P * ((-a : ℝ) : EReal) + P * ((-a : ℝ) : EReal) = -(P * ((a + a : ℝ) : EReal)) := by
  rw [EReal.coe_neg, mul_neg, ← neg_mul, ← EReal.left_distrib_of_nonneg (EReal.coe_nonneg.2 h) (EReal.coe_nonneg.2 h), ← EReal.coe_add, neg_mul]

theorem dx_forms (d x g z : Fin 1024 → EReal) (i : Fin 1024) : dxd d x g z i = dxr d x g z i := by
  unfold dxd dxr nrm
  rcases rms_cases x with ⟨h0, h1⟩ | ⟨ρ, hρ, h0, h1⟩
  · rw [h1, h0, cN_eq]
    simp [Ideal.div_coe (by norm_num : (1024 : ℝ) ≠ 0)]
  · rw [h1, h0, cN_eq, cH_eq, Ideal.div_coe (by norm_num : (1024 : ℝ) ≠ 0), Ideal.div_coe (by norm_num : (1024 : ℝ) ≠ 0)]
    have hs : ∑ k : Fin 1024, d k * g k * (x k * (ρ : EReal)) = (∑ k : Fin 1024, x k * (d k * g k)) * (ρ : EReal) := by
      rw [sum_mul_nonneg _ _ ρ hρ.le]
      exact Finset.sum_congr rfl fun k _ => by rw [← mul_assoc, mul_comm (d k * g k) (x k)]
    rw [hs]
    generalize (∑ k : Fin 1024, x k * (d k * g k)) = S
    generalize d i * g i = n
    generalize x i = y
    have e1 : y * (S * (((-(1 / 2) : ℝ) : EReal) * ((ρ * ρ * ρ : ℝ) : EReal)) * ((1 / 1024 : ℝ) : EReal)) = y * S * ((-(ρ * ρ * ρ * (1 / 2048)) : ℝ) : EReal) := by
      rw [← EReal.coe_mul, mul_assoc S, ← EReal.coe_mul, ← mul_assoc]
      exact congrArg (fun r : ℝ => y * S * (r : EReal)) (by ring)
    rw [mul_comm _ y, e1, add_assoc, halves _ _ (by positivity), sub_eq_add_neg,
      EReal.left_distrib_of_nonneg_of_ne_top (EReal.coe_nonneg.2 hρ.le) (EReal.coe_ne_top ρ), mul_neg]
    have e2 : (ρ : EReal) * (y * (ρ : EReal) * (S * (ρ : EReal) * ((1 / 1024 : ℝ) : EReal))) = y * S * ((ρ * ρ * ρ * (1 / 2048) + ρ * ρ * ρ * (1 / 2048) : ℝ) : EReal) := by
      have : (ρ : EReal) * (y * (ρ : EReal) * (S * (ρ : EReal) * ((1 / 1024 : ℝ) : EReal))) = y * S * ((ρ : EReal) * (ρ : EReal) * (ρ : EReal) * ((1 / 1024 : ℝ) : EReal)) := by ac_rfl
      rw [this, ← EReal.coe_mul, ← EReal.coe_mul, ← EReal.coe_mul]
      exact congrArg (fun r : ℝ => y * S * (r : EReal)) (by ring)
    rw [e2, mul_comm (ρ : EReal) n, add_comm (z i), add_assoc, add_assoc, add_comm (z i)]

end Cert.InGradIdeal.Val
-- ==== Proof.InWKer.lean ====
/-
  The input projection's weight-gradient kernel: its ten column blocks put together into the product of the normalized rows with
  the arranged output gradients.
-/
module
public import proofs.«01_k».proof.Proof.Gen.InWGradIdeal.Value
public import proofs.«01_k».proof.Proof.InCols
public import Idealize.ShloMosaic.Lib.Pipeline.ValueKit.Tiles
public import Idealize.ShloMosaic.Lib.StableHlo.ReadAt
public import Idealize.ShloMosaic.Lib.Pointwise
@[expose] public section
set_option maxRecDepth 16384
noncomputable section
namespace Cert.InWGradIdeal.Val
open Idealize.ShloMosaic hiding ix2 ix3 eq_ix2 eq_ix3
open Idealize.ShloMosaic.ValueIdx Idealize.ShloMosaic.TcCoe Cert.InWGradIdeal Cert.InWGradIdeal.Gen Cert.Cols
open Idealize.SL.Sem
open scoped BigOperators

/-! ## One block -/

theorem mm_tn (l : S4096x256.Idx → EReal) (r : S4096x768.Idx → EReal) (k : Fin 256) (e : Fin 768) :
    matmul (F := Ideal) (φ₁ := .bf16) (φ₂ := .bf16) dot_S4096x256_S4096x768_S256x768_0_0_1_1_n_n none l r (constant S256x768 .f32 0x00000000#32) (ix2 k e)
      = ∑ i : Fin 4096, l (ix2 i k) * r (ix2 i e) := by
  refine (Ideal.matmul_constant_zero_apply (φ₁ := .bf16) (φ₂ := .bf16) _ none l r (ix2 k e)).trans ?_
  rw [← Equiv.sum_comp (contrEquiv1 dot_S4096x256_S4096x768_S256x768_0_0_1_1_n_n 4096 rfl rfl).symm]
  refine Finset.sum_congr rfl fun i _ => ?_
  have hk := contrEquiv1_symm_val dot_S4096x256_S4096x768_S256x768_0_0_1_1_n_n 4096 rfl rfl i
  have el : dot_S4096x256_S4096x768_S256x768_0_0_1_1_n_n.lhsIdx (ix2 k e) ((contrEquiv1 dot_S4096x256_S4096x768_S256x768_0_0_1_1_n_n 4096 rfl rfl).symm i) = ix2 i k := by
    funext a; apply Fin.ext
    match a with
    | ⟨0, _⟩ => exact hk
    | ⟨1, _⟩ => rfl
  have er : dot_S4096x256_S4096x768_S256x768_0_0_1_1_n_n.rhsIdx (ix2 k e) ((contrEquiv1 dot_S4096x256_S4096x768_S256x768_0_0_1_1_n_n 4096 rfl rfl).symm i) = ix2 i e := by
    funext a; apply Fin.ext
    match a with
    | ⟨0, _⟩ => exact hk
    | ⟨1, _⟩ => rfl
  rw [el, er]

/-- A block of the product. -/
def prodB (x0 : S4096x1024.Idx → EReal) (x1 : S4096x768.Idx → EReal) : S1024x768.Idx → EReal :=
  fun y => ∑ r : Fin 4096, x0 (ix2 r (y 0)) * x1 (ix2 r (y 1))

/-- One stored piece, from lane `o` of the rows. -/
theorem piece (x0 : S4096x1024.Idx → EReal) (x1 : S4096x768.Idx → EReal) (o : ℕ) (ho : o + 256 ≤ 1024) (inb) (inb') (k : Fin 256) (e : Fin 768) :
    matmul (F := Ideal) (φ₁ := .bf16) (φ₂ := .bf16) dot_S4096x256_S4096x768_S256x768_0_0_1_1_n_n none
      (View.ld (Val := Elt Ideal) (S := S4096x1024) (e' := .bf16) x0 (Rect.unit (s := S4096x1024) ![0, o] S4096x256.size inb)) x1 (constant S256x768 .f32 0x00000000#32) (ix2 k e)
      = prodB x0 x1 ((Rect.unit (s := S1024x768) ![o, 0] S256x768.size inb').emb (ix2 k e)) := by
  rw [mm_tn]
  have h : (Rect.unit (s := S1024x768) ![o, 0] S256x768.size inb').emb (ix2 k e) = ix2 (⟨o + k.val, by omega⟩ : Fin 1024) e :=
    unit_emb _ _ _ _ _ _ rfl (Nat.zero_add _)
  rw [h]
  refine Finset.sum_congr rfl fun r _ => congrArg (· * _) ?_
  exact View.ld_unit_apply_of _ _ _ _ _ (ix2 r (⟨o + k.val, by omega⟩ : Fin 1024)) (fun a => by
    match a with
    | ⟨0, _⟩ => exact (Nat.zero_add _).symm
    | ⟨1, _⟩ => rfl)

theorem ld_whole (x1 : Vec Ideal S4096x768 .bf16) : View.ld x1 r0_0 = x1 :=
  View.ld_unit_zero (S := S4096x768) (off := ![0, 0]) (by funext a; match a with | ⟨0, _⟩ => rfl | ⟨1, _⟩ => rfl) _ x1

theorem out_eq (x0 : S4096x1024.Idx → EReal) (x1 : S4096x768.Idx → EReal) : out0_2 (F := Ideal) x0 x1 = prodB x0 x1 := by
  funext y
  unfold out0_2
  refine View.canon_apply_of_pieces (Val := Elt Ideal) (S := S1024x768) (e := .bf16) (prodB x0 x1) _ ?_ y (cover0_2 _ _ _ _ y)
  intro p hp x
  simp only [List.mem_cons, List.not_mem_nil, or_false] at hp
  rcases hp with rfl | rfl | rfl | rfl
  · obtain ⟨k, e, rfl⟩ : ∃ (k : Fin 256) (e : Fin 768), x = ix2 k e := ⟨x 0, x 1, eq_ix2 x⟩
    dsimp only
    unfold k0_pay5 k0_pay1
    rw [ld_whole]
    simp only [shapeCast_self]
    exact piece x0 x1 768 (by decide) _ _ k e
  · obtain ⟨k, e, rfl⟩ : ∃ (k : Fin 256) (e : Fin 768), x = ix2 k e := ⟨x 0, x 1, eq_ix2 x⟩
    dsimp only
    unfold k0_pay4 k0_pay1
    rw [ld_whole]
    simp only [shapeCast_self]
    exact piece x0 x1 512 (by decide) _ _ k e
  · obtain ⟨k, e, rfl⟩ : ∃ (k : Fin 256) (e : Fin 768), x = ix2 k e := ⟨x 0, x 1, eq_ix2 x⟩
    dsimp only
    unfold k0_pay3 k0_pay1
    rw [ld_whole]
    simp only [shapeCast_self]
    exact piece x0 x1 256 (by decide) _ _ k e
  · obtain ⟨k, e, rfl⟩ : ∃ (k : Fin 256) (e : Fin 768), x = ix2 k e := ⟨x 0, x 1, eq_ix2 x⟩
    dsimp only
    unfold k0_pay2 k0_pay1
    rw [ld_whole]
    simp only [shapeCast_self]
    exact piece x0 x1 0 (by decide) _ _ k e

/-! ## The blocks of the arrays -/

variable (m : (ℓ : Loc nD τ sig) → Buf (Elt Ideal) ℓ) (c : Dev nD)

theorem idx0 : ∀ t : Fin 10,
    (win0_0.index t 0 = 0 ∧ win0_0.index t 1 = 0) ∧ (win0_1.index t 0 = 0 ∧ win0_1.index t 1 = t.val)
    ∧ (win0_2.index t 0 = 0 ∧ win0_2.index t 1 = t.val) := by decide +kernel

/-- Column `e` of block `t`. -/
def colAt (t : Fin 10) (e : Fin 768) : Fin 7680 := ⟨t.val * 768 + e.val, by omega⟩

/-- The rows, as the kernel finds them, -/
abbrev hV : S4096x1024.Idx → EReal := V (F := Ideal) m c main_v15
/-- and the arranged output gradients. -/
abbrev dV : S4096x7680.Idx → EReal := V (F := Ideal) m c main_v25

theorem blk0 (t : Fin 10) (r : Fin 4096) (i : Fin 1024) : iblk (F := Ideal) m c 0 t (ix2 r i) = hV m c (ix2 r i) :=
  congrArg (hV m c) (unit_emb (n0 := 4096) (n1 := 1024) (fun a => win0_0.index t a * (![4096, 1024] : Fin 2 → ℕ) a) ![4096, 1024] _ (ix2 r i) r i
    (by show win0_0.index t 0 * 4096 + r.val = r.val; rw [(idx0 t).1.1]; omega) (by show win0_0.index t 1 * 1024 + i.val = i.val; rw [(idx0 t).1.2]; omega))
theorem blk1 (t : Fin 10) (r : Fin 4096) (e : Fin 768) : iblk (F := Ideal) m c 1 t (ix2 r e) = dV m c (ix2 r (colAt t e)) :=
  congrArg (dV m c) (unit_emb (n0 := 4096) (n1 := 7680) (fun a => win0_1.index t a * (![4096, 768] : Fin 2 → ℕ) a) ![4096, 768] _ (ix2 r e) r (colAt t e)
    (by show win0_1.index t 0 * 4096 + r.val = r.val; rw [(idx0 t).2.1.1]; omega) (by show win0_1.index t 1 * 768 + e.val = t.val * 768 + e.val; rw [(idx0 t).2.1.2]))

/-- The block that holds a column. -/
def blkOf (l : Fin 7680) : Fin 10 := ⟨l.val / 768, by omega⟩

/-- The whole product. -/
def prodA (h : S4096x1024.Idx → EReal) (d : S4096x7680.Idx → EReal) : S1024x7680.Idx → EReal :=
  fun y => ∑ r : Fin 4096, h (ix2 r (y 0)) * d (ix2 r (y 1))

theorem final : (dats (F := Ideal) m 0 c).arrAt 2 cfg0.N = prodA (hV m c) (dV m c) := by
  refine (dats (F := Ideal) m 0 c).arrAt_eq_of_cover 2 (prodA (hV m c) (dV m c)) (fun t _ => ?_) fun i => ⟨blkOf (i 1), flush0_2 _, ?_⟩
  · rw [Value.flushed2]
    funext y
    rw [out_eq]
    have hy : (((cfg0.win 2).blk t).view.emb y : S1024x7680.Idx) = ix2 (y 0) (colAt t (y 1)) :=
      unit_emb (n0 := 1024) (n1 := 7680) (fun a => win0_2.index t a * (![1024, 768] : Fin 2 → ℕ) a) ![1024, 768] _ y (y 0) (colAt t (y 1))
        (by show win0_2.index t 0 * 1024 + _ = _; rw [(idx0 t).2.2.1]; omega) (by show win0_2.index t 1 * 768 + _ = t.val * 768 + _; rw [(idx0 t).2.2.2])
    show prodB (iblk (F := Ideal) m c 0 t) (iblk (F := Ideal) m c 1 t) y = prodA (hV m c) (dV m c) (((cfg0.win 2).blk t).view.emb y)
    rw [hy]
    exact Finset.sum_congr rfl fun r _ => congrArg₂ (· * ·) (blk0 m c t r (y 0)) (blk1 m c t r (y 1))
  · have h0 : (i 0).val < 1024 := (i 0).isLt
    have h1 : (i 1).val < 7680 := (i 1).isLt
    show i ∈ ((View.whole main_v26).slice (win0_2.rect (blkOf (i 1)))).set
    rw [View.set_slice_whole]
    refine mem_unit (n0 := 1024) (n1 := 7680) _ _ _ i ?_ ?_
    · show win0_2.index _ 0 * 1024 ≤ (i 0).val ∧ (i 0).val < win0_2.index _ 0 * 1024 + 1024
      rw [(idx0 _).2.2.1]; omega
    · show win0_2.index _ 1 * 768 ≤ (i 1).val ∧ (i 1).val < win0_2.index _ 1 * 768 + 768
      rw [(idx0 _).2.2.2]
      show (i 1).val / 768 * 768 ≤ (i 1).val ∧ (i 1).val < (i 1).val / 768 * 768 + 768
      omega

end Cert.InWGradIdeal.Val
-- ==== Proof.InWRun.lean ====
/-
  The input projection's weight gradient: what the host hands the kernel, and the kernel's run as a function of the arguments.
-/
module
public import proofs.«01_k».proof.Proof.InWKer
public import proofs.«01_k».proof.Proof.Gen.InWGradRefIdeal.Read
public import Idealize.ShloMosaic.Lib.TwoAxisContraction
@[expose] public section
set_option maxRecDepth 16384
noncomputable section
namespace Cert.InWGradIdeal.Val
open Idealize.ShloMosaic hiding ix2 ix3 eq_ix2 eq_ix3
open Idealize.ShloMosaic.ValueIdx Idealize.ShloMosaic.TcCoe Cert.InWGradIdeal Cert.InWGradIdeal.Gen Cert.Cols
open Idealize.SL.Sem
open scoped BigOperators

/-! ## What the kernel finds -/

variable (m : (ℓ : Loc nD τ sig) → Buf (Elt Ideal) ℓ) (c : Dev nD)

abbrev argX : S2x2048x1024.Idx → EReal := m ((c : Thread nD τ).loc main_arg0)
abbrev argG : S1x1024.Idx → EReal := m ((c : Thread nD τ).loc main_arg1)
abbrev argD : S2x2048x7180.Idx → EReal := m ((c : Thread nD τ).loc main_arg2)

theorem hV_eq : hV m c = shapeCast S4096x1024 (Cert.InWGradRefIdeal.Read.val_main_v14 (F := Ideal) (argX m c) (argG m c)) shapeCasts_S2x2048x1024_S4096x1024 := by
  unfold hV V
  after_reads_simp
  rfl

/-- The output gradients by rows. -/
abbrev dRows (x : S2x2048x7180.Idx → EReal) : S4096x7180.Idx → EReal := shapeCast S4096x7180 x shapeCasts_S2x2048x7180_S4096x7180
/-- The second quarter of their columns. -/
abbrev dSecond (x : S2x2048x7180.Idx → EReal) : S4096x1795.Idx → EReal := extractStridedSlice S4096x1795 ![0, 1795] (dRows x) slices_S4096x7180_S4096x1795_0_1795

/-- The output gradients' columns, arranged. -/
def dTerm (x : S2x2048x7180.Idx → EReal) : S4096x7680.Idx → EReal :=
  concatenate S4096x7680 1 [⟨S4096x1795, extractStridedSlice S4096x1795 ![0, 0] (dRows x) slices_S4096x7180_S4096x1795_0_0⟩,
    ⟨S4096x1277, extractStridedSlice S4096x1277 ![0, 0] (dSecond x) slices_S4096x1795_S4096x1277_0_0⟩,
    ⟨S4096x506, extractStridedSlice S4096x506 ![0, 1289] (dSecond x) slices_S4096x1795_S4096x506_0_1289⟩,
    ⟨S4096x1795, extractStridedSlice S4096x1795 ![0, 3590] (dRows x) slices_S4096x7180_S4096x1795_0_3590⟩,
    ⟨S4096x1795, extractStridedSlice S4096x1795 ![0, 5385] (dRows x) slices_S4096x7180_S4096x1795_0_5385⟩,
    ⟨S4096x12, extractStridedSlice S4096x12 ![0, 1277] (dSecond x) slices_S4096x1795_S4096x12_0_1277⟩,
    ⟨S4096x500, broadcastInDim S4096x500 ![] bcast_S_S4096x500 (constant (F := Ideal) S_ .bf16 0x0000#16)⟩]
    concatenates_S4096x1795_S4096x1277_S4096x506_S4096x1795_S4096x1795_S4096x12_S4096x500_S4096x7680_d1

theorem dV_term : dV m c = dTerm (argD m c) := by
  unfold dV V
  after_reads_simp
  rfl

theorem dTerm_apply (x : S2x2048x7180.Idx → EReal) (r : Fin 4096) (j : Fin 7680) : dTerm x (ix2 r j) = cols (fun k => x (ix3 (bat r) (pos r) k)) j := by
  have hj : (ix2 r j 1).val = j.val := rfl
  have h0 : (ix2 r j 0).val = r.val := rfl
  have key : ∀ (a : Fin 2) (b : Fin 2048) (k : Fin 7180), a.val = r.val / 2048 → b.val = r.val % 2048 →
      ((j.val < 3072 ∧ k.val = j.val) ∨ (3072 ≤ j.val ∧ j.val < 7168 ∧ k.val = j.val + 12) ∨ (7168 ≤ j.val ∧ j.val < 7180 ∧ k.val + 4096 = j.val)) →
      x (Idealize.ShloMosaic.ix3 a b k) = cols (fun k => x (ix3 (bat r) (pos r) k)) j := by
    intro a b k ha hb hk
    rw [cols_eq _ j k hk]
    exact congrArg x (funext fun i => Fin.ext (by match i with | ⟨0, _⟩ => exact ha | ⟨1, _⟩ => exact hb | ⟨2, _⟩ => rfl))
  unfold dTerm
  pointwise
  split_ifs
  all_goals first
    | (refine key _ _ _ (congrArg (· / 2048) h0) (congrArg (· % 2048) h0) ?_
       dsimp only
       omega)
    | exact (cols_none _ j (by omega)).symm
    | omega

/-- The normalized rows, times their gains. -/
abbrev hn (x : S2x2048x1024.Idx → EReal) (g : S1x1024.Idx → EReal) : S2x2048x1024.Idx → EReal := Cert.InWGradRefIdeal.Read.val_main_v14 (F := Ideal) x g

/-- The weight gradient, by columns as they come, -/
def wg (x : S2x2048x1024.Idx → EReal) (g : S1x1024.Idx → EReal) (d : S2x2048x7180.Idx → EReal) (i : Fin 1024) (k : Fin 7180) : EReal :=
  ∑ b : Fin 2, ∑ s : Fin 2048, hn x g (ix3 b s i) * d (ix3 b s k)
/-- and arranged. -/
def wArr (x : S2x2048x1024.Idx → EReal) (g : S1x1024.Idx → EReal) (d : S2x2048x7180.Idx → EReal) : S1024x7680.Idx → EReal :=
  fun y => cols (wg x g d (y 0)) (y 1)

theorem prod_eq : prodA (hV m c) (dV m c) = wArr (argX m c) (argG m c) (argD m c) := funext fun y => by
  obtain ⟨i, j, rfl⟩ : ∃ (i : Fin 1024) (j : Fin 7680), y = ix2 i j := ⟨y 0, y 1, eq_ix2 y⟩
  have e : prodA (hV m c) (dV m c) (ix2 i j) = ∑ r : Fin 4096, hn (argX m c) (argG m c) (ix3 (bat r) (pos r) i) * cols (fun k => argD m c (ix3 (bat r) (pos r) k)) j :=
    Finset.sum_congr rfl fun r _ => by
      rw [hV_eq, dV_term]
      exact congrArg₂ (· * ·) (flat_apply _ _ r i) (dTerm_apply _ r j)
  refine e.trans ((cols_sum (fun r => hn (argX m c) (argG m c) (ix3 (bat r) (pos r) i)) (fun r k => argD m c (ix3 (bat r) (pos r) k)) j).trans ?_)
  refine congrFun (congrArg cols (funext fun k => ?_)) j
  rw [sum_tok]
  refine Finset.sum_congr rfl fun b _ => Finset.sum_congr rfl fun s _ => ?_
  rw [bat_tok, pos_tok]

/-- The kernel's run: the result as a function of the arguments, the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v26) = wArr (argX m c) (argG m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨((h c).1.trans (final m c)).trans (prod_eq m c), (h c).2⟩) (Value.run_blocks (F := Ideal) m ρ)

/-! ## The reference -/

section
open Cert.InWGradRefIdeal.Read

theorem dot_apply (x : S2x2048x1024.Idx → EReal) (g : S1x1024.Idx → EReal) (d : S2x2048x7180.Idx → EReal) (k : Fin 7180) (i : Fin 1024) :
    val_main_v17 (F := Ideal) x g d (ix2 k i) = wg x g d i k := by
  unfold val_main_v17 wg hn
  generalize val_main_v14 (F := Ideal) x g = h
  have e16 : val_main_v16 (F := Ideal) d = d := rfl
  rw [e16]
  simp only [Host.dotGeneral]
  rw [Ideal.dotGeneral_apply, sum_contr2 Cert.InWGradRefIdeal.dot_S2x2048x7180_S2x2048x1024_S7180x1024_01_01_2_2_n_n 2 2048 rfl rfl rfl]
  refine Finset.sum_congr rfl fun b _ => Finset.sum_congr rfl fun s _ => ?_
  have h0 := contrEquiv2_symm_val0 Cert.InWGradRefIdeal.dot_S2x2048x7180_S2x2048x1024_S7180x1024_01_01_2_2_n_n 2 2048 rfl rfl rfl (b, s)
  have h1 := contrEquiv2_symm_val1 Cert.InWGradRefIdeal.dot_S2x2048x7180_S2x2048x1024_S7180x1024_01_01_2_2_n_n 2 2048 rfl rfl rfl (b, s)
  generalize (contrEquiv2 Cert.InWGradRefIdeal.dot_S2x2048x7180_S2x2048x1024_S7180x1024_01_01_2_2_n_n 2 2048 rfl rfl rfl).symm (b, s) = q at h0 h1 ⊢
  have el : Cert.InWGradRefIdeal.dot_S2x2048x7180_S2x2048x1024_S7180x1024_01_01_2_2_n_n.lhsIdx (ix2 k i) q = ix3 b s k := by
    funext a; apply Fin.ext
    match a with
    | ⟨0, _⟩ => exact h0
    | ⟨1, _⟩ => exact h1
    | ⟨2, _⟩ => rfl
  have er : Cert.InWGradRefIdeal.dot_S2x2048x7180_S2x2048x1024_S7180x1024_01_01_2_2_n_n.rhsIdx (ix2 k i) q = ix3 b s i := by
    funext a; apply Fin.ext
    match a with
    | ⟨0, _⟩ => exact h0
    | ⟨1, _⟩ => exact h1
    | ⟨2, _⟩ => rfl
  rw [el, er]
  exact mul_comm (G := EReal) _ _

theorem v19_apply' (x : S2x2048x1024.Idx → EReal) (g : S1x1024.Idx → EReal) (d : S2x2048x7180.Idx → EReal) (i : Fin 1024) (k : Fin 7180) :
    val_main_v19 (F := Ideal) x g d (ix2 i k) = wg x g d i k := by
  refine (val_main_v18_apply (F := Ideal) x g d (ix2 i k)).trans (Eq.trans ?_ (dot_apply x g d k i))
  exact congrArg _ (funext fun a => by match a with | ⟨0, _⟩ => rfl | ⟨1, _⟩ => rfl)

theorem ref_eq (x : S2x2048x1024.Idx → EReal) (g : S1x1024.Idx → EReal) (d : S2x2048x7180.Idx → EReal) : val_main_v24 (F := Ideal) x g d = wArr x g d := by
  have e := v19_apply' x g d
  unfold wArr
  generalize wg x g d = w at e
  funext y
  obtain ⟨i, j, rfl⟩ : ∃ (i : Fin 1024) (j : Fin 7680), y = ix2 i j := ⟨y 0, y 1, eq_ix2 y⟩
  show _ = cols (w i) j
  unfold val_main_v24 val_main_v20 val_main_v21 val_main_v22 val_main_v23 val_main_cst_3
  generalize val_main_v19 (F := Ideal) x g d = v at e
  have hj : (ix2 i j 1).val = j.val := rfl
  have h0 : (ix2 i j 0).val = i.val := rfl
  have key : ∀ (a : Fin 1024) (k : Fin 7180), a.val = i.val →
      ((j.val < 3072 ∧ k.val = j.val) ∨ (3072 ≤ j.val ∧ j.val < 7168 ∧ k.val = j.val + 12) ∨ (7168 ≤ j.val ∧ j.val < 7180 ∧ k.val + 4096 = j.val)) →
      v (Idealize.ShloMosaic.ix2 a k) = cols (w i) j := by
    intro a k ha hk
    rw [cols_eq _ j k hk, ← e]
    exact congrArg v (funext fun l => Fin.ext (by match l with | ⟨0, _⟩ => exact ha | ⟨1, _⟩ => rfl))
  pointwise
  split_ifs
  all_goals first
    | (refine key _ _ h0 ?_
       dsimp only
       omega)
    | exact (cols_none _ j (by omega)).symm
    | omega
end
end Cert.InWGradIdeal.Val
-- ==== Proof.InRun.lean ====
/-
  The input projection's input-gradient kernel: what the host hands it, its blocks put together, and its run as a function of the
  arguments.
-/
module
public import proofs.«01_k».proof.Proof.InKer
public import proofs.«01_k».proof.Proof.InWRun
public import Idealize.ShloMosaic.Lib.StableHlo.ReadAt
public import Idealize.ShloMosaic.Lib.Pointwise
@[expose] public section
set_option maxRecDepth 16384
noncomputable section
namespace Cert.InGradIdeal.Val
open Idealize.ShloMosaic hiding ix1 ix2 ix3 eq_ix1 eq_ix2 eq_ix3
open Idealize.ShloMosaic.ValueIdx Idealize.ShloMosaic.TcCoe Cert.InGradIdeal Cert.InGradIdeal.Gen Cert.Cols
open Idealize.SL.Sem
open scoped BigOperators

variable (m : (ℓ : Loc nD τ sig) → Buf (Elt Ideal) ℓ) (c : Dev nD)

/-! ## The blocks of the arrays -/

theorem idx0 : ∀ t : Fin 16,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) := by decide +kernel

/-- Row `r` of block `t`. -/
def rowAt (t : Fin 16) (r : Fin 256) : Fin 4096 := ⟨t.val * 256 + r.val, by omega⟩
/-- The block that holds a row. -/
def blkOf (l : Fin 4096) : Fin 16 := ⟨l.val / 256, by omega⟩
/-- The last point. -/
def last : Fin 16 := ⟨15, by omega⟩

/-- The arranged output gradients as the kernel finds them, -/
abbrev dV : S4096x7680.Idx → EReal := V (F := Ideal) m c main_v21
/-- the arranged weights, -/
abbrev wV : S1024x7680.Idx → EReal := V (F := Ideal) m c main_v11
/-- the rows, -/
abbrev xV : S4096x1024.Idx → EReal := V (F := Ideal) m c main_v0
/-- the gains, -/
abbrev gV : S1x1024.Idx → EReal := V (F := Ideal) m c main_arg1
/-- and the residual's gradient. -/
abbrev zV : S4096x1024.Idx → EReal := V (F := Ideal) m c main_v22

theorem blk0 (t : Fin 16) (r : Fin 256) (j : Fin 7680) : iblk (F := Ideal) m c 0 t (ix2 r j) = dV m c (ix2 (rowAt t r) j) :=
  congrArg (dV m c) (unit_emb (n0 := 4096) (n1 := 7680) (fun a => win0_0.index t a * (![256, 7680] : Fin 2 → ℕ) a) ![256, 7680] _ (ix2 r j) (rowAt t r) j
    (by show win0_0.index t 0 * 256 + r.val = t.val * 256 + r.val; rw [(idx0 t).1.1]) (by show win0_0.index t 1 * 7680 + j.val = j.val; rw [(idx0 t).1.2]; omega))
theorem blk1 (t : Fin 16) (i : Fin 1024) (j : Fin 7680) : iblk (F := Ideal) m c 1 t (ix2 i j) = wV m c (ix2 i j) :=
  congrArg (wV m c) (unit_emb (n0 := 1024) (n1 := 7680) (fun a => win0_1.index t a * (![1024, 7680] : Fin 2 → ℕ) a) ![1024, 7680] _ (ix2 i j) i j
    (by show win0_1.index t 0 * 1024 + i.val = i.val; rw [(idx0 t).2.1.1]; omega) (by show win0_1.index t 1 * 7680 + j.val = j.val; rw [(idx0 t).2.1.2]; omega))
theorem blk2 (t : Fin 16) (r : Fin 256) (i : Fin 1024) : iblk (F := Ideal) m c 2 t (ix2 r i) = xV m c (ix2 (rowAt t r) i) :=
  congrArg (xV m c) (unit_emb (n0 := 4096) (n1 := 1024) (fun a => win0_2.index t a * (![256, 1024] : Fin 2 → ℕ) a) ![256, 1024] _ (ix2 r i) (rowAt t r) i
    (by show win0_2.index t 0 * 256 + r.val = t.val * 256 + r.val; rw [(idx0 t).2.2.1.1]) (by show win0_2.index t 1 * 1024 + i.val = i.val; rw [(idx0 t).2.2.1.2]; omega))
theorem blk3 (t : Fin 16) (i : Fin 1024) : iblk (F := Ideal) m c 3 t (ix2 (0 : Fin 1) i) = gV m c (ix2 (0 : Fin 1) i) :=
  congrArg (gV m c) (unit_emb (n0 := 1) (n1 := 1024) (fun a => win0_3.index t a * (![1, 1024] : Fin 2 → ℕ) a) ![1, 1024] _ (ix2 (0 : Fin 1) i) (0 : Fin 1) i
    (by show win0_3.index t 0 * 1 + 0 = 0; rw [(idx0 t).2.2.2.1.1]) (by show win0_3.index t 1 * 1024 + i.val = i.val; rw [(idx0 t).2.2.2.1.2]; omega))
theorem blk4 (t : Fin 16) (r : Fin 256) (i : Fin 1024) : iblk (F := Ideal) m c 4 t (ix2 r i) = zV m c (ix2 (rowAt t r) i) :=
  congrArg (zV m c) (unit_emb (n0 := 4096) (n1 := 1024) (fun a => win0_4.index t a * (![256, 1024] : Fin 2 → ℕ) a) ![256, 1024] _ (ix2 r i) (rowAt t r) i
    (by show win0_4.index t 0 * 256 + r.val = t.val * 256 + r.val; rw [(idx0 t).2.2.2.2.1.1]) (by show win0_4.index t 1 * 1024 + i.val = i.val; rw [(idx0 t).2.2.2.2.1.2]; omega))

/-- The product of a row of a block with a row of the weights, from the blocks. -/
theorem dot_block (x0 : S256x7680.Idx → EReal) (x1 : S1024x7680.Idx → EReal) (d : S4096x7680.Idx → EReal) (w : S1024x7680.Idx → EReal) (ρ : Fin 256 → Fin 4096)
    (h0 : ∀ r j, x0 (ix2 r j) = d (ix2 (ρ r) j)) (h1 : ∀ i j, x1 (ix2 i j) = w (ix2 i j)) (r : Fin 256) (i : Fin 1024) :
    ∑ j : Fin 7680, x0 (ix2 r j) * x1 (ix2 i j) = ∑ j : Fin 7680, d (ix2 (ρ r) j) * w (ix2 i j) :=
  Finset.sum_congr rfl fun j _ => congrArg₂ (· * ·) (h0 r j) (h1 i j)

/-- The input gradient of all rows, -/
def dxA (d : S4096x7680.Idx → EReal) (w : S1024x7680.Idx → EReal) (x : S4096x1024.Idx → EReal) (g : S1x1024.Idx → EReal) (z : S4096x1024.Idx → EReal) : S4096x1024.Idx → EReal :=
  fun y => dxr (fun i => ∑ j : Fin 7680, d (ix2 (y 0) j) * w (ix2 i j)) (fun k => x (ix2 (y 0) k)) (fun k => g (ix2 (0 : Fin 1) k)) (fun k => z (ix2 (y 0) k)) (y 1)
/-- and the gain gradient, in row 0 of eight. -/
def ggA (d : S4096x7680.Idx → EReal) (w : S1024x7680.Idx → EReal) (x : S4096x1024.Idx → EReal) : S8x1024.Idx → EReal :=
  fun y => if (y 0).val = 0 then ∑ r : Fin 4096, (∑ j : Fin 7680, d (ix2 r j) * w (ix2 (y 1) j)) * nrm (fun k => x (ix2 r k)) (y 1) else 0

theorem final5 : (dats (F := Ideal) m 0 c).arrAt 5 cfg0.N = dxA (dV m c) (wV m c) (xV m c) (gV m c) (zV m c) := by
  refine (dats (F := Ideal) m 0 c).arrAt_eq_of_cover 5 (dxA (dV m c) (wV m c) (xV m c) (gV m c) (zV m c)) (fun t _ => ?_) fun i => ⟨blkOf (i 0), flush0_5 _, ?_⟩
  · rw [Value.flushed5, out5]
    funext y
    obtain ⟨r, i, rfl⟩ : ∃ (r : Fin 256) (i : Fin 1024), y = ix2 r i := ⟨y 0, y 1, eq_ix2 y⟩
    have hy : (((cfg0.win 5).blk t).view.emb (ix2 r i) : S4096x1024.Idx) = ix2 (rowAt t r) i :=
      unit_emb (n0 := 4096) (n1 := 1024) (fun a => win0_5.index t a * (![256, 1024] : Fin 2 → ℕ) a) ![256, 1024] _ (ix2 r i) (rowAt t r) i
        (by show win0_5.index t 0 * 256 + r.val = t.val * 256 + r.val; rw [(idx0 t).2.2.2.2.2.1.1])
        (by show win0_5.index t 1 * 1024 + i.val = i.val; rw [(idx0 t).2.2.2.2.2.1.2]; omega)
    show k0_pay7 (F := Ideal) (iblk m c 0 t) (iblk m c 1 t) (iblk m c 2 t) (iblk m c 3 t) (iblk m c 4 t) (ix2 r i)
      = dxA (dV m c) (wV m c) (xV m c) (gV m c) (zV m c) (((cfg0.win 5).blk t).view.emb (ix2 r i))
    rw [hy]
    refine (pay7_apply _ _ _ _ _ r i).trans ?_
    show dxr _ _ _ _ i = dxr _ _ _ _ i
    have e0 := funext fun i => dot_block (iblk (F := Ideal) m c 0 t) (iblk (F := Ideal) m c 1 t) (dV m c) (wV m c) (rowAt t) (blk0 m c t) (blk1 m c t) r i
    have e2 : (fun k => iblk (F := Ideal) m c 2 t (ix2 r k)) = fun k => xV m c (ix2 (rowAt t r) k) := funext fun k => blk2 m c t r k
    have e3 : (fun k => iblk (F := Ideal) m c 3 t (ix2 (0 : Fin 1) k)) = fun k => gV m c (ix2 (0 : Fin 1) k) := funext fun k => blk3 m c t k
    have e4 : (fun k => iblk (F := Ideal) m c 4 t (ix2 r k)) = fun k => zV m c (ix2 (rowAt t r) k) := funext fun k => blk4 m c t r k
    exact congr (congr (congr (congrArg₂ dxr e0 e2) e3) e4) rfl
  · have h0 : (i 0).val < 4096 := (i 0).isLt
    have h1 : (i 1).val < 1024 := (i 1).isLt
    show i ∈ ((View.whole main_v23_0).slice (win0_5.rect (blkOf (i 0)))).set
    rw [View.set_slice_whole]
    refine mem_unit (n0 := 4096) (n1 := 1024) _ _ _ i ?_ ?_
    · show win0_5.index _ 0 * 256 ≤ (i 0).val ∧ (i 0).val < win0_5.index _ 0 * 256 + 256
      rw [(idx0 _).2.2.2.2.2.1.1]
      show (i 0).val / 256 * 256 ≤ (i 0).val ∧ (i 0).val < (i 0).val / 256 * 256 + 256
      omega
    · show win0_5.index _ 1 * 1024 ≤ (i 1).val ∧ (i 1).val < win0_5.index _ 1 * 1024 + 1024
      rw [(idx0 _).2.2.2.2.2.1.2]; omega

theorem part_eq (t : Fin 16) (a : Fin 8) (i : Fin 1024) : part (iblk (F := Ideal) m c 0 t) (iblk (F := Ideal) m c 1 t) (iblk (F := Ideal) m c 2 t) (ix2 a i)
    = if a.val = 0 then ∑ r : Fin 256, (∑ j : Fin 7680, dV m c (ix2 (rowAt t r) j) * wV m c (ix2 i j)) * nrm (fun k => xV m c (ix2 (rowAt t r) k)) i else 0 := by
  unfold part
  refine congrArg (fun s : EReal => if a.val = 0 then s else 0) (Finset.sum_congr rfl fun r _ => congrArg₂ (· * ·)
    (dot_block (iblk (F := Ideal) m c 0 t) (iblk (F := Ideal) m c 1 t) (dV m c) (wV m c) (rowAt t) (blk0 m c t) (blk1 m c t) r i) ?_)
  exact congrArg (fun f => nrm f i) (funext fun k => blk2 m c t r k)

theorem acc6 (t : Fin 16) (ht : t.val + 1 = 16) (y : S8x1024.Idx) : (outsAt0 (F := Ideal) m c t.val t.isLt).2 y = ggA (dV m c) (wV m c) (xV m c) y := by
  obtain ⟨a, i, rfl⟩ : ∃ (a : Fin 8) (i : Fin 1024), y = ix2 a i := ⟨y 0, y 1, eq_ix2 y⟩
  refine (Pipeline.eq_sum_fin_of_reset_step_apply_last (N := 16) (fun n h => (outsAt0 (F := Ideal) m c n h).2) 16 (fun _ => (0 : EReal))
    (fun t => part (iblk (F := Ideal) m c 0 t) (iblk (F := Ideal) m c 1 t) (iblk (F := Ideal) m c 2 t))
    (fun t h y => out6_A m c t h y) (fun t h y => out6_B m c t h y) le_rfl t ht (ix2 a i)).trans ?_
  rw [zero_add]
  refine (Finset.sum_congr rfl fun t _ => part_eq m c t a i).trans ?_
  unfold ggA
  show _ = if a.val = 0 then ∑ r : Fin 4096, (∑ j : Fin 7680, dV m c (ix2 r j) * wV m c (ix2 i j)) * nrm (fun k => xV m c (ix2 r k)) i else 0
  by_cases ha : a.val = 0
  · simp only [if_pos ha]
    exact (Fin.sum_univ_tiles 16 256 rfl (fun r : Fin 4096 => (∑ j : Fin 7680, dV m c (ix2 r j) * wV m c (ix2 i j)) * nrm (fun k => xV m c (ix2 r k)) i)).symm
  · simp only [if_neg ha]
    exact Finset.sum_const_zero

theorem final6 : (dats (F := Ideal) m 0 c).arrAt 6 cfg0.N = ggA (dV m c) (wV m c) (xV m c) := by
  refine (dats (F := Ideal) m 0 c).arrAt_eq_of_cover 6 (ggA (dV m c) (wV m c) (xV m c)) (fun t ht => ?_) fun i => ⟨last, (flush0_6 last).2 rfl, ?_⟩
  · have h15 := (flush0_6 t).1 ht
    have h16 : t.val < 16 := t.isLt
    have h17 : t.val + 1 = 16 := by omega
    rw [Value.flushed6]
    funext y
    obtain ⟨a, i, rfl⟩ : ∃ (a : Fin 8) (i : Fin 1024), y = ix2 a i := ⟨y 0, y 1, eq_ix2 y⟩
    have hy : (((cfg0.win 6).blk t).view.emb (ix2 a i) : S8x1024.Idx) = ix2 a i :=
      unit_emb (n0 := 8) (n1 := 1024) (fun a => win0_6.index t a * (![8, 1024] : Fin 2 → ℕ) a) ![8, 1024] _ (ix2 a i) a i
        (by show win0_6.index t 0 * 8 + a.val = a.val; rw [(idx0 t).2.2.2.2.2.2.1]; omega)
        (by show win0_6.index t 1 * 1024 + i.val = i.val; rw [(idx0 t).2.2.2.2.2.2.2]; omega)
    show (outsAt0 (F := Ideal) m c t.val t.isLt).2 (ix2 a i) = ggA (dV m c) (wV m c) (xV m c) (((cfg0.win 6).blk t).view.emb (ix2 a i))
    rw [hy]
    exact acc6 m c t h17 (ix2 a i)
  · have h0 : (i 0).val < 8 := (i 0).isLt
    have h1 : (i 1).val < 1024 := (i 1).isLt
    show i ∈ ((View.whole main_v23_1).slice (win0_6.rect last)).set
    rw [View.set_slice_whole]
    refine mem_unit (n0 := 8) (n1 := 1024) _ _ _ i ?_ ?_
    · show win0_6.index _ 0 * 8 ≤ (i 0).val ∧ (i 0).val < win0_6.index _ 0 * 8 + 8
      rw [(idx0 _).2.2.2.2.2.2.1]; omega
    · show win0_6.index _ 1 * 1024 ≤ (i 1).val ∧ (i 1).val < win0_6.index _ 1 * 1024 + 1024
      rw [(idx0 _).2.2.2.2.2.2.2]; omega

/-! ## What the kernel finds -/

abbrev argX : S2x2048x1024.Idx → EReal := m ((c : Thread nD τ).loc main_arg0)
abbrev argG : S1x1024.Idx → EReal := m ((c : Thread nD τ).loc main_arg1)
abbrev argW : S1x1024x7180.Idx → EReal := m ((c : Thread nD τ).loc main_arg2)
abbrev argD : S2x2048x7180.Idx → EReal := m ((c : Thread nD τ).loc main_arg3)
abbrev argZ : S2x2048x1024.Idx → EReal := m ((c : Thread nD τ).loc main_arg4)

theorem xV_eq : xV m c = shapeCast S4096x1024 (argX m c) shapeCasts_S2x2048x1024_S4096x1024 := by
  unfold xV V
  after_reads_simp
  rfl
theorem zV_eq : zV m c = shapeCast S4096x1024 (argZ m c) shapeCasts_S2x2048x1024_S4096x1024 := by
  unfold zV V
  after_reads_simp
  rfl
theorem gV_eq : gV m c = argG m c := V_main_arg1 m c
theorem dV_eq : dV m c = Cert.InWGradIdeal.Val.dTerm (argD m c) := by
  unfold dV V
  after_reads_simp
  rfl

/-- The weights, -/
abbrev wRows (w : S1x1024x7180.Idx → EReal) : S1024x7180.Idx → EReal :=
  shapeCast S1024x7180 w shapeCasts_S1x1024x7180_S1024x7180
/-- and the second quarter of their columns. -/
abbrev wSecond (w : S1x1024x7180.Idx → EReal) : S1024x1795.Idx → EReal := extractStridedSlice S1024x1795 ![0, 1795] (wRows w) slices_S1024x7180_S1024x1795_0_1795

/-- The weights' columns, arranged. -/
def wTerm (w : S1x1024x7180.Idx → EReal) : S1024x7680.Idx → EReal :=
  concatenate S1024x7680 1 [⟨S1024x1795, extractStridedSlice S1024x1795 ![0, 0] (wRows w) slices_S1024x7180_S1024x1795_0_0⟩,
    ⟨S1024x1277, extractStridedSlice S1024x1277 ![0, 0] (wSecond w) slices_S1024x1795_S1024x1277_0_0⟩,
    ⟨S1024x506, extractStridedSlice S1024x506 ![0, 1289] (wSecond w) slices_S1024x1795_S1024x506_0_1289⟩,
    ⟨S1024x1795, extractStridedSlice S1024x1795 ![0, 3590] (wRows w) slices_S1024x7180_S1024x1795_0_3590⟩,
    ⟨S1024x1795, extractStridedSlice S1024x1795 ![0, 5385] (wRows w) slices_S1024x7180_S1024x1795_0_5385⟩,
    ⟨S1024x12, extractStridedSlice S1024x12 ![0, 1277] (wSecond w) slices_S1024x1795_S1024x12_0_1277⟩,
    ⟨S1024x500, broadcastInDim S1024x500 ![] bcast_S_S1024x500 (constant (F := Ideal) S_ .bf16 0x0000#16)⟩]
    concatenates_S1024x1795_S1024x1277_S1024x506_S1024x1795_S1024x1795_S1024x12_S1024x500_S1024x7680_d1

theorem wV_eq : wV m c = wTerm (argW m c) := by
  unfold wV V
  after_reads_simp
  rfl

theorem wTerm_apply (w : S1x1024x7180.Idx → EReal) (i : Fin 1024) (j : Fin 7680) : wTerm w (ix2 i j) = cols (fun k => w (ix3 (0 : Fin 1) i k)) j := by
  have hj : (ix2 i j 1).val = j.val := rfl
  have h0 : (ix2 i j 0).val = i.val := rfl
  have hi := i.isLt
  have key : ∀ (a : Fin 1) (b : Fin 1024) (k : Fin 7180), b.val = i.val →
      ((j.val < 3072 ∧ k.val = j.val) ∨ (3072 ≤ j.val ∧ j.val < 7168 ∧ k.val = j.val + 12) ∨ (7168 ≤ j.val ∧ j.val < 7180 ∧ k.val + 4096 = j.val)) →
      w (Idealize.ShloMosaic.ix3 a b k) = cols (fun k => w (ix3 (0 : Fin 1) i k)) j := by
    intro a b k hb hk
    rw [cols_eq _ j k hk]
    exact congrArg w (funext fun l => Fin.ext (by match l with | ⟨0, _⟩ => (show a.val = 0; omega) | ⟨1, _⟩ => exact hb | ⟨2, _⟩ => rfl))
  unfold wTerm
  pointwise
  split_ifs
  all_goals first
    | (refine key _ _ _ h0 ?_
       dsimp only
       omega)
    | exact (cols_none _ j (by omega)).symm
    | omega

/-! ## The results on the arguments -/

/-- A row's gradient before the norm. -/
def dhr (w : S1x1024x7180.Idx → EReal) (d : S2x2048x7180.Idx → EReal) (b : Fin 2) (s : Fin 2048) (i : Fin 1024) : EReal :=
  ∑ k : Fin 7180, d (ix3 b s k) * w (ix3 (0 : Fin 1) i k)

/-- The input gradient by rows, -/
def dxF (x : S2x2048x1024.Idx → EReal) (g : S1x1024.Idx → EReal) (w : S1x1024x7180.Idx → EReal) (d : S2x2048x7180.Idx → EReal) (z : S2x2048x1024.Idx → EReal) : S4096x1024.Idx → EReal :=
  fun y => dxr (dhr w d (bat (y 0)) (pos (y 0))) (fun k => x (ix3 (bat (y 0)) (pos (y 0)) k)) (fun k => g (ix2 (0 : Fin 1) k)) (fun k => z (ix3 (bat (y 0)) (pos (y 0)) k)) (y 1)
/-- and the gain gradient in row 0 of eight. -/
def ggF (x : S2x2048x1024.Idx → EReal) (w : S1x1024x7180.Idx → EReal) (d : S2x2048x7180.Idx → EReal) : S8x1024.Idx → EReal :=
  fun y => if (y 0).val = 0 then ∑ b : Fin 2, ∑ s : Fin 2048, dhr w d b s (y 1) * nrm (fun k => x (ix3 b s k)) (y 1) else 0

theorem dh_eq (r : Fin 4096) (i : Fin 1024) : ∑ j : Fin 7680, dV m c (ix2 r j) * wV m c (ix2 i j) = dhr (argW m c) (argD m c) (bat r) (pos r) i := by
  rw [dV_eq, wV_eq]
  refine Eq.trans ?_ (sum_cols (fun k => argD m c (ix3 (bat r) (pos r) k)) (fun k => argW m c (ix3 (0 : Fin 1) i k)))
  exact Finset.sum_congr rfl fun j _ => congrArg₂ (· * ·) (Cert.InWGradIdeal.Val.dTerm_apply _ r j) (wTerm_apply _ i j)

theorem xV_apply (r : Fin 4096) (i : Fin 1024) : xV m c (ix2 r i) = argX m c (ix3 (bat r) (pos r) i) := by
  rw [xV_eq]; exact flat_apply _ _ r i
theorem zV_apply (r : Fin 4096) (i : Fin 1024) : zV m c (ix2 r i) = argZ m c (ix3 (bat r) (pos r) i) := by
  rw [zV_eq]; exact flat_apply _ _ r i

theorem dx_eq : dxA (dV m c) (wV m c) (xV m c) (gV m c) (zV m c) = dxF (argX m c) (argG m c) (argW m c) (argD m c) (argZ m c) := funext fun y => by
  obtain ⟨r, i, rfl⟩ : ∃ (r : Fin 4096) (i : Fin 1024), y = ix2 r i := ⟨y 0, y 1, eq_ix2 y⟩
  show dxr _ _ _ _ i = dxr _ _ _ _ i
  have e0 : (fun i => ∑ j : Fin 7680, dV m c (ix2 r j) * wV m c (ix2 i j)) = dhr (argW m c) (argD m c) (bat r) (pos r) := funext fun i => dh_eq m c r i
  have e2 : (fun k => xV m c (ix2 r k)) = fun k => argX m c (ix3 (bat r) (pos r) k) := funext fun k => xV_apply m c r k
  have e3 : (fun k => gV m c (ix2 (0 : Fin 1) k)) = fun k => argG m c (ix2 (0 : Fin 1) k) := funext fun k => congrFun (gV_eq m c) _
  have e4 : (fun k => zV m c (ix2 r k)) = fun k => argZ m c (ix3 (bat r) (pos r) k) := funext fun k => zV_apply m c r k
  exact congr (congr (congr (congrArg₂ dxr e0 e2) e3) e4) rfl

theorem gg_eq : ggA (dV m c) (wV m c) (xV m c) = ggF (argX m c) (argW m c) (argD m c) := funext fun y => by
  obtain ⟨a, i, rfl⟩ : ∃ (a : Fin 8) (i : Fin 1024), y = ix2 a i := ⟨y 0, y 1, eq_ix2 y⟩
  unfold ggA ggF
  refine congrArg (fun s : EReal => if a.val = 0 then s else 0) ?_
  refine (Finset.sum_congr rfl fun r _ => congrArg₂ (· * ·) (dh_eq m c r i) (congrArg (fun f => nrm f i) (funext fun k => xV_apply m c r k))).trans ?_
  refine (sum_tok (fun r => dhr (argW m c) (argD m c) (bat r) (pos r) i * nrm (fun k => argX m c (ix3 (bat r) (pos r) k)) i)).trans ?_
  refine Finset.sum_congr rfl fun b _ => Finset.sum_congr rfl fun s _ => ?_
  rw [bat_tok, pos_tok]

/-- The kernel's run: the results as functions of the arguments, the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v23_0) = dxF (argX m c) (argG m c) (argW m c) (argD m c) (argZ m c)
      ∧ r.2.mem ((c : Thread nD τ).loc main_v23_1) = ggF (argX m c) (argW m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨((h c).1.trans (final5 m c)).trans (dx_eq m c), ((h c).2.1.trans (final6 m c)).trans (gg_eq m c), (h c).2.2⟩)
    (Value.run_blocks (F := Ideal) m ρ)

end Cert.InGradIdeal.Val
-- ==== Proof.InRef.lean ====
/-
  The input projection's reference gradients, one operation at a time, as functions of the arguments.
-/
module
public import proofs.«01_k».proof.Proof.InRms
public import proofs.«01_k».proof.Proof.InRun
public import proofs.«01_k».proof.Proof.Gen.InGradRefIdeal.Read
public import Idealize.ShloMosaic.Lib.IdealHost
public import Idealize.ShloMosaic.Lib.Pointwise
@[expose] public section
set_option maxRecDepth 16384
noncomputable section
namespace Cert.InGradRefIdeal.Val
open Idealize.ShloMosaic hiding ix1 ix2 ix3 eq_ix1 eq_ix2 eq_ix3
open Idealize.ShloMosaic.ValueIdx Cert.InGradRefIdeal Cert.InGradRefIdeal.Gen Cert.InGradRefIdeal.Read Cert.Cols
open Cert.InGradIdeal.Val (rms nrm dxr msq dxd cN cE cH dhr dxF ggF rms_def dx_forms)
open scoped BigOperators

theorem at3 {n0 n1 n2 : ℕ} (i : (⟨3, ![n0, n1, n2]⟩ : Shape).Idx) (a0 : Fin n0) (a1 : Fin n1) (a2 : Fin n2)
    (h0 : (i 0).val = a0.val) (h1 : (i 1).val = a1.val) (h2 : (i 2).val = a2.val) : i = ix3 a0 a1 a2 := by
  funext a; apply Fin.ext
  match a with
  | ⟨0, _⟩ => exact h0
  | ⟨1, _⟩ => exact h1
  | ⟨2, _⟩ => exact h2
theorem at2 {n0 n1 : ℕ} (i : (⟨2, ![n0, n1]⟩ : Shape).Idx) (a0 : Fin n0) (a1 : Fin n1)
    (h0 : (i 0).val = a0.val) (h1 : (i 1).val = a1.val) : i = ix2 a0 a1 := by
  funext a; apply Fin.ext
  match a with
  | ⟨0, _⟩ => exact h0
  | ⟨1, _⟩ => exact h1
theorem at1 {n0 : ℕ} (i : (⟨1, ![n0]⟩ : Shape).Idx) (a0 : Fin n0) (h0 : (i 0).val = a0.val) : i = ix1 a0 := by
  funext a; apply Fin.ext
  match a with
  | ⟨0, _⟩ => exact h0

/-- A sum over the first two of three axes. -/
theorem sum_two {n0 n1 n2 : ℕ} (h : Shape.ReducesTo ⟨3, ![n0, n1, n2]⟩ [0, 1] ⟨1, ![n2]⟩) (x : (⟨3, ![n0, n1, n2]⟩ : Shape).Idx → EReal) (init : EReal) (j : Fin n2) :
    Ideal.hostReduceAdd h x init (ix1 j) = init + ∑ b : Fin n0, ∑ s : Fin n1, x (ix3 b s j) := by
  unfold Ideal.hostReduceAdd
  refine congrArg (init + ·) ?_
  rw [← Fintype.sum_prod_type']
  have hd : ∀ i : (⟨3, ![n0, n1, n2]⟩ : Shape).Idx, h.drop i = ix1 j ↔ (i 2).val = j.val := fun i => by
    have e : (h.drop i 0 : ℕ) = i 2 := h.drop_apply_val_of_eq i 0 2 (Nat.one_pos) rfl
    constructor
    · intro hi
      rw [← e, hi]
      rfl
    · intro hi
      exact at1 _ j (e.trans hi)
  symm
  refine Finset.sum_bij (fun p _ => ix3 p.1 p.2 j) (fun p _ => ?_) (fun p _ q _ hpq => ?_) (fun i hi => ?_) (fun p _ => rfl)
  · exact Finset.mem_filter.2 ⟨Finset.mem_univ _, (hd _).2 rfl⟩
  · exact Prod.ext (congrFun hpq 0) (congrFun hpq 1)
  · exact ⟨(i 0, i 1), Finset.mem_univ _, (at3 i (i 0) (i 1) j rfl rfl ((hd i).1 (Finset.mem_filter.1 hi).2)).symm⟩

theorem zero_bits : FloatOps.ofBits (F := Ideal) .f32 0x00000000#32 = (0 : EReal) := Ideal.ofBits_zero_f32

variable (x : S2x2048x1024.Idx → EReal) (g : S1x1024.Idx → EReal) (w : S1x1024x7180.Idx → EReal) (d : S2x2048x7180.Idx → EReal) (z : S2x2048x1024.Idx → EReal)
variable (b : Fin 2) (s : Fin 2048) (i : Fin 1024)

/-- A row. -/
abbrev row : Fin 1024 → EReal := fun k => x (ix3 b s k)
/-- The gains. -/
abbrev gain : Fin 1024 → EReal := fun k => g (ix2 (0 : Fin 1) k)

theorem msq_at : val_main_v7 (F := Ideal) x (ix3 b s (0 : Fin 1)) = msq (row x b s) := by
  rw [val_main_v7_apply, val_main_v5_apply, val_main_v3_apply, val_main_v4_apply, val_main_v6_apply, val_main_cst_0_apply, val_main_cst_1_apply,
    at2 (idx_main_v3 (ix3 b s (0 : Fin 1))) b s rfl rfl, val_main_v2_apply, val_main_cst_apply, zero_bits, zero_add]
  have e : ∀ k : Fin 1024, val_main_v1 (F := Ideal) x (idx_main_v2 (ix2 b s) k) = x (ix3 b s k) * x (ix3 b s k) := fun k => by
    rw [val_main_v1_apply, at3 (idx_main_v2 (ix2 b s) k) b s k rfl rfl rfl]; rfl
  rw [Finset.sum_congr rfl fun k _ => e k]
  rfl

theorem rms_at : val_main_v8 (F := Ideal) x (ix3 b s (0 : Fin 1)) = rms (row x b s) := by
  rw [val_main_v8_apply, msq_at, rms_def]
  rfl

theorem quot_at : val_main_v11 (F := Ideal) x (ix3 b s (0 : Fin 1)) = cH * Ideal.div (rms (row x b s)) (msq (row x b s)) := by
  rw [val_main_v11_apply, val_main_v10_apply, val_main_cst_2_apply, val_main_v9_apply, rms_at, msq_at]
  rfl

theorem nrm_at : val_main_v13 (F := Ideal) x (ix3 b s i) = nrm (row x b s) i := by
  rw [val_main_v13_apply, val_main_v12_apply, at3 (idx_main_v12 (ix3 b s i)) b s (0 : Fin 1) rfl rfl rfl, rms_at]
  rfl

theorem gain_at : val_main_v27 (F := Ideal) g (ix3 b s i) = gain g i := by
  rw [val_main_v27_apply, val_main_v14_apply, val_main_v0_apply]
  refine congrArg g (at2 _ _ _ rfl ?_)
  show i.val % 1024 = i.val
  omega

theorem dh_at : val_main_v22 (F := Ideal) w d (ix3 b s i) = dhr w d b s i := by
  rw [val_main_v22_apply]
  refine Finset.sum_congr rfl fun k _ => ?_
  rw [val_main_v19_apply, val_main_v17_apply]
  refine congrArg₂ (· * ·) (congrArg d (at3 _ b s k rfl rfl rfl)) (congrArg w (at3 _ (0 : Fin 1) i k rfl ?_ ?_))
  · show (i.val * 7180 + k.val) / 7180 % 1024 = i.val
    omega
  · show (i.val * 7180 + k.val) % 7180 = k.val
    omega

theorem dn_at : val_main_v28 (F := Ideal) g w d (ix3 b s i) = dhr w d b s i * gain g i := by
  rw [val_main_v28_apply, dh_at, gain_at]
  rfl

theorem t_at : val_main_v40 (F := Ideal) x g w d (ix3 b s i)
    = Ideal.div ((∑ k : Fin 1024, row x b s k * (dhr w d b s k * gain g k)) * (cH * Ideal.div (rms (row x b s)) (msq (row x b s)))) cN := by
  rw [val_main_v40_apply, at2 (idx_main_v40 (ix3 b s i)) b s rfl rfl, val_main_v39_apply, val_main_cst_7_apply, zero_bits, zero_add, Fin.sum_univ_one,
    at3 (idx_main_v39 (ix2 b s) 0) b s (0 : Fin 1) rfl rfl rfl, val_main_v38_apply, val_main_v36_apply, val_main_v37_apply, val_main_cst_6_apply, quot_at,
    val_main_v32_apply, at2 (idx_main_v32 (ix3 b s (0 : Fin 1))) b s (show ((b.val * 2048 + s.val) * 1 + 0) / 2048 = b.val by omega)
      (show ((b.val * 2048 + s.val) * 1 + 0) % 2048 = s.val by omega), val_main_v31_apply, val_main_cst_5_apply, zero_bits, zero_add]
  have e : ∀ k : Fin 1024, val_main_v30 (F := Ideal) x g w d (idx_main_v31 (ix2 b s) k) = row x b s k * (dhr w d b s k * gain g k) := fun k => by
    rw [at3 (idx_main_v31 (ix2 b s) k) b s k rfl rfl rfl, val_main_v30_apply, dn_at]; rfl
  rw [Finset.sum_congr rfl fun k _ => e k]
  rfl

theorem dx_at : val_main_v44 (F := Ideal) x g w d z (ix3 b s i) = dxr (dhr w d b s) (row x b s) (gain g) (row z b s) i := by
  rw [val_main_v44_apply, val_main_v42_apply, val_main_v43_apply, val_main_v41_apply, val_main_v35_apply, val_main_v34_apply, val_main_v33_apply, t_at, dn_at,
    at3 (idx_main_v33 (ix3 b s i)) b s (0 : Fin 1) rfl rfl rfl, rms_at]
  exact dx_forms (dhr w d b s) (row x b s) (gain g) (row z b s) i

theorem dx_res : val_main_v46 (F := Ideal) x g w d z = dxF x g w d z := funext fun y => by
  obtain ⟨r, i, rfl⟩ : ∃ (r : Fin 4096) (i : Fin 1024), y = ix2 r i := ⟨y 0, y 1, eq_ix2 y⟩
  rw [val_main_v46_apply, at3 (idx_main_v46 (ix2 r i)) (bat r) (pos r) i (show (r.val * 1024 + i.val) / 2097152 = r.val / 2048 by omega)
    (show (r.val * 1024 + i.val) / 1024 % 2048 = r.val % 2048 by omega) (show (r.val * 1024 + i.val) % 1024 = i.val by omega), dx_at]
  rfl

theorem gg_at : val_main_v25 (F := Ideal) x w d (ix1 i) = ∑ b : Fin 2, ∑ s : Fin 2048, dhr w d b s i * nrm (row x b s) i := by
  have e : ∀ b s, val_main_v24 (F := Ideal) x w d (ix3 b s i) = dhr w d b s i * nrm (row x b s) i := fun b s => by
    rw [val_main_v24_apply, nrm_at, dh_at]
    exact mul_comm (G := EReal) _ _
  unfold val_main_v25
  generalize val_main_v24 (F := Ideal) x w d = y at e
  simp only [Host.reduceAdd, Ideal.hostReduceAdd_def]
  rw [sum_two, val_main_cst_3_apply, zero_bits, zero_add]
  exact Finset.sum_congr rfl fun b _ => Finset.sum_congr rfl fun s _ => e b s

theorem gg_row : val_main_v45 (F := Ideal) x w d (ix2 (0 : Fin 1) i) = ∑ b : Fin 2, ∑ s : Fin 2048, dhr w d b s i * nrm (row x b s) i := by
  rw [val_main_v45_apply, at1 (idx_main_v45 (ix2 (0 : Fin 1) i)) i rfl]
  have e : val_main_v26 (F := Ideal) x w d (ix3 (0 : Fin 1) (0 : Fin 1) i) = ∑ b : Fin 2, ∑ s : Fin 2048, dhr w d b s i * nrm (row x b s) i := by
    rw [val_main_v26_apply, at1 (idx_main_v26 (ix3 (0 : Fin 1) (0 : Fin 1) i)) i (show (0 * 1 + 0) * 1024 + i.val = i.val by omega), gg_at]
  unfold val_main_v29
  generalize val_main_v26 (F := Ideal) x w d = y at e
  simp only [Host.reduceAdd, Ideal.hostReduceAdd_def]
  rw [sum_two, val_main_cst_4_apply, zero_bits, zero_add, Fin.sum_univ_one, Fin.sum_univ_one]
  exact e

theorem gg_res : val_main_v47 (F := Ideal) x w d = ggF x w d := funext fun y => by
  have e := gg_row x w d
  obtain ⟨a, i, rfl⟩ : ∃ (a : Fin 8) (i : Fin 1024), y = ix2 a i := ⟨y 0, y 1, eq_ix2 y⟩
  unfold ggF
  show _ = if a.val = 0 then ∑ b : Fin 2, ∑ s : Fin 2048, dhr w d b s i * nrm (fun k => x (ix3 b s k)) i else 0
  unfold val_main_v47
  generalize val_main_v45 (F := Ideal) x w d = v at e
  rw [← e]
  have ha : (ix2 a i 0).val = a.val := rfl
  have hi : (ix2 a i 1).val = i.val := rfl
  have hz : val_main_call0_v0 (F := Ideal) (Shape.Idx.first h_S_) = 0 := by
    show (((0#32 : BitVec 32).toInt : ℝ) : EReal) = 0
    simp
  pointwise
  rw [hz]
  by_cases h0 : a.val = 0
  · rw [if_pos h0, dif_pos (by rw [ha]; omega)]
    exact congrArg v (at2 _ _ _ h0 rfl)
  · rw [if_neg h0, dif_neg (by rw [ha]; omega)]

end Cert.InGradRefIdeal.Val
-- ==== Proof.InClaim.lean ====
/-
  The input projection's input and gain gradients: the claims.
-/
module
public import proofs.«01_k».proof.Defs
public import proofs.«01_k».proof.Proof.InRef
public import Idealize.ShloMosaic.Lib.Quiescent
@[expose] public section
set_option maxRecDepth 16384
noncomputable section
namespace Cert.InClaim
open Idealize.ShloMosaic hiding ix2 ix3 eq_ix2 eq_ix3
open Idealize.ShloMosaic.ValueIdx Idealize.SL.Sem
open Cert.InGradIdeal.Val Cert.InGradRefIdeal.Val Cert.InGradRefIdeal.Read

theorem frame_ref : Cert.quiescent_InGradRefIdeal := fun m ρ _ =>
  (θ_run Cert.InGradRefIdeal.defs _ _).mono
    (fun r h => ⟨fun c => (h c).2.2, sem_eq_zero_of_no_sems (by decide) r.2⟩) (Cert.InGradRefIdeal.Value.run (F := Ideal) m ρ)

theorem algebraic : Cert.algebraic_InGradIdeal_InGradRefIdeal := fun m g m' g' _ hagree =>
  ⟨fun c => dxF (argX m c) (argG m c) (argW m c) (argD m c) (argZ m c), fun c => ggF (argX m c) (argW m c) (argD m c), run m g,
    (θ_run Cert.InGradRefIdeal.defs _ _).mono (fun r h c => by
      obtain ⟨h46, h47, ha⟩ := h c
      obtain ⟨a0, a1, a2, a3, a4⟩ := hagree c
      refine ⟨h46.trans ?_, h47.trans ?_, ha⟩
      · rw [val_main_v46_eq, a0, a1, a2, a3, a4]; exact dx_res _ _ _ _ _
      · rw [val_main_v47_eq, a0, a2, a3]; exact gg_res _ _ _) (Cert.InGradRefIdeal.Value.run (F := Ideal) m' g')⟩

end Cert.InClaim
-- ==== Proof.InWClaim.lean ====
/-
  The input projection's weight gradient: the claims.
-/
module
public import proofs.«01_k».proof.Defs
public import proofs.«01_k».proof.Proof.InWRun
public import Idealize.ShloMosaic.Lib.Quiescent
@[expose] public section
set_option maxRecDepth 16384
noncomputable section
namespace Cert.InWClaim
open Idealize.ShloMosaic hiding ix2 ix3 eq_ix2 eq_ix3
open Idealize.ShloMosaic.ValueIdx Idealize.SL.Sem
open Cert.InWGradIdeal.Val Cert.InWGradRefIdeal.Read

theorem frame_ref : Cert.quiescent_InWGradRefIdeal := fun m ρ _ =>
  (θ_run Cert.InWGradRefIdeal.defs _ _).mono
    (fun r h => ⟨fun c => (h c).2, sem_eq_zero_of_no_sems (by decide) r.2⟩) (Cert.InWGradRefIdeal.Value.run (F := Ideal) m ρ)

theorem algebraic : Cert.algebraic_InWGradIdeal_InWGradRefIdeal := fun m g m' g' _ hagree =>
  ⟨fun c => wArr (argX m c) (argG m c) (argD m c), run m g,
    (θ_run Cert.InWGradRefIdeal.defs _ _).mono (fun r h c => by
      obtain ⟨h24, ha⟩ := h c
      obtain ⟨a0, a1, a2⟩ := hagree c
      refine ⟨h24.trans ?_, ha⟩
      rw [val_main_v24_eq, a0, a1, a2]; exact ref_eq _ _ _) (Cert.InWGradRefIdeal.Value.run (F := Ideal) m' g')⟩

end Cert.InWClaim
-- ==== Proof.Silu.lean ====
/-
  The gate's function on the extended reals: the logistic weight, and the two ways of writing the gate's derivative.
-/
module
public import Idealize.ShloMosaic.PureOps.Ideal.Laws
@[expose] public section
noncomputable section
namespace Cert.Silu
open Idealize.ShloMosaic

/-- One and zero, as the programs write them. -/
abbrev one : EReal := FloatOps.ofBits (F := Ideal) .f32 0x3F800000#32
abbrev zero : EReal := FloatOps.ofBits (F := Ideal) .f32 0x00000000#32

theorem one_eq : one = 1 := by
  unfold one
  rw [Ideal.ofBits_def]
  simp [Ideal.ofBits, Ideal.ieee, -EReal.coe_mul]; norm_num
theorem zero_eq : zero = 0 := Ideal.ofBits_zero_f32

/-- The logistic weight of a gate. -/
def sg (g : EReal) : EReal := Ideal.div one (one + Ideal.exp (zero - g))

/-- The reference's logistic weight. -/
theorem sg_neg (g : EReal) : Ideal.div one (one + Ideal.exp (-g)) = sg g := by
  unfold sg; rw [zero_eq, zero_sub]

theorem sg_top : sg ⊤ = 1 := by
  unfold sg; rw [zero_eq, zero_sub, one_eq, EReal.neg_top, Ideal.exp_bot, add_zero]
  exact (Ideal.div_coe (y := 1) one_ne_zero 1).trans (by simp)
theorem sg_bot : sg ⊥ = 0 := by
  unfold sg; rw [zero_eq, zero_sub, one_eq, EReal.neg_bot, Ideal.exp_top, EReal.add_top_of_ne_bot (show (1 : EReal) ≠ ⊥ from EReal.coe_ne_bot 1)]
  simp [Ideal.div]
theorem sg_coe (g : ℝ) : sg (g : EReal) = ((1 / (1 + Real.exp (-g)) : ℝ) : EReal) := by
  have h : (1 + Real.exp (-g)) ≠ 0 := by positivity
  unfold sg; rw [zero_eq, zero_sub, one_eq, ← EReal.coe_neg, Ideal.exp_coe, ← EReal.coe_one, ← EReal.coe_add, Ideal.div_coe h, ← EReal.coe_mul, one_mul]

/-- A branch's gradient, -/
def da (p g : EReal) : EReal := p * g * sg g
/-- and its gate's. -/
def dg (p a g : EReal) : EReal := p * a * sg g * (one + g * (one - sg g))

theorem da_ref (p g : EReal) : p * (g * sg g) = da p g := (mul_assoc _ _ _).symm

/-- The derivative as the reference writes it, for a real product of the output's gradient with the branch. -/
theorem dg_ref (p a : ℝ) (g : EReal) :
    (a : EReal) * p * sg g + g * ((a : EReal) * p) * (sg g * (one - sg g)) = dg p a g := by
  unfold dg
  rw [one_eq, mul_comm (a : EReal) p, ← EReal.coe_mul]
  induction g with
  | top => rw [sg_top, ← EReal.coe_one, ← EReal.coe_sub]; simp
  | bot => rw [sg_bot]; simp
  | coe g =>
    rw [sg_coe, ← EReal.coe_one]
    simp only [← EReal.coe_mul, ← EReal.coe_sub, ← EReal.coe_add]
    exact congrArg _ (by ring)

end Cert.Silu
-- ==== Proof.GateKer.lean ====
/-
  The gates' gradient kernel: its sixteen tiles put together into the gradient of the branches and of their gates.
-/
module
public import proofs.«01_k».proof.Proof.Gen.GateGradIdeal.Value
public import proofs.«01_k».proof.Proof.InCols
public import proofs.«01_k».proof.Proof.Silu
public import Idealize.ShloMosaic.Lib.Pipeline.ValueKit.Tiles
public import Idealize.ShloMosaic.Lib.StableHlo.ReadAt
@[expose] public section
set_option maxRecDepth 16384
noncomputable section
namespace Cert.GateGradIdeal.Val
open Idealize.ShloMosaic hiding ix1 ix2 ix3 eq_ix1 eq_ix2 eq_ix3
open Idealize.ShloMosaic.ValueIdx Idealize.ShloMosaic.TcCoe Cert.GateGradIdeal Cert.GateGradIdeal.Gen Cert.Cols Cert.Silu
open Idealize.SL.Sem
open scoped BigOperators

/-! ## One tile -/

theorem mm_nt (l : S512x1024.Idx → EReal) (r : S256x1024.Idx → EReal) (k : Fin 512) (e : Fin 256) :
    matmul (F := Ideal) (φ₁ := .bf16) (φ₂ := .bf16) dot_S512x1024_S256x1024_S512x256_1_1_0_0_n_n none l r (constant S512x256 .f32 0x00000000#32) (ix2 k e)
      = ∑ i : Fin 1024, l (ix2 k i) * r (ix2 e i) := by
  refine (Ideal.matmul_constant_zero_apply (φ₁ := .bf16) (φ₂ := .bf16) _ none l r (ix2 k e)).trans ?_
  rw [← Equiv.sum_comp (contrEquiv1 dot_S512x1024_S256x1024_S512x256_1_1_0_0_n_n 1024 rfl rfl).symm]
  refine Finset.sum_congr rfl fun i _ => ?_
  have hk := contrEquiv1_symm_val dot_S512x1024_S256x1024_S512x256_1_1_0_0_n_n 1024 rfl rfl i
  have el : dot_S512x1024_S256x1024_S512x256_1_1_0_0_n_n.lhsIdx (ix2 k e) ((contrEquiv1 dot_S512x1024_S256x1024_S512x256_1_1_0_0_n_n 1024 rfl rfl).symm i) = ix2 k i := by
    funext a; apply Fin.ext
    match a with
    | ⟨0, _⟩ => rfl
    | ⟨1, _⟩ => exact hk
  have er : dot_S512x1024_S256x1024_S512x256_1_1_0_0_n_n.rhsIdx (ix2 k e) ((contrEquiv1 dot_S512x1024_S256x1024_S512x256_1_1_0_0_n_n 1024 rfl rfl).symm i) = ix2 e i := by
    funext a; apply Fin.ext
    match a with
    | ⟨0, _⟩ => rfl
    | ⟨1, _⟩ => exact hk
  rw [el, er]

/-- The branch a tile belongs to, by its column number. -/
def pick (j : BitVec 32) (a b c : EReal) : EReal := Scalar.select (Scalar.cmpi .slt j 3#32) a (Scalar.select (Scalar.cmpi .slt j 6#32) b c)

theorem select_at {s : Shape} (q : BitVec 1) (u v : s.Idx → EReal) (i : s.Idx) : Scalar.select q u v i = Scalar.select q (u i) (v i) := by
  unfold Scalar.select; split <;> rfl

/-- The output gradient's tile. -/
def dyB (x0 : S2048x1024.Idx → EReal) (x1 : S256x1024.Idx → EReal) (y : S2048x256.Idx) : EReal := ∑ k : Fin 1024, x0 (ix2 (y 0) k) * x1 (ix2 (y 1) k)
/-- The branches' gradient, -/
def daB (x0 : S2048x1024.Idx → EReal) (x1 : S256x1024.Idx → EReal) (x5 : S2048x256.Idx → EReal) : S2048x256.Idx → EReal :=
  fun y => da (dyB x0 x1 y) (x5 y)
/-- and their gates'. -/
def dgB (j : BitVec 32) (x0 : S2048x1024.Idx → EReal) (x1 : S256x1024.Idx → EReal) (x2 x3 x4 x5 : S2048x256.Idx → EReal) : S2048x256.Idx → EReal :=
  fun y => dg (dyB x0 x1 y) (pick j (x2 y) (x3 y) (x4 y)) (x5 y)

theorem pay6_apply (v0 : S256x1024.Idx → EReal) (v2 : S512x1024.Idx → EReal) (v15 : S512x256.Idx → EReal) (k : Fin 512) (e : Fin 256) :
    k0_pay6 (F := Ideal) v0 v2 v15 (ix2 k e) = da (∑ i : Fin 1024, v2 (ix2 k i) * v0 (ix2 e i)) (v15 (ix2 k e)) := by
  unfold k0_pay6 k0_pay3 k0_pay5 k0_pay4 k0_pay2
  simp only [shapeCast_self]
  show matmul (F := Ideal) (φ₁ := .bf16) (φ₂ := .bf16) dot_S512x1024_S256x1024_S512x256_1_1_0_0_n_n none v2 v0 (constant S512x256 .f32 0x00000000#32) (ix2 k e) * v15 (ix2 k e) * sg (v15 (ix2 k e)) = _
  rw [mm_nt]
  rfl

theorem gate_apply (j : BitVec 32) (v0 : S256x1024.Idx → EReal) (v2 : S512x1024.Idx → EReal) (v6 v9 v11 v15 : S512x256.Idx → EReal) (k : Fin 512) (e : Fin 256) :
    k0_pay10 (F := Ideal) (k0_pay15 j v0 v2 v6 v9 v11 v15) (k0_pay8 v15) (k0_pay9 (F := Ideal)) (ix2 k e)
      = dg (∑ i : Fin 1024, v2 (ix2 k i) * v0 (ix2 e i)) (pick j (v6 (ix2 k e)) (v9 (ix2 k e)) (v11 (ix2 k e))) (v15 (ix2 k e)) := by
  unfold k0_pay10 k0_pay15 k0_pay8 k0_pay9 k0_pay11 k0_pay13 k0_pay12 k0_pay5 k0_pay4
  simp only [shapeCast_self]
  show matmul (F := Ideal) (φ₁ := .bf16) (φ₂ := .bf16) dot_S512x1024_S256x1024_S512x256_1_1_0_0_n_n none v2 v0 (constant S512x256 .f32 0x00000000#32) (ix2 k e)
    * Scalar.select (Scalar.cmpi .slt j 3#32) v6 (Scalar.select (Scalar.cmpi .slt j 6#32) v9 v11) (ix2 k e) * sg (v15 (ix2 k e)) * (one + v15 (ix2 k e) * (one - sg (v15 (ix2 k e)))) = _
  rw [mm_nt, select_at, select_at]
  rfl

/-- A block's rows from row `o`. -/
theorem ld_rows {n : ℕ} (x : (⟨2, ![2048, n]⟩ : Shape).Idx → EReal) (e' : EltTy) (o : ℕ) (ho : o + 512 ≤ 2048) (inb) (k : Fin 512) (j : Fin n) :
    View.ld (Val := fun _ => EReal) (S := ⟨2, ![2048, n]⟩) (e' := e') x (Rect.unit (s := ⟨2, ![2048, n]⟩) ![o, 0] ![512, n] inb) (ix2 k j) = x (ix2 (⟨o + k.val, by omega⟩ : Fin 2048) j) :=
  View.ld_unit_apply_of _ _ _ _ _ (ix2 (⟨o + k.val, by omega⟩ : Fin 2048) j) (fun a => by
    match a with
    | ⟨0, _⟩ => rfl
    | ⟨1, _⟩ => exact (Nat.zero_add _).symm)

theorem ld_whole (x1 : Vec Ideal S256x1024 .bf16) : View.ld x1 r0_0 = x1 :=
  View.ld_unit_zero (S := S256x1024) (off := ![0, 0]) (by funext a; match a with | ⟨0, _⟩ => rfl | ⟨1, _⟩ => rfl) _ x1

theorem pieceA (x0 : S2048x1024.Idx → EReal) (x1 : S256x1024.Idx → EReal) (x5 : S2048x256.Idx → EReal) (o : ℕ) (ho : o + 512 ≤ 2048) (i0) (i1) (i2) (k : Fin 512) (e : Fin 256) :
    k0_pay6 (F := Ideal) x1 (View.ld (Val := Elt Ideal) (S := S2048x1024) (e' := .bf16) x0 (Rect.unit (s := S2048x1024) ![o, 0] S512x1024.size i0))
      (View.ld (Val := Elt Ideal) (S := S2048x256) (e' := .bf16) x5 (Rect.unit (s := S2048x256) ![o, 0] S512x256.size i1)) (ix2 k e)
      = daB x0 x1 x5 ((Rect.unit (s := S2048x256) ![o, 0] S512x256.size i2).emb (ix2 k e)) := by
  refine (pay6_apply _ _ _ k e).trans ?_
  have h : (Rect.unit (s := S2048x256) ![o, 0] S512x256.size i2).emb (ix2 k e) = ix2 (⟨o + k.val, by omega⟩ : Fin 2048) e :=
    unit_emb _ _ _ _ _ _ rfl (Nat.zero_add _)
  rw [h]
  exact congrArg₂ da (Finset.sum_congr rfl fun i _ => congrArg (· * _) (ld_rows x0 .bf16 o ho i0 k i)) (ld_rows x5 .bf16 o ho i1 k e)

theorem pieceG (j : BitVec 32) (x0 : S2048x1024.Idx → EReal) (x1 : S256x1024.Idx → EReal) (x2 x3 x4 x5 : S2048x256.Idx → EReal) (o : ℕ) (ho : o + 512 ≤ 2048) (i0) (i1) (i2) (k : Fin 512) (e : Fin 256) :
    k0_pay10 (F := Ideal) (k0_pay15 j x1 (View.ld (Val := Elt Ideal) (S := S2048x1024) (e' := .bf16) x0 (Rect.unit (s := S2048x1024) ![o, 0] S512x1024.size i0))
      (View.ld (Val := Elt Ideal) (S := S2048x256) (e' := .f32) x2 (Rect.unit (s := S2048x256) ![o, 0] S512x256.size i1))
      (View.ld (Val := Elt Ideal) (S := S2048x256) (e' := .f32) x3 (Rect.unit (s := S2048x256) ![o, 0] S512x256.size i1))
      (View.ld (Val := Elt Ideal) (S := S2048x256) (e' := .f32) x4 (Rect.unit (s := S2048x256) ![o, 0] S512x256.size i1))
      (View.ld (Val := Elt Ideal) (S := S2048x256) (e' := .bf16) x5 (Rect.unit (s := S2048x256) ![o, 0] S512x256.size i1)))
      (k0_pay8 (View.ld (Val := Elt Ideal) (S := S2048x256) (e' := .bf16) x5 (Rect.unit (s := S2048x256) ![o, 0] S512x256.size i1))) (k0_pay9 (F := Ideal)) (ix2 k e)
      = dgB j x0 x1 x2 x3 x4 x5 ((Rect.unit (s := S2048x256) ![o, 0] S512x256.size i2).emb (ix2 k e)) := by
  refine (gate_apply j _ _ _ _ _ _ k e).trans ?_
  have h : (Rect.unit (s := S2048x256) ![o, 0] S512x256.size i2).emb (ix2 k e) = ix2 (⟨o + k.val, by omega⟩ : Fin 2048) e :=
    unit_emb _ _ _ _ _ _ rfl (Nat.zero_add _)
  rw [h]
  unfold dgB dyB
  rw [ld_rows x2 .f32 o ho i1 k e, ld_rows x3 .f32 o ho i1 k e, ld_rows x4 .f32 o ho i1 k e, ld_rows x5 .bf16 o ho i1 k e]
  exact congrArg (fun p => dg p _ _) (Finset.sum_congr rfl fun i _ => congrArg (· * _) (ld_rows x0 .bf16 o ho i0 k i))

theorem pay2_eq (v : S256x1024.Idx → EReal) : k0_pay2 (F := Ideal) v = v := by unfold k0_pay2; exact shapeCast_self _ _
theorem pay28_eq (v1 : S256x1024.Idx → EReal) (v2 : S512x1024.Idx → EReal) (v : S512x256.Idx → EReal) : k0_pay28 (F := Ideal) v1 v2 v = k0_pay6 v1 v2 v := by
  unfold k0_pay6 k0_pay3; rw [pay2_eq]; rfl
theorem pay21_eq (v1 : S256x1024.Idx → EReal) (v2 : S512x1024.Idx → EReal) (v : S512x256.Idx → EReal) : k0_pay21 (F := Ideal) v1 v2 v = k0_pay6 v1 v2 v := by
  unfold k0_pay6 k0_pay3; rw [pay2_eq]; rfl
theorem pay14_eq (v1 : S256x1024.Idx → EReal) (v2 : S512x1024.Idx → EReal) (v : S512x256.Idx → EReal) : k0_pay14 (F := Ideal) v1 v2 v = k0_pay6 v1 v2 v := by
  unfold k0_pay6 k0_pay3; rw [pay2_eq]; rfl
theorem pay7_eq (i : grid0.Coords) (v1 : S256x1024.Idx → EReal) (v2 : S512x1024.Idx → EReal) (a b c v : S512x256.Idx → EReal) :
    k0_pay7 (F := Ideal) i v1 v2 a b c v = k0_pay15 (BitVec.ofNat 32 (i 1).val) v1 v2 a b c v := by
  unfold k0_pay7 k0_pay3; rw [pay2_eq]; rfl

theorem out6_eq (i : grid0.Coords) (x0 : S2048x1024.Idx → EReal) (x1 : S256x1024.Idx → EReal) (x2 x3 x4 x5 : S2048x256.Idx → EReal) :
    out0_6 (F := Ideal) i x0 x1 x2 x3 x4 x5 = daB x0 x1 x5 := by
  funext y
  unfold_out out0_6
  refine View.canon_apply_of_pieces (Val := Elt Ideal) (S := S2048x256) (e := .bf16) (daB x0 x1 x5) _ ?_ y (cover0_6 _ _ _ _ y)
  intro p hp x
  simp only [List.mem_cons, List.not_mem_nil, or_false] at hp
  rcases hp with rfl | rfl | rfl | rfl
  · obtain ⟨k, e, rfl⟩ : ∃ (k : Fin 512) (e : Fin 256), x = ix2 k e := ⟨x 0, x 1, eq_ix2 x⟩
    refine Eq.trans ?_ (pieceA x0 x1 x5 1536 (by decide) inb_S2048x1024_S512x1024_1536_0 inb_S2048x256_S512x256_1536_0 inb_S2048x256_S512x256_1536_0 k e)
    dsimp only
    rw [ld_whole, pay2_eq, pay28_eq]
  · obtain ⟨k, e, rfl⟩ : ∃ (k : Fin 512) (e : Fin 256), x = ix2 k e := ⟨x 0, x 1, eq_ix2 x⟩
    refine Eq.trans ?_ (pieceA x0 x1 x5 1024 (by decide) inb_S2048x1024_S512x1024_1024_0 inb_S2048x256_S512x256_1024_0 inb_S2048x256_S512x256_1024_0 k e)
    dsimp only
    rw [ld_whole, pay2_eq, pay21_eq]
  · obtain ⟨k, e, rfl⟩ : ∃ (k : Fin 512) (e : Fin 256), x = ix2 k e := ⟨x 0, x 1, eq_ix2 x⟩
    refine Eq.trans ?_ (pieceA x0 x1 x5 512 (by decide) inb_S2048x1024_S512x1024_512_0 inb_S2048x256_S512x256_512_0 inb_S2048x256_S512x256_512_0 k e)
    dsimp only
    rw [ld_whole, pay2_eq, pay14_eq]
  · obtain ⟨k, e, rfl⟩ : ∃ (k : Fin 512) (e : Fin 256), x = ix2 k e := ⟨x 0, x 1, eq_ix2 x⟩
    refine Eq.trans ?_ (pieceA x0 x1 x5 0 (by decide) inb_S2048x1024_S512x1024_0_0 inb_S2048x256_S512x256_0_0 inb_S2048x256_S512x256_0_0 k e)
    rw [ld_whole]

theorem out7_eq (i : grid0.Coords) (x0 : S2048x1024.Idx → EReal) (x1 : S256x1024.Idx → EReal) (x2 x3 x4 x5 : S2048x256.Idx → EReal) :
    out0_7 (F := Ideal) i x0 x1 x2 x3 x4 x5 = dgB (BitVec.ofNat 32 (i 1).val) x0 x1 x2 x3 x4 x5 := by
  funext y
  unfold_out out0_7
  refine View.canon_apply_of_pieces (Val := Elt Ideal) (S := S2048x256) (e := .bf16) (dgB (BitVec.ofNat 32 (i 1).val) x0 x1 x2 x3 x4 x5) _ ?_ y (cover0_7 _ _ _ _ y)
  intro p hp x
  simp only [List.mem_cons, List.not_mem_nil, or_false] at hp
  rcases hp with rfl | rfl | rfl | rfl
  · obtain ⟨k, e, rfl⟩ : ∃ (k : Fin 512) (e : Fin 256), x = ix2 k e := ⟨x 0, x 1, eq_ix2 x⟩
    refine Eq.trans ?_ (pieceG _ x0 x1 x2 x3 x4 x5 1536 (by decide) inb_S2048x1024_S512x1024_1536_0 inb_S2048x256_S512x256_1536_0 inb_S2048x256_S512x256_1536_0 k e)
    dsimp only
    rw [ld_whole, pay2_eq]; rfl
  · obtain ⟨k, e, rfl⟩ : ∃ (k : Fin 512) (e : Fin 256), x = ix2 k e := ⟨x 0, x 1, eq_ix2 x⟩
    refine Eq.trans ?_ (pieceG _ x0 x1 x2 x3 x4 x5 1024 (by decide) inb_S2048x1024_S512x1024_1024_0 inb_S2048x256_S512x256_1024_0 inb_S2048x256_S512x256_1024_0 k e)
    dsimp only
    rw [ld_whole, pay2_eq]; rfl
  · obtain ⟨k, e, rfl⟩ : ∃ (k : Fin 512) (e : Fin 256), x = ix2 k e := ⟨x 0, x 1, eq_ix2 x⟩
    refine Eq.trans ?_ (pieceG _ x0 x1 x2 x3 x4 x5 512 (by decide) inb_S2048x1024_S512x1024_512_0 inb_S2048x256_S512x256_512_0 inb_S2048x256_S512x256_512_0 k e)
    dsimp only
    rw [ld_whole, pay2_eq]; rfl
  · obtain ⟨k, e, rfl⟩ : ∃ (k : Fin 512) (e : Fin 256), x = ix2 k e := ⟨x 0, x 1, eq_ix2 x⟩
    refine Eq.trans ?_ (pieceG _ x0 x1 x2 x3 x4 x5 0 (by decide) inb_S2048x1024_S512x1024_0_0 inb_S2048x256_S512x256_0_0 inb_S2048x256_S512x256_0_0 k e)
    dsimp only
    rw [ld_whole, pay7_eq]

end Cert.GateGradIdeal.Val
-- ==== Proof.GateRun.lean ====
/-
  The gates' gradient: the tiles put together, what the host hands the kernel, and the kernel's run as a function of the arguments.
-/
module
public import proofs.«01_k».proof.Proof.GateKer
@[expose] public section
set_option maxRecDepth 16384
noncomputable section
namespace Cert.GateGradIdeal.Val
open Idealize.ShloMosaic hiding ix1 ix2 ix3 eq_ix1 eq_ix2 eq_ix3
open Idealize.ShloMosaic.ValueIdx Idealize.ShloMosaic.TcCoe Cert.GateGradIdeal Cert.GateGradIdeal.Gen Cert.Cols Cert.Silu
open Idealize.SL.Sem
open scoped BigOperators

/-- The gate column that column `j` of the branches has. -/
def gcol (j : Fin 2048) : Fin 7680 :=
  if j.val < 768 then ⟨2304 + j.val, by omega⟩ else if j.val < 1536 then ⟨4608 + j.val, by omega⟩ else ⟨5120 + j.val, by omega⟩
/-- The branches side by side. -/
def side (f d : Fin 768 → EReal) (e : Fin 512 → EReal) (j : Fin 2048) : EReal :=
  if h : j.val < 768 then f ⟨j.val, h⟩ else if h' : j.val < 1536 then d ⟨j.val - 768, by omega⟩ else e ⟨j.val - 1536, by omega⟩

variable (m : (ℓ : Loc nD τ sig) → Buf (Elt Ideal) ℓ) (c : Dev nD)

theorem idx0 : ∀ t : Fin 16,
    ((win0_0.index t 0 = t.val / 8 ∧ win0_0.index t 1 = 0) ∧ (win0_1.index t 0 = t.val % 8 ∧ win0_1.index t 1 = 0))
    ∧ ((win0_2.index t 0 = t.val / 8 ∧ (t.val % 8 < 3 → win0_2.index t 1 = t.val % 8)) ∧ (win0_3.index t 0 = t.val / 8 ∧ (3 ≤ t.val % 8 → t.val % 8 < 6 → win0_3.index t 1 + 3 = t.val % 8))
      ∧ (win0_4.index t 0 = t.val / 8 ∧ (6 ≤ t.val % 8 → win0_4.index t 1 + 6 = t.val % 8)))
    ∧ (win0_5.index t 0 = t.val / 8 ∧ win0_5.index t 1 = t.val % 8 + (if t.val % 8 < 3 then 9 else if t.val % 8 < 6 then 18 else 20))
    ∧ (win0_6.index t 0 = t.val / 8 ∧ win0_6.index t 1 = t.val % 8) ∧ (win0_7.index t 0 = t.val / 8 ∧ win0_7.index t 1 = t.val % 8) := by decide +kernel

theorem coord1 : ∀ t : Fin 16, (grid0.coords t 1).val = t.val % 8 := by decide +kernel

theorem pick_first : ∀ n : ℕ, n < 3 → ∀ a b e : EReal, pick (BitVec.ofNat 32 n) a b e = a := by
  intro n hn a b e
  interval_cases n <;> rfl
theorem pick_second : ∀ n : ℕ, 3 ≤ n → n < 6 → ∀ a b e : EReal, pick (BitVec.ofNat 32 n) a b e = b := by
  intro n h hn a b e
  interval_cases n <;> rfl
theorem pick_third : ∀ n : ℕ, 6 ≤ n → n < 8 → ∀ a b e : EReal, pick (BitVec.ofNat 32 n) a b e = e := by
  intro n h hn a b e
  interval_cases n <;> rfl

/-- Row `r` of tile `t` -/
def rowAt (t : Fin 16) (r : Fin 2048) : Fin 4096 := ⟨t.val / 8 * 2048 + r.val, by omega⟩
/-- and its column `e`. -/
def colAt (t : Fin 16) (e : Fin 256) : Fin 2048 := ⟨t.val % 8 * 256 + e.val, by omega⟩

/-- What the kernel finds: the output's gradient, the weight, the branches and the gates. -/
abbrev xV : S4096x1024.Idx → EReal := V (F := Ideal) m c main_v1
abbrev wV : S2048x1024.Idx → EReal := V (F := Ideal) m c main_v3
abbrev fV : S4096x768.Idx → EReal := V (F := Ideal) m c main_v4
abbrev dV : S4096x768.Idx → EReal := V (F := Ideal) m c main_v5
abbrev eV : S4096x512.Idx → EReal := V (F := Ideal) m c main_v6
abbrev pV : S4096x7680.Idx → EReal := V (F := Ideal) m c main_v7

theorem blk0 (t : Fin 16) (r : Fin 2048) (i : Fin 1024) : iblk (F := Ideal) m c 0 t (ix2 r i) = xV m c (ix2 (rowAt t r) i) :=
  congrArg (xV m c) (unit_emb (n0 := 4096) (n1 := 1024) (fun a => win0_0.index t a * (![2048, 1024] : Fin 2 → ℕ) a) ![2048, 1024] _ (ix2 r i) (rowAt t r) i
    (by show win0_0.index t 0 * 2048 + r.val = t.val / 8 * 2048 + r.val; rw [(idx0 t).1.1.1]) (by show win0_0.index t 1 * 1024 + i.val = i.val; rw [(idx0 t).1.1.2]; omega))
theorem blk1 (t : Fin 16) (e : Fin 256) (i : Fin 1024) : iblk (F := Ideal) m c 1 t (ix2 e i) = wV m c (ix2 (colAt t e) i) :=
  congrArg (wV m c) (unit_emb (n0 := 2048) (n1 := 1024) (fun a => win0_1.index t a * (![256, 1024] : Fin 2 → ℕ) a) ![256, 1024] _ (ix2 e i) (colAt t e) i
    (by show win0_1.index t 0 * 256 + e.val = t.val % 8 * 256 + e.val; rw [(idx0 t).1.2.1]) (by show win0_1.index t 1 * 1024 + i.val = i.val; rw [(idx0 t).1.2.2]; omega))
theorem blk2 (t : Fin 16) (h : t.val % 8 < 3) (r : Fin 2048) (e : Fin 256) : iblk (F := Ideal) m c 2 t (ix2 r e) = fV m c (ix2 (rowAt t r) (⟨t.val % 8 * 256 + e.val, by omega⟩ : Fin 768)) :=
  congrArg (fV m c) (unit_emb (n0 := 4096) (n1 := 768) (fun a => win0_2.index t a * (![2048, 256] : Fin 2 → ℕ) a) ![2048, 256] _ (ix2 r e) (rowAt t r) (⟨t.val % 8 * 256 + e.val, by omega⟩ : Fin 768)
    (by show win0_2.index t 0 * 2048 + r.val = t.val / 8 * 2048 + r.val; rw [(idx0 t).2.1.1.1])
    (by show win0_2.index t 1 * 256 + e.val = t.val % 8 * 256 + e.val; rw [(idx0 t).2.1.1.2 h]))
theorem blk3 (t : Fin 16) (h : 3 ≤ t.val % 8) (h' : t.val % 8 < 6) (r : Fin 2048) (e : Fin 256) : iblk (F := Ideal) m c 3 t (ix2 r e) = dV m c (ix2 (rowAt t r) (⟨t.val % 8 * 256 + e.val - 768, by omega⟩ : Fin 768)) :=
  congrArg (dV m c) (unit_emb (n0 := 4096) (n1 := 768) (fun a => win0_3.index t a * (![2048, 256] : Fin 2 → ℕ) a) ![2048, 256] _ (ix2 r e) (rowAt t r) (⟨t.val % 8 * 256 + e.val - 768, by omega⟩ : Fin 768)
    (by show win0_3.index t 0 * 2048 + r.val = t.val / 8 * 2048 + r.val; rw [(idx0 t).2.1.2.1.1])
    (by show win0_3.index t 1 * 256 + e.val = t.val % 8 * 256 + e.val - 768; have := (idx0 t).2.1.2.1.2 h h'; omega))
theorem blk4 (t : Fin 16) (h : 6 ≤ t.val % 8) (r : Fin 2048) (e : Fin 256) : iblk (F := Ideal) m c 4 t (ix2 r e) = eV m c (ix2 (rowAt t r) (⟨t.val % 8 * 256 + e.val - 1536, by omega⟩ : Fin 512)) :=
  congrArg (eV m c) (unit_emb (n0 := 4096) (n1 := 512) (fun a => win0_4.index t a * (![2048, 256] : Fin 2 → ℕ) a) ![2048, 256] _ (ix2 r e) (rowAt t r) (⟨t.val % 8 * 256 + e.val - 1536, by omega⟩ : Fin 512)
    (by show win0_4.index t 0 * 2048 + r.val = t.val / 8 * 2048 + r.val; rw [(idx0 t).2.1.2.2.1])
    (by show win0_4.index t 1 * 256 + e.val = t.val % 8 * 256 + e.val - 1536; have := (idx0 t).2.1.2.2.2 h; omega))
theorem blk5 (t : Fin 16) (r : Fin 2048) (e : Fin 256) : iblk (F := Ideal) m c 5 t (ix2 r e) = pV m c (ix2 (rowAt t r) (gcol (colAt t e))) :=
  congrArg (pV m c) (unit_emb (n0 := 4096) (n1 := 7680) (fun a => win0_5.index t a * (![2048, 256] : Fin 2 → ℕ) a) ![2048, 256] _ (ix2 r e) (rowAt t r) (gcol (colAt t e))
    (by show win0_5.index t 0 * 2048 + r.val = t.val / 8 * 2048 + r.val; rw [(idx0 t).2.2.1.1])
    (by
      show win0_5.index t 1 * 256 + e.val = (gcol (colAt t e)).val
      have he := e.isLt
      rw [(idx0 t).2.2.1.2]
      unfold gcol colAt
      dsimp only
      split_ifs <;> dsimp only <;> omega))

/-- The output gradient. -/
def dyA (x : S4096x1024.Idx → EReal) (w : S2048x1024.Idx → EReal) (r : Fin 4096) (j : Fin 2048) : EReal := ∑ k : Fin 1024, x (ix2 r k) * w (ix2 j k)
/-- The branches' gradient -/
def daA (x : S4096x1024.Idx → EReal) (w : S2048x1024.Idx → EReal) (p : S4096x7680.Idx → EReal) : S4096x2048.Idx → EReal :=
  fun y => da (dyA x w (y 0) (y 1)) (p (ix2 (y 0) (gcol (y 1))))
/-- and their gates'. -/
def dgA (x : S4096x1024.Idx → EReal) (w : S2048x1024.Idx → EReal) (f d : S4096x768.Idx → EReal) (e : S4096x512.Idx → EReal) (p : S4096x7680.Idx → EReal) : S4096x2048.Idx → EReal :=
  fun y => dg (dyA x w (y 0) (y 1)) (side (fun k => f (ix2 (y 0) k)) (fun k => d (ix2 (y 0) k)) (fun k => e (ix2 (y 0) k)) (y 1)) (p (ix2 (y 0) (gcol (y 1))))

theorem dy_tile (t : Fin 16) (y : S2048x256.Idx) : dyB (iblk (F := Ideal) m c 0 t) (iblk (F := Ideal) m c 1 t) y = dyA (xV m c) (wV m c) (rowAt t (y 0)) (colAt t (y 1)) :=
  Finset.sum_congr rfl fun i _ => congrArg₂ (· * ·) (blk0 m c t (y 0) i) (blk1 m c t (y 1) i)

theorem branch_tile (t : Fin 16) (r : Fin 2048) (e : Fin 256) :
    pick (BitVec.ofNat 32 (grid0.coords t 1).val) (iblk (F := Ideal) m c 2 t (ix2 r e)) (iblk (F := Ideal) m c 3 t (ix2 r e)) (iblk (F := Ideal) m c 4 t (ix2 r e))
      = side (fun k => fV m c (ix2 (rowAt t r) k)) (fun k => dV m c (ix2 (rowAt t r) k)) (fun k => eV m c (ix2 (rowAt t r) k)) (colAt t e) := by
  rw [coord1]
  have he := e.isLt
  have hc : (colAt t e).val = t.val % 8 * 256 + e.val := rfl
  unfold side
  by_cases h : t.val % 8 < 3
  · rw [pick_first _ h, dif_pos (by omega)]; exact blk2 m c t h r e
  · by_cases h' : t.val % 8 < 6
    · rw [pick_second _ (by omega) h', dif_neg (by omega), dif_pos (by omega)]; exact blk3 m c t (by omega) h' r e
    · rw [pick_third _ (by omega) (by omega), dif_neg (by omega), dif_neg (by omega)]; exact blk4 m c t (by omega) r e

theorem da_tile (t : Fin 16) (y : S2048x256.Idx) : daB (iblk (F := Ideal) m c 0 t) (iblk (F := Ideal) m c 1 t) (iblk (F := Ideal) m c 5 t) y
    = daA (xV m c) (wV m c) (pV m c) (ix2 (rowAt t (y 0)) (colAt t (y 1))) := by
  obtain ⟨r, e, rfl⟩ : ∃ (r : Fin 2048) (e : Fin 256), y = ix2 r e := ⟨y 0, y 1, eq_ix2 y⟩
  exact congrArg₂ da (dy_tile m c t (ix2 r e)) (blk5 m c t r e)
theorem dg_tile (t : Fin 16) (y : S2048x256.Idx) : dgB (BitVec.ofNat 32 (grid0.coords t 1).val) (iblk (F := Ideal) m c 0 t) (iblk (F := Ideal) m c 1 t) (iblk (F := Ideal) m c 2 t) (iblk (F := Ideal) m c 3 t) (iblk (F := Ideal) m c 4 t) (iblk (F := Ideal) m c 5 t) y
    = dgA (xV m c) (wV m c) (fV m c) (dV m c) (eV m c) (pV m c) (ix2 (rowAt t (y 0)) (colAt t (y 1))) := by
  obtain ⟨r, e, rfl⟩ : ∃ (r : Fin 2048) (e : Fin 256), y = ix2 r e := ⟨y 0, y 1, eq_ix2 y⟩
  unfold dgB
  exact congr (congrArg₂ dg (dy_tile m c t (ix2 r e)) (branch_tile m c t r e)) (blk5 m c t r e)

/-- The tile that holds an index. -/
def ptOf (i : S4096x2048.Idx) : Fin 16 := ⟨(i 0).val / 2048 * 8 + (i 1).val / 256, by
  have h0 : (i 0).val < 4096 := (i 0).isLt
  have h1 : (i 1).val < 2048 := (i 1).isLt
  omega⟩

theorem final6 : (dats (F := Ideal) m 0 c).arrAt 6 cfg0.N = daA (xV m c) (wV m c) (pV m c) := by
  refine (dats (F := Ideal) m 0 c).arrAt_eq_of_cover 6 (daA (xV m c) (wV m c) (pV m c)) (fun t _ => ?_) fun i => ⟨ptOf i, flush0_6 _, ?_⟩
  · rw [Value.flushed6]
    funext y
    rw [out6_eq]
    have hy : (((cfg0.win 6).blk t).view.emb y : S4096x2048.Idx) = ix2 (rowAt t (y 0)) (colAt t (y 1)) :=
      unit_emb (n0 := 4096) (n1 := 2048) (fun a => win0_6.index t a * (![2048, 256] : Fin 2 → ℕ) a) ![2048, 256] _ y (rowAt t (y 0)) (colAt t (y 1))
        (by show win0_6.index t 0 * 2048 + _ = t.val / 8 * 2048 + _; rw [(idx0 t).2.2.2.1.1]) (by show win0_6.index t 1 * 256 + _ = t.val % 8 * 256 + _; rw [(idx0 t).2.2.2.1.2])
    show daB (iblk (F := Ideal) m c 0 t) (iblk (F := Ideal) m c 1 t) (iblk (F := Ideal) m c 5 t) y = daA (xV m c) (wV m c) (pV m c) (((cfg0.win 6).blk t).view.emb y)
    rw [hy]
    exact da_tile m c t y
  · have h0 : (i 0).val < 4096 := (i 0).isLt
    have h1 : (i 1).val < 2048 := (i 1).isLt
    show i ∈ ((View.whole main_v8_0).slice (win0_6.rect (ptOf i))).set
    rw [View.set_slice_whole]
    refine mem_unit (n0 := 4096) (n1 := 2048) _ _ _ i ?_ ?_
    · show win0_6.index _ 0 * 2048 ≤ (i 0).val ∧ (i 0).val < win0_6.index _ 0 * 2048 + 2048
      rw [(idx0 _).2.2.2.1.1]
      show ((i 0).val / 2048 * 8 + (i 1).val / 256) / 8 * 2048 ≤ _ ∧ _ < ((i 0).val / 2048 * 8 + (i 1).val / 256) / 8 * 2048 + 2048
      omega
    · show win0_6.index _ 1 * 256 ≤ (i 1).val ∧ (i 1).val < win0_6.index _ 1 * 256 + 256
      rw [(idx0 _).2.2.2.1.2]
      show ((i 0).val / 2048 * 8 + (i 1).val / 256) % 8 * 256 ≤ _ ∧ _ < ((i 0).val / 2048 * 8 + (i 1).val / 256) % 8 * 256 + 256
      omega

theorem final7 : (dats (F := Ideal) m 0 c).arrAt 7 cfg0.N = dgA (xV m c) (wV m c) (fV m c) (dV m c) (eV m c) (pV m c) := by
  refine (dats (F := Ideal) m 0 c).arrAt_eq_of_cover 7 (dgA (xV m c) (wV m c) (fV m c) (dV m c) (eV m c) (pV m c)) (fun t _ => ?_) fun i => ⟨ptOf i, flush0_7 _, ?_⟩
  · rw [Value.flushed7]
    funext y
    rw [out7_eq]
    have hy : (((cfg0.win 7).blk t).view.emb y : S4096x2048.Idx) = ix2 (rowAt t (y 0)) (colAt t (y 1)) :=
      unit_emb (n0 := 4096) (n1 := 2048) (fun a => win0_7.index t a * (![2048, 256] : Fin 2 → ℕ) a) ![2048, 256] _ y (rowAt t (y 0)) (colAt t (y 1))
        (by show win0_7.index t 0 * 2048 + _ = t.val / 8 * 2048 + _; rw [(idx0 t).2.2.2.2.1]) (by show win0_7.index t 1 * 256 + _ = t.val % 8 * 256 + _; rw [(idx0 t).2.2.2.2.2])
    show dgB (BitVec.ofNat 32 (grid0.coords t 1).val) (iblk (F := Ideal) m c 0 t) (iblk (F := Ideal) m c 1 t) (iblk (F := Ideal) m c 2 t) (iblk (F := Ideal) m c 3 t) (iblk (F := Ideal) m c 4 t) (iblk (F := Ideal) m c 5 t) y
      = dgA (xV m c) (wV m c) (fV m c) (dV m c) (eV m c) (pV m c) (((cfg0.win 7).blk t).view.emb y)
    rw [hy]
    exact dg_tile m c t y
  · have h0 : (i 0).val < 4096 := (i 0).isLt
    have h1 : (i 1).val < 2048 := (i 1).isLt
    show i ∈ ((View.whole main_v8_1).slice (win0_7.rect (ptOf i))).set
    rw [View.set_slice_whole]
    refine mem_unit (n0 := 4096) (n1 := 2048) _ _ _ i ?_ ?_
    · show win0_7.index _ 0 * 2048 ≤ (i 0).val ∧ (i 0).val < win0_7.index _ 0 * 2048 + 2048
      rw [(idx0 _).2.2.2.2.1]
      show ((i 0).val / 2048 * 8 + (i 1).val / 256) / 8 * 2048 ≤ _ ∧ _ < ((i 0).val / 2048 * 8 + (i 1).val / 256) / 8 * 2048 + 2048
      omega
    · show win0_7.index _ 1 * 256 ≤ (i 1).val ∧ (i 1).val < win0_7.index _ 1 * 256 + 256
      rw [(idx0 _).2.2.2.2.2]
      show ((i 0).val / 2048 * 8 + (i 1).val / 256) % 8 * 256 ≤ _ ∧ _ < ((i 0).val / 2048 * 8 + (i 1).val / 256) % 8 * 256 + 256
      omega

/-! ## What the host hands the kernel -/

abbrev argF : S2x2048x768.Idx → EReal := m ((c : Thread nD τ).loc main_arg0)
abbrev argD : S2x2048x768.Idx → EReal := m ((c : Thread nD τ).loc main_arg1)
abbrev argE : S2x2048x512.Idx → EReal := m ((c : Thread nD τ).loc main_arg2)
abbrev argP : S2x2048x7680.Idx → EReal := m ((c : Thread nD τ).loc main_arg3)
abbrev argW : S1x2048x1024.Idx → EReal := m ((c : Thread nD τ).loc main_arg4)
abbrev argX : S2x2048x1024.Idx → EReal := m ((c : Thread nD τ).loc main_arg5)

theorem xV_eq : xV m c = shapeCast S4096x1024 (argX m c) shapeCasts_S2x2048x1024_S4096x1024 := by
  unfold xV V; after_reads_simp; rfl
theorem wV_eq : wV m c = shapeCast S2048x1024 (argW m c) shapeCasts_S1x2048x1024_S2048x1024 := by
  unfold wV V; after_reads_simp; rfl
theorem fV_eq : fV m c = shapeCast S4096x768 (argF m c) shapeCasts_S2x2048x768_S4096x768 := by
  unfold fV V; after_reads_simp; rfl
theorem dV_eq : dV m c = shapeCast S4096x768 (argD m c) shapeCasts_S2x2048x768_S4096x768 := by
  unfold dV V; after_reads_simp; rfl
theorem eV_eq : eV m c = shapeCast S4096x512 (argE m c) shapeCasts_S2x2048x512_S4096x512 := by
  unfold eV V; after_reads_simp; rfl
theorem pV_eq : pV m c = shapeCast S4096x7680 (argP m c) shapeCasts_S2x2048x7680_S4096x7680 := by
  unfold pV V; after_reads_simp; rfl

theorem drop_lead (w : S1x2048x1024.Idx → EReal) (j : Fin 2048) (k : Fin 1024) :
    shapeCast S2048x1024 w shapeCasts_S1x2048x1024_S2048x1024 (ix2 j k) = w (ix3 (0 : Fin 1) j k) :=
  shapeCast_apply w _ (ix2 j k) (ix3 (0 : Fin 1) j k) (by
    rw [Shape.rowMajor_val_three, Shape.rowMajor_val_two]
    show (0 * 2048 + j.val) * 1024 + k.val = j.val * 1024 + k.val
    omega)

/-- The gradient of the gated branches at a token, -/
def dyF (w : S1x2048x1024.Idx → EReal) (x : S2x2048x1024.Idx → EReal) (b : Fin 2) (s : Fin 2048) (j : Fin 2048) : EReal :=
  ∑ k : Fin 1024, x (ix3 b s k) * w (ix3 (0 : Fin 1) j k)
/-- the branches' gradient -/
def daF (p : S2x2048x7680.Idx → EReal) (w : S1x2048x1024.Idx → EReal) (x : S2x2048x1024.Idx → EReal) : S4096x2048.Idx → EReal :=
  fun y => da (dyF w x (bat (y 0)) (pos (y 0)) (y 1)) (p (ix3 (bat (y 0)) (pos (y 0)) (gcol (y 1))))
/-- and their gates', by rows. -/
def dgF (f d : S2x2048x768.Idx → EReal) (e : S2x2048x512.Idx → EReal) (p : S2x2048x7680.Idx → EReal) (w : S1x2048x1024.Idx → EReal) (x : S2x2048x1024.Idx → EReal) : S4096x2048.Idx → EReal :=
  fun y => dg (dyF w x (bat (y 0)) (pos (y 0)) (y 1))
    (side (fun k => f (ix3 (bat (y 0)) (pos (y 0)) k)) (fun k => d (ix3 (bat (y 0)) (pos (y 0)) k)) (fun k => e (ix3 (bat (y 0)) (pos (y 0)) k)) (y 1))
    (p (ix3 (bat (y 0)) (pos (y 0)) (gcol (y 1))))

theorem dy_eq (r : Fin 4096) (j : Fin 2048) : dyA (xV m c) (wV m c) r j = dyF (argW m c) (argX m c) (bat r) (pos r) j := by
  rw [xV_eq, wV_eq]
  exact Finset.sum_congr rfl fun k _ => congrArg₂ (· * ·) (flat_apply _ _ r k) (drop_lead _ j k)

theorem da_eq : daA (xV m c) (wV m c) (pV m c) = daF (argP m c) (argW m c) (argX m c) := funext fun y => by
  obtain ⟨r, j, rfl⟩ : ∃ (r : Fin 4096) (j : Fin 2048), y = ix2 r j := ⟨y 0, y 1, eq_ix2 y⟩
  refine congrArg₂ da (dy_eq m c r j) ?_
  rw [pV_eq]; exact flat_apply _ _ r _

theorem dg_eq : dgA (xV m c) (wV m c) (fV m c) (dV m c) (eV m c) (pV m c) = dgF (argF m c) (argD m c) (argE m c) (argP m c) (argW m c) (argX m c) := funext fun y => by
  obtain ⟨r, j, rfl⟩ : ∃ (r : Fin 4096) (j : Fin 2048), y = ix2 r j := ⟨y 0, y 1, eq_ix2 y⟩
  have hf : (fun k => fV m c (ix2 r k)) = fun k => argF m c (ix3 (bat r) (pos r) k) := by rw [fV_eq]; exact funext fun k => flat_apply _ _ r k
  have hd : (fun k => dV m c (ix2 r k)) = fun k => argD m c (ix3 (bat r) (pos r) k) := by rw [dV_eq]; exact funext fun k => flat_apply _ _ r k
  have he : (fun k => eV m c (ix2 r k)) = fun k => argE m c (ix3 (bat r) (pos r) k) := by rw [eV_eq]; exact funext fun k => flat_apply _ _ r k
  show dg (dyA (xV m c) (wV m c) r j) (side (fun k => fV m c (ix2 r k)) (fun k => dV m c (ix2 r k)) (fun k => eV m c (ix2 r k)) j) (pV m c (ix2 r (gcol j))) = _
  rw [dy_eq, hf, hd, he, pV_eq]
  exact congrArg (dg _ _) (flat_apply _ _ r _)

/-- The kernel's run: both results as functions of the arguments, the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v8_0) = daF (argP m c) (argW m c) (argX m c)
      ∧ r.2.mem ((c : Thread nD τ).loc main_v8_1) = dgF (argF m c) (argD m c) (argE m c) (argP m c) (argW m c) (argX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨((h c).1.trans (final6 m c)).trans (da_eq m c), ((h c).2.1.trans (final7 m c)).trans (dg_eq m c), (h c).2.2⟩) (Value.run_blocks (F := Ideal) m ρ)

end Cert.GateGradIdeal.Val
-- ==== Proof.GateRef.lean ====
/-
  The gates' reference gradients, one operation at a time, as functions of the arguments.
-/
module
public import proofs.«01_k».proof.Proof.GateRun
public import proofs.«01_k».proof.Proof.InRef
public import proofs.«01_k».proof.Proof.MemReal
public import proofs.«01_k».proof.Proof.Gen.GateGradRefIdeal.Read
public import Idealize.ShloMosaic.Lib.IdealHost
public import Idealize.ShloMosaic.Lib.Pointwise
@[expose] public section
set_option maxRecDepth 16384
noncomputable section
namespace Cert.GateGradRefIdeal.Val
open Idealize.ShloMosaic hiding ix1 ix2 ix3 eq_ix1 eq_ix2 eq_ix3
open Idealize.ShloMosaic.ValueIdx Cert.GateGradRefIdeal Cert.GateGradRefIdeal.Gen Cert.GateGradRefIdeal.Read Cert.Cols Cert.Silu
open Cert.InGradRefIdeal.Val (at1 at2 at3)
open Cert.GateGradIdeal.Val (side gcol dyF daF dgF)
open scoped BigOperators

variable (f d : S2x2048x768.Idx → EReal) (e : S2x2048x512.Idx → EReal) (p : S2x2048x7680.Idx → EReal) (w : S1x2048x1024.Idx → EReal) (x : S2x2048x1024.Idx → EReal)
variable (b : Fin 2) (s : Fin 2048)

/-- Three arrays joined along the features. -/
theorem join_at (A B : S2x2048x768.Idx → EReal) (C : S2x2048x512.Idx → EReal) (h : Shape.Concatenates [S2x2048x768, S2x2048x768, S2x2048x512] S2x2048x2048 2) (j : Fin 2048) :
    concatenate S2x2048x2048 2 [⟨S2x2048x768, A⟩, ⟨S2x2048x768, B⟩, ⟨S2x2048x512, C⟩] h (ix3 b s j)
      = side (fun k => A (ix3 b s k)) (fun k => B (ix3 b s k)) (fun k => C (ix3 b s k)) j := by
  have hj : (ix3 b s j 2).val = j.val := rfl
  have h0 : (ix3 b s j 0).val = b.val := rfl
  have h1 : (ix3 b s j 1).val = s.val := rfl
  have hl := j.isLt
  have key : ∀ {n : ℕ} (X : (⟨3, ![2, 2048, n]⟩ : Shape).Idx → EReal) (a0 : Fin 2) (a1 : Fin 2048) (a2 k : Fin n), a0.val = b.val → a1.val = s.val → a2.val = k.val →
      X (Idealize.ShloMosaic.ix3 a0 a1 a2) = X (ix3 b s k) := by
    intro n X a0 a1 a2 k e0 e1 e2
    exact congrArg X (funext fun l => Fin.ext (by match l with | ⟨0, _⟩ => exact e0 | ⟨1, _⟩ => exact e1 | ⟨2, _⟩ => exact e2))
  unfold side
  pointwise
  split_ifs
  all_goals first
    | exact key (n := 768) A _ _ _ _ rfl rfl rfl
    | (rw [dif_pos (by omega)]; refine key (n := 768) B _ _ _ _ rfl rfl ?_; exact congrArg (· - 768) hj)
    | (rw [dif_neg (by omega)]; refine key (n := 512) C _ _ _ _ rfl rfl ?_; exact (congrArg (· - 768 - 768) hj).trans (Nat.sub_sub _ _ _))
    | omega

theorem dy_at (j : Fin 2048) : val_main_v13 (F := Ideal) w x (ix3 b s j) = dyF w x b s j := by
  rw [val_main_v13_apply]
  refine Finset.sum_congr rfl fun k _ => ?_
  rw [val_main_v11_apply]
  refine congrArg₂ (· * ·) (congrArg x (at3 _ b s k rfl rfl rfl)) (congrArg w (at3 _ (0 : Fin 1) j k rfl ?_ ?_))
  · show (j.val * 1024 + k.val) / 1024 % 2048 = j.val
    omega
  · show (j.val * 1024 + k.val) % 1024 = k.val
    omega

/-! ## Branch 0 -/

theorem gate0 (k : Fin 768) : val_main_v1 (F := Ideal) p (ix3 b s k) = p (ix3 b s (⟨2304 + k.val, by omega⟩ : Fin 7680)) := by
  rw [val_main_v1_apply, val_main_v0_apply]
  exact congrArg p (at3 _ b s _ rfl rfl (by show _ = 2304 + k.val; first | rfl | exact (Nat.zero_add _).symm | exact Nat.add_comm _ _))
theorem sg0 (k : Fin 768) : val_main_v4_2 (F := Ideal) p (ix3 b s k) = sg (p (ix3 b s (⟨2304 + k.val, by omega⟩ : Fin 7680))) := by
  rw [val_main_v4_2_apply, val_main_call0_v4_apply, val_main_call0_cst_0_apply, val_main_call0_v3_apply, val_main_call0_v2_apply, val_main_call0_cst_apply,
    val_main_call0_v1_apply, val_main_call0_v0_apply, gate0]
  exact sg_neg _
theorem slope0 (k : Fin 768) : val_main_v4_1 (F := Ideal) p (ix3 b s k)
    = sg (p (ix3 b s (⟨2304 + k.val, by omega⟩ : Fin 7680))) * (one - sg (p (ix3 b s (⟨2304 + k.val, by omega⟩ : Fin 7680)))) := by
  rw [val_main_v4_1_apply, val_main_call0_v7_apply, val_main_call0_v6_apply, val_main_call0_cst_1_apply, sg0]
  rfl
theorem dy0 (k : Fin 768) : val_main_v14 (F := Ideal) w x (ix3 b s k) = dyF w x b s ⟨0 + k.val, by omega⟩ := by
  rw [val_main_v14_apply, at3 (idx_main_v14 (ix3 b s k)) b s (⟨0 + k.val, by omega⟩ : Fin 2048) rfl rfl (by show _ = 0 + k.val; first | rfl | exact (Nat.zero_add _).symm | exact Nat.add_comm _ _), dy_at]
theorem da0 (k : Fin 768) : val_main_v24 (F := Ideal) p w x (ix3 b s k)
    = da (dyF w x b s ⟨0 + k.val, by omega⟩) (p (ix3 b s (⟨2304 + k.val, by omega⟩ : Fin 7680))) := by
  rw [val_main_v24_apply, val_main_v4_0_apply, dy0, gate0, sg0]
  exact da_ref _ _
theorem dg0 (k : Fin 768) (P a : ℝ) (hP : dyF w x b s ⟨0 + k.val, by omega⟩ = P) (ha : f (ix3 b s k) = a) : val_main_v25 (F := Ideal) f p w x (ix3 b s k)
    = dg (dyF w x b s ⟨0 + k.val, by omega⟩) (f (ix3 b s k)) (p (ix3 b s (⟨2304 + k.val, by omega⟩ : Fin 7680))) := by
  rw [val_main_v25_apply, val_main_call5_v1_apply, val_main_call5_v2_apply, val_main_call5_v0_apply, val_main_v23_apply, dy0, gate0, sg0, slope0, hP, ha]
  exact dg_ref P a _

/-! ## Branch 1 -/

theorem gate1 (k : Fin 768) : val_main_v2 (F := Ideal) p (ix3 b s k) = p (ix3 b s (⟨5376 + k.val, by omega⟩ : Fin 7680)) := by
  rw [val_main_v2_apply, val_main_v0_apply]
  exact congrArg p (at3 _ b s _ rfl rfl (by show _ = 5376 + k.val; first | rfl | exact (Nat.zero_add _).symm | exact Nat.add_comm _ _))
theorem sg1 (k : Fin 768) : val_main_v6_2 (F := Ideal) p (ix3 b s k) = sg (p (ix3 b s (⟨5376 + k.val, by omega⟩ : Fin 7680))) := by
  rw [val_main_v6_2_apply, val_main_call1_v4_apply, val_main_call1_cst_0_apply, val_main_call1_v3_apply, val_main_call1_v2_apply, val_main_call1_cst_apply,
    val_main_call1_v1_apply, val_main_call1_v0_apply, gate1]
  exact sg_neg _
theorem slope1 (k : Fin 768) : val_main_v6_1 (F := Ideal) p (ix3 b s k)
    = sg (p (ix3 b s (⟨5376 + k.val, by omega⟩ : Fin 7680))) * (one - sg (p (ix3 b s (⟨5376 + k.val, by omega⟩ : Fin 7680)))) := by
  rw [val_main_v6_1_apply, val_main_call1_v7_apply, val_main_call1_v6_apply, val_main_call1_cst_1_apply, sg1]
  rfl
theorem dy1 (k : Fin 768) : val_main_v15 (F := Ideal) w x (ix3 b s k) = dyF w x b s ⟨768 + k.val, by omega⟩ := by
  rw [val_main_v15_apply, at3 (idx_main_v15 (ix3 b s k)) b s (⟨768 + k.val, by omega⟩ : Fin 2048) rfl rfl (by show _ = 768 + k.val; first | rfl | exact (Nat.zero_add _).symm | exact Nat.add_comm _ _), dy_at]
theorem da1 (k : Fin 768) : val_main_v21 (F := Ideal) p w x (ix3 b s k)
    = da (dyF w x b s ⟨768 + k.val, by omega⟩) (p (ix3 b s (⟨5376 + k.val, by omega⟩ : Fin 7680))) := by
  rw [val_main_v21_apply, val_main_v6_0_apply, dy1, gate1, sg1]
  exact da_ref _ _
theorem dg1 (k : Fin 768) (P a : ℝ) (hP : dyF w x b s ⟨768 + k.val, by omega⟩ = P) (ha : d (ix3 b s k) = a) : val_main_v22 (F := Ideal) d p w x (ix3 b s k)
    = dg (dyF w x b s ⟨768 + k.val, by omega⟩) (d (ix3 b s k)) (p (ix3 b s (⟨5376 + k.val, by omega⟩ : Fin 7680))) := by
  rw [val_main_v22_apply, val_main_call4_v1_apply, val_main_call4_v2_apply, val_main_call4_v0_apply, val_main_v20_apply, dy1, gate1, sg1, slope1, hP, ha]
  exact dg_ref P a _

/-! ## Branch 2 -/

theorem gate2 (k : Fin 512) : val_main_v3 (F := Ideal) p (ix3 b s k) = p (ix3 b s (⟨6656 + k.val, by omega⟩ : Fin 7680)) := by
  rw [val_main_v3_apply, val_main_v0_apply]
  exact congrArg p (at3 _ b s _ rfl rfl (by show _ = 6656 + k.val; first | rfl | exact (Nat.zero_add _).symm | exact Nat.add_comm _ _))
theorem sg2 (k : Fin 512) : val_main_v8_2 (F := Ideal) p (ix3 b s k) = sg (p (ix3 b s (⟨6656 + k.val, by omega⟩ : Fin 7680))) := by
  rw [val_main_v8_2_apply, val_main_call2_v4_apply, val_main_call2_cst_0_apply, val_main_call2_v3_apply, val_main_call2_v2_apply, val_main_call2_cst_apply,
    val_main_call2_v1_apply, val_main_call2_v0_apply, gate2]
  exact sg_neg _
theorem slope2 (k : Fin 512) : val_main_v8_1 (F := Ideal) p (ix3 b s k)
    = sg (p (ix3 b s (⟨6656 + k.val, by omega⟩ : Fin 7680))) * (one - sg (p (ix3 b s (⟨6656 + k.val, by omega⟩ : Fin 7680)))) := by
  rw [val_main_v8_1_apply, val_main_call2_v7_apply, val_main_call2_v6_apply, val_main_call2_cst_1_apply, sg2]
  rfl
theorem dy2 (k : Fin 512) : val_main_v16 (F := Ideal) w x (ix3 b s k) = dyF w x b s ⟨1536 + k.val, by omega⟩ := by
  rw [val_main_v16_apply, at3 (idx_main_v16 (ix3 b s k)) b s (⟨1536 + k.val, by omega⟩ : Fin 2048) rfl rfl (by show _ = 1536 + k.val; first | rfl | exact (Nat.zero_add _).symm | exact Nat.add_comm _ _), dy_at]
theorem da2 (k : Fin 512) : val_main_v18 (F := Ideal) p w x (ix3 b s k)
    = da (dyF w x b s ⟨1536 + k.val, by omega⟩) (p (ix3 b s (⟨6656 + k.val, by omega⟩ : Fin 7680))) := by
  rw [val_main_v18_apply, val_main_v8_0_apply, dy2, gate2, sg2]
  exact da_ref _ _
theorem dg2 (k : Fin 512) (P a : ℝ) (hP : dyF w x b s ⟨1536 + k.val, by omega⟩ = P) (ha : e (ix3 b s k) = a) : val_main_v19 (F := Ideal) e p w x (ix3 b s k)
    = dg (dyF w x b s ⟨1536 + k.val, by omega⟩) (e (ix3 b s k)) (p (ix3 b s (⟨6656 + k.val, by omega⟩ : Fin 7680))) := by
  rw [val_main_v19_apply, val_main_call3_v1_apply, val_main_call3_v2_apply, val_main_call3_v0_apply, val_main_v17_apply, dy2, gate2, sg2, slope2, hP, ha]
  exact dg_ref P a _

/-! ## The branches together -/

theorem side_da (y : Fin 2048 → EReal) (q : Fin 7680 → EReal) (j : Fin 2048) :
    side (fun k => da (y ⟨0 + k.val, by omega⟩) (q ⟨2304 + k.val, by omega⟩)) (fun k => da (y ⟨768 + k.val, by omega⟩) (q ⟨5376 + k.val, by omega⟩))
      (fun k => da (y ⟨1536 + k.val, by omega⟩) (q ⟨6656 + k.val, by omega⟩)) j = da (y j) (q (gcol j)) := by
  have hl := j.isLt
  unfold side gcol
  split_ifs
  all_goals exact congrArg₂ da (congrArg y (Fin.ext (by first | rfl | (dsimp only; omega)))) (congrArg q (Fin.ext (by first | rfl | (dsimp only; omega))))

theorem side_dg (y : Fin 2048 → EReal) (F D : Fin 768 → EReal) (E : Fin 512 → EReal) (q : Fin 7680 → EReal) (j : Fin 2048) :
    side (fun k => dg (y ⟨0 + k.val, by omega⟩) (F k) (q ⟨2304 + k.val, by omega⟩)) (fun k => dg (y ⟨768 + k.val, by omega⟩) (D k) (q ⟨5376 + k.val, by omega⟩))
      (fun k => dg (y ⟨1536 + k.val, by omega⟩) (E k) (q ⟨6656 + k.val, by omega⟩)) j = dg (y j) (side F D E j) (q (gcol j)) := by
  have hl := j.isLt
  unfold side gcol
  split_ifs
  all_goals exact congr (congrArg₂ dg (congrArg y (Fin.ext (by first | rfl | (dsimp only; omega)))) rfl) (congrArg q (Fin.ext (by first | rfl | (dsimp only; omega))))

theorem da_res : val_main_v28 (F := Ideal) p w x = daF p w x := funext fun y => by
  obtain ⟨r, j, rfl⟩ : ∃ (r : Fin 4096) (j : Fin 2048), y = ix2 r j := ⟨y 0, y 1, eq_ix2 y⟩
  unfold val_main_v28
  refine (flat_apply _ _ r j).trans ?_
  rw [val_main_v27_apply]
  unfold val_main_v26
  refine (join_at (bat r) (pos r) _ _ _ concatenates_S2x2048x768_S2x2048x768_S2x2048x512_S2x2048x2048_d2 j).trans ?_
  simp only [da0, da1, da2]
  exact side_da (dyF w x (bat r) (pos r)) (fun k => p (ix3 (bat r) (pos r) k)) j

theorem dg_res (hy : ∀ b s j, ∃ P : ℝ, dyF w x b s j = P) (hf : ∀ i, ∃ a : ℝ, f i = a) (hd : ∀ i, ∃ a : ℝ, d i = a) (he : ∀ i, ∃ a : ℝ, e i = a) :
    val_main_v31 (F := Ideal) f d e p w x = dgF f d e p w x := funext fun y => by
  obtain ⟨r, j, rfl⟩ : ∃ (r : Fin 4096) (j : Fin 2048), y = ix2 r j := ⟨y 0, y 1, eq_ix2 y⟩
  unfold val_main_v31
  refine (flat_apply _ _ r j).trans ?_
  rw [val_main_v30_apply]
  unfold val_main_v29
  refine (join_at (bat r) (pos r) _ _ _ concatenates_S2x2048x768_S2x2048x768_S2x2048x512_S2x2048x2048_d2 j).trans ?_
  have e0 : (fun k => val_main_v25 (F := Ideal) f p w x (ix3 (bat r) (pos r) k)) = fun k => _ := funext fun k => by
    obtain ⟨P, hP⟩ := hy (bat r) (pos r) ⟨0 + k.val, by omega⟩
    obtain ⟨a, ha⟩ := hf (ix3 (bat r) (pos r) k)
    exact dg0 f p w x _ _ k P a hP ha
  have e1 : (fun k => val_main_v22 (F := Ideal) d p w x (ix3 (bat r) (pos r) k)) = fun k => _ := funext fun k => by
    obtain ⟨P, hP⟩ := hy (bat r) (pos r) ⟨768 + k.val, by omega⟩
    obtain ⟨a, ha⟩ := hd (ix3 (bat r) (pos r) k)
    exact dg1 d p w x _ _ k P a hP ha
  have e2 : (fun k => val_main_v19 (F := Ideal) e p w x (ix3 (bat r) (pos r) k)) = fun k => _ := funext fun k => by
    obtain ⟨P, hP⟩ := hy (bat r) (pos r) ⟨1536 + k.val, by omega⟩
    obtain ⟨a, ha⟩ := he (ix3 (bat r) (pos r) k)
    exact dg2 e p w x _ _ k P a hP ha
  rw [e0, e1, e2]
  exact side_dg (dyF w x (bat r) (pos r)) _ _ _ (fun k => p (ix3 (bat r) (pos r) k)) j

/-- A sum of products of reals is a real. -/
theorem dy_real (hw : ∀ i, ∃ a : ℝ, w i = a) (hx : ∀ i, ∃ a : ℝ, x i = a) (j : Fin 2048) : ∃ P : ℝ, dyF w x b s j = P := by
  choose W hW using hw
  choose X hX using hx
  refine ⟨∑ k : Fin 1024, X (ix3 b s k) * W (ix3 (0 : Fin 1) j k), ?_⟩
  unfold dyF
  rw [← Cert.MemGradIdeal.Val.coe_sum]
  exact Finset.sum_congr rfl fun k _ => by rw [hX, hW, EReal.coe_mul]

end Cert.GateGradRefIdeal.Val
-- ==== Proof.GateClaim.lean ====
/-
  The gates' gradient: the claims.
-/
module
public import proofs.«01_k».proof.Defs
public import proofs.«01_k».proof.Proof.Gen.Pre_gate_finite
public import proofs.«01_k».proof.Proof.GateRef
public import proofs.«01_k».proof.Proof.Finite
public import Idealize.ShloMosaic.Lib.Quiescent
@[expose] public section
set_option maxRecDepth 16384
noncomputable section
namespace Cert.GateClaim
open Idealize.ShloMosaic hiding ix2 ix3 eq_ix2 eq_ix3
open Idealize.ShloMosaic.ValueIdx Idealize.SL.Sem
open Cert.GateGradIdeal (S2x2048x768 S2x2048x512 S2x2048x7680 S1x2048x1024 S2x2048x1024)
open Cert.GateGradIdeal.Val Cert.GateGradRefIdeal.Val Cert.GateGradRefIdeal.Read

variable (f d : S2x2048x768.Idx → EReal) (e : S2x2048x512.Idx → EReal) (p : S2x2048x7680.Idx → EReal) (w : S1x2048x1024.Idx → EReal) (x : S2x2048x1024.Idx → EReal)

theorem real_of_pre (h : Cert.Pre_gate_finite.fn (F := Ideal) f d e p w x = fun _ => 1#1) :
    (∀ i, ∃ a : ℝ, f i = a) ∧ (∀ i, ∃ a : ℝ, d i = a) ∧ (∀ i, ∃ a : ℝ, e i = a) ∧ (∀ i, ∃ a : ℝ, w i = a) ∧ (∀ i, ∃ a : ℝ, x i = a) := by
  have h1 := congrFun h default
  unfold Cert.Pre_gate_finite.fn Cert.Pre_gate_finite.fn_part1 at h1
  dsimp only at h1
  obtain ⟨h1, hx⟩ := IntOp.andi_eq_one.1 h1
  obtain ⟨h1, hw⟩ := IntOp.andi_eq_one.1 h1
  obtain ⟨h1, he⟩ := IntOp.andi_eq_one.1 h1
  obtain ⟨hf, hd⟩ := IntOp.andi_eq_one.1 h1
  haveI : Subsingleton Cert.Pre_gate_finite.S_.Idx := ⟨fun a b => funext fun x => x.elim0⟩
  exact ⟨fun i => ⟨_, (Cert.Finite.real_of_lt (s := S2x2048x768) f _ i Cert.Finite.inf_bits (Host.reduce_andi_all _ _ _ _ _ hf i)).symm⟩,
    fun i => ⟨_, (Cert.Finite.real_of_lt (s := S2x2048x768) d _ i Cert.Finite.inf_bits (Host.reduce_andi_all _ _ _ _ _ hd i)).symm⟩,
    fun i => ⟨_, (Cert.Finite.real_of_lt (s := S2x2048x512) e _ i Cert.Finite.inf_bits (Host.reduce_andi_all _ _ _ _ _ he i)).symm⟩,
    fun i => ⟨_, (Cert.Finite.real_of_lt (s := S1x2048x1024) w _ i Cert.Finite.inf_bits (Host.reduce_andi_all _ _ _ _ _ hw i)).symm⟩,
    fun i => ⟨_, (Cert.Finite.real_of_lt (s := S2x2048x1024) x _ i Cert.Finite.inf_bits (Host.reduce_andi_all _ _ _ _ _ hx i)).symm⟩⟩

theorem both_eq (h : Cert.Pre_gate_finite.fn (F := Ideal) f d e p w x = fun _ => 1#1) :
    val_main_v28 (F := Ideal) p w x = daF p w x ∧ val_main_v31 (F := Ideal) f d e p w x = dgF f d e p w x := by
  obtain ⟨hf, hd, he, hw, hx⟩ := real_of_pre f d e p w x h
  exact ⟨da_res p w x, dg_res f d e p w x (fun b s j => dy_real w x b s hw hx j) hf hd he⟩

theorem frame_ref : Cert.quiescent_GateGradRefIdeal := fun m ρ _ =>
  (θ_run Cert.GateGradRefIdeal.defs _ _).mono
    (fun r h => ⟨fun c => (h c).2.2, sem_eq_zero_of_no_sems (by decide) r.2⟩) (Cert.GateGradRefIdeal.Value.run (F := Ideal) m ρ)

theorem algebraic : Cert.algebraic_GateGradIdeal_GateGradRefIdeal_pre_gate_finite := fun m g m' g' hpre hagree =>
  ⟨fun c => daF (argP m c) (argW m c) (argX m c), fun c => dgF (argF m c) (argD m c) (argE m c) (argP m c) (argW m c) (argX m c), run m g,
    (θ_run Cert.GateGradRefIdeal.defs _ _).mono (fun r h c => by
      obtain ⟨h28, h31, ha⟩ := h c
      obtain ⟨e28, e31⟩ := both_eq _ _ _ _ _ _ (hpre c)
      obtain ⟨a0, a1, a2, a3, a4, a5⟩ := hagree c
      refine ⟨h28.trans ?_, h31.trans ?_, ha⟩
      · rw [val_main_v28_eq, a3, a4, a5]; exact e28
      · rw [val_main_v31_eq, a0, a1, a2, a3, a4, a5]; exact e31) (Cert.GateGradRefIdeal.Value.run (F := Ideal) m' g')⟩

end Cert.GateClaim
-- ==== Proof.OutWKer.lean ====
/-
  The output projection's weight-gradient kernel: its four blocks put together into the product of the gated branches with the
  output gradients.
-/
module
public import proofs.«01_k».proof.Proof.Gen.OutWGradIdeal.Value
public import proofs.«01_k».proof.Proof.InCols
public import Idealize.ShloMosaic.Lib.Pipeline.ValueKit.Tiles
public import Idealize.ShloMosaic.Lib.StableHlo.ReadAt
public import Idealize.ShloMosaic.Lib.Pointwise
@[expose] public section
set_option maxRecDepth 16384
noncomputable section
namespace Cert.OutWGradIdeal.Val
open Idealize.ShloMosaic hiding ix2 ix3 eq_ix2 eq_ix3
open Idealize.ShloMosaic.ValueIdx Idealize.ShloMosaic.TcCoe Cert.OutWGradIdeal Cert.OutWGradIdeal.Gen Cert.Cols
open Idealize.SL.Sem
open scoped BigOperators

/-! ## One block -/

theorem mm_tn (l : S4096x256.Idx → EReal) (r : S4096x512.Idx → EReal) (k : Fin 256) (e : Fin 512) :
    matmul (F := Ideal) (φ₁ := .bf16) (φ₂ := .bf16) dot_S4096x256_S4096x512_S256x512_0_0_1_1_n_n none l r (constant S256x512 .f32 0x00000000#32) (ix2 k e)
      = ∑ i : Fin 4096, l (ix2 i k) * r (ix2 i e) := by
  refine (Ideal.matmul_constant_zero_apply (φ₁ := .bf16) (φ₂ := .bf16) _ none l r (ix2 k e)).trans ?_
  rw [← Equiv.sum_comp (contrEquiv1 dot_S4096x256_S4096x512_S256x512_0_0_1_1_n_n 4096 rfl rfl).symm]
  refine Finset.sum_congr rfl fun i _ => ?_
  have hk := contrEquiv1_symm_val dot_S4096x256_S4096x512_S256x512_0_0_1_1_n_n 4096 rfl rfl i
  have el : dot_S4096x256_S4096x512_S256x512_0_0_1_1_n_n.lhsIdx (ix2 k e) ((contrEquiv1 dot_S4096x256_S4096x512_S256x512_0_0_1_1_n_n 4096 rfl rfl).symm i) = ix2 i k := by
    funext a; apply Fin.ext
    match a with
    | ⟨0, _⟩ => exact hk
    | ⟨1, _⟩ => rfl
  have er : dot_S4096x256_S4096x512_S256x512_0_0_1_1_n_n.rhsIdx (ix2 k e) ((contrEquiv1 dot_S4096x256_S4096x512_S256x512_0_0_1_1_n_n 4096 rfl rfl).symm i) = ix2 i e := by
    funext a; apply Fin.ext
    match a with
    | ⟨0, _⟩ => exact hk
    | ⟨1, _⟩ => rfl
  rw [el, er]

/-- A block of the product. -/
def prodB (x0 : S4096x1024.Idx → EReal) (x1 : S4096x512.Idx → EReal) : S1024x512.Idx → EReal :=
  fun y => ∑ r : Fin 4096, x0 (ix2 r (y 0)) * x1 (ix2 r (y 1))

/-- One stored piece, from lane `o` of the rows. -/
theorem piece (x0 : S4096x1024.Idx → EReal) (x1 : S4096x512.Idx → EReal) (o : ℕ) (ho : o + 256 ≤ 1024) (inb) (inb') (k : Fin 256) (e : Fin 512) :
    matmul (F := Ideal) (φ₁ := .bf16) (φ₂ := .bf16) dot_S4096x256_S4096x512_S256x512_0_0_1_1_n_n none
      (View.ld (Val := Elt Ideal) (S := S4096x1024) (e' := .bf16) x0 (Rect.unit (s := S4096x1024) ![0, o] S4096x256.size inb)) x1 (constant S256x512 .f32 0x00000000#32) (ix2 k e)
      = prodB x0 x1 ((Rect.unit (s := S1024x512) ![o, 0] S256x512.size inb').emb (ix2 k e)) := by
  rw [mm_tn]
  have h : (Rect.unit (s := S1024x512) ![o, 0] S256x512.size inb').emb (ix2 k e) = ix2 (⟨o + k.val, by omega⟩ : Fin 1024) e :=
    unit_emb _ _ _ _ _ _ rfl (Nat.zero_add _)
  rw [h]
  refine Finset.sum_congr rfl fun r _ => congrArg (· * _) ?_
  exact View.ld_unit_apply_of _ _ _ _ _ (ix2 r (⟨o + k.val, by omega⟩ : Fin 1024)) (fun a => by
    match a with
    | ⟨0, _⟩ => exact (Nat.zero_add _).symm
    | ⟨1, _⟩ => rfl)

theorem ld_whole (x1 : Vec Ideal S4096x512 .bf16) : View.ld x1 r0_0 = x1 :=
  View.ld_unit_zero (S := S4096x512) (off := ![0, 0]) (by funext a; match a with | ⟨0, _⟩ => rfl | ⟨1, _⟩ => rfl) _ x1

theorem out_eq (x0 : S4096x1024.Idx → EReal) (x1 : S4096x512.Idx → EReal) : out0_2 (F := Ideal) x0 x1 = prodB x0 x1 := by
  funext y
  unfold out0_2
  refine View.canon_apply_of_pieces (Val := Elt Ideal) (S := S1024x512) (e := .bf16) (prodB x0 x1) _ ?_ y (cover0_2 _ _ _ _ y)
  intro p hp x
  simp only [List.mem_cons, List.not_mem_nil, or_false] at hp
  rcases hp with rfl | rfl | rfl | rfl
  · obtain ⟨k, e, rfl⟩ : ∃ (k : Fin 256) (e : Fin 512), x = ix2 k e := ⟨x 0, x 1, eq_ix2 x⟩
    dsimp only
    unfold k0_pay5 k0_pay1
    rw [ld_whole]
    simp only [shapeCast_self]
    exact piece x0 x1 768 (by decide) _ _ k e
  · obtain ⟨k, e, rfl⟩ : ∃ (k : Fin 256) (e : Fin 512), x = ix2 k e := ⟨x 0, x 1, eq_ix2 x⟩
    dsimp only
    unfold k0_pay4 k0_pay1
    rw [ld_whole]
    simp only [shapeCast_self]
    exact piece x0 x1 512 (by decide) _ _ k e
  · obtain ⟨k, e, rfl⟩ : ∃ (k : Fin 256) (e : Fin 512), x = ix2 k e := ⟨x 0, x 1, eq_ix2 x⟩
    dsimp only
    unfold k0_pay3 k0_pay1
    rw [ld_whole]
    simp only [shapeCast_self]
    exact piece x0 x1 256 (by decide) _ _ k e
  · obtain ⟨k, e, rfl⟩ : ∃ (k : Fin 256) (e : Fin 512), x = ix2 k e := ⟨x 0, x 1, eq_ix2 x⟩
    dsimp only
    unfold k0_pay2 k0_pay1
    rw [ld_whole]
    simp only [shapeCast_self]
    exact piece x0 x1 0 (by decide) _ _ k e

/-! ## The blocks of the arrays -/

variable (m : (ℓ : Loc nD τ sig) → Buf (Elt Ideal) ℓ) (c : Dev nD)

theorem idx0 : ∀ t : Fin 4,
    (win0_0.index t 0 = 0 ∧ win0_0.index t 1 = t.val / 2) ∧ (win0_1.index t 0 = 0 ∧ win0_1.index t 1 = t.val % 2)
    ∧ (win0_2.index t 0 = t.val / 2 ∧ win0_2.index t 1 = t.val % 2) := by decide +kernel

/-- Row `k` of block `t` of the weight, -/
def rowAt (t : Fin 4) (k : Fin 1024) : Fin 2048 := ⟨t.val / 2 * 1024 + k.val, by omega⟩
/-- and its column `e`. -/
def colAt (t : Fin 4) (e : Fin 512) : Fin 1024 := ⟨t.val % 2 * 512 + e.val, by omega⟩

/-- The gated branches, as the kernel finds them, -/
abbrev yV : S4096x2048.Idx → EReal := V (F := Ideal) m c main_v12
/-- and the output gradients. -/
abbrev dV : S4096x1024.Idx → EReal := V (F := Ideal) m c main_v14

theorem blk0 (t : Fin 4) (r : Fin 4096) (i : Fin 1024) : iblk (F := Ideal) m c 0 t (ix2 r i) = yV m c (ix2 r (rowAt t i)) :=
  congrArg (yV m c) (unit_emb (n0 := 4096) (n1 := 2048) (fun a => win0_0.index t a * (![4096, 1024] : Fin 2 → ℕ) a) ![4096, 1024] _ (ix2 r i) r (rowAt t i)
    (by show win0_0.index t 0 * 4096 + r.val = r.val; rw [(idx0 t).1.1]; omega) (by show win0_0.index t 1 * 1024 + i.val = t.val / 2 * 1024 + i.val; rw [(idx0 t).1.2]))
theorem blk1 (t : Fin 4) (r : Fin 4096) (e : Fin 512) : iblk (F := Ideal) m c 1 t (ix2 r e) = dV m c (ix2 r (colAt t e)) :=
  congrArg (dV m c) (unit_emb (n0 := 4096) (n1 := 1024) (fun a => win0_1.index t a * (![4096, 512] : Fin 2 → ℕ) a) ![4096, 512] _ (ix2 r e) r (colAt t e)
    (by show win0_1.index t 0 * 4096 + r.val = r.val; rw [(idx0 t).2.1.1]; omega) (by show win0_1.index t 1 * 512 + e.val = t.val % 2 * 512 + e.val; rw [(idx0 t).2.1.2]))

/-- The block that holds an index. -/
def blkOf (i : S2048x1024.Idx) : Fin 4 := ⟨(i 0).val / 1024 * 2 + (i 1).val / 512, by
  have h0 : (i 0).val < 2048 := (i 0).isLt
  have h1 : (i 1).val < 1024 := (i 1).isLt
  omega⟩

/-- The whole product. -/
def prodA (h : S4096x2048.Idx → EReal) (d : S4096x1024.Idx → EReal) : S2048x1024.Idx → EReal :=
  fun y => ∑ r : Fin 4096, h (ix2 r (y 0)) * d (ix2 r (y 1))

theorem final : (dats (F := Ideal) m 0 c).arrAt 2 cfg0.N = prodA (yV m c) (dV m c) := by
  refine (dats (F := Ideal) m 0 c).arrAt_eq_of_cover 2 (prodA (yV m c) (dV m c)) (fun t _ => ?_) fun i => ⟨blkOf i, flush0_2 _, ?_⟩
  · rw [Value.flushed2]
    funext y
    rw [out_eq]
    have hy : (((cfg0.win 2).blk t).view.emb y : S2048x1024.Idx) = ix2 (rowAt t (y 0)) (colAt t (y 1)) :=
      unit_emb (n0 := 2048) (n1 := 1024) (fun a => win0_2.index t a * (![1024, 512] : Fin 2 → ℕ) a) ![1024, 512] _ y (rowAt t (y 0)) (colAt t (y 1))
        (by show win0_2.index t 0 * 1024 + _ = t.val / 2 * 1024 + _; rw [(idx0 t).2.2.1]) (by show win0_2.index t 1 * 512 + _ = t.val % 2 * 512 + _; rw [(idx0 t).2.2.2])
    show prodB (iblk (F := Ideal) m c 0 t) (iblk (F := Ideal) m c 1 t) y = prodA (yV m c) (dV m c) (((cfg0.win 2).blk t).view.emb y)
    rw [hy]
    exact Finset.sum_congr rfl fun r _ => congrArg₂ (· * ·) (blk0 m c t r (y 0)) (blk1 m c t r (y 1))
  · have h0 : (i 0).val < 2048 := (i 0).isLt
    have h1 : (i 1).val < 1024 := (i 1).isLt
    show i ∈ ((View.whole main_v15).slice (win0_2.rect (blkOf i))).set
    rw [View.set_slice_whole]
    refine mem_unit (n0 := 2048) (n1 := 1024) _ _ _ i ?_ ?_
    · show win0_2.index _ 0 * 1024 ≤ (i 0).val ∧ (i 0).val < win0_2.index _ 0 * 1024 + 1024
      rw [(idx0 _).2.2.1]
      show ((i 0).val / 1024 * 2 + (i 1).val / 512) / 2 * 1024 ≤ _ ∧ _ < ((i 0).val / 1024 * 2 + (i 1).val / 512) / 2 * 1024 + 1024
      omega
    · show win0_2.index _ 1 * 512 ≤ (i 1).val ∧ (i 1).val < win0_2.index _ 1 * 512 + 512
      rw [(idx0 _).2.2.2]
      show ((i 0).val / 1024 * 2 + (i 1).val / 512) % 2 * 512 ≤ _ ∧ _ < ((i 0).val / 1024 * 2 + (i 1).val / 512) % 2 * 512 + 512
      omega

end Cert.OutWGradIdeal.Val
-- ==== Proof.OutWRun.lean ====
/-
  The output projection's weight gradient: what the host hands the kernel, the kernel's run as a function of the arguments, and the
  reference's gradient.
-/
module
public import proofs.«01_k».proof.Proof.OutWKer
public import proofs.«01_k».proof.Proof.Gen.OutWGradRefIdeal.Read
public import Idealize.ShloMosaic.Lib.TwoAxisContraction
@[expose] public section
set_option maxRecDepth 16384
noncomputable section
namespace Cert.OutWGradIdeal.Val
open Idealize.ShloMosaic hiding ix2 ix3 eq_ix2 eq_ix3
open Idealize.ShloMosaic.ValueIdx Idealize.ShloMosaic.TcCoe Cert.OutWGradIdeal Cert.OutWGradIdeal.Gen Cert.Cols
open Idealize.SL.Sem
open scoped BigOperators

variable (m : (ℓ : Loc nD τ sig) → Buf (Elt Ideal) ℓ) (c : Dev nD)

abbrev argF : S2x2048x768.Idx → EReal := m ((c : Thread nD τ).loc main_arg0)
abbrev argD : S2x2048x768.Idx → EReal := m ((c : Thread nD τ).loc main_arg1)
abbrev argE : S2x2048x512.Idx → EReal := m ((c : Thread nD τ).loc main_arg2)
abbrev argP : S2x2048x7680.Idx → EReal := m ((c : Thread nD τ).loc main_arg3)
abbrev argX : S2x2048x1024.Idx → EReal := m ((c : Thread nD τ).loc main_arg4)

/-- The gated branches. -/
abbrev gt (f d : S2x2048x768.Idx → EReal) (e : S2x2048x512.Idx → EReal) (p : S2x2048x7680.Idx → EReal) : S2x2048x2048.Idx → EReal :=
  Cert.OutWGradRefIdeal.Read.val_main_v11 (F := Ideal) f d e p

theorem yV_eq : yV m c = shapeCast S4096x2048 (gt (argF m c) (argD m c) (argE m c) (argP m c)) shapeCasts_S2x2048x2048_S4096x2048 := by
  unfold yV V
  after_reads_simp
  rfl
theorem dV_eq : dV m c = shapeCast S4096x1024 (argX m c) shapeCasts_S2x2048x1024_S4096x1024 := by
  unfold dV V
  after_reads_simp
  rfl

/-- The weight gradient. -/
def wg (f d : S2x2048x768.Idx → EReal) (e : S2x2048x512.Idx → EReal) (p : S2x2048x7680.Idx → EReal) (x : S2x2048x1024.Idx → EReal) : S2048x1024.Idx → EReal :=
  fun y => ∑ b : Fin 2, ∑ s : Fin 2048, gt f d e p (ix3 b s (y 0)) * x (ix3 b s (y 1))

theorem prod_eq : prodA (yV m c) (dV m c) = wg (argF m c) (argD m c) (argE m c) (argP m c) (argX m c) := funext fun y => by
  obtain ⟨i, j, rfl⟩ : ∃ (i : Fin 2048) (j : Fin 1024), y = ix2 i j := ⟨y 0, y 1, eq_ix2 y⟩
  have e : prodA (yV m c) (dV m c) (ix2 i j) = ∑ r : Fin 4096, gt (argF m c) (argD m c) (argE m c) (argP m c) (ix3 (bat r) (pos r) i) * argX m c (ix3 (bat r) (pos r) j) :=
    Finset.sum_congr rfl fun r _ => by
      rw [yV_eq, dV_eq]
      exact congrArg₂ (· * ·) (flat_apply _ _ r i) (flat_apply _ _ r j)
  refine e.trans ?_
  rw [sum_tok]
  refine Finset.sum_congr rfl fun b _ => Finset.sum_congr rfl fun s _ => ?_
  rw [bat_tok, pos_tok]

/-- The kernel's run: the result as a function of the arguments, the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v15) = wg (argF m c) (argD m c) (argE m c) (argP m c) (argX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨((h c).1.trans (final m c)).trans (prod_eq m c), (h c).2⟩) (Value.run_blocks (F := Ideal) m ρ)

/-! ## The reference -/

section
open Cert.OutWGradRefIdeal.Read

theorem dot_apply (f d : S2x2048x768.Idx → EReal) (e : S2x2048x512.Idx → EReal) (p : S2x2048x7680.Idx → EReal) (x : S2x2048x1024.Idx → EReal) (k : Fin 1024) (i : Fin 2048) :
    val_main_v13 (F := Ideal) f d e p x (ix2 k i) = wg f d e p x (ix2 i k) := by
  unfold val_main_v13 wg gt
  generalize val_main_v11 (F := Ideal) f d e p = h
  simp only [Host.dotGeneral]
  rw [Ideal.dotGeneral_apply, sum_contr2 Cert.OutWGradRefIdeal.dot_S2x2048x1024_S2x2048x2048_S1024x2048_01_01_2_2_n_n 2 2048 rfl rfl rfl]
  refine Finset.sum_congr rfl fun b _ => Finset.sum_congr rfl fun s _ => ?_
  have h0 := contrEquiv2_symm_val0 Cert.OutWGradRefIdeal.dot_S2x2048x1024_S2x2048x2048_S1024x2048_01_01_2_2_n_n 2 2048 rfl rfl rfl (b, s)
  have h1 := contrEquiv2_symm_val1 Cert.OutWGradRefIdeal.dot_S2x2048x1024_S2x2048x2048_S1024x2048_01_01_2_2_n_n 2 2048 rfl rfl rfl (b, s)
  generalize (contrEquiv2 Cert.OutWGradRefIdeal.dot_S2x2048x1024_S2x2048x2048_S1024x2048_01_01_2_2_n_n 2 2048 rfl rfl rfl).symm (b, s) = q at h0 h1 ⊢
  have el : Cert.OutWGradRefIdeal.dot_S2x2048x1024_S2x2048x2048_S1024x2048_01_01_2_2_n_n.lhsIdx (ix2 k i) q = ix3 b s k := by
    funext a; apply Fin.ext
    match a with
    | ⟨0, _⟩ => exact h0
    | ⟨1, _⟩ => exact h1
    | ⟨2, _⟩ => rfl
  have er : Cert.OutWGradRefIdeal.dot_S2x2048x1024_S2x2048x2048_S1024x2048_01_01_2_2_n_n.rhsIdx (ix2 k i) q = ix3 b s i := by
    funext a; apply Fin.ext
    match a with
    | ⟨0, _⟩ => exact h0
    | ⟨1, _⟩ => exact h1
    | ⟨2, _⟩ => rfl
  rw [el, er]
  exact mul_comm (G := EReal) _ _

theorem ref_eq (f d : S2x2048x768.Idx → EReal) (e : S2x2048x512.Idx → EReal) (p : S2x2048x7680.Idx → EReal) (x : S2x2048x1024.Idx → EReal) : val_main_v15 (F := Ideal) f d e p x = wg f d e p x := funext fun y => by
  obtain ⟨i, k, rfl⟩ : ∃ (i : Fin 2048) (k : Fin 1024), y = ix2 i k := ⟨y 0, y 1, eq_ix2 y⟩
  rw [val_main_v15_apply]
  refine (val_main_v14_apply (F := Ideal) f d e p x (ix2 i k)).trans (Eq.trans ?_ (dot_apply f d e p x k i))
  exact congrArg _ (funext fun a => by match a with | ⟨0, _⟩ => rfl | ⟨1, _⟩ => rfl)
end
end Cert.OutWGradIdeal.Val
-- ==== Proof.OutWClaim.lean ====
/-
  The output projection's weight gradient: the claims.
-/
module
public import proofs.«01_k».proof.Defs
public import proofs.«01_k».proof.Proof.OutWRun
public import Idealize.ShloMosaic.Lib.Quiescent
@[expose] public section
set_option maxRecDepth 16384
noncomputable section
namespace Cert.OutWClaim
open Idealize.ShloMosaic hiding ix2 ix3 eq_ix2 eq_ix3
open Idealize.ShloMosaic.ValueIdx Idealize.SL.Sem
open Cert.OutWGradIdeal.Val Cert.OutWGradRefIdeal.Read

theorem frame_ref : Cert.quiescent_OutWGradRefIdeal := fun m ρ _ =>
  (θ_run Cert.OutWGradRefIdeal.defs _ _).mono
    (fun r h => ⟨fun c => (h c).2, sem_eq_zero_of_no_sems (by decide) r.2⟩) (Cert.OutWGradRefIdeal.Value.run (F := Ideal) m ρ)

theorem algebraic : Cert.algebraic_OutWGradIdeal_OutWGradRefIdeal := fun m g m' g' _ hagree =>
  ⟨fun c => wg (argF m c) (argD m c) (argE m c) (argP m c) (argX m c), run m g,
    (θ_run Cert.OutWGradRefIdeal.defs _ _).mono (fun r h c => by
      obtain ⟨h15, ha⟩ := h c
      obtain ⟨a0, a1, a2, a3, a4⟩ := hagree c
      refine ⟨h15.trans ?_, ha⟩
      rw [val_main_v15_eq, a0, a1, a2, a3, a4]; exact ref_eq _ _ _ _ _) (Cert.OutWGradRefIdeal.Value.run (F := Ideal) m' g')⟩

end Cert.OutWClaim
-- ==== Proof.LossRow.lean ====
/-
  The loss head on one row, over the extended reals: the gated branches, the residual sum, the normalized row's error and the
  gradient that comes back through the norm.
-/
module
public import proofs.«01_k».proof.Proof.InRms
public import proofs.«01_k».proof.Proof.GateRun
@[expose] public section
noncomputable section
namespace Cert.LossRow
open Idealize.ShloMosaic hiding ix1 ix2 ix3 eq_ix1 eq_ix2 eq_ix3
open Cert.Silu
open Cert.InGradIdeal.Val (rms nrm dxr cN sq_nonneg' sum_mul_nonneg)
open Cert.GateGradIdeal.Val (side gcol)
open scoped BigOperators

/-- One over the row length -/
abbrev cD : EReal := FloatOps.ofBits (F := Ideal) .f32 0x3A800000#32
/-- and half of it. -/
abbrev cL : EReal := FloatOps.ofBits (F := Ideal) .f32 0x3A000000#32
/-- A half, -/
abbrev cF : EReal := FloatOps.ofBits (F := Ideal) .f32 0x3F000000#32
/-- and two. -/
abbrev cT : EReal := FloatOps.ofBits (F := Ideal) .f32 0x40000000#32

theorem cD_eq : cD = ((1 / 1024 : ℝ) : EReal) := by
  show FloatOps.ofBits (F := Ideal) .f32 0x3A800000#32 = _
  rw [Ideal.ofBits_def]
  simp [Ideal.ofBits, Ideal.ieee, -EReal.coe_mul]; norm_num
theorem cL_eq : cL = ((1 / 2048 : ℝ) : EReal) := by
  show FloatOps.ofBits (F := Ideal) .f32 0x3A000000#32 = _
  rw [Ideal.ofBits_def]
  simp [Ideal.ofBits, Ideal.ieee, -EReal.coe_mul]; norm_num
theorem cF_eq : cF = ((1 / 2 : ℝ) : EReal) := by
  show FloatOps.ofBits (F := Ideal) .f32 0x3F000000#32 = _
  rw [Ideal.ofBits_def]
  simp [Ideal.ofBits, Ideal.ieee, -EReal.coe_mul]; norm_num
theorem cT_eq : cT = ((2 : ℝ) : EReal) := by
  show FloatOps.ofBits (F := Ideal) .f32 0x40000000#32 = _
  rw [Ideal.ofBits_def]
  simp [Ideal.ofBits, Ideal.ieee, -EReal.coe_mul]; norm_num

/-- The gate's function as the kernel writes it, -/
def gs (g : EReal) : EReal := Ideal.div g (one + Ideal.exp (zero - g))
/-- and as the reference does. -/
theorem gs_eq (g : EReal) : gs g = g * sg g := by
  have hp : ∀ e : EReal, 0 ≤ e → (1 : EReal) + e ≠ 0 := fun e he h => by
    have h1 : (0 : EReal) < 1 + e := lt_of_lt_of_le zero_lt_one (le_add_of_nonneg_right he)
    exact h1.ne' h
  have he : 0 ≤ Ideal.exp (zero - g) := by
    induction (zero - g) with
    | bot => rw [Ideal.exp_bot]
    | top => rw [Ideal.exp_top]; exact le_top
    | coe r => rw [Ideal.exp_coe]; exact EReal.coe_nonneg.2 (Real.exp_pos r).le
  unfold gs sg
  rw [one_eq]
  unfold Ideal.div
  rw [if_neg (hp _ he), if_neg (hp _ he), one_mul]

/-- The gated branches side by side. -/
def yr (f d : Fin 768 → EReal) (e : Fin 512 → EReal) (pf pd : Fin 768 → EReal) (pe : Fin 512 → EReal) (j : Fin 2048) : EReal :=
  side (fun k => f k * gs (pf k)) (fun k => d k * gs (pd k)) (fun k => e k * gs (pe k)) j
/-- The row that enters the norm. -/
def hr (y : Fin 2048 → EReal) (w : Fin 2048 → Fin 1024 → EReal) (x : Fin 1024 → EReal) (i : Fin 1024) : EReal := x i + ∑ k : Fin 2048, y k * w k i
/-- The error, -/
def er (h g t : Fin 1024 → EReal) (i : Fin 1024) : EReal := nrm h i * g i - t i
/-- the gradient of the normalized and scaled row -/
def ot (h g t : Fin 1024 → EReal) (i : Fin 1024) : EReal := er h g t i * cD
/-- and that of the row. -/
def dl (h g t : Fin 1024 → EReal) (i : Fin 1024) : EReal :=
  rms h * (ot h g t i * g i - nrm h i * Ideal.div (∑ k : Fin 1024, ot h g t k * g k * nrm h k) cN)

theorem dl_eq (h g t : Fin 1024 → EReal) (i : Fin 1024) : dxr (ot h g t) h g (fun _ => 0) i = dl h g t i := by
  unfold dxr dl
  exact add_zero _

/-- A factor drawn out of a sum of squares. -/
theorem sum_sq {ι : Type*} (s : Finset ι) (f : ι → EReal) : cL * ∑ k ∈ s, f k * f k = ∑ k ∈ s, cL * (f k * f k) := by
  rw [mul_comm, cL_eq, sum_mul_nonneg s _ _ (by norm_num)]
  exact Finset.sum_congr rfl fun k _ => mul_comm _ _

end Cert.LossRow
-- ==== Proof.OutLossKer.lean ====
/-
  The loss head's kernel: what each payload is on a row, the two halves of a block put together, and the two running sums.
-/
module
public import proofs.«01_k».proof.Proof.LossRow
public import proofs.«01_k».proof.Proof.Gen.OutLossIdeal.Value
public import Idealize.ShloMosaic.Lib.Pipeline.ValueKit
public import Idealize.ShloMosaic.Lib.WritesUnit
public import Idealize.ShloMosaic.Lib.VecWindow
public import Idealize.ShloMosaic.Lib.Pointwise
@[expose] public section
set_option maxRecDepth 16384
noncomputable section
namespace Cert.OutLossIdeal.Val
open Idealize.ShloMosaic hiding ix1 ix2 ix3 eq_ix1 eq_ix2 eq_ix3
open Idealize.ShloMosaic.ValueIdx Idealize.ShloMosaic.TcCoe Idealize.ShloMosaic.Tactic Cert.OutLossIdeal Cert.OutLossIdeal.Gen Cert.Cols
open Cert.LossRow
open Cert.InGradIdeal.Val (rms nrm cN cE)
open Cert.GateGradIdeal.Val (side)
open Idealize.SL.Sem
open scoped BigOperators

/-! ## The payloads read at an index -/

theorem lift_row (r : Fin 128) (k : Fin 1024) : (reduces_S128x1024_S128).lift (ix1 r) k = ix2 r k := by
  funext a; apply Fin.ext
  match a with
  | ⟨0, _⟩ => rfl
  | ⟨1, _⟩ => rfl

theorem lift_col (i : Fin 1024) (r : Fin 128) : (reduces_S128x1024_S1024).lift (ix1 i) r = ix2 r i := by
  funext a; apply Fin.ext
  match a with
  | ⟨0, _⟩ => rfl
  | ⟨1, _⟩ => rfl

theorem row_sum (v : FVec Ideal S128x1024 .f32) (r : Fin 128) :
    multiReduction .add [1] S128 v 0x00000000#32 reduces_S128x1024_S128 (.inl rfl) rfl (ix1 r) = ∑ k : Fin 1024, v (ix2 r k) :=
  (Ideal.multiReduction_add_single v _ reduces_S128x1024_S128 (.inl rfl) rfl (ix1 r)).trans
    (Finset.sum_congr rfl fun k _ => congrArg v (lift_row r k))

theorem col_sum (v : FVec Ideal S128x1024 .f32) (i : Fin 1024) :
    multiReduction .add [0] S1024 v 0x00000000#32 reduces_S128x1024_S1024 (.inl rfl) rfl (ix1 i) = ∑ r : Fin 128, v (ix2 r i) :=
  (Ideal.multiReduction_add_single v _ reduces_S128x1024_S1024 (.inl rfl) rfl (ix1 i)).trans
    (Finset.sum_congr rfl fun r _ => congrArg v (lift_col i r))

theorem keep_apply (v : FVec Ideal S128 .f32) (r : Fin 128) : shapeCast S128x1 v shapeCasts_S128_S128x1 (ix2 r (0 : Fin 1)) = v (ix1 r) :=
  shapeCast_apply v shapeCasts_S128_S128x1 (ix2 r (0 : Fin 1)) (ix1 r) (by
    rw [Shape.rowMajor_val_one, Shape.rowMajor_val_two]
    show r.val = r.val * 1 + 0
    omega)

theorem row_apply (v : FVec Ideal S1024 .f32) (i : Fin 1024) : shapeCast S1x1024 v shapeCasts_S1024_S1x1024 (ix2 (0 : Fin 1) i) = v (ix1 i) :=
  shapeCast_apply v shapeCasts_S1024_S1x1024 (ix2 (0 : Fin 1) i) (ix1 i) (by
    rw [Shape.rowMajor_val_one, Shape.rowMajor_val_two]
    show i.val = 0 * 1024 + i.val
    omega)

theorem lanes_apply (v : FVec Ideal S128x1 .f32) (r : Fin 128) (i : Fin 1024) :
    broadcastTo S128x1024 v broadcasts_S128x1_S128x1024 (ix2 r i) = v (ix2 r (0 : Fin 1)) :=
  broadcastTo_apply v broadcasts_S128x1_S128x1024 (ix2 r i) (ix2 r (0 : Fin 1)) (fun a => by
    match a with
    | ⟨0, _⟩ => rfl
    | ⟨1, _⟩ => rfl)

theorem rows_apply (v : FVec Ideal S1x1024 .f32) (r : Fin 128) (i : Fin 1024) :
    broadcastTo S128x1024 v broadcasts_S1x1024_S128x1024 (ix2 r i) = v (ix2 (0 : Fin 1) i) :=
  broadcastTo_apply v broadcasts_S1x1024_S128x1024 (ix2 r i) (ix2 (0 : Fin 1) i) (fun a => by
    match a with
    | ⟨0, _⟩ => rfl
    | ⟨1, _⟩ => rfl)

/-- The gated branches' row of a block of rows, -/
def yRow {n : ℕ} (f d : (⟨2, ![n, 768]⟩ : Shape).Idx → EReal) (e : (⟨2, ![n, 512]⟩ : Shape).Idx → EReal) (pf pd : (⟨2, ![n, 768]⟩ : Shape).Idx → EReal)
    (pe : (⟨2, ![n, 512]⟩ : Shape).Idx → EReal) (r : Fin n) : Fin 2048 → EReal :=
  yr (fun k => f (ix2 r k)) (fun k => d (ix2 r k)) (fun k => e (ix2 r k)) (fun k => pf (ix2 r k)) (fun k => pd (ix2 r k)) (fun k => pe (ix2 r k))
/-- and the row that enters the norm. -/
def hRow {n : ℕ} (f d : (⟨2, ![n, 768]⟩ : Shape).Idx → EReal) (e : (⟨2, ![n, 512]⟩ : Shape).Idx → EReal) (pf pd : (⟨2, ![n, 768]⟩ : Shape).Idx → EReal)
    (pe : (⟨2, ![n, 512]⟩ : Shape).Idx → EReal) (w : S2048x1024.Idx → EReal) (x : (⟨2, ![n, 1024]⟩ : Shape).Idx → EReal) (r : Fin n) : Fin 1024 → EReal :=
  hr (yRow f d e pf pd pe r) (fun k i => w (ix2 k i)) (fun i => x (ix2 r i))

theorem join_at (A B : S128x768.Idx → EReal) (C : S128x512.Idx → EReal) (h : Shape.Concatenates [S128x768, S128x768, S128x512] S128x2048 1) (r : Fin 128) (j : Fin 2048) :
    concatenate S128x2048 1 [⟨S128x768, A⟩, ⟨S128x768, B⟩, ⟨S128x512, C⟩] h (ix2 r j)
      = side (fun k => A (ix2 r k)) (fun k => B (ix2 r k)) (fun k => C (ix2 r k)) j := by
  have hj : (ix2 r j 1).val = j.val := rfl
  have h0 : (ix2 r j 0).val = r.val := rfl
  have hl := j.isLt
  have key : ∀ {n : ℕ} (X : (⟨2, ![128, n]⟩ : Shape).Idx → EReal) (a0 : Fin 128) (a1 k : Fin n), a0.val = r.val → a1.val = k.val →
      X (Idealize.ShloMosaic.ix2 a0 a1) = X (ix2 r k) := by
    intro n X a0 a1 k e0 e1
    exact congrArg X (funext fun l => Fin.ext (by match l with | ⟨0, _⟩ => exact e0 | ⟨1, _⟩ => exact e1))
  unfold side
  pointwise
  split_ifs
  all_goals first
    | exact key (n := 768) A _ _ _ rfl rfl
    | (rw [dif_pos (by omega)]; refine key (n := 768) B _ _ _ rfl ?_; exact congrArg (· - 768) hj)
    | (rw [dif_neg (by omega)]; refine key (n := 512) C _ _ _ rfl ?_; exact (congrArg (· - 768 - 768) hj).trans (Nat.sub_sub _ _ _))
    | omega

theorem pay4_eq (f pf : S128x768.Idx → EReal) : k0_pay4 (F := Ideal) f pf = fun y => f y * gs (pf y) := by
  unfold k0_pay4; simp only [shapeCast_self]; rfl
theorem pay5_eq (f pf : S128x768.Idx → EReal) : k0_pay5 (F := Ideal) f pf = fun y => f y * gs (pf y) := by
  unfold k0_pay5; simp only [shapeCast_self]; rfl
theorem pay6_eq (e : S128x512.Idx → EReal) : k0_pay6 (F := Ideal) e = e := by unfold k0_pay6; exact shapeCast_self _ _
theorem pay2_eq (w : S2048x1024.Idx → EReal) : k0_pay2 (F := Ideal) w = w := by unfold k0_pay2; exact shapeCast_self _ _
theorem pay3_eq (g : S1x1024.Idx → EReal) : k0_pay3 (F := Ideal) g = g := by unfold k0_pay3; exact shapeCast_self _ _
theorem pay1_apply (y : S8x1024.Idx) : k0_pay1 (F := Ideal) y = 0 := by
  unfold k0_pay1
  exact Ideal.ofBits_zero_f32

theorem pay7_apply (f d pf pd : S128x768.Idx → EReal) (e pe : S128x512.Idx → EReal) (r : Fin 128) (j : Fin 2048) :
    k0_pay7 (F := Ideal) (k0_pay4 f pf) (k0_pay5 d pd) (k0_pay6 e) pe (ix2 r j) = yRow f d e pf pd pe r j := by
  rw [pay4_eq, pay5_eq, pay6_eq]
  unfold k0_pay7
  simp only [shapeCast_self]
  exact join_at _ _ _ _ r j

theorem mm_nn (l : S128x2048.Idx → EReal) (w : S2048x1024.Idx → EReal) (r : Fin 128) (i : Fin 1024) :
    matmul (F := Ideal) (φ₁ := .bf16) (φ₂ := .bf16) dot_S128x2048_S2048x1024_S128x1024_1_0_0_1_n_n none l w (constant S128x1024 .f32 0x00000000#32) (ix2 r i)
      = ∑ k : Fin 2048, l (ix2 r k) * w (ix2 k i) := by
  refine (Ideal.matmul_constant_zero_apply (φ₁ := .bf16) (φ₂ := .bf16) _ none l w (ix2 r i)).trans ?_
  rw [← Equiv.sum_comp (contrEquiv1 dot_S128x2048_S2048x1024_S128x1024_1_0_0_1_n_n 2048 rfl rfl).symm]
  refine Finset.sum_congr rfl fun k _ => ?_
  have hk := contrEquiv1_symm_val dot_S128x2048_S2048x1024_S128x1024_1_0_0_1_n_n 2048 rfl rfl k
  have el : dot_S128x2048_S2048x1024_S128x1024_1_0_0_1_n_n.lhsIdx (ix2 r i) ((contrEquiv1 dot_S128x2048_S2048x1024_S128x1024_1_0_0_1_n_n 2048 rfl rfl).symm k) = ix2 r k := by
    funext a; apply Fin.ext
    match a with
    | ⟨0, _⟩ => rfl
    | ⟨1, _⟩ => exact hk
  have er : dot_S128x2048_S2048x1024_S128x1024_1_0_0_1_n_n.rhsIdx (ix2 r i) ((contrEquiv1 dot_S128x2048_S2048x1024_S128x1024_1_0_0_1_n_n 2048 rfl rfl).symm k) = ix2 k i := by
    funext a; apply Fin.ext
    match a with
    | ⟨0, _⟩ => exact hk
    | ⟨1, _⟩ => rfl
  rw [el, er]

theorem pay8_apply (w : S2048x1024.Idx → EReal) (f d pf pd : S128x768.Idx → EReal) (e pe : S128x512.Idx → EReal) (x : S128x1024.Idx → EReal) (r : Fin 128) (i : Fin 1024) :
    k0_pay8 (F := Ideal) w (k0_pay4 f pf) (k0_pay5 d pd) (k0_pay6 e) pe x (ix2 r i) = hRow f d e pf pd pe w x r i := by
  have e7 := pay7_apply f d pf pd e pe
  unfold k0_pay8
  simp only [shapeCast_self]
  refine congrArg (x (ix2 r i) + ·) ((mm_nn _ w r i).trans (Finset.sum_congr rfl fun k _ => congrArg (· * w (ix2 k i)) (e7 r k)))

variable (w : S2048x1024.Idx → EReal) (g : S1x1024.Idx → EReal) (a b : S128x768.Idx → EReal) (e pe : S128x512.Idx → EReal) (x t : S128x1024.Idx → EReal)

/-- A row of the residual sum. -/
abbrev hP (r : Fin 128) : Fin 1024 → EReal := fun k => k0_pay8 (F := Ideal) w a b e pe x (ix2 r k)
abbrev gP : Fin 1024 → EReal := fun k => g (ix2 (0 : Fin 1) k)
abbrev tP (r : Fin 128) : Fin 1024 → EReal := fun k => t (ix2 r k)

theorem pay9_apply (r : Fin 128) : k0_pay9 (F := Ideal) w a b e pe x (ix2 r (0 : Fin 1)) = rms (hP w a b e pe x r) := by
  unfold k0_pay9 rms
  refine congrArg (fun s : EReal => Ideal.rsqrt (Ideal.div s cN + cE)) ?_
  exact (keep_apply _ r).trans (row_sum _ r)

theorem pay10_apply (r : Fin 128) (i : Fin 1024) : k0_pay10 (F := Ideal) w a b e pe x (ix2 r i) = nrm (hP w a b e pe x r) i := by
  unfold k0_pay10 nrm
  exact congrArg (k0_pay8 (F := Ideal) w a b e pe x (ix2 r i) * ·) ((lanes_apply _ r i).trans (pay9_apply w a b e pe x r))

theorem pay11_apply (r : Fin 128) (i : Fin 1024) : k0_pay11 (F := Ideal) w g a b e pe x t (ix2 r i) = er (hP w a b e pe x r) (gP g) (tP t r) i := by
  have e10 := pay10_apply w a b e pe x r i
  unfold k0_pay11 er
  simp only [shapeCast_self]
  exact congrArg (· - t (ix2 r i)) (congrArg₂ (· * ·) e10 (rows_apply g r i))

theorem pay12_apply (r : Fin 128) (i : Fin 1024) : k0_pay12 (F := Ideal) w g a b e pe x t (ix2 r i) = ot (hP w a b e pe x r) (gP g) (tP t r) i := by
  unfold k0_pay12 ot
  exact congrArg (· * cD) (pay11_apply w g a b e pe x t r i)

theorem pay15_apply (r : Fin 128) (i : Fin 1024) : k0_pay15 (F := Ideal) (k0_pay13 w g a b e pe x t) (k0_pay14 w a b e pe x) (ix2 r i)
    = dl (hP w a b e pe x r) (gP g) (tP t r) i := by
  have e9 := pay9_apply w a b e pe x
  have e10 := pay10_apply w a b e pe x
  have e12 := pay12_apply w g a b e pe x t
  unfold k0_pay15 k0_pay13 k0_pay14 dl
  generalize k0_pay9 (F := Ideal) w a b e pe x = p9 at e9 ⊢
  generalize k0_pay10 (F := Ideal) w a b e pe x = p10 at e10 ⊢
  generalize k0_pay12 (F := Ideal) w g a b e pe x t = p12 at e12 ⊢
  have hs : shapeCast S128x1 (multiReduction .add [1] S128 (mulf (mulf p12 (broadcastTo S128x1024 g broadcasts_S1x1024_S128x1024)) p10) 0x00000000#32
      reduces_S128x1024_S128 (.inl rfl) rfl) shapeCasts_S128_S128x1 (ix2 r (0 : Fin 1))
      = ∑ k : Fin 1024, ot (hP w a b e pe x r) (gP g) (tP t r) k * gP g k * nrm (hP w a b e pe x r) k := by
    refine ((keep_apply _ r).trans (row_sum _ r)).trans (Finset.sum_congr rfl fun k _ => ?_)
    exact congrArg₂ (· * ·) (congrArg₂ (· * ·) (e12 r k) (rows_apply g r k)) (e10 r k)
  refine congrArg₂ (· * ·) ((lanes_apply p9 r i).trans (e9 r)) (congrArg₂ (· - ·)
    (congrArg₂ (· * ·) (e12 r i) (rows_apply g r i)) (congrArg₂ (· * ·) (e10 r i) ?_))
  refine (lanes_apply _ r i).trans ?_
  exact congrArg (Ideal.div · cN) hs

theorem pay17_apply (v : S1x1024.Idx → EReal) (i : Fin 1024) : k0_pay17 (F := Ideal) (k0_pay10 w a b e pe x) (k0_pay12 w g a b e pe x t) v (ix2 (0 : Fin 1) i)
    = v (ix2 (0 : Fin 1) i) + ∑ r : Fin 128, ot (hP w a b e pe x r) (gP g) (tP t r) i * nrm (hP w a b e pe x r) i := by
  have e10 := pay10_apply w a b e pe x
  have e12 := pay12_apply w g a b e pe x t
  unfold k0_pay17
  simp only [shapeCast_self]
  exact congrArg (v (ix2 (0 : Fin 1) i) + ·) (((row_apply _ i).trans (col_sum _ i)).trans (Finset.sum_congr rfl fun r _ => congrArg₂ (· * ·) (e12 r i) (e10 r i)))

theorem pay18_apply (v : S1x1024.Idx → EReal) (i : Fin 1024) : k0_pay18 (F := Ideal) (k0_pay11 w g a b e pe x t) v (ix2 (0 : Fin 1) i)
    = v (ix2 (0 : Fin 1) i) + ∑ r : Fin 128, cL * (er (hP w a b e pe x r) (gP g) (tP t r) i * er (hP w a b e pe x r) (gP g) (tP t r) i) := by
  have e11 := pay11_apply w g a b e pe x t
  rw [← sum_sq]
  unfold k0_pay18
  simp only [shapeCast_self]
  exact congrArg (v (ix2 (0 : Fin 1) i) + ·) (congrArg (cL * ·) (((row_apply _ i).trans (col_sum _ i)).trans
    (Finset.sum_congr rfl fun r _ => congrArg₂ (· * ·) (e11 r i) (e11 r i))))

end Cert.OutLossIdeal.Val
-- ==== Proof.OutLossAcc.lean ====
/-
  The loss head's kernel: what a grid point leaves in its four outputs.
-/
module
public import proofs.«01_k».proof.Proof.OutLossKer
@[expose] public section
set_option maxRecDepth 16384
noncomputable section
namespace Cert.OutLossIdeal.Val
open Idealize.ShloMosaic hiding ix1 ix2 ix3 eq_ix1 eq_ix2 eq_ix3
open Idealize.ShloMosaic.ValueIdx Idealize.ShloMosaic.TcCoe Idealize.ShloMosaic.Tactic Cert.OutLossIdeal Cert.OutLossIdeal.Gen Cert.Cols
open Cert.LossRow
open Cert.InGradIdeal.Val (rms nrm cN cE)
open Idealize.SL.Sem
open scoped BigOperators

/-! ## The second half's payloads are the first half's -/

section Halves
variable (w : FVec Ideal S2048x1024 .bf16) (g : FVec Ideal S1x1024 .f32) (f d : FVec Ideal S128x768 .f32) (e : FVec Ideal S128x512 .f32)
  (pf pd : FVec Ideal S128x768 .bf16) (pe : FVec Ideal S128x512 .bf16) (x t : FVec Ideal S128x1024 .f32) (v : FVec Ideal S1x1024 .f32)
theorem p20 : k0_pay20 (F := Ideal) (k0_pay19 f pf) d pd e pe = k0_pay7 (k0_pay4 f pf) (k0_pay5 d pd) (k0_pay6 e) pe := rfl
theorem p27 : k0_pay27 (F := Ideal) g (k0_pay21 w (k0_pay19 f pf) d pd e pe x) (k0_pay22 w (k0_pay19 f pf) d pd e pe x) (k0_pay23 w (k0_pay19 f pf) d pd e pe x) t
    = k0_pay15 (k0_pay13 w g (k0_pay4 f pf) (k0_pay5 d pd) (k0_pay6 e) pe x t) (k0_pay14 w (k0_pay4 f pf) (k0_pay5 d pd) (k0_pay6 e) pe x) := rfl
theorem p29 : k0_pay29 (F := Ideal) g (k0_pay21 w (k0_pay19 f pf) d pd e pe x) (k0_pay23 w (k0_pay19 f pf) d pd e pe x) t v
    = k0_pay17 (k0_pay10 w (k0_pay4 f pf) (k0_pay5 d pd) (k0_pay6 e) pe x) (k0_pay12 w g (k0_pay4 f pf) (k0_pay5 d pd) (k0_pay6 e) pe x t) v := rfl
theorem p30 : k0_pay30 (F := Ideal) g (k0_pay21 w (k0_pay19 f pf) d pd e pe x) (k0_pay23 w (k0_pay19 f pf) d pd e pe x) t v
    = k0_pay18 (k0_pay11 w g (k0_pay4 f pf) (k0_pay5 d pd) (k0_pay6 e) pe x t) v := rfl
end Halves

/-! ## Half a block -/

/-- The 128 rows from row `o` of a block. -/
def Half {n : ℕ} (o : ℕ) (ho : o + 128 ≤ 256) (x : (⟨2, ![128, n]⟩ : Shape).Idx → EReal) (X : (⟨2, ![256, n]⟩ : Shape).Idx → EReal) : Prop :=
  ∀ (r : Fin 128) (k : Fin n), x (ix2 r k) = X (ix2 (⟨o + r.val, by omega⟩ : Fin 256) k)

theorem half_ld {n : ℕ} (x : (⟨2, ![256, n]⟩ : Shape).Idx → EReal) (e' : EltTy) (o : ℕ) (ho : o + 128 ≤ 256) (inb) :
    Half o ho (View.ld (Val := fun _ => EReal) (S := ⟨2, ![256, n]⟩) (e' := e') x (Rect.unit (s := ⟨2, ![256, n]⟩) ![o, 0] ![128, n] inb)) x := fun r k =>
  View.ld_unit_apply_of _ _ _ _ _ (ix2 (⟨o + r.val, by omega⟩ : Fin 256) k) (fun a => by
    match a with
    | ⟨0, _⟩ => rfl
    | ⟨1, _⟩ => exact (Nat.zero_add _).symm)

section Pieces
variable {o : ℕ} {ho : o + 128 ≤ 256}
  {f d pf pd : S128x768.Idx → EReal} {e pe : S128x512.Idx → EReal} {x t : S128x1024.Idx → EReal}
  {X0 X1 X3 X4 : S256x768.Idx → EReal} {X2 X5 : S256x512.Idx → EReal} {X7 X8 : S256x1024.Idx → EReal} (X6 : S2048x1024.Idx → EReal) (X9 : S1x1024.Idx → EReal)
  (h0 : Half o ho f X0) (h1 : Half o ho d X1) (h2 : Half o ho e X2) (h3 : Half o ho pf X3) (h4 : Half o ho pd X4) (h5 : Half o ho pe X5)
  (h7 : Half o ho x X7) (h8 : Half o ho t X8)
include h0 h1 h2 h3 h4 h5

theorem yRow_half (r : Fin 128) : yRow f d e pf pd pe r = yRow X0 X1 X2 X3 X4 X5 (⟨o + r.val, by omega⟩ : Fin 256) := by
  unfold yRow
  simp only [h0 r, h1 r, h2 r, h3 r, h4 r, h5 r]

theorem pieceY (r : Fin 128) (j : Fin 2048) : k0_pay7 (F := Ideal) (k0_pay4 f pf) (k0_pay5 d pd) (k0_pay6 e) pe (ix2 r j)
    = yRow X0 X1 X2 X3 X4 X5 (⟨o + r.val, by omega⟩ : Fin 256) j :=
  (pay7_apply f d pf pd e pe r j).trans (congrFun (yRow_half h0 h1 h2 h3 h4 h5 r) j)

include h7
theorem hRow_half (r : Fin 128) : hP X6 (k0_pay4 (F := Ideal) f pf) (k0_pay5 (F := Ideal) d pd) (k0_pay6 (F := Ideal) e) pe x r
    = hRow X0 X1 X2 X3 X4 X5 X6 X7 (⟨o + r.val, by omega⟩ : Fin 256) := by
  refine (funext fun i => pay8_apply X6 f d pf pd e pe x r i).trans ?_
  unfold hRow
  rw [yRow_half h0 h1 h2 h3 h4 h5 r]
  simp only [h7 r]

include h8
theorem pieceD (r : Fin 128) (i : Fin 1024) :
    k0_pay15 (F := Ideal) (k0_pay13 (k0_pay2 (F := Ideal) X6) (k0_pay3 (F := Ideal) X9) (k0_pay4 f pf) (k0_pay5 d pd) (k0_pay6 e) pe x t)
      (k0_pay14 (k0_pay2 (F := Ideal) X6) (k0_pay4 f pf) (k0_pay5 d pd) (k0_pay6 e) pe x) (ix2 r i)
      = dl (hRow X0 X1 X2 X3 X4 X5 X6 X7 (⟨o + r.val, by omega⟩ : Fin 256)) (gP X9) (fun k => X8 (ix2 (⟨o + r.val, by omega⟩ : Fin 256) k)) i := by
  rw [pay2_eq, pay3_eq]
  refine (pay15_apply _ _ _ _ _ _ _ _ r i).trans ?_
  rw [hRow_half X6 h0 h1 h2 h3 h4 h5 h7 r]
  exact congrArg (fun q => dl _ _ q i) (funext fun k => h8 r k)

theorem pieceG (v : S1x1024.Idx → EReal) (i : Fin 1024) :
    k0_pay17 (F := Ideal) (k0_pay10 (k0_pay2 (F := Ideal) X6) (k0_pay4 f pf) (k0_pay5 d pd) (k0_pay6 e) pe x)
      (k0_pay12 (k0_pay2 (F := Ideal) X6) (k0_pay3 (F := Ideal) X9) (k0_pay4 f pf) (k0_pay5 d pd) (k0_pay6 e) pe x t) v (ix2 (0 : Fin 1) i)
      = v (ix2 (0 : Fin 1) i) + ∑ r : Fin 128, ot (hRow X0 X1 X2 X3 X4 X5 X6 X7 (⟨o + r.val, by omega⟩ : Fin 256)) (gP X9) (fun k => X8 (ix2 (⟨o + r.val, by omega⟩ : Fin 256) k)) i
        * nrm (hRow X0 X1 X2 X3 X4 X5 X6 X7 (⟨o + r.val, by omega⟩ : Fin 256)) i := by
  rw [pay2_eq, pay3_eq]
  refine (pay17_apply _ _ _ _ _ _ _ _ v i).trans (congrArg (v (ix2 (0 : Fin 1) i) + ·) (Finset.sum_congr rfl fun r _ => ?_))
  rw [hRow_half X6 h0 h1 h2 h3 h4 h5 h7 r]
  exact congrArg (fun q => ot _ _ q i * _) (funext fun k => h8 r k)

theorem pieceL (v : S1x1024.Idx → EReal) (i : Fin 1024) :
    k0_pay18 (F := Ideal) (k0_pay11 (k0_pay2 (F := Ideal) X6) (k0_pay3 (F := Ideal) X9) (k0_pay4 f pf) (k0_pay5 d pd) (k0_pay6 e) pe x t) v (ix2 (0 : Fin 1) i)
      = v (ix2 (0 : Fin 1) i) + ∑ r : Fin 128, cL * (er (hRow X0 X1 X2 X3 X4 X5 X6 X7 (⟨o + r.val, by omega⟩ : Fin 256)) (gP X9) (fun k => X8 (ix2 (⟨o + r.val, by omega⟩ : Fin 256) k)) i
        * er (hRow X0 X1 X2 X3 X4 X5 X6 X7 (⟨o + r.val, by omega⟩ : Fin 256)) (gP X9) (fun k => X8 (ix2 (⟨o + r.val, by omega⟩ : Fin 256) k)) i) := by
  rw [pay2_eq, pay3_eq]
  refine (pay18_apply _ _ _ _ _ _ _ _ v i).trans (congrArg (v (ix2 (0 : Fin 1) i) + ·) (Finset.sum_congr rfl fun r _ => ?_))
  rw [hRow_half X6 h0 h1 h2 h3 h4 h5 h7 r]
  exact congrArg (fun q => cL * (er _ _ q i * er _ _ q i)) (funext fun k => h8 r k)
end Pieces

/-! ## Two halves are a block -/

theorem canon2 {n : ℕ} {e : EltTy} (P Q : (⟨2, ![128, n]⟩ : Shape).Idx → Elt Ideal e) (G : (⟨2, ![256, n]⟩ : Shape).Idx → Elt Ideal e) (i1) (i0)
    (hP : ∀ (r : Fin 128) (j : Fin n), P (ix2 r j) = G (ix2 (⟨128 + r.val, by omega⟩ : Fin 256) j))
    (hQ : ∀ (r : Fin 128) (j : Fin n), Q (ix2 r j) = G (ix2 (⟨0 + r.val, by omega⟩ : Fin 256) j)) (y : (⟨2, ![256, n]⟩ : Shape).Idx) :
    View.canon (Val := Elt Ideal) (s := ⟨2, ![256, n]⟩) (e := e)
      [⟨Rect.unit (s := ⟨2, ![256, n]⟩) ![128, 0] ![128, n] i1, P⟩, ⟨Rect.unit (s := ⟨2, ![256, n]⟩) ![0, 0] ![128, n] i0, Q⟩] y = G y := by
  obtain ⟨a, j, rfl⟩ : ∃ (a : Fin 256) (j : Fin n), y = ix2 a j := ⟨y 0, y 1, eq_ix2 y⟩
  have ha := a.isLt
  by_cases h : 128 ≤ a.val
  · have hy : (Rect.unit (s := ⟨2, ![256, n]⟩) ![128, 0] ![128, n] i1).emb (ix2 (⟨a.val - 128, by omega⟩ : Fin 128) j) = ix2 a j :=
      unit_emb _ _ _ _ _ _ (by show 128 + (a.val - 128) = a.val; omega) (Nat.zero_add _)
    refine (congrArg _ hy.symm).trans ?_
    refine (View.canon_cons_emb (Val := Elt Ideal) (s := ⟨2, ![256, n]⟩) (e := e) _ _ _ _).trans ((hP _ j).trans (congrArg G ?_))
    exact congrArg (ix2 · j) (Fin.ext (by show 128 + (a.val - 128) = a.val; omega))
  · refine (View.canon_cons_of_not_mem (Val := Elt Ideal) (s := ⟨2, ![256, n]⟩) (e := e) _ _ fun hm => ?_).trans ?_
    · rw [Rect.mem_set_unit] at hm
      have h1 : 128 ≤ a.val := (hm 0).1
      omega
    · have hy : (Rect.unit (s := ⟨2, ![256, n]⟩) ![0, 0] ![128, n] i0).emb (ix2 (⟨a.val, by omega⟩ : Fin 128) j) = ix2 a j :=
        unit_emb _ _ _ _ _ _ (Nat.zero_add _) (Nat.zero_add _)
      refine (congrArg _ hy.symm).trans ?_
      refine (View.canon_cons_emb (Val := Elt Ideal) (s := ⟨2, ![256, n]⟩) (e := e) _ _ _ _).trans ((hQ _ j).trans (congrArg G ?_))
      exact congrArg (ix2 · j) (Fin.ext (Nat.zero_add _))

/-! ## Four stores into two rows -/

abbrev R0 : Rect S8x1024 := Rect.unit (s := S8x1024) ![0, 0] S1x1024.size inb_S8x1024_S1x1024_0_0
abbrev R1 : Rect S8x1024 := Rect.unit (s := S8x1024) ![1, 0] S1x1024.size inb_S8x1024_S1x1024_1_0
abbrev RZ : Rect S8x1024 := Rect.unit (s := S8x1024) ![0, 0] S8x1024.size inb_S8x1024_S8x1024_0_0

theorem emb0 (a : Fin 8) (i : Fin 1024) (h : a.val = 0) : R0.emb (ix2 (0 : Fin 1) i) = ix2 a i :=
  unit_emb _ _ _ _ _ _ (by show 0 + 0 = a.val; omega) (Nat.zero_add _)
theorem emb1 (a : Fin 8) (i : Fin 1024) (h : a.val = 1) : R1.emb (ix2 (0 : Fin 1) i) = ix2 a i :=
  unit_emb _ _ _ _ _ _ (by show 1 + 0 = a.val; omega) (Nat.zero_add _)

section Rows
variable {κ : Kind} {sp : Space} (v : View sig κ sp S8x1024 .f32) (q : v.ty.Contents (Elt Ideal)) (u : S1x1024.Idx → EReal)
  (L : List (View.Piece (Elt Ideal) S8x1024 .f32)) (a : Fin 8) (i : Fin 1024)

theorem put0 : v.read (Elt Ideal) (v.writes (Elt Ideal) q (⟨R0, u⟩ :: L)) (ix2 a i)
    = if a.val = 0 then u (ix2 (0 : Fin 1) i) else v.read (Elt Ideal) (v.writes (Elt Ideal) q L) (ix2 a i) := by
  split_ifs with h
  · exact View.read_writes_cons_unit_of_mem v q inb_S8x1024_S1x1024_0_0 u L (ix2 a i) (ix2 (0 : Fin 1) i) rfl fun b => by
      match b with
      | ⟨0, _⟩ => show a.val = 0 + 0; omega
      | ⟨1, _⟩ => show i.val = 0 + i.val; omega
  · exact View.read_writes_cons_unit_of_not_mem v q inb_S8x1024_S1x1024_0_0 u L (ix2 a i) rfl 0 (Or.inr (by show 0 + 1 ≤ a.val; omega))

theorem put1 : v.read (Elt Ideal) (v.writes (Elt Ideal) q (⟨R1, u⟩ :: L)) (ix2 a i)
    = if a.val = 1 then u (ix2 (0 : Fin 1) i) else v.read (Elt Ideal) (v.writes (Elt Ideal) q L) (ix2 a i) := by
  split_ifs with h
  · exact View.read_writes_cons_unit_of_mem v q inb_S8x1024_S1x1024_1_0 u L (ix2 a i) (ix2 (0 : Fin 1) i) rfl fun b => by
      match b with
      | ⟨0, _⟩ => show a.val = 1 + 0; omega
      | ⟨1, _⟩ => show i.val = 0 + i.val; omega
  · refine View.read_writes_cons_unit_of_not_mem v q inb_S8x1024_S1x1024_1_0 u L (ix2 a i) rfl 0 ?_
    show a.val < 1 ∨ 1 + 1 ≤ a.val
    omega

theorem cput0 : View.canon (Val := Elt Ideal) (s := S8x1024) (e := .f32) (⟨R0, u⟩ :: L) (ix2 a i)
    = if a.val = 0 then u (ix2 (0 : Fin 1) i) else View.canon (Val := Elt Ideal) (s := S8x1024) (e := .f32) L (ix2 a i) := by
  split_ifs with h
  · refine (congrArg _ (emb0 a i h).symm).trans ?_
    exact View.canon_cons_emb (Val := Elt Ideal) (s := S8x1024) (e := .f32) R0 _ _ _
  · refine View.canon_cons_of_not_mem (Val := Elt Ideal) (s := S8x1024) (e := .f32) _ _ fun hm => ?_
    rw [Rect.mem_set_unit] at hm
    have h1 : a.val < 0 + 1 := (hm 0).2
    omega

theorem cput1 : View.canon (Val := Elt Ideal) (s := S8x1024) (e := .f32) (⟨R1, u⟩ :: L) (ix2 a i)
    = if a.val = 1 then u (ix2 (0 : Fin 1) i) else View.canon (Val := Elt Ideal) (s := S8x1024) (e := .f32) L (ix2 a i) := by
  split_ifs with h
  · refine (congrArg _ (emb1 a i h).symm).trans ?_
    exact View.canon_cons_emb (Val := Elt Ideal) (s := S8x1024) (e := .f32) R1 _ _ _
  · refine View.canon_cons_of_not_mem (Val := Elt Ideal) (s := S8x1024) (e := .f32) _ _ fun hm => ?_
    rw [Rect.mem_set_unit] at hm
    have h0 : 1 ≤ a.val := (hm 0).1
    have h1 : a.val < 1 + 1 := (hm 0).2
    omega

theorem cov0 : v.readCov (Val := Elt Ideal) L R0.toLoadRect (ix2 (0 : Fin 1) i) = v.read (Elt Ideal) (v.writes (Elt Ideal) v.junk L) (ix2 (0 : Fin 8) i) :=
  congrArg (v.read (Elt Ideal) (v.writes (Elt Ideal) v.junk L)) (emb0 (0 : Fin 8) i rfl)
theorem cov1 : v.readCov (Val := Elt Ideal) L R1.toLoadRect (ix2 (0 : Fin 1) i) = v.read (Elt Ideal) (v.writes (Elt Ideal) v.junk L) (ix2 (1 : Fin 8) i) :=
  congrArg (v.read (Elt Ideal) (v.writes (Elt Ideal) v.junk L)) (emb1 (1 : Fin 8) i rfl)

theorem zer (y : S8x1024.Idx) : v.read (Elt Ideal) (v.writes (Elt Ideal) q [⟨RZ, k0_pay1 (F := Ideal)⟩]) y = 0 :=
  (congrFun (View.read_writes_full (Val := Elt Ideal) v q inb_S8x1024_S8x1024_0_0 (k0_pay1 (F := Ideal)) []) y).trans (pay1_apply y)
theorem czer (y : S8x1024.Idx) : View.canon (Val := Elt Ideal) (s := S8x1024) (e := .f32) [⟨RZ, k0_pay1 (F := Ideal)⟩] y = 0 :=
  (congrFun (View.canon_cons_unit_lit (Val := Elt Ideal) (S := S8x1024) (e := .f32) (off := ![0, 0]) inb_S8x1024_S8x1024_0_0 _ [] (by decide)) _).trans (pay1_apply y)

variable (A0 A1 B0 B1 : (S1x1024.Idx → EReal) → S1x1024.Idx → EReal) (a0 a1 b0 b1 : Fin 1024 → EReal)
  (hA0 : ∀ u i, A0 u (ix2 (0 : Fin 1) i) = u (ix2 (0 : Fin 1) i) + a0 i) (hA1 : ∀ u i, A1 u (ix2 (0 : Fin 1) i) = u (ix2 (0 : Fin 1) i) + a1 i)
  (hB0 : ∀ u i, B0 u (ix2 (0 : Fin 1) i) = u (ix2 (0 : Fin 1) i) + b0 i) (hB1 : ∀ u i, B1 u (ix2 (0 : Fin 1) i) = u (ix2 (0 : Fin 1) i) + b1 i)
include hA0 hA1 hB0 hB1

theorem first4 (c0 c1 d0 d1 : S1x1024.Idx → EReal)
    (e0 : c0 = A0 (v.readCov (Val := Elt Ideal) [⟨RZ, k0_pay1 (F := Ideal)⟩] R0.toLoadRect))
    (e1 : c1 = A1 (v.readCov (Val := Elt Ideal) [⟨R0, c0⟩, ⟨RZ, k0_pay1 (F := Ideal)⟩] R1.toLoadRect))
    (f0 : d0 = B0 (v.readCov (Val := Elt Ideal) [⟨R1, c1⟩, ⟨R0, c0⟩, ⟨RZ, k0_pay1 (F := Ideal)⟩] R0.toLoadRect))
    (f1 : d1 = B1 (v.readCov (Val := Elt Ideal) [⟨R0, d0⟩, ⟨R1, c1⟩, ⟨R0, c0⟩, ⟨RZ, k0_pay1 (F := Ideal)⟩] R1.toLoadRect)) :
    View.canon (Val := Elt Ideal) (s := S8x1024) (e := .f32) [⟨R1, d1⟩, ⟨R0, d0⟩, ⟨R1, c1⟩, ⟨R0, c0⟩, ⟨RZ, k0_pay1 (F := Ideal)⟩] (ix2 a i)
      = 0 + if a.val = 0 then a0 i + b0 i else if a.val = 1 then a1 i + b1 i else 0 := by
  rw [cput1, cput0, cput1, cput0, czer]
  by_cases h0 : a.val = 0
  · rw [if_neg (by omega), if_pos h0, if_pos h0, f0, hB0, cov0, put1, if_neg (by decide), put0, if_pos (by rfl), e0, hA0, cov0, zer, add_assoc]
  · rw [if_neg h0, if_neg h0, if_neg h0]
    by_cases h1 : a.val = 1
    · rw [if_pos h1, if_pos h1, f1, hB1, cov1, put0, if_neg (by decide), put1, if_pos (by rfl), e1, hA1, cov1, put0, if_neg (by decide), zer, add_assoc]
    · rw [if_neg h1, if_neg h1, if_neg h1, add_zero]

theorem next4 (p : S8x1024.Idx → EReal) (hq : v.read (Elt Ideal) q = p) (c0 c1 d0 d1 : S1x1024.Idx → EReal)
    (e0 : c0 = A0 (View.ld (Val := Elt Ideal) (S := S8x1024) (e' := .f32) p R0))
    (e1 : c1 = A1 (View.ld (Val := Elt Ideal) (S := S8x1024) (e' := .f32) p R1))
    (f0 : d0 = B0 (v.readCov (Val := Elt Ideal) [⟨R1, c1⟩, ⟨R0, c0⟩] R0.toLoadRect))
    (f1 : d1 = B1 (v.readCov (Val := Elt Ideal) [⟨R0, d0⟩, ⟨R1, c1⟩, ⟨R0, c0⟩] R1.toLoadRect)) :
    v.read (Elt Ideal) (v.writes (Elt Ideal) q [⟨R1, d1⟩, ⟨R0, d0⟩, ⟨R1, c1⟩, ⟨R0, c0⟩]) (ix2 a i)
      = p (ix2 a i) + if a.val = 0 then a0 i + b0 i else if a.val = 1 then a1 i + b1 i else 0 := by
  have l0 : ∀ h : a.val = 0, View.ld (Val := Elt Ideal) (S := S8x1024) (e' := .f32) p R0 (ix2 (0 : Fin 1) i) = p (ix2 a i) := fun h => congrArg p (emb0 a i h)
  have l1 : ∀ h : a.val = 1, View.ld (Val := Elt Ideal) (S := S8x1024) (e' := .f32) p R1 (ix2 (0 : Fin 1) i) = p (ix2 a i) := fun h => congrArg p (emb1 a i h)
  rw [put1, put0, put1, put0]
  by_cases h0 : a.val = 0
  · rw [if_neg (by omega), if_pos h0, if_pos h0, f0, hB0, cov0, put1, if_neg (by decide), put0, if_pos (by rfl), e0, hA0, l0 h0, add_assoc]
  · rw [if_neg h0, if_neg h0, if_neg h0]
    by_cases h1 : a.val = 1
    · rw [if_pos h1, if_pos h1, f1, hB1, cov1, put0, if_neg (by decide), put1, if_pos (by rfl), e1, hA1, l1 h1, add_assoc]
    · rw [if_neg h1, if_neg h1, if_neg h1, add_zero]
      exact congrFun hq _
end Rows

end Cert.OutLossIdeal.Val
-- ==== Proof.OutLossOut.lean ====
/-
  The loss head's kernel: a grid point's four outputs as functions of its blocks.
-/
module
public import proofs.«01_k».proof.Proof.OutLossAcc
@[expose] public section
set_option maxRecDepth 16384
noncomputable section
namespace Cert.OutLossIdeal.Val
open Idealize.ShloMosaic hiding ix1 ix2 ix3 eq_ix1 eq_ix2 eq_ix3
open Idealize.ShloMosaic.ValueIdx Idealize.ShloMosaic.TcCoe Idealize.ShloMosaic.Tactic Cert.OutLossIdeal Cert.OutLossIdeal.Gen Cert.Cols
open Cert.LossRow
open Cert.InGradIdeal.Val (rms nrm cN cE)
open Idealize.SL.Sem
open scoped BigOperators

section Tile
variable (X0 X1 X3 X4 : S256x768.Idx → EReal) (X2 X5 : S256x512.Idx → EReal) (X6 : S2048x1024.Idx → EReal) (X7 X8 : S256x1024.Idx → EReal) (X9 : S1x1024.Idx → EReal)
/-- The gated branches, -/
def yB : S256x2048.Idx → EReal := fun y => yRow X0 X1 X2 X3 X4 X5 (y 0) (y 1)
/-- the input gradient -/
def dB : S256x1024.Idx → EReal := fun y => dl (hRow X0 X1 X2 X3 X4 X5 X6 X7 (y 0)) (gP X9) (fun k => X8 (ix2 (y 0) k)) (y 1)
/-- and the two rows of sums of a block: the gain gradient's terms, -/
def ggT (i : Fin 1024) (r : Fin 256) : EReal := ot (hRow X0 X1 X2 X3 X4 X5 X6 X7 r) (gP X9) (fun k => X8 (ix2 r k)) i * nrm (hRow X0 X1 X2 X3 X4 X5 X6 X7 r) i
/-- the loss's terms, -/
def loT (i : Fin 1024) (r : Fin 256) : EReal := cL * (er (hRow X0 X1 X2 X3 X4 X5 X6 X7 r) (gP X9) (fun k => X8 (ix2 r k)) i * er (hRow X0 X1 X2 X3 X4 X5 X6 X7 r) (gP X9) (fun k => X8 (ix2 r k)) i)
/-- and their sums. -/
def part : S8x1024.Idx → EReal := fun y =>
  if (y 0).val = 0 then ∑ r : Fin 256, ggT X0 X1 X3 X4 X2 X5 X6 X7 X8 X9 (y 1) r else if (y 0).val = 1 then ∑ r : Fin 256, loT X0 X1 X3 X4 X2 X5 X6 X7 X8 X9 (y 1) r else 0

theorem part_halves (a : Fin 8) (i : Fin 1024) : part X0 X1 X3 X4 X2 X5 X6 X7 X8 X9 (ix2 a i)
    = if a.val = 0 then (∑ r : Fin 128, ggT X0 X1 X3 X4 X2 X5 X6 X7 X8 X9 i (⟨0 + r.val, by omega⟩ : Fin 256)) + ∑ r : Fin 128, ggT X0 X1 X3 X4 X2 X5 X6 X7 X8 X9 i (⟨128 + r.val, by omega⟩ : Fin 256)
      else if a.val = 1 then (∑ r : Fin 128, loT X0 X1 X3 X4 X2 X5 X6 X7 X8 X9 i (⟨0 + r.val, by omega⟩ : Fin 256)) + ∑ r : Fin 128, loT X0 X1 X3 X4 X2 X5 X6 X7 X8 X9 i (⟨128 + r.val, by omega⟩ : Fin 256)
      else 0 := by
  have hs : ∀ f : Fin 256 → EReal, ∑ r : Fin 256, f r = (∑ r : Fin 128, f (⟨0 + r.val, by omega⟩ : Fin 256)) + ∑ r : Fin 128, f (⟨128 + r.val, by omega⟩ : Fin 256) := fun f => by
    refine (Fin.sum_univ_two_halves 128 128 rfl f).trans (congrArg (· + _) (Finset.sum_congr rfl fun r _ => congrArg f (Fin.ext ?_)))
    exact (Nat.zero_add _).symm
  unfold part
  show (if a.val = 0 then ∑ r : Fin 256, ggT X0 X1 X3 X4 X2 X5 X6 X7 X8 X9 i r else if a.val = 1 then ∑ r : Fin 256, loT X0 X1 X3 X4 X2 X5 X6 X7 X8 X9 i r else 0) = _
  rw [hs (ggT X0 X1 X3 X4 X2 X5 X6 X7 X8 X9 i), hs (loT X0 X1 X3 X4 X2 X5 X6 X7 X8 X9 i)]
end Tile

variable (m : (ℓ : Loc nD τ sig) → Buf (Elt Ideal) ℓ) (c : Dev nD)

theorem h128 : 128 + 128 ≤ 256 := by omega
theorem h000 : 0 + 128 ≤ 256 := by omega

theorem out10 (t : Fin cfg0.N) (y : S256x2048.Idx) : (outsAt0 (F := Ideal) m c t.val t.isLt).1 y
    = yB (iblk (F := Ideal) m c 0 t) (iblk (F := Ideal) m c 1 t) (iblk (F := Ideal) m c 3 t) (iblk (F := Ideal) m c 4 t) (iblk (F := Ideal) m c 2 t) (iblk (F := Ideal) m c 5 t) y := by
  by_cases h0 : t.val % 16 = 0
  · rw [outsAt0_A m c t h0]; frame_out
    refine canon2 (e := .bf16) _ _ (yB _ _ _ _ _ _) _ _ (fun r j => ?_) (fun r j => ?_) y
    · exact (congrFun (p20 _ _ _ _ _ _) _).trans (pieceY (ho := h128) (half_ld _ .f32 128 h128 _) (half_ld _ .f32 128 h128 _) (half_ld _ .f32 128 h128 _)
        (half_ld _ .bf16 128 h128 _) (half_ld _ .bf16 128 h128 _) (half_ld _ .bf16 128 h128 _) r j)
    · exact pieceY (ho := h000) (half_ld _ .f32 0 h000 _) (half_ld _ .f32 0 h000 _) (half_ld _ .f32 0 h000 _)
        (half_ld _ .bf16 0 h000 _) (half_ld _ .bf16 0 h000 _) (half_ld _ .bf16 0 h000 _) r j
  · rw [outsAt0_B m c t h0]; frame_out
    refine canon2 (e := .bf16) _ _ (yB _ _ _ _ _ _) _ _ (fun r j => ?_) (fun r j => ?_) y
    · exact (congrFun (p20 _ _ _ _ _ _) _).trans (pieceY (ho := h128) (half_ld _ .f32 128 h128 _) (half_ld _ .f32 128 h128 _) (half_ld _ .f32 128 h128 _)
        (half_ld _ .bf16 128 h128 _) (half_ld _ .bf16 128 h128 _) (half_ld _ .bf16 128 h128 _) r j)
    · exact pieceY (ho := h000) (half_ld _ .f32 0 h000 _) (half_ld _ .f32 0 h000 _) (half_ld _ .f32 0 h000 _)
        (half_ld _ .bf16 0 h000 _) (half_ld _ .bf16 0 h000 _) (half_ld _ .bf16 0 h000 _) r j

theorem out11 (t : Fin cfg0.N) (y : S256x1024.Idx) : (outsAt0 (F := Ideal) m c t.val t.isLt).2.1 y
    = dB (iblk (F := Ideal) m c 0 t) (iblk (F := Ideal) m c 1 t) (iblk (F := Ideal) m c 3 t) (iblk (F := Ideal) m c 4 t) (iblk (F := Ideal) m c 2 t) (iblk (F := Ideal) m c 5 t) (iblk (F := Ideal) m c 6 t)
      (iblk (F := Ideal) m c 7 t) (iblk (F := Ideal) m c 8 t) (iblk (F := Ideal) m c 9 t) y := by
  by_cases h0 : t.val % 16 = 0
  · rw [outsAt0_A m c t h0]; frame_out
    refine canon2 (e := .f32) _ _ (dB _ _ _ _ _ _ _ _ _ _) _ _ (fun r j => ?_) (fun r j => ?_) y
    · exact (congrFun (p27 _ _ _ _ _ _ _ _ _ _) _).trans (pieceD (ho := h128) _ _ (half_ld _ .f32 128 h128 _) (half_ld _ .f32 128 h128 _) (half_ld _ .f32 128 h128 _)
        (half_ld _ .bf16 128 h128 _) (half_ld _ .bf16 128 h128 _) (half_ld _ .bf16 128 h128 _) (half_ld _ .f32 128 h128 _) (half_ld _ .f32 128 h128 _) r j)
    · exact pieceD (ho := h000) _ _ (half_ld _ .f32 0 h000 _) (half_ld _ .f32 0 h000 _) (half_ld _ .f32 0 h000 _)
        (half_ld _ .bf16 0 h000 _) (half_ld _ .bf16 0 h000 _) (half_ld _ .bf16 0 h000 _) (half_ld _ .f32 0 h000 _) (half_ld _ .f32 0 h000 _) r j
  · rw [outsAt0_B m c t h0]; frame_out
    refine canon2 (e := .f32) _ _ (dB _ _ _ _ _ _ _ _ _ _) _ _ (fun r j => ?_) (fun r j => ?_) y
    · exact (congrFun (p27 _ _ _ _ _ _ _ _ _ _) _).trans (pieceD (ho := h128) _ _ (half_ld _ .f32 128 h128 _) (half_ld _ .f32 128 h128 _) (half_ld _ .f32 128 h128 _)
        (half_ld _ .bf16 128 h128 _) (half_ld _ .bf16 128 h128 _) (half_ld _ .bf16 128 h128 _) (half_ld _ .f32 128 h128 _) (half_ld _ .f32 128 h128 _) r j)
    · exact pieceD (ho := h000) _ _ (half_ld _ .f32 0 h000 _) (half_ld _ .f32 0 h000 _) (half_ld _ .f32 0 h000 _)
        (half_ld _ .bf16 0 h000 _) (half_ld _ .bf16 0 h000 _) (half_ld _ .bf16 0 h000 _) (half_ld _ .f32 0 h000 _) (half_ld _ .f32 0 h000 _) r j

theorem out12 (t : Fin cfg0.N) (y : S256x1024.Idx) : (outsAt0 (F := Ideal) m c t.val t.isLt).2.2.1 y
    = dB (iblk (F := Ideal) m c 0 t) (iblk (F := Ideal) m c 1 t) (iblk (F := Ideal) m c 3 t) (iblk (F := Ideal) m c 4 t) (iblk (F := Ideal) m c 2 t) (iblk (F := Ideal) m c 5 t) (iblk (F := Ideal) m c 6 t)
      (iblk (F := Ideal) m c 7 t) (iblk (F := Ideal) m c 8 t) (iblk (F := Ideal) m c 9 t) y := by
  by_cases h0 : t.val % 16 = 0
  · rw [outsAt0_A m c t h0]; frame_out
    refine canon2 (e := .bf16) _ _ (dB _ _ _ _ _ _ _ _ _ _) _ _ (fun r j => ?_) (fun r j => ?_) y
    · exact (congrFun (p27 _ _ _ _ _ _ _ _ _ _) _).trans (pieceD (ho := h128) _ _ (half_ld _ .f32 128 h128 _) (half_ld _ .f32 128 h128 _) (half_ld _ .f32 128 h128 _)
        (half_ld _ .bf16 128 h128 _) (half_ld _ .bf16 128 h128 _) (half_ld _ .bf16 128 h128 _) (half_ld _ .f32 128 h128 _) (half_ld _ .f32 128 h128 _) r j)
    · exact pieceD (ho := h000) _ _ (half_ld _ .f32 0 h000 _) (half_ld _ .f32 0 h000 _) (half_ld _ .f32 0 h000 _)
        (half_ld _ .bf16 0 h000 _) (half_ld _ .bf16 0 h000 _) (half_ld _ .bf16 0 h000 _) (half_ld _ .f32 0 h000 _) (half_ld _ .f32 0 h000 _) r j
  · rw [outsAt0_B m c t h0]; frame_out
    refine canon2 (e := .bf16) _ _ (dB _ _ _ _ _ _ _ _ _ _) _ _ (fun r j => ?_) (fun r j => ?_) y
    · exact (congrFun (p27 _ _ _ _ _ _ _ _ _ _) _).trans (pieceD (ho := h128) _ _ (half_ld _ .f32 128 h128 _) (half_ld _ .f32 128 h128 _) (half_ld _ .f32 128 h128 _)
        (half_ld _ .bf16 128 h128 _) (half_ld _ .bf16 128 h128 _) (half_ld _ .bf16 128 h128 _) (half_ld _ .f32 128 h128 _) (half_ld _ .f32 128 h128 _) r j)
    · exact pieceD (ho := h000) _ _ (half_ld _ .f32 0 h000 _) (half_ld _ .f32 0 h000 _) (half_ld _ .f32 0 h000 _)
        (half_ld _ .bf16 0 h000 _) (half_ld _ .bf16 0 h000 _) (half_ld _ .bf16 0 h000 _) (half_ld _ .f32 0 h000 _) (half_ld _ .f32 0 h000 _) r j

theorem out13_A (t : Fin cfg0.N) (h0 : t.val % 16 = 0) (y : S8x1024.Idx) : (outsAt0 (F := Ideal) m c t.val t.isLt).2.2.2 y
    = 0 + part (iblk (F := Ideal) m c 0 t) (iblk (F := Ideal) m c 1 t) (iblk (F := Ideal) m c 3 t) (iblk (F := Ideal) m c 4 t) (iblk (F := Ideal) m c 2 t) (iblk (F := Ideal) m c 5 t) (iblk (F := Ideal) m c 6 t)
      (iblk (F := Ideal) m c 7 t) (iblk (F := Ideal) m c 8 t) (iblk (F := Ideal) m c 9 t) y := by
  rw [outsAt0_A m c t h0]; frame_out
  obtain ⟨a, i, rfl⟩ : ∃ (a : Fin 8) (i : Fin 1024), y = ix2 a i := ⟨y 0, y 1, eq_ix2 y⟩
  rw [part_halves]
  exact first4 (ms0_13 t).view a i (k0_pay17 (F := Ideal) _ _) (k0_pay18 (F := Ideal) _) (k0_pay29 (F := Ideal) _ _ _ _) (k0_pay30 (F := Ideal) _ _ _ _) _ _ _ _
    (fun u i => pieceG (ho := h000) _ _ (half_ld _ .f32 0 h000 _) (half_ld _ .f32 0 h000 _) (half_ld _ .f32 0 h000 _)
        (half_ld _ .bf16 0 h000 _) (half_ld _ .bf16 0 h000 _) (half_ld _ .bf16 0 h000 _) (half_ld _ .f32 0 h000 _) (half_ld _ .f32 0 h000 _) u i)
    (fun u i => pieceL (ho := h000) _ _ (half_ld _ .f32 0 h000 _) (half_ld _ .f32 0 h000 _) (half_ld _ .f32 0 h000 _)
        (half_ld _ .bf16 0 h000 _) (half_ld _ .bf16 0 h000 _) (half_ld _ .bf16 0 h000 _) (half_ld _ .f32 0 h000 _) (half_ld _ .f32 0 h000 _) u i)
    (fun u i => (congrFun (p29 _ _ _ _ _ _ _ _ _ _ _) _).trans (pieceG (ho := h128) _ _ (half_ld _ .f32 128 h128 _) (half_ld _ .f32 128 h128 _) (half_ld _ .f32 128 h128 _)
        (half_ld _ .bf16 128 h128 _) (half_ld _ .bf16 128 h128 _) (half_ld _ .bf16 128 h128 _) (half_ld _ .f32 128 h128 _) (half_ld _ .f32 128 h128 _) u i))
    (fun u i => (congrFun (p30 _ _ _ _ _ _ _ _ _ _ _) _).trans (pieceL (ho := h128) _ _ (half_ld _ .f32 128 h128 _) (half_ld _ .f32 128 h128 _) (half_ld _ .f32 128 h128 _)
        (half_ld _ .bf16 128 h128 _) (half_ld _ .bf16 128 h128 _) (half_ld _ .bf16 128 h128 _) (half_ld _ .f32 128 h128 _) (half_ld _ .f32 128 h128 _) u i))
    _ _ _ _ rfl rfl rfl rfl

theorem out13_B (t : Fin cfg0.N) (h0 : ¬t.val % 16 = 0) (y : S8x1024.Idx) : (outsAt0 (F := Ideal) m c t.val t.isLt).2.2.2 y
    = (outsAt0 (F := Ideal) m c (t.val - 1) (Nat.lt_of_le_of_lt (Nat.sub_le _ _) t.isLt)).2.2.2 y + part (iblk (F := Ideal) m c 0 t) (iblk (F := Ideal) m c 1 t) (iblk (F := Ideal) m c 3 t) (iblk (F := Ideal) m c 4 t) (iblk (F := Ideal) m c 2 t) (iblk (F := Ideal) m c 5 t) (iblk (F := Ideal) m c 6 t)
      (iblk (F := Ideal) m c 7 t) (iblk (F := Ideal) m c 8 t) (iblk (F := Ideal) m c 9 t) y := by
  rw [outsAt0_B m c t h0]; frame_out
  obtain ⟨a, i, rfl⟩ : ∃ (a : Fin 8) (i : Fin 1024), y = ix2 a i := ⟨y 0, y 1, eq_ix2 y⟩
  rw [part_halves]
  exact next4 (ms0_13 t).view _ a i (k0_pay17 (F := Ideal) _ _) (k0_pay18 (F := Ideal) _) (k0_pay29 (F := Ideal) _ _ _ _) (k0_pay30 (F := Ideal) _ _ _ _) _ _ _ _
    (fun u i => pieceG (ho := h000) _ _ (half_ld _ .f32 0 h000 _) (half_ld _ .f32 0 h000 _) (half_ld _ .f32 0 h000 _)
        (half_ld _ .bf16 0 h000 _) (half_ld _ .bf16 0 h000 _) (half_ld _ .bf16 0 h000 _) (half_ld _ .f32 0 h000 _) (half_ld _ .f32 0 h000 _) u i)
    (fun u i => pieceL (ho := h000) _ _ (half_ld _ .f32 0 h000 _) (half_ld _ .f32 0 h000 _) (half_ld _ .f32 0 h000 _)
        (half_ld _ .bf16 0 h000 _) (half_ld _ .bf16 0 h000 _) (half_ld _ .bf16 0 h000 _) (half_ld _ .f32 0 h000 _) (half_ld _ .f32 0 h000 _) u i)
    (fun u i => (congrFun (p29 _ _ _ _ _ _ _ _ _ _ _) _).trans (pieceG (ho := h128) _ _ (half_ld _ .f32 128 h128 _) (half_ld _ .f32 128 h128 _) (half_ld _ .f32 128 h128 _)
        (half_ld _ .bf16 128 h128 _) (half_ld _ .bf16 128 h128 _) (half_ld _ .bf16 128 h128 _) (half_ld _ .f32 128 h128 _) (half_ld _ .f32 128 h128 _) u i))
    (fun u i => (congrFun (p30 _ _ _ _ _ _ _ _ _ _ _) _).trans (pieceL (ho := h128) _ _ (half_ld _ .f32 128 h128 _) (half_ld _ .f32 128 h128 _) (half_ld _ .f32 128 h128 _)
        (half_ld _ .bf16 128 h128 _) (half_ld _ .bf16 128 h128 _) (half_ld _ .bf16 128 h128 _) (half_ld _ .f32 128 h128 _) (half_ld _ .f32 128 h128 _) u i))
    _ (Memref.IsWhole.read_unread (Val := Elt Ideal) (hs0_13 t) _) _ _ _ _ rfl rfl rfl rfl

end Cert.OutLossIdeal.Val
-- ==== Proof.OutLossRun.lean ====
/-
  The loss head's kernel: its blocks on the arguments, the sixteen row blocks put together, and its run as a function of the
  arguments.
-/
module
public import proofs.«01_k».proof.Proof.OutLossOut
public import Idealize.ShloMosaic.Lib.StableHlo.ReadAt
@[expose] public section
set_option maxRecDepth 16384
noncomputable section
namespace Cert.OutLossIdeal.Val
open Idealize.ShloMosaic hiding ix1 ix2 ix3 eq_ix1 eq_ix2 eq_ix3
open Idealize.ShloMosaic.ValueIdx Idealize.ShloMosaic.TcCoe Cert.OutLossIdeal Cert.OutLossIdeal.Gen Cert.Cols
open Cert.LossRow
open Cert.InGradIdeal.Val (rms nrm cN cE)
open Idealize.SL.Sem
open scoped BigOperators

/-! ## The results on the arguments -/

section Args
variable (f d : S2x2048x768.Idx → EReal) (e : S2x2048x512.Idx → EReal) (p : S2x2048x7680.Idx → EReal) (w : S1x2048x1024.Idx → EReal)
  (x t : S2x2048x1024.Idx → EReal) (g : S1024.Idx → EReal)
/-- A token's gated branches, -/
def yF (b : Fin 2) (s : Fin 2048) : Fin 2048 → EReal :=
  yr (fun k => f (ix3 b s k)) (fun k => d (ix3 b s k)) (fun k => e (ix3 b s k)) (fun k => p (ix3 b s (⟨2304 + k.val, by omega⟩ : Fin 7680)))
    (fun k => p (ix3 b s (⟨5376 + k.val, by omega⟩ : Fin 7680))) (fun k => p (ix3 b s (⟨6656 + k.val, by omega⟩ : Fin 7680)))
/-- its row before the norm, -/
def hF (b : Fin 2) (s : Fin 2048) : Fin 1024 → EReal := hr (yF f d e p b s) (fun k i => w (ix3 (0 : Fin 1) k i)) (fun i => x (ix3 b s i))
/-- the gains -/
def gF : Fin 1024 → EReal := fun k => g (ix1 k)
/-- and the target's row. -/
def tF (b : Fin 2) (s : Fin 2048) : Fin 1024 → EReal := fun k => t (ix3 b s k)
/-- A token's term of the gain gradient -/
def ggK (i : Fin 1024) (b : Fin 2) (s : Fin 2048) : EReal := ot (hF f d e p w x b s) (gF g) (tF t b s) i * nrm (hF f d e p w x b s) i
/-- and of the loss. -/
def loK (i : Fin 1024) (b : Fin 2) (s : Fin 2048) : EReal := cL * (er (hF f d e p w x b s) (gF g) (tF t b s) i * er (hF f d e p w x b s) (gF g) (tF t b s) i)
/-- The gated branches by rows, -/
def yR : S4096x2048.Idx → EReal := fun y => yF f d e p (bat (y 0)) (pos (y 0)) (y 1)
/-- the input gradient by rows -/
def dR : S4096x1024.Idx → EReal := fun y => dl (hF f d e p w x (bat (y 0)) (pos (y 0))) (gF g) (tF t (bat (y 0)) (pos (y 0))) (y 1)
/-- and the two sums over all tokens, in rows 0 and 1 of eight. -/
def sR : S8x1024.Idx → EReal := fun y =>
  if (y 0).val = 0 then ∑ b : Fin 2, ∑ s : Fin 2048, ggK f d e p w x t g (y 1) b s
  else if (y 0).val = 1 then ∑ b : Fin 2, ∑ s : Fin 2048, loK f d e p w x t g (y 1) b s else 0
end Args

variable (m : (ℓ : Loc nD τ sig) → Buf (Elt Ideal) ℓ) (c : Dev nD)

theorem idx0 : ∀ t : Fin 16, win0_0.index t 0 = t.val ∧ win0_0.index t 1 = 0 := by decide +kernel
theorem idx1 : ∀ t : Fin 16, win0_1.index t 0 = t.val ∧ win0_1.index t 1 = 0 := by decide +kernel
theorem idx2 : ∀ t : Fin 16, win0_2.index t 0 = t.val ∧ win0_2.index t 1 = 0 := by decide +kernel
theorem idx3 : ∀ t : Fin 16, win0_3.index t 0 = t.val ∧ win0_3.index t 1 = 3 := by decide +kernel
theorem idx4 : ∀ t : Fin 16, win0_4.index t 0 = t.val ∧ win0_4.index t 1 = 7 := by decide +kernel
theorem idx5 : ∀ t : Fin 16, win0_5.index t 0 = t.val ∧ win0_5.index t 1 = 13 := by decide +kernel
theorem idx6 : ∀ t : Fin 16, win0_6.index t 0 = 0 ∧ win0_6.index t 1 = 0 := by decide +kernel
theorem idx7 : ∀ t : Fin 16, win0_7.index t 0 = t.val ∧ win0_7.index t 1 = 0 := by decide +kernel
theorem idx8 : ∀ t : Fin 16, win0_8.index t 0 = t.val ∧ win0_8.index t 1 = 0 := by decide +kernel
theorem idx9 : ∀ t : Fin 16, win0_9.index t 0 = 0 ∧ win0_9.index t 1 = 0 := by decide +kernel
theorem idx10 : ∀ t : Fin 16, win0_10.index t 0 = t.val ∧ win0_10.index t 1 = 0 := by decide +kernel
theorem idx11 : ∀ t : Fin 16, win0_11.index t 0 = t.val ∧ win0_11.index t 1 = 0 := by decide +kernel
theorem idx12 : ∀ t : Fin 16, win0_12.index t 0 = t.val ∧ win0_12.index t 1 = 0 := by decide +kernel
theorem idx13 : ∀ t : Fin 16, win0_13.index t 0 = 0 ∧ win0_13.index t 1 = 0 := by decide +kernel

/-- Row `r` of block `t`. -/
def rowAt (t : Fin 16) (r : Fin 256) : Fin 4096 := ⟨t.val * 256 + r.val, by omega⟩
/-- The block that holds a row. -/
def blkOf (l : Fin 4096) : Fin 16 := ⟨l.val / 256, by omega⟩
/-- The last point. -/
def last : Fin 16 := ⟨15, by omega⟩

abbrev argF : S2x2048x768.Idx → EReal := m ((c : Thread nD τ).loc main_arg0)
abbrev argD : S2x2048x768.Idx → EReal := m ((c : Thread nD τ).loc main_arg1)
abbrev argE : S2x2048x512.Idx → EReal := m ((c : Thread nD τ).loc main_arg2)
abbrev argP : S2x2048x7680.Idx → EReal := m ((c : Thread nD τ).loc main_arg3)
abbrev argW : S1x2048x1024.Idx → EReal := m ((c : Thread nD τ).loc main_arg4)
abbrev argX : S2x2048x1024.Idx → EReal := m ((c : Thread nD τ).loc main_arg5)
abbrev argT : S2x2048x1024.Idx → EReal := m ((c : Thread nD τ).loc main_arg6)
abbrev argG : S1024.Idx → EReal := m ((c : Thread nD τ).loc main_arg7)

/-! ## What the kernel finds -/

abbrev fV : S4096x768.Idx → EReal := V (F := Ideal) m c main_v0
theorem fV_eq : fV m c = shapeCast S4096x768 (argF m c) shapeCasts_S2x2048x768_S4096x768 := by
  unfold fV V
  after_reads_simp
  rfl
theorem fV_apply (r : Fin 4096) (i : Fin 768) : fV m c (ix2 r i) = argF m c (ix3 (bat r) (pos r) i) := by
  rw [fV_eq]; exact flat_apply _ _ r i
abbrev dV : S4096x768.Idx → EReal := V (F := Ideal) m c main_v1
theorem dV_eq : dV m c = shapeCast S4096x768 (argD m c) shapeCasts_S2x2048x768_S4096x768 := by
  unfold dV V
  after_reads_simp
  rfl
theorem dV_apply (r : Fin 4096) (i : Fin 768) : dV m c (ix2 r i) = argD m c (ix3 (bat r) (pos r) i) := by
  rw [dV_eq]; exact flat_apply _ _ r i
abbrev eV : S4096x512.Idx → EReal := V (F := Ideal) m c main_v2
theorem eV_eq : eV m c = shapeCast S4096x512 (argE m c) shapeCasts_S2x2048x512_S4096x512 := by
  unfold eV V
  after_reads_simp
  rfl
theorem eV_apply (r : Fin 4096) (i : Fin 512) : eV m c (ix2 r i) = argE m c (ix3 (bat r) (pos r) i) := by
  rw [eV_eq]; exact flat_apply _ _ r i
abbrev pV : S4096x7680.Idx → EReal := V (F := Ideal) m c main_v3
theorem pV_eq : pV m c = shapeCast S4096x7680 (argP m c) shapeCasts_S2x2048x7680_S4096x7680 := by
  unfold pV V
  after_reads_simp
  rfl
theorem pV_apply (r : Fin 4096) (i : Fin 7680) : pV m c (ix2 r i) = argP m c (ix3 (bat r) (pos r) i) := by
  rw [pV_eq]; exact flat_apply _ _ r i
abbrev xV : S4096x1024.Idx → EReal := V (F := Ideal) m c main_v6
theorem xV_eq : xV m c = shapeCast S4096x1024 (argX m c) shapeCasts_S2x2048x1024_S4096x1024 := by
  unfold xV V
  after_reads_simp
  rfl
theorem xV_apply (r : Fin 4096) (i : Fin 1024) : xV m c (ix2 r i) = argX m c (ix3 (bat r) (pos r) i) := by
  rw [xV_eq]; exact flat_apply _ _ r i
abbrev tV : S4096x1024.Idx → EReal := V (F := Ideal) m c main_v7
theorem tV_eq : tV m c = shapeCast S4096x1024 (argT m c) shapeCasts_S2x2048x1024_S4096x1024 := by
  unfold tV V
  after_reads_simp
  rfl
theorem tV_apply (r : Fin 4096) (i : Fin 1024) : tV m c (ix2 r i) = argT m c (ix3 (bat r) (pos r) i) := by
  rw [tV_eq]; exact flat_apply _ _ r i
abbrev wV : S2048x1024.Idx → EReal := V (F := Ideal) m c main_v5
theorem wV_eq : wV m c = shapeCast S2048x1024 (argW m c) shapeCasts_S1x2048x1024_S2048x1024 := by
  unfold wV V
  after_reads_simp
  rfl
theorem wV_apply (k : Fin 2048) (i : Fin 1024) : wV m c (ix2 k i) = argW m c (ix3 (0 : Fin 1) k i) := by
  rw [wV_eq]
  refine shapeCast_apply _ _ (ix2 k i) (ix3 (0 : Fin 1) k i) ?_
  rw [Shape.rowMajor_val_three, Shape.rowMajor_val_two]
  show (0 * 2048 + k.val) * 1024 + i.val = k.val * 1024 + i.val
  omega
abbrev gV : S1x1024.Idx → EReal := V (F := Ideal) m c main_v8
theorem gV_eq : gV m c = shapeCast S1x1024 (argG m c) shapeCasts_S1024_S1x1024 := by
  unfold gV V
  after_reads_simp
  rfl
theorem gV_apply (i : Fin 1024) : gV m c (ix2 (0 : Fin 1) i) = argG m c (ix1 i) := by
  rw [gV_eq]; exact row_apply _ i

/-! ## The blocks -/

theorem blk0 (t : Fin 16) (r : Fin 256) (k : Fin 768) : iblk (F := Ideal) m c 0 t (ix2 r k) = argF m c (ix3 (bat (rowAt t r)) (pos (rowAt t r)) k) :=
  (congrArg (fV m c) (unit_emb (n0 := 4096) (n1 := 768) (fun a => win0_0.index t a * (![256, 768] : Fin 2 → ℕ) a) ![256, 768] _ (ix2 r k) (rowAt t r) k
    (by show win0_0.index t 0 * 256 + r.val = t.val * 256 + r.val; rw [(idx0 t).1]) (by show win0_0.index t 1 * 768 + k.val = k.val; rw [(idx0 t).2]; omega))).trans
    (fV_apply m c _ _)
theorem blk1 (t : Fin 16) (r : Fin 256) (k : Fin 768) : iblk (F := Ideal) m c 1 t (ix2 r k) = argD m c (ix3 (bat (rowAt t r)) (pos (rowAt t r)) k) :=
  (congrArg (dV m c) (unit_emb (n0 := 4096) (n1 := 768) (fun a => win0_1.index t a * (![256, 768] : Fin 2 → ℕ) a) ![256, 768] _ (ix2 r k) (rowAt t r) k
    (by show win0_1.index t 0 * 256 + r.val = t.val * 256 + r.val; rw [(idx1 t).1]) (by show win0_1.index t 1 * 768 + k.val = k.val; rw [(idx1 t).2]; omega))).trans
    (dV_apply m c _ _)
theorem blk2 (t : Fin 16) (r : Fin 256) (k : Fin 512) : iblk (F := Ideal) m c 2 t (ix2 r k) = argE m c (ix3 (bat (rowAt t r)) (pos (rowAt t r)) k) :=
  (congrArg (eV m c) (unit_emb (n0 := 4096) (n1 := 512) (fun a => win0_2.index t a * (![256, 512] : Fin 2 → ℕ) a) ![256, 512] _ (ix2 r k) (rowAt t r) k
    (by show win0_2.index t 0 * 256 + r.val = t.val * 256 + r.val; rw [(idx2 t).1]) (by show win0_2.index t 1 * 512 + k.val = k.val; rw [(idx2 t).2]; omega))).trans
    (eV_apply m c _ _)
theorem blk3 (t : Fin 16) (r : Fin 256) (k : Fin 768) : iblk (F := Ideal) m c 3 t (ix2 r k) = argP m c (ix3 (bat (rowAt t r)) (pos (rowAt t r)) (⟨2304 + k.val, by omega⟩ : Fin 7680)) :=
  (congrArg (pV m c) (unit_emb (n0 := 4096) (n1 := 7680) (fun a => win0_3.index t a * (![256, 768] : Fin 2 → ℕ) a) ![256, 768] _ (ix2 r k) (rowAt t r) (⟨2304 + k.val, by omega⟩ : Fin 7680)
    (by show win0_3.index t 0 * 256 + r.val = t.val * 256 + r.val; rw [(idx3 t).1]) (by show win0_3.index t 1 * 768 + k.val = 2304 + k.val; rw [(idx3 t).2]))).trans
    (pV_apply m c _ _)
theorem blk4 (t : Fin 16) (r : Fin 256) (k : Fin 768) : iblk (F := Ideal) m c 4 t (ix2 r k) = argP m c (ix3 (bat (rowAt t r)) (pos (rowAt t r)) (⟨5376 + k.val, by omega⟩ : Fin 7680)) :=
  (congrArg (pV m c) (unit_emb (n0 := 4096) (n1 := 7680) (fun a => win0_4.index t a * (![256, 768] : Fin 2 → ℕ) a) ![256, 768] _ (ix2 r k) (rowAt t r) (⟨5376 + k.val, by omega⟩ : Fin 7680)
    (by show win0_4.index t 0 * 256 + r.val = t.val * 256 + r.val; rw [(idx4 t).1]) (by show win0_4.index t 1 * 768 + k.val = 5376 + k.val; rw [(idx4 t).2]))).trans
    (pV_apply m c _ _)
theorem blk5 (t : Fin 16) (r : Fin 256) (k : Fin 512) : iblk (F := Ideal) m c 5 t (ix2 r k) = argP m c (ix3 (bat (rowAt t r)) (pos (rowAt t r)) (⟨6656 + k.val, by omega⟩ : Fin 7680)) :=
  (congrArg (pV m c) (unit_emb (n0 := 4096) (n1 := 7680) (fun a => win0_5.index t a * (![256, 512] : Fin 2 → ℕ) a) ![256, 512] _ (ix2 r k) (rowAt t r) (⟨6656 + k.val, by omega⟩ : Fin 7680)
    (by show win0_5.index t 0 * 256 + r.val = t.val * 256 + r.val; rw [(idx5 t).1]) (by show win0_5.index t 1 * 512 + k.val = 6656 + k.val; rw [(idx5 t).2]))).trans
    (pV_apply m c _ _)
theorem blk7 (t : Fin 16) (r : Fin 256) (k : Fin 1024) : iblk (F := Ideal) m c 7 t (ix2 r k) = argX m c (ix3 (bat (rowAt t r)) (pos (rowAt t r)) k) :=
  (congrArg (xV m c) (unit_emb (n0 := 4096) (n1 := 1024) (fun a => win0_7.index t a * (![256, 1024] : Fin 2 → ℕ) a) ![256, 1024] _ (ix2 r k) (rowAt t r) k
    (by show win0_7.index t 0 * 256 + r.val = t.val * 256 + r.val; rw [(idx7 t).1]) (by show win0_7.index t 1 * 1024 + k.val = k.val; rw [(idx7 t).2]; omega))).trans
    (xV_apply m c _ _)
theorem blk8 (t : Fin 16) (r : Fin 256) (k : Fin 1024) : iblk (F := Ideal) m c 8 t (ix2 r k) = argT m c (ix3 (bat (rowAt t r)) (pos (rowAt t r)) k) :=
  (congrArg (tV m c) (unit_emb (n0 := 4096) (n1 := 1024) (fun a => win0_8.index t a * (![256, 1024] : Fin 2 → ℕ) a) ![256, 1024] _ (ix2 r k) (rowAt t r) k
    (by show win0_8.index t 0 * 256 + r.val = t.val * 256 + r.val; rw [(idx8 t).1]) (by show win0_8.index t 1 * 1024 + k.val = k.val; rw [(idx8 t).2]; omega))).trans
    (tV_apply m c _ _)
theorem blk6 (t : Fin 16) (k : Fin 2048) (i : Fin 1024) : iblk (F := Ideal) m c 6 t (ix2 k i) = argW m c (ix3 (0 : Fin 1) k i) :=
  (congrArg (wV m c) (unit_emb (n0 := 2048) (n1 := 1024) (fun a => win0_6.index t a * (![2048, 1024] : Fin 2 → ℕ) a) ![2048, 1024] _ (ix2 k i) k i
    (by show win0_6.index t 0 * 2048 + k.val = k.val; rw [(idx6 t).1]; omega) (by show win0_6.index t 1 * 1024 + i.val = i.val; rw [(idx6 t).2]; omega))).trans
    (wV_apply m c k i)
theorem blk9 (t : Fin 16) (i : Fin 1024) : iblk (F := Ideal) m c 9 t (ix2 (0 : Fin 1) i) = argG m c (ix1 i) :=
  (congrArg (gV m c) (unit_emb (n0 := 1) (n1 := 1024) (fun a => win0_9.index t a * (![1, 1024] : Fin 2 → ℕ) a) ![1, 1024] _ (ix2 (0 : Fin 1) i) (0 : Fin 1) i
    (by show win0_9.index t 0 * 1 + 0 = 0; rw [(idx9 t).1]) (by show win0_9.index t 1 * 1024 + i.val = i.val; rw [(idx9 t).2]; omega))).trans
    (gV_apply m c i)

/-! ## Rows of a block -/

theorem yRow_blk (t : Fin 16) (r : Fin 256) : yRow (iblk (F := Ideal) m c 0 t) (iblk (F := Ideal) m c 1 t) (iblk (F := Ideal) m c 2 t) (iblk (F := Ideal) m c 3 t) (iblk (F := Ideal) m c 4 t) (iblk (F := Ideal) m c 5 t) r
    = yF (argF m c) (argD m c) (argE m c) (argP m c) (bat (rowAt t r)) (pos (rowAt t r)) := by
  have e0 := funext fun k => blk0 m c t r k
  have e1 := funext fun k => blk1 m c t r k
  have e2 := funext fun k => blk2 m c t r k
  have e3 := funext fun k => blk3 m c t r k
  have e4 := funext fun k => blk4 m c t r k
  have e5 := funext fun k => blk5 m c t r k
  unfold yRow yF
  exact congr (congr (congr (congr (congrArg₂ yr e0 e1) e2) e3) e4) e5

theorem hRow_blk (t : Fin 16) (r : Fin 256) : hRow (iblk (F := Ideal) m c 0 t) (iblk (F := Ideal) m c 1 t) (iblk (F := Ideal) m c 2 t) (iblk (F := Ideal) m c 3 t) (iblk (F := Ideal) m c 4 t) (iblk (F := Ideal) m c 5 t)
      (iblk (F := Ideal) m c 6 t) (iblk (F := Ideal) m c 7 t) r
    = hF (argF m c) (argD m c) (argE m c) (argP m c) (argW m c) (argX m c) (bat (rowAt t r)) (pos (rowAt t r)) := by
  have e6 := funext fun k => funext fun i => blk6 m c t k i
  have e7 := funext fun k => blk7 m c t r k
  unfold hRow hF
  exact congr (congrArg₂ hr (yRow_blk m c t r) e6) e7

theorem gP_blk (t : Fin 16) : gP (iblk (F := Ideal) m c 9 t) = gF (argG m c) := funext fun k => blk9 m c t k
theorem tP_blk (t : Fin 16) (r : Fin 256) : (fun k : Fin 1024 => iblk (F := Ideal) m c 8 t (ix2 r k)) = tF (argT m c) (bat (rowAt t r)) (pos (rowAt t r)) := funext fun k => blk8 m c t r k

theorem yB_blk (t : Fin 16) (r : Fin 256) (j : Fin 2048) : yB (iblk (F := Ideal) m c 0 t) (iblk (F := Ideal) m c 1 t) (iblk (F := Ideal) m c 3 t) (iblk (F := Ideal) m c 4 t) (iblk (F := Ideal) m c 2 t) (iblk (F := Ideal) m c 5 t) (ix2 r j)
    = yR (argF m c) (argD m c) (argE m c) (argP m c) (ix2 (rowAt t r) j) :=
  congrFun (yRow_blk m c t r) j

theorem dB_blk (t : Fin 16) (r : Fin 256) (i : Fin 1024) : dB (iblk (F := Ideal) m c 0 t) (iblk (F := Ideal) m c 1 t) (iblk (F := Ideal) m c 3 t) (iblk (F := Ideal) m c 4 t) (iblk (F := Ideal) m c 2 t) (iblk (F := Ideal) m c 5 t) (iblk (F := Ideal) m c 6 t)
      (iblk (F := Ideal) m c 7 t) (iblk (F := Ideal) m c 8 t) (iblk (F := Ideal) m c 9 t) (ix2 r i)
    = dR (argF m c) (argD m c) (argE m c) (argP m c) (argW m c) (argX m c) (argT m c) (argG m c) (ix2 (rowAt t r) i) :=
  congrFun (congr (congrArg₂ dl (hRow_blk m c t r) (gP_blk m c t)) (tP_blk m c t r)) i

theorem ggT_blk (t : Fin 16) (i : Fin 1024) (r : Fin 256) : ggT (iblk (F := Ideal) m c 0 t) (iblk (F := Ideal) m c 1 t) (iblk (F := Ideal) m c 3 t) (iblk (F := Ideal) m c 4 t) (iblk (F := Ideal) m c 2 t) (iblk (F := Ideal) m c 5 t) (iblk (F := Ideal) m c 6 t)
      (iblk (F := Ideal) m c 7 t) (iblk (F := Ideal) m c 8 t) (iblk (F := Ideal) m c 9 t) i r
    = ggK (argF m c) (argD m c) (argE m c) (argP m c) (argW m c) (argX m c) (argT m c) (argG m c) i (bat (rowAt t r)) (pos (rowAt t r)) := by
  have eh := hRow_blk m c t r
  have eo := congr (congrArg₂ ot eh (gP_blk m c t)) (tP_blk m c t r)
  exact congrArg₂ (· * ·) (congrFun eo i) (congrArg (fun h => nrm h i) eh)

theorem loT_blk (t : Fin 16) (i : Fin 1024) (r : Fin 256) : loT (iblk (F := Ideal) m c 0 t) (iblk (F := Ideal) m c 1 t) (iblk (F := Ideal) m c 3 t) (iblk (F := Ideal) m c 4 t) (iblk (F := Ideal) m c 2 t) (iblk (F := Ideal) m c 5 t) (iblk (F := Ideal) m c 6 t)
      (iblk (F := Ideal) m c 7 t) (iblk (F := Ideal) m c 8 t) (iblk (F := Ideal) m c 9 t) i r
    = loK (argF m c) (argD m c) (argE m c) (argP m c) (argW m c) (argX m c) (argT m c) (argG m c) i (bat (rowAt t r)) (pos (rowAt t r)) := by
  have ee := congrFun (congr (congrArg₂ er (hRow_blk m c t r) (gP_blk m c t)) (tP_blk m c t r)) i
  exact congrArg (cL * ·) (congrArg₂ (· * ·) ee ee)

/-! ## The results -/

theorem final10 : (dats (F := Ideal) m 0 c).arrAt 10 cfg0.N = yR (argF m c) (argD m c) (argE m c) (argP m c) := by
  refine (dats (F := Ideal) m 0 c).arrAt_eq_of_cover 10 (yR (argF m c) (argD m c) (argE m c) (argP m c)) (fun t _ => ?_) fun i => ⟨blkOf (i 0), flush0_10 _, ?_⟩
  · rw [Value.flushed10]
    funext y
    obtain ⟨r, i, rfl⟩ : ∃ (r : Fin 256) (i : Fin 2048), y = ix2 r i := ⟨y 0, y 1, eq_ix2 y⟩
    have hy : (((cfg0.win 10).blk t).view.emb (ix2 r i) : S4096x2048.Idx) = ix2 (rowAt t r) i :=
      unit_emb (n0 := 4096) (n1 := 2048) (fun a => win0_10.index t a * (![256, 2048] : Fin 2 → ℕ) a) ![256, 2048] _ (ix2 r i) (rowAt t r) i
        (by show win0_10.index t 0 * 256 + r.val = t.val * 256 + r.val; rw [(idx10 t).1])
        (by show win0_10.index t 1 * 2048 + i.val = i.val; rw [(idx10 t).2]; omega)
    show (outsAt0 (F := Ideal) m c t.val t.isLt).1 (ix2 r i) = yR (argF m c) (argD m c) (argE m c) (argP m c) (((cfg0.win 10).blk t).view.emb (ix2 r i))
    rw [hy]
    exact (out10 m c t (ix2 r i)).trans (yB_blk m c t r i)
  · have h0 : (i 0).val < 4096 := (i 0).isLt
    have h1 : (i 1).val < 2048 := (i 1).isLt
    show i ∈ ((View.whole main_v9_0).slice (win0_10.rect (blkOf (i 0)))).set
    rw [View.set_slice_whole]
    refine mem_unit (n0 := 4096) (n1 := 2048) _ _ _ i ?_ ?_
    · show win0_10.index _ 0 * 256 ≤ (i 0).val ∧ (i 0).val < win0_10.index _ 0 * 256 + 256
      rw [(idx10 _).1]
      show (i 0).val / 256 * 256 ≤ (i 0).val ∧ (i 0).val < (i 0).val / 256 * 256 + 256
      omega
    · show win0_10.index _ 1 * 2048 ≤ (i 1).val ∧ (i 1).val < win0_10.index _ 1 * 2048 + 2048
      rw [(idx10 _).2]; omega

theorem final11 : (dats (F := Ideal) m 0 c).arrAt 11 cfg0.N = dR (argF m c) (argD m c) (argE m c) (argP m c) (argW m c) (argX m c) (argT m c) (argG m c) := by
  refine (dats (F := Ideal) m 0 c).arrAt_eq_of_cover 11 (dR (argF m c) (argD m c) (argE m c) (argP m c) (argW m c) (argX m c) (argT m c) (argG m c)) (fun t _ => ?_) fun i => ⟨blkOf (i 0), flush0_11 _, ?_⟩
  · rw [Value.flushed11]
    funext y
    obtain ⟨r, i, rfl⟩ : ∃ (r : Fin 256) (i : Fin 1024), y = ix2 r i := ⟨y 0, y 1, eq_ix2 y⟩
    have hy : (((cfg0.win 11).blk t).view.emb (ix2 r i) : S4096x1024.Idx) = ix2 (rowAt t r) i :=
      unit_emb (n0 := 4096) (n1 := 1024) (fun a => win0_11.index t a * (![256, 1024] : Fin 2 → ℕ) a) ![256, 1024] _ (ix2 r i) (rowAt t r) i
        (by show win0_11.index t 0 * 256 + r.val = t.val * 256 + r.val; rw [(idx11 t).1])
        (by show win0_11.index t 1 * 1024 + i.val = i.val; rw [(idx11 t).2]; omega)
    show (outsAt0 (F := Ideal) m c t.val t.isLt).2.1 (ix2 r i) = dR (argF m c) (argD m c) (argE m c) (argP m c) (argW m c) (argX m c) (argT m c) (argG m c) (((cfg0.win 11).blk t).view.emb (ix2 r i))
    rw [hy]
    exact (out11 m c t (ix2 r i)).trans (dB_blk m c t r i)
  · have h0 : (i 0).val < 4096 := (i 0).isLt
    have h1 : (i 1).val < 1024 := (i 1).isLt
    show i ∈ ((View.whole main_v9_1).slice (win0_11.rect (blkOf (i 0)))).set
    rw [View.set_slice_whole]
    refine mem_unit (n0 := 4096) (n1 := 1024) _ _ _ i ?_ ?_
    · show win0_11.index _ 0 * 256 ≤ (i 0).val ∧ (i 0).val < win0_11.index _ 0 * 256 + 256
      rw [(idx11 _).1]
      show (i 0).val / 256 * 256 ≤ (i 0).val ∧ (i 0).val < (i 0).val / 256 * 256 + 256
      omega
    · show win0_11.index _ 1 * 1024 ≤ (i 1).val ∧ (i 1).val < win0_11.index _ 1 * 1024 + 1024
      rw [(idx11 _).2]; omega

theorem final12 : (dats (F := Ideal) m 0 c).arrAt 12 cfg0.N = dR (argF m c) (argD m c) (argE m c) (argP m c) (argW m c) (argX m c) (argT m c) (argG m c) := by
  refine (dats (F := Ideal) m 0 c).arrAt_eq_of_cover 12 (dR (argF m c) (argD m c) (argE m c) (argP m c) (argW m c) (argX m c) (argT m c) (argG m c)) (fun t _ => ?_) fun i => ⟨blkOf (i 0), flush0_12 _, ?_⟩
  · rw [Value.flushed12]
    funext y
    obtain ⟨r, i, rfl⟩ : ∃ (r : Fin 256) (i : Fin 1024), y = ix2 r i := ⟨y 0, y 1, eq_ix2 y⟩
    have hy : (((cfg0.win 12).blk t).view.emb (ix2 r i) : S4096x1024.Idx) = ix2 (rowAt t r) i :=
      unit_emb (n0 := 4096) (n1 := 1024) (fun a => win0_12.index t a * (![256, 1024] : Fin 2 → ℕ) a) ![256, 1024] _ (ix2 r i) (rowAt t r) i
        (by show win0_12.index t 0 * 256 + r.val = t.val * 256 + r.val; rw [(idx12 t).1])
        (by show win0_12.index t 1 * 1024 + i.val = i.val; rw [(idx12 t).2]; omega)
    show (outsAt0 (F := Ideal) m c t.val t.isLt).2.2.1 (ix2 r i) = dR (argF m c) (argD m c) (argE m c) (argP m c) (argW m c) (argX m c) (argT m c) (argG m c) (((cfg0.win 12).blk t).view.emb (ix2 r i))
    rw [hy]
    exact (out12 m c t (ix2 r i)).trans (dB_blk m c t r i)
  · have h0 : (i 0).val < 4096 := (i 0).isLt
    have h1 : (i 1).val < 1024 := (i 1).isLt
    show i ∈ ((View.whole main_v9_2).slice (win0_12.rect (blkOf (i 0)))).set
    rw [View.set_slice_whole]
    refine mem_unit (n0 := 4096) (n1 := 1024) _ _ _ i ?_ ?_
    · show win0_12.index _ 0 * 256 ≤ (i 0).val ∧ (i 0).val < win0_12.index _ 0 * 256 + 256
      rw [(idx12 _).1]
      show (i 0).val / 256 * 256 ≤ (i 0).val ∧ (i 0).val < (i 0).val / 256 * 256 + 256
      omega
    · show win0_12.index _ 1 * 1024 ≤ (i 1).val ∧ (i 1).val < win0_12.index _ 1 * 1024 + 1024
      rw [(idx12 _).2]; omega

/-- A sum over the blocks' rows is a sum over the tokens. -/
theorem sum_rows (f : Fin 2 → Fin 2048 → EReal) : ∑ t : Fin 16, ∑ r : Fin 256, f (bat (rowAt t r)) (pos (rowAt t r)) = ∑ b : Fin 2, ∑ s : Fin 2048, f b s := by
  refine (Fin.sum_univ_tiles 16 256 rfl (fun R : Fin 4096 => f (bat R) (pos R))).symm.trans ((sum_tok (fun R => f (bat R) (pos R))).trans ?_)
  refine Finset.sum_congr rfl fun b _ => Finset.sum_congr rfl fun s _ => ?_
  rw [bat_tok, pos_tok]

theorem acc13 (t : Fin 16) (ht : t.val + 1 = 16) (y : S8x1024.Idx) : (outsAt0 (F := Ideal) m c t.val t.isLt).2.2.2 y
    = sR (argF m c) (argD m c) (argE m c) (argP m c) (argW m c) (argX m c) (argT m c) (argG m c) y := by
  obtain ⟨a, i, rfl⟩ : ∃ (a : Fin 8) (i : Fin 1024), y = ix2 a i := ⟨y 0, y 1, eq_ix2 y⟩
  refine (Pipeline.eq_sum_fin_of_reset_step_apply_last (N := 16) (fun n h => (outsAt0 (F := Ideal) m c n h).2.2.2) 16 (fun _ => (0 : EReal))
    (fun t => part (iblk (F := Ideal) m c 0 t) (iblk (F := Ideal) m c 1 t) (iblk (F := Ideal) m c 3 t) (iblk (F := Ideal) m c 4 t) (iblk (F := Ideal) m c 2 t) (iblk (F := Ideal) m c 5 t) (iblk (F := Ideal) m c 6 t)
      (iblk (F := Ideal) m c 7 t) (iblk (F := Ideal) m c 8 t) (iblk (F := Ideal) m c 9 t))
    (fun t h y => out13_A m c t h y) (fun t h y => out13_B m c t h y) le_rfl t ht (ix2 a i)).trans ?_
  rw [zero_add]
  unfold part sR
  show (∑ t : Fin 16, if a.val = 0 then ∑ r : Fin 256, ggT (iblk (F := Ideal) m c 0 t) (iblk (F := Ideal) m c 1 t) (iblk (F := Ideal) m c 3 t) (iblk (F := Ideal) m c 4 t) (iblk (F := Ideal) m c 2 t) (iblk (F := Ideal) m c 5 t) (iblk (F := Ideal) m c 6 t)
      (iblk (F := Ideal) m c 7 t) (iblk (F := Ideal) m c 8 t) (iblk (F := Ideal) m c 9 t) i r
      else if a.val = 1 then ∑ r : Fin 256, loT (iblk (F := Ideal) m c 0 t) (iblk (F := Ideal) m c 1 t) (iblk (F := Ideal) m c 3 t) (iblk (F := Ideal) m c 4 t) (iblk (F := Ideal) m c 2 t) (iblk (F := Ideal) m c 5 t) (iblk (F := Ideal) m c 6 t)
      (iblk (F := Ideal) m c 7 t) (iblk (F := Ideal) m c 8 t) (iblk (F := Ideal) m c 9 t) i r else 0)
    = if a.val = 0 then ∑ b : Fin 2, ∑ s : Fin 2048, ggK (argF m c) (argD m c) (argE m c) (argP m c) (argW m c) (argX m c) (argT m c) (argG m c) i b s
      else if a.val = 1 then ∑ b : Fin 2, ∑ s : Fin 2048, loK (argF m c) (argD m c) (argE m c) (argP m c) (argW m c) (argX m c) (argT m c) (argG m c) i b s else 0
  by_cases h0 : a.val = 0
  · simp only [if_pos h0]
    refine (Finset.sum_congr rfl fun t _ => Finset.sum_congr rfl fun r _ => ggT_blk m c t i r).trans ?_
    exact sum_rows _
  · simp only [if_neg h0]
    by_cases h1 : a.val = 1
    · simp only [if_pos h1]
      refine (Finset.sum_congr rfl fun t _ => Finset.sum_congr rfl fun r _ => loT_blk m c t i r).trans ?_
      exact sum_rows _
    · simp only [if_neg h1]
      exact Finset.sum_const_zero

theorem final13 : (dats (F := Ideal) m 0 c).arrAt 13 cfg0.N = sR (argF m c) (argD m c) (argE m c) (argP m c) (argW m c) (argX m c) (argT m c) (argG m c) := by
  refine (dats (F := Ideal) m 0 c).arrAt_eq_of_cover 13 (sR (argF m c) (argD m c) (argE m c) (argP m c) (argW m c) (argX m c) (argT m c) (argG m c)) (fun t ht => ?_) fun i => ⟨last, (flush0_13 last).2 rfl, ?_⟩
  · have h15 := (flush0_13 t).1 ht
    have h16 : t.val < 16 := t.isLt
    have h17 : t.val + 1 = 16 := by omega
    rw [Value.flushed13]
    funext y
    obtain ⟨a, i, rfl⟩ : ∃ (a : Fin 8) (i : Fin 1024), y = ix2 a i := ⟨y 0, y 1, eq_ix2 y⟩
    have hy : (((cfg0.win 13).blk t).view.emb (ix2 a i) : S8x1024.Idx) = ix2 a i :=
      unit_emb (n0 := 8) (n1 := 1024) (fun a => win0_13.index t a * (![8, 1024] : Fin 2 → ℕ) a) ![8, 1024] _ (ix2 a i) a i
        (by show win0_13.index t 0 * 8 + a.val = a.val; rw [(idx13 t).1]; omega)
        (by show win0_13.index t 1 * 1024 + i.val = i.val; rw [(idx13 t).2]; omega)
    show (outsAt0 (F := Ideal) m c t.val t.isLt).2.2.2 (ix2 a i) = sR (argF m c) (argD m c) (argE m c) (argP m c) (argW m c) (argX m c) (argT m c) (argG m c) (((cfg0.win 13).blk t).view.emb (ix2 a i))
    rw [hy]
    exact acc13 m c t h17 (ix2 a i)
  · have h0 : (i 0).val < 8 := (i 0).isLt
    have h1 : (i 1).val < 1024 := (i 1).isLt
    show i ∈ ((View.whole main_v9_3).slice (win0_13.rect last)).set
    rw [View.set_slice_whole]
    refine mem_unit (n0 := 8) (n1 := 1024) _ _ _ i ?_ ?_
    · show win0_13.index _ 0 * 8 ≤ (i 0).val ∧ (i 0).val < win0_13.index _ 0 * 8 + 8
      rw [(idx13 _).1]; omega
    · show win0_13.index _ 1 * 1024 ≤ (i 1).val ∧ (i 1).val < win0_13.index _ 1 * 1024 + 1024
      rw [(idx13 _).2]; omega

/-- The kernel's run: the results as functions of the arguments, the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v9_0) = yR (argF m c) (argD m c) (argE m c) (argP m c)
      ∧ r.2.mem ((c : Thread nD τ).loc main_v9_1) = dR (argF m c) (argD m c) (argE m c) (argP m c) (argW m c) (argX m c) (argT m c) (argG m c)
      ∧ r.2.mem ((c : Thread nD τ).loc main_v9_2) = dR (argF m c) (argD m c) (argE m c) (argP m c) (argW m c) (argX m c) (argT m c) (argG m c)
      ∧ r.2.mem ((c : Thread nD τ).loc main_v9_3) = sR (argF m c) (argD m c) (argE m c) (argP m c) (argW m c) (argX m c) (argT m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c => ⟨(h c).1.trans (final10 m c), (h c).2.1.trans (final11 m c), (h c).2.2.1.trans (final12 m c), (h c).2.2.2.1.trans (final13 m c), (h c).2.2.2.2⟩)
    (Value.run_blocks (F := Ideal) m ρ)

end Cert.OutLossIdeal.Val
-- ==== Proof.OutLossRef.lean ====
/-
  The loss head's reference, one operation at a time, as functions of the arguments.
-/
module
public import proofs.«01_k».proof.Proof.OutLossRun
public import proofs.«01_k».proof.Proof.InRef
public import proofs.«01_k».proof.Proof.GateRef
public import proofs.«01_k».proof.Proof.Gen.OutLossRefIdeal.Read
public import Idealize.ShloMosaic.Lib.IdealHost
public import Idealize.ShloMosaic.Lib.Pointwise
@[expose] public section
set_option maxRecDepth 16384
noncomputable section
namespace Cert.OutLossRefIdeal.Val
open Idealize.ShloMosaic hiding ix1 ix2 ix3 eq_ix1 eq_ix2 eq_ix3
open Idealize.ShloMosaic.ValueIdx Cert.OutLossRefIdeal Cert.OutLossRefIdeal.Gen Cert.OutLossRefIdeal.Read Cert.Cols Cert.Silu Cert.LossRow
open Cert.InGradIdeal.Val (rms nrm dxr msq dxd cN cE cH rms_def dx_forms cN_eq sum_mul_nonneg)
open Cert.InGradRefIdeal.Val (at1 at2 at3 sum_two zero_bits)
open Cert.GateGradRefIdeal.Val (join_at)
open Cert.OutLossIdeal.Val (yF hF gF tF ggK loK yR dR sR)
open scoped BigOperators

/-! ## Constants and sums -/

/-- The gradient of half the squares' mean at one error. -/
theorem ct_eq (a : EReal) : Ideal.div (cF * one) cN * (cT * a) = a * cD := by
  rw [one_eq, mul_one, cF_eq, cT_eq, cN_eq, cD_eq, Ideal.div_coe (by norm_num : (1024 : ℝ) ≠ 0), ← mul_assoc, ← EReal.coe_mul, ← EReal.coe_mul, mul_comm]
  exact congrArg (fun r : ℝ => a * (r : EReal)) (by norm_num)

theorem lo_eq (q : Fin 2 → Fin 2048 → EReal) : Ideal.div (cF * ∑ b : Fin 2, ∑ s : Fin 2048, q b s * q b s) cN = ∑ b : Fin 2, ∑ s : Fin 2048, cL * (q b s * q b s) := by
  have e : ∀ S : EReal, Ideal.div (cF * S) cN = S * cL := fun S => by
    rw [cF_eq, cN_eq, cL_eq, Ideal.div_coe (by norm_num : (1024 : ℝ) ≠ 0), mul_comm _ S, mul_assoc, ← EReal.coe_mul]
    exact congrArg (fun r : ℝ => S * (r : EReal)) (by norm_num)
  rw [e]
  have h : ∀ b : Fin 2, (∑ s : Fin 2048, q b s * q b s) * cL = ∑ s : Fin 2048, cL * (q b s * q b s) := fun b => (mul_comm _ _).trans (sum_sq _ _)
  rw [← Finset.sum_congr rfl fun b _ => h b, cL_eq]
  exact sum_mul_nonneg _ _ _ (by norm_num)

variable (f d : S2x2048x768.Idx → EReal) (e : S2x2048x512.Idx → EReal) (p : S2x2048x7680.Idx → EReal) (w : S1x2048x1024.Idx → EReal)
  (x t : S2x2048x1024.Idx → EReal) (g : S1024.Idx → EReal) (b : Fin 2) (s : Fin 2048) (i : Fin 1024)

/-! ## The gated branches -/

theorem gate0 (k : Fin 768) : val_main_v1 (F := Ideal) p (ix3 b s k) = p (ix3 b s (⟨2304 + k.val, by omega⟩ : Fin 7680)) := by
  rw [val_main_v1_apply, val_main_v0_apply]
  exact congrArg p (at3 _ b s _ rfl rfl (by show _ = 2304 + k.val; first | rfl | exact Nat.add_comm _ _))
theorem gated0 (k : Fin 768) : val_main_v5 (F := Ideal) f p (ix3 b s k) = f (ix3 b s k) * gs (p (ix3 b s (⟨2304 + k.val, by omega⟩ : Fin 7680))) := by
  rw [val_main_v5_apply, val_main_v4_apply, val_main_call0_v5_apply, val_main_call0_v4_apply, val_main_call0_cst_0_apply, val_main_call0_v3_apply, val_main_call0_v2_apply, val_main_call0_cst_apply,
    val_main_call0_v1_apply, val_main_call0_v0_apply, gate0, gs_eq]
  refine congrArg (f (ix3 b s k) * ·) (congrArg (p (ix3 b s (⟨2304 + k.val, by omega⟩ : Fin 7680)) * ·) ?_)
  exact sg_neg _
theorem gate1 (k : Fin 768) : val_main_v2 (F := Ideal) p (ix3 b s k) = p (ix3 b s (⟨5376 + k.val, by omega⟩ : Fin 7680)) := by
  rw [val_main_v2_apply, val_main_v0_apply]
  exact congrArg p (at3 _ b s _ rfl rfl (by show _ = 5376 + k.val; first | rfl | exact Nat.add_comm _ _))
theorem gated1 (k : Fin 768) : val_main_v7 (F := Ideal) d p (ix3 b s k) = d (ix3 b s k) * gs (p (ix3 b s (⟨5376 + k.val, by omega⟩ : Fin 7680))) := by
  rw [val_main_v7_apply, val_main_v6_apply, val_main_call1_v5_apply, val_main_call1_v4_apply, val_main_call1_cst_0_apply, val_main_call1_v3_apply, val_main_call1_v2_apply, val_main_call1_cst_apply,
    val_main_call1_v1_apply, val_main_call1_v0_apply, gate1, gs_eq]
  refine congrArg (d (ix3 b s k) * ·) (congrArg (p (ix3 b s (⟨5376 + k.val, by omega⟩ : Fin 7680)) * ·) ?_)
  exact sg_neg _
theorem gate2 (k : Fin 512) : val_main_v3 (F := Ideal) p (ix3 b s k) = p (ix3 b s (⟨6656 + k.val, by omega⟩ : Fin 7680)) := by
  rw [val_main_v3_apply, val_main_v0_apply]
  exact congrArg p (at3 _ b s _ rfl rfl (by show _ = 6656 + k.val; first | rfl | exact Nat.add_comm _ _))
theorem gated2 (k : Fin 512) : val_main_v9 (F := Ideal) e p (ix3 b s k) = e (ix3 b s k) * gs (p (ix3 b s (⟨6656 + k.val, by omega⟩ : Fin 7680))) := by
  rw [val_main_v9_apply, val_main_v8_apply, val_main_call2_v5_apply, val_main_call2_v4_apply, val_main_call2_cst_0_apply, val_main_call2_v3_apply, val_main_call2_v2_apply, val_main_call2_cst_apply,
    val_main_call2_v1_apply, val_main_call2_v0_apply, gate2, gs_eq]
  refine congrArg (e (ix3 b s k) * ·) (congrArg (p (ix3 b s (⟨6656 + k.val, by omega⟩ : Fin 7680)) * ·) ?_)
  exact sg_neg _

theorem y_at (j : Fin 2048) : val_main_v10 (F := Ideal) f d e p (ix3 b s j) = yF f d e p b s j := by
  unfold val_main_v10
  refine (join_at b s _ _ _ concatenates_S2x2048x768_S2x2048x768_S2x2048x512_S2x2048x2048_d2 j).trans ?_
  simp only [gated0, gated1, gated2]
  rfl

theorem h_at : val_main_v13 (F := Ideal) f d e p w x (ix3 b s i) = hF f d e p w x b s i := by
  rw [val_main_v13_apply, val_main_v12_apply]
  refine congrArg (x (ix3 b s i) + ·) (Finset.sum_congr rfl fun k _ => ?_)
  rw [at3 (lidx_main_v12 (ix3 b s i) k) b s k rfl rfl rfl, y_at, val_main_v11_apply]
  refine congrArg (yF f d e p b s k * ·) (congrArg w (at3 _ (0 : Fin 1) k i rfl ?_ ?_))
  · show (k.val * 1024 + i.val) / 1024 % 2048 = k.val
    omega
  · show (k.val * 1024 + i.val) % 1024 = i.val
    omega

/-! ## The norm -/

theorem msq_at : val_main_v20 (F := Ideal) f d e p w x (ix3 b s (0 : Fin 1)) = msq (hF f d e p w x b s) := by
  rw [val_main_v20_apply, val_main_v18_apply, val_main_v16_apply, val_main_v17_apply, val_main_v19_apply, val_main_cst_0_apply, val_main_cst_1_apply,
    at2 (idx_main_v16 (ix3 b s (0 : Fin 1))) b s rfl rfl, val_main_v15_apply, val_main_cst_apply, zero_bits, zero_add]
  have h : ∀ k : Fin 1024, val_main_v14 (F := Ideal) f d e p w x (idx_main_v15 (ix2 b s) k) = hF f d e p w x b s k * hF f d e p w x b s k := fun k => by
    rw [val_main_v14_apply, at3 (idx_main_v15 (ix2 b s) k) b s k rfl rfl rfl, h_at]; rfl
  rw [Finset.sum_congr rfl fun k _ => h k]
  rfl

theorem rms_at : val_main_v21 (F := Ideal) f d e p w x (ix3 b s (0 : Fin 1)) = rms (hF f d e p w x b s) := by
  rw [val_main_v21_apply, msq_at, rms_def]
  rfl

theorem quot_at : val_main_v24 (F := Ideal) f d e p w x (ix3 b s (0 : Fin 1)) = cH * Ideal.div (rms (hF f d e p w x b s)) (msq (hF f d e p w x b s)) := by
  rw [val_main_v24_apply, val_main_v23_apply, val_main_cst_2_apply, val_main_v22_apply, rms_at, msq_at]
  rfl

theorem nrm_at : val_main_v26 (F := Ideal) f d e p w x (ix3 b s i) = nrm (hF f d e p w x b s) i := by
  rw [val_main_v26_apply, val_main_v25_apply, at3 (idx_main_v25 (ix3 b s i)) b s (0 : Fin 1) rfl rfl rfl, rms_at, h_at]
  rfl

theorem gain_at : val_main_v28 (F := Ideal) g (ix3 b s i) = gF g i := by
  rw [val_main_v28_apply, val_main_v27_apply]
  exact congrArg g (at1 _ _ rfl)
theorem gain_at' : val_main_v48 (F := Ideal) g (ix3 b s i) = gF g i := by
  rw [val_main_v48_apply, val_main_v27_apply]
  exact congrArg g (at1 _ _ rfl)

/-! ## The error and its gradient -/

theorem er_at : val_main_v30 (F := Ideal) f d e p w x t g (ix3 b s i) = er (hF f d e p w x b s) (gF g) (tF t b s) i := by
  rw [val_main_v30_apply, val_main_v29_apply, nrm_at, gain_at]
  rfl

theorem ot_at : val_main_v44 (F := Ideal) f d e p w x t g (ix3 b s i) = ot (hF f d e p w x b s) (gF g) (tF t b s) i := by
  rw [val_main_v44_apply, val_main_v33_apply, val_main_v32_apply, val_main_cst_3_apply, er_at, val_main_v43_apply, val_main_v42_apply, val_main_v41_apply, val_main_cst_10_apply,
    val_main_v40_apply, val_main_v39_apply, val_main_cst_8_apply, val_main_cst_9_apply]
  unfold ot
  exact ct_eq _

theorem dn_at : val_main_v49 (F := Ideal) f d e p w x t g (ix3 b s i) = ot (hF f d e p w x b s) (gF g) (tF t b s) i * gF g i := by
  rw [val_main_v49_apply, ot_at, gain_at']
  rfl

theorem t_at : val_main_v60 (F := Ideal) f d e p w x t g (ix3 b s i)
    = Ideal.div ((∑ k : Fin 1024, hF f d e p w x b s k * (ot (hF f d e p w x b s) (gF g) (tF t b s) k * gF g k)) * (cH * Ideal.div (rms (hF f d e p w x b s)) (msq (hF f d e p w x b s)))) cN := by
  rw [val_main_v60_apply, at2 (idx_main_v60 (ix3 b s i)) b s rfl rfl, val_main_v59_apply, val_main_cst_15_apply, zero_bits, zero_add, Fin.sum_univ_one,
    at3 (idx_main_v59 (ix2 b s) 0) b s (0 : Fin 1) rfl rfl rfl, val_main_v58_apply, val_main_v56_apply, val_main_v57_apply, val_main_cst_14_apply, quot_at,
    val_main_v53_apply, at2 (idx_main_v53 (ix3 b s (0 : Fin 1))) b s (show ((b.val * 2048 + s.val) * 1 + 0) / 2048 = b.val by omega)
      (show ((b.val * 2048 + s.val) * 1 + 0) % 2048 = s.val by omega), val_main_v52_apply, val_main_cst_13_apply, zero_bits, zero_add]
  have h : ∀ k : Fin 1024, val_main_v51 (F := Ideal) f d e p w x t g (idx_main_v52 (ix2 b s) k) = hF f d e p w x b s k * (ot (hF f d e p w x b s) (gF g) (tF t b s) k * gF g k) := fun k => by
    rw [at3 (idx_main_v52 (ix2 b s) k) b s k rfl rfl rfl, val_main_v51_apply, dn_at, h_at]; rfl
  rw [Finset.sum_congr rfl fun k _ => h k]
  rfl

theorem dx_at : val_main_v64 (F := Ideal) f d e p w x t g (ix3 b s i) = dl (hF f d e p w x b s) (gF g) (tF t b s) i := by
  rw [val_main_v64_apply, val_main_v62_apply, val_main_v63_apply, val_main_v61_apply, val_main_v55_apply, val_main_v54_apply, t_at, dn_at, h_at,
    at3 (idx_main_v54 (ix3 b s i)) b s (0 : Fin 1) rfl rfl rfl, rms_at, ← dl_eq, ← dx_forms]
  unfold dxd
  rw [zero_add]
  rfl

/-! ## The results -/

theorem y_res : val_main_v72 (F := Ideal) f d e p = yR f d e p := funext fun y => by
  obtain ⟨r, j, rfl⟩ : ∃ (r : Fin 4096) (j : Fin 2048), y = ix2 r j := ⟨y 0, y 1, eq_ix2 y⟩
  unfold val_main_v72
  refine (flat_apply _ _ r j).trans ?_
  rw [val_main_v71_apply]
  exact y_at f d e p (bat r) (pos r) j

theorem dx_row (r : Fin 4096) : val_main_v65 (F := Ideal) f d e p w x t g (ix2 r i) = dR f d e p w x t g (ix2 r i) := by
  rw [val_main_v65_apply, at3 (idx_main_v65 (ix2 r i)) (bat r) (pos r) i (show (r.val * 1024 + i.val) / 2097152 = r.val / 2048 by omega)
    (show (r.val * 1024 + i.val) / 1024 % 2048 = r.val % 2048 by omega) (show (r.val * 1024 + i.val) % 1024 = i.val by omega), dx_at]
  rfl
theorem dx_res : val_main_v65 (F := Ideal) f d e p w x t g = dR f d e p w x t g := funext fun y => by
  obtain ⟨r, i, rfl⟩ : ∃ (r : Fin 4096) (i : Fin 1024), y = ix2 r i := ⟨y 0, y 1, eq_ix2 y⟩
  exact dx_row f d e p w x t g i r
theorem dxb_res : val_main_v73 (F := Ideal) f d e p w x t g = dR f d e p w x t g := funext fun y => by
  obtain ⟨r, i, rfl⟩ : ∃ (r : Fin 4096) (i : Fin 1024), y = ix2 r i := ⟨y 0, y 1, eq_ix2 y⟩
  rw [val_main_v73_apply]
  exact dx_row f d e p w x t g i r

theorem gg_at : val_main_v46 (F := Ideal) f d e p w x t g (ix1 i) = ∑ b : Fin 2, ∑ s : Fin 2048, ggK f d e p w x t g i b s := by
  have h : ∀ b s, val_main_v45 (F := Ideal) f d e p w x t g (ix3 b s i) = ggK f d e p w x t g i b s := fun b s => by
    rw [val_main_v45_apply, nrm_at, ot_at]
    exact mul_comm (G := EReal) _ _
  unfold val_main_v46
  generalize val_main_v45 (F := Ideal) f d e p w x t g = y at h
  simp only [Host.reduceAdd, Ideal.hostReduceAdd_def]
  rw [sum_two, val_main_cst_11_apply, zero_bits, zero_add]
  exact Finset.sum_congr rfl fun b _ => Finset.sum_congr rfl fun s _ => h b s

theorem gg_row : val_main_v74 (F := Ideal) f d e p w x t g (ix2 (0 : Fin 1) i) = ∑ b : Fin 2, ∑ s : Fin 2048, ggK f d e p w x t g i b s := by
  rw [val_main_v74_apply, at1 (idx_main_v74 (ix2 (0 : Fin 1) i)) i rfl]
  have h : val_main_v47 (F := Ideal) f d e p w x t g (ix3 (0 : Fin 1) (0 : Fin 1) i) = ∑ b : Fin 2, ∑ s : Fin 2048, ggK f d e p w x t g i b s := by
    rw [val_main_v47_apply, at1 (idx_main_v47 (ix3 (0 : Fin 1) (0 : Fin 1) i)) i (show (0 * 1 + 0) * 1024 + i.val = i.val by omega), gg_at]
  unfold val_main_v50
  generalize val_main_v47 (F := Ideal) f d e p w x t g = y at h
  simp only [Host.reduceAdd, Ideal.hostReduceAdd_def]
  rw [sum_two, val_main_cst_12_apply, zero_bits, zero_add, Fin.sum_univ_one, Fin.sum_univ_one]
  exact h

theorem lo_row : val_main_v75 (F := Ideal) f d e p w x t g (ix2 (0 : Fin 1) i) = ∑ b : Fin 2, ∑ s : Fin 2048, loK f d e p w x t g i b s := by
  rw [val_main_v75_apply, at1 (idx_main_v75 (ix2 (0 : Fin 1) i)) i rfl, val_main_v70_apply, val_main_v69_apply, val_main_cst_18_apply, val_main_v68_apply, val_main_v67_apply, val_main_cst_17_apply]
  have h : ∀ b s, val_main_v31 (F := Ideal) f d e p w x t g (ix3 b s i) = er (hF f d e p w x b s) (gF g) (tF t b s) i * er (hF f d e p w x b s) (gF g) (tF t b s) i := fun b s => by
    rw [val_main_v31_apply, er_at]; rfl
  have h' : val_main_v66 (F := Ideal) f d e p w x t g (ix1 i) = ∑ b : Fin 2, ∑ s : Fin 2048, er (hF f d e p w x b s) (gF g) (tF t b s) i * er (hF f d e p w x b s) (gF g) (tF t b s) i := by
    unfold val_main_v66
    generalize val_main_v31 (F := Ideal) f d e p w x t g = y at h
    simp only [Host.reduceAdd, Ideal.hostReduceAdd_def]
    rw [sum_two, val_main_cst_16_apply, zero_bits, zero_add]
    exact Finset.sum_congr rfl fun b _ => Finset.sum_congr rfl fun s _ => h b s
  rw [h']
  exact lo_eq fun b s => er (hF f d e p w x b s) (gF g) (tF t b s) i

theorem s_res : val_main_v77 (F := Ideal) f d e p w x t g = sR f d e p w x t g := funext fun y => by
  have e0 := gg_row f d e p w x t g
  have e1 := lo_row f d e p w x t g
  have e2 : ∀ z, val_main_v76 (F := Ideal) z = 0 := fun z => by
    rw [val_main_v76_apply, val_main_cst_19_apply]; exact zero_bits
  obtain ⟨a, i, rfl⟩ : ∃ (a : Fin 8) (i : Fin 1024), y = ix2 a i := ⟨y 0, y 1, eq_ix2 y⟩
  unfold sR
  show _ = if a.val = 0 then ∑ b : Fin 2, ∑ s : Fin 2048, ggK f d e p w x t g i b s
      else if a.val = 1 then ∑ b : Fin 2, ∑ s : Fin 2048, loK f d e p w x t g i b s else 0
  unfold val_main_v77
  generalize val_main_v74 (F := Ideal) f d e p w x t g = u at e0
  generalize val_main_v75 (F := Ideal) f d e p w x t g = v at e1
  generalize val_main_v76 (F := Ideal) = z at e2
  rw [← e0, ← e1]
  have ha : (ix2 a i 0).val = a.val := rfl
  have hi : (ix2 a i 1).val = i.val := rfl
  pointwise
  by_cases h0 : a.val = 0
  · rw [if_pos h0, dif_pos (by rw [ha]; omega)]
    exact congrArg u (at2 _ _ _ h0 rfl)
  · rw [if_neg h0, dif_neg (by rw [ha]; omega)]
    by_cases h1 : a.val = 1
    · rw [if_pos h1, dif_pos (by rw [ha]; omega)]
      exact congrArg v (at2 _ _ _ (by show a.val - 1 = 0; omega) rfl)
    · rw [if_neg h1, dif_neg (by rw [ha]; omega)]
      exact e2 _

end Cert.OutLossRefIdeal.Val
-- ==== Proof.OutLossClaim.lean ====
/-
  The output projection, the final norm and the loss: the claims.
-/
module
public import proofs.«01_k».proof.Defs
public import proofs.«01_k».proof.Proof.OutLossRef
public import Idealize.ShloMosaic.Lib.Quiescent
@[expose] public section
set_option maxRecDepth 16384
noncomputable section
namespace Cert.OutLossClaim
open Idealize.ShloMosaic hiding ix2 ix3 eq_ix2 eq_ix3
open Idealize.ShloMosaic.ValueIdx Idealize.SL.Sem
open Cert.OutLossIdeal.Val Cert.OutLossRefIdeal.Val Cert.OutLossRefIdeal.Read

theorem frame_ref : Cert.quiescent_OutLossRefIdeal := fun m ρ _ =>
  (θ_run Cert.OutLossRefIdeal.defs _ _).mono
    (fun r h => ⟨fun c => (h c).2.2.2.2, sem_eq_zero_of_no_sems (by decide) r.2⟩) (Cert.OutLossRefIdeal.Value.run (F := Ideal) m ρ)

theorem algebraic : Cert.algebraic_OutLossIdeal_OutLossRefIdeal := fun m g m' g' _ hagree =>
  ⟨fun c => yR (argF m c) (argD m c) (argE m c) (argP m c),
    fun c => dR (argF m c) (argD m c) (argE m c) (argP m c) (argW m c) (argX m c) (argT m c) (argG m c),
    fun c => dR (argF m c) (argD m c) (argE m c) (argP m c) (argW m c) (argX m c) (argT m c) (argG m c),
    fun c => sR (argF m c) (argD m c) (argE m c) (argP m c) (argW m c) (argX m c) (argT m c) (argG m c), run m g,
    (θ_run Cert.OutLossRefIdeal.defs _ _).mono (fun r h c => by
      obtain ⟨h72, h65, h73, h77, ha⟩ := h c
      obtain ⟨a0, a1, a2, a3, a4, a5, a6, a7⟩ := hagree c
      refine ⟨h72.trans ?_, h65.trans ?_, h73.trans ?_, h77.trans ?_, ha⟩
      · rw [val_main_v72_eq, a0, a1, a2, a3]; exact y_res _ _ _ _
      · rw [val_main_v65_eq, a0, a1, a2, a3, a4, a5, a6, a7]; exact dx_res _ _ _ _ _ _ _ _
      · rw [val_main_v73_eq, a0, a1, a2, a3, a4, a5, a6, a7]; exact dxb_res _ _ _ _ _ _ _ _
      · rw [val_main_v77_eq, a0, a1, a2, a3, a4, a5, a6, a7]; exact s_res _ _ _ _ _ _ _ _) (Cert.OutLossRefIdeal.Value.run (F := Ideal) m' g')⟩

end Cert.OutLossClaim
-- ==== Proof.InProjPts.lean ====
/-
  The input projection's grid: which branch of the body a point takes, where its output windows are stored and written back, and
  its buffers.
-/
module
public import proofs.«01_k».proof.Proof.Gen.InProjIdeal.Frame
public import proofs.«01_k».proof.Proof.Gen.InProjIdeal.Skeleton
public import Idealize.ShloMosaic.Lib.Pipeline.Frame

@[expose] public section
set_option maxRecDepth 16384
noncomputable section
namespace Cert.InProjIdeal.Body
open Idealize.ShloMosaic Idealize.ShloMosaic.TcCoe Idealize.ShloMosaic.Tactic
open Cert.InProjIdeal Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## The branches -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (fun t => by
    have ht : t.val < 40 := Nat.lt_of_lt_of_eq t.isLt N_0
    have e0 : (grid0.coords t 0).val = t.val / 10 % 4 := Pipeline.Grid.coords_val t 0 (by decide) rfl
    have e1 : (grid0.coords t 1).val = t.val / 1 % 10 := Pipeline.Grid.coords_val t 1 (by decide) rfl
    simp only [cond0_0, e0, e1]
    word_cmp
   : ∀ t : Fin grid0.N, cond0_0 (grid0.coords t) ↔ t.val % 10 = 0)

abbrev cond0_1 (i : grid0.Coords) : Prop := k0_cond2 i = 1#1
theorem hcond0_1 : ∀ t : Fin cfg0.N, cond0_1 (grid0.coords t) ↔ (4 ≤ t.val % 10 ∧ t.val % 10 ≤ 5) :=
  (by decide +kernel : ∀ t : Fin grid0.N, cond0_1 (grid0.coords t) ↔ (4 ≤ t.val % 10 ∧ t.val % 10 ≤ 5))

abbrev cond0_2 (i : grid0.Coords) : Prop := k0_cond3 i = 1#1
theorem hcond0_2 : ∀ t : Fin cfg0.N, cond0_2 (grid0.coords t) ↔ t.val % 10 = 6 :=
  (by decide +kernel : ∀ t : Fin grid0.N, cond0_2 (grid0.coords t) ↔ t.val % 10 = 6)

abbrev cond0_3 (i : grid0.Coords) : Prop := k0_cond4 i = 1#1
theorem hcond0_3 : ∀ t : Fin cfg0.N, cond0_3 (grid0.coords t) ↔ t.val % 10 = 9 :=
  (fun t => by
    have ht : t.val < 40 := Nat.lt_of_lt_of_eq t.isLt N_0
    have e0 : (grid0.coords t 0).val = t.val / 10 % 4 := Pipeline.Grid.coords_val t 0 (by decide) rfl
    have e1 : (grid0.coords t 1).val = t.val / 1 % 10 := Pipeline.Grid.coords_val t 1 (by decide) rfl
    simp only [cond0_3, k0_cond4, e0, e1]
    word_cmp
   : ∀ t : Fin grid0.N, cond0_3 (grid0.coords t) ↔ t.val % 10 = 9)

abbrev cond0_4 (i : grid0.Coords) : Prop := k0_cond5 i = 1#1
theorem hcond0_4 : ∀ t : Fin cfg0.N, cond0_4 (grid0.coords t) ↔ ¬(t.val % 10 = 4 ∨ t.val % 10 = 5 ∨ t.val % 10 = 6 ∨ t.val % 10 = 9) :=
  (by decide +kernel : ∀ t : Fin grid0.N, cond0_4 (grid0.coords t) ↔ ¬(t.val % 10 = 4 ∨ t.val % 10 = 5 ∨ t.val % 10 = 6 ∨ t.val % 10 = 9))

/-! ## Where a window is stored -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, t.val % 10 = 0 → cfg0.idle 6 (grid0.coords t) = false :=
  (by decide +kernel : ∀ t : Fin grid0.N, t.val % 10 = 0 → cfg0.idle 6 (grid0.coords t) = false)
theorem idle6 : ∀ t : Fin cfg0.N, ¬t.val % 10 = 0 → cfg0.idle 6 (grid0.coords t) = true :=
  (by decide +kernel : ∀ t : Fin grid0.N, ¬t.val % 10 = 0 → cfg0.idle 6 (grid0.coords t) = true)
theorem live7 : ∀ t : Fin cfg0.N, cfg0.idle 7 (grid0.coords t) = false :=
  (by decide +kernel : ∀ t : Fin grid0.N, cfg0.idle 7 (grid0.coords t) = false)
theorem live8 : ∀ t : Fin cfg0.N, (4 ≤ t.val % 10 ∧ t.val % 10 ≤ 6) → cfg0.idle 8 (grid0.coords t) = false :=
  (by decide +kernel : ∀ t : Fin grid0.N, (4 ≤ t.val % 10 ∧ t.val % 10 ≤ 6) → cfg0.idle 8 (grid0.coords t) = false)
theorem idle8 : ∀ t : Fin cfg0.N, ¬(4 ≤ t.val % 10 ∧ t.val % 10 ≤ 6) → cfg0.idle 8 (grid0.coords t) = true :=
  (by decide +kernel : ∀ t : Fin grid0.N, ¬(4 ≤ t.val % 10 ∧ t.val % 10 ≤ 6) → cfg0.idle 8 (grid0.coords t) = true)
theorem live9 : ∀ t : Fin cfg0.N, t.val % 10 = 9 → cfg0.idle 9 (grid0.coords t) = false :=
  (by decide +kernel : ∀ t : Fin grid0.N, t.val % 10 = 9 → cfg0.idle 9 (grid0.coords t) = false)
theorem idle9 : ∀ t : Fin cfg0.N, ¬t.val % 10 = 9 → cfg0.idle 9 (grid0.coords t) = true :=
  (by decide +kernel : ∀ t : Fin grid0.N, ¬t.val % 10 = 9 → cfg0.idle 9 (grid0.coords t) = true)

/-! ## Where it is written back -/

theorem stay6 (t : Fin cfg0.N) (h : ¬t.val % 10 = 9) : (cfg0.win 6).flush t = false :=
  Bool.eq_false_iff.mpr fun hf => h ((flush0_6 t).mp hf)
theorem stay9 (t : Fin cfg0.N) (h : ¬t.val % 10 = 9) : (cfg0.win 9).flush t = false :=
  Bool.eq_false_iff.mpr fun hf => h ((flush0_9 t).mp hf)
theorem flush8 : ∀ t : Fin cfg0.N, (cfg0.win 8).flush t = true ↔ (t.val % 10 = 4 ∨ t.val % 10 = 5 ∨ t.val % 10 = 9) :=
  (by decide +kernel : ∀ t : Fin grid0.N, win0_8.flush t = true ↔ (t.val % 10 = 4 ∨ t.val % 10 = 5 ∨ t.val % 10 = 9))
theorem stay8 (t : Fin cfg0.N) (h : ¬(t.val % 10 = 4 ∨ t.val % 10 = 5 ∨ t.val % 10 = 9)) : (cfg0.win 8).flush t = false :=
  Bool.eq_false_iff.mpr fun hf => h ((flush8 t).mp hf)

/-! ## The buffers -/

abbrev VO0_6 : View sig .tc .vmem S1024x1024 .bf16 := (Memref.whole cc0_stg6_0 : Memref sig .tc .vmem S1024x1024 .bf16).view
abbrev VO0_7 : View sig .tc .vmem S1024x768 .bf16 := (Memref.whole cc0_stg7_0 : Memref sig .tc .vmem S1024x768 .bf16).view
abbrev VO0_8 : View sig .tc .vmem S1024x768 .f32 := (Memref.whole cc0_stg8_0 : Memref sig .tc .vmem S1024x768 .f32).view
abbrev VO0_9 : View sig .tc .vmem S1024x128 .f32 := (Memref.whole cc0_stg9_0 : Memref sig .tc .vmem S1024x128 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x768 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .f32 := win0_9.stage (cfg0.slots t 9)
abbrev hs0_9 (t : Fin cfg0.N) : (ms0_9 t).IsWhole := hstage0_9 ((cfg0.slots t 9).cast nbuf0_9)
abbrev scM0_0 : Memref sig .tc .vmem S1024x1024 .bf16 := Memref.whole cc0_scratch0
abbrev VS0_0 : View sig .tc .vmem S1024x1024 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.InProjIdeal.Body

end
-- ==== Proof.InProjRunA.lean ====
/-
  The input projection's body at the first point of a row of blocks, where the normed rows are made: its run and what it leaves in the buffers it stores into.
-/
module
public import proofs.«01_k».proof.Proof.InProjPts

@[expose] public section
set_option maxRecDepth 16384
noncomputable section
namespace Cert.InProjIdeal.Body
open Idealize.ShloMosaic Idealize.ShloMosaic.TcCoe Idealize.ShloMosaic.Tactic
open Cert.InProjIdeal Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The body's run at the first point of a row of blocks, where the normed rows are made: the pieces each stored buffer ends with, and the triple. -/
noncomputable def runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .f32) (harg10 : arg10.IsWhole) (arg11 : Memref sig .tc .vmem S1024x128 .f32) (harg11 : arg11.IsWhole) (arg12 : Memref sig .tc .vmem S1024x1024 .bf16) (harg12 : arg12.IsWhole)
    (hc0 : cond0_0 i) (hc1 : ¬cond0_1 i) (hc2 : ¬cond0_2 i) (hc3 : ¬cond0_3 i) (hc4 : cond0_4 i)
    (x0 : Vec F S1024x1024 .f32) (x1 : Vec F S1x1024 .f32) (x2 : Vec F S1024x768 .bf16) :
    Σ' (L6 : List (View.Piece (Elt F) S1024x1024 .bf16)), Σ' (L7 : List (View.Piece (Elt F) S1024x768 .bf16)), { LS : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg8 fullShare d) ∗ (∃ d, owns (c : Thread nD τ) arg9 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg12.view.loc (c : Thread nD τ) ↦[arg12.view.set]{fullShare} arg12.view.writes (Elt F) f LS)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_proj_eq_skeleton]; unfold cc0_proj_skel
    unfold owns
    iintro ⟨⟨%f2, %hf2, H2⟩, ⟨%f3, %hf3, H3⟩, ⟨%f4, %hf4, H4⟩, ⟨%d8, %f8, -, H8⟩, ⟨%d9, %f9, -, H9⟩, ⟨%d12, %f12, -, H12⟩, Hk⟩
    obtain rfl := harg2.eq_unread hf2; obtain rfl := harg3.eq_unread hf3; obtain rfl := harg4.eq_unread hf4
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H8]; · iexists _; iexact H8
    isplitl [H9]; · iexists _; iexact H9
    iexists _; iexact H12

section Out
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .f32) (harg10 : arg10.IsWhole) (arg11 : Memref sig .tc .vmem S1024x128 .f32) (harg11 : arg11.IsWhole) (arg12 : Memref sig .tc .vmem S1024x1024 .bf16) (harg12 : arg12.IsWhole)
    (hc0 : cond0_0 i) (hc1 : ¬cond0_1 i) (hc2 : ¬cond0_2 i) (hc3 : ¬cond0_3 i) (hc4 : cond0_4 i)
    (x0 : Vec F S1024x1024 .f32) (x1 : Vec F S1x1024 .f32) (x2 : Vec F S1024x768 .bf16)

theorem coverA_6 (y : S1024x1024.Idx) : ∃ pc ∈ (runA c i arg2 harg2 arg3 harg3 arg4 harg4 arg5 harg5 arg6 harg6 arg7 harg7 arg8 harg8 arg9 harg9 arg10 harg10 arg11 harg11 arg12 harg12 hc0 hc1 hc2 hc3 hc4 x0 x1 x2).1, y ∈ pc.1.set :=
  View.cover_of_tiledL (runA c i arg2 harg2 arg3 harg3 arg4 harg4 arg5 harg5 arg6 harg6 arg7 harg7 arg8 harg8 arg9 harg9 arg10 harg10 arg11 harg11 arg12 harg12 hc0 hc1 hc2 hc3 hc4 x0 x1 x2).1 S1024x1024.size (by sl_kernel_rfl) y
/-- What the body leaves there. -/
def outA_6 : Vec F S1024x1024 .bf16 := VO0_6.read (Elt F) (VO0_6.writes (Elt F) VO0_6.junk (runA c i arg2 harg2 arg3 harg3 arg4 harg4 arg5 harg5 arg6 harg6 arg7 harg7 arg8 harg8 arg9 harg9 arg10 harg10 arg11 harg11 arg12 harg12 hc0 hc1 hc2 hc3 hc4 x0 x1 x2).1)

theorem coverA_7 (y : S1024x768.Idx) : ∃ pc ∈ (runA c i arg2 harg2 arg3 harg3 arg4 harg4 arg5 harg5 arg6 harg6 arg7 harg7 arg8 harg8 arg9 harg9 arg10 harg10 arg11 harg11 arg12 harg12 hc0 hc1 hc2 hc3 hc4 x0 x1 x2).2.1, y ∈ pc.1.set :=
  View.cover_of_tiledL (runA c i arg2 harg2 arg3 harg3 arg4 harg4 arg5 harg5 arg6 harg6 arg7 harg7 arg8 harg8 arg9 harg9 arg10 harg10 arg11 harg11 arg12 harg12 hc0 hc1 hc2 hc3 hc4 x0 x1 x2).2.1 S256x768.size (by sl_kernel_rfl) y
/-- What the body leaves there. -/
def outA_7 : Vec F S1024x768 .bf16 := VO0_7.read (Elt F) (VO0_7.writes (Elt F) VO0_7.junk (runA c i arg2 harg2 arg3 harg3 arg4 harg4 arg5 harg5 arg6 harg6 arg7 harg7 arg8 harg8 arg9 harg9 arg10 harg10 arg11 harg11 arg12 harg12 hc0 hc1 hc2 hc3 hc4 x0 x1 x2).2.1)

theorem coverA_s (y : S1024x1024.Idx) : ∃ pc ∈ (runA c i arg2 harg2 arg3 harg3 arg4 harg4 arg5 harg5 arg6 harg6 arg7 harg7 arg8 harg8 arg9 harg9 arg10 harg10 arg11 harg11 arg12 harg12 hc0 hc1 hc2 hc3 hc4 x0 x1 x2).2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 hc0 hc1 hc2 hc3 hc4 x0 x1 x2).2.2.1 S1024x1024.size (by sl_kernel_rfl) y
/-- What the body leaves there. -/
def outA_s : Vec F S1024x1024 .bf16 := VS0_0.read (Elt F) (VS0_0.writes (Elt F) VS0_0.junk (runA c i arg2 harg2 arg3 harg3 arg4 harg4 arg5 harg5 arg6 harg6 arg7 harg7 arg8 harg8 arg9 harg9 arg10 harg10 arg11 harg11 arg12 harg12 hc0 hc1 hc2 hc3 hc4 x0 x1 x2).2.2.1)

end Out

end Cert.InProjIdeal.Body

end
-- ==== Proof.InProjRunB.lean ====
/-
  The input projection's body at a plain point: its run and what it leaves in the buffers it stores into.
-/
module
public import proofs.«01_k».proof.Proof.InProjRunA

@[expose] public section
set_option maxRecDepth 16384
noncomputable section
namespace Cert.InProjIdeal.Body
open Idealize.ShloMosaic Idealize.ShloMosaic.TcCoe Idealize.ShloMosaic.Tactic
open Cert.InProjIdeal Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The body's run at a plain point: the pieces each stored buffer ends with, and the triple. -/
noncomputable def runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .f32) (harg10 : arg10.IsWhole) (arg11 : Memref sig .tc .vmem S1024x128 .f32) (harg11 : arg11.IsWhole) (arg12 : Memref sig .tc .vmem S1024x1024 .bf16) (harg12 : arg12.IsWhole)
    (hc0 : ¬cond0_0 i) (hc1 : ¬cond0_1 i) (hc2 : ¬cond0_2 i) (hc3 : ¬cond0_3 i) (hc4 : cond0_4 i)
    (x2 : Vec F S1024x768 .bf16) (xs0 : Vec F S1024x1024 .bf16) :
    { L7 : List (View.Piece (Elt F) S1024x768 .bf16) //
      ∀ (E : Set ℕ) (K : PUnit → sProp 𝕄),
        iprop(owns (c : Thread nD τ) arg4 fullShare x2 ∗ (∃ d, owns (c : Thread nD τ) arg9 fullShare d) ∗ owns (c : Thread nD τ) arg12 fullShare xs0
            ∗ (iprop(owns (c : Thread nD τ) arg4 fullShare x2 ∗ (∃ f, arg9.view.loc (c : Thread nD τ) ↦[arg9.view.set]{fullShare} arg9.view.writes (Elt F) f L7) ∗ owns (c : Thread nD τ) arg12 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_proj_eq_skeleton]; unfold cc0_proj_skel
    unfold owns
    iintro ⟨⟨%f4, %hf4, H4⟩, ⟨%d9, %f9, -, H9⟩, ⟨%f12, %hf12, H12⟩, Hk⟩
    obtain rfl := harg4.eq_unread hf4; obtain rfl := harg12.eq_unread hf12
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H9]; · iexists _; iexact H9
    iexists _; isplitr; · ipureintro; exact harg12.read_unread _
    iexact H12

section Out
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .f32) (harg10 : arg10.IsWhole) (arg11 : Memref sig .tc .vmem S1024x128 .f32) (harg11 : arg11.IsWhole) (arg12 : Memref sig .tc .vmem S1024x1024 .bf16) (harg12 : arg12.IsWhole)
    (hc0 : ¬cond0_0 i) (hc1 : ¬cond0_1 i) (hc2 : ¬cond0_2 i) (hc3 : ¬cond0_3 i) (hc4 : cond0_4 i)
    (x2 : Vec F S1024x768 .bf16) (xs0 : Vec F S1024x1024 .bf16)

theorem coverB_7 (y : S1024x768.Idx) : ∃ pc ∈ (runB c i arg2 harg2 arg3 harg3 arg4 harg4 arg5 harg5 arg6 harg6 arg7 harg7 arg8 harg8 arg9 harg9 arg10 harg10 arg11 harg11 arg12 harg12 hc0 hc1 hc2 hc3 hc4 x2 xs0).1, y ∈ pc.1.set :=
  View.cover_of_tiledL (runB c i arg2 harg2 arg3 harg3 arg4 harg4 arg5 harg5 arg6 harg6 arg7 harg7 arg8 harg8 arg9 harg9 arg10 harg10 arg11 harg11 arg12 harg12 hc0 hc1 hc2 hc3 hc4 x2 xs0).1 S256x768.size (by sl_kernel_rfl) y
/-- What the body leaves there. -/
def outB_7 : Vec F S1024x768 .bf16 := VO0_7.read (Elt F) (VO0_7.writes (Elt F) VO0_7.junk (runB c i arg2 harg2 arg3 harg3 arg4 harg4 arg5 harg5 arg6 harg6 arg7 harg7 arg8 harg8 arg9 harg9 arg10 harg10 arg11 harg11 arg12 harg12 hc0 hc1 hc2 hc3 hc4 x2 xs0).1)

end Out

end Cert.InProjIdeal.Body

end
-- ==== Proof.InProjRunC.lean ====
/-
  The input projection's body at a point of the rotated columns: its run and what it leaves in the buffers it stores into.
-/
module
public import proofs.«01_k».proof.Proof.InProjRunB

@[expose] public section
set_option maxRecDepth 16384
noncomputable section
namespace Cert.InProjIdeal.Body
open Idealize.ShloMosaic Idealize.ShloMosaic.TcCoe Idealize.ShloMosaic.Tactic
open Cert.InProjIdeal Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The body's run at a point of the rotated columns: the pieces each stored buffer ends with, and the triple. -/
noncomputable def runC (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .f32) (harg10 : arg10.IsWhole) (arg11 : Memref sig .tc .vmem S1024x128 .f32) (harg11 : arg11.IsWhole) (arg12 : Memref sig .tc .vmem S1024x1024 .bf16) (harg12 : arg12.IsWhole)
    (hc0 : ¬cond0_0 i) (hc1 : cond0_1 i) (hc2 : ¬cond0_2 i) (hc3 : ¬cond0_3 i) (hc4 : ¬cond0_4 i)
    (x2 : Vec F S1024x768 .bf16) (x3 : Vec F S1024x128 .f32) (x4 : Vec F S1024x128 .f32) (x5 : Vec F S1024x128 .f32) (xs0 : Vec F S1024x1024 .bf16) :
    Σ' (L7 : List (View.Piece (Elt F) S1024x768 .bf16)), { L8 : List (View.Piece (Elt F) S1024x768 .f32) //
      ∀ (E : Set ℕ) (K : PUnit → sProp 𝕄),
        iprop(owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ owns (c : Thread nD τ) arg12 fullShare xs0
            ∗ (iprop(owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg12 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_proj_eq_skeleton]; unfold cc0_proj_skel
    simp only [k0_part1_eq_skeleton, k0_part2_eq_skeleton]
    unfold owns
    iintro ⟨⟨%f4, %hf4, H4⟩, ⟨%f5, %hf5, H5⟩, ⟨%f6, %hf6, H6⟩, ⟨%f7, %hf7, H7⟩, ⟨%d9, %f9, -, H9⟩, ⟨%d10, %f10, -, H10⟩, ⟨%f12, %hf12, H12⟩, Hk⟩
    obtain rfl := harg4.eq_unread hf4; obtain rfl := harg5.eq_unread hf5; obtain rfl := harg6.eq_unread hf6; obtain rfl := harg7.eq_unread hf7; obtain rfl := harg12.eq_unread hf12
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]; · iexists _; iexact H9
    isplitl [H10]; · iexists _; iexact H10
    iexists _; isplitr; · ipureintro; exact harg12.read_unread _
    iexact H12

section Out
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .f32) (harg10 : arg10.IsWhole) (arg11 : Memref sig .tc .vmem S1024x128 .f32) (harg11 : arg11.IsWhole) (arg12 : Memref sig .tc .vmem S1024x1024 .bf16) (harg12 : arg12.IsWhole)
    (hc0 : ¬cond0_0 i) (hc1 : cond0_1 i) (hc2 : ¬cond0_2 i) (hc3 : ¬cond0_3 i) (hc4 : ¬cond0_4 i)
    (x2 : Vec F S1024x768 .bf16) (x3 : Vec F S1024x128 .f32) (x4 : Vec F S1024x128 .f32) (x5 : Vec F S1024x128 .f32) (xs0 : Vec F S1024x1024 .bf16)

theorem coverC_7 (y : S1024x768.Idx) : ∃ pc ∈ (runC c i arg2 harg2 arg3 harg3 arg4 harg4 arg5 harg5 arg6 harg6 arg7 harg7 arg8 harg8 arg9 harg9 arg10 harg10 arg11 harg11 arg12 harg12 hc0 hc1 hc2 hc3 hc4 x2 x3 x4 x5 xs0).1, y ∈ pc.1.set :=
  View.cover_of_tiledL (runC c i arg2 harg2 arg3 harg3 arg4 harg4 arg5 harg5 arg6 harg6 arg7 harg7 arg8 harg8 arg9 harg9 arg10 harg10 arg11 harg11 arg12 harg12 hc0 hc1 hc2 hc3 hc4 x2 x3 x4 x5 xs0).1 S256x768.size (by sl_kernel_rfl) y
/-- What the body leaves there. -/
def outC_7 : Vec F S1024x768 .bf16 := VO0_7.read (Elt F) (VO0_7.writes (Elt F) VO0_7.junk (runC c i arg2 harg2 arg3 harg3 arg4 harg4 arg5 harg5 arg6 harg6 arg7 harg7 arg8 harg8 arg9 harg9 arg10 harg10 arg11 harg11 arg12 harg12 hc0 hc1 hc2 hc3 hc4 x2 x3 x4 x5 xs0).1)

theorem coverC_8 (y : S1024x768.Idx) : ∃ pc ∈ (runC c i arg2 harg2 arg3 harg3 arg4 harg4 arg5 harg5 arg6 harg6 arg7 harg7 arg8 harg8 arg9 harg9 arg10 harg10 arg11 harg11 arg12 harg12 hc0 hc1 hc2 hc3 hc4 x2 x3 x4 x5 xs0).2.1, y ∈ pc.1.set :=
  View.cover_of_tiledL (runC c i arg2 harg2 arg3 harg3 arg4 harg4 arg5 harg5 arg6 harg6 arg7 harg7 arg8 harg8 arg9 harg9 arg10 harg10 arg11 harg11 arg12 harg12 hc0 hc1 hc2 hc3 hc4 x2 x3 x4 x5 xs0).2.1 S256x768.size (by sl_kernel_rfl) y
/-- What the body leaves there. -/
def outC_8 : Vec F S1024x768 .f32 := VO0_8.read (Elt F) (VO0_8.writes (Elt F) VO0_8.junk (runC c i arg2 harg2 arg3 harg3 arg4 harg4 arg5 harg5 arg6 harg6 arg7 harg7 arg8 harg8 arg9 harg9 arg10 harg10 arg11 harg11 arg12 harg12 hc0 hc1 hc2 hc3 hc4 x2 x3 x4 x5 xs0).2.1)

end Out

end Cert.InProjIdeal.Body

end
-- ==== Proof.InProjRunD.lean ====
/-
  The input projection's body at the point of the unrotated f32 columns: its run and what it leaves in the buffers it stores into.
-/
module
public import proofs.«01_k».proof.Proof.InProjRunC

@[expose] public section
set_option maxRecDepth 16384
noncomputable section
namespace Cert.InProjIdeal.Body
open Idealize.ShloMosaic Idealize.ShloMosaic.TcCoe Idealize.ShloMosaic.Tactic
open Cert.InProjIdeal Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The body's run at the point of the unrotated f32 columns: the pieces each stored buffer ends with, and the triple. -/
noncomputable def runD (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .f32) (harg10 : arg10.IsWhole) (arg11 : Memref sig .tc .vmem S1024x128 .f32) (harg11 : arg11.IsWhole) (arg12 : Memref sig .tc .vmem S1024x1024 .bf16) (harg12 : arg12.IsWhole)
    (hc0 : ¬cond0_0 i) (hc1 : ¬cond0_1 i) (hc2 : cond0_2 i) (hc3 : ¬cond0_3 i) (hc4 : ¬cond0_4 i)
    (x2 : Vec F S1024x768 .bf16) (xs0 : Vec F S1024x1024 .bf16) :
    Σ' (L7 : List (View.Piece (Elt F) S1024x768 .bf16)), { L8 : List (View.Piece (Elt F) S1024x768 .f32) //
      ∀ (E : Set ℕ) (K : PUnit → sProp 𝕄),
        iprop(owns (c : Thread nD τ) arg4 fullShare x2 ∗ (∃ d, owns (c : Thread nD τ) arg9 fullShare d) ∗ (∃ d, owns (c : Thread nD τ) arg10 fullShare d) ∗ owns (c : Thread nD τ) arg12 fullShare xs0
            ∗ (iprop(owns (c : Thread nD τ) arg4 fullShare x2 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg12 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_proj_eq_skeleton]; unfold cc0_proj_skel
    simp only [k0_part3_eq_skeleton]
    unfold owns
    iintro ⟨⟨%f4, %hf4, H4⟩, ⟨%d9, %f9, -, H9⟩, ⟨%d10, %f10, -, H10⟩, ⟨%f12, %hf12, H12⟩, Hk⟩
    obtain rfl := harg4.eq_unread hf4; obtain rfl := harg12.eq_unread hf12
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H9]; · iexists _; iexact H9
    isplitl [H10]; · iexists _; iexact H10
    iexists _; isplitr; · ipureintro; exact harg12.read_unread _
    iexact H12

section Out
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .f32) (harg10 : arg10.IsWhole) (arg11 : Memref sig .tc .vmem S1024x128 .f32) (harg11 : arg11.IsWhole) (arg12 : Memref sig .tc .vmem S1024x1024 .bf16) (harg12 : arg12.IsWhole)
    (hc0 : ¬cond0_0 i) (hc1 : ¬cond0_1 i) (hc2 : cond0_2 i) (hc3 : ¬cond0_3 i) (hc4 : ¬cond0_4 i)
    (x2 : Vec F S1024x768 .bf16) (xs0 : Vec F S1024x1024 .bf16)

theorem coverD_7 (y : S1024x768.Idx) : ∃ pc ∈ (runD c i arg2 harg2 arg3 harg3 arg4 harg4 arg5 harg5 arg6 harg6 arg7 harg7 arg8 harg8 arg9 harg9 arg10 harg10 arg11 harg11 arg12 harg12 hc0 hc1 hc2 hc3 hc4 x2 xs0).1, y ∈ pc.1.set :=
  View.cover_of_tiledL (runD c i arg2 harg2 arg3 harg3 arg4 harg4 arg5 harg5 arg6 harg6 arg7 harg7 arg8 harg8 arg9 harg9 arg10 harg10 arg11 harg11 arg12 harg12 hc0 hc1 hc2 hc3 hc4 x2 xs0).1 S256x768.size (by sl_kernel_rfl) y
/-- What the body leaves there. -/
def outD_7 : Vec F S1024x768 .bf16 := VO0_7.read (Elt F) (VO0_7.writes (Elt F) VO0_7.junk (runD c i arg2 harg2 arg3 harg3 arg4 harg4 arg5 harg5 arg6 harg6 arg7 harg7 arg8 harg8 arg9 harg9 arg10 harg10 arg11 harg11 arg12 harg12 hc0 hc1 hc2 hc3 hc4 x2 xs0).1)

theorem coverD_8 (y : S1024x768.Idx) : ∃ pc ∈ (runD c i arg2 harg2 arg3 harg3 arg4 harg4 arg5 harg5 arg6 harg6 arg7 harg7 arg8 harg8 arg9 harg9 arg10 harg10 arg11 harg11 arg12 harg12 hc0 hc1 hc2 hc3 hc4 x2 xs0).2.1, y ∈ pc.1.set :=
  View.cover_of_tiledL (runD c i arg2 harg2 arg3 harg3 arg4 harg4 arg5 harg5 arg6 harg6 arg7 harg7 arg8 harg8 arg9 harg9 arg10 harg10 arg11 harg11 arg12 harg12 hc0 hc1 hc2 hc3 hc4 x2 xs0).2.1 S256x768.size (by sl_kernel_rfl) y
/-- What the body leaves there. -/
def outD_8 : Vec F S1024x768 .f32 := VO0_8.read (Elt F) (VO0_8.writes (Elt F) VO0_8.junk (runD c i arg2 harg2 arg3 harg3 arg4 harg4 arg5 harg5 arg6 harg6 arg7 harg7 arg8 harg8 arg9 harg9 arg10 harg10 arg11 harg11 arg12 harg12 hc0 hc1 hc2 hc3 hc4 x2 xs0).2.1)

end Out

end Cert.InProjIdeal.Body

end
-- ==== Proof.InProjRunE.lean ====
/-
  The input projection's body at the last point of a row of blocks: its run and what it leaves in the buffers it stores into.
-/
module
public import proofs.«01_k».proof.Proof.InProjRunD

@[expose] public section
set_option maxRecDepth 16384
noncomputable section
namespace Cert.InProjIdeal.Body
open Idealize.ShloMosaic Idealize.ShloMosaic.TcCoe Idealize.ShloMosaic.Tactic
open Cert.InProjIdeal Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The body's run at the last point of a row of blocks: the pieces each stored buffer ends with, and the triple. -/
noncomputable def runE (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .f32) (harg10 : arg10.IsWhole) (arg11 : Memref sig .tc .vmem S1024x128 .f32) (harg11 : arg11.IsWhole) (arg12 : Memref sig .tc .vmem S1024x1024 .bf16) (harg12 : arg12.IsWhole)
    (hc0 : ¬cond0_0 i) (hc1 : ¬cond0_1 i) (hc2 : ¬cond0_2 i) (hc3 : cond0_3 i) (hc4 : ¬cond0_4 i)
    (x2 : Vec F S1024x768 .bf16) (xs0 : Vec F S1024x1024 .bf16) :
    Σ' (L7 : List (View.Piece (Elt F) S1024x768 .bf16)), { L9 : List (View.Piece (Elt F) S1024x128 .f32) //
      ∀ (E : Set ℕ) (K : PUnit → sProp 𝕄),
        iprop(owns (c : Thread nD τ) arg4 fullShare x2 ∗ (∃ d, owns (c : Thread nD τ) arg9 fullShare d) ∗ (∃ d, owns (c : Thread nD τ) arg11 fullShare d) ∗ owns (c : Thread nD τ) arg12 fullShare xs0
            ∗ (iprop(owns (c : Thread nD τ) arg4 fullShare x2 ∗ (∃ f, arg9.view.loc (c : Thread nD τ) ↦[arg9.view.set]{fullShare} arg9.view.writes (Elt F) f L7) ∗ (∃ f, arg11.view.loc (c : Thread nD τ) ↦[arg11.view.set]{fullShare} arg11.view.writes (Elt F) f L9) ∗ owns (c : Thread nD τ) arg12 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_proj_eq_skeleton]; unfold cc0_proj_skel
    simp only [k0_part4_eq_skeleton]
    unfold owns
    iintro ⟨⟨%f4, %hf4, H4⟩, ⟨%d9, %f9, -, H9⟩, ⟨%d11, %f11, -, H11⟩, ⟨%f12, %hf12, H12⟩, Hk⟩
    obtain rfl := harg4.eq_unread hf4; obtain rfl := harg12.eq_unread hf12
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H9]; · iexists _; iexact H9
    isplitl [H11]; · iexists _; iexact H11
    iexists _; isplitr; · ipureintro; exact harg12.read_unread _
    iexact H12

section Out
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .f32) (harg10 : arg10.IsWhole) (arg11 : Memref sig .tc .vmem S1024x128 .f32) (harg11 : arg11.IsWhole) (arg12 : Memref sig .tc .vmem S1024x1024 .bf16) (harg12 : arg12.IsWhole)
    (hc0 : ¬cond0_0 i) (hc1 : ¬cond0_1 i) (hc2 : ¬cond0_2 i) (hc3 : cond0_3 i) (hc4 : ¬cond0_4 i)
    (x2 : Vec F S1024x768 .bf16) (xs0 : Vec F S1024x1024 .bf16)

theorem coverE_7 (y : S1024x768.Idx) : ∃ pc ∈ (runE c i arg2 harg2 arg3 harg3 arg4 harg4 arg5 harg5 arg6 harg6 arg7 harg7 arg8 harg8 arg9 harg9 arg10 harg10 arg11 harg11 arg12 harg12 hc0 hc1 hc2 hc3 hc4 x2 xs0).1, y ∈ pc.1.set :=
  View.cover_of_tiledL (runE c i arg2 harg2 arg3 harg3 arg4 harg4 arg5 harg5 arg6 harg6 arg7 harg7 arg8 harg8 arg9 harg9 arg10 harg10 arg11 harg11 arg12 harg12 hc0 hc1 hc2 hc3 hc4 x2 xs0).1 S256x768.size (by sl_kernel_rfl) y
/-- What the body leaves there. -/
def outE_7 : Vec F S1024x768 .bf16 := VO0_7.read (Elt F) (VO0_7.writes (Elt F) VO0_7.junk (runE c i arg2 harg2 arg3 harg3 arg4 harg4 arg5 harg5 arg6 harg6 arg7 harg7 arg8 harg8 arg9 harg9 arg10 harg10 arg11 harg11 arg12 harg12 hc0 hc1 hc2 hc3 hc4 x2 xs0).1)

theorem coverE_9 (y : S1024x128.Idx) : ∃ pc ∈ (runE c i arg2 harg2 arg3 harg3 arg4 harg4 arg5 harg5 arg6 harg6 arg7 harg7 arg8 harg8 arg9 harg9 arg10 harg10 arg11 harg11 arg12 harg12 hc0 hc1 hc2 hc3 hc4 x2 xs0).2.1, y ∈ pc.1.set :=
  View.cover_of_tiledL (runE c i arg2 harg2 arg3 harg3 arg4 harg4 arg5 harg5 arg6 harg6 arg7 harg7 arg8 harg8 arg9 harg9 arg10 harg10 arg11 harg11 arg12 harg12 hc0 hc1 hc2 hc3 hc4 x2 xs0).2.1 S256x128.size (by sl_kernel_rfl) y
/-- What the body leaves there. -/
def outE_9 : Vec F S1024x128 .f32 := VO0_9.read (Elt F) (VO0_9.writes (Elt F) VO0_9.junk (runE c i arg2 harg2 arg3 harg3 arg4 harg4 arg5 harg5 arg6 harg6 arg7 harg7 arg8 harg8 arg9 harg9 arg10 harg10 arg11 harg11 arg12 harg12 hc0 hc1 hc2 hc3 hc4 x2 xs0).2.1)

end Out

end Cert.InProjIdeal.Body

end
-- ==== Proof.InProjFrame.lean ====
/-
  The input projection's frame: what its body leaves at every point of the grid, and the run of the whole program.
-/
module
public import proofs.«01_k».proof.Proof.InProjRunE
public import Idealize.ShloMosaic.Lib.Claim

@[expose] public section
set_option maxRecDepth 16384
noncomputable section
namespace Cert.InProjIdeal.Body
open Idealize.ShloMosaic Idealize.ShloMosaic.TcCoe Idealize.ShloMosaic.Tactic
open Cert.InProjIdeal Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

theorem point_lt (t : Fin cfg0.N) : t.val < 40 := lt_of_lt_of_eq t.isLt (show cfg0.N = 40 from N_0)

/-! ## The branch of a point -/

theorem atA0 (t : Fin cfg0.N) (h : t.val % 10 = 0) : cond0_0 (grid0.coords t) :=
  (hcond0_0 t).mpr (by omega)
theorem atA1 (t : Fin cfg0.N) (h : t.val % 10 = 0) : ¬cond0_1 (grid0.coords t) :=
  fun hc => absurd ((hcond0_1 t).mp hc) (by omega)
theorem atA2 (t : Fin cfg0.N) (h : t.val % 10 = 0) : ¬cond0_2 (grid0.coords t) :=
  fun hc => absurd ((hcond0_2 t).mp hc) (by omega)
theorem atA3 (t : Fin cfg0.N) (h : t.val % 10 = 0) : ¬cond0_3 (grid0.coords t) :=
  fun hc => absurd ((hcond0_3 t).mp hc) (by omega)
theorem atA4 (t : Fin cfg0.N) (h : t.val % 10 = 0) : cond0_4 (grid0.coords t) :=
  (hcond0_4 t).mpr (by omega)
theorem atB0 (t : Fin cfg0.N) (h : t.val % 10 = 1 ∨ t.val % 10 = 2 ∨ t.val % 10 = 3 ∨ t.val % 10 = 7 ∨ t.val % 10 = 8) : ¬cond0_0 (grid0.coords t) :=
  fun hc => absurd ((hcond0_0 t).mp hc) (by omega)
theorem atB1 (t : Fin cfg0.N) (h : t.val % 10 = 1 ∨ t.val % 10 = 2 ∨ t.val % 10 = 3 ∨ t.val % 10 = 7 ∨ t.val % 10 = 8) : ¬cond0_1 (grid0.coords t) :=
  fun hc => absurd ((hcond0_1 t).mp hc) (by omega)
theorem atB2 (t : Fin cfg0.N) (h : t.val % 10 = 1 ∨ t.val % 10 = 2 ∨ t.val % 10 = 3 ∨ t.val % 10 = 7 ∨ t.val % 10 = 8) : ¬cond0_2 (grid0.coords t) :=
  fun hc => absurd ((hcond0_2 t).mp hc) (by omega)
theorem atB3 (t : Fin cfg0.N) (h : t.val % 10 = 1 ∨ t.val % 10 = 2 ∨ t.val % 10 = 3 ∨ t.val % 10 = 7 ∨ t.val % 10 = 8) : ¬cond0_3 (grid0.coords t) :=
  fun hc => absurd ((hcond0_3 t).mp hc) (by omega)
theorem atB4 (t : Fin cfg0.N) (h : t.val % 10 = 1 ∨ t.val % 10 = 2 ∨ t.val % 10 = 3 ∨ t.val % 10 = 7 ∨ t.val % 10 = 8) : cond0_4 (grid0.coords t) :=
  (hcond0_4 t).mpr (by omega)
theorem atC0 (t : Fin cfg0.N) (h : t.val % 10 = 4 ∨ t.val % 10 = 5) : ¬cond0_0 (grid0.coords t) :=
  fun hc => absurd ((hcond0_0 t).mp hc) (by omega)
theorem atC1 (t : Fin cfg0.N) (h : t.val % 10 = 4 ∨ t.val % 10 = 5) : cond0_1 (grid0.coords t) :=
  (hcond0_1 t).mpr (by omega)
theorem atC2 (t : Fin cfg0.N) (h : t.val % 10 = 4 ∨ t.val % 10 = 5) : ¬cond0_2 (grid0.coords t) :=
  fun hc => absurd ((hcond0_2 t).mp hc) (by omega)
theorem atC3 (t : Fin cfg0.N) (h : t.val % 10 = 4 ∨ t.val % 10 = 5) : ¬cond0_3 (grid0.coords t) :=
  fun hc => absurd ((hcond0_3 t).mp hc) (by omega)
theorem atC4 (t : Fin cfg0.N) (h : t.val % 10 = 4 ∨ t.val % 10 = 5) : ¬cond0_4 (grid0.coords t) :=
  fun hc => absurd ((hcond0_4 t).mp hc) (by omega)
theorem atD0 (t : Fin cfg0.N) (h : t.val % 10 = 6) : ¬cond0_0 (grid0.coords t) :=
  fun hc => absurd ((hcond0_0 t).mp hc) (by omega)
theorem atD1 (t : Fin cfg0.N) (h : t.val % 10 = 6) : ¬cond0_1 (grid0.coords t) :=
  fun hc => absurd ((hcond0_1 t).mp hc) (by omega)
theorem atD2 (t : Fin cfg0.N) (h : t.val % 10 = 6) : cond0_2 (grid0.coords t) :=
  (hcond0_2 t).mpr (by omega)
theorem atD3 (t : Fin cfg0.N) (h : t.val % 10 = 6) : ¬cond0_3 (grid0.coords t) :=
  fun hc => absurd ((hcond0_3 t).mp hc) (by omega)
theorem atD4 (t : Fin cfg0.N) (h : t.val % 10 = 6) : ¬cond0_4 (grid0.coords t) :=
  fun hc => absurd ((hcond0_4 t).mp hc) (by omega)
theorem atE0 (t : Fin cfg0.N) (h : t.val % 10 = 9) : ¬cond0_0 (grid0.coords t) :=
  fun hc => absurd ((hcond0_0 t).mp hc) (by omega)
theorem atE1 (t : Fin cfg0.N) (h : t.val % 10 = 9) : ¬cond0_1 (grid0.coords t) :=
  fun hc => absurd ((hcond0_1 t).mp hc) (by omega)
theorem atE2 (t : Fin cfg0.N) (h : t.val % 10 = 9) : ¬cond0_2 (grid0.coords t) :=
  fun hc => absurd ((hcond0_2 t).mp hc) (by omega)
theorem atE3 (t : Fin cfg0.N) (h : t.val % 10 = 9) : cond0_3 (grid0.coords t) :=
  (hcond0_3 t).mpr (by omega)
theorem atE4 (t : Fin cfg0.N) (h : t.val % 10 = 9) : ¬cond0_4 (grid0.coords t) :=
  fun hc => absurd ((hcond0_4 t).mp hc) (by omega)

/-! ## What the body leaves at a point -/

abbrev oA_6 (c : Dev nD) (t : Fin cfg0.N) (h : t.val % 10 = 0) : Vec F S1024x1024 .bf16 :=
  outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atA0 t h) (atA1 t h) (atA2 t h) (atA3 t h) (atA4 t h) (iblk m c 0 t) (iblk m c 1 t) (iblk m c 2 t)
abbrev oA_7 (c : Dev nD) (t : Fin cfg0.N) (h : t.val % 10 = 0) : Vec F S1024x768 .bf16 :=
  outA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atA0 t h) (atA1 t h) (atA2 t h) (atA3 t h) (atA4 t h) (iblk m c 0 t) (iblk m c 1 t) (iblk m c 2 t)
abbrev oA_s (c : Dev nD) (t : Fin cfg0.N) (h : t.val % 10 = 0) : Vec F S1024x1024 .bf16 :=
  outA_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atA0 t h) (atA1 t h) (atA2 t h) (atA3 t h) (atA4 t h) (iblk m c 0 t) (iblk m c 1 t) (iblk m c 2 t)
abbrev oB_7 (c : Dev nD) (t : Fin cfg0.N) (h : t.val % 10 = 1 ∨ t.val % 10 = 2 ∨ t.val % 10 = 3 ∨ t.val % 10 = 7 ∨ t.val % 10 = 8) (s : Vec F S1024x1024 .bf16) : Vec F S1024x768 .bf16 :=
  outB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atB0 t h) (atB1 t h) (atB2 t h) (atB3 t h) (atB4 t h) (iblk m c 2 t) s
abbrev oC_7 (c : Dev nD) (t : Fin cfg0.N) (h : t.val % 10 = 4 ∨ t.val % 10 = 5) (s : Vec F S1024x1024 .bf16) : Vec F S1024x768 .bf16 :=
  outC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atC0 t h) (atC1 t h) (atC2 t h) (atC3 t h) (atC4 t h) (iblk m c 2 t) (iblk m c 3 t) (iblk m c 4 t) (iblk m c 5 t) s
abbrev oC_8 (c : Dev nD) (t : Fin cfg0.N) (h : t.val % 10 = 4 ∨ t.val % 10 = 5) (s : Vec F S1024x1024 .bf16) : Vec F S1024x768 .f32 :=
  outC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atC0 t h) (atC1 t h) (atC2 t h) (atC3 t h) (atC4 t h) (iblk m c 2 t) (iblk m c 3 t) (iblk m c 4 t) (iblk m c 5 t) s
abbrev oD_7 (c : Dev nD) (t : Fin cfg0.N) (h : t.val % 10 = 6) (s : Vec F S1024x1024 .bf16) : Vec F S1024x768 .bf16 :=
  outD_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atD0 t h) (atD1 t h) (atD2 t h) (atD3 t h) (atD4 t h) (iblk m c 2 t) s
abbrev oD_8 (c : Dev nD) (t : Fin cfg0.N) (h : t.val % 10 = 6) (s : Vec F S1024x1024 .bf16) : Vec F S1024x768 .f32 :=
  outD_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atD0 t h) (atD1 t h) (atD2 t h) (atD3 t h) (atD4 t h) (iblk m c 2 t) s
abbrev oE_7 (c : Dev nD) (t : Fin cfg0.N) (h : t.val % 10 = 9) (s : Vec F S1024x1024 .bf16) : Vec F S1024x768 .bf16 :=
  outE_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atE0 t h) (atE1 t h) (atE2 t h) (atE3 t h) (atE4 t h) (iblk m c 2 t) s
abbrev oE_9 (c : Dev nD) (t : Fin cfg0.N) (h : t.val % 10 = 9) (s : Vec F S1024x1024 .bf16) : Vec F S1024x128 .f32 :=
  outE_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atE0 t h) (atE1 t h) (atE2 t h) (atE3 t h) (atE4 t h) (iblk m c 2 t) s

/-- The first point of a point's row of blocks. -/
def rowPt (t : Fin cfg0.N) : Fin cfg0.N :=
  ⟨10 * (t.val / 10), by have h := point_lt t; have hN : cfg0.N = 40 := N_0; omega⟩
/-- The last point at or before it, up to the f32 column blocks' last. -/
def colPt (t : Fin cfg0.N) : Fin cfg0.N :=
  ⟨10 * (t.val / 10) + min (t.val % 10) 6, by have h := point_lt t; have hN : cfg0.N = 40 := N_0; omega⟩

theorem rowPt_mod (t : Fin cfg0.N) : (rowPt t).val % 10 = 0 := by unfold rowPt; dsimp only; omega
theorem rowPt_of (t : Fin cfg0.N) (h : t.val % 10 = 0) : rowPt t = t := Fin.ext (by unfold rowPt; dsimp only; omega)
theorem colPt_of (t : Fin cfg0.N) (h : t.val % 10 ≤ 6) : colPt t = t := Fin.ext (by unfold colPt; dsimp only; omega)

/-- The normed rows of a point's row of blocks, as the scratch and as the output window hold them. -/
def sAt (c : Dev nD) (t : Fin cfg0.N) : Vec F S1024x1024 .bf16 := oA_s m c (rowPt t) (rowPt_mod t)
def hAt (c : Dev nD) (t : Fin cfg0.N) : Vec F S1024x1024 .bf16 := oA_6 m c (rowPt t) (rowPt_mod t)

theorem sAt_eq (c : Dev nD) (t : Fin cfg0.N) (h : t.val % 10 = 0) : sAt m c t = oA_s m c t h := by
  have e := rowPt_of t h
  unfold sAt; generalize_proofs p1; revert p1; rw [e]; intro p1; rfl
theorem hAt_eq (c : Dev nD) (t : Fin cfg0.N) (h : t.val % 10 = 0) : hAt m c t = oA_6 m c t h := by
  have e := rowPt_of t h
  unfold hAt; generalize_proofs p1; revert p1; rw [e]; intro p1; rfl

theorem sAt_row (c : Dev nD) (t t' : Fin cfg0.N) (h : t.val / 10 = t'.val / 10) : sAt m c t = sAt m c t' := by
  have e : rowPt t = rowPt t' := Fin.ext (by unfold rowPt; dsimp only; omega)
  unfold sAt; generalize_proofs p1 p2; revert p1 p2; rw [e]; intro p1 p2; rfl
theorem hAt_row (c : Dev nD) (t t' : Fin cfg0.N) (h : t.val / 10 = t'.val / 10) : hAt m c t = hAt m c t' := by
  have e : rowPt t = rowPt t' := Fin.ext (by unfold rowPt; dsimp only; omega)
  unfold hAt; generalize_proofs p1 p2; revert p1 p2; rw [e]; intro p1 p2; rfl

/-- The bf16 column block. -/
def pAt (c : Dev nD) (t : Fin cfg0.N) : Vec F S1024x768 .bf16 :=
  if hA : t.val % 10 = 0 then oA_7 m c t hA
  else if hC : t.val % 10 = 4 ∨ t.val % 10 = 5 then oC_7 m c t hC (sAt m c t)
  else if hD : t.val % 10 = 6 then oD_7 m c t hD (sAt m c t)
  else if hE : t.val % 10 = 9 then oE_7 m c t hE (sAt m c t)
  else oB_7 m c t (by omega) (sAt m c t)

theorem pAt_A (c : Dev nD) (t : Fin cfg0.N) (h : t.val % 10 = 0) : pAt m c t = oA_7 m c t h := dif_pos h
theorem pAt_C (c : Dev nD) (t : Fin cfg0.N) (h : t.val % 10 = 4 ∨ t.val % 10 = 5) : pAt m c t = oC_7 m c t h (sAt m c t) :=
  (dif_neg (by omega)).trans (dif_pos h)
theorem pAt_D (c : Dev nD) (t : Fin cfg0.N) (h : t.val % 10 = 6) : pAt m c t = oD_7 m c t h (sAt m c t) :=
  (dif_neg (by omega)).trans ((dif_neg (by omega)).trans (dif_pos h))
theorem pAt_E (c : Dev nD) (t : Fin cfg0.N) (h : t.val % 10 = 9) : pAt m c t = oE_7 m c t h (sAt m c t) :=
  (dif_neg (by omega)).trans ((dif_neg (by omega)).trans ((dif_neg (by omega)).trans (dif_pos h)))
theorem pAt_B (c : Dev nD) (t : Fin cfg0.N) (h : t.val % 10 = 1 ∨ t.val % 10 = 2 ∨ t.val % 10 = 3 ∨ t.val % 10 = 7 ∨ t.val % 10 = 8) :
    pAt m c t = oB_7 m c t h (sAt m c t) :=
  (dif_neg (by omega)).trans ((dif_neg (by omega)).trans ((dif_neg (by omega)).trans ((dif_neg (by omega)).trans rfl)))

/-- The f32 column block. -/
def fAt (c : Dev nD) (t : Fin cfg0.N) : Vec F S1024x768 .f32 :=
  if hC : t.val % 10 = 4 ∨ t.val % 10 = 5 then oC_8 m c t hC (sAt m c t)
  else if hD : t.val % 10 = 6 then oD_8 m c t hD (sAt m c t)
  else VO0_8.read (Elt F) VO0_8.junk

theorem fAt_C (c : Dev nD) (t : Fin cfg0.N) (h : t.val % 10 = 4 ∨ t.val % 10 = 5) : fAt m c t = oC_8 m c t h (sAt m c t) := dif_pos h
theorem fAt_D (c : Dev nD) (t : Fin cfg0.N) (h : t.val % 10 = 6) : fAt m c t = oD_8 m c t h (sAt m c t) :=
  (dif_neg (by omega)).trans (dif_pos h)

/-- The gate block. -/
def gAt (c : Dev nD) (t : Fin cfg0.N) : Vec F S1024x128 .f32 :=
  if hE : t.val % 10 = 9 then oE_9 m c t hE (sAt m c t) else VO0_9.read (Elt F) VO0_9.junk

theorem gAt_E (c : Dev nD) (t : Fin cfg0.N) (h : t.val % 10 = 9) : gAt m c t = oE_9 m c t h (sAt m c t) := dif_pos h

/-! ## The invariant -/

/-- Before a point: at the first of a row of blocks nothing is known of the scratch; at the others it holds the normed rows. -/
def PhiR (c : Dev nD) (n : ℕ) (h : n ≤ cfg0.N) : sProp 𝕄 :=
  if n % 10 = 0 then Pipeline.ΦA spec0 c
  else iprop(owns (c : Thread nD τ) scM0_0 fullShare (sAt m c ⟨n - 1, by have hN : cfg0.N = 40 := N_0; omega⟩) ∗ (∃ r, prngReg c r))

theorem PhiR_first (c : Dev nD) (n : ℕ) (h : n ≤ cfg0.N) (hz : n % 10 = 0) : PhiR m c n h = Pipeline.ΦA spec0 c := if_pos hz
theorem PhiR_rest (c : Dev nD) (n : ℕ) (h : n ≤ cfg0.N) (hz : ¬n % 10 = 0) :
    PhiR m c n h = iprop(owns (c : Thread nD τ) scM0_0 fullShare (sAt m c ⟨n - 1, by have hN : cfg0.N = 40 := N_0; omega⟩) ∗ (∃ r, prngReg c r)) :=
  if_neg hz

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hAt m c t
    | ⟨7, _⟩ => pAt m c t
    | ⟨8, _⟩ => fAt m c (colPt t)
    | ⟨9, _⟩ => gAt m c t
  Φ t := PhiR m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_start (c : Dev nD) (t : Fin cfg0.N) :
    (dats m 0 c).Φ t.castSucc = PhiR m c t.val (Nat.le_of_lt t.isLt) := by
  dsimp only [dats]; exact Pipeline.Dat.Φ_castSucc (PhiR m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hAt m c t := by dsimp only [dats]
theorem after0_7 (c : Dev nD) (t : Fin cfg0.N) : (dats m 0 c).after 7 t = pAt m c t := by dsimp only [dats]
theorem after0_8 (c : Dev nD) (t : Fin cfg0.N) : (dats m 0 c).after 8 t = fAt m c (colPt t) := by dsimp only [dats]
theorem after0_9 (c : Dev nD) (t : Fin cfg0.N) : (dats m 0 c).after 9 t = gAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The output windows a point leaves alone -/

theorem before0_6 (c : Dev nD) : ∀ (n : ℕ) (hn : n < cfg0.N), ¬n % 10 = 0 → ∀ d, (dats m 0 c).before 6 ⟨n, hn⟩ d = hAt m c ⟨n, hn⟩
  | 0, hn, h, d => absurd rfl h
  | n + 1, hn, h, d => by
    rw [Dat.before_of_pos (dats m 0 c) 6 ⟨n + 1, hn⟩ (Nat.succ_ne_zero n) rfl d,
      if_neg (by rw [stay6 _ (by dsimp only; omega)]; exact Bool.false_ne_true)]
    unfold Dat.left
    by_cases h0 : n % 10 = 0
    · rw [live6 ⟨n + 1 - 1, _⟩ h0]
      show (dats m 0 c).after 6 ⟨n, _⟩ = _
      rw [after0_6]; exact hAt_row m c _ _ (by dsimp only; omega)
    · rw [idle6 ⟨n + 1 - 1, _⟩ h0]
      exact (before0_6 c n (Nat.lt_of_succ_lt hn) h0 d).trans (hAt_row m c _ _ (by dsimp only; omega))

theorem before0_8 (c : Dev nD) : ∀ (n : ℕ) (hn : n < cfg0.N), 7 ≤ n % 10 → ∀ d,
    (dats m 0 c).before 8 ⟨n, hn⟩ d = fAt m c (colPt ⟨n, hn⟩)
  | 0, hn, h, d => absurd h (by decide)
  | n + 1, hn, h, d => by
    have e : colPt ⟨n, Nat.lt_of_succ_lt hn⟩ = colPt ⟨n + 1, hn⟩ := Fin.ext (by unfold colPt; dsimp only; omega)
    rw [Dat.before_of_pos (dats m 0 c) 8 ⟨n + 1, hn⟩ (Nat.succ_ne_zero n) rfl d,
      if_neg (by rw [stay8 _ (by dsimp only; omega)]; exact Bool.false_ne_true)]
    unfold Dat.left
    by_cases h0 : n % 10 = 6
    · rw [live8 ⟨n + 1 - 1, _⟩ (by dsimp only; omega)]
      show (dats m 0 c).after 8 ⟨n, _⟩ = _
      rw [after0_8, e]
    · rw [idle8 ⟨n + 1 - 1, _⟩ (by dsimp only; omega)]
      exact (before0_8 c n (Nat.lt_of_succ_lt hn) (by omega) d).trans (by rw [e])

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) :
    (dats m 0 c).leavesExact 0 t = owns (c : Thread nD τ) (ms0_0 t) fullShare (iblk m c 0 t) := by
  unfold Dat.leavesExact; rw [live0 t, after0_0]
theorem leaves1 (c : Dev nD) (t : Fin cfg0.N) :
    (dats m 0 c).leavesExact 1 t = owns (c : Thread nD τ) (ms0_1 t) fullShare (iblk m c 1 t) := by
  unfold Dat.leavesExact; rw [live1 t, after0_1]
theorem leaves2 (c : Dev nD) (t : Fin cfg0.N) :
    (dats m 0 c).leavesExact 2 t = owns (c : Thread nD τ) (ms0_2 t) fullShare (iblk m c 2 t) := by
  unfold Dat.leavesExact; rw [live2 t, after0_2]
theorem leaves3 (c : Dev nD) (t : Fin cfg0.N) :
    (dats m 0 c).leavesExact 3 t = owns (c : Thread nD τ) (ms0_3 t) fullShare (iblk m c 3 t) := by
  unfold Dat.leavesExact; rw [live3 t, after0_3]
theorem leaves4 (c : Dev nD) (t : Fin cfg0.N) :
    (dats m 0 c).leavesExact 4 t = owns (c : Thread nD τ) (ms0_4 t) fullShare (iblk m c 4 t) := by
  unfold Dat.leavesExact; rw [live4 t, after0_4]
theorem leaves5 (c : Dev nD) (t : Fin cfg0.N) :
    (dats m 0 c).leavesExact 5 t = owns (c : Thread nD τ) (ms0_5 t) fullShare (iblk m c 5 t) := by
  unfold Dat.leavesExact; rw [live5 t, after0_5]
theorem leaves6 (c : Dev nD) (t : Fin cfg0.N) (h : t.val % 10 = 0) :
    (dats m 0 c).leavesExact 6 t = owns (c : Thread nD τ) (ms0_6 t) fullShare (hAt m c t) := by
  unfold Dat.leavesExact; rw [live6 t h, after0_6]
theorem leaves7 (c : Dev nD) (t : Fin cfg0.N) :
    (dats m 0 c).leavesExact 7 t = owns (c : Thread nD τ) (ms0_7 t) fullShare (pAt m c t) := by
  unfold Dat.leavesExact; rw [live7 t, after0_7]
theorem leaves8 (c : Dev nD) (t : Fin cfg0.N) (h : 4 ≤ t.val % 10 ∧ t.val % 10 ≤ 6) :
    (dats m 0 c).leavesExact 8 t = owns (c : Thread nD τ) (ms0_8 t) fullShare (fAt m c (colPt t)) := by
  unfold Dat.leavesExact; rw [live8 t h, after0_8]
theorem leaves9 (c : Dev nD) (t : Fin cfg0.N) (h : t.val % 10 = 9) :
    (dats m 0 c).leavesExact 9 t = owns (c : Thread nD τ) (ms0_9 t) fullShare (gAt m c t) := by
  unfold Dat.leavesExact; rw [live9 t h, after0_9]
theorem leaves6_last (c : Dev nD) (t : Fin cfg0.N) (h : t.val % 10 = 9) :
    (dats m 0 c).leavesExact 6 t = owns (c : Thread nD τ) (ms0_6 t) fullShare (hAt m c t) := by
  unfold Dat.leavesExact; rw [idle6 t (by omega), show (cfg0.win 6).flush t = true from (flush0_6 t).mpr h, after0_6]
theorem leaves8_last (c : Dev nD) (t : Fin cfg0.N) (h : t.val % 10 = 9) :
    (dats m 0 c).leavesExact 8 t = owns (c : Thread nD τ) (ms0_8 t) fullShare (fAt m c (colPt t)) := by
  unfold Dat.leavesExact; rw [idle8 t (by omega), show (cfg0.win 8).flush t = true from (flush8 t).mpr (by omega), after0_8]

set_option maxHeartbeats 4000000 in
theorem sound_A (c : Dev nD) (t : Fin cfg0.N) (h : t.val % 10 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiR m c (t.val + 1) t.isLt from rfl, Phi_start m c t]
  have hN : t.val < 40 := point_lt t
  rw [leaves0, leaves1, leaves2, leaves3, leaves4, leaves5, leaves7]
  rw [PhiR_first m c _ _ h, PhiA0_eq, PhiR_rest m c _ _ (by omega), show sAt m c ⟨t.val + 1 - 1, _⟩ = oA_s m c t h from sAt_eq m c t h]
  rw [leaves6 m c t (by omega)]
  rw [Dat.leavesExact_idle (dats m 0 c) 8 t (idle8 t (by omega)) (stay8 t (by omega))]
  rw [Dat.leavesExact_idle (dats m 0 c) 9 t (idle9 t (by omega)) (stay9 t (by omega))]
  rw [pAt_A m c t h]
  rw [hAt_eq m c t h]
  unfold oA_6 outA_6 oA_7 outA_7 oA_s outA_s
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atA0 t h) (atA1 t h) (atA2 t h) (atA3 t h) (atA4 t h) (iblk m c 0 t) (iblk m c 1 t) (iblk m c 2 t)).2.2.2 Set.univ _)
  isplitl [H0]; · iexact H0
  isplitl [H1]; · iexact H1
  isplitl [H2]; · iexact H2
  isplitl [H6]; · iexists _; iexact H6
  isplitl [H7]; · iexists _; iexact H7
  isplitl [HS0]; · iexact HS0
  iintro ⟨H0, H1, H2, ⟨%e6, H6⟩, ⟨%e7, H7⟩, ⟨%es, HS0⟩⟩
  isplitl [HS0 Hg]
  · isplitl [HS0]
    · unfold owns; iexists _; isplitr
      swap; · iexact HS0
      ipureintro; exact View.read_writes_of_cover _ _ _ _ _ (coverA_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atA0 t h) (atA1 t h) (atA2 t h) (atA3 t h) (atA4 t h) (iblk m c 0 t) (iblk m c 1 t) (iblk m c 2 t))
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · unfold owns; iexists _; isplitr
    swap; · iexact H6
    ipureintro; exact View.read_writes_of_cover _ _ _ _ _ (coverA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atA0 t h) (atA1 t h) (atA2 t h) (atA3 t h) (atA4 t h) (iblk m c 0 t) (iblk m c 1 t) (iblk m c 2 t))
  isplitl [H7]
  · unfold owns; iexists _; isplitr
    swap; · iexact H7
    ipureintro; exact View.read_writes_of_cover _ _ _ _ _ (coverA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atA0 t h) (atA1 t h) (atA2 t h) (atA3 t h) (atA4 t h) (iblk m c 0 t) (iblk m c 1 t) (iblk m c 2 t))
  isplitl [H8]
  · iexact H8
  · iexact H9

set_option maxHeartbeats 4000000 in
theorem sound_B (c : Dev nD) (t : Fin cfg0.N) (h : t.val % 10 = 1 ∨ t.val % 10 = 2 ∨ t.val % 10 = 3 ∨ t.val % 10 = 7 ∨ t.val % 10 = 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiR m c (t.val + 1) t.isLt from rfl, Phi_start m c t]
  have hN : t.val < 40 := point_lt t
  rw [leaves0, leaves1, leaves2, leaves3, leaves4, leaves5, leaves7]
  rw [PhiR_rest m c t.val _ (by omega), PhiR_rest m c (t.val + 1) _ (by omega), sAt_row m c ⟨t.val - 1, _⟩ t (by dsimp only; omega),
    show sAt m c ⟨t.val + 1 - 1, _⟩ = sAt m c t from rfl]
  rw [Dat.leavesExact_idle (dats m 0 c) 6 t (idle6 t (by omega)) (stay6 t (by omega))]
  rw [Dat.leavesExact_idle (dats m 0 c) 8 t (idle8 t (by omega)) (stay8 t (by omega))]
  rw [Dat.leavesExact_idle (dats m 0 c) 9 t (idle9 t (by omega)) (stay9 t (by omega))]
  rw [pAt_B m c t h]
  unfold oB_7 outB_7
  iintro ⟨⟨HS0, Hg⟩, Ho, ⟨%d0, H0⟩, ⟨%d1, H1⟩, ⟨%d2, H2⟩, ⟨%d3, H3⟩, ⟨%d4, H4⟩, ⟨%d5, H5⟩, H6, ⟨%d7, H7⟩, H8, H9⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atB0 t h) (atB1 t h) (atB2 t h) (atB3 t h) (atB4 t h) (iblk m c 2 t) (sAt m c t)).2 Set.univ _)
  isplitl [H2]; · iexact H2
  isplitl [H7]; · iexists _; iexact H7
  isplitl [HS0]; · iexact HS0
  iintro ⟨H2, ⟨%e7, H7⟩, HS0⟩
  isplitl [HS0 Hg]
  · isplitl [HS0]
    · iexact HS0
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · unfold owns; iexists _; isplitr
    swap; · iexact H7
    ipureintro; exact View.read_writes_of_cover _ _ _ _ _ (coverB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atB0 t h) (atB1 t h) (atB2 t h) (atB3 t h) (atB4 t h) (iblk m c 2 t) (sAt m c t))
  isplitl [H8]
  · iexact H8
  · iexact H9

set_option maxHeartbeats 4000000 in
theorem sound_C (c : Dev nD) (t : Fin cfg0.N) (h : t.val % 10 = 4 ∨ t.val % 10 = 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiR m c (t.val + 1) t.isLt from rfl, Phi_start m c t]
  have hN : t.val < 40 := point_lt t
  rw [leaves0, leaves1, leaves2, leaves3, leaves4, leaves5, leaves7]
  rw [PhiR_rest m c t.val _ (by omega), PhiR_rest m c (t.val + 1) _ (by omega), sAt_row m c ⟨t.val - 1, _⟩ t (by dsimp only; omega),
    show sAt m c ⟨t.val + 1 - 1, _⟩ = sAt m c t from rfl]
  rw [Dat.leavesExact_idle (dats m 0 c) 6 t (idle6 t (by omega)) (stay6 t (by omega))]
  rw [leaves8 m c t (by omega)]
  rw [Dat.leavesExact_idle (dats m 0 c) 9 t (idle9 t (by omega)) (stay9 t (by omega))]
  rw [pAt_C m c t h]
  rw [colPt_of t (by omega), fAt_C m c t h]
  unfold oC_7 outC_7 oC_8 outC_8
  iintro ⟨⟨HS0, Hg⟩, Ho, ⟨%d0, H0⟩, ⟨%d1, H1⟩, ⟨%d2, H2⟩, ⟨%d3, H3⟩, ⟨%d4, H4⟩, ⟨%d5, H5⟩, H6, ⟨%d7, H7⟩, ⟨%d8, H8⟩, H9⟩
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atC0 t h) (atC1 t h) (atC2 t h) (atC3 t h) (atC4 t h) (iblk m c 2 t) (iblk m c 3 t) (iblk m c 4 t) (iblk m c 5 t) (sAt m c t)).2.2 Set.univ _)
  isplitl [H2]; · iexact H2
  isplitl [H3]; · iexact H3
  isplitl [H4]; · iexact H4
  isplitl [H5]; · iexact H5
  isplitl [H7]; · iexists _; iexact H7
  isplitl [H8]; · iexists _; iexact H8
  isplitl [HS0]; · iexact HS0
  iintro ⟨H2, H3, H4, H5, ⟨%e7, H7⟩, ⟨%e8, H8⟩, HS0⟩
  isplitl [HS0 Hg]
  · isplitl [HS0]
    · iexact HS0
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · unfold owns; iexists _; isplitr
    swap; · iexact H7
    ipureintro; exact View.read_writes_of_cover _ _ _ _ _ (coverC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atC0 t h) (atC1 t h) (atC2 t h) (atC3 t h) (atC4 t h) (iblk m c 2 t) (iblk m c 3 t) (iblk m c 4 t) (iblk m c 5 t) (sAt m c t))
  isplitl [H8]
  · unfold owns; iexists _; isplitr
    swap; · iexact H8
    ipureintro; exact View.read_writes_of_cover _ _ _ _ _ (coverC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atC0 t h) (atC1 t h) (atC2 t h) (atC3 t h) (atC4 t h) (iblk m c 2 t) (iblk m c 3 t) (iblk m c 4 t) (iblk m c 5 t) (sAt m c t))
  · iexact H9

set_option maxHeartbeats 4000000 in
theorem sound_D (c : Dev nD) (t : Fin cfg0.N) (h : t.val % 10 = 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiR m c (t.val + 1) t.isLt from rfl, Phi_start m c t]
  have hN : t.val < 40 := point_lt t
  rw [leaves0, leaves1, leaves2, leaves3, leaves4, leaves5, leaves7]
  rw [PhiR_rest m c t.val _ (by omega), PhiR_rest m c (t.val + 1) _ (by omega), sAt_row m c ⟨t.val - 1, _⟩ t (by dsimp only; omega),
    show sAt m c ⟨t.val + 1 - 1, _⟩ = sAt m c t from rfl]
  rw [Dat.leavesExact_idle (dats m 0 c) 6 t (idle6 t (by omega)) (stay6 t (by omega))]
  rw [leaves8 m c t (by omega)]
  rw [Dat.leavesExact_idle (dats m 0 c) 9 t (idle9 t (by omega)) (stay9 t (by omega))]
  rw [pAt_D m c t h]
  rw [colPt_of t (by omega), fAt_D m c t h]
  unfold oD_7 outD_7 oD_8 outD_8
  iintro ⟨⟨HS0, Hg⟩, Ho, ⟨%d0, H0⟩, ⟨%d1, H1⟩, ⟨%d2, H2⟩, ⟨%d3, H3⟩, ⟨%d4, H4⟩, ⟨%d5, H5⟩, H6, ⟨%d7, H7⟩, ⟨%d8, H8⟩, H9⟩
  iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atD0 t h) (atD1 t h) (atD2 t h) (atD3 t h) (atD4 t h) (iblk m c 2 t) (sAt m c t)).2.2 Set.univ _)
  isplitl [H2]; · iexact H2
  isplitl [H7]; · iexists _; iexact H7
  isplitl [H8]; · iexists _; iexact H8
  isplitl [HS0]; · iexact HS0
  iintro ⟨H2, ⟨%e7, H7⟩, ⟨%e8, H8⟩, HS0⟩
  isplitl [HS0 Hg]
  · isplitl [HS0]
    · iexact HS0
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · unfold owns; iexists _; isplitr
    swap; · iexact H7
    ipureintro; exact View.read_writes_of_cover _ _ _ _ _ (coverD_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atD0 t h) (atD1 t h) (atD2 t h) (atD3 t h) (atD4 t h) (iblk m c 2 t) (sAt m c t))
  isplitl [H8]
  · unfold owns; iexists _; isplitr
    swap; · iexact H8
    ipureintro; exact View.read_writes_of_cover _ _ _ _ _ (coverD_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atD0 t h) (atD1 t h) (atD2 t h) (atD3 t h) (atD4 t h) (iblk m c 2 t) (sAt m c t))
  · iexact H9

set_option maxHeartbeats 4000000 in
theorem sound_E (c : Dev nD) (t : Fin cfg0.N) (h : t.val % 10 = 9) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiR m c (t.val + 1) t.isLt from rfl, Phi_start m c t]
  have hN : t.val < 40 := point_lt t
  rw [leaves0, leaves1, leaves2, leaves3, leaves4, leaves5, leaves7]
  rw [PhiR_rest m c _ _ (by omega), PhiR_first m c _ _ (by omega), PhiA0_eq, sAt_row m c ⟨t.val - 1, _⟩ t (by dsimp only; omega)]
  rw [leaves6_last m c t h]
  rw [leaves8_last m c t h]
  rw [leaves9 m c t (by omega)]
  rw [pAt_E m c t h]
  rw [gAt_E m c t h]
  have b6 : ∀ d, (dats m 0 c).before 6 t d = hAt m c t := before0_6 m c t.val t.isLt (by omega)
  have b8 : ∀ d, (dats m 0 c).before 8 t d = fAt m c (colPt t) := before0_8 m c t.val t.isLt (by omega)
  simp only [b6, b8]
  unfold oE_7 outE_7 oE_9 outE_9
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atE0 t h) (atE1 t h) (atE2 t h) (atE3 t h) (atE4 t h) (iblk m c 2 t) (sAt m c t)).2.2 Set.univ _)
  isplitl [H2]; · iexact H2
  isplitl [H7]; · iexists _; iexact H7
  isplitl [H9]; · iexists _; iexact H9
  isplitl [HS0]; · iexact HS0
  iintro ⟨H2, ⟨%e7, H7⟩, ⟨%e9, H9⟩, HS0⟩
  isplitl [HS0 Hg]
  · isplitl [HS0]
    · iexists _; iexact HS0
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · unfold owns; iexists _; isplitr
    swap; · iexact H7
    ipureintro; exact View.read_writes_of_cover _ _ _ _ _ (coverE_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atE0 t h) (atE1 t h) (atE2 t h) (atE3 t h) (atE4 t h) (iblk m c 2 t) (sAt m c t))
  isplitl [H8]
  · iexact H8
  · unfold owns; iexists _; isplitr
    swap; · iexact H9
    ipureintro; exact View.read_writes_of_cover _ _ _ _ _ (coverE_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (atE0 t h) (atE1 t h) (atE2 t h) (atE3 t h) (atE4 t h) (iblk m c 2 t) (sAt m c t))

theorem sound_body (c : Dev nD) (t : Fin cfg0.N) :
    bodyPre m c t ⊢ wp frame (wpE (defs₀ (F := F)) Variants.none c none) Set.univ (bodyAt0 t) (fun _ => bodyPost m c t) := by
  have hN : t.val < 40 := point_lt t
  by_cases hA : t.val % 10 = 0
  · exact sound_A m c t hA
  by_cases hC : t.val % 10 = 4 ∨ t.val % 10 = 5
  · exact sound_C m c t hC
  by_cases hD : t.val % 10 = 6
  · exact sound_D m c t hD
  by_cases hE : t.val % 10 = 9
  · exact sound_E m c t hE
  · exact sound_B m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiR m c 0 (Nat.zero_le _) from rfl, PhiR_first m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiR m c (Fin.last cfg0.N).val (Nat.le_of_lt_succ (Fin.last cfg0.N).isLt) from rfl,
    PhiR_first m c _ _ (by rw [Fin.val_last, show cfg0.N = 40 from N_0])]
  try exact Idealize.SL.BI.Entails.refl _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.InProjIdeal.Body

end
-- ==== Proof.InProjSame.lean ====
/-
  The input projection's two texts are one program: its functions, body table and main are the idealization's, over the bit patterns too.
-/
module
public import proofs.«01_k».proof.Defs
public import proofs.«01_k».proof.Proof.Gen.InProj
public import proofs.«01_k».proof.Proof.InProjFrame
@[expose] public section
set_option maxRecDepth 16384
noncomputable section
namespace Cert.InProjSame
open Idealize.ShloMosaic

/-! ## The body, the table and the main -/

theorem proj_same : @Cert.InProj.cc0_proj Bits _ _ = @Cert.InProjIdeal.cc0_proj Bits _ _ := rfl
set_option maxHeartbeats 4000000 in
theorem body_same (t : Fin Cert.InProj.grid0.N) (s : (w : Fin 10) → Fin (Cert.InProj.win0 w).nbuf) :
    Cert.InProj.defs₀ (F := Bits) .tc (0 : Fin 1) (t, s) = Cert.InProjIdeal.defs₀ (F := Bits) .tc (0 : Fin 1) (t, s) := by
  dsimp only [Cert.InProj.defs₀, Cert.InProjIdeal.defs₀, Defs.onTc]
  rw [proj_same]
  congr 1
set_option maxHeartbeats 4000000 in
theorem bodies_at : ∀ p l a, Cert.InProj.defs₀ (F := Bits) p l a = Cert.InProjIdeal.defs₀ (F := Bits) p l a
  | .tc, ⟨0, _⟩, (t, s) => body_same t s
  | .tc, ⟨_ + 1, h⟩, _ => absurd h (Nat.not_lt.2 (Nat.le_add_left _ _))
  | .scScalar _, _, _ => rfl
  | .scVector _ _, _, _ => rfl
set_option maxHeartbeats 4000000 in
theorem bodies_same : Cert.InProj.defs₀ (F := Bits) = Cert.InProjIdeal.defs₀ (F := Bits) := funext fun p => funext fun l => funext fun a => bodies_at p l a
set_option maxHeartbeats 4000000 in
theorem defs_same : Cert.InProj.defs (F := Bits) = Cert.InProjIdeal.defs (F := Bits) :=
  congrArg (Pipeline.defs (Cert.InProjIdeal.pcfgs (F := Bits))) bodies_same
set_option maxHeartbeats 4000000 in
theorem main_same : @Cert.InProj.main Bits _ _ = @Cert.InProjIdeal.main Bits _ _ := by
  unfold Cert.InProj.main Cert.InProjIdeal.main
  rfl

/-- The frame over the bit patterns is the idealization's. -/
theorem frame_kernel : Cert.quiescent_InProj := fun m ρ _ => by
  rw [defs_same, main_same]
  exact Cert.InProjIdeal.Body.frame (F := Bits) m ρ
end Cert.InProjSame
end
-- ==== Proof.InProjKer.lean ====
/-
  The input projection's kernel: its arithmetic read at an index.
-/
module
public import proofs.«01_k».proof.Proof.InProjFrame
public import proofs.«01_k».proof.Proof.InCols
public import proofs.«01_k».proof.Proof.InRms
public import proofs.«01_k».proof.Proof.InKer
public import Idealize.ShloMosaic.Lib.Pipeline.ValueKit.Tiles
public import Idealize.ShloMosaic.Lib.StableHlo.ReadAt
public import Idealize.ShloMosaic.Lib.Pointwise
public import Idealize.ShloMosaic.Lib.KernelVsHost
@[expose] public section
set_option maxRecDepth 16384
noncomputable section
namespace Cert.InProjIdeal.Val
open Idealize.ShloMosaic hiding ix1 ix2 ix3 eq_ix1 eq_ix2 eq_ix3
open Idealize.ShloMosaic.ValueIdx Idealize.ShloMosaic.TcCoe Idealize.ShloMosaic.Tactic Cert.InProjIdeal Cert.InProjIdeal.Gen Cert.InProjIdeal.Body Cert.Cols
open Cert.InGradIdeal.Val (nrm rms cN cE)
open Idealize.SL.Sem
open scoped BigOperators

/-! ## Rows -/

/-- A scaled row. -/
def nRow (x g : Fin 1024 → EReal) : Fin 1024 → EReal := fun k => nrm x k * g k
/-- A row times a block of columns. -/
def mRow (s : Fin 1024 → EReal) (w : S1024x768.Idx → EReal) : Fin 768 → EReal := fun j => ∑ k : Fin 1024, s k * w (ix2 k j)
/-- A column's place in its pair of heads, -/
def lane (j : Fin 768) : Fin 128 := ⟨j.val % 128, Nat.mod_lt _ (by decide)⟩
/-- the column eight before it, around the end, -/
def up (j : Fin 768) : Fin 768 := ⟨(j.val + 760) % 768, Nat.mod_lt _ (by decide)⟩
/-- and the column eight after it. -/
def dn (j : Fin 768) : Fin 768 := ⟨(j.val + 8) % 768, Nat.mod_lt _ (by decide)⟩
/-- A row turned by three rows of factors. -/
def tRow (a : Fin 768 → EReal) (c p q : Fin 128 → EReal) : Fin 768 → EReal :=
  fun j => a j * c (lane j) + a (up j) * p (lane j) + a (dn j) * q (lane j)

/-! ## The norm -/

theorem lift_row (r k : Fin 1024) : (reduces_S1024x1024_S1024).lift (ix1 r) k = ix2 r k := by
  funext a; apply Fin.ext
  match a with
  | ⟨0, _⟩ => rfl
  | ⟨1, _⟩ => rfl

theorem row_sum (v : FVec Ideal S1024x1024 .f32) (r : Fin 1024) :
    multiReduction .add [1] S1024 v 0x00000000#32 reduces_S1024x1024_S1024 (.inl rfl) rfl (ix1 r) = ∑ k : Fin 1024, v (ix2 r k) :=
  (Ideal.multiReduction_add_single v _ reduces_S1024x1024_S1024 (.inl rfl) rfl (ix1 r)).trans
    (Finset.sum_congr rfl fun k _ => congrArg v (lift_row r k))

theorem keep_apply (v : FVec Ideal S1024 .f32) (r : Fin 1024) : shapeCast S1024x1 v shapeCasts_S1024_S1024x1 (ix2 r (0 : Fin 1)) = v (ix1 r) :=
  shapeCast_apply v shapeCasts_S1024_S1024x1 (ix2 r (0 : Fin 1)) (ix1 r) (by
    rw [Shape.rowMajor_val_one, Shape.rowMajor_val_two]
    show r.val = r.val * 1 + 0
    omega)

theorem lanes_apply (v : FVec Ideal S1024x1 .f32) (r i : Fin 1024) :
    broadcastTo S1024x1024 v broadcasts_S1024x1_S1024x1024 (ix2 r i) = v (ix2 r (0 : Fin 1)) :=
  broadcastTo_apply v broadcasts_S1024x1_S1024x1024 (ix2 r i) (ix2 r (0 : Fin 1)) (fun a => by
    match a with
    | ⟨0, _⟩ => rfl
    | ⟨1, _⟩ => rfl)

theorem rows_apply (v : FVec Ideal S1x1024 .f32) (r i : Fin 1024) :
    broadcastTo S1024x1024 v broadcasts_S1x1024_S1024x1024 (ix2 r i) = v (ix2 (0 : Fin 1) i) :=
  broadcastTo_apply v broadcasts_S1x1024_S1024x1024 (ix2 r i) (ix2 (0 : Fin 1) i) (fun a => by
    match a with
    | ⟨0, _⟩ => rfl
    | ⟨1, _⟩ => rfl)

theorem pay1_apply (x : S1024x1024.Idx → EReal) (g : S1x1024.Idx → EReal) (r k : Fin 1024) :
    k0_pay1 (F := Ideal) x g (ix2 r k) = nRow (fun k => x (ix2 r k)) (fun k => g (ix2 (0 : Fin 1) k)) k := by
  unfold k0_pay1 nRow nrm rms
  simp only [shapeCast_self]
  refine congrArg₂ (fun a b : EReal => x (ix2 r k) * a * b) ((lanes_apply _ r k).trans ?_) (rows_apply g r k)
  refine congrArg (fun s : EReal => Ideal.rsqrt (Ideal.div s cN + cE)) ?_
  exact (keep_apply _ r).trans (row_sum _ r)

theorem pay2_apply (x : S1024x1024.Idx → EReal) (g : S1x1024.Idx → EReal) (r k : Fin 1024) :
    k0_pay2 (F := Ideal) x g (ix2 r k) = nRow (fun k => x (ix2 r k)) (fun k => g (ix2 (0 : Fin 1) k)) k := by
  unfold k0_pay2
  simp only [shapeCast_self]
  exact pay1_apply x g r k

/-! ## The product of a chunk of rows -/

/-- The product. -/
def mmE (w : S1024x768.Idx → EReal) (l : S256x1024.Idx → EReal) : FVec Ideal S256x768 .f32 :=
  matmul (F := Ideal) (φ₁ := .bf16) (φ₂ := .bf16) dot_S256x1024_S1024x768_S256x768_1_0_0_1_n_n none l w (constant S256x768 .f32 0x00000000#32)

theorem mmE_apply (w : S1024x768.Idx → EReal) (l : S256x1024.Idx → EReal) (r : Fin 256) (j : Fin 768) :
    mmE w l (ix2 r j) = mRow (fun k => l (ix2 r k)) w j := by
  unfold mmE mRow
  refine (Ideal.matmul_constant_zero_apply (φ₁ := .bf16) (φ₂ := .bf16) _ none l w (ix2 r j)).trans ?_
  rw [← Equiv.sum_comp (contrEquiv1 dot_S256x1024_S1024x768_S256x768_1_0_0_1_n_n 1024 rfl rfl).symm]
  refine Finset.sum_congr rfl fun i _ => ?_
  have hk := contrEquiv1_symm_val dot_S256x1024_S1024x768_S256x768_1_0_0_1_n_n 1024 rfl rfl i
  have el : dot_S256x1024_S1024x768_S256x768_1_0_0_1_n_n.lhsIdx (ix2 r j) ((contrEquiv1 dot_S256x1024_S1024x768_S256x768_1_0_0_1_n_n 1024 rfl rfl).symm i) = ix2 r i := by
    funext a; apply Fin.ext
    match a with
    | ⟨0, _⟩ => rfl
    | ⟨1, _⟩ => exact hk
  have er : dot_S256x1024_S1024x768_S256x768_1_0_0_1_n_n.rhsIdx (ix2 r j) ((contrEquiv1 dot_S256x1024_S1024x768_S256x768_1_0_0_1_n_n 1024 rfl rfl).symm i) = ix2 i j := by
    funext a; apply Fin.ext
    match a with
    | ⟨0, _⟩ => exact hk
    | ⟨1, _⟩ => rfl
  rw [el, er]

/-! ## The turn -/

/-- Six copies of a table. -/
def sixE (c : S256x128.Idx → EReal) : FVec Ideal S256x768 .f32 :=
  concatenate (α := EReal) S256x768 1 [⟨S256x128, c⟩, ⟨S256x128, c⟩, ⟨S256x128, c⟩, ⟨S256x128, c⟩, ⟨S256x128, c⟩, ⟨S256x128, c⟩]
    concatenates_S256x128_S256x128_S256x128_S256x128_S256x128_S256x128_S256x768_d1

/-- The turned chunk. -/
def turnE (a : FVec Ideal S256x768 .f32) (c p q : FVec Ideal S256x768 .f32) : FVec Ideal S256x768 .f32 :=
  addf (addf (mulf a c) (mulf (dynamicRotate 1 8#32 none a rotates_S256x768_d1) p)) (mulf (dynamicRotate 1 760#32 none a rotates_S256x768_d1) q)

theorem sixE_at (c : S256x128.Idx → EReal) (r : Fin 256) (j : Fin 768) (i : ℕ) (hi : i < 6) (h : j.val / 128 = i) : sixE c (ix2 r j) = c (ix2 r (lane j)) := by
  unfold sixE
  have ha : 128 * i + j.val % 128 = j.val := by omega
  refine concatenate_apply_piece (α := EReal) (t := S256x768) 1 [⟨S256x128, c⟩, ⟨S256x128, c⟩, ⟨S256x128, c⟩, ⟨S256x128, c⟩, ⟨S256x128, c⟩, ⟨S256x128, c⟩] _ (ix2 r j) i hi S256x128 c ?_ rfl (128 * i) ?_ (ix2 r (lane j)) ?_ ha
  · match i, hi with
    | 0, _ => rfl
    | 1, _ => rfl
    | 2, _ => rfl
    | 3, _ => rfl
    | 4, _ => rfl
    | 5, _ => rfl
  · match i, hi with
    | 0, _ => rfl
    | 1, _ => rfl
    | 2, _ => rfl
    | 3, _ => rfl
    | 4, _ => rfl
    | 5, _ => rfl
  · intro b hb
    match b, hb with
    | ⟨0, _⟩, _ => rfl
    | ⟨1, _⟩, hb => exact absurd rfl hb

theorem sixE_apply (c : S256x128.Idx → EReal) (r : Fin 256) (j : Fin 768) : sixE c (ix2 r j) = c (ix2 r (lane j)) :=
  sixE_at c r j (j.val / 128) (by omega) rfl

theorem turnE_apply (a : FVec Ideal S256x768 .f32) (c p q : S256x128.Idx → EReal) (r : Fin 256) (j : Fin 768) :
    turnE a (sixE c) (sixE p) (sixE q) (ix2 r j)
      = tRow (fun j => a (ix2 r j)) (fun l => c (ix2 r l)) (fun l => p (ix2 r l)) (fun l => q (ix2 r l)) j := by
  unfold turnE tRow
  have e1 : dynamicRotate 1 8#32 none a rotates_S256x768_d1 (ix2 r j) = a (ix2 r (up j)) :=
    dynamicRotate_apply 1 8#32 a rotates_S256x768_d1 (ix2 r j) (ix2 r (up j)) (fun b => by
      match b with
      | ⟨0, _⟩ => rfl
      | ⟨1, _⟩ => exact congrArg (· % 768) (by show j.val + 760 = j.val + 768 - 8; omega))
  have e2 : dynamicRotate 1 760#32 none a rotates_S256x768_d1 (ix2 r j) = a (ix2 r (dn j)) :=
    dynamicRotate_apply 1 760#32 a rotates_S256x768_d1 (ix2 r j) (ix2 r (dn j)) (fun b => by
      match b with
      | ⟨0, _⟩ => rfl
      | ⟨1, _⟩ => exact congrArg (· % 768) (by show j.val + 8 = j.val + 768 - 760; omega))
  refine congrArg₂ (· + ·) (congrArg₂ (· + ·) (congrArg (a (ix2 r j) * ·) (sixE_apply c r j)) ?_) ?_
  · exact congrArg₂ (· * ·) e1 (sixE_apply p r j)
  · exact congrArg₂ (· * ·) e2 (sixE_apply q r j)

/-! ## The payloads -/

section Pays
variable (w : S1024x768.Idx → EReal) (l : S256x1024.Idx → EReal) (c p q : S256x128.Idx → EReal)
theorem pay6_eq : k0_pay6 (F := Ideal) w l = mmE w l := by
  unfold k0_pay6 k0_pay5; simp only [shapeCast_self]; rfl
theorem pay7_eq : k0_pay7 (F := Ideal) w l = mmE w l := by
  unfold k0_pay7 k0_pay5; simp only [shapeCast_self]; rfl
theorem pay8_eq : k0_pay8 (F := Ideal) w l = mmE w l := by
  unfold k0_pay8 k0_pay5; simp only [shapeCast_self]; rfl
theorem pay9_eq : k0_pay9 (F := Ideal) w l = mmE w l := by
  unfold k0_pay9 k0_pay5; simp only [shapeCast_self]; rfl
theorem pay10_eq : k0_pay10 (F := Ideal) w = w := by
  unfold k0_pay10; exact shapeCast_self _ _
theorem pay3_eq : k0_pay3 (F := Ideal) (k0_pay10 (F := Ideal) w) l c p q = turnE (mmE w l) (sixE c) (sixE p) (sixE q) := by
  rw [pay10_eq]; unfold k0_pay3
  show turnE (mmE w l) (sixE (shapeCast S256x128 c shapeCasts_S256x128_S256x128)) (sixE (shapeCast S256x128 p shapeCasts_S256x128_S256x128)) (sixE (shapeCast S256x128 q shapeCasts_S256x128_S256x128)) = _
  simp only [shapeCast_self]
theorem pay11_eq : k0_pay11 (F := Ideal) w l c p q = turnE (mmE w l) (sixE c) (sixE p) (sixE q) := by
  unfold k0_pay11; rw [pay10_eq]
  show turnE (mmE w l) (sixE (shapeCast S256x128 c shapeCasts_S256x128_S256x128)) (sixE (shapeCast S256x128 p shapeCasts_S256x128_S256x128)) (sixE (shapeCast S256x128 q shapeCasts_S256x128_S256x128)) = _
  simp only [shapeCast_self]
theorem pay17_eq : k0_pay17 (F := Ideal) (k0_pay13 (F := Ideal) w l) (k0_pay14 (F := Ideal) p) (k0_pay15 (F := Ideal) q) (k0_pay16 (F := Ideal) c) = turnE (mmE w l) (sixE c) (sixE p) (sixE q) := by
  unfold k0_pay17 k0_pay13 k0_pay14 k0_pay15 k0_pay16; rw [pay10_eq]
  show turnE (mmE w l) (sixE (shapeCast S256x128 c shapeCasts_S256x128_S256x128)) (sixE (shapeCast S256x128 p shapeCasts_S256x128_S256x128)) (sixE (shapeCast S256x128 q shapeCasts_S256x128_S256x128)) = _
  simp only [shapeCast_self]
theorem pay19_eq : k0_pay19 (F := Ideal) (k0_pay10 (F := Ideal) w) l c p q = turnE (mmE w l) (sixE c) (sixE p) (sixE q) := by
  rw [pay10_eq]; unfold k0_pay19
  show turnE (mmE w l) (sixE (shapeCast S256x128 c shapeCasts_S256x128_S256x128)) (sixE (shapeCast S256x128 p shapeCasts_S256x128_S256x128)) (sixE (shapeCast S256x128 q shapeCasts_S256x128_S256x128)) = _
  simp only [shapeCast_self]
theorem pay22_eq : k0_pay22 (F := Ideal) w l = mmE w l := by
  unfold k0_pay22 k0_pay21; simp only [shapeCast_self]; rfl
theorem pay24_eq : k0_pay24 (F := Ideal) w l = mmE w l := by
  unfold k0_pay24 k0_pay21; simp only [shapeCast_self]; rfl
theorem pay26_eq : k0_pay26 (F := Ideal) w l = mmE w l := by
  unfold k0_pay26 k0_pay21; simp only [shapeCast_self]; rfl
theorem pay28_eq : k0_pay28 (F := Ideal) w l = mmE w l := by
  unfold k0_pay28 k0_pay21; simp only [shapeCast_self]; rfl
theorem pay31_eq : k0_pay31 (F := Ideal) w l = mmE w l := by
  unfold k0_pay31 k0_pay30; simp only [shapeCast_self]; rfl
theorem pay34_eq : k0_pay34 (F := Ideal) w l = mmE w l := by
  unfold k0_pay34 k0_pay30; simp only [shapeCast_self]; rfl
theorem pay37_eq : k0_pay37 (F := Ideal) w l = mmE w l := by
  unfold k0_pay37 k0_pay30; simp only [shapeCast_self]; rfl
theorem pay40_eq : k0_pay40 (F := Ideal) w l = mmE w l := by
  unfold k0_pay40 k0_pay30; simp only [shapeCast_self]; rfl

/-- The columns of the decays in the last block. -/
def gcol (k : Fin 128) : Fin 768 := ⟨256 + k.val, by omega⟩

theorem slice_apply (a : FVec Ideal S256x768 .f32) (r : Fin 256) (k : Fin 128) :
    extractStridedSlice S256x128 ![0, 256] a slices_S256x768_o0_256_S256x128 (ix2 r k) = a (ix2 r (gcol k)) :=
  congrArg a (by
    funext b; apply Fin.ext
    match b with
    | ⟨0, _⟩ => exact Nat.zero_add _
    | ⟨1, _⟩ => rfl)
theorem pay33_eq : k0_pay33 (F := Ideal) w l = extractStridedSlice (α := EReal) S256x128 ![0, 256] (mmE w l) slices_S256x768_o0_256_S256x128 := by
  unfold k0_pay33; rw [pay31_eq]
theorem pay36_eq : k0_pay36 (F := Ideal) w l = extractStridedSlice (α := EReal) S256x128 ![0, 256] (mmE w l) slices_S256x768_o0_256_S256x128 := by
  unfold k0_pay36; rw [pay34_eq]
theorem pay39_eq : k0_pay39 (F := Ideal) w l = extractStridedSlice (α := EReal) S256x128 ![0, 256] (mmE w l) slices_S256x768_o0_256_S256x128 := by
  unfold k0_pay39; rw [pay37_eq]
theorem pay42_eq : k0_pay42 (F := Ideal) w l = extractStridedSlice (α := EReal) S256x128 ![0, 256] (mmE w l) slices_S256x768_o0_256_S256x128 := by
  unfold k0_pay42; rw [pay40_eq]
end Pays
end Cert.InProjIdeal.Val
-- ==== Proof.InProjOut.lean ====
/-
  The input projection's kernel: a grid point's outputs as functions of its blocks.
-/
module
public import proofs.«01_k».proof.Proof.InProjKer
@[expose] public section
set_option maxRecDepth 16384
noncomputable section
namespace Cert.InProjIdeal.Val
open Idealize.ShloMosaic hiding ix1 ix2 ix3 eq_ix1 eq_ix2 eq_ix3
open Idealize.ShloMosaic.ValueIdx Idealize.ShloMosaic.TcCoe Idealize.ShloMosaic.Tactic Cert.InProjIdeal Cert.InProjIdeal.Gen Cert.InProjIdeal.Body Cert.Cols
open Idealize.SL.Sem
open scoped BigOperators

/-! ## A quarter of a block's rows -/

/-- The 256 rows from row `o` of a block. -/
def Quarter {n : ℕ} (o : ℕ) (ho : o + 256 ≤ 1024) (x : (⟨2, ![256, n]⟩ : Shape).Idx → EReal) (X : (⟨2, ![1024, n]⟩ : Shape).Idx → EReal) : Prop :=
  ∀ (r : Fin 256) (k : Fin n), x (ix2 r k) = X (ix2 (⟨o + r.val, by omega⟩ : Fin 1024) k)

theorem quarter_ld {n : ℕ} (x : (⟨2, ![1024, n]⟩ : Shape).Idx → EReal) (e' : EltTy) (o : ℕ) (ho : o + 256 ≤ 1024) (inb) :
    Quarter o ho (View.ld (Val := fun _ => EReal) (S := ⟨2, ![1024, n]⟩) (e' := e') x (Rect.unit (s := ⟨2, ![1024, n]⟩) ![o, 0] ![256, n] inb)) x := fun r k =>
  View.ld_unit_apply_of _ _ _ _ _ (ix2 (⟨o + r.val, by omega⟩ : Fin 1024) k) (fun a => by
    match a with
    | ⟨0, _⟩ => rfl
    | ⟨1, _⟩ => exact (Nat.zero_add _).symm)

theorem quarter_mm {o : ℕ} {ho : o + 256 ≤ 1024} (w : S1024x768.Idx → EReal) {l : S256x1024.Idx → EReal} {s : S1024x1024.Idx → EReal}
    (h : Quarter o ho l s) : Quarter o ho (mmE w l) (fun y => mRow (fun k => s (ix2 (y 0) k)) w (y 1)) := fun r j =>
  (mmE_apply w l r j).trans (congrArg (fun f => mRow f w j) (funext fun k => h r k))

theorem quarter_turn {o : ℕ} {ho : o + 256 ≤ 1024} {a : S256x768.Idx → EReal} {A : S1024x768.Idx → EReal}
    {c p q : S256x128.Idx → EReal} {C P Q : S1024x128.Idx → EReal}
    (h : Quarter o ho a A) (hc : Quarter o ho c C) (hp : Quarter o ho p P) (hq : Quarter o ho q Q) :
    Quarter o ho (turnE a (sixE c) (sixE p) (sixE q))
      (fun y => tRow (fun j => A (ix2 (y 0) j)) (fun l => C (ix2 (y 0) l)) (fun l => P (ix2 (y 0) l)) (fun l => Q (ix2 (y 0) l)) (y 1)) := fun r j => by
  refine (turnE_apply a c p q r j).trans ?_
  simp only [h r, hc r, hp r, hq r]

theorem quarter_slice {o : ℕ} {ho : o + 256 ≤ 1024} {a : S256x768.Idx → EReal} {A : S1024x768.Idx → EReal}
    (h : Quarter o ho a A) : Quarter o ho (extractStridedSlice (α := EReal) S256x128 ![0, 256] a slices_S256x768_o0_256_S256x128) (fun y => A (ix2 (y 0) (gcol (y 1)))) :=
  fun r k => (slice_apply a r k).trans (h r (gcol k))

/-- Four quarters are a block. -/
theorem canon4 {n : ℕ} {e : EltTy} (P3 P2 P1 P0 : (⟨2, ![256, n]⟩ : Shape).Idx → Elt Ideal e) (G : (⟨2, ![1024, n]⟩ : Shape).Idx → Elt Ideal e) (i3) (i2) (i1) (i0)
    (h3 : ∀ (r : Fin 256) (j : Fin n), P3 (ix2 r j) = G (ix2 (⟨768 + r.val, by omega⟩ : Fin 1024) j))
    (h2 : ∀ (r : Fin 256) (j : Fin n), P2 (ix2 r j) = G (ix2 (⟨512 + r.val, by omega⟩ : Fin 1024) j))
    (h1 : ∀ (r : Fin 256) (j : Fin n), P1 (ix2 r j) = G (ix2 (⟨256 + r.val, by omega⟩ : Fin 1024) j))
    (h0 : ∀ (r : Fin 256) (j : Fin n), P0 (ix2 r j) = G (ix2 (⟨0 + r.val, by omega⟩ : Fin 1024) j))
    (y : (⟨2, ![1024, n]⟩ : Shape).Idx) :
    View.canon (Val := Elt Ideal) (s := ⟨2, ![1024, n]⟩) (e := e)
      [⟨Rect.unit (s := ⟨2, ![1024, n]⟩) ![768, 0] ![256, n] i3, P3⟩, ⟨Rect.unit (s := ⟨2, ![1024, n]⟩) ![512, 0] ![256, n] i2, P2⟩,
       ⟨Rect.unit (s := ⟨2, ![1024, n]⟩) ![256, 0] ![256, n] i1, P1⟩, ⟨Rect.unit (s := ⟨2, ![1024, n]⟩) ![0, 0] ![256, n] i0, P0⟩] y = G y := by
  obtain ⟨a, j, rfl⟩ : ∃ (a : Fin 1024) (j : Fin n), y = ix2 a j := ⟨y 0, y 1, eq_ix2 y⟩
  have ha := a.isLt
  by_cases c3 : 768 ≤ a.val
  · have hy : (Rect.unit (s := ⟨2, ![1024, n]⟩) ![768, 0] ![256, n] i3).emb (ix2 (⟨a.val - 768, by omega⟩ : Fin 256) j) = ix2 a j :=
      unit_emb _ _ _ _ _ _ (by show 768 + (a.val - 768) = a.val; omega) (Nat.zero_add _)
    refine (congrArg _ hy.symm).trans ?_
    refine (View.canon_cons_emb (Val := Elt Ideal) (s := ⟨2, ![1024, n]⟩) (e := e) _ _ _ _).trans ((h3 _ j).trans (congrArg G ?_))
    exact congrArg (ix2 · j) (Fin.ext (by show 768 + (a.val - 768) = a.val; omega))
  refine (View.canon_cons_of_not_mem (Val := Elt Ideal) (s := ⟨2, ![1024, n]⟩) (e := e) _ _ fun hm => ?_).trans ?_
  · rw [Rect.mem_set_unit] at hm
    have hb : 768 ≤ a.val := (hm 0).1
    omega
  by_cases c2 : 512 ≤ a.val
  · have hy : (Rect.unit (s := ⟨2, ![1024, n]⟩) ![512, 0] ![256, n] i2).emb (ix2 (⟨a.val - 512, by omega⟩ : Fin 256) j) = ix2 a j :=
      unit_emb _ _ _ _ _ _ (by show 512 + (a.val - 512) = a.val; omega) (Nat.zero_add _)
    refine (congrArg _ hy.symm).trans ?_
    refine (View.canon_cons_emb (Val := Elt Ideal) (s := ⟨2, ![1024, n]⟩) (e := e) _ _ _ _).trans ((h2 _ j).trans (congrArg G ?_))
    exact congrArg (ix2 · j) (Fin.ext (by show 512 + (a.val - 512) = a.val; omega))
  refine (View.canon_cons_of_not_mem (Val := Elt Ideal) (s := ⟨2, ![1024, n]⟩) (e := e) _ _ fun hm => ?_).trans ?_
  · rw [Rect.mem_set_unit] at hm
    have hb : 512 ≤ a.val := (hm 0).1
    omega
  by_cases c1 : 256 ≤ a.val
  · have hy : (Rect.unit (s := ⟨2, ![1024, n]⟩) ![256, 0] ![256, n] i1).emb (ix2 (⟨a.val - 256, by omega⟩ : Fin 256) j) = ix2 a j :=
      unit_emb _ _ _ _ _ _ (by show 256 + (a.val - 256) = a.val; omega) (Nat.zero_add _)
    refine (congrArg _ hy.symm).trans ?_
    refine (View.canon_cons_emb (Val := Elt Ideal) (s := ⟨2, ![1024, n]⟩) (e := e) _ _ _ _).trans ((h1 _ j).trans (congrArg G ?_))
    exact congrArg (ix2 · j) (Fin.ext (by show 256 + (a.val - 256) = a.val; omega))
  refine (View.canon_cons_of_not_mem (Val := Elt Ideal) (s := ⟨2, ![1024, n]⟩) (e := e) _ _ fun hm => ?_).trans ?_
  · rw [Rect.mem_set_unit] at hm
    have hb : 256 ≤ a.val := (hm 0).1
    omega
  have hy : (Rect.unit (s := ⟨2, ![1024, n]⟩) ![0, 0] ![256, n] i0).emb (ix2 (⟨a.val - 0, by omega⟩ : Fin 256) j) = ix2 a j :=
    unit_emb _ _ _ _ _ _ (by show 0 + (a.val - 0) = a.val; omega) (Nat.zero_add _)
  refine (congrArg _ hy.symm).trans ?_
  refine (View.canon_cons_emb (Val := Elt Ideal) (s := ⟨2, ![1024, n]⟩) (e := e) _ _ _ _).trans ((h0 _ j).trans (congrArg G ?_))
  exact congrArg (ix2 · j) (Fin.ext (by show 0 + (a.val - 0) = a.val; omega))

/-! ## The normed rows -/

variable (m : (ℓ : Loc nD τ sig) → Buf (Elt Ideal) ℓ) (c : Dev nD)

/-- A block's normed rows. -/
def nBlk (x : S1024x1024.Idx → EReal) (g : S1x1024.Idx → EReal) : S1024x1024.Idx → EReal :=
  fun y => nRow (fun k => x (ix2 (y 0) k)) (fun k => g (ix2 (0 : Fin 1) k)) (y 1)
/-- Their product with a block of columns, -/
def mBlk (s : S1024x1024.Idx → EReal) (w : S1024x768.Idx → EReal) : S1024x768.Idx → EReal :=
  fun y => mRow (fun k => s (ix2 (y 0) k)) w (y 1)
/-- and the turned product. -/
def tBlk (a : S1024x768.Idx → EReal) (C P Q : S1024x128.Idx → EReal) : S1024x768.Idx → EReal :=
  fun y => tRow (fun j => a (ix2 (y 0) j)) (fun l => C (ix2 (y 0) l)) (fun l => P (ix2 (y 0) l)) (fun l => Q (ix2 (y 0) l)) (y 1)

/-- The columns of the decays in a block. -/
def gBlk (a : S1024x768.Idx → EReal) : S1024x128.Idx → EReal := fun y => a (ix2 (y 0) (gcol (y 1)))

theorem pay1_blk (x : S1024x1024.Idx → EReal) (g : S1x1024.Idx → EReal) : k0_pay1 (F := Ideal) x g = nBlk x g := by
  funext y
  obtain ⟨r, k, rfl⟩ : ∃ (r k : Fin 1024), y = ix2 r k := ⟨y 0, y 1, eq_ix2 y⟩
  exact pay1_apply x g r k
theorem pay2_blk (x : S1024x1024.Idx → EReal) (g : S1x1024.Idx → EReal) : k0_pay2 (F := Ideal) x g = nBlk x g := by
  funext y
  obtain ⟨r, k, rfl⟩ : ∃ (r k : Fin 1024), y = ix2 r k := ⟨y 0, y 1, eq_ix2 y⟩
  exact pay2_apply x g r k

theorem oA_s_eq (t : Fin cfg0.N) (h : t.val % 10 = 0) : oA_s (F := Ideal) m c t h = nBlk (iblk m c 0 t) (iblk m c 1 t) := by
  funext y; unfold oA_s; frame_out
  exact congrFun (pay2_blk _ _) y
theorem oA_6_eq (t : Fin cfg0.N) (h : t.val % 10 = 0) : oA_6 (F := Ideal) m c t h = nBlk (iblk m c 0 t) (iblk m c 1 t) := by
  funext y; unfold oA_6; frame_out
  exact congrFun (pay1_blk _ _) y

/-! ## The column blocks -/

theorem quarter_cov (s : S1024x1024.Idx → EReal) (o : ℕ) (ho : o + 256 ≤ 1024) (i0) (i1) :
    Quarter o ho ((View.whole (sig := sig) cc0_scratch0).readCov (Val := Elt Ideal) [⟨Rect.unit (s := S1024x1024) ![0, 0] ![1024, 1024] i0, s⟩] (Rect.unit (s := S1024x1024) ![o, 0] ![256, 1024] i1).toLoadRect) s := fun r k => by
  have e : View.canon (Val := Elt Ideal) (s := S1024x1024) (e := .bf16) [⟨Rect.unit (s := S1024x1024) ![0, 0] ![1024, 1024] i0, s⟩] = s :=
    View.canon_unit_zero (Val := Elt Ideal) (S := S1024x1024) (e := .bf16) (by funext a; match a with | ⟨0, _⟩ => rfl | ⟨1, _⟩ => rfl) i0 s
  rw [View.readCov_eq_canon', e]
  refine congrArg s ?_
  funext a; apply Fin.ext
  match a with
  | ⟨0, _⟩ => show o + 1 * r.val = o + r.val; omega
  | ⟨1, _⟩ => show 0 + 1 * k.val = k.val; omega

theorem quarter_scr (s : S1024x1024.Idx → EReal) (h : (Memref.whole cc0_scratch0).IsWhole) (o : ℕ) (ho : o + 256 ≤ 1024) (i1) :
    Quarter o ho (View.ld (Val := Elt Ideal) (S := S1024x1024) (e' := .bf16) (View.read (Elt Ideal) (View.whole (sig := sig) cc0_scratch0) (h.unread s))
      (Rect.unit (s := S1024x1024) ![o, 0] ![256, 1024] i1)) s := by
  have e : View.read (Elt Ideal) (View.whole (sig := sig) cc0_scratch0) (h.unread s) = s :=
    Memref.IsWhole.read_unread (Val := Elt Ideal) h (show cc0_scratch0.ty.shape.Idx → Elt Ideal cc0_scratch0.ty.elt from s)
  rw [e]
  exact quarter_ld s .bf16 o ho i1

theorem quarter_col (w : S1024x768.Idx → EReal) {s : S1024x1024.Idx → EReal} {o : ℕ} {ho : o + 256 ≤ 1024} {l : S256x1024.Idx → EReal} (h : Quarter o ho l s) :
    Quarter o ho (mmE w l) (mBlk s w) := quarter_mm w h

theorem quarter_tcol (w : S1024x768.Idx → EReal) {s : S1024x1024.Idx → EReal} {o : ℕ} {ho : o + 256 ≤ 1024} {l : S256x1024.Idx → EReal}
    (h : Quarter o ho l s) (C P Q : S1024x128.Idx → EReal) (ic) (ip) (iq) :
    Quarter o ho (turnE (mmE w l) (sixE (View.ld (Val := Elt Ideal) (S := S1024x128) (e' := .f32) C (Rect.unit (s := S1024x128) ![o, 0] ![256, 128] ic)))
      (sixE (View.ld (Val := Elt Ideal) (S := S1024x128) (e' := .f32) P (Rect.unit (s := S1024x128) ![o, 0] ![256, 128] ip)))
      (sixE (View.ld (Val := Elt Ideal) (S := S1024x128) (e' := .f32) Q (Rect.unit (s := S1024x128) ![o, 0] ![256, 128] iq))))
      (tBlk (mBlk s w) C P Q) :=
  quarter_turn (quarter_col w h) (quarter_ld C .f32 o ho ic) (quarter_ld P .f32 o ho ip) (quarter_ld Q .f32 o ho iq)

theorem oA_7_eq (t : Fin cfg0.N) (h : t.val % 10 = 0) :
    oA_7 (F := Ideal) m c t h = mBlk (nBlk (iblk m c 0 t) (iblk m c 1 t)) (iblk m c 2 t) := by
  funext y; unfold oA_7; frame_out
  rw [pay2_blk]
  refine canon4 _ _ _ _ _ _ _ _ _ ?_ ?_ ?_ ?_ y
  · exact fun r j => (congrFun (pay9_eq _ _) _).trans (quarter_col _ (quarter_cov _ 768 (by decide) _ _) r j)
  · exact fun r j => (congrFun (pay8_eq _ _) _).trans (quarter_col _ (quarter_cov _ 512 (by decide) _ _) r j)
  · exact fun r j => (congrFun (pay7_eq _ _) _).trans (quarter_col _ (quarter_cov _ 256 (by decide) _ _) r j)
  · exact fun r j => (congrFun (pay6_eq _ _) _).trans (quarter_col _ (quarter_cov _ 0 (by decide) _ _) r j)

theorem oB_7_eq (t : Fin cfg0.N) (h : t.val % 10 = 1 ∨ t.val % 10 = 2 ∨ t.val % 10 = 3 ∨ t.val % 10 = 7 ∨ t.val % 10 = 8) (s : S1024x1024.Idx → EReal) :
    oB_7 (F := Ideal) m c t h s = mBlk s (iblk m c 2 t) := by
  funext y; unfold oB_7; frame_out
  refine canon4 _ _ _ _ _ _ _ _ _ ?_ ?_ ?_ ?_ y
  · exact fun r j => (congrFun (pay9_eq _ _) _).trans (quarter_col _ (quarter_scr s _ 768 (by decide) _) r j)
  · exact fun r j => (congrFun (pay8_eq _ _) _).trans (quarter_col _ (quarter_scr s _ 512 (by decide) _) r j)
  · exact fun r j => (congrFun (pay7_eq _ _) _).trans (quarter_col _ (quarter_scr s _ 256 (by decide) _) r j)
  · exact fun r j => (congrFun (pay6_eq _ _) _).trans (quarter_col _ (quarter_scr s _ 0 (by decide) _) r j)

theorem oC_7_eq (t : Fin cfg0.N) (h : t.val % 10 = 4 ∨ t.val % 10 = 5) (s : S1024x1024.Idx → EReal) :
    oC_7 (F := Ideal) m c t h s = tBlk (mBlk s (iblk m c 2 t)) (iblk m c 3 t) (iblk m c 4 t) (iblk m c 5 t) := by
  funext y; unfold oC_7; frame_out
  refine canon4 _ _ _ _ _ _ _ _ _ ?_ ?_ ?_ ?_ y
  · exact fun r j => (congrFun (pay3_eq _ _ _ _ _) _).trans (quarter_tcol _ (quarter_scr s _ 768 (by decide) _) _ _ _ _ _ _ r j)
  · exact fun r j => (congrFun (pay19_eq _ _ _ _ _) _).trans (quarter_tcol _ (quarter_scr s _ 512 (by decide) _) _ _ _ _ _ _ r j)
  · exact fun r j => (congrFun (pay17_eq _ _ _ _ _) _).trans (quarter_tcol _ (quarter_scr s _ 256 (by decide) _) _ _ _ _ _ _ r j)
  · exact fun r j => (congrFun (pay11_eq _ _ _ _ _) _).trans (quarter_tcol _ (quarter_scr s _ 0 (by decide) _) _ _ _ _ _ _ r j)

theorem oC_8_eq (t : Fin cfg0.N) (h : t.val % 10 = 4 ∨ t.val % 10 = 5) (s : S1024x1024.Idx → EReal) :
    oC_8 (F := Ideal) m c t h s = tBlk (mBlk s (iblk m c 2 t)) (iblk m c 3 t) (iblk m c 4 t) (iblk m c 5 t) := by
  funext y; unfold oC_8; frame_out
  refine canon4 _ _ _ _ _ _ _ _ _ ?_ ?_ ?_ ?_ y
  · exact fun r j => (congrFun (pay3_eq _ _ _ _ _) _).trans (quarter_tcol _ (quarter_scr s _ 768 (by decide) _) _ _ _ _ _ _ r j)
  · exact fun r j => (congrFun (pay19_eq _ _ _ _ _) _).trans (quarter_tcol _ (quarter_scr s _ 512 (by decide) _) _ _ _ _ _ _ r j)
  · exact fun r j => (congrFun (pay17_eq _ _ _ _ _) _).trans (quarter_tcol _ (quarter_scr s _ 256 (by decide) _) _ _ _ _ _ _ r j)
  · exact fun r j => (congrFun (pay11_eq _ _ _ _ _) _).trans (quarter_tcol _ (quarter_scr s _ 0 (by decide) _) _ _ _ _ _ _ r j)

theorem oD_7_eq (t : Fin cfg0.N) (h : t.val % 10 = 6) (s : S1024x1024.Idx → EReal) :
    oD_7 (F := Ideal) m c t h s = mBlk s (iblk m c 2 t) := by
  funext y; unfold oD_7; frame_out
  refine canon4 _ _ _ _ _ _ _ _ _ ?_ ?_ ?_ ?_ y
  · exact fun r j => (congrFun (pay28_eq _ _) _).trans (quarter_col _ (quarter_scr s _ 768 (by decide) _) r j)
  · exact fun r j => (congrFun (pay26_eq _ _) _).trans (quarter_col _ (quarter_scr s _ 512 (by decide) _) r j)
  · exact fun r j => (congrFun (pay24_eq _ _) _).trans (quarter_col _ (quarter_scr s _ 256 (by decide) _) r j)
  · exact fun r j => (congrFun (pay22_eq _ _) _).trans (quarter_col _ (quarter_scr s _ 0 (by decide) _) r j)

theorem oD_8_eq (t : Fin cfg0.N) (h : t.val % 10 = 6) (s : S1024x1024.Idx → EReal) :
    oD_8 (F := Ideal) m c t h s = mBlk s (iblk m c 2 t) := by
  funext y; unfold oD_8; frame_out
  refine canon4 _ _ _ _ _ _ _ _ _ ?_ ?_ ?_ ?_ y
  · exact fun r j => (congrFun (pay28_eq _ _) _).trans (quarter_col _ (quarter_scr s _ 768 (by decide) _) r j)
  · exact fun r j => (congrFun (pay26_eq _ _) _).trans (quarter_col _ (quarter_scr s _ 512 (by decide) _) r j)
  · exact fun r j => (congrFun (pay24_eq _ _) _).trans (quarter_col _ (quarter_scr s _ 256 (by decide) _) r j)
  · exact fun r j => (congrFun (pay22_eq _ _) _).trans (quarter_col _ (quarter_scr s _ 0 (by decide) _) r j)

theorem oE_7_eq (t : Fin cfg0.N) (h : t.val % 10 = 9) (s : S1024x1024.Idx → EReal) :
    oE_7 (F := Ideal) m c t h s = mBlk s (iblk m c 2 t) := by
  funext y; unfold oE_7; frame_out
  refine canon4 _ _ _ _ _ _ _ _ _ ?_ ?_ ?_ ?_ y
  · exact fun r j => (congrFun (pay40_eq _ _) _).trans (quarter_col _ (quarter_scr s _ 768 (by decide) _) r j)
  · exact fun r j => (congrFun (pay37_eq _ _) _).trans (quarter_col _ (quarter_scr s _ 512 (by decide) _) r j)
  · exact fun r j => (congrFun (pay34_eq _ _) _).trans (quarter_col _ (quarter_scr s _ 256 (by decide) _) r j)
  · exact fun r j => (congrFun (pay31_eq _ _) _).trans (quarter_col _ (quarter_scr s _ 0 (by decide) _) r j)

theorem oE_9_eq (t : Fin cfg0.N) (h : t.val % 10 = 9) (s : S1024x1024.Idx → EReal) :
    oE_9 (F := Ideal) m c t h s = gBlk (mBlk s (iblk m c 2 t)) := by
  funext y; unfold oE_9; frame_out
  refine canon4 _ _ _ _ _ _ _ _ _ ?_ ?_ ?_ ?_ y
  · exact fun r j => (congrFun (pay42_eq _ _) _).trans (quarter_slice (quarter_col _ (quarter_scr s _ 768 (by decide) _)) r j)
  · exact fun r j => (congrFun (pay39_eq _ _) _).trans (quarter_slice (quarter_col _ (quarter_scr s _ 512 (by decide) _)) r j)
  · exact fun r j => (congrFun (pay36_eq _ _) _).trans (quarter_slice (quarter_col _ (quarter_scr s _ 256 (by decide) _)) r j)
  · exact fun r j => (congrFun (pay33_eq _ _) _).trans (quarter_slice (quarter_col _ (quarter_scr s _ 0 (by decide) _)) r j)
end Cert.InProjIdeal.Val
-- ==== Proof.InProjSpec.lean ====
/-
  The input projection as a function of its arguments: the scaled rows, their products with the weights, the arranged columns
  and the turned ones.
-/
module
public import proofs.«01_k».proof.Proof.InProjKer
@[expose] public section
set_option maxRecDepth 16384
noncomputable section
namespace Cert.InProjIdeal.Val
open Idealize.ShloMosaic hiding ix1 ix2 ix3 eq_ix1 eq_ix2 eq_ix3
open Idealize.ShloMosaic.ValueIdx Idealize.ShloMosaic.TcCoe Cert.InProjIdeal Cert.Cols
open Idealize.SL.Sem
open scoped BigOperators

/-- The first 16 of every 64 columns turned, their first eight with their last eight. -/
def rotL (a : Fin 768 → EReal) (C S : Fin 8 → EReal) : Fin 768 → EReal := fun j =>
  if h : j.val % 64 < 8 then a j * C ⟨j.val % 64, h⟩ - a ⟨j.val + 8, by omega⟩ * S ⟨j.val % 64, h⟩
  else if h' : j.val % 64 < 16 then a j * C ⟨j.val % 64 - 8, by omega⟩ + a ⟨j.val - 8, by omega⟩ * S ⟨j.val % 64 - 8, by omega⟩
  else a j

theorem rotL_lo (a : Fin 768 → EReal) (C S : Fin 8 → EReal) (j : Fin 768) (d : Fin 8) (h : j.val % 64 = d.val) (j' : Fin 768) (hj : j'.val = j.val + 8) :
    rotL a C S j = a j * C d - a j' * S d := by
  have e : (⟨j.val % 64, by omega⟩ : Fin 8) = d := Fin.ext h
  have e' : (⟨j.val + 8, by omega⟩ : Fin 768) = j' := Fin.ext hj.symm
  unfold rotL
  rw [dif_pos (by omega), e, e']
theorem rotL_hi (a : Fin 768 → EReal) (C S : Fin 8 → EReal) (j : Fin 768) (d : Fin 8) (h : j.val % 64 = d.val + 8) (j' : Fin 768) (hj : j'.val + 8 = j.val) :
    rotL a C S j = a j * C d + a j' * S d := by
  have e : (⟨j.val % 64 - 8, by omega⟩ : Fin 8) = d := Fin.ext (by dsimp only; omega)
  have e' : (⟨j.val - 8, by omega⟩ : Fin 768) = j' := Fin.ext (by dsimp only; omega)
  unfold rotL
  rw [dif_neg (by omega), dif_pos (by omega), e, e']
theorem rotL_far (a : Fin 768 → EReal) (C S : Fin 8 → EReal) (j : Fin 768) (h : 16 ≤ j.val % 64) : rotL a C S j = a j := by
  unfold rotL
  rw [dif_neg (by omega), dif_neg (by omega)]

/-- Turned by the three tables. -/
theorem tRow_rotL (a : Fin 768 → EReal) (C S : Fin 8 → EReal) (c p q : Fin 128 → EReal)
    (lo : ∀ (l : Fin 128) (d : Fin 8), l.val % 64 = d.val → c l = C d ∧ p l = 0 ∧ q l = -S d)
    (hi : ∀ (l : Fin 128) (d : Fin 8), l.val % 64 = d.val + 8 → c l = C d ∧ p l = S d ∧ q l = 0)
    (far : ∀ l : Fin 128, 16 ≤ l.val % 64 → c l = 1 ∧ p l = 0 ∧ q l = 0) (j : Fin 768) : tRow a c p q j = rotL a C S j := by
  have hl : (lane j).val % 64 = j.val % 64 := by show j.val % 128 % 64 = j.val % 64; omega
  show a j * c (lane j) + a (up j) * p (lane j) + a (dn j) * q (lane j) = _
  by_cases h : j.val % 64 < 8
  · obtain ⟨h1, h2, h3⟩ := lo (lane j) ⟨j.val % 64, h⟩ hl
    rw [rotL_lo a C S j ⟨j.val % 64, h⟩ rfl (dn j) (by show (j.val + 8) % 768 = j.val + 8; omega), h1, h2, h3, mul_zero, add_zero, mul_neg, sub_eq_add_neg]
  · by_cases h' : j.val % 64 < 16
    · obtain ⟨h1, h2, h3⟩ := hi (lane j) ⟨j.val % 64 - 8, by omega⟩ (hl.trans (by dsimp only; omega))
      rw [rotL_hi a C S j ⟨j.val % 64 - 8, by omega⟩ (by dsimp only; omega) (up j) (by show (j.val + 760) % 768 + 8 = j.val; omega), h1, h2, h3, mul_zero, add_zero]
    · obtain ⟨h1, h2, h3⟩ := far (lane j) (by omega)
      rw [rotL_far a C S j (by omega), h1, h2, h3, mul_zero, mul_zero, mul_one, add_zero, add_zero]

section Args
variable (x : S2x2048x1024.Idx → EReal) (g : S1x1024.Idx → EReal) (w : S1x1024x7180.Idx → EReal) (C S : S2048x8.Idx → EReal)
/-- A token's scaled row, -/
def hF (b : Fin 2) (s : Fin 2048) : Fin 1024 → EReal := nRow (fun k => x (ix3 b s k)) (fun k => g (ix2 (0 : Fin 1) k))
/-- its products with the weights' columns, -/
def prF (b : Fin 2) (s : Fin 2048) : Fin 7180 → EReal := fun k => ∑ i : Fin 1024, hF x g b s i * w (ix3 (0 : Fin 1) i k)
/-- arranged, -/
def aF (b : Fin 2) (s : Fin 2048) : Fin 7680 → EReal := cols (prF x g w b s)
/-- 768 of them, -/
def cF (b : Fin 2) (s : Fin 2048) (n : ℕ) (hn : n < 10) : Fin 768 → EReal := fun k => aF x g w b s ⟨768 * n + k.val, by omega⟩
/-- with two blocks of columns turned. -/
def pF (b : Fin 2) (s : Fin 2048) : Fin 7680 → EReal := fun j =>
  if j.val / 768 = 4 ∨ j.val / 768 = 5 then
    rotL (cF x g w b s (j.val / 768) (by omega)) (fun d => C (ix2 s d)) (fun d => S (ix2 s d)) ⟨j.val % 768, by omega⟩
  else aF x g w b s j
/-- The scaled rows, -/
def hR : S4096x1024.Idx → EReal := fun y => hF x g (bat (y 0)) (pos (y 0)) (y 1)
/-- the products' rows, -/
def pR : S4096x7680.Idx → EReal := fun y => pF x g w C S (bat (y 0)) (pos (y 0)) (y 1)
/-- their columns 3072 to 5375 -/
def fR : S4096x2304.Idx → EReal := fun y => pF x g w C S (bat (y 0)) (pos (y 0)) (⟨3072 + (y 1).val, by have h : (y 1).val < 2304 := (y 1).isLt; omega⟩ : Fin 7680)
/-- and 7168 to 7295. -/
def gR : S4096x128.Idx → EReal := fun y => aF x g w (bat (y 0)) (pos (y 0)) (⟨7168 + (y 1).val, by have h : (y 1).val < 128 := (y 1).isLt; omega⟩ : Fin 7680)
end Args

theorem pF_turn (x : S2x2048x1024.Idx → EReal) (g : S1x1024.Idx → EReal) (w : S1x1024x7180.Idx → EReal) (C S : S2048x8.Idx → EReal) (b : Fin 2) (s : Fin 2048)
    (j : Fin 7680) (n : ℕ) (hn : n < 10) (h45 : n = 4 ∨ n = 5) (k : Fin 768) (h : j.val = 768 * n + k.val) :
    pF x g w C S b s j = rotL (cF x g w b s n hn) (fun d => C (ix2 s d)) (fun d => S (ix2 s d)) k := by
  have e : j.val / 768 = n := by omega
  have e' : (⟨j.val % 768, by omega⟩ : Fin 768) = k := Fin.ext (by dsimp only; omega)
  subst e
  unfold pF
  rw [if_pos h45, e']
theorem pF_else (x : S2x2048x1024.Idx → EReal) (g : S1x1024.Idx → EReal) (w : S1x1024x7180.Idx → EReal) (C S : S2048x8.Idx → EReal) (b : Fin 2) (s : Fin 2048)
    (j : Fin 7680) (h : j.val < 3072 ∨ 4608 ≤ j.val) : pF x g w C S b s j = aF x g w b s j := by
  unfold pF
  exact if_neg (by omega)

end Cert.InProjIdeal.Val
end
-- ==== Proof.InProjTab.lean ====
/-
  The input projection's kernel: what its host operations leave for its windows.
-/
module
public import proofs.«01_k».proof.Proof.InProjSpec
@[expose] public section
set_option maxRecDepth 16384
noncomputable section
namespace Cert.InProjIdeal.Val
open Idealize.ShloMosaic hiding ix1 ix2 ix3 ix4 eq_ix1 eq_ix2 eq_ix3
open Idealize.ShloMosaic.ValueIdx Idealize.ShloMosaic.TcCoe Idealize.ShloMosaic.Tactic Cert.InProjIdeal Cert.InProjIdeal.Gen Cert.Cols
open Idealize.SL.Sem
open scoped BigOperators

/-! ## The tables -/

/-- The angles: a position times a frequency. -/
def angT : S2048x8.Idx → EReal :=
  mulf (F := Ideal) (φ := .f32) (broadcastInDim S2048x8 ![0, 1] bcast_S2048x1_S2048x8_0_1 (broadcastInDim S2048x1 ![0] bcast_S2048_S2048x1_0 (sitofp (F := Ideal) .f32 (iotaInDim S2048 32 0))))
    (broadcastInDim S2048x8 ![0, 1] bcast_S1x8_S2048x8_0_1 (broadcastInDim S1x8 ![1] bcast_S8_S1x8_1
      (Host.divf (F := Ideal) (φ := .f32) (broadcastInDim S8 ![] bcast_S_S8 (constant (F := Ideal) S_ .f32 0x3F800000#32))
        (Host.powf (F := Ideal) (φ := .f32) (broadcastInDim S8 ![] bcast_S_S8 (constant (F := Ideal) S_ .f32 0x48F42400#32))
          (Host.divf (F := Ideal) (φ := .f32) (addf (F := Ideal) (φ := .f32) (broadcastInDim S8 ![] bcast_S_S8 (constant (F := Ideal) S_ .f32 0x00000000#32))
            (mulf (F := Ideal) (φ := .f32) (broadcastInDim S8 ![] bcast_S_S8 (constant (F := Ideal) S_ .f32 0x40000000#32)) (sitofp (F := Ideal) .f32 (iotaInDim S8 32 0))))
            (broadcastInDim S8 ![] bcast_S_S8 (constant (F := Ideal) S_ .f32 0x41800000#32)))))))
/-- Their cosines -/
def cosT : S2048x8.Idx → EReal := Host.cos (F := Ideal) (φ := .f32) angT
/-- and sines. -/
def sinT : S2048x8.Idx → EReal := Host.sin (F := Ideal) (φ := .f32) angT

/-- A table by 64 columns, from three, -/
def threeT (u v : S2048x8.Idx → EReal) (z : S2048x48.Idx → EReal) : S2048x64.Idx → EReal :=
  concatenate S2048x64 1 [⟨S2048x8, u⟩, ⟨S2048x8, v⟩, ⟨S2048x48, z⟩] concatenates_S2048x8_S2048x8_S2048x48_S2048x64_d1
/-- and twice over 128. -/
def twiceT (u : S2048x64.Idx → EReal) : S2048x128.Idx → EReal :=
  shapeCast S2048x128 (broadcastInDim S1x2048x2x64 ![0, 1, 2, 3] bcast_S1x2048x1x64_S1x2048x2x64_0_1_2_3 (shapeCast S1x2048x1x64 u shapeCasts_S2048x64_S1x2048x1x64)) shapeCasts_S1x2048x2x64_S2048x128

theorem twiceT_apply (u : S2048x64.Idx → EReal) (s : Fin 2048) (l : Fin 128) (e : Fin 64) (h : l.val % 64 = e.val) : twiceT u (ix2 s l) = u (ix2 s e) := by
  unfold twiceT
  refine (shapeCast_apply _ _ (ix2 s l) (ix4 (0 : Fin 1) s (⟨l.val / 64, by omega⟩ : Fin 2) e) ?_).trans ?_
  · rw [Shape.rowMajor_val_four, Shape.rowMajor_val_two]
    show ((0 * 2048 + s.val) * 2 + l.val / 64) * 64 + e.val = s.val * 128 + l.val
    omega
  refine (broadcastInDim_apply (s := S1x2048x1x64) (t := S1x2048x2x64) _ _ _ _ (ix4 (0 : Fin 1) s (0 : Fin 1) e) fun a => ?_).trans ?_
  · match a with
    | ⟨0, _⟩ => rfl
    | ⟨1, _⟩ => rfl
    | ⟨2, _⟩ => rfl
    | ⟨3, _⟩ => rfl
  · refine shapeCast_apply _ _ _ (ix2 s e) ?_
    rw [Shape.rowMajor_val_four, Shape.rowMajor_val_two]
    show s.val * 64 + e.val = ((0 * 2048 + s.val) * 1 + 0) * 64 + e.val
    omega

theorem threeT_lo (u v : S2048x8.Idx → EReal) (z : S2048x48.Idx → EReal) (s : Fin 2048) (l : Fin 64) (d : Fin 8) (h : l.val = 0 + d.val) :
    threeT u v z (ix2 s l) = u (ix2 s d) := by
  unfold threeT
  refine concatenate_apply_piece (α := EReal) (t := S2048x64) 1 [⟨S2048x8, u⟩, ⟨S2048x8, v⟩, ⟨S2048x48, z⟩] _ (ix2 s l) 0 (show 0 < 3 by decide) S2048x8 u rfl rfl 0 rfl (ix2 s d) ?_ h.symm
  intro b hb
  match b, hb with
  | ⟨0, _⟩, _ => rfl
  | ⟨1, _⟩, hb => exact absurd rfl hb
theorem threeT_hi (u v : S2048x8.Idx → EReal) (z : S2048x48.Idx → EReal) (s : Fin 2048) (l : Fin 64) (d : Fin 8) (h : l.val = 8 + d.val) :
    threeT u v z (ix2 s l) = v (ix2 s d) := by
  unfold threeT
  refine concatenate_apply_piece (α := EReal) (t := S2048x64) 1 [⟨S2048x8, u⟩, ⟨S2048x8, v⟩, ⟨S2048x48, z⟩] _ (ix2 s l) 1 (show 1 < 3 by decide) S2048x8 v rfl rfl 8 rfl (ix2 s d) ?_ h.symm
  intro b hb
  match b, hb with
  | ⟨0, _⟩, _ => rfl
  | ⟨1, _⟩, hb => exact absurd rfl hb
theorem threeT_far (u v : S2048x8.Idx → EReal) (z : S2048x48.Idx → EReal) (s : Fin 2048) (l : Fin 64) (d : Fin 48) (h : l.val = 16 + d.val) :
    threeT u v z (ix2 s l) = z (ix2 s d) := by
  unfold threeT
  refine concatenate_apply_piece (α := EReal) (t := S2048x64) 1 [⟨S2048x8, u⟩, ⟨S2048x8, v⟩, ⟨S2048x48, z⟩] _ (ix2 s l) 2 (show 2 < 3 by decide) S2048x48 z rfl rfl 16 rfl (ix2 s d) ?_ h.symm
  intro b hb
  match b, hb with
  | ⟨0, _⟩, _ => rfl
  | ⟨1, _⟩, hb => exact absurd rfl hb

/-- A table of one value. -/
abbrev oneT : S2048x48.Idx → EReal := broadcastInDim S2048x48 ![] bcast_S_S2048x48 (constant (F := Ideal) S_ .f32 0x3F800000#32)
abbrev zeroT : S2048x48.Idx → EReal := broadcastInDim S2048x48 ![] bcast_S_S2048x48 (constant (F := Ideal) S_ .f32 0x00000000#32)
abbrev nilT : S2048x8.Idx → EReal := broadcastInDim S2048x8 ![] bcast_S_S2048x8 (constant (F := Ideal) S_ .f32 0x00000000#32)
theorem one_apply (y : S2048x48.Idx) : oneT y = 1 := by
  show (constant (F := Ideal) S_ .f32 0x3F800000#32) _ = (1 : EReal)
  exact Ideal.ofBits_one_f32
theorem zero_apply (y : S2048x48.Idx) : zeroT y = 0 := by
  show (constant (F := Ideal) S_ .f32 0x00000000#32) _ = (0 : EReal)
  exact Ideal.ofBits_zero_f32
theorem nil_apply (y : S2048x8.Idx) : nilT y = 0 := by
  show (constant (F := Ideal) S_ .f32 0x00000000#32) _ = (0 : EReal)
  exact Ideal.ofBits_zero_f32

/-- The three tables. -/
def tab3 : S2048x128.Idx → EReal := twiceT (threeT cosT cosT oneT)
def tab4 : S2048x128.Idx → EReal := twiceT (threeT nilT sinT zeroT)
def tab5 : S2048x128.Idx → EReal := twiceT (threeT (Host.negf (F := Ideal) (φ := .f32) sinT) nilT zeroT)

theorem tab_lo (s : Fin 2048) (l : Fin 128) (d : Fin 8) (h : l.val % 64 = d.val) :
    tab3 (ix2 s l) = cosT (ix2 s d) ∧ tab4 (ix2 s l) = 0 ∧ tab5 (ix2 s l) = -sinT (ix2 s d) := by
  unfold tab3 tab4 tab5
  refine ⟨?_, ?_, ?_⟩ <;> rw [twiceT_apply _ s l ⟨d.val, by omega⟩ h, threeT_lo _ _ _ s _ d (Nat.zero_add _).symm]
  · exact nil_apply _
  · rfl
theorem tab_hi (s : Fin 2048) (l : Fin 128) (d : Fin 8) (h : l.val % 64 = d.val + 8) :
    tab3 (ix2 s l) = cosT (ix2 s d) ∧ tab4 (ix2 s l) = sinT (ix2 s d) ∧ tab5 (ix2 s l) = 0 := by
  unfold tab3 tab4 tab5
  refine ⟨?_, ?_, ?_⟩ <;> rw [twiceT_apply _ s l ⟨d.val + 8, by omega⟩ h, threeT_hi _ _ _ s _ d (Nat.add_comm _ _)]
  exact nil_apply _
theorem tab_far (s : Fin 2048) (l : Fin 128) (h : 16 ≤ l.val % 64) :
    tab3 (ix2 s l) = 1 ∧ tab4 (ix2 s l) = 0 ∧ tab5 (ix2 s l) = 0 := by
  unfold tab3 tab4 tab5
  refine ⟨?_, ?_, ?_⟩ <;> rw [twiceT_apply _ s l ⟨l.val % 64, by omega⟩ rfl, threeT_far _ _ _ s _ (⟨l.val % 64 - 16, by omega⟩ : Fin 48) (by dsimp only; omega)]
  · exact one_apply _
  · exact zero_apply _
  · exact zero_apply _

/-- A row turned by the tables. -/
theorem turn_row (a : Fin 768 → EReal) (s : Fin 2048) (j : Fin 768) :
    tRow a (fun l => tab3 (ix2 s l)) (fun l => tab4 (ix2 s l)) (fun l => tab5 (ix2 s l)) j = rotL a (fun d => cosT (ix2 s d)) (fun d => sinT (ix2 s d)) j :=
  tRow_rotL a _ _ _ _ _ (fun l d h => tab_lo s l d h) (fun l d h => tab_hi s l d h) (fun l h => tab_far s l h) j

/-! ## The weights' columns -/

/-- The weights, -/
abbrev wRows (w : S1x1024x7180.Idx → EReal) : S1024x7180.Idx → EReal :=
  shapeCast S1024x7180 w shapeCasts_S1x1024x7180_S1024x7180
/-- and the second quarter of their columns. -/
abbrev wSecond (w : S1x1024x7180.Idx → EReal) : S1024x1795.Idx → EReal := extractStridedSlice S1024x1795 ![0, 1795] (wRows w) slices_S1024x7180_S1024x1795_0_1795

/-- The weights' columns, arranged. -/
def wTerm (w : S1x1024x7180.Idx → EReal) : S1024x7680.Idx → EReal :=
  concatenate S1024x7680 1 [⟨S1024x1795, extractStridedSlice S1024x1795 ![0, 0] (wRows w) slices_S1024x7180_S1024x1795_0_0⟩,
    ⟨S1024x1277, extractStridedSlice S1024x1277 ![0, 0] (wSecond w) slices_S1024x1795_S1024x1277_0_0⟩,
    ⟨S1024x506, extractStridedSlice S1024x506 ![0, 1289] (wSecond w) slices_S1024x1795_S1024x506_0_1289⟩,
    ⟨S1024x1795, extractStridedSlice S1024x1795 ![0, 3590] (wRows w) slices_S1024x7180_S1024x1795_0_3590⟩,
    ⟨S1024x1795, extractStridedSlice S1024x1795 ![0, 5385] (wRows w) slices_S1024x7180_S1024x1795_0_5385⟩,
    ⟨S1024x12, extractStridedSlice S1024x12 ![0, 1277] (wSecond w) slices_S1024x1795_S1024x12_0_1277⟩,
    ⟨S1024x500, broadcastInDim S1024x500 ![] bcast_S_S1024x500 (constant (F := Ideal) S_ .bf16 0x0000#16)⟩]
    concatenates_S1024x1795_S1024x1277_S1024x506_S1024x1795_S1024x1795_S1024x12_S1024x500_S1024x7680_d1

theorem wTerm_apply (w : S1x1024x7180.Idx → EReal) (i : Fin 1024) (j : Fin 7680) : wTerm w (ix2 i j) = cols (fun k => w (ix3 (0 : Fin 1) i k)) j := by
  have hj : (ix2 i j 1).val = j.val := rfl
  have h0 : (ix2 i j 0).val = i.val := rfl
  have hi := i.isLt
  have key : ∀ (a : Fin 1) (b : Fin 1024) (k : Fin 7180), b.val = i.val →
      ((j.val < 3072 ∧ k.val = j.val) ∨ (3072 ≤ j.val ∧ j.val < 7168 ∧ k.val = j.val + 12) ∨ (7168 ≤ j.val ∧ j.val < 7180 ∧ k.val + 4096 = j.val)) →
      w (Idealize.ShloMosaic.ix3 a b k) = cols (fun k => w (ix3 (0 : Fin 1) i k)) j := by
    intro a b k hb hk
    rw [cols_eq _ j k hk]
    exact congrArg w (funext fun l => Fin.ext (by match l with | ⟨0, _⟩ => (show a.val = 0; omega) | ⟨1, _⟩ => exact hb | ⟨2, _⟩ => rfl))
  unfold wTerm
  pointwise
  split_ifs
  all_goals first
    | (refine key _ _ _ h0 ?_
       dsimp only
       omega)
    | exact (cols_none _ j (by omega)).symm
    | omega

/-! ## What the kernel finds -/

variable (m : (ℓ : Loc nD τ sig) → Buf (Elt Ideal) ℓ) (c : Dev nD)
abbrev argX : S2x2048x1024.Idx → EReal := m ((c : Thread nD τ).loc main_arg0)
abbrev argG : S1x1024.Idx → EReal := m ((c : Thread nD τ).loc main_arg1)
abbrev argW : S1x1024x7180.Idx → EReal := m ((c : Thread nD τ).loc main_arg2)

abbrev xV : S4096x1024.Idx → EReal := V (F := Ideal) m c main_v0
theorem xV_eq : xV m c = shapeCast S4096x1024 (argX m c) shapeCasts_S2x2048x1024_S4096x1024 := by
  unfold xV V
  after_reads_simp
  rfl
theorem xV_apply (r : Fin 4096) (i : Fin 1024) : xV m c (ix2 r i) = argX m c (ix3 (bat r) (pos r) i) := by
  rw [xV_eq]; exact flat_apply _ _ r i
abbrev gV : S1x1024.Idx → EReal := V (F := Ideal) m c main_arg1
theorem gV_eq : gV m c = argG m c := V_main_arg1 m c
abbrev wV : S1024x7680.Idx → EReal := V (F := Ideal) m c main_v11
theorem wV_eq : wV m c = wTerm (argW m c) := by
  unfold wV V
  after_reads_simp
  rfl
abbrev tV3 : S2048x128.Idx → EReal := V (F := Ideal) m c main_v40
set_option maxHeartbeats 2000000 in
theorem tV3_eq : tV3 m c = tab3 := by
  unfold tV3 V
  after_reads_simp
  rfl
abbrev tV4 : S2048x128.Idx → EReal := V (F := Ideal) m c main_v43
set_option maxHeartbeats 2000000 in
theorem tV4_eq : tV4 m c = tab4 := by
  unfold tV4 V
  after_reads_simp
  rfl
abbrev tV5 : S2048x128.Idx → EReal := V (F := Ideal) m c main_v46
set_option maxHeartbeats 2000000 in
theorem tV5_eq : tV5 m c = tab5 := by
  unfold tV5 V
  after_reads_simp
  rfl

end Cert.InProjIdeal.Val
end
-- ==== Proof.InProjRun.lean ====
/-
  The input projection's kernel: its blocks on the arguments, the blocks of its results put together, and its run as a function of
  the arguments.
-/
module
public import proofs.«01_k».proof.Proof.InProjOut
public import proofs.«01_k».proof.Proof.InProjTab
@[expose] public section
set_option maxRecDepth 16384
noncomputable section
namespace Cert.InProjIdeal.Val
open Idealize.ShloMosaic hiding ix1 ix2 ix3 ix4 eq_ix1 eq_ix2 eq_ix3
open Idealize.ShloMosaic.ValueIdx Idealize.ShloMosaic.TcCoe Cert.InProjIdeal Cert.InProjIdeal.Gen Cert.InProjIdeal.Body Cert.Cols
open Idealize.SL.Sem
open scoped BigOperators

variable (m : (ℓ : Loc nD τ sig) → Buf (Elt Ideal) ℓ) (c : Dev nD)

theorem idx0 : ∀ t : Fin cfg0.N, win0_0.index t 0 = t.val / 10 ∧ win0_0.index t 1 = 0 :=
  (by decide +kernel : ∀ t : Fin grid0.N, win0_0.index t 0 = t.val / 10 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = t.val % 10 :=
  (by decide +kernel : ∀ t : Fin grid0.N, win0_2.index t 0 = 0 ∧ win0_2.index t 1 = t.val % 10)
theorem idx3 : ∀ t : Fin cfg0.N, win0_3.index t 0 = t.val / 10 % 2 ∧ win0_3.index t 1 = 0 :=
  (by decide +kernel : ∀ t : Fin grid0.N, win0_3.index t 0 = t.val / 10 % 2 ∧ win0_3.index t 1 = 0)
theorem idx4 : ∀ t : Fin cfg0.N, win0_4.index t 0 = t.val / 10 % 2 ∧ win0_4.index t 1 = 0 :=
  (by decide +kernel : ∀ t : Fin grid0.N, win0_4.index t 0 = t.val / 10 % 2 ∧ win0_4.index t 1 = 0)
theorem idx5 : ∀ t : Fin cfg0.N, win0_5.index t 0 = t.val / 10 % 2 ∧ win0_5.index t 1 = 0 :=
  (by decide +kernel : ∀ t : Fin grid0.N, win0_5.index t 0 = t.val / 10 % 2 ∧ win0_5.index t 1 = 0)
theorem idx6 : ∀ t : Fin cfg0.N, win0_6.index t 0 = t.val / 10 ∧ win0_6.index t 1 = 0 :=
  (by decide +kernel : ∀ t : Fin grid0.N, win0_6.index t 0 = t.val / 10 ∧ win0_6.index t 1 = 0)
theorem idx7 : ∀ t : Fin cfg0.N, win0_7.index t 0 = t.val / 10 ∧ win0_7.index t 1 = t.val % 10 :=
  (by decide +kernel : ∀ t : Fin grid0.N, win0_7.index t 0 = t.val / 10 ∧ win0_7.index t 1 = t.val % 10)
theorem idx8 : ∀ t : Fin cfg0.N, win0_8.index t 0 = t.val / 10 ∧ win0_8.index t 1 = min (t.val % 10 - 4) 2 :=
  (by decide +kernel : ∀ t : Fin grid0.N, win0_8.index t 0 = t.val / 10 ∧ win0_8.index t 1 = min (t.val % 10 - 4) 2)
theorem idx9 : ∀ t : Fin cfg0.N, win0_9.index t 0 = t.val / 10 ∧ win0_9.index t 1 = 0 :=
  (by decide +kernel : ∀ t : Fin grid0.N, win0_9.index t 0 = t.val / 10 ∧ win0_9.index t 1 = 0)

/-- Row `r` of point `t`'s block. -/
def rowAt (t : Fin cfg0.N) (r : Fin 1024) : Fin 4096 := ⟨t.val / 10 * 1024 + r.val, by have h := point_lt t; omega⟩
/-- Column `j` of it. -/
def colAt (t : Fin cfg0.N) (j : Fin 768) : Fin 7680 := ⟨t.val % 10 * 768 + j.val, by omega⟩
/-- The point whose block holds a row, in column block `n`. -/
def ptOf (l : Fin 4096) (n : Fin 10) : Fin cfg0.N := ⟨l.val / 1024 * 10 + n.val, by have hN : cfg0.N = 40 := N_0; omega⟩
theorem ptOf_mod (l : Fin 4096) (n : Fin 10) : (ptOf l n).val % 10 = n.val := by show (l.val / 1024 * 10 + n.val) % 10 = n.val; omega
/-- The column block that holds a column. -/
def colBlk (j : Fin 7680) : Fin 10 := ⟨j.val / 768, by omega⟩

theorem pos_rowAt (t : Fin cfg0.N) (r : Fin 1024) : (pos (rowAt t r)).val = t.val / 10 % 2 * 1024 + r.val := by
  show (t.val / 10 * 1024 + r.val) % 2048 = t.val / 10 % 2 * 1024 + r.val
  omega

/-! ## The blocks -/

theorem blk0 (t : Fin cfg0.N) (r k : Fin 1024) : iblk (F := Ideal) m c 0 t (ix2 r k) = argX m c (ix3 (bat (rowAt t r)) (pos (rowAt t r)) k) :=
  (congrArg (xV m c) (unit_emb (n0 := 4096) (n1 := 1024) (fun a => win0_0.index t a * (![1024, 1024] : Fin 2 → ℕ) a) ![1024, 1024] _ (ix2 r k) (rowAt t r) k
    (by show win0_0.index t 0 * 1024 + r.val = t.val / 10 * 1024 + r.val; rw [(idx0 t).1]) (by show win0_0.index t 1 * 1024 + k.val = k.val; rw [(idx0 t).2]; omega))).trans
    (xV_apply m c _ _)
theorem blk1 (t : Fin cfg0.N) (k : Fin 1024) : iblk (F := Ideal) m c 1 t (ix2 (0 : Fin 1) k) = argG m c (ix2 (0 : Fin 1) k) :=
  (congrArg (gV m c) (unit_emb (n0 := 1) (n1 := 1024) (fun a => win0_1.index t a * (![1, 1024] : Fin 2 → ℕ) a) ![1, 1024] _ (ix2 (0 : Fin 1) k) (0 : Fin 1) k
    (by show win0_1.index t 0 * 1 + 0 = 0; rw [(idx1 t).1]) (by show win0_1.index t 1 * 1024 + k.val = k.val; rw [(idx1 t).2]; omega))).trans
    (congrFun (gV_eq m c) _)
theorem blk2 (t : Fin cfg0.N) (i : Fin 1024) (j : Fin 768) : iblk (F := Ideal) m c 2 t (ix2 i j) = cols (fun k => argW m c (ix3 (0 : Fin 1) i k)) (colAt t j) :=
  (congrArg (wV m c) (unit_emb (n0 := 1024) (n1 := 7680) (fun a => win0_2.index t a * (![1024, 768] : Fin 2 → ℕ) a) ![1024, 768] _ (ix2 i j) i (colAt t j)
    (by show win0_2.index t 0 * 1024 + i.val = i.val; rw [(idx2 t).1]; omega) (by show win0_2.index t 1 * 768 + j.val = t.val % 10 * 768 + j.val; rw [(idx2 t).2]))).trans
    ((congrFun (wV_eq m c) _).trans (wTerm_apply _ _ _))
theorem blk3 (t : Fin cfg0.N) (r : Fin 1024) (l : Fin 128) : iblk (F := Ideal) m c 3 t (ix2 r l) = tab3 (ix2 (pos (rowAt t r)) l) :=
  (congrArg (tV3 m c) (unit_emb (n0 := 2048) (n1 := 128) (fun a => win0_3.index t a * (![1024, 128] : Fin 2 → ℕ) a) ![1024, 128] _ (ix2 r l) (pos (rowAt t r)) l
    (by show win0_3.index t 0 * 1024 + r.val = (pos (rowAt t r)).val; rw [(idx3 t).1, pos_rowAt]) (by show win0_3.index t 1 * 128 + l.val = l.val; rw [(idx3 t).2]; omega))).trans
    (congrFun (tV3_eq m c) _)
theorem blk4 (t : Fin cfg0.N) (r : Fin 1024) (l : Fin 128) : iblk (F := Ideal) m c 4 t (ix2 r l) = tab4 (ix2 (pos (rowAt t r)) l) :=
  (congrArg (tV4 m c) (unit_emb (n0 := 2048) (n1 := 128) (fun a => win0_4.index t a * (![1024, 128] : Fin 2 → ℕ) a) ![1024, 128] _ (ix2 r l) (pos (rowAt t r)) l
    (by show win0_4.index t 0 * 1024 + r.val = (pos (rowAt t r)).val; rw [(idx4 t).1, pos_rowAt]) (by show win0_4.index t 1 * 128 + l.val = l.val; rw [(idx4 t).2]; omega))).trans
    (congrFun (tV4_eq m c) _)
theorem blk5 (t : Fin cfg0.N) (r : Fin 1024) (l : Fin 128) : iblk (F := Ideal) m c 5 t (ix2 r l) = tab5 (ix2 (pos (rowAt t r)) l) :=
  (congrArg (tV5 m c) (unit_emb (n0 := 2048) (n1 := 128) (fun a => win0_5.index t a * (![1024, 128] : Fin 2 → ℕ) a) ![1024, 128] _ (ix2 r l) (pos (rowAt t r)) l
    (by show win0_5.index t 0 * 1024 + r.val = (pos (rowAt t r)).val; rw [(idx5 t).1, pos_rowAt]) (by show win0_5.index t 1 * 128 + l.val = l.val; rw [(idx5 t).2]; omega))).trans
    (congrFun (tV5_eq m c) _)

/-! ## What a point leaves -/

theorem nB (t : Fin cfg0.N) (r k : Fin 1024) : nBlk (iblk (F := Ideal) m c 0 t) (iblk (F := Ideal) m c 1 t) (ix2 r k)
    = hF (argX m c) (argG m c) (bat (rowAt t r)) (pos (rowAt t r)) k :=
  congrFun (congrArg₂ nRow (funext fun k => blk0 m c t r k) (funext fun k => blk1 m c t k)) k

theorem rowAt_rowPt (t : Fin cfg0.N) (r : Fin 1024) : rowAt (rowPt t) r = rowAt t r := Fin.ext (by
  show 10 * (t.val / 10) / 10 * 1024 + r.val = t.val / 10 * 1024 + r.val
  omega)

theorem s_at (t : Fin cfg0.N) (r k : Fin 1024) : sAt (F := Ideal) m c t (ix2 r k) = hF (argX m c) (argG m c) (bat (rowAt t r)) (pos (rowAt t r)) k := by
  unfold sAt
  rw [oA_s_eq, nB m c (rowPt t) r k, rowAt_rowPt]
theorem h_at (t : Fin cfg0.N) (r k : Fin 1024) : hAt (F := Ideal) m c t (ix2 r k) = hF (argX m c) (argG m c) (bat (rowAt t r)) (pos (rowAt t r)) k := by
  unfold hAt
  rw [oA_6_eq, nB m c (rowPt t) r k, rowAt_rowPt]

theorem mB (t : Fin cfg0.N) (s : S1024x1024.Idx → EReal) (r : Fin 1024) (hs : ∀ k, s (ix2 r k) = hF (argX m c) (argG m c) (bat (rowAt t r)) (pos (rowAt t r)) k) (j : Fin 768) :
    mBlk s (iblk (F := Ideal) m c 2 t) (ix2 r j) = aF (argX m c) (argG m c) (argW m c) (bat (rowAt t r)) (pos (rowAt t r)) (colAt t j) := by
  show ∑ k : Fin 1024, s (ix2 r k) * iblk (F := Ideal) m c 2 t (ix2 k j) = _
  refine (Finset.sum_congr rfl fun k _ => congrArg₂ (· * ·) (hs k) (blk2 m c t k j)).trans ?_
  exact cols_sum _ _ _

theorem mB_row (t : Fin cfg0.N) (s : S1024x1024.Idx → EReal) (r : Fin 1024) (hs : ∀ k, s (ix2 r k) = hF (argX m c) (argG m c) (bat (rowAt t r)) (pos (rowAt t r)) k) :
    (fun j : Fin 768 => mBlk s (iblk (F := Ideal) m c 2 t) (ix2 r j))
      = cF (argX m c) (argG m c) (argW m c) (bat (rowAt t r)) (pos (rowAt t r)) (t.val % 10) (Nat.mod_lt _ (by decide)) := funext fun j =>
  (mB m c t s r hs j).trans (congrArg (aF (argX m c) (argG m c) (argW m c) (bat (rowAt t r)) (pos (rowAt t r))) (Fin.ext (by
    show t.val % 10 * 768 + j.val = 768 * (t.val % 10) + j.val
    omega)))

abbrev pT (b : Fin 2) (s : Fin 2048) (j : Fin 7680) : EReal := pF (argX m c) (argG m c) (argW m c) cosT sinT b s j

theorem tB (t : Fin cfg0.N) (h : t.val % 10 = 4 ∨ t.val % 10 = 5) (s : S1024x1024.Idx → EReal) (r : Fin 1024)
    (hs : ∀ k, s (ix2 r k) = hF (argX m c) (argG m c) (bat (rowAt t r)) (pos (rowAt t r)) k) (j : Fin 768) :
    tBlk (mBlk s (iblk (F := Ideal) m c 2 t)) (iblk (F := Ideal) m c 3 t) (iblk (F := Ideal) m c 4 t) (iblk (F := Ideal) m c 5 t) (ix2 r j)
      = pT m c (bat (rowAt t r)) (pos (rowAt t r)) (colAt t j) := by
  refine (congrFun (congr (congr (congrArg₂ tRow (mB_row m c t s r hs) (funext fun l => blk3 m c t r l)) (funext fun l => blk4 m c t r l)) (funext fun l => blk5 m c t r l)) j).trans ?_
  rw [turn_row]
  exact (pF_turn _ _ _ _ _ _ _ (colAt t j) (t.val % 10) (Nat.mod_lt _ (by decide)) h j (by show t.val % 10 * 768 + j.val = _; omega)).symm

theorem e_at (t : Fin cfg0.N) (h : ¬(t.val % 10 = 4 ∨ t.val % 10 = 5)) (b : Fin 2) (s : Fin 2048) (j : Fin 768) :
    aF (argX m c) (argG m c) (argW m c) b s (colAt t j) = pT m c b s (colAt t j) :=
  (pF_else _ _ _ _ _ _ _ _ (by show t.val % 10 * 768 + j.val < 3072 ∨ 4608 ≤ t.val % 10 * 768 + j.val; omega)).symm

theorem p_at (t : Fin cfg0.N) (r : Fin 1024) (j : Fin 768) : pAt (F := Ideal) m c t (ix2 r j) = pT m c (bat (rowAt t r)) (pos (rowAt t r)) (colAt t j) := by
  by_cases hA : t.val % 10 = 0
  · rw [pAt_A m c t hA, oA_7_eq, mB m c t _ r (fun k => nB m c t r k) j]
    exact e_at m c t (by omega) _ _ j
  by_cases hC : t.val % 10 = 4 ∨ t.val % 10 = 5
  · rw [pAt_C m c t hC, oC_7_eq]
    exact tB m c t hC _ r (fun k => s_at m c t r k) j
  refine Eq.trans ?_ (e_at m c t hC _ _ j)
  by_cases hD : t.val % 10 = 6
  · rw [pAt_D m c t hD, oD_7_eq]
    exact mB m c t _ r (fun k => s_at m c t r k) j
  by_cases hE : t.val % 10 = 9
  · rw [pAt_E m c t hE, oE_7_eq]
    exact mB m c t _ r (fun k => s_at m c t r k) j
  · rw [pAt_B m c t (by omega), oB_7_eq]
    exact mB m c t _ r (fun k => s_at m c t r k) j

theorem f_at (t : Fin cfg0.N) (h : 4 ≤ t.val % 10 ∧ t.val % 10 ≤ 6) (r : Fin 1024) (j : Fin 768) :
    fAt (F := Ideal) m c t (ix2 r j) = pT m c (bat (rowAt t r)) (pos (rowAt t r)) (colAt t j) := by
  by_cases hC : t.val % 10 = 4 ∨ t.val % 10 = 5
  · rw [fAt_C m c t hC, oC_8_eq]
    exact tB m c t hC _ r (fun k => s_at m c t r k) j
  · have hD : t.val % 10 = 6 := by omega
    rw [fAt_D m c t hD, oD_8_eq]
    exact (mB m c t _ r (fun k => s_at m c t r k) j).trans (e_at m c t hC _ _ j)

theorem g_at (t : Fin cfg0.N) (h : t.val % 10 = 9) (r : Fin 1024) (k : Fin 128) :
    gAt (F := Ideal) m c t (ix2 r k) = aF (argX m c) (argG m c) (argW m c) (bat (rowAt t r)) (pos (rowAt t r)) ⟨7168 + k.val, by omega⟩ := by
  rw [gAt_E m c t h, oE_9_eq]
  refine (mB m c t _ r (fun k => s_at m c t r k) (gcol k)).trans (congrArg _ (Fin.ext ?_))
  show t.val % 10 * 768 + (256 + k.val) = 7168 + k.val
  omega

/-! ## The results -/

theorem final6 : (dats (F := Ideal) m 0 c).arrAt 6 cfg0.N = hR (argX m c) (argG m c) := by
  refine (dats (F := Ideal) m 0 c).arrAt_eq_of_cover 6 (hR (argX m c) (argG m c)) (fun t ht => ?_) fun i => ⟨ptOf (i 0) 9, (flush0_6 _).2 (show ((i 0).val / 1024 * 10 + 9) % 10 = 9 by omega), ?_⟩
  · have h40 : t.val < 40 := point_lt t
    show (cfg0.win 6).cut (grid0.coords t) ((dats (F := Ideal) m 0 c).after 6 t) = _
    rw [after0_6]
    funext y
    obtain ⟨r, i, rfl⟩ : ∃ (r : Fin 1024) (i : Fin 1024), y = ix2 r i := ⟨y 0, y 1, eq_ix2 y⟩
    have hy : (((cfg0.win 6).blk t).view.emb (ix2 r i) : S4096x1024.Idx) = ix2 (rowAt t r) i :=
      unit_emb (n0 := 4096) (n1 := 1024) (fun a => win0_6.index t a * (![1024, 1024] : Fin 2 → ℕ) a) ![1024, 1024] _ (ix2 r i) (rowAt t r) i
        (by show win0_6.index t 0 * 1024 + r.val = t.val / 10 * 1024 + r.val; rw [(idx6 t).1])
        (by show win0_6.index t 1 * 1024 + i.val = i.val; rw [(idx6 t).2]; omega)
    show hAt (F := Ideal) m c t (ix2 r i) = (hR (argX m c) (argG m c)) (((cfg0.win 6).blk t).view.emb (ix2 r i))
    rw [hy]
    exact h_at m c t r i
  · have h0 : (i 0).val < 4096 := (i 0).isLt
    have h1 : (i 1).val < 1024 := (i 1).isLt
    show i ∈ ((View.whole main_v47_0).slice (win0_6.rect (ptOf (i 0) 9))).set
    rw [View.set_slice_whole]
    refine mem_unit (n0 := 4096) (n1 := 1024) _ _ _ i ?_ ?_
    · show win0_6.index (ptOf (i 0) 9) 0 * 1024 ≤ (i 0).val ∧ (i 0).val < win0_6.index (ptOf (i 0) 9) 0 * 1024 + 1024
      rw [(idx6 _).1]
      show ((i 0).val / 1024 * 10 + 9) / 10 * 1024 ≤ (i 0).val ∧ (i 0).val < ((i 0).val / 1024 * 10 + 9) / 10 * 1024 + 1024
      omega
    · show win0_6.index (ptOf (i 0) 9) 1 * 1024 ≤ (i 1).val ∧ (i 1).val < win0_6.index (ptOf (i 0) 9) 1 * 1024 + 1024
      rw [(idx6 _).2]
      omega

theorem final7 : (dats (F := Ideal) m 0 c).arrAt 7 cfg0.N = pR (argX m c) (argG m c) (argW m c) cosT sinT := by
  refine (dats (F := Ideal) m 0 c).arrAt_eq_of_cover 7 (pR (argX m c) (argG m c) (argW m c) cosT sinT) (fun t ht => ?_) fun i => ⟨ptOf (i 0) (colBlk (i 1)), flush0_7 _, ?_⟩
  · have h40 : t.val < 40 := point_lt t
    show (cfg0.win 7).cut (grid0.coords t) ((dats (F := Ideal) m 0 c).after 7 t) = _
    rw [after0_7]
    funext y
    obtain ⟨r, i, rfl⟩ : ∃ (r : Fin 1024) (i : Fin 768), y = ix2 r i := ⟨y 0, y 1, eq_ix2 y⟩
    have hy : (((cfg0.win 7).blk t).view.emb (ix2 r i) : S4096x7680.Idx) = ix2 (rowAt t r) (colAt t i) :=
      unit_emb (n0 := 4096) (n1 := 7680) (fun a => win0_7.index t a * (![1024, 768] : Fin 2 → ℕ) a) ![1024, 768] _ (ix2 r i) (rowAt t r) (colAt t i)
        (by show win0_7.index t 0 * 1024 + r.val = t.val / 10 * 1024 + r.val; rw [(idx7 t).1])
        (by show win0_7.index t 1 * 768 + i.val = t.val % 10 * 768 + i.val; rw [(idx7 t).2])
    show pAt (F := Ideal) m c t (ix2 r i) = (pR (argX m c) (argG m c) (argW m c) cosT sinT) (((cfg0.win 7).blk t).view.emb (ix2 r i))
    rw [hy]
    exact p_at m c t r i
  · have h0 : (i 0).val < 4096 := (i 0).isLt
    have h1 : (i 1).val < 7680 := (i 1).isLt
    show i ∈ ((View.whole main_v47_1).slice (win0_7.rect (ptOf (i 0) (colBlk (i 1))))).set
    rw [View.set_slice_whole]
    refine mem_unit (n0 := 4096) (n1 := 7680) _ _ _ i ?_ ?_
    · show win0_7.index (ptOf (i 0) (colBlk (i 1))) 0 * 1024 ≤ (i 0).val ∧ (i 0).val < win0_7.index (ptOf (i 0) (colBlk (i 1))) 0 * 1024 + 1024
      rw [(idx7 _).1]
      show ((i 0).val / 1024 * 10 + (i 1).val / 768) / 10 * 1024 ≤ (i 0).val ∧ (i 0).val < ((i 0).val / 1024 * 10 + (i 1).val / 768) / 10 * 1024 + 1024
      omega
    · show win0_7.index (ptOf (i 0) (colBlk (i 1))) 1 * 768 ≤ (i 1).val ∧ (i 1).val < win0_7.index (ptOf (i 0) (colBlk (i 1))) 1 * 768 + 768
      rw [(idx7 _).2]
      show ((i 0).val / 1024 * 10 + (i 1).val / 768) % 10 * 768 ≤ (i 1).val ∧ (i 1).val < ((i 0).val / 1024 * 10 + (i 1).val / 768) % 10 * 768 + 768
      omega

/-- The column block after which a column of the second result is written back. -/
def fpt (j : Fin 2304) : Fin 10 := if j.val < 768 then 4 else if j.val < 1536 then 5 else 9
theorem fpt_mem (j : Fin 2304) : ((fpt j).val = 4 ∨ (fpt j).val = 5 ∨ (fpt j).val = 9) ∧ min ((fpt j).val - 4) 2 * 768 ≤ j.val ∧ j.val < min ((fpt j).val - 4) 2 * 768 + 768 := by
  have hj := j.isLt
  unfold fpt
  split_ifs
  · exact ⟨Or.inl rfl, by show min (4 - 4) 2 * 768 ≤ j.val; omega, by show j.val < min (4 - 4) 2 * 768 + 768; omega⟩
  · exact ⟨Or.inr (Or.inl rfl), by show min (5 - 4) 2 * 768 ≤ j.val; omega, by show j.val < min (5 - 4) 2 * 768 + 768; omega⟩
  · exact ⟨Or.inr (Or.inr rfl), by show min (9 - 4) 2 * 768 ≤ j.val; omega, by show j.val < min (9 - 4) 2 * 768 + 768; omega⟩

theorem fpt_cover (l : Fin 4096) (j : Fin 2304) : min ((ptOf l (fpt j)).val % 10 - 4) 2 * 768 ≤ j.val ∧ j.val < min ((ptOf l (fpt j)).val % 10 - 4) 2 * 768 + 768 := by
  rw [ptOf_mod]
  exact (fpt_mem j).2

theorem colPt_mod (t : Fin cfg0.N) (h : t.val % 10 = 4 ∨ t.val % 10 = 5 ∨ t.val % 10 = 9) :
    (colPt t).val / 10 = t.val / 10 ∧ 4 ≤ (colPt t).val % 10 ∧ (colPt t).val % 10 ≤ 6 ∧ (colPt t).val % 10 - 4 = min (t.val % 10 - 4) 2 := by
  unfold colPt; dsimp only; omega
theorem rowAt_colPt (t : Fin cfg0.N) (h : t.val % 10 = 4 ∨ t.val % 10 = 5 ∨ t.val % 10 = 9) (r : Fin 1024) : rowAt (colPt t) r = rowAt t r := Fin.ext (by
  show (colPt t).val / 10 * 1024 + r.val = t.val / 10 * 1024 + r.val
  rw [(colPt_mod t h).1])

theorem final8 : (dats (F := Ideal) m 0 c).arrAt 8 cfg0.N = fR (argX m c) (argG m c) (argW m c) cosT sinT := by
  refine (dats (F := Ideal) m 0 c).arrAt_eq_of_cover 8 (fR (argX m c) (argG m c) (argW m c) cosT sinT) (fun t ht => ?_) fun i => ⟨ptOf (i 0) (fpt (i 1)), (flush8 _).2 (by have h := (fpt_mem (i 1)).1; have hn := (fpt (i 1)).isLt; show ((i 0).val / 1024 * 10 + (fpt (i 1)).val) % 10 = 4 ∨ ((i 0).val / 1024 * 10 + (fpt (i 1)).val) % 10 = 5 ∨ ((i 0).val / 1024 * 10 + (fpt (i 1)).val) % 10 = 9; omega), ?_⟩
  · have h40 : t.val < 40 := point_lt t
    show (cfg0.win 8).cut (grid0.coords t) ((dats (F := Ideal) m 0 c).after 8 t) = _
    rw [after0_8]
    funext y
    obtain ⟨r, i, rfl⟩ : ∃ (r : Fin 1024) (i : Fin 768), y = ix2 r i := ⟨y 0, y 1, eq_ix2 y⟩
    have hf := (flush8 t).1 ht
    have hy : (((cfg0.win 8).blk t).view.emb (ix2 r i) : S4096x2304.Idx) = ix2 (rowAt t r) (⟨min (t.val % 10 - 4) 2 * 768 + i.val, by omega⟩ : Fin 2304) :=
      unit_emb (n0 := 4096) (n1 := 2304) (fun a => win0_8.index t a * (![1024, 768] : Fin 2 → ℕ) a) ![1024, 768] _ (ix2 r i) (rowAt t r) (⟨min (t.val % 10 - 4) 2 * 768 + i.val, by omega⟩ : Fin 2304)
        (by show win0_8.index t 0 * 1024 + r.val = t.val / 10 * 1024 + r.val; rw [(idx8 t).1])
        (by show win0_8.index t 1 * 768 + i.val = min (t.val % 10 - 4) 2 * 768 + i.val; rw [(idx8 t).2])
    show fAt (F := Ideal) m c (colPt t) (ix2 r i) = (fR (argX m c) (argG m c) (argW m c) cosT sinT) (((cfg0.win 8).blk t).view.emb (ix2 r i))
    rw [hy]
    have hm := colPt_mod t hf
    refine (f_at m c (colPt t) ⟨hm.2.1, hm.2.2.1⟩ r i).trans ?_
    rw [rowAt_colPt t hf r]
    refine congrArg (pT m c (bat (rowAt t r)) (pos (rowAt t r))) (Fin.ext ?_)
    show (colPt t).val % 10 * 768 + i.val = 3072 + (min (t.val % 10 - 4) 2 * 768 + i.val)
    omega
  · have h0 : (i 0).val < 4096 := (i 0).isLt
    have h1 : (i 1).val < 2304 := (i 1).isLt
    have hn9 := (fpt (i 1)).isLt
    show i ∈ ((View.whole main_v47_2).slice (win0_8.rect (ptOf (i 0) (fpt (i 1))))).set
    rw [View.set_slice_whole]
    refine mem_unit (n0 := 4096) (n1 := 2304) _ _ _ i ?_ ?_
    · show win0_8.index (ptOf (i 0) (fpt (i 1))) 0 * 1024 ≤ (i 0).val ∧ (i 0).val < win0_8.index (ptOf (i 0) (fpt (i 1))) 0 * 1024 + 1024
      rw [(idx8 _).1]
      show ((i 0).val / 1024 * 10 + (fpt (i 1)).val) / 10 * 1024 ≤ (i 0).val ∧ (i 0).val < ((i 0).val / 1024 * 10 + (fpt (i 1)).val) / 10 * 1024 + 1024
      omega
    · show win0_8.index (ptOf (i 0) (fpt (i 1))) 1 * 768 ≤ (i 1).val ∧ (i 1).val < win0_8.index (ptOf (i 0) (fpt (i 1))) 1 * 768 + 768
      rw [(idx8 _).2]
      exact fpt_cover (i 0) (i 1)

theorem final9 : (dats (F := Ideal) m 0 c).arrAt 9 cfg0.N = gR (argX m c) (argG m c) (argW m c) := by
  refine (dats (F := Ideal) m 0 c).arrAt_eq_of_cover 9 (gR (argX m c) (argG m c) (argW m c)) (fun t ht => ?_) fun i => ⟨ptOf (i 0) 9, (flush0_9 _).2 (show ((i 0).val / 1024 * 10 + 9) % 10 = 9 by omega), ?_⟩
  · have h40 : t.val < 40 := point_lt t
    show (cfg0.win 9).cut (grid0.coords t) ((dats (F := Ideal) m 0 c).after 9 t) = _
    rw [after0_9]
    funext y
    obtain ⟨r, i, rfl⟩ : ∃ (r : Fin 1024) (i : Fin 128), y = ix2 r i := ⟨y 0, y 1, eq_ix2 y⟩
    have hy : (((cfg0.win 9).blk t).view.emb (ix2 r i) : S4096x128.Idx) = ix2 (rowAt t r) i :=
      unit_emb (n0 := 4096) (n1 := 128) (fun a => win0_9.index t a * (![1024, 128] : Fin 2 → ℕ) a) ![1024, 128] _ (ix2 r i) (rowAt t r) i
        (by show win0_9.index t 0 * 1024 + r.val = t.val / 10 * 1024 + r.val; rw [(idx9 t).1])
        (by show win0_9.index t 1 * 128 + i.val = i.val; rw [(idx9 t).2]; omega)
    show gAt (F := Ideal) m c t (ix2 r i) = (gR (argX m c) (argG m c) (argW m c)) (((cfg0.win 9).blk t).view.emb (ix2 r i))
    rw [hy]
    exact g_at m c t ((flush0_9 t).1 ht) r i
  · have h0 : (i 0).val < 4096 := (i 0).isLt
    have h1 : (i 1).val < 128 := (i 1).isLt
    show i ∈ ((View.whole main_v47_3).slice (win0_9.rect (ptOf (i 0) 9))).set
    rw [View.set_slice_whole]
    refine mem_unit (n0 := 4096) (n1 := 128) _ _ _ i ?_ ?_
    · show win0_9.index (ptOf (i 0) 9) 0 * 1024 ≤ (i 0).val ∧ (i 0).val < win0_9.index (ptOf (i 0) 9) 0 * 1024 + 1024
      rw [(idx9 _).1]
      show ((i 0).val / 1024 * 10 + 9) / 10 * 1024 ≤ (i 0).val ∧ (i 0).val < ((i 0).val / 1024 * 10 + 9) / 10 * 1024 + 1024
      omega
    · show win0_9.index (ptOf (i 0) 9) 1 * 128 ≤ (i 1).val ∧ (i 1).val < win0_9.index (ptOf (i 0) 9) 1 * 128 + 128
      rw [(idx9 _).2]
      omega

/-! ## The run -/

theorem run (ρ : Dev nD → PrngReg) : θ_run defs (onTc (τ := τ) (main (F := Ideal))) ⟨m, fun _ => 0, ρ⟩ fun r => ∀ c : Dev nD,
      r.2.mem ((c : Thread nD τ).loc main_v47_0) = hR (argX m c) (argG m c)
      ∧ r.2.mem ((c : Thread nD τ).loc main_v47_1) = pR (argX m c) (argG m c) (argW m c) cosT sinT
      ∧ r.2.mem ((c : Thread nD τ).loc main_v47_2) = fR (argX m c) (argG m c) (argW m c) cosT sinT
      ∧ r.2.mem ((c : Thread nD τ).loc main_v47_3) = gR (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 6).trans (final6 m c), ((h c).1 7).trans (final7 m c), ((h c).1 8).trans (final8 m c), ((h c).1 9).trans (final9 m c),
      ((h c).2 main_arg0 (Pipeline.mem_restRefs_of main_arg0 (by decide) (by decide))).trans (V_main_arg0 m c),
      ((h c).1 1).trans (((dats (F := Ideal) m 0 c).arrAt_in 1 rfl _).trans ((A_eq m c 1).trans (V_main_arg1 m c))),
      ((h c).2 main_arg2 (Pipeline.mem_restRefs_of main_arg2 (by decide) (by decide))).trans (V_main_arg2 m c)⟩)
    (run_main (F := Ideal) m ρ)

end Cert.InProjIdeal.Val
end
-- ==== Proof.InProjRef.lean ====
/-
  The input projection's reference, one operation at a time, as functions of the arguments.
-/
module
public import proofs.«01_k».proof.Proof.InProjRun
public import proofs.«01_k».proof.Proof.InRef
public import proofs.«01_k».proof.Proof.Gen.InProjRefIdeal.Read
public import Idealize.ShloMosaic.Lib.IdealHost
public import Idealize.ShloMosaic.Lib.Pointwise
@[expose] public section
set_option maxRecDepth 16384
noncomputable section
namespace Cert.InProjRefIdeal.Val
open Idealize.ShloMosaic hiding ix1 ix2 ix3 ix4 eq_ix1 eq_ix2 eq_ix3 eq_ix4
open Idealize.ShloMosaic.ValueIdx Cert.InProjRefIdeal Cert.InProjRefIdeal.Gen Cert.InProjRefIdeal.Read Cert.Cols
open Cert.InGradIdeal.Val (rms nrm msq cN cE rms_def)
open Cert.InGradRefIdeal.Val (at1 at2 at3 zero_bits)
open Cert.InProjIdeal.Val (nRow hF prF aF cF pF hR pR fR gR rotL rotL_lo rotL_hi rotL_far pF_turn pF_else cosT sinT)
open scoped BigOperators

theorem at4 {n0 n1 n2 n3 : ℕ} (i : (⟨4, ![n0, n1, n2, n3]⟩ : Shape).Idx) (a0 : Fin n0) (a1 : Fin n1) (a2 : Fin n2) (a3 : Fin n3)
    (h0 : (i 0).val = a0.val) (h1 : (i 1).val = a1.val) (h2 : (i 2).val = a2.val) (h3 : (i 3).val = a3.val) : i = ix4 a0 a1 a2 a3 := by
  funext a; apply Fin.ext
  match a with
  | ⟨0, _⟩ => exact h0
  | ⟨1, _⟩ => exact h1
  | ⟨2, _⟩ => exact h2
  | ⟨3, _⟩ => exact h3

/-! ## The tables -/

theorem cos_eq : val_main_v41 (F := Ideal) = cosT := rfl
theorem sin_eq : val_main_v43 (F := Ideal) = sinT := rfl
theorem cos_eq' : val_main_v79 (F := Ideal) = cosT := rfl
theorem sin_eq' : val_main_v81 (F := Ideal) = sinT := rfl

section Ref
variable (x0 : S2x2048x1024.Idx → EReal) (x1 : S1x1024.Idx → EReal) (x2 : S1x1024x7180.Idx → EReal)
variable (b : Fin 2) (s : Fin 2048)

/-! ## The scaled rows and their products -/

/-- A row. -/
abbrev row : Fin 1024 → EReal := fun k => x0 (ix3 b s k)
/-- The gains. -/
abbrev gain : Fin 1024 → EReal := fun k => x1 (ix2 (0 : Fin 1) k)

theorem msq_at : val_main_v7 (F := Ideal) x0 (ix3 b s (0 : Fin 1)) = msq (row x0 b s) := by
  rw [val_main_v7_apply, val_main_v5_apply, val_main_v3_apply, val_main_v4_apply, val_main_v6_apply, val_main_cst_0_apply, val_main_cst_1_apply,
    at2 (idx_main_v3 (ix3 b s (0 : Fin 1))) b s rfl rfl, val_main_v2_apply, val_main_cst_apply, zero_bits, zero_add]
  have e : ∀ k : Fin 1024, val_main_v1 (F := Ideal) x0 (idx_main_v2 (ix2 b s) k) = x0 (ix3 b s k) * x0 (ix3 b s k) := fun k => by
    rw [val_main_v1_apply, at3 (idx_main_v2 (ix2 b s) k) b s k rfl rfl rfl]; rfl
  rw [Finset.sum_congr rfl fun k _ => e k]
  rfl

theorem rms_at : val_main_v8 (F := Ideal) x0 (ix3 b s (0 : Fin 1)) = rms (row x0 b s) := by
  rw [val_main_v8_apply, msq_at, rms_def]
  rfl

theorem nrm_at (i : Fin 1024) : val_main_v10 (F := Ideal) x0 (ix3 b s i) = nrm (row x0 b s) i := by
  rw [val_main_v10_apply, val_main_v9_apply, at3 (idx_main_v9 (ix3 b s i)) b s (0 : Fin 1) rfl rfl rfl, rms_at]
  rfl

theorem gain_at (i : Fin 1024) : val_main_v12 (F := Ideal) x1 (ix3 b s i) = gain x1 i := by
  rw [val_main_v12_apply, val_main_v11_apply, val_main_v0_apply]
  refine congrArg x1 (at2 _ _ _ rfl ?_)
  show i.val % 1024 = i.val
  omega

theorem h_at (i : Fin 1024) : val_main_v13 (F := Ideal) x0 x1 (ix3 b s i) = hF x0 x1 b s i := by
  rw [val_main_v13_apply, nrm_at, gain_at]
  rfl

theorem pr_at (k : Fin 7180) : val_main_v15 (F := Ideal) x0 x1 x2 (ix3 b s k) = prF x0 x1 x2 b s k := by
  rw [val_main_v15_apply]
  refine Finset.sum_congr rfl fun i _ => ?_
  rw [at3 (lidx_main_v15 (ix3 b s k) i) b s i rfl rfl rfl, h_at, val_main_v14_apply]
  refine congrArg (hF x0 x1 b s i * ·) (congrArg x2 (at3 _ (0 : Fin 1) i k rfl ?_ ?_))
  · show (i.val * 7180 + k.val) / 7180 % 1024 = i.val
    omega
  · show (i.val * 7180 + k.val) % 7180 = k.val
    omega

/-! ## The columns' blocks -/

theorem c16_at (k : Fin 3072) : val_main_v16 (F := Ideal) x0 x1 x2 (ix3 b s k) = aF x0 x1 x2 b s ⟨0 + k.val, by omega⟩ := by
  rw [val_main_v16_apply, at3 (idx_main_v16 (ix3 b s k)) b s (⟨0 + k.val, by omega⟩ : Fin 7180) rfl rfl ((Nat.zero_add _).symm), pr_at]
  exact (cols_eq _ _ _ (by dsimp only; omega)).symm

theorem c17_at (k : Fin 12) : val_main_v17 (F := Ideal) x0 x1 x2 (ix3 b s k) = aF x0 x1 x2 b s ⟨7168 + k.val, by omega⟩ := by
  rw [val_main_v17_apply, at3 (idx_main_v17 (ix3 b s k)) b s (⟨3072 + k.val, by omega⟩ : Fin 7180) rfl rfl (rfl), pr_at]
  exact (cols_eq _ _ _ (by dsimp only; omega)).symm

theorem c18_at (k : Fin 4096) : val_main_v18 (F := Ideal) x0 x1 x2 (ix3 b s k) = aF x0 x1 x2 b s ⟨3072 + k.val, by omega⟩ := by
  rw [val_main_v18_apply, at3 (idx_main_v18 (ix3 b s k)) b s (⟨3084 + k.val, by omega⟩ : Fin 7180) rfl rfl (rfl), pr_at]
  exact (cols_eq _ _ _ (by dsimp only; omega)).symm

theorem c19_at (k : Fin 768) : val_main_v19 (F := Ideal) x0 x1 x2 (ix3 b s k) = aF x0 x1 x2 b s ⟨3072 + k.val, by omega⟩ := by
  rw [val_main_v19_apply, at3 (idx_main_v19 (ix3 b s k)) b s (⟨0 + k.val, by omega⟩ : Fin 4096) rfl rfl ((Nat.zero_add _).symm), c18_at]
  exact congrArg (aF x0 x1 x2 b s) (Fin.ext (by dsimp only; omega))

theorem c20_at (k : Fin 768) : val_main_v20 (F := Ideal) x0 x1 x2 (ix3 b s k) = aF x0 x1 x2 b s ⟨3840 + k.val, by omega⟩ := by
  rw [val_main_v20_apply, at3 (idx_main_v20 (ix3 b s k)) b s (⟨768 + k.val, by omega⟩ : Fin 4096) rfl rfl (rfl), c18_at]
  exact congrArg (aF x0 x1 x2 b s) (Fin.ext (by dsimp only; omega))

theorem c21_at (k : Fin 768) : val_main_v21 (F := Ideal) x0 x1 x2 (ix3 b s k) = aF x0 x1 x2 b s ⟨4608 + k.val, by omega⟩ := by
  rw [val_main_v21_apply, at3 (idx_main_v21 (ix3 b s k)) b s (⟨1536 + k.val, by omega⟩ : Fin 4096) rfl rfl (rfl), c18_at]
  exact congrArg (aF x0 x1 x2 b s) (Fin.ext (by dsimp only; omega))

theorem c22_at (k : Fin 1792) : val_main_v22 (F := Ideal) x0 x1 x2 (ix3 b s k) = aF x0 x1 x2 b s ⟨5376 + k.val, by omega⟩ := by
  rw [val_main_v22_apply, at3 (idx_main_v22 (ix3 b s k)) b s (⟨2304 + k.val, by omega⟩ : Fin 4096) rfl rfl (rfl), c18_at]
  exact congrArg (aF x0 x1 x2 b s) (Fin.ext (by dsimp only; omega))

/-! ## The first turned block -/

theorem q24_at (h : Fin 12) (e : Fin 64) (j : Fin 768) (hj : j.val = 64 * h.val + e.val) :
    val_main_v24 (F := Ideal) x0 x1 x2 (ix4 b s h e) = cF x0 x1 x2 b s 4 (by decide) j := by
  rw [val_main_v24_apply, at3 (idx_main_v24 (ix4 b s h e)) b s j ?_ ?_ ?_, c19_at]
  · exact congrArg (aF x0 x1 x2 b s) (Fin.ext (by show 3072 + j.val = 768 * 4 + j.val; omega))
  · show (((b.val * 2048 + s.val) * 12 + h.val) * 64 + e.val) / 1572864 = b.val
    omega
  · show (((b.val * 2048 + s.val) * 12 + h.val) * 64 + e.val) / 768 % 2048 = s.val
    omega
  · show (((b.val * 2048 + s.val) * 12 + h.val) * 64 + e.val) % 768 = j.val
    omega
theorem q46_at (h : Fin 12) (d : Fin 8) (j : Fin 768) (hj : j.val = 64 * h.val + d.val) :
    val_main_v46 (F := Ideal) x0 x1 x2 (ix4 b s h d) = cF x0 x1 x2 b s 4 (by decide) j := by
  rw [val_main_v46_apply, val_main_v45_apply, at4 (idx_main_v45 (idx_main_v46 (ix4 b s h d))) b s h (⟨d.val, by omega⟩ : Fin 64) rfl rfl rfl rfl]
  exact q24_at x0 x1 x2 b s h _ j hj
theorem q47_at (h : Fin 12) (d : Fin 8) (j : Fin 768) (hj : j.val = 64 * h.val + (8 + d.val)) :
    val_main_v47 (F := Ideal) x0 x1 x2 (ix4 b s h d) = cF x0 x1 x2 b s 4 (by decide) j := by
  rw [val_main_v47_apply, val_main_v45_apply, at4 (idx_main_v45 (idx_main_v47 (ix4 b s h d))) b s h (⟨8 + d.val, by omega⟩ : Fin 64) rfl rfl rfl rfl]
  exact q24_at x0 x1 x2 b s h _ j hj

theorem q48_at (h : Fin 12) (d : Fin 8) : val_main_v48 (F := Ideal) (ix4 b s h d) = cosT (ix2 s d) := by
  rw [val_main_v48_apply, val_main_v42_apply, cos_eq]
  exact congrArg cosT (at2 _ s d rfl rfl)

theorem q53_at (h : Fin 12) (d : Fin 8) : val_main_v53 (F := Ideal) (ix4 b s h d) = cosT (ix2 s d) := by
  rw [val_main_v53_apply, val_main_v42_apply, cos_eq]
  exact congrArg cosT (at2 _ s d rfl rfl)

theorem q50_at (h : Fin 12) (d : Fin 8) : val_main_v50 (F := Ideal) (ix4 b s h d) = sinT (ix2 s d) := by
  rw [val_main_v50_apply, val_main_v44_apply, sin_eq]
  exact congrArg sinT (at2 _ s d rfl rfl)

theorem q55_at (h : Fin 12) (d : Fin 8) : val_main_v55 (F := Ideal) (ix4 b s h d) = sinT (ix2 s d) := by
  rw [val_main_v55_apply, val_main_v44_apply, sin_eq]
  exact congrArg sinT (at2 _ s d rfl rfl)

theorem q52_at (h : Fin 12) (d : Fin 8) (j j' : Fin 768) (hj : j.val = 64 * h.val + d.val) (hj' : j'.val = j.val + 8) :
    val_main_v52 (F := Ideal) x0 x1 x2 (ix4 b s h d) = cF x0 x1 x2 b s 4 (by decide) j * cosT (ix2 s d) - cF x0 x1 x2 b s 4 (by decide) j' * sinT (ix2 s d) := by
  rw [val_main_v52_apply, val_main_v49_apply, val_main_v51_apply, q46_at x0 x1 x2 b s h d j hj, q47_at x0 x1 x2 b s h d j' (by omega), q48_at, q50_at]
  rfl
theorem q57_at (h : Fin 12) (d : Fin 8) (j j' : Fin 768) (hj : j.val = 64 * h.val + (8 + d.val)) (hj' : j'.val + 8 = j.val) :
    val_main_v57 (F := Ideal) x0 x1 x2 (ix4 b s h d) = cF x0 x1 x2 b s 4 (by decide) j * cosT (ix2 s d) + cF x0 x1 x2 b s 4 (by decide) j' * sinT (ix2 s d) := by
  rw [val_main_v57_apply, val_main_v54_apply, val_main_v56_apply, q47_at x0 x1 x2 b s h d j hj, q46_at x0 x1 x2 b s h d j' (by omega), q53_at, q55_at]
  rfl
theorem q59_at (h : Fin 12) (d : Fin 48) (j : Fin 768) (hj : j.val = 64 * h.val + (16 + d.val)) :
    val_main_v59 (F := Ideal) x0 x1 x2 (ix4 b s h d) = cF x0 x1 x2 b s 4 (by decide) j := by
  rw [val_main_v59_apply, at4 (idx_main_v59 (ix4 b s h d)) b s h (⟨16 + d.val, by omega⟩ : Fin 64) rfl rfl rfl rfl]
  exact q24_at x0 x1 x2 b s h _ j hj

theorem q58_lo (n : Fin 12) (e : Fin 16) (d : Fin 8) (h : e.val = 0 + d.val) :
    val_main_v58 (F := Ideal) x0 x1 x2 (ix4 b s n e) = val_main_v52 (F := Ideal) x0 x1 x2 (ix4 b s n d) := by
  unfold val_main_v58
  refine concatenate_apply_piece (α := EReal) (t := S2x2048x12x16) 3 [⟨S2x2048x12x8, val_main_v52 (F := Ideal) x0 x1 x2⟩, ⟨S2x2048x12x8, val_main_v57 (F := Ideal) x0 x1 x2⟩] _ (ix4 b s n e) 0 (show 0 < 2 by decide) S2x2048x12x8 (val_main_v52 (F := Ideal) x0 x1 x2) rfl rfl 0 rfl (ix4 b s n d) ?_ h.symm
  intro c hc
  match c, hc with
  | ⟨0, _⟩, _ => rfl
  | ⟨1, _⟩, _ => rfl
  | ⟨2, _⟩, _ => rfl
  | ⟨3, _⟩, hc => exact absurd rfl hc

theorem q58_hi (n : Fin 12) (e : Fin 16) (d : Fin 8) (h : e.val = 8 + d.val) :
    val_main_v58 (F := Ideal) x0 x1 x2 (ix4 b s n e) = val_main_v57 (F := Ideal) x0 x1 x2 (ix4 b s n d) := by
  unfold val_main_v58
  refine concatenate_apply_piece (α := EReal) (t := S2x2048x12x16) 3 [⟨S2x2048x12x8, val_main_v52 (F := Ideal) x0 x1 x2⟩, ⟨S2x2048x12x8, val_main_v57 (F := Ideal) x0 x1 x2⟩] _ (ix4 b s n e) 1 (show 1 < 2 by decide) S2x2048x12x8 (val_main_v57 (F := Ideal) x0 x1 x2) rfl rfl 8 rfl (ix4 b s n d) ?_ h.symm
  intro c hc
  match c, hc with
  | ⟨0, _⟩, _ => rfl
  | ⟨1, _⟩, _ => rfl
  | ⟨2, _⟩, _ => rfl
  | ⟨3, _⟩, hc => exact absurd rfl hc

theorem q60_lo (n : Fin 12) (e : Fin 64) (d : Fin 16) (h : e.val = 0 + d.val) :
    val_main_v60 (F := Ideal) x0 x1 x2 (ix4 b s n e) = val_main_v58 (F := Ideal) x0 x1 x2 (ix4 b s n d) := by
  unfold val_main_v60
  refine concatenate_apply_piece (α := EReal) (t := S2x2048x12x64) 3 [⟨S2x2048x12x16, val_main_v58 (F := Ideal) x0 x1 x2⟩, ⟨S2x2048x12x48, val_main_v59 (F := Ideal) x0 x1 x2⟩] _ (ix4 b s n e) 0 (show 0 < 2 by decide) S2x2048x12x16 (val_main_v58 (F := Ideal) x0 x1 x2) rfl rfl 0 rfl (ix4 b s n d) ?_ h.symm
  intro c hc
  match c, hc with
  | ⟨0, _⟩, _ => rfl
  | ⟨1, _⟩, _ => rfl
  | ⟨2, _⟩, _ => rfl
  | ⟨3, _⟩, hc => exact absurd rfl hc

theorem q60_hi (n : Fin 12) (e : Fin 64) (d : Fin 48) (h : e.val = 16 + d.val) :
    val_main_v60 (F := Ideal) x0 x1 x2 (ix4 b s n e) = val_main_v59 (F := Ideal) x0 x1 x2 (ix4 b s n d) := by
  unfold val_main_v60
  refine concatenate_apply_piece (α := EReal) (t := S2x2048x12x64) 3 [⟨S2x2048x12x16, val_main_v58 (F := Ideal) x0 x1 x2⟩, ⟨S2x2048x12x48, val_main_v59 (F := Ideal) x0 x1 x2⟩] _ (ix4 b s n e) 1 (show 1 < 2 by decide) S2x2048x12x48 (val_main_v59 (F := Ideal) x0 x1 x2) rfl rfl 16 rfl (ix4 b s n d) ?_ h.symm
  intro c hc
  match c, hc with
  | ⟨0, _⟩, _ => rfl
  | ⟨1, _⟩, _ => rfl
  | ⟨2, _⟩, _ => rfl
  | ⟨3, _⟩, hc => exact absurd rfl hc

theorem q61_at (j : Fin 768) :
    val_main_v61 (F := Ideal) x0 x1 x2 (ix3 b s j) = rotL (cF x0 x1 x2 b s 4 (by decide)) (fun d => cosT (ix2 s d)) (fun d => sinT (ix2 s d)) j := by
  rw [val_main_v61_apply, at4 (idx_main_v61 (ix3 b s j)) b s (⟨j.val / 64, by omega⟩ : Fin 12) (⟨j.val % 64, by omega⟩ : Fin 64) ?_ ?_ ?_ ?_]
  · by_cases h : j.val % 64 < 8
    · rw [q60_lo x0 x1 x2 b s _ _ (⟨j.val % 64, by omega⟩ : Fin 16) (Nat.zero_add _).symm, q58_lo x0 x1 x2 b s _ _ (⟨j.val % 64, h⟩ : Fin 8) (Nat.zero_add _).symm,
        q52_at x0 x1 x2 b s _ _ j (⟨j.val + 8, by omega⟩ : Fin 768) (by dsimp only; omega) rfl]
      exact (rotL_lo (cF x0 x1 x2 b s 4 (by decide)) (fun d => cosT (ix2 s d)) (fun d => sinT (ix2 s d)) j (⟨j.val % 64, h⟩ : Fin 8) rfl (⟨j.val + 8, by omega⟩ : Fin 768) rfl).symm
    · by_cases h' : j.val % 64 < 16
      · have hd : j.val % 64 = 8 + (j.val % 64 - 8) := by omega
        rw [q60_lo x0 x1 x2 b s _ _ (⟨j.val % 64, by omega⟩ : Fin 16) (Nat.zero_add _).symm, q58_hi x0 x1 x2 b s _ _ (⟨j.val % 64 - 8, by omega⟩ : Fin 8) hd,
          q57_at x0 x1 x2 b s _ _ j (⟨j.val - 8, by omega⟩ : Fin 768) (by dsimp only; omega) (by dsimp only; omega)]
        exact (rotL_hi (cF x0 x1 x2 b s 4 (by decide)) (fun d => cosT (ix2 s d)) (fun d => sinT (ix2 s d)) j (⟨j.val % 64 - 8, by omega⟩ : Fin 8) (by dsimp only; omega) (⟨j.val - 8, by omega⟩ : Fin 768) (by dsimp only; omega)).symm
      · have hd : j.val % 64 = 16 + (j.val % 64 - 16) := by omega
        rw [q60_hi x0 x1 x2 b s _ _ (⟨j.val % 64 - 16, by omega⟩ : Fin 48) hd, q59_at x0 x1 x2 b s _ _ j (by dsimp only; omega)]
        exact (rotL_far _ _ _ j (by omega)).symm
  · show ((b.val * 2048 + s.val) * 768 + j.val) / 1572864 = b.val
    omega
  · show ((b.val * 2048 + s.val) * 768 + j.val) / 768 % 2048 = s.val
    omega
  · show ((b.val * 2048 + s.val) * 768 + j.val) / 64 % 12 = j.val / 64
    omega
  · show ((b.val * 2048 + s.val) * 768 + j.val) % 64 = j.val % 64
    omega

/-! ## The second turned block -/

theorem q62_at (h : Fin 12) (e : Fin 64) (j : Fin 768) (hj : j.val = 64 * h.val + e.val) :
    val_main_v62 (F := Ideal) x0 x1 x2 (ix4 b s h e) = cF x0 x1 x2 b s 5 (by decide) j := by
  rw [val_main_v62_apply, at3 (idx_main_v62 (ix4 b s h e)) b s j ?_ ?_ ?_, c20_at]
  · exact congrArg (aF x0 x1 x2 b s) (Fin.ext (by show 3840 + j.val = 768 * 5 + j.val; omega))
  · show (((b.val * 2048 + s.val) * 12 + h.val) * 64 + e.val) / 1572864 = b.val
    omega
  · show (((b.val * 2048 + s.val) * 12 + h.val) * 64 + e.val) / 768 % 2048 = s.val
    omega
  · show (((b.val * 2048 + s.val) * 12 + h.val) * 64 + e.val) % 768 = j.val
    omega
theorem q84_at (h : Fin 12) (d : Fin 8) (j : Fin 768) (hj : j.val = 64 * h.val + d.val) :
    val_main_v84 (F := Ideal) x0 x1 x2 (ix4 b s h d) = cF x0 x1 x2 b s 5 (by decide) j := by
  rw [val_main_v84_apply, val_main_v83_apply, at4 (idx_main_v83 (idx_main_v84 (ix4 b s h d))) b s h (⟨d.val, by omega⟩ : Fin 64) rfl rfl rfl rfl]
  exact q62_at x0 x1 x2 b s h _ j hj
theorem q85_at (h : Fin 12) (d : Fin 8) (j : Fin 768) (hj : j.val = 64 * h.val + (8 + d.val)) :
    val_main_v85 (F := Ideal) x0 x1 x2 (ix4 b s h d) = cF x0 x1 x2 b s 5 (by decide) j := by
  rw [val_main_v85_apply, val_main_v83_apply, at4 (idx_main_v83 (idx_main_v85 (ix4 b s h d))) b s h (⟨8 + d.val, by omega⟩ : Fin 64) rfl rfl rfl rfl]
  exact q62_at x0 x1 x2 b s h _ j hj

theorem q86_at (h : Fin 12) (d : Fin 8) : val_main_v86 (F := Ideal) (ix4 b s h d) = cosT (ix2 s d) := by
  rw [val_main_v86_apply, val_main_v80_apply, cos_eq']
  exact congrArg cosT (at2 _ s d rfl rfl)

theorem q91_at (h : Fin 12) (d : Fin 8) : val_main_v91 (F := Ideal) (ix4 b s h d) = cosT (ix2 s d) := by
  rw [val_main_v91_apply, val_main_v80_apply, cos_eq']
  exact congrArg cosT (at2 _ s d rfl rfl)

theorem q88_at (h : Fin 12) (d : Fin 8) : val_main_v88 (F := Ideal) (ix4 b s h d) = sinT (ix2 s d) := by
  rw [val_main_v88_apply, val_main_v82_apply, sin_eq']
  exact congrArg sinT (at2 _ s d rfl rfl)

theorem q93_at (h : Fin 12) (d : Fin 8) : val_main_v93 (F := Ideal) (ix4 b s h d) = sinT (ix2 s d) := by
  rw [val_main_v93_apply, val_main_v82_apply, sin_eq']
  exact congrArg sinT (at2 _ s d rfl rfl)

theorem q90_at (h : Fin 12) (d : Fin 8) (j j' : Fin 768) (hj : j.val = 64 * h.val + d.val) (hj' : j'.val = j.val + 8) :
    val_main_v90 (F := Ideal) x0 x1 x2 (ix4 b s h d) = cF x0 x1 x2 b s 5 (by decide) j * cosT (ix2 s d) - cF x0 x1 x2 b s 5 (by decide) j' * sinT (ix2 s d) := by
  rw [val_main_v90_apply, val_main_v87_apply, val_main_v89_apply, q84_at x0 x1 x2 b s h d j hj, q85_at x0 x1 x2 b s h d j' (by omega), q86_at, q88_at]
  rfl
theorem q95_at (h : Fin 12) (d : Fin 8) (j j' : Fin 768) (hj : j.val = 64 * h.val + (8 + d.val)) (hj' : j'.val + 8 = j.val) :
    val_main_v95 (F := Ideal) x0 x1 x2 (ix4 b s h d) = cF x0 x1 x2 b s 5 (by decide) j * cosT (ix2 s d) + cF x0 x1 x2 b s 5 (by decide) j' * sinT (ix2 s d) := by
  rw [val_main_v95_apply, val_main_v92_apply, val_main_v94_apply, q85_at x0 x1 x2 b s h d j hj, q84_at x0 x1 x2 b s h d j' (by omega), q91_at, q93_at]
  rfl
theorem q97_at (h : Fin 12) (d : Fin 48) (j : Fin 768) (hj : j.val = 64 * h.val + (16 + d.val)) :
    val_main_v97 (F := Ideal) x0 x1 x2 (ix4 b s h d) = cF x0 x1 x2 b s 5 (by decide) j := by
  rw [val_main_v97_apply, at4 (idx_main_v97 (ix4 b s h d)) b s h (⟨16 + d.val, by omega⟩ : Fin 64) rfl rfl rfl rfl]
  exact q62_at x0 x1 x2 b s h _ j hj

theorem q96_lo (n : Fin 12) (e : Fin 16) (d : Fin 8) (h : e.val = 0 + d.val) :
    val_main_v96 (F := Ideal) x0 x1 x2 (ix4 b s n e) = val_main_v90 (F := Ideal) x0 x1 x2 (ix4 b s n d) := by
  unfold val_main_v96
  refine concatenate_apply_piece (α := EReal) (t := S2x2048x12x16) 3 [⟨S2x2048x12x8, val_main_v90 (F := Ideal) x0 x1 x2⟩, ⟨S2x2048x12x8, val_main_v95 (F := Ideal) x0 x1 x2⟩] _ (ix4 b s n e) 0 (show 0 < 2 by decide) S2x2048x12x8 (val_main_v90 (F := Ideal) x0 x1 x2) rfl rfl 0 rfl (ix4 b s n d) ?_ h.symm
  intro c hc
  match c, hc with
  | ⟨0, _⟩, _ => rfl
  | ⟨1, _⟩, _ => rfl
  | ⟨2, _⟩, _ => rfl
  | ⟨3, _⟩, hc => exact absurd rfl hc

theorem q96_hi (n : Fin 12) (e : Fin 16) (d : Fin 8) (h : e.val = 8 + d.val) :
    val_main_v96 (F := Ideal) x0 x1 x2 (ix4 b s n e) = val_main_v95 (F := Ideal) x0 x1 x2 (ix4 b s n d) := by
  unfold val_main_v96
  refine concatenate_apply_piece (α := EReal) (t := S2x2048x12x16) 3 [⟨S2x2048x12x8, val_main_v90 (F := Ideal) x0 x1 x2⟩, ⟨S2x2048x12x8, val_main_v95 (F := Ideal) x0 x1 x2⟩] _ (ix4 b s n e) 1 (show 1 < 2 by decide) S2x2048x12x8 (val_main_v95 (F := Ideal) x0 x1 x2) rfl rfl 8 rfl (ix4 b s n d) ?_ h.symm
  intro c hc
  match c, hc with
  | ⟨0, _⟩, _ => rfl
  | ⟨1, _⟩, _ => rfl
  | ⟨2, _⟩, _ => rfl
  | ⟨3, _⟩, hc => exact absurd rfl hc

theorem q98_lo (n : Fin 12) (e : Fin 64) (d : Fin 16) (h : e.val = 0 + d.val) :
    val_main_v98 (F := Ideal) x0 x1 x2 (ix4 b s n e) = val_main_v96 (F := Ideal) x0 x1 x2 (ix4 b s n d) := by
  unfold val_main_v98
  refine concatenate_apply_piece (α := EReal) (t := S2x2048x12x64) 3 [⟨S2x2048x12x16, val_main_v96 (F := Ideal) x0 x1 x2⟩, ⟨S2x2048x12x48, val_main_v97 (F := Ideal) x0 x1 x2⟩] _ (ix4 b s n e) 0 (show 0 < 2 by decide) S2x2048x12x16 (val_main_v96 (F := Ideal) x0 x1 x2) rfl rfl 0 rfl (ix4 b s n d) ?_ h.symm
  intro c hc
  match c, hc with
  | ⟨0, _⟩, _ => rfl
  | ⟨1, _⟩, _ => rfl
  | ⟨2, _⟩, _ => rfl
  | ⟨3, _⟩, hc => exact absurd rfl hc

theorem q98_hi (n : Fin 12) (e : Fin 64) (d : Fin 48) (h : e.val = 16 + d.val) :
    val_main_v98 (F := Ideal) x0 x1 x2 (ix4 b s n e) = val_main_v97 (F := Ideal) x0 x1 x2 (ix4 b s n d) := by
  unfold val_main_v98
  refine concatenate_apply_piece (α := EReal) (t := S2x2048x12x64) 3 [⟨S2x2048x12x16, val_main_v96 (F := Ideal) x0 x1 x2⟩, ⟨S2x2048x12x48, val_main_v97 (F := Ideal) x0 x1 x2⟩] _ (ix4 b s n e) 1 (show 1 < 2 by decide) S2x2048x12x48 (val_main_v97 (F := Ideal) x0 x1 x2) rfl rfl 16 rfl (ix4 b s n d) ?_ h.symm
  intro c hc
  match c, hc with
  | ⟨0, _⟩, _ => rfl
  | ⟨1, _⟩, _ => rfl
  | ⟨2, _⟩, _ => rfl
  | ⟨3, _⟩, hc => exact absurd rfl hc

theorem q99_at (j : Fin 768) :
    val_main_v99 (F := Ideal) x0 x1 x2 (ix3 b s j) = rotL (cF x0 x1 x2 b s 5 (by decide)) (fun d => cosT (ix2 s d)) (fun d => sinT (ix2 s d)) j := by
  rw [val_main_v99_apply, at4 (idx_main_v99 (ix3 b s j)) b s (⟨j.val / 64, by omega⟩ : Fin 12) (⟨j.val % 64, by omega⟩ : Fin 64) ?_ ?_ ?_ ?_]
  · by_cases h : j.val % 64 < 8
    · rw [q98_lo x0 x1 x2 b s _ _ (⟨j.val % 64, by omega⟩ : Fin 16) (Nat.zero_add _).symm, q96_lo x0 x1 x2 b s _ _ (⟨j.val % 64, h⟩ : Fin 8) (Nat.zero_add _).symm,
        q90_at x0 x1 x2 b s _ _ j (⟨j.val + 8, by omega⟩ : Fin 768) (by dsimp only; omega) rfl]
      exact (rotL_lo (cF x0 x1 x2 b s 5 (by decide)) (fun d => cosT (ix2 s d)) (fun d => sinT (ix2 s d)) j (⟨j.val % 64, h⟩ : Fin 8) rfl (⟨j.val + 8, by omega⟩ : Fin 768) rfl).symm
    · by_cases h' : j.val % 64 < 16
      · have hd : j.val % 64 = 8 + (j.val % 64 - 8) := by omega
        rw [q98_lo x0 x1 x2 b s _ _ (⟨j.val % 64, by omega⟩ : Fin 16) (Nat.zero_add _).symm, q96_hi x0 x1 x2 b s _ _ (⟨j.val % 64 - 8, by omega⟩ : Fin 8) hd,
          q95_at x0 x1 x2 b s _ _ j (⟨j.val - 8, by omega⟩ : Fin 768) (by dsimp only; omega) (by dsimp only; omega)]
        exact (rotL_hi (cF x0 x1 x2 b s 5 (by decide)) (fun d => cosT (ix2 s d)) (fun d => sinT (ix2 s d)) j (⟨j.val % 64 - 8, by omega⟩ : Fin 8) (by dsimp only; omega) (⟨j.val - 8, by omega⟩ : Fin 768) (by dsimp only; omega)).symm
      · have hd : j.val % 64 = 16 + (j.val % 64 - 16) := by omega
        rw [q98_hi x0 x1 x2 b s _ _ (⟨j.val % 64 - 16, by omega⟩ : Fin 48) hd, q97_at x0 x1 x2 b s _ _ j (by dsimp only; omega)]
        exact (rotL_far _ _ _ j (by omega)).symm
  · show ((b.val * 2048 + s.val) * 768 + j.val) / 1572864 = b.val
    omega
  · show ((b.val * 2048 + s.val) * 768 + j.val) / 768 % 2048 = s.val
    omega
  · show ((b.val * 2048 + s.val) * 768 + j.val) / 64 % 12 = j.val / 64
    omega
  · show ((b.val * 2048 + s.val) * 768 + j.val) % 64 = j.val % 64
    omega

/-! ## The joined rows -/

theorem j101_0 (j : Fin 7680) (k : Fin 3072) (h : j.val = 0 + k.val) :
    val_main_v101 (F := Ideal) x0 x1 x2 (ix3 b s j) = val_main_v16 (F := Ideal) x0 x1 x2 (ix3 b s k) := by
  unfold val_main_v101
  refine concatenate_apply_piece (α := EReal) (t := S2x2048x7680) 2 [⟨S2x2048x3072, val_main_v16 (F := Ideal) x0 x1 x2⟩, ⟨S2x2048x768, val_main_v61 (F := Ideal) x0 x1 x2⟩, ⟨S2x2048x768, val_main_v99 (F := Ideal) x0 x1 x2⟩, ⟨S2x2048x768, val_main_v21 (F := Ideal) x0 x1 x2⟩, ⟨S2x2048x1792, val_main_v22 (F := Ideal) x0 x1 x2⟩, ⟨S2x2048x12, val_main_v17 (F := Ideal) x0 x1 x2⟩, ⟨S2x2048x500, val_main_v100 (F := Ideal)⟩] _ (ix3 b s j) 0 (show 0 < 7 by decide) S2x2048x3072 (val_main_v16 (F := Ideal) x0 x1 x2) rfl rfl 0 rfl (ix3 b s k) ?_ h.symm
  intro c hc
  match c, hc with
  | ⟨0, _⟩, _ => rfl
  | ⟨1, _⟩, _ => rfl
  | ⟨2, _⟩, hc => exact absurd rfl hc

theorem j101_1 (j : Fin 7680) (k : Fin 768) (h : j.val = 3072 + k.val) :
    val_main_v101 (F := Ideal) x0 x1 x2 (ix3 b s j) = val_main_v61 (F := Ideal) x0 x1 x2 (ix3 b s k) := by
  unfold val_main_v101
  refine concatenate_apply_piece (α := EReal) (t := S2x2048x7680) 2 [⟨S2x2048x3072, val_main_v16 (F := Ideal) x0 x1 x2⟩, ⟨S2x2048x768, val_main_v61 (F := Ideal) x0 x1 x2⟩, ⟨S2x2048x768, val_main_v99 (F := Ideal) x0 x1 x2⟩, ⟨S2x2048x768, val_main_v21 (F := Ideal) x0 x1 x2⟩, ⟨S2x2048x1792, val_main_v22 (F := Ideal) x0 x1 x2⟩, ⟨S2x2048x12, val_main_v17 (F := Ideal) x0 x1 x2⟩, ⟨S2x2048x500, val_main_v100 (F := Ideal)⟩] _ (ix3 b s j) 1 (show 1 < 7 by decide) S2x2048x768 (val_main_v61 (F := Ideal) x0 x1 x2) rfl rfl 3072 rfl (ix3 b s k) ?_ h.symm
  intro c hc
  match c, hc with
  | ⟨0, _⟩, _ => rfl
  | ⟨1, _⟩, _ => rfl
  | ⟨2, _⟩, hc => exact absurd rfl hc

theorem j101_2 (j : Fin 7680) (k : Fin 768) (h : j.val = 3840 + k.val) :
    val_main_v101 (F := Ideal) x0 x1 x2 (ix3 b s j) = val_main_v99 (F := Ideal) x0 x1 x2 (ix3 b s k) := by
  unfold val_main_v101
  refine concatenate_apply_piece (α := EReal) (t := S2x2048x7680) 2 [⟨S2x2048x3072, val_main_v16 (F := Ideal) x0 x1 x2⟩, ⟨S2x2048x768, val_main_v61 (F := Ideal) x0 x1 x2⟩, ⟨S2x2048x768, val_main_v99 (F := Ideal) x0 x1 x2⟩, ⟨S2x2048x768, val_main_v21 (F := Ideal) x0 x1 x2⟩, ⟨S2x2048x1792, val_main_v22 (F := Ideal) x0 x1 x2⟩, ⟨S2x2048x12, val_main_v17 (F := Ideal) x0 x1 x2⟩, ⟨S2x2048x500, val_main_v100 (F := Ideal)⟩] _ (ix3 b s j) 2 (show 2 < 7 by decide) S2x2048x768 (val_main_v99 (F := Ideal) x0 x1 x2) rfl rfl 3840 rfl (ix3 b s k) ?_ h.symm
  intro c hc
  match c, hc with
  | ⟨0, _⟩, _ => rfl
  | ⟨1, _⟩, _ => rfl
  | ⟨2, _⟩, hc => exact absurd rfl hc

theorem j101_3 (j : Fin 7680) (k : Fin 768) (h : j.val = 4608 + k.val) :
    val_main_v101 (F := Ideal) x0 x1 x2 (ix3 b s j) = val_main_v21 (F := Ideal) x0 x1 x2 (ix3 b s k) := by
  unfold val_main_v101
  refine concatenate_apply_piece (α := EReal) (t := S2x2048x7680) 2 [⟨S2x2048x3072, val_main_v16 (F := Ideal) x0 x1 x2⟩, ⟨S2x2048x768, val_main_v61 (F := Ideal) x0 x1 x2⟩, ⟨S2x2048x768, val_main_v99 (F := Ideal) x0 x1 x2⟩, ⟨S2x2048x768, val_main_v21 (F := Ideal) x0 x1 x2⟩, ⟨S2x2048x1792, val_main_v22 (F := Ideal) x0 x1 x2⟩, ⟨S2x2048x12, val_main_v17 (F := Ideal) x0 x1 x2⟩, ⟨S2x2048x500, val_main_v100 (F := Ideal)⟩] _ (ix3 b s j) 3 (show 3 < 7 by decide) S2x2048x768 (val_main_v21 (F := Ideal) x0 x1 x2) rfl rfl 4608 rfl (ix3 b s k) ?_ h.symm
  intro c hc
  match c, hc with
  | ⟨0, _⟩, _ => rfl
  | ⟨1, _⟩, _ => rfl
  | ⟨2, _⟩, hc => exact absurd rfl hc

theorem j101_4 (j : Fin 7680) (k : Fin 1792) (h : j.val = 5376 + k.val) :
    val_main_v101 (F := Ideal) x0 x1 x2 (ix3 b s j) = val_main_v22 (F := Ideal) x0 x1 x2 (ix3 b s k) := by
  unfold val_main_v101
  refine concatenate_apply_piece (α := EReal) (t := S2x2048x7680) 2 [⟨S2x2048x3072, val_main_v16 (F := Ideal) x0 x1 x2⟩, ⟨S2x2048x768, val_main_v61 (F := Ideal) x0 x1 x2⟩, ⟨S2x2048x768, val_main_v99 (F := Ideal) x0 x1 x2⟩, ⟨S2x2048x768, val_main_v21 (F := Ideal) x0 x1 x2⟩, ⟨S2x2048x1792, val_main_v22 (F := Ideal) x0 x1 x2⟩, ⟨S2x2048x12, val_main_v17 (F := Ideal) x0 x1 x2⟩, ⟨S2x2048x500, val_main_v100 (F := Ideal)⟩] _ (ix3 b s j) 4 (show 4 < 7 by decide) S2x2048x1792 (val_main_v22 (F := Ideal) x0 x1 x2) rfl rfl 5376 rfl (ix3 b s k) ?_ h.symm
  intro c hc
  match c, hc with
  | ⟨0, _⟩, _ => rfl
  | ⟨1, _⟩, _ => rfl
  | ⟨2, _⟩, hc => exact absurd rfl hc

theorem j101_5 (j : Fin 7680) (k : Fin 12) (h : j.val = 7168 + k.val) :
    val_main_v101 (F := Ideal) x0 x1 x2 (ix3 b s j) = val_main_v17 (F := Ideal) x0 x1 x2 (ix3 b s k) := by
  unfold val_main_v101
  refine concatenate_apply_piece (α := EReal) (t := S2x2048x7680) 2 [⟨S2x2048x3072, val_main_v16 (F := Ideal) x0 x1 x2⟩, ⟨S2x2048x768, val_main_v61 (F := Ideal) x0 x1 x2⟩, ⟨S2x2048x768, val_main_v99 (F := Ideal) x0 x1 x2⟩, ⟨S2x2048x768, val_main_v21 (F := Ideal) x0 x1 x2⟩, ⟨S2x2048x1792, val_main_v22 (F := Ideal) x0 x1 x2⟩, ⟨S2x2048x12, val_main_v17 (F := Ideal) x0 x1 x2⟩, ⟨S2x2048x500, val_main_v100 (F := Ideal)⟩] _ (ix3 b s j) 5 (show 5 < 7 by decide) S2x2048x12 (val_main_v17 (F := Ideal) x0 x1 x2) rfl rfl 7168 rfl (ix3 b s k) ?_ h.symm
  intro c hc
  match c, hc with
  | ⟨0, _⟩, _ => rfl
  | ⟨1, _⟩, _ => rfl
  | ⟨2, _⟩, hc => exact absurd rfl hc

theorem j101_6 (j : Fin 7680) (k : Fin 500) (h : j.val = 7180 + k.val) :
    val_main_v101 (F := Ideal) x0 x1 x2 (ix3 b s j) = val_main_v100 (F := Ideal) (ix3 b s k) := by
  unfold val_main_v101
  refine concatenate_apply_piece (α := EReal) (t := S2x2048x7680) 2 [⟨S2x2048x3072, val_main_v16 (F := Ideal) x0 x1 x2⟩, ⟨S2x2048x768, val_main_v61 (F := Ideal) x0 x1 x2⟩, ⟨S2x2048x768, val_main_v99 (F := Ideal) x0 x1 x2⟩, ⟨S2x2048x768, val_main_v21 (F := Ideal) x0 x1 x2⟩, ⟨S2x2048x1792, val_main_v22 (F := Ideal) x0 x1 x2⟩, ⟨S2x2048x12, val_main_v17 (F := Ideal) x0 x1 x2⟩, ⟨S2x2048x500, val_main_v100 (F := Ideal)⟩] _ (ix3 b s j) 6 (show 6 < 7 by decide) S2x2048x500 (val_main_v100 (F := Ideal)) rfl rfl 7180 rfl (ix3 b s k) ?_ h.symm
  intro c hc
  match c, hc with
  | ⟨0, _⟩, _ => rfl
  | ⟨1, _⟩, _ => rfl
  | ⟨2, _⟩, hc => exact absurd rfl hc

theorem j102_0 (j : Fin 2304) (k : Fin 768) (h : j.val = 0 + k.val) :
    val_main_v102 (F := Ideal) x0 x1 x2 (ix3 b s j) = val_main_v61 (F := Ideal) x0 x1 x2 (ix3 b s k) := by
  unfold val_main_v102
  refine concatenate_apply_piece (α := EReal) (t := S2x2048x2304) 2 [⟨S2x2048x768, val_main_v61 (F := Ideal) x0 x1 x2⟩, ⟨S2x2048x768, val_main_v99 (F := Ideal) x0 x1 x2⟩, ⟨S2x2048x768, val_main_v21 (F := Ideal) x0 x1 x2⟩] _ (ix3 b s j) 0 (show 0 < 3 by decide) S2x2048x768 (val_main_v61 (F := Ideal) x0 x1 x2) rfl rfl 0 rfl (ix3 b s k) ?_ h.symm
  intro c hc
  match c, hc with
  | ⟨0, _⟩, _ => rfl
  | ⟨1, _⟩, _ => rfl
  | ⟨2, _⟩, hc => exact absurd rfl hc

theorem j102_1 (j : Fin 2304) (k : Fin 768) (h : j.val = 768 + k.val) :
    val_main_v102 (F := Ideal) x0 x1 x2 (ix3 b s j) = val_main_v99 (F := Ideal) x0 x1 x2 (ix3 b s k) := by
  unfold val_main_v102
  refine concatenate_apply_piece (α := EReal) (t := S2x2048x2304) 2 [⟨S2x2048x768, val_main_v61 (F := Ideal) x0 x1 x2⟩, ⟨S2x2048x768, val_main_v99 (F := Ideal) x0 x1 x2⟩, ⟨S2x2048x768, val_main_v21 (F := Ideal) x0 x1 x2⟩] _ (ix3 b s j) 1 (show 1 < 3 by decide) S2x2048x768 (val_main_v99 (F := Ideal) x0 x1 x2) rfl rfl 768 rfl (ix3 b s k) ?_ h.symm
  intro c hc
  match c, hc with
  | ⟨0, _⟩, _ => rfl
  | ⟨1, _⟩, _ => rfl
  | ⟨2, _⟩, hc => exact absurd rfl hc

theorem j102_2 (j : Fin 2304) (k : Fin 768) (h : j.val = 1536 + k.val) :
    val_main_v102 (F := Ideal) x0 x1 x2 (ix3 b s j) = val_main_v21 (F := Ideal) x0 x1 x2 (ix3 b s k) := by
  unfold val_main_v102
  refine concatenate_apply_piece (α := EReal) (t := S2x2048x2304) 2 [⟨S2x2048x768, val_main_v61 (F := Ideal) x0 x1 x2⟩, ⟨S2x2048x768, val_main_v99 (F := Ideal) x0 x1 x2⟩, ⟨S2x2048x768, val_main_v21 (F := Ideal) x0 x1 x2⟩] _ (ix3 b s j) 2 (show 2 < 3 by decide) S2x2048x768 (val_main_v21 (F := Ideal) x0 x1 x2) rfl rfl 1536 rfl (ix3 b s k) ?_ h.symm
  intro c hc
  match c, hc with
  | ⟨0, _⟩, _ => rfl
  | ⟨1, _⟩, _ => rfl
  | ⟨2, _⟩, hc => exact absurd rfl hc

theorem j109_0 (j : Fin 128) (k : Fin 12) (h : j.val = 0 + k.val) :
    val_main_v109 (F := Ideal) x0 x1 x2 (ix3 b s j) = val_main_v17 (F := Ideal) x0 x1 x2 (ix3 b s k) := by
  unfold val_main_v109
  refine concatenate_apply_piece (α := EReal) (t := S2x2048x128) 2 [⟨S2x2048x12, val_main_v17 (F := Ideal) x0 x1 x2⟩, ⟨S2x2048x116, val_main_v108 (F := Ideal)⟩] _ (ix3 b s j) 0 (show 0 < 2 by decide) S2x2048x12 (val_main_v17 (F := Ideal) x0 x1 x2) rfl rfl 0 rfl (ix3 b s k) ?_ h.symm
  intro c hc
  match c, hc with
  | ⟨0, _⟩, _ => rfl
  | ⟨1, _⟩, _ => rfl
  | ⟨2, _⟩, hc => exact absurd rfl hc

theorem j109_1 (j : Fin 128) (k : Fin 116) (h : j.val = 12 + k.val) :
    val_main_v109 (F := Ideal) x0 x1 x2 (ix3 b s j) = val_main_v108 (F := Ideal) (ix3 b s k) := by
  unfold val_main_v109
  refine concatenate_apply_piece (α := EReal) (t := S2x2048x128) 2 [⟨S2x2048x12, val_main_v17 (F := Ideal) x0 x1 x2⟩, ⟨S2x2048x116, val_main_v108 (F := Ideal)⟩] _ (ix3 b s j) 1 (show 1 < 2 by decide) S2x2048x116 (val_main_v108 (F := Ideal)) rfl rfl 12 rfl (ix3 b s k) ?_ h.symm
  intro c hc
  match c, hc with
  | ⟨0, _⟩, _ => rfl
  | ⟨1, _⟩, _ => rfl
  | ⟨2, _⟩, hc => exact absurd rfl hc

theorem zero_at (j : Fin 7680) (h : 7180 ≤ j.val) : aF x0 x1 x2 b s j = 0 := cols_none _ j h

theorem p_at (j : Fin 7680) : val_main_v101 (F := Ideal) x0 x1 x2 (ix3 b s j) = pF x0 x1 x2 cosT sinT b s j := by
  have hj := j.isLt
  by_cases h1 : j.val < 3072
  · have hd : j.val = 0 + j.val := (Nat.zero_add _).symm
    rw [j101_0 x0 x1 x2 b s j (⟨j.val, h1⟩ : Fin 3072) hd, c16_at, pF_else _ _ _ _ _ b s j (Or.inl h1)]
    exact congrArg (aF x0 x1 x2 b s) (Fin.ext hd.symm)
  by_cases h2 : j.val < 3840
  · have hd : j.val = 3072 + (j.val - 3072) := by omega
    rw [j101_1 x0 x1 x2 b s j (⟨j.val - 3072, by omega⟩ : Fin 768) hd, q61_at]
    exact (pF_turn x0 x1 x2 cosT sinT b s j 4 (by decide) (Or.inl rfl) _ hd).symm
  by_cases h3 : j.val < 4608
  · have hd : j.val = 3840 + (j.val - 3840) := by omega
    rw [j101_2 x0 x1 x2 b s j (⟨j.val - 3840, by omega⟩ : Fin 768) hd, q99_at]
    exact (pF_turn x0 x1 x2 cosT sinT b s j 5 (by decide) (Or.inr rfl) _ hd).symm
  rw [pF_else _ _ _ _ _ b s j (Or.inr (by omega))]
  by_cases h4 : j.val < 5376
  · have hd : j.val = 4608 + (j.val - 4608) := by omega
    rw [j101_3 x0 x1 x2 b s j (⟨j.val - 4608, by omega⟩ : Fin 768) hd, c21_at]
    exact congrArg (aF x0 x1 x2 b s) (Fin.ext hd.symm)
  by_cases h5 : j.val < 7168
  · have hd : j.val = 5376 + (j.val - 5376) := by omega
    rw [j101_4 x0 x1 x2 b s j (⟨j.val - 5376, by omega⟩ : Fin 1792) hd, c22_at]
    exact congrArg (aF x0 x1 x2 b s) (Fin.ext hd.symm)
  by_cases h6 : j.val < 7180
  · have hd : j.val = 7168 + (j.val - 7168) := by omega
    rw [j101_5 x0 x1 x2 b s j (⟨j.val - 7168, by omega⟩ : Fin 12) hd, c17_at]
    exact congrArg (aF x0 x1 x2 b s) (Fin.ext hd.symm)
  · have hd : j.val = 7180 + (j.val - 7180) := by omega
    rw [j101_6 x0 x1 x2 b s j (⟨j.val - 7180, by omega⟩ : Fin 500) hd, zero_at x0 x1 x2 b s j (by omega)]
    exact zero_bits

theorem f_at (j : Fin 2304) (j' : Fin 7680) (e : j'.val = 3072 + j.val) : val_main_v102 (F := Ideal) x0 x1 x2 (ix3 b s j) = pF x0 x1 x2 cosT sinT b s j' := by
  have hj := j.isLt
  by_cases h2 : j.val < 768
  · have hd : j.val = 0 + j.val := (Nat.zero_add _).symm
    rw [j102_0 x0 x1 x2 b s j (⟨j.val, h2⟩ : Fin 768) hd, q61_at]
    exact (pF_turn x0 x1 x2 cosT sinT b s j' 4 (by decide) (Or.inl rfl) _ e).symm
  by_cases h3 : j.val < 1536
  · have hd : j.val = 768 + (j.val - 768) := by omega
    rw [j102_1 x0 x1 x2 b s j (⟨j.val - 768, by omega⟩ : Fin 768) hd, q99_at]
    exact (pF_turn x0 x1 x2 cosT sinT b s j' 5 (by decide) (Or.inr rfl) _ (by dsimp only; omega)).symm
  · have hd : j.val = 1536 + (j.val - 1536) := by omega
    rw [pF_else _ _ _ _ _ b s j' (Or.inr (by omega)), j102_2 x0 x1 x2 b s j (⟨j.val - 1536, by omega⟩ : Fin 768) hd, c21_at]
    exact congrArg (aF x0 x1 x2 b s) (Fin.ext (by dsimp only; omega))

theorem g_at (j : Fin 128) (j' : Fin 7680) (e : j'.val = 7168 + j.val) : val_main_v109 (F := Ideal) x0 x1 x2 (ix3 b s j) = aF x0 x1 x2 b s j' := by
  have hj := j.isLt
  by_cases h6 : j.val < 12
  · have hd : j.val = 0 + j.val := (Nat.zero_add _).symm
    rw [j109_0 x0 x1 x2 b s j (⟨j.val, h6⟩ : Fin 12) hd, c17_at]
    exact congrArg (aF x0 x1 x2 b s) (Fin.ext e.symm)
  · have hd : j.val = 12 + (j.val - 12) := by omega
    rw [j109_1 x0 x1 x2 b s j (⟨j.val - 12, by omega⟩ : Fin 116) hd, zero_at x0 x1 x2 b s j' (by omega)]
    exact zero_bits
end Ref

/-! ## The results -/

section Res
variable (x0 : S2x2048x1024.Idx → EReal) (x1 : S1x1024.Idx → EReal) (x2 : S1x1024x7180.Idx → EReal)

theorem h_res : val_main_v104 (F := Ideal) x0 x1 = hR x0 x1 := funext fun y => by
  obtain ⟨r, j, rfl⟩ : ∃ (r : Fin 4096) (j : Fin 1024), y = ix2 r j := ⟨y 0, y 1, eq_ix2 y⟩
  rw [val_main_v104_apply]
  show val_main_v103 (F := Ideal) x0 x1 (ix2 r j) = _
  unfold val_main_v103
  exact (flat_apply _ _ r j).trans (h_at x0 x1 (bat r) (pos r) j)

theorem p_res : val_main_v106 (F := Ideal) x0 x1 x2 = pR x0 x1 x2 cosT sinT := funext fun y => by
  obtain ⟨r, j, rfl⟩ : ∃ (r : Fin 4096) (j : Fin 7680), y = ix2 r j := ⟨y 0, y 1, eq_ix2 y⟩
  rw [val_main_v106_apply]
  show val_main_v105 (F := Ideal) x0 x1 x2 (ix2 r j) = _
  unfold val_main_v105
  exact (flat_apply _ _ r j).trans (p_at x0 x1 x2 (bat r) (pos r) j)

theorem f_res : val_main_v107 (F := Ideal) x0 x1 x2 = fR x0 x1 x2 cosT sinT := funext fun y => by
  obtain ⟨r, j, rfl⟩ : ∃ (r : Fin 4096) (j : Fin 2304), y = ix2 r j := ⟨y 0, y 1, eq_ix2 y⟩
  unfold val_main_v107
  exact (flat_apply _ _ r j).trans (f_at x0 x1 x2 (bat r) (pos r) j _ rfl)

theorem g_res : val_main_v110 (F := Ideal) x0 x1 x2 = gR x0 x1 x2 := funext fun y => by
  obtain ⟨r, j, rfl⟩ : ∃ (r : Fin 4096) (j : Fin 128), y = ix2 r j := ⟨y 0, y 1, eq_ix2 y⟩
  unfold val_main_v110
  exact (flat_apply _ _ r j).trans (g_at x0 x1 x2 (bat r) (pos r) j _ rfl)
end Res

end Cert.InProjRefIdeal.Val
end
-- ==== Proof.InProjClaim.lean ====
/-
  The input projection: the claims.
-/
module
public import proofs.«01_k».proof.Defs
public import proofs.«01_k».proof.Proof.InProjSame
public import proofs.«01_k».proof.Proof.InProjRef
public import Idealize.ShloMosaic.Lib.Quiescent
@[expose] public section
set_option maxRecDepth 16384
noncomputable section
namespace Cert.InProjClaim
open Idealize.ShloMosaic hiding ix2 ix3 eq_ix2 eq_ix3
open Idealize.ShloMosaic.ValueIdx Idealize.SL.Sem
open Cert.InProjIdeal.Val Cert.InProjRefIdeal.Val Cert.InProjRefIdeal.Read

theorem frame_kernel : Cert.quiescent_InProj := Cert.InProjSame.frame_kernel

theorem frame_ideal : Cert.quiescent_InProjIdeal := fun m ρ _ =>
  Cert.InProjIdeal.Body.frame (F := Ideal) m ρ

theorem frame_ref : Cert.quiescent_InProjRefIdeal := fun m ρ _ =>
  (θ_run Cert.InProjRefIdeal.defs _ _).mono
    (fun r h => ⟨fun c => (h c).2.2.2.2, sem_eq_zero_of_no_sems (by decide) r.2⟩) (Cert.InProjRefIdeal.Value.run (F := Ideal) m ρ)

theorem algebraic : Cert.algebraic_InProjIdeal_InProjRefIdeal := fun m g m' g' _ hagree =>
  ⟨fun c => hR (argX m c) (argG m c),
    fun c => pR (argX m c) (argG m c) (argW m c) cosT sinT,
    fun c => fR (argX m c) (argG m c) (argW m c) cosT sinT,
    fun c => gR (argX m c) (argG m c) (argW m c), run m g,
    (θ_run Cert.InProjRefIdeal.defs _ _).mono (fun r h c => by
      obtain ⟨h1, h2, h3, h4, ha⟩ := h c
      obtain ⟨a0, a1, a2⟩ := hagree c
      refine ⟨h1.trans ?_, h2.trans ?_, h3.trans ?_, h4.trans ?_, ha⟩
      · rw [val_main_v104_eq, a0, a1]; exact h_res _ _
      · rw [val_main_v106_eq, a0, a1, a2]; exact p_res _ _ _
      · rw [val_main_v107_eq, a0, a1, a2]; exact f_res _ _ _
      · rw [val_main_v110_eq, a0, a1, a2]; exact g_res _ _ _) (Cert.InProjRefIdeal.Value.run (F := Ideal) m' g')⟩

end Cert.InProjClaim
end
-- ==== Proof.KvRows.lean ====
/-
  The memory's rows: two batches of 256 tokens as 512 rows.
-/
module
public import proofs.«01_k».proof.Proof.InCols
@[expose] public section
set_option maxRecDepth 16384
noncomputable section
namespace Cert.KvRows
open Idealize.ShloMosaic hiding ix2 ix3 eq_ix2
open Idealize.ShloMosaic.ValueIdx
open scoped BigOperators

/-- The row of 512 that token `s` of batch `b` is. -/
def tok (b : Fin 2) (s : Fin 256) : Fin 512 := ⟨b.val * 256 + s.val, by omega⟩
/-- A row's batch -/
def bat (r : Fin 512) : Fin 2 := ⟨r.val / 256, by omega⟩
/-- and token. -/
def pos (r : Fin 512) : Fin 256 := ⟨r.val % 256, by omega⟩

theorem bat_tok (b : Fin 2) (s : Fin 256) : bat (tok b s) = b := Fin.ext (by show (b.val * 256 + s.val) / 256 = b.val; omega)
theorem pos_tok (b : Fin 2) (s : Fin 256) : pos (tok b s) = s := Fin.ext (by show (b.val * 256 + s.val) % 256 = s.val; omega)

/-- A sum over the rows is the sum over batches and tokens. -/
theorem sum_tok (f : Fin 512 → EReal) : ∑ r : Fin 512, f r = ∑ b : Fin 2, ∑ s : Fin 256, f (tok b s) :=
  Fin.sum_univ_tiles 2 256 rfl f

/-- Batches and tokens flattened into rows. -/
theorem flat_apply {n : ℕ} (x : (⟨3, ![2, 256, n]⟩ : Shape).Idx → EReal) (h : Shape.ShapeCasts ⟨3, ![2, 256, n]⟩ ⟨2, ![512, n]⟩) (r : Fin 512) (i : Fin n) :
    shapeCast (⟨2, ![512, n]⟩ : Shape) x h (ix2 r i) = x (ix3 (bat r) (pos r) i) :=
  shapeCast_apply x h (ix2 r i) (ix3 (bat r) (pos r) i) (by
    rw [Shape.rowMajor_val_three, Shape.rowMajor_val_two]
    show (r.val / 256 * 256 + r.val % 256) * n + i.val = r.val * n + i.val
    rw [Nat.div_add_mod'])

/-- One array of 1024 rows, its single leading index dropped. -/
theorem drop_apply {n k : ℕ} (x : (⟨3, ![1, k, n]⟩ : Shape).Idx → EReal) (h : Shape.ShapeCasts ⟨3, ![1, k, n]⟩ ⟨2, ![k, n]⟩) (r : Fin k) (i : Fin n) :
    shapeCast (⟨2, ![k, n]⟩ : Shape) x h (ix2 r i) = x (ix3 (0 : Fin 1) r i) :=
  shapeCast_apply x h (ix2 r i) (ix3 (0 : Fin 1) r i) (by
    rw [Shape.rowMajor_val_three, Shape.rowMajor_val_two]
    show (0 * k + r.val) * n + i.val = r.val * n + i.val
    rw [Nat.zero_mul, Nat.zero_add])

/-- A block that is the whole array. -/
theorem emb_id {n0 n1 : ℕ} (off : Fin 2 → ℕ) (inb) (h0 : off 0 = 0) (h1 : off 1 = 0) (y : (⟨2, ![n0, n1]⟩ : Shape).Idx) :
    (Rect.unit (s := ⟨2, ![n0, n1]⟩) off ![n0, n1] inb).emb y = y :=
  (Cert.Cols.unit_emb off ![n0, n1] inb y (y 0) (y 1) (by rw [h0]; exact Nat.zero_add _) (by rw [h1]; exact Nat.zero_add _)).trans (eq_ix2 y).symm

end Cert.KvRows
-- ==== Proof.KvWRun.lean ====
/-
  The memory projection's weight-gradient kernel: its four blocks put together into the product of the normalized rows with the
  gradients of the keys and values, and its run beside the reference's gradient.
-/
module
public import proofs.«01_k».proof.Proof.Gen.KvWGradIdeal.Value
public import proofs.«01_k».proof.Proof.Gen.KvWGradRefIdeal.Read
public import proofs.«01_k».proof.Proof.KvRows
public import Idealize.ShloMosaic.Lib.Pipeline.ValueKit.Tiles
public import Idealize.ShloMosaic.Lib.StableHlo.ReadAt
public import Idealize.ShloMosaic.Lib.TwoAxisContraction
@[expose] public section
set_option maxRecDepth 16384
noncomputable section
namespace Cert.KvWGradIdeal.Val
open Idealize.ShloMosaic hiding ix2 ix3 eq_ix2 eq_ix3
open Idealize.ShloMosaic.ValueIdx Idealize.ShloMosaic.TcCoe Cert.KvWGradIdeal Cert.KvWGradIdeal.Gen Cert.KvRows
open Cert.Cols (unit_emb mem_unit)
open Idealize.SL.Sem
open scoped BigOperators

/-! ## One block -/

theorem mm_tn (l : S512x256.Idx → EReal) (r : S512x512.Idx → EReal) (k : Fin 256) (e : Fin 512) :
    matmul (F := Ideal) (φ₁ := .bf16) (φ₂ := .bf16) dot_S512x256_S512x512_S256x512_0_0_1_1_n_n none l r (constant S256x512 .f32 0x00000000#32) (ix2 k e)
      = ∑ i : Fin 512, l (ix2 i k) * r (ix2 i e) := by
  refine (Ideal.matmul_constant_zero_apply (φ₁ := .bf16) (φ₂ := .bf16) _ none l r (ix2 k e)).trans ?_
  rw [← Equiv.sum_comp (contrEquiv1 dot_S512x256_S512x512_S256x512_0_0_1_1_n_n 512 rfl rfl).symm]
  refine Finset.sum_congr rfl fun i _ => ?_
  have hk := contrEquiv1_symm_val dot_S512x256_S512x512_S256x512_0_0_1_1_n_n 512 rfl rfl i
  have el : dot_S512x256_S512x512_S256x512_0_0_1_1_n_n.lhsIdx (ix2 k e) ((contrEquiv1 dot_S512x256_S512x512_S256x512_0_0_1_1_n_n 512 rfl rfl).symm i) = ix2 i k := by
    funext a; apply Fin.ext
    match a with
    | ⟨0, _⟩ => exact hk
    | ⟨1, _⟩ => rfl
  have er : dot_S512x256_S512x512_S256x512_0_0_1_1_n_n.rhsIdx (ix2 k e) ((contrEquiv1 dot_S512x256_S512x512_S256x512_0_0_1_1_n_n 512 rfl rfl).symm i) = ix2 i e := by
    funext a; apply Fin.ext
    match a with
    | ⟨0, _⟩ => exact hk
    | ⟨1, _⟩ => rfl
  rw [el, er]

/-- A block of the product. -/
def prodB (x0 : S512x512.Idx → EReal) (x1 : S512x512.Idx → EReal) : S512x512.Idx → EReal :=
  fun y => ∑ r : Fin 512, x0 (ix2 r (y 0)) * x1 (ix2 r (y 1))

/-- One stored piece, from lane `o` of the rows. -/
theorem piece (x0 : S512x512.Idx → EReal) (x1 : S512x512.Idx → EReal) (o : ℕ) (ho : o + 256 ≤ 512) (inb) (inb') (k : Fin 256) (e : Fin 512) :
    matmul (F := Ideal) (φ₁ := .bf16) (φ₂ := .bf16) dot_S512x256_S512x512_S256x512_0_0_1_1_n_n none
      (View.ld (Val := Elt Ideal) (S := S512x512) (e' := .bf16) x0 (Rect.unit (s := S512x512) ![0, o] S512x256.size inb)) x1 (constant S256x512 .f32 0x00000000#32) (ix2 k e)
      = prodB x0 x1 ((Rect.unit (s := S512x512) ![o, 0] S256x512.size inb').emb (ix2 k e)) := by
  rw [mm_tn]
  have h : (Rect.unit (s := S512x512) ![o, 0] S256x512.size inb').emb (ix2 k e) = ix2 (⟨o + k.val, by omega⟩ : Fin 512) e :=
    unit_emb _ _ _ _ _ _ rfl (Nat.zero_add _)
  rw [h]
  refine Finset.sum_congr rfl fun r _ => congrArg (· * _) ?_
  exact View.ld_unit_apply_of _ _ _ _ _ (ix2 r (⟨o + k.val, by omega⟩ : Fin 512)) (fun a => by
    match a with
    | ⟨0, _⟩ => exact (Nat.zero_add _).symm
    | ⟨1, _⟩ => rfl)

theorem ld_whole (x1 : Vec Ideal S512x512 .bf16) : View.ld x1 r0_0 = x1 :=
  View.ld_unit_zero (S := S512x512) (off := ![0, 0]) (by funext a; match a with | ⟨0, _⟩ => rfl | ⟨1, _⟩ => rfl) _ x1

theorem out_eq (x0 : S512x512.Idx → EReal) (x1 : S512x512.Idx → EReal) : out0_2 (F := Ideal) x0 x1 = prodB x0 x1 := by
  funext y
  unfold out0_2
  refine View.canon_apply_of_pieces (Val := Elt Ideal) (S := S512x512) (e := .bf16) (prodB x0 x1) _ ?_ y (cover0_2 _ _ y)
  intro p hp x
  simp only [List.mem_cons, List.not_mem_nil, or_false] at hp
  rcases hp with rfl | rfl
  · obtain ⟨k, e, rfl⟩ : ∃ (k : Fin 256) (e : Fin 512), x = ix2 k e := ⟨x 0, x 1, eq_ix2 x⟩
    dsimp only
    unfold k0_pay3 k0_pay1
    rw [ld_whole]
    simp only [shapeCast_self]
    exact piece x0 x1 256 (by decide) _ _ k e
  · obtain ⟨k, e, rfl⟩ : ∃ (k : Fin 256) (e : Fin 512), x = ix2 k e := ⟨x 0, x 1, eq_ix2 x⟩
    dsimp only
    unfold k0_pay2 k0_pay1
    rw [ld_whole]
    simp only [shapeCast_self]
    exact piece x0 x1 0 (by decide) _ _ k e

/-! ## The blocks of the arrays -/

variable (m : (ℓ : Loc nD τ sig) → Buf (Elt Ideal) ℓ) (c : Dev nD)

theorem idx0 : ∀ t : Fin 4,
    (win0_0.index t 0 = 0 ∧ win0_0.index t 1 = t.val / 2) ∧ (win0_1.index t 0 = 0 ∧ win0_1.index t 1 = t.val % 2)
    ∧ (win0_2.index t 0 = t.val / 2 ∧ win0_2.index t 1 = t.val % 2) := by decide +kernel

/-- Row `k` of block `t` of the weight, -/
def rowAt (t : Fin 4) (k : Fin 512) : Fin 1024 := ⟨t.val / 2 * 512 + k.val, by omega⟩
/-- and its column `e`. -/
def colAt (t : Fin 4) (e : Fin 512) : Fin 1024 := ⟨t.val % 2 * 512 + e.val, by omega⟩

/-- The normalized rows, as the kernel finds them, -/
abbrev hV : S512x1024.Idx → EReal := V (F := Ideal) m c main_v15
/-- and the gradients of the keys and values. -/
abbrev dV : S512x1024.Idx → EReal := V (F := Ideal) m c main_v16

theorem blk0 (t : Fin 4) (r : Fin 512) (i : Fin 512) : iblk (F := Ideal) m c 0 t (ix2 r i) = hV m c (ix2 r (rowAt t i)) :=
  congrArg (hV m c) (unit_emb (n0 := 512) (n1 := 1024) (fun a => win0_0.index t a * (![512, 512] : Fin 2 → ℕ) a) ![512, 512] _ (ix2 r i) r (rowAt t i)
    (by show win0_0.index t 0 * 512 + r.val = r.val; rw [(idx0 t).1.1]; omega) (by show win0_0.index t 1 * 512 + i.val = t.val / 2 * 512 + i.val; rw [(idx0 t).1.2]))
theorem blk1 (t : Fin 4) (r : Fin 512) (e : Fin 512) : iblk (F := Ideal) m c 1 t (ix2 r e) = dV m c (ix2 r (colAt t e)) :=
  congrArg (dV m c) (unit_emb (n0 := 512) (n1 := 1024) (fun a => win0_1.index t a * (![512, 512] : Fin 2 → ℕ) a) ![512, 512] _ (ix2 r e) r (colAt t e)
    (by show win0_1.index t 0 * 512 + r.val = r.val; rw [(idx0 t).2.1.1]; omega) (by show win0_1.index t 1 * 512 + e.val = t.val % 2 * 512 + e.val; rw [(idx0 t).2.1.2]))

/-- The block that holds an index. -/
def blkOf (i : S1024x1024.Idx) : Fin 4 := ⟨(i 0).val / 512 * 2 + (i 1).val / 512, by
  have h0 : (i 0).val < 1024 := (i 0).isLt
  have h1 : (i 1).val < 1024 := (i 1).isLt
  omega⟩

/-- The whole product. -/
def prodA (h : S512x1024.Idx → EReal) (d : S512x1024.Idx → EReal) : S1024x1024.Idx → EReal :=
  fun y => ∑ r : Fin 512, h (ix2 r (y 0)) * d (ix2 r (y 1))

theorem final : (dats (F := Ideal) m 0 c).arrAt 2 cfg0.N = prodA (hV m c) (dV m c) := by
  refine (dats (F := Ideal) m 0 c).arrAt_eq_of_cover 2 (prodA (hV m c) (dV m c)) (fun t _ => ?_) fun i => ⟨blkOf i, flush0_2 _, ?_⟩
  · rw [Value.flushed2]
    funext y
    rw [out_eq]
    have hy : (((cfg0.win 2).blk t).view.emb y : S1024x1024.Idx) = ix2 (rowAt t (y 0)) (colAt t (y 1)) :=
      unit_emb (n0 := 1024) (n1 := 1024) (fun a => win0_2.index t a * (![512, 512] : Fin 2 → ℕ) a) ![512, 512] _ y (rowAt t (y 0)) (colAt t (y 1))
        (by show win0_2.index t 0 * 512 + _ = t.val / 2 * 512 + _; rw [(idx0 t).2.2.1]) (by show win0_2.index t 1 * 512 + _ = t.val % 2 * 512 + _; rw [(idx0 t).2.2.2])
    show prodB (iblk (F := Ideal) m c 0 t) (iblk (F := Ideal) m c 1 t) y = prodA (hV m c) (dV m c) (((cfg0.win 2).blk t).view.emb y)
    rw [hy]
    exact Finset.sum_congr rfl fun r _ => congrArg₂ (· * ·) (blk0 m c t r (y 0)) (blk1 m c t r (y 1))
  · have h0 : (i 0).val < 1024 := (i 0).isLt
    have h1 : (i 1).val < 1024 := (i 1).isLt
    show i ∈ ((View.whole main_v17).slice (win0_2.rect (blkOf i))).set
    rw [View.set_slice_whole]
    refine mem_unit (n0 := 1024) (n1 := 1024) _ _ _ i ?_ ?_
    · show win0_2.index _ 0 * 512 ≤ (i 0).val ∧ (i 0).val < win0_2.index _ 0 * 512 + 512
      rw [(idx0 _).2.2.1]
      show ((i 0).val / 512 * 2 + (i 1).val / 512) / 2 * 512 ≤ _ ∧ _ < ((i 0).val / 512 * 2 + (i 1).val / 512) / 2 * 512 + 512
      omega
    · show win0_2.index _ 1 * 512 ≤ (i 1).val ∧ (i 1).val < win0_2.index _ 1 * 512 + 512
      rw [(idx0 _).2.2.2]
      show ((i 0).val / 512 * 2 + (i 1).val / 512) % 2 * 512 ≤ _ ∧ _ < ((i 0).val / 512 * 2 + (i 1).val / 512) % 2 * 512 + 512
      omega

/-! ## The run on the arguments -/

abbrev argX : S2x256x1024.Idx → EReal := m ((c : Thread nD τ).loc main_arg0)
abbrev argG : S1x1024.Idx → EReal := m ((c : Thread nD τ).loc main_arg1)
abbrev argD : S2x256x1024.Idx → EReal := m ((c : Thread nD τ).loc main_arg2)

/-- The normalized rows, times their gains. -/
abbrev hn (x : S2x256x1024.Idx → EReal) (g : S1x1024.Idx → EReal) : S2x256x1024.Idx → EReal := Cert.KvWGradRefIdeal.Read.val_main_v14 (F := Ideal) x g

theorem hV_eq : hV m c = shapeCast S512x1024 (hn (argX m c) (argG m c)) shapeCasts_S2x256x1024_S512x1024 := by
  unfold hV V
  after_reads_simp
  rfl
theorem dV_eq : dV m c = shapeCast S512x1024 (argD m c) shapeCasts_S2x256x1024_S512x1024 := by
  unfold dV V
  after_reads_simp
  rfl

/-- The weight gradient. -/
def wg (x : S2x256x1024.Idx → EReal) (g : S1x1024.Idx → EReal) (d : S2x256x1024.Idx → EReal) : S1024x1024.Idx → EReal :=
  fun y => ∑ b : Fin 2, ∑ s : Fin 256, hn x g (ix3 b s (y 0)) * d (ix3 b s (y 1))

theorem prod_eq : prodA (hV m c) (dV m c) = wg (argX m c) (argG m c) (argD m c) := funext fun y => by
  obtain ⟨i, j, rfl⟩ : ∃ (i : Fin 1024) (j : Fin 1024), y = ix2 i j := ⟨y 0, y 1, eq_ix2 y⟩
  have e : prodA (hV m c) (dV m c) (ix2 i j) = ∑ r : Fin 512, hn (argX m c) (argG m c) (ix3 (bat r) (pos r) i) * argD m c (ix3 (bat r) (pos r) j) :=
    Finset.sum_congr rfl fun r _ => by
      rw [hV_eq, dV_eq]
      exact congrArg₂ (· * ·) (flat_apply _ _ r i) (flat_apply _ _ r j)
  refine e.trans ?_
  rw [sum_tok]
  refine Finset.sum_congr rfl fun b _ => Finset.sum_congr rfl fun s _ => ?_
  rw [bat_tok, pos_tok]

/-- The kernel's run: the result as a function of the arguments, the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v17) = wg (argX m c) (argG m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨((h c).1.trans (final m c)).trans (prod_eq m c), (h c).2⟩) (Value.run_blocks (F := Ideal) m ρ)

/-! ## The reference -/

section
open Cert.KvWGradRefIdeal.Read

theorem dot_apply (x : S2x256x1024.Idx → EReal) (g : S1x1024.Idx → EReal) (d : S2x256x1024.Idx → EReal) (k : Fin 1024) (i : Fin 1024) :
    val_main_v17 (F := Ideal) x g d (ix2 k i) = wg x g d (ix2 i k) := by
  unfold val_main_v17 wg hn
  generalize val_main_v14 (F := Ideal) x g = h
  have e16 : val_main_v16 (F := Ideal) d = d := rfl
  rw [e16]
  simp only [Host.dotGeneral]
  rw [Ideal.dotGeneral_apply, sum_contr2 Cert.KvWGradRefIdeal.dot_S2x256x1024_S2x256x1024_S1024x1024_01_01_2_2_n_n 2 256 rfl rfl rfl]
  refine Finset.sum_congr rfl fun b _ => Finset.sum_congr rfl fun s _ => ?_
  have h0 := contrEquiv2_symm_val0 Cert.KvWGradRefIdeal.dot_S2x256x1024_S2x256x1024_S1024x1024_01_01_2_2_n_n 2 256 rfl rfl rfl (b, s)
  have h1 := contrEquiv2_symm_val1 Cert.KvWGradRefIdeal.dot_S2x256x1024_S2x256x1024_S1024x1024_01_01_2_2_n_n 2 256 rfl rfl rfl (b, s)
  generalize (contrEquiv2 Cert.KvWGradRefIdeal.dot_S2x256x1024_S2x256x1024_S1024x1024_01_01_2_2_n_n 2 256 rfl rfl rfl).symm (b, s) = q at h0 h1 ⊢
  have el : Cert.KvWGradRefIdeal.dot_S2x256x1024_S2x256x1024_S1024x1024_01_01_2_2_n_n.lhsIdx (ix2 k i) q = ix3 b s k := by
    funext a; apply Fin.ext
    match a with
    | ⟨0, _⟩ => exact h0
    | ⟨1, _⟩ => exact h1
    | ⟨2, _⟩ => rfl
  have er : Cert.KvWGradRefIdeal.dot_S2x256x1024_S2x256x1024_S1024x1024_01_01_2_2_n_n.rhsIdx (ix2 k i) q = ix3 b s i := by
    funext a; apply Fin.ext
    match a with
    | ⟨0, _⟩ => exact h0
    | ⟨1, _⟩ => exact h1
    | ⟨2, _⟩ => rfl
  rw [el, er]
  exact mul_comm (G := EReal) _ _

theorem ref_eq (x : S2x256x1024.Idx → EReal) (g : S1x1024.Idx → EReal) (d : S2x256x1024.Idx → EReal) : val_main_v19 (F := Ideal) x g d = wg x g d := funext fun y => by
  obtain ⟨i, k, rfl⟩ : ∃ (i : Fin 1024) (k : Fin 1024), y = ix2 i k := ⟨y 0, y 1, eq_ix2 y⟩
  rw [val_main_v19_apply]
  refine (val_main_v18_apply (F := Ideal) x g d (ix2 i k)).trans (Eq.trans ?_ (dot_apply x g d k i))
  exact congrArg _ (funext fun a => by match a with | ⟨0, _⟩ => rfl | ⟨1, _⟩ => rfl)
end
end Cert.KvWGradIdeal.Val
-- ==== Proof.KvWClaim.lean ====
/-
  The memory projection's weight gradient: the claims.
-/
module
public import proofs.«01_k».proof.Defs
public import proofs.«01_k».proof.Proof.KvWRun
public import Idealize.ShloMosaic.Lib.Quiescent
@[expose] public section
set_option maxRecDepth 16384
noncomputable section
namespace Cert.KvWClaim
open Idealize.ShloMosaic hiding ix2 ix3 eq_ix2 eq_ix3
open Idealize.ShloMosaic.ValueIdx Idealize.SL.Sem
open Cert.KvWGradIdeal.Val Cert.KvWGradRefIdeal.Read

theorem frame_ref : Cert.quiescent_KvWGradRefIdeal := fun m ρ _ =>
  (θ_run Cert.KvWGradRefIdeal.defs _ _).mono
    (fun r h => ⟨fun c => (h c).2, sem_eq_zero_of_no_sems (by decide) r.2⟩) (Cert.KvWGradRefIdeal.Value.run (F := Ideal) m ρ)

theorem algebraic : Cert.algebraic_KvWGradIdeal_KvWGradRefIdeal := fun m g m' g' _ hagree =>
  ⟨fun c => wg (argX m c) (argG m c) (argD m c), run m g,
    (θ_run Cert.KvWGradRefIdeal.defs _ _).mono (fun r h c => by
      obtain ⟨h19, ha⟩ := h c
      obtain ⟨a0, a1, a2⟩ := hagree c
      refine ⟨h19.trans ?_, ha⟩
      rw [val_main_v19_eq, a0, a1, a2]; exact ref_eq _ _ _) (Cert.KvWGradRefIdeal.Value.run (F := Ideal) m' g')⟩

end Cert.KvWClaim
-- ==== Proof.KvGRun.lean ====
/-
  The memory norm's gradient kernel: a row of its input gradient as a function of the row's operands, the gain gradient as a sum over
  the 512 rows, and its run as a function of the arguments.
-/
module
public import proofs.«01_k».proof.Proof.Gen.KvGradIdeal.Value
public import proofs.«01_k».proof.Proof.KvRows
public import proofs.«01_k».proof.Proof.InKer
public import Idealize.ShloMosaic.Lib.StableHlo.ReadAt
@[expose] public section
set_option maxRecDepth 16384
noncomputable section
namespace Cert.KvGradIdeal.Val
open Idealize.ShloMosaic hiding ix1 ix2 ix3 eq_ix1 eq_ix2 eq_ix3
open Idealize.ShloMosaic.ValueIdx Idealize.ShloMosaic.TcCoe Idealize.ShloMosaic.Tactic Cert.KvGradIdeal Cert.KvGradIdeal.Gen Cert.KvRows
open Cert.Cols (unit_emb mem_unit)
open Cert.InGradIdeal.Val (rms nrm dxr cN cE)
open Idealize.SL.Sem
open scoped BigOperators

/-! ## The payloads read at an index -/

theorem lift_row (r : Fin 512) (k : Fin 1024) : (reduces_S512x1024_S512).lift (ix1 r) k = ix2 r k := by
  funext a; apply Fin.ext
  match a with
  | ⟨0, _⟩ => rfl
  | ⟨1, _⟩ => rfl

theorem lift_col (i : Fin 1024) (r : Fin 512) : (reduces_S512x1024_S1024).lift (ix1 i) r = ix2 r i := by
  funext a; apply Fin.ext
  match a with
  | ⟨0, _⟩ => rfl
  | ⟨1, _⟩ => rfl

theorem row_sum (v : FVec Ideal S512x1024 .f32) (r : Fin 512) :
    multiReduction .add [1] S512 v 0x00000000#32 reduces_S512x1024_S512 (.inl rfl) rfl (ix1 r) = ∑ k : Fin 1024, v (ix2 r k) :=
  (Ideal.multiReduction_add_single v _ reduces_S512x1024_S512 (.inl rfl) rfl (ix1 r)).trans
    (Finset.sum_congr rfl fun k _ => congrArg v (lift_row r k))

theorem col_sum (v : FVec Ideal S512x1024 .f32) (i : Fin 1024) :
    multiReduction .add [0] S1024 v 0x00000000#32 reduces_S512x1024_S1024 (.inl rfl) rfl (ix1 i) = ∑ r : Fin 512, v (ix2 r i) :=
  (Ideal.multiReduction_add_single v _ reduces_S512x1024_S1024 (.inl rfl) rfl (ix1 i)).trans
    (Finset.sum_congr rfl fun r _ => congrArg v (lift_col i r))

theorem keep_apply (v : FVec Ideal S512 .f32) (r : Fin 512) : shapeCast S512x1 v shapeCasts_S512_S512x1 (ix2 r (0 : Fin 1)) = v (ix1 r) :=
  shapeCast_apply v shapeCasts_S512_S512x1 (ix2 r (0 : Fin 1)) (ix1 r) (by
    rw [Shape.rowMajor_val_one, Shape.rowMajor_val_two]
    show r.val = r.val * 1 + 0
    omega)

theorem row_apply (v : FVec Ideal S1024 .f32) (i : Fin 1024) : shapeCast S1x1024 v shapeCasts_S1024_S1x1024 (ix2 (0 : Fin 1) i) = v (ix1 i) :=
  shapeCast_apply v shapeCasts_S1024_S1x1024 (ix2 (0 : Fin 1) i) (ix1 i) (by
    rw [Shape.rowMajor_val_one, Shape.rowMajor_val_two]
    show i.val = 0 * 1024 + i.val
    omega)

theorem lanes_apply (v : FVec Ideal S512x1 .f32) (r : Fin 512) (i : Fin 1024) :
    broadcastTo S512x1024 v broadcasts_S512x1_S512x1024 (ix2 r i) = v (ix2 r (0 : Fin 1)) :=
  broadcastTo_apply v broadcasts_S512x1_S512x1024 (ix2 r i) (ix2 r (0 : Fin 1)) (fun a => by
    match a with
    | ⟨0, _⟩ => rfl
    | ⟨1, _⟩ => rfl)

theorem rows_apply (v : FVec Ideal S1x1024 .f32) (r : Fin 512) (i : Fin 1024) :
    broadcastTo S512x1024 v broadcasts_S1x1024_S512x1024 (ix2 r i) = v (ix2 (0 : Fin 1) i) :=
  broadcastTo_apply v broadcasts_S1x1024_S512x1024 (ix2 r i) (ix2 (0 : Fin 1) i) (fun a => by
    match a with
    | ⟨0, _⟩ => rfl
    | ⟨1, _⟩ => rfl)

theorem pay3_apply (x0 : S512x1024.Idx → EReal) (x1 : S1024x1024.Idx → EReal) (r : Fin 512) (i : Fin 1024) :
    k0_pay3 (F := Ideal) x0 x1 (ix2 r i) = ∑ j : Fin 1024, x0 (ix2 r j) * x1 (ix2 i j) := by
  unfold k0_pay3
  simp only [shapeCast_self]
  refine (Ideal.matmul_constant_zero_apply (φ₁ := .bf16) (φ₂ := .bf16) dot_S512x1024_S1024x1024_S512x1024_1_1_0_0_n_n none x0 x1 (ix2 r i)).trans ?_
  rw [← Equiv.sum_comp (contrEquiv1 dot_S512x1024_S1024x1024_S512x1024_1_1_0_0_n_n 1024 rfl rfl).symm]
  refine Finset.sum_congr rfl fun j _ => ?_
  have hk := contrEquiv1_symm_val dot_S512x1024_S1024x1024_S512x1024_1_1_0_0_n_n 1024 rfl rfl j
  have el : dot_S512x1024_S1024x1024_S512x1024_1_1_0_0_n_n.lhsIdx (ix2 r i) ((contrEquiv1 dot_S512x1024_S1024x1024_S512x1024_1_1_0_0_n_n 1024 rfl rfl).symm j) = ix2 r j := by
    funext a; apply Fin.ext
    match a with
    | ⟨0, _⟩ => rfl
    | ⟨1, _⟩ => exact hk
  have er : dot_S512x1024_S1024x1024_S512x1024_1_1_0_0_n_n.rhsIdx (ix2 r i) ((contrEquiv1 dot_S512x1024_S1024x1024_S512x1024_1_1_0_0_n_n 1024 rfl rfl).symm j) = ix2 i j := by
    funext a; apply Fin.ext
    match a with
    | ⟨0, _⟩ => rfl
    | ⟨1, _⟩ => exact hk
  rw [el, er]

theorem pay4_eq (x2 : S512x1024.Idx → EReal) : k0_pay4 (F := Ideal) x2 = x2 := by unfold k0_pay4; exact shapeCast_self _ _

theorem pay5_apply (x2 : S512x1024.Idx → EReal) (r : Fin 512) : k0_pay5 (F := Ideal) x2 (ix2 r (0 : Fin 1)) = rms fun k => x2 (ix2 r k) := by
  unfold k0_pay5 rms
  rw [pay4_eq]
  refine congrArg (fun s : EReal => Ideal.rsqrt (Ideal.div s cN + cE)) ?_
  exact (keep_apply _ r).trans (row_sum _ r)

theorem pay6_apply (x2 : S512x1024.Idx → EReal) (r : Fin 512) (i : Fin 1024) : k0_pay6 (F := Ideal) x2 (ix2 r i) = nrm (fun k => x2 (ix2 r k)) i := by
  unfold k0_pay6 nrm
  rw [pay4_eq]
  exact congrArg (x2 (ix2 r i) * ·) ((lanes_apply _ r i).trans (pay5_apply x2 r))

theorem pay7_apply (x0 : S512x1024.Idx → EReal) (x1 : S1024x1024.Idx → EReal) (x2 : S512x1024.Idx → EReal) (x3 : S1x1024.Idx → EReal)
    (r : Fin 512) (i : Fin 1024) : k0_pay7 (F := Ideal) x0 x1 x2 x3 (ix2 r i)
      = dxr (fun i => ∑ j : Fin 1024, x0 (ix2 r j) * x1 (ix2 i j)) (fun k => x2 (ix2 r k)) (fun k => x3 (ix2 (0 : Fin 1) k)) (fun _ => 0) i := by
  have e3 := pay3_apply x0 x1
  have e6 := pay6_apply x2
  have e5 := pay5_apply x2
  unfold k0_pay7 dxr
  generalize k0_pay3 (F := Ideal) x0 x1 = p3 at e3 ⊢
  generalize k0_pay6 (F := Ideal) x2 = p6 at e6 ⊢
  generalize k0_pay5 (F := Ideal) x2 = p5 at e5 ⊢
  simp only [shapeCast_self]
  have hs : shapeCast S512x1 (multiReduction .add [1] S512 (mulf (mulf p3 (broadcastTo S512x1024 x3 broadcasts_S1x1024_S512x1024)) p6) 0x00000000#32
      reduces_S512x1024_S512 (.inl rfl) rfl) shapeCasts_S512_S512x1 (ix2 r (0 : Fin 1))
      = ∑ k : Fin 1024, (∑ j : Fin 1024, x0 (ix2 r j) * x1 (ix2 k j)) * x3 (ix2 (0 : Fin 1) k) * nrm (fun k => x2 (ix2 r k)) k := by
    refine ((keep_apply _ r).trans (row_sum _ r)).trans (Finset.sum_congr rfl fun k _ => ?_)
    exact congrArg₂ (· * ·) (congrArg₂ (· * ·) (e3 r k) (rows_apply x3 r k)) (e6 r k)
  rw [add_zero]
  refine (congrArg₂ (· * ·) ((lanes_apply p5 r i).trans (e5 r)) (congrArg₂ (· - ·)
    (congrArg₂ (· * ·) (e3 r i) (rows_apply x3 r i)) (congrArg₂ (· * ·) (e6 r i) ?_)))
  refine (lanes_apply _ r i).trans ?_
  exact congrArg (Ideal.div · cN) hs

theorem pay1_apply (d n : S512x1024.Idx → EReal) (v : S1x1024.Idx → EReal) (i : Fin 1024) :
    k0_pay1 (F := Ideal) (k0_pay8 v) (mulf (F := Ideal) (φ := .f32) d n) (ix2 (0 : Fin 1) i) = v (ix2 (0 : Fin 1) i) + ∑ r : Fin 512, d (ix2 r i) * n (ix2 r i) := by
  unfold k0_pay1 k0_pay8
  simp only [shapeCast_self]
  exact congrArg (v (ix2 (0 : Fin 1) i) + ·) ((row_apply _ i).trans (col_sum _ i))

theorem pay2_apply (y : S8x1024.Idx) : k0_pay2 (F := Ideal) y = 0 := by
  unfold k0_pay2
  exact Ideal.ofBits_zero_f32

/-! ## What the one point leaves -/

variable (m : (ℓ : Loc nD τ sig) → Buf (Elt Ideal) ℓ) (c : Dev nD)

theorem out4 (t : Fin cfg0.N) : (outsAt0 (F := Ideal) m c t).1
    = k0_pay7 (F := Ideal) (iblk m c 0 t) (iblk m c 1 t) (iblk m c 2 t) (iblk m c 3 t) := by
  unfold outsAt0; frame_out

/-- The gain gradient, in row 0 of eight. -/
def ggA (d : S512x1024.Idx → EReal) (w : S1024x1024.Idx → EReal) (x : S512x1024.Idx → EReal) : S8x1024.Idx → EReal := fun y =>
  if (y 0).val = 0 then ∑ r : Fin 512, (∑ j : Fin 1024, d (ix2 r j) * w (ix2 (y 1) j)) * nrm (fun k => x (ix2 r k)) (y 1) else 0

/-- The input gradient of all rows. -/
def dxA (d : S512x1024.Idx → EReal) (w : S1024x1024.Idx → EReal) (x : S512x1024.Idx → EReal) (g : S1x1024.Idx → EReal) : S512x1024.Idx → EReal :=
  fun y => dxr (fun i => ∑ j : Fin 1024, d (ix2 (y 0) j) * w (ix2 i j)) (fun k => x (ix2 (y 0) k)) (fun k => g (ix2 (0 : Fin 1) k)) (fun _ => 0) (y 1)

theorem add_part (x0 : S512x1024.Idx → EReal) (x1 : S1024x1024.Idx → EReal) (x2 : S512x1024.Idx → EReal) (v : S1x1024.Idx → EReal) (a : Fin 8) (i : Fin 1024) (ha : a.val = 0) :
    k0_pay1 (F := Ideal) (k0_pay8 v) (k0_pay9 x0 x1 x2) (ix2 (0 : Fin 1) i) = v (ix2 (0 : Fin 1) i) + ggA x0 x1 x2 (ix2 a i) := by
  refine (pay1_apply (k0_pay3 (F := Ideal) x0 x1) (k0_pay6 (F := Ideal) x2) v i).trans (congrArg (v (ix2 (0 : Fin 1) i) + ·) ?_)
  unfold ggA
  refine Eq.trans ?_ (if_pos ha).symm
  exact Finset.sum_congr rfl fun r _ => congrArg₂ (· * ·) (pay3_apply x0 x1 r i) (pay6_apply x2 r i)

theorem out5 (t : Fin cfg0.N) (y : S8x1024.Idx) : (outsAt0 (F := Ideal) m c t).2 y
    = ggA (iblk (F := Ideal) m c 0 t) (iblk (F := Ideal) m c 1 t) (iblk (F := Ideal) m c 2 t) y := by
  unfold outsAt0; frame_out
  obtain ⟨a, i, rfl⟩ : ∃ (a : Fin 8) (i : Fin 1024), y = ix2 a i := ⟨y 0, y 1, eq_ix2 y⟩
  by_cases ha : a.val = 0
  · have hy : (Rect.unit (s := S8x1024) ![0, 0] S1x1024.size inb_S8x1024_S1x1024_0_0).emb (ix2 (0 : Fin 1) i) = ix2 a i :=
      unit_emb _ _ _ _ _ _ (by show 0 + 0 = a.val; omega) (Nat.zero_add _)
    rw [← hy]
    refine (View.canon_cons_emb (Val := Elt Ideal) (s := S8x1024) (e := .f32) (Rect.unit (s := S8x1024) ![0, 0] S1x1024.size inb_S8x1024_S1x1024_0_0) _ _ (ix2 (0 : Fin 1) i)).trans ?_
    rw [hy]
    refine (add_part _ _ _ _ a i ha).trans (Eq.trans (congrArg (· + _) ?_) (zero_add _))
    refine Eq.trans ?_ (pay2_apply (ix2 a i))
    refine Eq.trans ?_ (congrArg (k0_pay2 (F := Ideal)) hy)
    exact congrFun (View.read_writes_full (Val := Elt Ideal) (ms0_5 t).view _ inb_S8x1024_S8x1024_0_0 (k0_pay2 (F := Ideal)) []) _
  · have hp : ggA (iblk (F := Ideal) m c 0 t) (iblk (F := Ideal) m c 1 t) (iblk (F := Ideal) m c 2 t) (ix2 a i) = 0 := if_neg ha
    rw [hp]
    refine (View.canon_cons_of_not_mem (Val := Elt Ideal) (s := S8x1024) (e := .f32) _ _ fun h => ?_).trans ?_
    · rw [Rect.mem_set_unit] at h
      have h1 : a.val < 0 + 1 := (h 0).2
      omega
    · exact (congrFun (View.canon_cons_unit_lit (Val := Elt Ideal) (S := S8x1024) (e := .f32) (off := ![0, 0]) _ _ [] (by decide)) _).trans (pay2_apply _)

/-! ## The arrays -/

/-- The gradients of the keys and values, as the kernel finds them, -/
abbrev dV : S512x1024.Idx → EReal := V (F := Ideal) m c main_v0
/-- the weights, -/
abbrev wV : S1024x1024.Idx → EReal := V (F := Ideal) m c main_v2
/-- the rows, -/
abbrev xV : S512x1024.Idx → EReal := V (F := Ideal) m c main_v3
/-- and the gains. -/
abbrev gV : S1x1024.Idx → EReal := V (F := Ideal) m c main_arg1

theorem blk0 : iblk (F := Ideal) m c 0 (0 : Fin 1) = dV m c := funext fun y =>
  congrArg (dV m c) (emb_id (n0 := 512) (n1 := 1024) (fun a => win0_0.index (0 : Fin 1) a * (![512, 1024] : Fin 2 → ℕ) a) _ rfl rfl y)
theorem blk1 : iblk (F := Ideal) m c 1 (0 : Fin 1) = wV m c := funext fun y =>
  congrArg (wV m c) (emb_id (n0 := 1024) (n1 := 1024) (fun a => win0_1.index (0 : Fin 1) a * (![1024, 1024] : Fin 2 → ℕ) a) _ rfl rfl y)
theorem blk2 : iblk (F := Ideal) m c 2 (0 : Fin 1) = xV m c := funext fun y =>
  congrArg (xV m c) (emb_id (n0 := 512) (n1 := 1024) (fun a => win0_2.index (0 : Fin 1) a * (![512, 1024] : Fin 2 → ℕ) a) _ rfl rfl y)
theorem blk3 : iblk (F := Ideal) m c 3 (0 : Fin 1) = gV m c := funext fun y =>
  congrArg (gV m c) (emb_id (n0 := 1) (n1 := 1024) (fun a => win0_3.index (0 : Fin 1) a * (![1, 1024] : Fin 2 → ℕ) a) _ rfl rfl y)
theorem final4 : (dats (F := Ideal) m 0 c).arrAt 4 cfg0.N = dxA (dV m c) (wV m c) (xV m c) (gV m c) := funext fun y => by
  refine (congrArg ((dats (F := Ideal) m 0 c).arrAt 4 cfg0.N) (emb_id (n0 := 512) (n1 := 1024) (fun a => win0_4.index (0 : Fin 1) a * (![512, 1024] : Fin 2 → ℕ) a) _ rfl rfl y)).symm.trans
    ((congrFun (Value.blocks4 m c (0 : Fin 1) (flush0_4 _)) y).trans ((congrFun (Value.flushed4 (F := Ideal) m c (0 : Fin 1)) y).trans ?_))
  refine (congrFun (out4 m c (0 : Fin 1)) y).trans ?_
  rw [blk0, blk1, blk2, blk3, eq_ix2 y]
  exact pay7_apply _ _ _ _ _ _
theorem final5 : (dats (F := Ideal) m 0 c).arrAt 5 cfg0.N = ggA (dV m c) (wV m c) (xV m c) := funext fun y => by
  refine (congrArg ((dats (F := Ideal) m 0 c).arrAt 5 cfg0.N) (emb_id (n0 := 8) (n1 := 1024) (fun a => win0_5.index (0 : Fin 1) a * (![8, 1024] : Fin 2 → ℕ) a) _ rfl rfl y)).symm.trans
    ((congrFun (Value.blocks5 m c (0 : Fin 1) (flush0_5 _)) y).trans ((congrFun (Value.flushed5 (F := Ideal) m c (0 : Fin 1)) y).trans ?_))
  refine (out5 m c (0 : Fin 1) y).trans ?_
  rw [blk0, blk1, blk2]

/-! ## The run on the arguments -/

abbrev argX : S2x256x1024.Idx → EReal := m ((c : Thread nD τ).loc main_arg0)
abbrev argG : S1x1024.Idx → EReal := m ((c : Thread nD τ).loc main_arg1)
abbrev argW : S1x1024x1024.Idx → EReal := m ((c : Thread nD τ).loc main_arg2)
abbrev argD : S2x256x1024.Idx → EReal := m ((c : Thread nD τ).loc main_arg3)

theorem dV_eq : dV m c = shapeCast S512x1024 (argD m c) shapeCasts_S2x256x1024_S512x1024 := by
  unfold dV V
  after_reads_simp
  rfl
theorem wV_eq : wV m c = shapeCast S1024x1024 (argW m c) shapeCasts_S1x1024x1024_S1024x1024 := by
  unfold wV V
  after_reads_simp
  rfl
theorem xV_eq : xV m c = shapeCast S512x1024 (argX m c) shapeCasts_S2x256x1024_S512x1024 := by
  unfold xV V
  after_reads_simp
  rfl
theorem gV_eq : gV m c = argG m c := V_main_arg1 m c

/-- A row's gradient before the norm. -/
def dhr (w : S1x1024x1024.Idx → EReal) (d : S2x256x1024.Idx → EReal) (b : Fin 2) (s : Fin 256) (i : Fin 1024) : EReal :=
  ∑ k : Fin 1024, d (ix3 b s k) * w (ix3 (0 : Fin 1) i k)

/-- The input gradient by rows, -/
def dxF (x : S2x256x1024.Idx → EReal) (g : S1x1024.Idx → EReal) (w : S1x1024x1024.Idx → EReal) (d : S2x256x1024.Idx → EReal) : S512x1024.Idx → EReal :=
  fun y => dxr (dhr w d (bat (y 0)) (pos (y 0))) (fun k => x (ix3 (bat (y 0)) (pos (y 0)) k)) (fun k => g (ix2 (0 : Fin 1) k)) (fun _ => 0) (y 1)
/-- and the gain gradient in row 0 of eight. -/
def ggF (x : S2x256x1024.Idx → EReal) (w : S1x1024x1024.Idx → EReal) (d : S2x256x1024.Idx → EReal) : S8x1024.Idx → EReal :=
  fun y => if (y 0).val = 0 then ∑ b : Fin 2, ∑ s : Fin 256, dhr w d b s (y 1) * nrm (fun k => x (ix3 b s k)) (y 1) else 0

theorem dh_eq (r : Fin 512) (i : Fin 1024) : ∑ j : Fin 1024, dV m c (ix2 r j) * wV m c (ix2 i j) = dhr (argW m c) (argD m c) (bat r) (pos r) i := by
  rw [dV_eq, wV_eq]
  exact Finset.sum_congr rfl fun j _ => congrArg₂ (· * ·) (flat_apply _ _ r j) (drop_apply _ _ i j)

theorem xV_apply (r : Fin 512) (i : Fin 1024) : xV m c (ix2 r i) = argX m c (ix3 (bat r) (pos r) i) := by
  rw [xV_eq]; exact flat_apply _ _ r i

theorem dx_eq : dxA (dV m c) (wV m c) (xV m c) (gV m c) = dxF (argX m c) (argG m c) (argW m c) (argD m c) := funext fun y => by
  obtain ⟨r, i, rfl⟩ : ∃ (r : Fin 512) (i : Fin 1024), y = ix2 r i := ⟨y 0, y 1, eq_ix2 y⟩
  show dxr _ _ _ _ i = dxr _ _ _ _ i
  have e0 : (fun i => ∑ j : Fin 1024, dV m c (ix2 r j) * wV m c (ix2 i j)) = dhr (argW m c) (argD m c) (bat r) (pos r) := funext fun i => dh_eq m c r i
  have e2 : (fun k => xV m c (ix2 r k)) = fun k => argX m c (ix3 (bat r) (pos r) k) := funext fun k => xV_apply m c r k
  have e3 : (fun k => gV m c (ix2 (0 : Fin 1) k)) = fun k => argG m c (ix2 (0 : Fin 1) k) := funext fun k => congrFun (gV_eq m c) _
  exact congrFun (congrFun (congr (congrArg₂ dxr e0 e2) e3) _) i

theorem gg_eq : ggA (dV m c) (wV m c) (xV m c) = ggF (argX m c) (argW m c) (argD m c) := funext fun y => by
  obtain ⟨a, i, rfl⟩ : ∃ (a : Fin 8) (i : Fin 1024), y = ix2 a i := ⟨y 0, y 1, eq_ix2 y⟩
  unfold ggA ggF
  refine congrArg (fun s : EReal => if a.val = 0 then s else 0) ?_
  refine (Finset.sum_congr rfl fun r _ => congrArg₂ (· * ·) (dh_eq m c r i) (congrArg (fun f => nrm f i) (funext fun k => xV_apply m c r k))).trans ?_
  refine (sum_tok (fun r => dhr (argW m c) (argD m c) (bat r) (pos r) i * nrm (fun k => argX m c (ix3 (bat r) (pos r) k)) i)).trans ?_
  refine Finset.sum_congr rfl fun b _ => Finset.sum_congr rfl fun s _ => ?_
  rw [bat_tok, pos_tok]

/-- The kernel's run: the results as functions of the arguments, the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v4_0) = dxF (argX m c) (argG m c) (argW m c) (argD m c)
      ∧ r.2.mem ((c : Thread nD τ).loc main_v4_1) = ggF (argX m c) (argW m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨((h c).1.trans (final4 m c)).trans (dx_eq m c), ((h c).2.1.trans (final5 m c)).trans (gg_eq m c), (h c).2.2⟩)
    (Value.run_blocks (F := Ideal) m ρ)

end Cert.KvGradIdeal.Val
-- ==== Proof.KvGRef.lean ====
/-
  The memory norm's reference gradients, one operation at a time, as functions of the arguments.
-/
module
public import proofs.«01_k».proof.Proof.KvGRun
public import proofs.«01_k».proof.Proof.InRef
public import proofs.«01_k».proof.Proof.Gen.KvGradRefIdeal.Read
@[expose] public section
set_option maxRecDepth 16384
noncomputable section
namespace Cert.KvGradRefIdeal.Val
open Idealize.ShloMosaic hiding ix1 ix2 ix3 eq_ix1 eq_ix2 eq_ix3
open Idealize.ShloMosaic.ValueIdx Cert.KvGradRefIdeal Cert.KvGradRefIdeal.Gen Cert.KvGradRefIdeal.Read Cert.KvRows
open Cert.InGradIdeal.Val (rms nrm dxr msq dxd cN cE cH rms_def dx_forms)
open Cert.InGradRefIdeal.Val (at1 at2 at3 sum_two zero_bits)
open Cert.KvGradIdeal.Val (dhr dxF ggF)
open scoped BigOperators

variable (x : S2x256x1024.Idx → EReal) (g : S1x1024.Idx → EReal) (w : S1x1024x1024.Idx → EReal) (d : S2x256x1024.Idx → EReal)
variable (b : Fin 2) (s : Fin 256) (i : Fin 1024)

/-- A row. -/
abbrev row : Fin 1024 → EReal := fun k => x (ix3 b s k)
/-- The gains. -/
abbrev gain : Fin 1024 → EReal := fun k => g (ix2 (0 : Fin 1) k)

theorem msq_at : val_main_v7 (F := Ideal) x (ix3 b s (0 : Fin 1)) = msq (row x b s) := by
  rw [val_main_v7_apply, val_main_v5_apply, val_main_v3_apply, val_main_v4_apply, val_main_v6_apply, val_main_cst_0_apply, val_main_cst_1_apply,
    at2 (idx_main_v3 (ix3 b s (0 : Fin 1))) b s rfl rfl, val_main_v2_apply, val_main_cst_apply, zero_bits, zero_add]
  have e : ∀ k : Fin 1024, val_main_v1 (F := Ideal) x (idx_main_v2 (ix2 b s) k) = x (ix3 b s k) * x (ix3 b s k) := fun k => by
    rw [val_main_v1_apply, at3 (idx_main_v2 (ix2 b s) k) b s k rfl rfl rfl]; rfl
  rw [Finset.sum_congr rfl fun k _ => e k]
  rfl

theorem rms_at : val_main_v8 (F := Ideal) x (ix3 b s (0 : Fin 1)) = rms (row x b s) := by
  rw [val_main_v8_apply, msq_at, rms_def]
  rfl

theorem quot_at : val_main_v11 (F := Ideal) x (ix3 b s (0 : Fin 1)) = cH * Ideal.div (rms (row x b s)) (msq (row x b s)) := by
  rw [val_main_v11_apply, val_main_v10_apply, val_main_cst_2_apply, val_main_v9_apply, rms_at, msq_at]
  rfl

theorem nrm_at : val_main_v13 (F := Ideal) x (ix3 b s i) = nrm (row x b s) i := by
  rw [val_main_v13_apply, val_main_v12_apply, at3 (idx_main_v12 (ix3 b s i)) b s (0 : Fin 1) rfl rfl rfl, rms_at]
  rfl

theorem gain_at : val_main_v27 (F := Ideal) g (ix3 b s i) = gain g i := by
  rw [val_main_v27_apply, val_main_v14_apply, val_main_v0_apply]
  refine congrArg g (at2 _ _ _ rfl ?_)
  show i.val % 1024 = i.val
  omega

theorem dh_at : val_main_v22 (F := Ideal) w d (ix3 b s i) = dhr w d b s i := by
  rw [val_main_v22_apply]
  refine Finset.sum_congr rfl fun k _ => ?_
  rw [val_main_v19_apply, val_main_v17_apply]
  refine congrArg₂ (· * ·) (congrArg d (at3 _ b s k rfl rfl rfl)) (congrArg w (at3 _ (0 : Fin 1) i k rfl ?_ ?_))
  · show (i.val * 1024 + k.val) / 1024 % 1024 = i.val
    omega
  · show (i.val * 1024 + k.val) % 1024 = k.val
    omega

theorem dn_at : val_main_v28 (F := Ideal) g w d (ix3 b s i) = dhr w d b s i * gain g i := by
  rw [val_main_v28_apply, dh_at, gain_at]
  rfl

theorem t_at : val_main_v39 (F := Ideal) x g w d (ix3 b s i)
    = Ideal.div ((∑ k : Fin 1024, row x b s k * (dhr w d b s k * gain g k)) * (cH * Ideal.div (rms (row x b s)) (msq (row x b s)))) cN := by
  rw [val_main_v39_apply, at2 (idx_main_v39 (ix3 b s i)) b s rfl rfl, val_main_v38_apply, val_main_cst_7_apply, zero_bits, zero_add, Fin.sum_univ_one,
    at3 (idx_main_v38 (ix2 b s) 0) b s (0 : Fin 1) rfl rfl rfl, val_main_v37_apply, val_main_v35_apply, val_main_v36_apply, val_main_cst_6_apply, quot_at,
    val_main_v32_apply, at2 (idx_main_v32 (ix3 b s (0 : Fin 1))) b s (show ((b.val * 256 + s.val) * 1 + 0) / 256 = b.val by omega)
      (show ((b.val * 256 + s.val) * 1 + 0) % 256 = s.val by omega), val_main_v31_apply, val_main_cst_5_apply, zero_bits, zero_add]
  have e : ∀ k : Fin 1024, val_main_v30 (F := Ideal) x g w d (idx_main_v31 (ix2 b s) k) = row x b s k * (dhr w d b s k * gain g k) := fun k => by
    rw [at3 (idx_main_v31 (ix2 b s) k) b s k rfl rfl rfl, val_main_v30_apply, dn_at]; rfl
  rw [Finset.sum_congr rfl fun k _ => e k]
  rfl

theorem dx_at : val_main_v43 (F := Ideal) x g w d (ix3 b s i) = dxr (dhr w d b s) (row x b s) (gain g) (fun _ => 0) i := by
  rw [val_main_v43_apply, val_main_v41_apply, val_main_v42_apply, val_main_v40_apply, val_main_v34_apply, val_main_v33_apply, t_at, dn_at,
    at3 (idx_main_v33 (ix3 b s i)) b s (0 : Fin 1) rfl rfl rfl, rms_at, ← dx_forms (dhr w d b s) (row x b s) (gain g) (fun _ => 0) i]
  unfold dxd
  rw [zero_add]
  rfl

theorem dx_res : val_main_v45 (F := Ideal) x g w d = dxF x g w d := funext fun y => by
  obtain ⟨r, i, rfl⟩ : ∃ (r : Fin 512) (i : Fin 1024), y = ix2 r i := ⟨y 0, y 1, eq_ix2 y⟩
  rw [val_main_v45_apply, at3 (idx_main_v45 (ix2 r i)) (bat r) (pos r) i (show (r.val * 1024 + i.val) / 262144 = r.val / 256 by omega)
    (show (r.val * 1024 + i.val) / 1024 % 256 = r.val % 256 by omega) (show (r.val * 1024 + i.val) % 1024 = i.val by omega), dx_at]
  rfl

theorem gg_at : val_main_v25 (F := Ideal) x w d (ix1 i) = ∑ b : Fin 2, ∑ s : Fin 256, dhr w d b s i * nrm (row x b s) i := by
  have e : ∀ b s, val_main_v24 (F := Ideal) x w d (ix3 b s i) = dhr w d b s i * nrm (row x b s) i := fun b s => by
    rw [val_main_v24_apply, nrm_at, dh_at]
    exact mul_comm (G := EReal) _ _
  unfold val_main_v25
  generalize val_main_v24 (F := Ideal) x w d = y at e
  simp only [Host.reduceAdd, Ideal.hostReduceAdd_def]
  rw [sum_two, val_main_cst_3_apply, zero_bits, zero_add]
  exact Finset.sum_congr rfl fun b _ => Finset.sum_congr rfl fun s _ => e b s

theorem gg_row : val_main_v44 (F := Ideal) x w d (ix2 (0 : Fin 1) i) = ∑ b : Fin 2, ∑ s : Fin 256, dhr w d b s i * nrm (row x b s) i := by
  rw [val_main_v44_apply, at1 (idx_main_v44 (ix2 (0 : Fin 1) i)) i rfl]
  have e : val_main_v26 (F := Ideal) x w d (ix3 (0 : Fin 1) (0 : Fin 1) i) = ∑ b : Fin 2, ∑ s : Fin 256, dhr w d b s i * nrm (row x b s) i := by
    rw [val_main_v26_apply, at1 (idx_main_v26 (ix3 (0 : Fin 1) (0 : Fin 1) i)) i (show (0 * 1 + 0) * 1024 + i.val = i.val by omega), gg_at]
  unfold val_main_v29
  generalize val_main_v26 (F := Ideal) x w d = y at e
  simp only [Host.reduceAdd, Ideal.hostReduceAdd_def]
  rw [sum_two, val_main_cst_4_apply, zero_bits, zero_add, Fin.sum_univ_one, Fin.sum_univ_one]
  exact e

theorem gg_res : val_main_v46 (F := Ideal) x w d = ggF x w d := funext fun y => by
  have e := gg_row x w d
  obtain ⟨a, i, rfl⟩ : ∃ (a : Fin 8) (i : Fin 1024), y = ix2 a i := ⟨y 0, y 1, eq_ix2 y⟩
  unfold ggF
  show _ = if a.val = 0 then ∑ b : Fin 2, ∑ s : Fin 256, dhr w d b s i * nrm (fun k => x (ix3 b s k)) i else 0
  unfold val_main_v46
  generalize val_main_v44 (F := Ideal) x w d = v at e
  rw [← e]
  have ha : (ix2 a i 0).val = a.val := rfl
  have hi : (ix2 a i 1).val = i.val := rfl
  have hz : val_main_call0_v0 (F := Ideal) (Shape.Idx.first h_S_) = 0 := by
    show (((0#32 : BitVec 32).toInt : ℝ) : EReal) = 0
    simp
  pointwise
  rw [hz]
  by_cases h0 : a.val = 0
  · rw [if_pos h0, dif_pos (by rw [ha]; omega)]
    exact congrArg v (at2 _ _ _ h0 rfl)
  · rw [if_neg h0, dif_neg (by rw [ha]; omega)]

end Cert.KvGradRefIdeal.Val
-- ==== Proof.KvGClaim.lean ====
/-
  The memory norm's input and gain gradients: the claims.
-/
module
public import proofs.«01_k».proof.Defs
public import proofs.«01_k».proof.Proof.KvGRef
public import Idealize.ShloMosaic.Lib.Quiescent
@[expose] public section
set_option maxRecDepth 16384
noncomputable section
namespace Cert.KvGClaim
open Idealize.ShloMosaic hiding ix2 ix3 eq_ix2 eq_ix3
open Idealize.ShloMosaic.ValueIdx Idealize.SL.Sem
open Cert.KvGradIdeal.Val Cert.KvGradRefIdeal.Val Cert.KvGradRefIdeal.Read

theorem frame_ref : Cert.quiescent_KvGradRefIdeal := fun m ρ _ =>
  (θ_run Cert.KvGradRefIdeal.defs _ _).mono
    (fun r h => ⟨fun c => (h c).2.2, sem_eq_zero_of_no_sems (by decide) r.2⟩) (Cert.KvGradRefIdeal.Value.run (F := Ideal) m ρ)

theorem algebraic : Cert.algebraic_KvGradIdeal_KvGradRefIdeal := fun m g m' g' _ hagree =>
  ⟨fun c => dxF (argX m c) (argG m c) (argW m c) (argD m c), fun c => ggF (argX m c) (argW m c) (argD m c), run m g,
    (θ_run Cert.KvGradRefIdeal.defs _ _).mono (fun r h c => by
      obtain ⟨h4, h5, ha⟩ := h c
      obtain ⟨a0, a1, a2, a3⟩ := hagree c
      refine ⟨h4.trans ?_, h5.trans ?_, ha⟩
      · rw [val_main_v45_eq, a0, a1, a2, a3]; exact dx_res _ _ _ _
      · rw [val_main_v46_eq, a0, a2, a3]; exact gg_res _ _ _) (Cert.KvGradRefIdeal.Value.run (F := Ideal) m' g')⟩

end Cert.KvGClaim
-- ==== Proof.KvPRun.lean ====
/-
  The memory projection's forward kernel: its two blocks put together into the product of the normalized rows with the weights, and
  its run beside the reference's product.
-/
module
public import proofs.«01_k».proof.Proof.Gen.KvProjIdeal.Value
public import proofs.«01_k».proof.Proof.Gen.KvProjRefIdeal.Read
public import proofs.«01_k».proof.Proof.KvRows
public import proofs.«01_k».proof.Proof.InRef
public import Idealize.ShloMosaic.Lib.Pipeline.ValueKit.Tiles
public import Idealize.ShloMosaic.Lib.StableHlo.ReadAt
@[expose] public section
set_option maxRecDepth 16384
noncomputable section
namespace Cert.KvProjIdeal.Val
open Idealize.ShloMosaic hiding ix2 ix3 eq_ix2 eq_ix3
open Idealize.ShloMosaic.ValueIdx Idealize.ShloMosaic.TcCoe Cert.KvProjIdeal Cert.KvProjIdeal.Gen Cert.KvRows
open Cert.Cols (unit_emb mem_unit)
open Cert.InGradRefIdeal.Val (at2 at3)
open Idealize.SL.Sem
open scoped BigOperators

/-! ## One block -/

theorem mm_nn (l : S256x1024.Idx → EReal) (r : S1024x512.Idx → EReal) (k : Fin 256) (e : Fin 512) :
    matmul (F := Ideal) (φ₁ := .bf16) (φ₂ := .bf16) dot_S256x1024_S1024x512_S256x512_1_0_0_1_n_n none l r (constant S256x512 .f32 0x00000000#32) (ix2 k e)
      = ∑ i : Fin 1024, l (ix2 k i) * r (ix2 i e) := by
  refine (Ideal.matmul_constant_zero_apply (φ₁ := .bf16) (φ₂ := .bf16) _ none l r (ix2 k e)).trans ?_
  rw [← Equiv.sum_comp (contrEquiv1 dot_S256x1024_S1024x512_S256x512_1_0_0_1_n_n 1024 rfl rfl).symm]
  refine Finset.sum_congr rfl fun i _ => ?_
  have hk := contrEquiv1_symm_val dot_S256x1024_S1024x512_S256x512_1_0_0_1_n_n 1024 rfl rfl i
  have el : dot_S256x1024_S1024x512_S256x512_1_0_0_1_n_n.lhsIdx (ix2 k e) ((contrEquiv1 dot_S256x1024_S1024x512_S256x512_1_0_0_1_n_n 1024 rfl rfl).symm i) = ix2 k i := by
    funext a; apply Fin.ext
    match a with
    | ⟨0, _⟩ => rfl
    | ⟨1, _⟩ => exact hk
  have er : dot_S256x1024_S1024x512_S256x512_1_0_0_1_n_n.rhsIdx (ix2 k e) ((contrEquiv1 dot_S256x1024_S1024x512_S256x512_1_0_0_1_n_n 1024 rfl rfl).symm i) = ix2 i e := by
    funext a; apply Fin.ext
    match a with
    | ⟨0, _⟩ => exact hk
    | ⟨1, _⟩ => rfl
  rw [el, er]

/-- A block of the product. -/
def prodB (x0 : S512x1024.Idx → EReal) (x1 : S1024x512.Idx → EReal) : S512x512.Idx → EReal :=
  fun y => ∑ i : Fin 1024, x0 (ix2 (y 0) i) * x1 (ix2 i (y 1))

/-- One stored piece, from row `o`. -/
theorem piece (x0 : S512x1024.Idx → EReal) (x1 : S1024x512.Idx → EReal) (o : ℕ) (ho : o + 256 ≤ 512) (inb) (inb') (k : Fin 256) (e : Fin 512) :
    matmul (F := Ideal) (φ₁ := .bf16) (φ₂ := .bf16) dot_S256x1024_S1024x512_S256x512_1_0_0_1_n_n none
      (View.ld (Val := Elt Ideal) (S := S512x1024) (e' := .bf16) x0 (Rect.unit (s := S512x1024) ![o, 0] S256x1024.size inb)) x1 (constant S256x512 .f32 0x00000000#32) (ix2 k e)
      = prodB x0 x1 ((Rect.unit (s := S512x512) ![o, 0] S256x512.size inb').emb (ix2 k e)) := by
  rw [mm_nn]
  have h : (Rect.unit (s := S512x512) ![o, 0] S256x512.size inb').emb (ix2 k e) = ix2 (⟨o + k.val, by omega⟩ : Fin 512) e :=
    unit_emb _ _ _ _ _ _ rfl (Nat.zero_add _)
  rw [h]
  refine Finset.sum_congr rfl fun r _ => congrArg (· * _) ?_
  exact View.ld_unit_apply_of _ _ _ _ _ (ix2 (⟨o + k.val, by omega⟩ : Fin 512) r) (fun a => by
    match a with
    | ⟨0, _⟩ => rfl
    | ⟨1, _⟩ => exact (Nat.zero_add _).symm)

theorem ld_whole (x1 : Vec Ideal S1024x512 .bf16) : View.ld x1 r0_0 = x1 :=
  View.ld_unit_zero (S := S1024x512) (off := ![0, 0]) (by funext a; match a with | ⟨0, _⟩ => rfl | ⟨1, _⟩ => rfl) _ x1

theorem out_eq (x0 : S512x1024.Idx → EReal) (x1 : S1024x512.Idx → EReal) : out0_2 (F := Ideal) x0 x1 = prodB x0 x1 := by
  funext y
  unfold out0_2
  refine View.canon_apply_of_pieces (Val := Elt Ideal) (S := S512x512) (e := .bf16) (prodB x0 x1) _ ?_ y (cover0_2 _ _ y)
  intro p hp x
  simp only [List.mem_cons, List.not_mem_nil, or_false] at hp
  rcases hp with rfl | rfl
  · obtain ⟨k, e, rfl⟩ : ∃ (k : Fin 256) (e : Fin 512), x = ix2 k e := ⟨x 0, x 1, eq_ix2 x⟩
    dsimp only
    unfold k0_pay3 k0_pay1
    rw [ld_whole]
    simp only [shapeCast_self]
    exact piece x0 x1 256 (by decide) _ _ k e
  · obtain ⟨k, e, rfl⟩ : ∃ (k : Fin 256) (e : Fin 512), x = ix2 k e := ⟨x 0, x 1, eq_ix2 x⟩
    dsimp only
    unfold k0_pay2 k0_pay1
    rw [ld_whole]
    simp only [shapeCast_self]
    exact piece x0 x1 0 (by decide) _ _ k e

/-! ## The blocks of the arrays -/

variable (m : (ℓ : Loc nD τ sig) → Buf (Elt Ideal) ℓ) (c : Dev nD)

theorem idx0 : ∀ t : Fin 2,
    (win0_0.index t 0 = 0 ∧ win0_0.index t 1 = 0) ∧ (win0_1.index t 0 = 0 ∧ win0_1.index t 1 = t.val)
    ∧ (win0_2.index t 0 = 0 ∧ win0_2.index t 1 = t.val) := by decide +kernel

/-- Column `e` of block `t`. -/
def colAt (t : Fin 2) (e : Fin 512) : Fin 1024 := ⟨t.val * 512 + e.val, by omega⟩

/-- The normalized rows, as the kernel finds them, -/
abbrev hV : S512x1024.Idx → EReal := V (F := Ideal) m c main_v15
/-- and the weights. -/
abbrev wV : S1024x1024.Idx → EReal := V (F := Ideal) m c main_v17

theorem blk0 (t : Fin 2) (r : Fin 512) (i : Fin 1024) : iblk (F := Ideal) m c 0 t (ix2 r i) = hV m c (ix2 r i) :=
  congrArg (hV m c) (unit_emb (n0 := 512) (n1 := 1024) (fun a => win0_0.index t a * (![512, 1024] : Fin 2 → ℕ) a) ![512, 1024] _ (ix2 r i) r i
    (by show win0_0.index t 0 * 512 + r.val = r.val; rw [(idx0 t).1.1]; omega) (by show win0_0.index t 1 * 1024 + i.val = i.val; rw [(idx0 t).1.2]; omega))
theorem blk1 (t : Fin 2) (i : Fin 1024) (e : Fin 512) : iblk (F := Ideal) m c 1 t (ix2 i e) = wV m c (ix2 i (colAt t e)) :=
  congrArg (wV m c) (unit_emb (n0 := 1024) (n1 := 1024) (fun a => win0_1.index t a * (![1024, 512] : Fin 2 → ℕ) a) ![1024, 512] _ (ix2 i e) i (colAt t e)
    (by show win0_1.index t 0 * 1024 + i.val = i.val; rw [(idx0 t).2.1.1]; omega) (by show win0_1.index t 1 * 512 + e.val = t.val * 512 + e.val; rw [(idx0 t).2.1.2]))

/-- The block that holds an index. -/
def blkOf (i : S512x1024.Idx) : Fin 2 := ⟨(i 1).val / 512, by
  have h1 : (i 1).val < 1024 := (i 1).isLt
  omega⟩

/-- The whole product. -/
def prodA (h : S512x1024.Idx → EReal) (w : S1024x1024.Idx → EReal) : S512x1024.Idx → EReal :=
  fun y => ∑ i : Fin 1024, h (ix2 (y 0) i) * w (ix2 i (y 1))

theorem final : (dats (F := Ideal) m 0 c).arrAt 2 cfg0.N = prodA (hV m c) (wV m c) := by
  refine (dats (F := Ideal) m 0 c).arrAt_eq_of_cover 2 (prodA (hV m c) (wV m c)) (fun t _ => ?_) fun i => ⟨blkOf i, flush0_2 _, ?_⟩
  · rw [Value.flushed2]
    funext y
    rw [out_eq]
    have hy : (((cfg0.win 2).blk t).view.emb y : S512x1024.Idx) = ix2 (y 0) (colAt t (y 1)) :=
      unit_emb (n0 := 512) (n1 := 1024) (fun a => win0_2.index t a * (![512, 512] : Fin 2 → ℕ) a) ![512, 512] _ y (y 0) (colAt t (y 1))
        (by show win0_2.index t 0 * 512 + (y 0).val = (y 0).val; rw [(idx0 t).2.2.1]; omega) (by show win0_2.index t 1 * 512 + _ = t.val * 512 + _; rw [(idx0 t).2.2.2])
    show prodB (iblk (F := Ideal) m c 0 t) (iblk (F := Ideal) m c 1 t) y = prodA (hV m c) (wV m c) (((cfg0.win 2).blk t).view.emb y)
    rw [hy]
    exact Finset.sum_congr rfl fun r _ => congrArg₂ (· * ·) (blk0 m c t (y 0) r) (blk1 m c t r (y 1))
  · have h0 : (i 0).val < 512 := (i 0).isLt
    have h1 : (i 1).val < 1024 := (i 1).isLt
    show i ∈ ((View.whole main_v18).slice (win0_2.rect (blkOf i))).set
    rw [View.set_slice_whole]
    refine mem_unit (n0 := 512) (n1 := 1024) _ _ _ i ?_ ?_
    · show win0_2.index _ 0 * 512 ≤ (i 0).val ∧ (i 0).val < win0_2.index _ 0 * 512 + 512
      rw [(idx0 _).2.2.1]; omega
    · show win0_2.index _ 1 * 512 ≤ (i 1).val ∧ (i 1).val < win0_2.index _ 1 * 512 + 512
      rw [(idx0 _).2.2.2]
      show (i 1).val / 512 * 512 ≤ _ ∧ _ < (i 1).val / 512 * 512 + 512
      omega

/-! ## The run on the arguments -/

abbrev argX : S2x256x1024.Idx → EReal := m ((c : Thread nD τ).loc main_arg0)
abbrev argG : S1x1024.Idx → EReal := m ((c : Thread nD τ).loc main_arg1)
abbrev argW : S1x1024x1024.Idx → EReal := m ((c : Thread nD τ).loc main_arg2)

/-- The normalized rows, times their gains. -/
abbrev hn (x : S2x256x1024.Idx → EReal) (g : S1x1024.Idx → EReal) : S2x256x1024.Idx → EReal := Cert.KvProjRefIdeal.Read.val_main_v13 (F := Ideal) x g

theorem hV_eq : hV m c = shapeCast S512x1024 (hn (argX m c) (argG m c)) shapeCasts_S2x256x1024_S512x1024 := by
  unfold hV V
  after_reads_simp
  rfl
theorem wV_eq : wV m c = shapeCast S1024x1024 (argW m c) shapeCasts_S1x1024x1024_S1024x1024 := by
  unfold wV V
  after_reads_simp
  rfl

/-- The keys and values. -/
def kv (x : S2x256x1024.Idx → EReal) (g : S1x1024.Idx → EReal) (w : S1x1024x1024.Idx → EReal) : S512x1024.Idx → EReal :=
  fun y => ∑ i : Fin 1024, hn x g (ix3 (bat (y 0)) (pos (y 0)) i) * w (ix3 (0 : Fin 1) i (y 1))

theorem prod_eq : prodA (hV m c) (wV m c) = kv (argX m c) (argG m c) (argW m c) := funext fun y => by
  obtain ⟨r, j, rfl⟩ : ∃ (r : Fin 512) (j : Fin 1024), y = ix2 r j := ⟨y 0, y 1, eq_ix2 y⟩
  refine Finset.sum_congr rfl fun i _ => ?_
  rw [hV_eq, wV_eq]
  exact congrArg₂ (· * ·) (flat_apply _ _ r i) (drop_apply _ _ i j)

/-- The kernel's run: the result as a function of the arguments, the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v18) = kv (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨((h c).1.trans (final m c)).trans (prod_eq m c), (h c).2⟩) (Value.run_blocks (F := Ideal) m ρ)

/-! ## The reference -/

section
open Cert.KvProjRefIdeal.Read

theorem ref_eq (x : S2x256x1024.Idx → EReal) (g : S1x1024.Idx → EReal) (w : S1x1024x1024.Idx → EReal) : val_main_v17 (F := Ideal) x g w = kv x g w := funext fun y => by
  obtain ⟨r, j, rfl⟩ : ∃ (r : Fin 512) (j : Fin 1024), y = ix2 r j := ⟨y 0, y 1, eq_ix2 y⟩
  rw [val_main_v17_apply, at3 (idx_main_v17 (ix2 r j)) (bat r) (pos r) j (show (r.val * 1024 + j.val) / 262144 = r.val / 256 by omega)
    (show (r.val * 1024 + j.val) / 1024 % 256 = r.val % 256 by omega) (show (r.val * 1024 + j.val) % 1024 = j.val by omega)]
  refine (val_main_v15_apply x g w (ix3 (bat r) (pos r) j)).trans (Finset.sum_congr rfl fun i _ => congrArg₂ (· * ·) ?_ ?_)
  · exact congrArg (hn x g) (at3 _ (bat r) (pos r) i rfl rfl rfl)
  · rw [at2 (ridx_main_v15 (ix3 (bat r) (pos r) j) i) i j rfl rfl]
    exact drop_apply w _ i j
end
end Cert.KvProjIdeal.Val
-- ==== Proof.KvPClaim.lean ====
/-
  The memory projection: the claims.
-/
module
public import proofs.«01_k».proof.Defs
public import proofs.«01_k».proof.Proof.KvPRun
public import Idealize.ShloMosaic.Lib.Quiescent
@[expose] public section
set_option maxRecDepth 16384
noncomputable section
namespace Cert.KvPClaim
open Idealize.ShloMosaic hiding ix2 ix3 eq_ix2 eq_ix3
open Idealize.ShloMosaic.ValueIdx Idealize.SL.Sem
open Cert.KvProjIdeal.Val Cert.KvProjRefIdeal.Read

theorem frame_ref : Cert.quiescent_KvProjRefIdeal := fun m ρ _ =>
  (θ_run Cert.KvProjRefIdeal.defs _ _).mono
    (fun r h => ⟨fun c => (h c).2, sem_eq_zero_of_no_sems (by decide) r.2⟩) (Cert.KvProjRefIdeal.Value.run (F := Ideal) m ρ)

theorem algebraic : Cert.algebraic_KvProjIdeal_KvProjRefIdeal := fun m g m' g' _ hagree =>
  ⟨fun c => kv (argX m c) (argG m c) (argW m c), run m g,
    (θ_run Cert.KvProjRefIdeal.defs _ _).mono (fun r h c => by
      obtain ⟨h17, ha⟩ := h c
      obtain ⟨a0, a1, a2⟩ := hagree c
      refine ⟨h17.trans ?_, ha⟩
      rw [val_main_v17_eq, a0, a1, a2]; exact ref_eq _ _ _) (Cert.KvProjRefIdeal.Value.run (F := Ideal) m' g')⟩

end Cert.KvPClaim
-- ==== Proof.AdamClaim.lean ====
/-
  The optimiser's step on the small weights: the kernel's products with the reciprocals of the bias corrections are the reference's
  quotients, and the claims.
-/
module
public import proofs.«01_k».proof.Defs
public import proofs.«01_k».proof.Proof.Gen.AdamSmallIdeal.Value
public import proofs.«01_k».proof.Proof.Gen.AdamSmallRefIdeal.Read
public import proofs.«01_k».proof.Proof.KvRows
public import Idealize.ShloMosaic.Lib.StableHlo.ReadAt
public import Idealize.ShloMosaic.Lib.Quiescent
@[expose] public section
set_option maxRecDepth 16384
noncomputable section
namespace Cert.AdamClaim
open Idealize.ShloMosaic hiding ix1 ix2 ix3 eq_ix1 eq_ix2 eq_ix3
open Idealize.ShloMosaic.ValueIdx Idealize.ShloMosaic.TcCoe Cert.AdamSmallIdeal Cert.AdamSmallIdeal.Gen Cert.AdamSmallRefIdeal.Read
open Cert.KvRows (emb_id)
open Idealize.SL.Sem

abbrev T := S8x1024.Idx → EReal

theorem one : (Named.named κ "bc1" 0x3FC48605#32 : Ideal .f32) = ((8388608 / 5463681 : ℝ) : EReal) := by
  first | rfl | exact IdealRules.named_const.ideal_named rfl
theorem two : (Named.named κ "bc2" 0x42C8E6D3#32 : Ideal .f32) = ((268435456 / 2672307 : ℝ) : EReal) := by
  first | rfl | exact IdealRules.named_const.ideal_named rfl

theorem mul_one' (a : EReal) : a * (Named.named κ "bc1" 0x3FC48605#32 : Ideal .f32) = Ideal.div a (FloatOps.ofBits (F := Ideal) .f32 0x3F26BD02#32) := by
  have h : FloatOps.ofBits (F := Ideal) .f32 0x3F26BD02#32 = ((5463681 / 8388608 : ℝ) : EReal) := by
    rw [Ideal.ofBits_def]
    simp [Ideal.ofBits, Ideal.ieee, -EReal.coe_mul]; norm_num
  rw [one, h, Ideal.div_coe (by norm_num)]
  norm_num
theorem mul_two' (a : EReal) : a * (Named.named κ "bc2" 0x42C8E6D3#32 : Ideal .f32) = Ideal.div a (FloatOps.ofBits (F := Ideal) .f32 0x3C231ACC#32) := by
  have h : FloatOps.ofBits (F := Ideal) .f32 0x3C231ACC#32 = ((2672307 / 268435456 : ℝ) : EReal) := by
    rw [Ideal.ofBits_def]
    simp [Ideal.ofBits, Ideal.ieee, -EReal.coe_mul]; norm_num
  rw [two, h, Ideal.div_coe (by norm_num)]
  norm_num

/-! ## The stored values are the reference's -/

theorem pay1_eq (g n : T) : k0_pay1 (F := Ideal) g n = val_main_v4 (F := Ideal) g n := by
  funext y
  rw [val_main_v4_apply, val_main_v1_apply, val_main_v3_apply, val_main_v0_apply, val_main_v2_apply]
  rfl
theorem pay2_eq (g v : T) : k0_pay2 (F := Ideal) g v = val_main_v10 (F := Ideal) g v := by
  funext y
  rw [val_main_v10_apply, val_main_v6_apply, val_main_v9_apply, val_main_v5_apply, val_main_v8_apply, val_main_v7_apply]
  rfl
theorem pay3_eq (w g n v : T) : k0_pay3 (F := Ideal) g n v w = val_main_v23 (F := Ideal) w g n v := by
  funext y
  unfold k0_pay3
  rw [pay1_eq, pay2_eq, val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply]
  refine congrArg (_ * ·) (congrArg (· + _) (congrArg₂ Ideal.div (mul_one' _) (congrArg (· + _) (congrArg Ideal.sqrt (mul_two' _)))))

theorem z0 : (![0, 0] : Fin 2 → ℕ) = fun _ => 0 := by funext a; match a with | ⟨0, _⟩ => rfl | ⟨1, _⟩ => rfl
theorem ld0 (x : Vec Ideal S8x1024 .f32) : View.ld x r0_0 = x := View.ld_unit_zero (S := S8x1024) z0 _ x
theorem st0 (p : Vec Ideal S8x1024 .f32) : View.canon (Val := Elt Ideal) (s := S8x1024) (e := .f32) [⟨r0_0, p⟩] = p :=
  View.canon_unit_zero (Val := Elt Ideal) (S := S8x1024) (e := .f32) z0 _ p

/-! ## The arrays -/

variable (m : (ℓ : Loc nD τ sig) → Buf (Elt Ideal) ℓ) (c : Dev nD)

abbrev aW : T := m ((c : Thread nD τ).loc main_arg0)
abbrev aG : T := m ((c : Thread nD τ).loc main_arg1)
abbrev aM : T := m ((c : Thread nD τ).loc main_arg2)
abbrev aV : T := m ((c : Thread nD τ).loc main_arg3)

theorem blk0 : iblk (F := Ideal) m c 0 (0 : Fin 1) = aW m c := funext fun y =>
  congrArg (aW m c) (emb_id (n0 := 8) (n1 := 1024) (fun a => win0_0.index (0 : Fin 1) a * (![8, 1024] : Fin 2 → ℕ) a) _ rfl rfl y)
theorem blk1 : iblk (F := Ideal) m c 1 (0 : Fin 1) = aG m c := funext fun y =>
  congrArg (aG m c) (emb_id (n0 := 8) (n1 := 1024) (fun a => win0_1.index (0 : Fin 1) a * (![8, 1024] : Fin 2 → ℕ) a) _ rfl rfl y)
theorem blk2 : iblk (F := Ideal) m c 2 (0 : Fin 1) = aM m c := funext fun y =>
  congrArg (aM m c) (emb_id (n0 := 8) (n1 := 1024) (fun a => win0_2.index (0 : Fin 1) a * (![8, 1024] : Fin 2 → ℕ) a) _ rfl rfl y)
theorem blk3 : iblk (F := Ideal) m c 3 (0 : Fin 1) = aV m c := funext fun y =>
  congrArg (aV m c) (emb_id (n0 := 8) (n1 := 1024) (fun a => win0_3.index (0 : Fin 1) a * (![8, 1024] : Fin 2 → ℕ) a) _ rfl rfl y)
theorem final4 : (dats (F := Ideal) m 0 c).arrAt 4 cfg0.N = val_main_v23 (F := Ideal) (aW m c) (aG m c) (aM m c) (aV m c) := funext fun y => by
  refine (congrArg ((dats (F := Ideal) m 0 c).arrAt 4 cfg0.N) (emb_id (n0 := 8) (n1 := 1024) (fun a => win0_4.index (0 : Fin 1) a * (![8, 1024] : Fin 2 → ℕ) a) _ rfl rfl y)).symm.trans
    ((congrFun (Value.blocks4 m c (0 : Fin 1) (flush0_4 _)) y).trans ((congrFun (Value.flushed4 (F := Ideal) m c (0 : Fin 1)) y).trans ?_))
  show out0_4 (F := Ideal) (iblk m c 0 (0 : Fin 1)) (iblk m c 1 (0 : Fin 1)) (iblk m c 2 (0 : Fin 1)) (iblk m c 3 (0 : Fin 1)) y = _
  rw [blk0, blk1, blk2, blk3]; unfold out0_4
  rw [ld0, ld0, ld0, ld0, st0, pay3_eq]
theorem final5 : (dats (F := Ideal) m 0 c).arrAt 5 cfg0.N = val_main_v4 (F := Ideal) (aG m c) (aM m c) := funext fun y => by
  refine (congrArg ((dats (F := Ideal) m 0 c).arrAt 5 cfg0.N) (emb_id (n0 := 8) (n1 := 1024) (fun a => win0_5.index (0 : Fin 1) a * (![8, 1024] : Fin 2 → ℕ) a) _ rfl rfl y)).symm.trans
    ((congrFun (Value.blocks5 m c (0 : Fin 1) (flush0_5 _)) y).trans ((congrFun (Value.flushed5 (F := Ideal) m c (0 : Fin 1)) y).trans ?_))
  show out0_5 (F := Ideal) (iblk m c 0 (0 : Fin 1)) (iblk m c 1 (0 : Fin 1)) (iblk m c 2 (0 : Fin 1)) (iblk m c 3 (0 : Fin 1)) y = _
  rw [blk1, blk2]; unfold out0_5
  rw [ld0, ld0, st0, pay1_eq]
theorem final6 : (dats (F := Ideal) m 0 c).arrAt 6 cfg0.N = val_main_v10 (F := Ideal) (aG m c) (aV m c) := funext fun y => by
  refine (congrArg ((dats (F := Ideal) m 0 c).arrAt 6 cfg0.N) (emb_id (n0 := 8) (n1 := 1024) (fun a => win0_6.index (0 : Fin 1) a * (![8, 1024] : Fin 2 → ℕ) a) _ rfl rfl y)).symm.trans
    ((congrFun (Value.blocks6 m c (0 : Fin 1) (flush0_6 _)) y).trans ((congrFun (Value.flushed6 (F := Ideal) m c (0 : Fin 1)) y).trans ?_))
  show out0_6 (F := Ideal) (iblk m c 0 (0 : Fin 1)) (iblk m c 1 (0 : Fin 1)) (iblk m c 2 (0 : Fin 1)) (iblk m c 3 (0 : Fin 1)) y = _
  rw [blk1, blk3]; unfold out0_6
  rw [ld0, ld0, st0, pay2_eq]

theorem frame_ref : Cert.quiescent_AdamSmallRefIdeal := fun m ρ _ =>
  (θ_run Cert.AdamSmallRefIdeal.defs _ _).mono
    (fun r h => ⟨fun c => (h c).2.2.2, sem_eq_zero_of_no_sems (by decide) r.2⟩) (Cert.AdamSmallRefIdeal.Value.run (F := Ideal) m ρ)

theorem algebraic : Cert.algebraic_AdamSmallIdeal_AdamSmallRefIdeal := fun m g m' g' _ hagree =>
  ⟨fun c => val_main_v23 (F := Ideal) (aW m c) (aG m c) (aM m c) (aV m c), fun c => val_main_v4 (F := Ideal) (aG m c) (aM m c),
    fun c => val_main_v10 (F := Ideal) (aG m c) (aV m c),
    (θ_run defs _ _).mono (fun r h c => ⟨(h c).1.trans (final4 m c), (h c).2.1.trans (final5 m c), (h c).2.2.1.trans (final6 m c), (h c).2.2.2⟩)
      (Value.run_blocks (F := Ideal) m g),
    (θ_run Cert.AdamSmallRefIdeal.defs _ _).mono (fun r h c => by
      obtain ⟨h0, h1, h2, ha⟩ := h c
      obtain ⟨a0, a1, a2, a3⟩ := hagree c
      refine ⟨h0.trans ?_, h1.trans ?_, h2.trans ?_, ha⟩
      · rw [val_main_v23_eq, a0, a1, a2, a3]
      · rw [val_main_v4_eq, a1, a2]
      · rw [val_main_v10_eq, a1, a3]) (Cert.AdamSmallRefIdeal.Value.run (F := Ideal) m' g')⟩

end Cert.AdamClaim
-- ==== Proof.MemNormClaim.lean ====
/-
  The memory's norm: the kernel's rows are the reference's, and the claims.
-/
module
public import proofs.«01_k».proof.Defs
public import proofs.«01_k».proof.Proof.Gen.MemNormIdeal.Value
public import proofs.«01_k».proof.Proof.Gen.MemNormRefIdeal.Read
public import proofs.«01_k».proof.Proof.KvGRef
public import Idealize.ShloMosaic.Lib.StableHlo.ReadAt
public import Idealize.ShloMosaic.Lib.Quiescent
@[expose] public section
set_option maxRecDepth 16384
noncomputable section
namespace Cert.MemNormClaim
open Idealize.ShloMosaic hiding ix1 ix2 ix3 eq_ix1 eq_ix2 eq_ix3
open Idealize.ShloMosaic.ValueIdx Idealize.ShloMosaic.TcCoe Cert.MemNormIdeal Cert.MemNormIdeal.Gen Cert.MemNormRefIdeal.Read Cert.KvRows
open Idealize.SL.Sem

open Cert.InGradIdeal.Val (nrm)
open Cert.InGradRefIdeal.Val (at3)

/-- The normalized rows times their gains. -/
def hA (x : S512x1024.Idx → EReal) (g : S1x1024.Idx → EReal) : S512x1024.Idx → EReal := fun y => nrm (fun k => x (ix2 (y 0) k)) (y 1) * g (ix2 (0 : Fin 1) (y 1))

theorem pay_eq (x : S512x1024.Idx → EReal) (g : S1x1024.Idx → EReal) : k0_pay1 (F := Ideal) x g = hA x g := funext fun y => by
  obtain ⟨r, i, rfl⟩ : ∃ (r : Fin 512) (i : Fin 1024), y = ix2 r i := ⟨y 0, y 1, eq_ix2 y⟩
  rw [Value.lay2_0_eq]
  exact congrArg₂ (· * ·) (Cert.KvGradIdeal.Val.pay6_apply x r i) (Cert.KvGradIdeal.Val.rows_apply g r i)

theorem z0 : (![0, 0] : Fin 2 → ℕ) = fun _ => 0 := by funext a; match a with | ⟨0, _⟩ => rfl | ⟨1, _⟩ => rfl
theorem ld0 (x : Vec Ideal S512x1024 .f32) : View.ld x r0_0 = x := View.ld_unit_zero (S := S512x1024) z0 _ x
theorem ld1 (x : Vec Ideal S1x1024 .f32) : View.ld x r0_1 = x := View.ld_unit_zero (S := S1x1024) z0 _ x
theorem st0 (p : Vec Ideal S512x1024 .bf16) : View.canon (Val := Elt Ideal) (s := S512x1024) (e := .bf16) [⟨r0_0, p⟩] = p :=
  View.canon_unit_zero (Val := Elt Ideal) (S := S512x1024) (e := .bf16) z0 _ p

variable (m : (ℓ : Loc nD τ sig) → Buf (Elt Ideal) ℓ) (c : Dev nD)

abbrev xV : S512x1024.Idx → EReal := V (F := Ideal) m c main_v0
abbrev gV : S1x1024.Idx → EReal := V (F := Ideal) m c main_arg1
abbrev aX : S2x256x1024.Idx → EReal := m ((c : Thread nD τ).loc main_arg0)
abbrev aG : S1x1024.Idx → EReal := m ((c : Thread nD τ).loc main_arg1)

theorem blk0 : iblk (F := Ideal) m c 0 (0 : Fin 1) = xV m c := funext fun y =>
  congrArg (xV m c) (emb_id (n0 := 512) (n1 := 1024) (fun a => win0_0.index (0 : Fin 1) a * (![512, 1024] : Fin 2 → ℕ) a) _ rfl rfl y)
theorem blk1 : iblk (F := Ideal) m c 1 (0 : Fin 1) = gV m c := funext fun y =>
  congrArg (gV m c) (emb_id (n0 := 1) (n1 := 1024) (fun a => win0_1.index (0 : Fin 1) a * (![1, 1024] : Fin 2 → ℕ) a) _ rfl rfl y)
theorem final2 : (dats (F := Ideal) m 0 c).arrAt 2 cfg0.N = hA (xV m c) (gV m c) := funext fun y => by
  refine (congrArg ((dats (F := Ideal) m 0 c).arrAt 2 cfg0.N) (emb_id (n0 := 512) (n1 := 1024) (fun a => win0_2.index (0 : Fin 1) a * (![512, 1024] : Fin 2 → ℕ) a) _ rfl rfl y)).symm.trans
    ((congrFun (Value.blocks2 m c (0 : Fin 1) (flush0_2 _)) y).trans ((congrFun (Value.flushed2 (F := Ideal) m c (0 : Fin 1)) y).trans ?_))
  show out0_2 (F := Ideal) (iblk m c 0 (0 : Fin 1)) (iblk m c 1 (0 : Fin 1)) y = _
  rw [blk0, blk1]; unfold out0_2
  rw [ld0, ld1, st0, pay_eq]

theorem xV_eq : xV m c = shapeCast S512x1024 (aX m c) shapeCasts_S2x256x1024_S512x1024 := by
  unfold xV V
  after_reads_simp
  rfl

theorem ref_eq : hA (xV m c) (gV m c) = val_main_v15 (F := Ideal) (aX m c) (aG m c) := funext fun y => by
  obtain ⟨r, i, rfl⟩ : ∃ (r : Fin 512) (i : Fin 1024), y = ix2 r i := ⟨y 0, y 1, eq_ix2 y⟩
  rw [val_main_v15_apply, at3 (idx_main_v15 (ix2 r i)) (bat r) (pos r) i (show (r.val * 1024 + i.val) / 262144 = r.val / 256 by omega)
    (show (r.val * 1024 + i.val) / 1024 % 256 = r.val % 256 by omega) (show (r.val * 1024 + i.val) % 1024 = i.val by omega)]
  have hx : (fun k => xV m c (ix2 r k)) = fun k => aX m c (ix3 (bat r) (pos r) k) := funext fun k => by rw [xV_eq]; exact flat_apply _ _ r k
  refine congrArg₂ (· * ·) ((congrArg (fun f => nrm f i) hx).trans (Cert.KvGradRefIdeal.Val.nrm_at (aX m c) (bat r) (pos r) i).symm) ?_
  exact (congrFun (V_main_arg1 m c) _).trans (Cert.KvGradRefIdeal.Val.gain_at (aG m c) (bat r) (pos r) i).symm

theorem frame_ref : Cert.quiescent_MemNormRefIdeal := fun m ρ _ =>
  (θ_run Cert.MemNormRefIdeal.defs _ _).mono
    (fun r h => ⟨fun c => (h c).2, sem_eq_zero_of_no_sems (by decide) r.2⟩) (Cert.MemNormRefIdeal.Value.run (F := Ideal) m ρ)

theorem algebraic : Cert.algebraic_MemNormIdeal_MemNormRefIdeal := fun m g m' g' _ hagree =>
  ⟨fun c => val_main_v15 (F := Ideal) (aX m c) (aG m c),
    (θ_run defs _ _).mono (fun r h c => ⟨((h c).1.trans (final2 m c)).trans (ref_eq m c), (h c).2⟩) (Value.run_blocks (F := Ideal) m g),
    (θ_run Cert.MemNormRefIdeal.defs _ _).mono (fun r h c => by
      obtain ⟨h0, ha⟩ := h c
      obtain ⟨a0, a1⟩ := hagree c
      exact ⟨h0.trans (by rw [val_main_v15_eq, a0, a1]), ha⟩) (Cert.MemNormRefIdeal.Value.run (F := Ideal) m' g')⟩

end Cert.MemNormClaim
-- ==== Proof.lean ====
/-
  The claim: each call of the step that is taken runs, its idealization is a sanctioned one, and it computes what its reference computes.
-/
module

public import proofs.«01_k».proof.Defs
public import proofs.«01_k».proof.Proof.Gen.MemGrad
public import proofs.«01_k».proof.Proof.Gen.MemGrad.Skeleton
public import proofs.«01_k».proof.Proof.Gen.MemGrad.Loops
public import proofs.«01_k».proof.Proof.Gen.MemGrad.Launch
public import proofs.«01_k».proof.Proof.Gen.MemGrad.Points
public import proofs.«01_k».proof.Proof.Gen.MemGrad.Frame
public import proofs.«01_k».proof.Proof.Gen.MemGradIdeal
public import proofs.«01_k».proof.Proof.Gen.MemGradIdeal.Skeleton
public import proofs.«01_k».proof.Proof.Gen.MemGradIdeal.Loops
public import proofs.«01_k».proof.Proof.Gen.MemGradIdeal.Launch
public import proofs.«01_k».proof.Proof.Gen.MemGradIdeal.Points
public import proofs.«01_k».proof.Proof.Gen.MemGradIdeal.Frame
public import proofs.«01_k».proof.Proof.Gen.MemGradRefIdeal
public import proofs.«01_k».proof.Proof.Gen.MemGradRefIdeal.Run
public import proofs.«01_k».proof.Proof.Gen.MemGradRefIdeal.Read
public import proofs.«01_k».proof.Proof.Gen.Pre_mem_finite
public import proofs.«01_k».proof.Proof.MemClaim
public import proofs.«01_k».proof.Proof.Gen.InGrad
public import proofs.«01_k».proof.Proof.Gen.InGrad.Frame
public import proofs.«01_k».proof.Proof.Gen.InGradIdeal
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.InGradRefIdeal.Read
public import proofs.«01_k».proof.Proof.InClaim
public import proofs.«01_k».proof.Proof.Gen.InWGrad
public import proofs.«01_k».proof.Proof.Gen.InWGrad.Frame
public import proofs.«01_k».proof.Proof.Gen.InWGradIdeal
public import proofs.«01_k».proof.Proof.Gen.InWGradIdeal.Frame
public import proofs.«01_k».proof.Proof.Gen.InWGradIdeal.Value
public import proofs.«01_k».proof.Proof.Gen.InWGradRefIdeal
public import proofs.«01_k».proof.Proof.Gen.InWGradRefIdeal.Run
public import proofs.«01_k».proof.Proof.Gen.InWGradRefIdeal.Read
public import proofs.«01_k».proof.Proof.InWClaim
public import proofs.«01_k».proof.Proof.Gen.GateGrad
public import proofs.«01_k».proof.Proof.Gen.GateGrad.Frame
public import proofs.«01_k».proof.Proof.Gen.GateGradIdeal
public import proofs.«01_k».proof.Proof.Gen.GateGradIdeal.Frame
public import proofs.«01_k».proof.Proof.Gen.GateGradIdeal.Value
public import proofs.«01_k».proof.Proof.Gen.GateGradRefIdeal
public import proofs.«01_k».proof.Proof.Gen.GateGradRefIdeal.Run
public import proofs.«01_k».proof.Proof.Gen.GateGradRefIdeal.Read
public import proofs.«01_k».proof.Proof.Gen.Pre_gate_finite
public import proofs.«01_k».proof.Proof.GateClaim
public import proofs.«01_k».proof.Proof.Gen.OutWGrad
public import proofs.«01_k».proof.Proof.Gen.OutWGrad.Frame
public import proofs.«01_k».proof.Proof.Gen.OutWGradIdeal
public import proofs.«01_k».proof.Proof.Gen.OutWGradIdeal.Frame
public import proofs.«01_k».proof.Proof.Gen.OutWGradIdeal.Value
public import proofs.«01_k».proof.Proof.Gen.OutWGradRefIdeal
public import proofs.«01_k».proof.Proof.Gen.OutWGradRefIdeal.Run
public import proofs.«01_k».proof.Proof.Gen.OutWGradRefIdeal.Read
public import proofs.«01_k».proof.Proof.OutWClaim
public import proofs.«01_k».proof.Proof.Gen.OutLoss
public import proofs.«01_k».proof.Proof.Gen.OutLoss.Frame
public import proofs.«01_k».proof.Proof.Gen.OutLossIdeal
public import proofs.«01_k».proof.Proof.Gen.OutLossIdeal.Frame
public import proofs.«01_k».proof.Proof.Gen.OutLossIdeal.Value
public import proofs.«01_k».proof.Proof.Gen.OutLossRefIdeal
public import proofs.«01_k».proof.Proof.Gen.OutLossRefIdeal.Run
public import proofs.«01_k».proof.Proof.Gen.OutLossRefIdeal.Read
public import proofs.«01_k».proof.Proof.OutLossClaim
public import proofs.«01_k».proof.Proof.Gen.InProj
public import proofs.«01_k».proof.Proof.Gen.InProjIdeal
public import proofs.«01_k».proof.Proof.Gen.InProjRefIdeal
public import proofs.«01_k».proof.Proof.Gen.InProjRefIdeal.Run
public import proofs.«01_k».proof.Proof.Gen.InProjRefIdeal.Read
public import proofs.«01_k».proof.Proof.InProjClaim
public import proofs.«01_k».proof.Proof.KvWClaim
public import proofs.«01_k».proof.Proof.KvGClaim
public import proofs.«01_k».proof.Proof.KvPClaim
public import proofs.«01_k».proof.Proof.AdamClaim
public import proofs.«01_k».proof.Proof.MemNormClaim
public import proofs.«01_k».proof.Proof.Gen.KvWGrad
public import proofs.«01_k».proof.Proof.Gen.KvWGrad.Frame
public import proofs.«01_k».proof.Proof.Gen.KvWGradIdeal
public import proofs.«01_k».proof.Proof.Gen.KvWGradIdeal.Frame
public import proofs.«01_k».proof.Proof.Gen.KvWGradIdeal.Value
public import proofs.«01_k».proof.Proof.Gen.KvWGradRefIdeal
public import proofs.«01_k».proof.Proof.Gen.KvWGradRefIdeal.Run
public import proofs.«01_k».proof.Proof.Gen.KvWGradRefIdeal.Read
public import proofs.«01_k».proof.Proof.Gen.KvGrad
public import proofs.«01_k».proof.Proof.Gen.KvGrad.Frame
public import proofs.«01_k».proof.Proof.Gen.KvGradIdeal
public import proofs.«01_k».proof.Proof.Gen.KvGradIdeal.Frame
public import proofs.«01_k».proof.Proof.Gen.KvGradIdeal.Value
public import proofs.«01_k».proof.Proof.Gen.KvGradRefIdeal
public import proofs.«01_k».proof.Proof.Gen.KvGradRefIdeal.Run
public import proofs.«01_k».proof.Proof.Gen.KvGradRefIdeal.Read
public import proofs.«01_k».proof.Proof.Gen.KvProj
public import proofs.«01_k».proof.Proof.Gen.KvProj.Frame
public import proofs.«01_k».proof.Proof.Gen.KvProjIdeal
public import proofs.«01_k».proof.Proof.Gen.KvProjIdeal.Frame
public import proofs.«01_k».proof.Proof.Gen.KvProjIdeal.Value
public import proofs.«01_k».proof.Proof.Gen.KvProjRefIdeal
public import proofs.«01_k».proof.Proof.Gen.KvProjRefIdeal.Run
public import proofs.«01_k».proof.Proof.Gen.KvProjRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.MemNorm
public import proofs.«01_k».proof.Proof.Gen.MemNorm.Frame
public import proofs.«01_k».proof.Proof.Gen.MemNormIdeal
public import proofs.«01_k».proof.Proof.Gen.MemNormIdeal.Frame
public import proofs.«01_k».proof.Proof.Gen.MemNormIdeal.Value
public import proofs.«01_k».proof.Proof.Gen.MemNormRefIdeal
public import proofs.«01_k».proof.Proof.Gen.MemNormRefIdeal.Run
public import proofs.«01_k».proof.Proof.Gen.MemNormRefIdeal.Read
public import Idealize.ShloMosaic.Adequacy
public import Idealize.ShloMosaic.Init

@[expose] public section

noncomputable section

namespace Cert.Proof

open Idealize.ShloMosaic Idealize.SL.Sem Cert.MemGrad

theorem claim : Cert.Claim := ⟨Cert.MemGrad.Gen.facts, Cert.MemGradIdeal.Gen.facts, Cert.MemGradRefIdeal.Gen.facts,
  Cert.InGrad.Gen.facts, Cert.InGradIdeal.Gen.facts, Cert.InGradRefIdeal.Gen.facts,
  Cert.InWGrad.Gen.facts, Cert.InWGradIdeal.Gen.facts, Cert.InWGradRefIdeal.Gen.facts,
  Cert.GateGrad.Gen.facts, Cert.GateGradIdeal.Gen.facts, Cert.GateGradRefIdeal.Gen.facts,
  Cert.OutWGrad.Gen.facts, Cert.OutWGradIdeal.Gen.facts, Cert.OutWGradRefIdeal.Gen.facts,
  Cert.OutLoss.Gen.facts, Cert.OutLossIdeal.Gen.facts, Cert.OutLossRefIdeal.Gen.facts,
  Cert.InProj.Gen.facts, Cert.InProjIdeal.Gen.facts, Cert.InProjRefIdeal.Gen.facts,
  Cert.KvWGrad.Gen.facts, Cert.KvWGradIdeal.Gen.facts, Cert.KvWGradRefIdeal.Gen.facts,
  Cert.KvGrad.Gen.facts, Cert.KvGradIdeal.Gen.facts, Cert.KvGradRefIdeal.Gen.facts,
  Cert.KvProj.Gen.facts, Cert.KvProjIdeal.Gen.facts, Cert.KvProjRefIdeal.Gen.facts,
  Cert.AdamSmall.Gen.facts, Cert.AdamSmallIdeal.Gen.facts, Cert.AdamSmallRefIdeal.Gen.facts,
  Cert.MemNorm.Gen.facts, Cert.MemNormIdeal.Gen.facts, Cert.MemNormRefIdeal.Gen.facts,
  Cert.Pre_mem_finite.Gen.facts,
  Cert.Pre_gate_finite.Gen.facts,
  fun m ρ _ => Cert.MemGrad.Gen.frame m ρ,
  fun m ρ _ => Cert.MemGradIdeal.Gen.frame m ρ,
  fun m ρ _ => Cert.MemGradIdeal.Gen.frame m ρ,
  Cert.MemClaim.frame_ref,
  fun m ρ _ => Cert.MemClaim.frame_ref m ρ trivial,
  fun m ρ _ => Cert.InGrad.Gen.frame m ρ,
  fun m ρ _ => Cert.InGradIdeal.Gen.frame m ρ,
  Cert.InClaim.frame_ref,
  fun m ρ _ => Cert.InWGrad.Gen.frame m ρ,
  fun m ρ _ => Cert.InWGradIdeal.Gen.frame m ρ,
  Cert.InWClaim.frame_ref,
  fun m ρ _ => Cert.GateGrad.Gen.frame m ρ,
  fun m ρ _ => Cert.GateGradIdeal.Gen.frame m ρ,
  fun m ρ _ => Cert.GateGradIdeal.Gen.frame m ρ,
  Cert.GateClaim.frame_ref,
  fun m ρ _ => Cert.GateClaim.frame_ref m ρ trivial,
  fun m ρ _ => Cert.OutWGrad.Gen.frame m ρ,
  fun m ρ _ => Cert.OutWGradIdeal.Gen.frame m ρ,
  Cert.OutWClaim.frame_ref,
  fun m ρ _ => Cert.OutLoss.Gen.frame m ρ,
  fun m ρ _ => Cert.OutLossIdeal.Gen.frame m ρ,
  Cert.OutLossClaim.frame_ref,
  Cert.InProjClaim.frame_kernel,
  Cert.InProjClaim.frame_ideal,
  Cert.InProjClaim.frame_ref,
  fun m ρ _ => Cert.KvWGrad.Gen.frame m ρ,
  fun m ρ _ => Cert.KvWGradIdeal.Gen.frame m ρ,
  Cert.KvWClaim.frame_ref,
  fun m ρ _ => Cert.KvGrad.Gen.frame m ρ,
  fun m ρ _ => Cert.KvGradIdeal.Gen.frame m ρ,
  Cert.KvGClaim.frame_ref,
  fun m ρ _ => Cert.KvProj.Gen.frame m ρ,
  fun m ρ _ => Cert.KvProjIdeal.Gen.frame m ρ,
  Cert.KvPClaim.frame_ref,
  fun m ρ _ => Cert.AdamSmall.Gen.frame m ρ,
  fun m ρ _ => Cert.AdamSmallIdeal.Gen.frame m ρ,
  Cert.AdamClaim.frame_ref,
  fun m ρ _ => Cert.MemNorm.Gen.frame m ρ,
  fun m ρ _ => Cert.MemNormIdeal.Gen.frame m ρ,
  Cert.MemNormClaim.frame_ref,
  IdealRules.named_const.statement Cert.MemGradIdeal.κ "mem_scale" .bf16 0x3DB5#16 _ rfl,
  Cert.MemClaim.algebraic,
  trivial,
  Cert.InClaim.algebraic,
  trivial,
  Cert.InWClaim.algebraic,
  trivial,
  Cert.GateClaim.algebraic,
  trivial,
  Cert.OutWClaim.algebraic,
  trivial,
  Cert.OutLossClaim.algebraic,
  trivial,
  Cert.InProjClaim.algebraic,
  trivial,
  Cert.KvWClaim.algebraic,
  trivial,
  Cert.KvGClaim.algebraic,
  trivial,
  Cert.KvPClaim.algebraic,
  ⟨IdealRules.named_const.statement Cert.AdamSmallIdeal.κ "bc1" .f32 0x3FC48605#32 _ rfl,
    IdealRules.named_const.statement Cert.AdamSmallIdeal.κ "bc2" .f32 0x42C8E6D3#32 _ rfl⟩,
  Cert.AdamClaim.algebraic,
  trivial,
  Cert.MemNormClaim.algebraic⟩

end Cert.Proof

end
